-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_SsdDh (m : (ℓ : Loc Cert.SsdDh.nD Cert.SsdDh.τ Cert.SsdDh.sig) → Buf (Elt Bits) ℓ) : Prop :=
  True

def Pre_SsdDhIdeal (m : (ℓ : Loc Cert.SsdDhIdeal.nD Cert.SsdDhIdeal.τ Cert.SsdDhIdeal.sig) → Buf (Elt Ideal) ℓ) : Prop :=
  True

def Pre_SsdDhReferenceIdeal (m : (ℓ : Loc Cert.SsdDhReferenceIdeal.nD Cert.SsdDhReferenceIdeal.τ Cert.SsdDhReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3)
      ∧ r.2.mem ((c.tc : Thread Cert.FfnDhReferenceIdeal.nD Cert.FfnDhReferenceIdeal.τ).loc Cert.FfnDhReferenceIdeal.main_arg4) = m ((c.tc : Thread Cert.FfnDhReferenceIdeal.nD Cert.FfnDhReferenceIdeal.τ).loc Cert.FfnDhReferenceIdeal.main_arg4))
      ∧ r.2.sem = fun _ => 0)

def quiescent_SsdDh [hSsdDh : Cert.SsdDh.Facts] : Prop :=
  ∀ (m : (ℓ : Loc Cert.SsdDh.nD Cert.SsdDh.τ Cert.SsdDh.sig) → Buf (Elt Bits) ℓ) (g : Dev Cert.SsdDh.nD → PrngReg), Pre_SsdDh m →
    θ_run (Cert.SsdDh.defs (F := Bits)) (onTc (τ := Cert.SsdDh.τ) (Cert.SsdDh.main (F := Bits))) ⟨m, fun _ => 0, g⟩ (fun r => (∀ c : Dev Cert.SsdDh.nD,
      r.2.mem ((c.tc : Thread Cert.SsdDh.nD Cert.SsdDh.τ).loc Cert.SsdDh.main_arg0) = m ((c.tc : Thread Cert.SsdDh.nD Cert.SsdDh.τ).loc Cert.SsdDh.main_arg0)
      ∧ r.2.mem ((c.tc : Thread Cert.SsdDh.nD Cert.SsdDh.τ).loc Cert.SsdDh.main_arg1) = m ((c.tc : Thread Cert.SsdDh.nD Cert.SsdDh.τ).loc Cert.SsdDh.main_arg1)
      ∧ r.2.mem ((c.tc : Thread Cert.SsdDh.nD Cert.SsdDh.τ).loc Cert.SsdDh.main_arg2) = m ((c.tc : Thread Cert.SsdDh.nD Cert.SsdDh.τ).loc Cert.SsdDh.main_arg2)
      ∧ r.2.mem ((c.tc : Thread Cert.SsdDh.nD Cert.SsdDh.τ).loc Cert.SsdDh.main_arg3) = m ((c.tc : Thread Cert.SsdDh.nD Cert.SsdDh.τ).loc Cert.SsdDh.main_arg3)
      ∧ r.2.mem ((c.tc : Thread Cert.SsdDh.nD Cert.SsdDh.τ).loc Cert.SsdDh.main_arg4) = m ((c.tc : Thread Cert.SsdDh.nD Cert.SsdDh.τ).loc Cert.SsdDh.main_arg4))
      ∧ r.2.sem = fun _ => 0)

def quiescent_SsdDhIdeal [hSsdDhIdeal : Cert.SsdDhIdeal.Facts] : Prop :=
  ∀ (m : (ℓ : Loc Cert.SsdDhIdeal.nD Cert.SsdDhIdeal.τ Cert.SsdDhIdeal.sig) → Buf (Elt Ideal) ℓ) (g : Dev Cert.SsdDhIdeal.nD → PrngReg), Pre_SsdDhIdeal m →
    θ_run (Cert.SsdDhIdeal.defs (F := Ideal)) (onTc (τ := Cert.SsdDhIdeal.τ) (Cert.SsdDhIdeal.main (F := Ideal))) ⟨m, fun _ => 0, g⟩ (fun r => (∀ c : Dev Cert.SsdDhIdeal.nD,
      r.2.mem ((c.tc : Thread Cert.SsdDhIdeal.nD Cert.SsdDhIdeal.τ).loc Cert.SsdDhIdeal.main_arg0) = m ((c.tc : Thread Cert.SsdDhIdeal.nD Cert.SsdDhIdeal.τ).loc Cert.SsdDhIdeal.main_arg0)
      ∧ r.2.mem ((c.tc : Thread Cert.SsdDhIdeal.nD Cert.SsdDhIdeal.τ).loc Cert.SsdDhIdeal.main_arg1) = m ((c.tc : Thread Cert.SsdDhIdeal.nD Cert.SsdDhIdeal.τ).loc Cert.SsdDhIdeal.main_arg1)
      ∧ r.2.mem ((c.tc : Thread Cert.SsdDhIdeal.nD Cert.SsdDhIdeal.τ).loc Cert.SsdDhIdeal.main_arg2) = m ((c.tc : Thread Cert.SsdDhIdeal.nD Cert.SsdDhIdeal.τ).loc Cert.SsdDhIdeal.main_arg2)
      ∧ r.2.mem ((c.tc : Thread Cert.SsdDhIdeal.nD Cert.SsdDhIdeal.τ).loc Cert.SsdDhIdeal.main_arg3) = m ((c.tc : Thread Cert.SsdDhIdeal.nD Cert.SsdDhIdeal.τ).loc Cert.SsdDhIdeal.main_arg3)
      ∧ r.2.mem ((c.tc : Thread Cert.SsdDhIdeal.nD Cert.SsdDhIdeal.τ).loc Cert.SsdDhIdeal.main_arg4) = m ((c.tc : Thread Cert.SsdDhIdeal.nD Cert.SsdDhIdeal.τ).loc Cert.SsdDhIdeal.main_arg4))
      ∧ r.2.sem = fun _ => 0)

def quiescent_SsdDhReferenceIdeal [hSsdDhReferenceIdeal : Cert.SsdDhReferenceIdeal.Facts] : Prop :=
  ∀ (m : (ℓ : Loc Cert.SsdDhReferenceIdeal.nD Cert.SsdDhReferenceIdeal.τ Cert.SsdDhReferenceIdeal.sig) → Buf (Elt Ideal) ℓ) (g : Dev Cert.SsdDhReferenceIdeal.nD → PrngReg), Pre_SsdDhReferenceIdeal m →
    θ_run (Cert.SsdDhReferenceIdeal.defs (F := Ideal)) (onTc (τ := Cert.SsdDhReferenceIdeal.τ) (Cert.SsdDhReferenceIdeal.main (F := Ideal))) ⟨m, fun _ => 0, g⟩ (fun r => (∀ c : Dev Cert.SsdDhReferenceIdeal.nD,
      r.2.mem ((c.tc : Thread Cert.SsdDhReferenceIdeal.nD Cert.SsdDhReferenceIdeal.τ).loc Cert.SsdDhReferenceIdeal.main_arg0) = m ((c.tc : Thread Cert.SsdDhReferenceIdeal.nD Cert.SsdDhReferenceIdeal.τ).loc Cert.SsdDhReferenceIdeal.main_arg0)
      ∧ r.2.mem ((c.tc : Thread Cert.SsdDhReferenceIdeal.nD Cert.SsdDhReferenceIdeal.τ).loc Cert.SsdDhReferenceIdeal.main_arg1) = m ((c.tc : Thread Cert.SsdDhReferenceIdeal.nD Cert.SsdDhReferenceIdeal.τ).loc Cert.SsdDhReferenceIdeal.main_arg1)
      ∧ r.2.mem ((c.tc : Thread Cert.SsdDhReferenceIdeal.nD Cert.SsdDhReferenceIdeal.τ).loc Cert.SsdDhReferenceIdeal.main_arg2) = m ((c.tc : Thread Cert.SsdDhReferenceIdeal.nD Cert.SsdDhReferenceIdeal.τ).loc Cert.SsdDhReferenceIdeal.main_arg2)
      ∧ r.2.mem ((c.tc : Thread Cert.SsdDhReferenceIdeal.nD Cert.SsdDhReferenceIdeal.τ).loc Cert.SsdDhReferenceIdeal.main_arg3) = m ((c.tc : Thread Cert.SsdDhReferenceIdeal.nD Cert.SsdDhReferenceIdeal.τ).loc Cert.SsdDhReferenceIdeal.main_arg3)
      ∧ r.2.mem ((c.tc : Thread Cert.SsdDhReferenceIdeal.nD Cert.SsdDhReferenceIdeal.τ).loc Cert.SsdDhReferenceIdeal.main_arg4) = m ((c.tc : Thread Cert.SsdDhReferenceIdeal.nD Cert.SsdDhReferenceIdeal.τ).loc Cert.SsdDhReferenceIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1)
      ∧ r.2.mem ((c.tc : Thread Cert.SsdInReferenceIdeal.nD Cert.SsdInReferenceIdeal.τ).loc Cert.SsdInReferenceIdeal.main_arg2) = m ((c.tc : Thread Cert.SsdInReferenceIdeal.nD Cert.SsdInReferenceIdeal.τ).loc Cert.SsdInReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v139_0)) (v1 : (c : Dev Cert.KernelIdeal.nD) → Buf (Elt Ideal) ((c.tc : Thread Cert.KernelIdeal.nD Cert.KernelIdeal.τ).loc Cert.KernelIdeal.main_v139_1)) (v2 : (c : Dev Cert.KernelIdeal.nD) → Buf (Elt Ideal) ((c.tc : Thread Cert.KernelIdeal.nD Cert.KernelIdeal.τ).loc Cert.KernelIdeal.main_v139_2)) (v3 : (c : Dev Cert.KernelIdeal.nD) → Buf (Elt Ideal) ((c.tc : Thread Cert.KernelIdeal.nD Cert.KernelIdeal.τ).loc Cert.KernelIdeal.main_v139_3)) (v4 : (c : Dev Cert.KernelIdeal.nD) → Buf (Elt Ideal) ((c.tc : Thread Cert.KernelIdeal.nD Cert.KernelIdeal.τ).loc Cert.KernelIdeal.main_v139_4)) (v5 : (c : Dev Cert.KernelIdeal.nD) → Buf (Elt Ideal) ((c.tc : Thread Cert.KernelIdeal.nD Cert.KernelIdeal.τ).loc Cert.KernelIdeal.main_v139_5)) (v6 : (c : Dev Cert.KernelIdeal.nD) → Buf (Elt Ideal) ((c.tc : Thread Cert.KernelIdeal.nD Cert.KernelIdeal.τ).loc Cert.KernelIdeal.main_v139_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139_0) = v0 c
          ∧ r.2.mem ((c.tc : Thread Cert.KernelIdeal.nD Cert.KernelIdeal.τ).loc Cert.KernelIdeal.main_v139_1) = v1 c
          ∧ r.2.mem ((c.tc : Thread Cert.KernelIdeal.nD Cert.KernelIdeal.τ).loc Cert.KernelIdeal.main_v139_2) = v2 c
          ∧ r.2.mem ((c.tc : Thread Cert.KernelIdeal.nD Cert.KernelIdeal.τ).loc Cert.KernelIdeal.main_v139_3) = v3 c
          ∧ r.2.mem ((c.tc : Thread Cert.KernelIdeal.nD Cert.KernelIdeal.τ).loc Cert.KernelIdeal.main_v139_4) = v4 c
          ∧ r.2.mem ((c.tc : Thread Cert.KernelIdeal.nD Cert.KernelIdeal.τ).loc Cert.KernelIdeal.main_v139_5) = v5 c
          ∧ r.2.mem ((c.tc : Thread Cert.KernelIdeal.nD Cert.KernelIdeal.τ).loc Cert.KernelIdeal.main_v139_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_v184) = v5 c
          ∧ r.2.mem ((c.tc : Thread Cert.ReferenceIdeal.nD Cert.ReferenceIdeal.τ).loc Cert.ReferenceIdeal.main_v188) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v6)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v6) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v3) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v3) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v6)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v6) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v3) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v5) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v6)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)
      ∧ m' ((c.tc : Thread Cert.FfnDhReferenceIdeal.nD Cert.FfnDhReferenceIdeal.τ).loc Cert.FfnDhReferenceIdeal.main_arg4) = m ((c.tc : Thread Cert.FfnDhIdeal.nD Cert.FfnDhIdeal.τ).loc Cert.FfnDhIdeal.main_arg4)) →
    ∃ (v0 : (c : Dev Cert.FfnDhIdeal.nD) → Buf (Elt Ideal) ((c.tc : Thread Cert.FfnDhIdeal.nD Cert.FfnDhIdeal.τ).loc Cert.FfnDhIdeal.main_v9_0)) (v1 : (c : Dev Cert.FfnDhIdeal.nD) → Buf (Elt Ideal) ((c.tc : Thread Cert.FfnDhIdeal.nD Cert.FfnDhIdeal.τ).loc Cert.FfnDhIdeal.main_v9_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v9_0) = v0 c
          ∧ r.2.mem ((c.tc : Thread Cert.FfnDhIdeal.nD Cert.FfnDhIdeal.τ).loc Cert.FfnDhIdeal.main_v9_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v40) = v0 c
          ∧ r.2.mem ((c.tc : Thread Cert.FfnDhReferenceIdeal.nD Cert.FfnDhReferenceIdeal.τ).loc Cert.FfnDhReferenceIdeal.main_v41) = v1 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3)
          ∧ r.2.mem ((c.tc : Thread Cert.FfnDhReferenceIdeal.nD Cert.FfnDhReferenceIdeal.τ).loc Cert.FfnDhReferenceIdeal.main_arg4) = m' ((c.tc : Thread Cert.FfnDhReferenceIdeal.nD Cert.FfnDhReferenceIdeal.τ).loc Cert.FfnDhReferenceIdeal.main_arg4))

def preserves_SsdDh_SsdDhIdeal : Prop :=
  True

def algebraic_SsdDhIdeal_SsdDhReferenceIdeal [hSsdDhIdeal : Cert.SsdDhIdeal.Facts] [hSsdDhReferenceIdeal : Cert.SsdDhReferenceIdeal.Facts] : Prop :=
  ∀ (m : (ℓ : Loc Cert.SsdDhIdeal.nD Cert.SsdDhIdeal.τ Cert.SsdDhIdeal.sig) → Buf (Elt Ideal) ℓ) (g : Dev Cert.SsdDhIdeal.nD → PrngReg)
    (m' : (ℓ : Loc Cert.SsdDhReferenceIdeal.nD Cert.SsdDhReferenceIdeal.τ Cert.SsdDhReferenceIdeal.sig) → Buf (Elt Ideal) ℓ) (g' : Dev Cert.SsdDhReferenceIdeal.nD → PrngReg), Pre_SsdDhIdeal m →
    (∀ c : Dev Cert.SsdDhIdeal.nD,
      m' ((c.tc : Thread Cert.SsdDhReferenceIdeal.nD Cert.SsdDhReferenceIdeal.τ).loc Cert.SsdDhReferenceIdeal.main_arg0) = m ((c.tc : Thread Cert.SsdDhIdeal.nD Cert.SsdDhIdeal.τ).loc Cert.SsdDhIdeal.main_arg0)
      ∧ m' ((c.tc : Thread Cert.SsdDhReferenceIdeal.nD Cert.SsdDhReferenceIdeal.τ).loc Cert.SsdDhReferenceIdeal.main_arg1) = m ((c.tc : Thread Cert.SsdDhIdeal.nD Cert.SsdDhIdeal.τ).loc Cert.SsdDhIdeal.main_arg1)
      ∧ m' ((c.tc : Thread Cert.SsdDhReferenceIdeal.nD Cert.SsdDhReferenceIdeal.τ).loc Cert.SsdDhReferenceIdeal.main_arg2) = m ((c.tc : Thread Cert.SsdDhIdeal.nD Cert.SsdDhIdeal.τ).loc Cert.SsdDhIdeal.main_arg2)
      ∧ m' ((c.tc : Thread Cert.SsdDhReferenceIdeal.nD Cert.SsdDhReferenceIdeal.τ).loc Cert.SsdDhReferenceIdeal.main_arg3) = m ((c.tc : Thread Cert.SsdDhIdeal.nD Cert.SsdDhIdeal.τ).loc Cert.SsdDhIdeal.main_arg3)
      ∧ m' ((c.tc : Thread Cert.SsdDhReferenceIdeal.nD Cert.SsdDhReferenceIdeal.τ).loc Cert.SsdDhReferenceIdeal.main_arg4) = m ((c.tc : Thread Cert.SsdDhIdeal.nD Cert.SsdDhIdeal.τ).loc Cert.SsdDhIdeal.main_arg4)) →
    ∃ (v0 : (c : Dev Cert.SsdDhIdeal.nD) → Buf (Elt Ideal) ((c.tc : Thread Cert.SsdDhIdeal.nD Cert.SsdDhIdeal.τ).loc Cert.SsdDhIdeal.main_v9_0)) (v1 : (c : Dev Cert.SsdDhIdeal.nD) → Buf (Elt Ideal) ((c.tc : Thread Cert.SsdDhIdeal.nD Cert.SsdDhIdeal.τ).loc Cert.SsdDhIdeal.main_v9_1)),
      θ_run (Cert.SsdDhIdeal.defs (F := Ideal)) (onTc (τ := Cert.SsdDhIdeal.τ) (Cert.SsdDhIdeal.main (F := Ideal))) ⟨m, fun _ => 0, g⟩ (fun r => ∀ c : Dev Cert.SsdDhIdeal.nD,
          r.2.mem ((c.tc : Thread Cert.SsdDhIdeal.nD Cert.SsdDhIdeal.τ).loc Cert.SsdDhIdeal.main_v9_0) = v0 c
          ∧ r.2.mem ((c.tc : Thread Cert.SsdDhIdeal.nD Cert.SsdDhIdeal.τ).loc Cert.SsdDhIdeal.main_v9_1) = v1 c
          ∧ r.2.mem ((c.tc : Thread Cert.SsdDhIdeal.nD Cert.SsdDhIdeal.τ).loc Cert.SsdDhIdeal.main_arg0) = m ((c.tc : Thread Cert.SsdDhIdeal.nD Cert.SsdDhIdeal.τ).loc Cert.SsdDhIdeal.main_arg0)
          ∧ r.2.mem ((c.tc : Thread Cert.SsdDhIdeal.nD Cert.SsdDhIdeal.τ).loc Cert.SsdDhIdeal.main_arg1) = m ((c.tc : Thread Cert.SsdDhIdeal.nD Cert.SsdDhIdeal.τ).loc Cert.SsdDhIdeal.main_arg1)
          ∧ r.2.mem ((c.tc : Thread Cert.SsdDhIdeal.nD Cert.SsdDhIdeal.τ).loc Cert.SsdDhIdeal.main_arg2) = m ((c.tc : Thread Cert.SsdDhIdeal.nD Cert.SsdDhIdeal.τ).loc Cert.SsdDhIdeal.main_arg2)
          ∧ r.2.mem ((c.tc : Thread Cert.SsdDhIdeal.nD Cert.SsdDhIdeal.τ).loc Cert.SsdDhIdeal.main_arg3) = m ((c.tc : Thread Cert.SsdDhIdeal.nD Cert.SsdDhIdeal.τ).loc Cert.SsdDhIdeal.main_arg3)
          ∧ r.2.mem ((c.tc : Thread Cert.SsdDhIdeal.nD Cert.SsdDhIdeal.τ).loc Cert.SsdDhIdeal.main_arg4) = m ((c.tc : Thread Cert.SsdDhIdeal.nD Cert.SsdDhIdeal.τ).loc Cert.SsdDhIdeal.main_arg4))
      ∧ θ_run (Cert.SsdDhReferenceIdeal.defs (F := Ideal)) (onTc (τ := Cert.SsdDhReferenceIdeal.τ) (Cert.SsdDhReferenceIdeal.main (F := Ideal))) ⟨m', fun _ => 0, g'⟩ (fun r => ∀ c : Dev Cert.SsdDhReferenceIdeal.nD,
          r.2.mem ((c.tc : Thread Cert.SsdDhReferenceIdeal.nD Cert.SsdDhReferenceIdeal.τ).loc Cert.SsdDhReferenceIdeal.main_v40) = v0 c
          ∧ r.2.mem ((c.tc : Thread Cert.SsdDhReferenceIdeal.nD Cert.SsdDhReferenceIdeal.τ).loc Cert.SsdDhReferenceIdeal.main_v41) = v1 c
          ∧ r.2.mem ((c.tc : Thread Cert.SsdDhReferenceIdeal.nD Cert.SsdDhReferenceIdeal.τ).loc Cert.SsdDhReferenceIdeal.main_arg0) = m' ((c.tc : Thread Cert.SsdDhReferenceIdeal.nD Cert.SsdDhReferenceIdeal.τ).loc Cert.SsdDhReferenceIdeal.main_arg0)
          ∧ r.2.mem ((c.tc : Thread Cert.SsdDhReferenceIdeal.nD Cert.SsdDhReferenceIdeal.τ).loc Cert.SsdDhReferenceIdeal.main_arg1) = m' ((c.tc : Thread Cert.SsdDhReferenceIdeal.nD Cert.SsdDhReferenceIdeal.τ).loc Cert.SsdDhReferenceIdeal.main_arg1)
          ∧ r.2.mem ((c.tc : Thread Cert.SsdDhReferenceIdeal.nD Cert.SsdDhReferenceIdeal.τ).loc Cert.SsdDhReferenceIdeal.main_arg2) = m' ((c.tc : Thread Cert.SsdDhReferenceIdeal.nD Cert.SsdDhReferenceIdeal.τ).loc Cert.SsdDhReferenceIdeal.main_arg2)
          ∧ r.2.mem ((c.tc : Thread Cert.SsdDhReferenceIdeal.nD Cert.SsdDhReferenceIdeal.τ).loc Cert.SsdDhReferenceIdeal.main_arg3) = m' ((c.tc : Thread Cert.SsdDhReferenceIdeal.nD Cert.SsdDhReferenceIdeal.τ).loc Cert.SsdDhReferenceIdeal.main_arg3)
          ∧ r.2.mem ((c.tc : Thread Cert.SsdDhReferenceIdeal.nD Cert.SsdDhReferenceIdeal.τ).loc Cert.SsdDhReferenceIdeal.main_arg4) = m' ((c.tc : Thread Cert.SsdDhReferenceIdeal.nD Cert.SsdDhReferenceIdeal.τ).loc Cert.SsdDhReferenceIdeal.main_arg4))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v16) = v0 c
          ∧ r.2.mem ((c.tc : Thread Cert.FfnUpReferenceIdeal.nD Cert.FfnUpReferenceIdeal.τ).loc Cert.FfnUpReferenceIdeal.main_v19) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)
      ∧ m' ((c.tc : Thread Cert.SsdInReferenceIdeal.nD Cert.SsdInReferenceIdeal.τ).loc Cert.SsdInReferenceIdeal.main_arg2) = m ((c.tc : Thread Cert.SsdInIdeal.nD Cert.SsdInIdeal.τ).loc Cert.SsdInIdeal.main_arg2)) →
    ∃ (v0 : (c : Dev Cert.SsdInIdeal.nD) → Buf (Elt Ideal) ((c.tc : Thread Cert.SsdInIdeal.nD Cert.SsdInIdeal.τ).loc Cert.SsdInIdeal.main_v4_0)) (v1 : (c : Dev Cert.SsdInIdeal.nD) → Buf (Elt Ideal) ((c.tc : Thread Cert.SsdInIdeal.nD Cert.SsdInIdeal.τ).loc Cert.SsdInIdeal.main_v4_1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v4_0) = v0 c
          ∧ r.2.mem ((c.tc : Thread Cert.SsdInIdeal.nD Cert.SsdInIdeal.τ).loc Cert.SsdInIdeal.main_v4_1) = v1 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v15) = v0 c
          ∧ r.2.mem ((c.tc : Thread Cert.SsdInReferenceIdeal.nD Cert.SsdInReferenceIdeal.τ).loc Cert.SsdInReferenceIdeal.main_v18) = v1 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1)
          ∧ r.2.mem ((c.tc : Thread Cert.SsdInReferenceIdeal.nD Cert.SsdInReferenceIdeal.τ).loc Cert.SsdInReferenceIdeal.main_arg2) = m' ((c.tc : Thread Cert.SsdInReferenceIdeal.nD Cert.SsdInReferenceIdeal.τ).loc Cert.SsdInReferenceIdeal.main_arg2))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDwIn : Cert.DwIn.Facts) (hDwInIdeal : Cert.DwInIdeal.Facts) (hDwInReferenceIdeal : Cert.DwInReferenceIdeal.Facts) (hDAct : Cert.DAct.Facts) (hDActIdeal : Cert.DActIdeal.Facts) (hDActReferenceIdeal : Cert.DActReferenceIdeal.Facts) (hFfnDown : Cert.FfnDown.Facts) (hFfnDownIdeal : Cert.FfnDownIdeal.Facts) (hFfnDownReferenceIdeal : Cert.FfnDownReferenceIdeal.Facts) (hFfnDh : Cert.FfnDh.Facts) (hFfnDhIdeal : Cert.FfnDhIdeal.Facts) (hFfnDhReferenceIdeal : Cert.FfnDhReferenceIdeal.Facts) (hSsdDh : Cert.SsdDh.Facts) (hSsdDhIdeal : Cert.SsdDhIdeal.Facts) (hSsdDhReferenceIdeal : Cert.SsdDhReferenceIdeal.Facts) (hFfnUp : Cert.FfnUp.Facts) (hFfnUpIdeal : Cert.FfnUpIdeal.Facts) (hFfnUpReferenceIdeal : Cert.FfnUpReferenceIdeal.Facts) (hSsdIn : Cert.SsdIn.Facts) (hSsdInIdeal : Cert.SsdInIdeal.Facts) (hSsdInReferenceIdeal : Cert.SsdInReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_SsdDh (hSsdDh := hSsdDh)
    ∧ quiescent_SsdDhIdeal (hSsdDhIdeal := hSsdDhIdeal)
    ∧ quiescent_SsdDhReferenceIdeal (hSsdDhReferenceIdeal := hSsdDhReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwIn_DwInIdeal
    ∧ algebraic_DwInIdeal_DwInReferenceIdeal (hDwInIdeal := hDwInIdeal) (hDwInReferenceIdeal := hDwInReferenceIdeal)
    ∧ preserves_DAct_DActIdeal
    ∧ algebraic_DActIdeal_DActReferenceIdeal (hDActIdeal := hDActIdeal) (hDActReferenceIdeal := hDActReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_SsdDh_SsdDhIdeal
    ∧ algebraic_SsdDhIdeal_SsdDhReferenceIdeal (hSsdDhIdeal := hSsdDhIdeal) (hSsdDhReferenceIdeal := hSsdDhReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_SsdIn_SsdInIdeal
    ∧ algebraic_SsdInIdeal_SsdInReferenceIdeal (hSsdInIdeal := hSsdInIdeal) (hSsdInReferenceIdeal := hSsdInReferenceIdeal)
-- ==== Pre_finite.lean ====
abbrev S8208x3072 : Shape := ⟨2, ![8208, 3072]⟩
abbrev S8208x2048 : Shape := ⟨2, ![8208, 2048]⟩
abbrev S8208x32 : Shape := ⟨2, ![8208, 32]⟩
abbrev S32 : Shape := ⟨1, ![32]⟩
abbrev S2048 : Shape := ⟨1, ![2048]⟩
abbrev S_ : Shape := ⟨0, ![]⟩

class Facts : Prop where
  bcast_S_S8208x3072 : S_.BroadcastsInDim S8208x3072 (![] : Fin 0 → Fin S8208x3072.rank)
  bcast_S_S8208x2048 : S_.BroadcastsInDim S8208x2048 (![] : Fin 0 → Fin S8208x2048.rank)
  bcast_S_S8208x32 : S_.BroadcastsInDim S8208x32 (![] : Fin 0 → Fin S8208x32.rank)
  bcast_S_S32 : S_.BroadcastsInDim S32 (![] : Fin 0 → Fin S32.rank)
  bcast_S_S2048 : S_.BroadcastsInDim S2048 (![] : Fin 0 → Fin S2048.rank)

variable [Facts]

def fn_part1 {F : FTy → Type} [FloatOps F] (main_arg6 : FVec F S2048 .f32) (main_arg7 : FVec F S8208x2048 .f32) (main_v2 : IVec S8208x3072 1) (main_v5 : IVec S8208x2048 1) (main_v8 : IVec S8208x32 1) (main_v11 : IVec S32 1) (main_v14 : IVec S32 1) (main_v17 : IVec S32 1) : IVec S8208x3072 1 × IVec S8208x2048 1 × IVec S8208x32 1 × IVec S32 1 × IVec S32 1 × IVec S32 1 × IVec S2048 1 × IVec S8208x2048 1 :=
  let main_v18 : FVec F S2048 .f32 := Host.absf main_arg6
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S8208x2048 .f32 := Host.absf main_arg7
  let main_cst_6 : FVec F S_ .f32 := constant S_ .f32 0x7F800000#32
  let main_v22 : FVec F S8208x2048 .f32 := broadcastInDim S8208x2048 ![] bcast_S_S8208x2048 main_cst_6
  let main_v23 : IVec S8208x2048 1 := cmpf .olt main_v21 main_v22
  (main_v2, main_v5, main_v8, main_v11, main_v14, main_v17, main_v20, main_v23)

def fn {F : FTy → Type} [FloatOps F] (main_arg0 : FVec F S8208x3072 .f32) (main_arg1 : FVec F S8208x2048 .f32) (main_arg2 : FVec F S8208x32 .f32) (main_arg3 : FVec F S32 .f32) (main_arg4 : FVec F S32 .f32) (main_arg5 : FVec F S32 .f32) (main_arg6 : FVec F S2048 .f32) (main_arg7 : FVec F S8208x2048 .f32) : IVec S8208x3072 1 × IVec S8208x2048 1 × IVec S8208x32 1 × IVec S32 1 × IVec S32 1 × IVec S32 1 × IVec S2048 1 × IVec S8208x2048 1 :=
  let main_v0 : FVec F S8208x3072 .f32 := Host.absf main_arg0
  let main_cst : FVec F S_ .f32 := constant S_ .f32 0x7F800000#32
  let main_v1 : FVec F S8208x3072 .f32 := broadcastInDim S8208x3072 ![] bcast_S_S8208x3072 main_cst
  let main_v2 : IVec S8208x3072 1 := cmpf .olt main_v0 main_v1
  let main_v3 : FVec F S8208x2048 .f32 := Host.absf main_arg1
  let main_cst_0 : FVec F S_ .f32 := constant S_ .f32 0x7F800000#32
  let main_v4 : FVec F S8208x2048 .f32 := broadcastInDim S8208x2048 ![] bcast_S_S8208x2048 main_cst_0
  let main_v5 : IVec S8208x2048 1 := cmpf .olt main_v3 main_v4
  let main_v6 : FVec F S8208x32 .f32 := Host.absf main_arg2
  let main_cst_1 : FVec F S_ .f32 := constant S_ .f32 0x7F800000#32
  let main_v7 : FVec F S8208x32 .f32 := broadcastInDim S8208x32 ![] bcast_S_S8208x32 main_cst_1
  let main_v8 : IVec S8208x32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg6 main_arg7 main_v2 main_v5 main_v8 main_v11 main_v14 main_v17
-- ==== Kernel.lean ====
abbrev S8208x3072 : Shape := ⟨2, ![8208, 3072]⟩
abbrev S8208x2048 : Shape := ⟨2, ![8208, 2048]⟩
abbrev S8208x32 : Shape := ⟨2, ![8208, 32]⟩
abbrev S32 : Shape := ⟨1, ![32]⟩
abbrev S2048 : Shape := ⟨1, ![2048]⟩
abbrev S_ : Shape := ⟨0, ![]⟩
abbrev S240x3072 : Shape := ⟨2, ![240, 3072]⟩
abbrev S8448x3072 : Shape := ⟨2, ![8448, 3072]⟩
abbrev S240x32 : Shape := ⟨2, ![240, 32]⟩
abbrev S8448x32 : Shape := ⟨2, ![8448, 32]⟩
abbrev S8448x2048 : Shape := ⟨2, ![8448, 2048]⟩
abbrev S8448x512 : Shape := ⟨2, ![8448, 512]⟩
abbrev S8448x4x8x64 : Shape := ⟨4, ![8448, 4, 8, 64]⟩
abbrev S8448x4x128 : Shape := ⟨3, ![8448, 4, 128]⟩
abbrev S8448 : Shape := ⟨1, ![8448]⟩
abbrev S8448x1 : Shape := ⟨2, ![8448, 1]⟩
abbrev S1x32 : Shape := ⟨2, ![1, 32]⟩
abbrev S8448x4x8 : Shape := ⟨3, ![8448, 4, 8]⟩
abbrev S4x8 : Shape := ⟨2, ![4, 8]⟩
abbrev S8448x4x8x1 : Shape := ⟨4, ![8448, 4, 8, 1]⟩
abbrev S1x8448 : Shape := ⟨2, ![1, 8448]⟩
abbrev S8448x8448 : Shape := ⟨2, ![8448, 8448]⟩
abbrev S1x4x8 : Shape := ⟨3, ![1, 4, 8]⟩
abbrev S4x8x8448 : Shape := ⟨3, ![4, 8, 8448]⟩
abbrev S4x8x1x8448 : Shape := ⟨4, ![4, 8, 1, 8448]⟩
abbrev S4x8x8448x8448 : Shape := ⟨4, ![4, 8, 8448, 8448]⟩
abbrev S4x8x8448x1 : Shape := ⟨4, ![4, 8, 8448, 1]⟩
abbrev S4x8448x8448 : Shape := ⟨3, ![4, 8448, 8448]⟩
abbrev S4x1x8448x8448 : Shape := ⟨4, ![4, 1, 8448, 8448]⟩
abbrev S4x8x64x8448 : Shape := ⟨4, ![4, 8, 64, 8448]⟩
abbrev S4x8x1 : Shape := ⟨3, ![4, 8, 1]⟩
abbrev S1x4x8x1 : Shape := ⟨4, ![1, 4, 8, 1]⟩
abbrev S33 : Shape := ⟨1, ![33]⟩
abbrev S33x1 : Shape := ⟨2, ![33, 1]⟩
abbrev S33x8448 : Shape := ⟨2, ![33, 8448]⟩
abbrev S4x8x33x8448 : Shape := ⟨4, ![4, 8, 33, 8448]⟩
abbrev S4x8x33 : Shape := ⟨3, ![4, 8, 33]⟩
abbrev S4x8x33x1 : Shape := ⟨4, ![4, 8, 33, 1]⟩
abbrev S4x8x33x8448x1 : Shape := ⟨5, ![4, 8, 33, 8448, 1]⟩
abbrev S4x8x8448x64 : Shape := ⟨4, ![4, 8, 8448, 64]⟩
abbrev S4x8x1x8448x64 : Shape := ⟨5, ![4, 8, 1, 8448, 64]⟩
abbrev S4x8x33x8448x64 : Shape := ⟨5, ![4, 8, 33, 8448, 64]⟩
abbrev S4x8x33x64x128 : Shape := ⟨5, ![4, 8, 33, 64, 128]⟩
abbrev S33x4x128x8x64 : Shape := ⟨5, ![33, 4, 128, 8, 64]⟩
abbrev S33x4x128x512 : Shape := ⟨4, ![33, 4, 128, 512]⟩
abbrev S3x32 : Shape := ⟨2, ![3, 32]⟩
abbrev S3x4x8 : Shape := ⟨3, ![3, 4, 8]⟩
abbrev S4x3x8 : Shape := ⟨3, ![4, 3, 8]⟩
abbrev S4x8x8 : Shape := ⟨3, ![4, 8, 8]⟩
abbrev S4x8448x8 : Shape := ⟨3, ![4, 8448, 8]⟩
abbrev S240x2048 : Shape := ⟨2, ![240, 2048]⟩
abbrev S1x2048 : Shape := ⟨2, ![1, 2048]⟩
abbrev S4x8x512 : Shape := ⟨3, ![4, 8, 512]⟩
abbrev S256x512 : Shape := ⟨2, ![256, 512]⟩
abbrev S256x128 : Shape := ⟨2, ![256, 128]⟩
abbrev S1x256x8 : Shape := ⟨3, ![1, 256, 8]⟩
abbrev S1x8x8 : Shape := ⟨3, ![1, 8, 8]⟩
abbrev S1x512 : Shape := ⟨2, ![1, 512]⟩
abbrev S1x1x128x512 : Shape := ⟨4, ![1, 1, 128, 512]⟩
abbrev S1x8x512 : Shape := ⟨3, ![1, 8, 512]⟩
abbrev S128x512 : Shape := ⟨2, ![128, 512]⟩
abbrev S8x8 : Shape := ⟨2, ![8, 8]⟩
abbrev S8x512 : Shape := ⟨2, ![8, 512]⟩
abbrev S256x1 : Shape := ⟨2, ![256, 1]⟩
abbrev S256x8 : Shape := ⟨2, ![256, 8]⟩
abbrev S1x1x8 : Shape := ⟨3, ![1, 1, 8]⟩
abbrev S1x8 : Shape := ⟨2, ![1, 8]⟩
abbrev S256x256 : Shape := ⟨2, ![256, 256]⟩
abbrev S8x256 : Shape := ⟨2, ![8, 256]⟩
abbrev S8 : Shape := ⟨1, ![8]⟩
abbrev S512x8 : Shape := ⟨2, ![512, 8]⟩
abbrev S256 : Shape := ⟨1, ![256]⟩
abbrev S512 : Shape := ⟨1, ![512]⟩
abbrev S1x256 : Shape := ⟨2, ![1, 256]⟩
abbrev S1x128 : Shape := ⟨2, ![1, 128]⟩
abbrev S1x1x512 : Shape := ⟨3, ![1, 1, 512]⟩

abbrev nBuf : Space → Nat
  | .hbm => 223
  | .vmem => 35
  | .smem => 0
  | _ => 0

abbrev hbmTy0_0 (i : Nat) : BufTy := match i % 128 with
  | 0 => ⟨S8208x3072, .f32⟩
  | 1 => ⟨S8208x2048, .f32⟩
  | 2 => ⟨S8208x32, .f32⟩
  | 3 => ⟨S32, .f32⟩
  | 4 => ⟨S32, .f32⟩
  | 5 => ⟨S32, .f32⟩
  | 6 => ⟨S2048, .f32⟩
  | 7 => ⟨S8208x2048, .f32⟩
  | 8 => ⟨S_, .f32⟩
  | 9 => ⟨S240x3072, .f32⟩
  | 10 => ⟨S8448x3072, .f32⟩
  | 11 => ⟨S_, .f32⟩
  | 12 => ⟨S240x32, .f32⟩
  | 13 => ⟨S8448x32, .f32⟩
  | 14 => ⟨S8448x2048, .f32⟩
  | 15 => ⟨S8448x512, .f32⟩
  | 16 => ⟨S8448x512, .f32⟩
  | 17 => ⟨S8448x4x8x64, .f32⟩
  | 18 => ⟨S8448x4x128, .f32⟩
  | 19 => ⟨S8448x4x128, .f32⟩
  | 20 => ⟨S8448, .i32⟩
  | 21 => ⟨S_, .i32⟩
  | 22 => ⟨S8448, .i32⟩
  | 23 => ⟨S8448, .i1⟩
  | 24 => ⟨S8448x1, .i1⟩
  | 25 => ⟨S1x32, .f32⟩
  | 26 => ⟨S8448x32, .f32⟩
  | 27 => ⟨S8448x32, .f32⟩
  | 28 => ⟨S_, .f32⟩
  | 29 => ⟨S8448x32, .f32⟩
  | 30 => ⟨S8448x32, .f32⟩
  | 31 => ⟨S8448x32, .f32⟩
  | 32 => ⟨S8448x32, .f32⟩
  | 33 => ⟨S8448x32, .i1⟩
  | 34 => ⟨S8448x32, .f32⟩
  | 35 => ⟨S8448x32, .f32⟩
  | 36 => ⟨S8448x32, .f32⟩
  | 37 => ⟨S8448x32, .f32⟩
  | 38 => ⟨S8448x32, .f32⟩
  | 39 => ⟨S8448x32, .f32⟩
  | 40 => ⟨S8448x32, .f32⟩
  | 41 => ⟨S8448x32, .f32⟩
  | 42 => ⟨S_, .f32⟩
  | 43 => ⟨S_, .f32⟩
  | 44 => ⟨S8448x32, .i1⟩
  | 45 => ⟨S8448x32, .f32⟩
  | 46 => ⟨S8448x32, .f32⟩
  | 47 => ⟨S8448x4x8, .f32⟩
  | 48 => ⟨S32, .f32⟩
  | 49 => ⟨S4x8, .f32⟩
  | 50 => ⟨S4x8, .f32⟩
  | 51 => ⟨S8448x4x8x1, .f32⟩
  | 52 => ⟨S8448x4x8x64, .f32⟩
  | 53 => ⟨S8448x4x8x64, .f32⟩
  | 54 => ⟨S8448, .i32⟩
  | 55 => ⟨S8448x1, .i32⟩
  | 56 => ⟨S8448, .i32⟩
  | 57 => ⟨S1x8448, .i32⟩
  | 58 => ⟨S8448x8448, .i32⟩
  | 59 => ⟨S8448x8448, .i32⟩
  | 60 => ⟨S8448x8448, .i1⟩
  | 61 => ⟨S1x4x8, .f32⟩
  | 62 => ⟨S8448x4x8, .f32⟩
  | 63 => ⟨S8448x4x8, .f32⟩
  | 64 => ⟨S4x8x8448, .f32⟩
  | 65 => ⟨S4x8x1x8448, .f32⟩
  | 66 => ⟨S_, .f32⟩
  | 67 => ⟨S_, .f32⟩
  | 68 => ⟨S4x8x8448x8448, .i1⟩
  | 69 => ⟨S4x8x8448x8448, .f32⟩
  | 70 => ⟨S4x8x8448x8448, .f32⟩
  | 71 => ⟨S4x8x8448x8448, .f32⟩
  | 72 => ⟨S_, .f32⟩
  | 73 => ⟨S4x8x8448, .f32⟩
  | 74 => ⟨S4x8x8448x1, .f32⟩
  | 75 => ⟨S4x8x1x8448, .f32⟩
  | 76 => ⟨S4x8x8448x8448, .f32⟩
  | 77 => ⟨S4x8x8448x8448, .f32⟩
  | 78 => ⟨S4x8x8448x8448, .f32⟩
  | 79 => ⟨S_, .f32⟩
  | 80 => ⟨S_, .f32⟩
  | 81 => ⟨S4x8x8448x8448, .i1⟩
  | 82 => ⟨S4x8x8448x8448, .f32⟩
  | 83 => ⟨S4x8x8448x8448, .f32⟩
  | 84 => ⟨S4x8x8448x8448, .f32⟩
  | 85 => ⟨S4x8448x8448, .f32⟩
  | 86 => ⟨S4x1x8448x8448, .f32⟩
  | 87 => ⟨S4x8x8448x8448, .f32⟩
  | 88 => ⟨S4x8x8448x8448, .f32⟩
  | 89 => ⟨S4x8x64x8448, .f32⟩
  | 90 => ⟨S8448x4x8x64, .f32⟩
  | 91 => ⟨S4x8, .f32⟩
  | 92 => ⟨S4x8x1, .f32⟩
  | 93 => ⟨S1x4x8x1, .f32⟩
  | 94 => ⟨S8448x4x8x64, .f32⟩
  | 95 => ⟨S8448x4x8x64, .f32⟩
  | 96 => ⟨S8448x4x8x64, .f32⟩
  | 97 => ⟨S8448x2048, .f32⟩
  | 98 => ⟨S8448x4x8x64, .f32⟩
  | 99 => ⟨S8448x4x128, .f32⟩
  | 100 => ⟨S8448, .i32⟩
  | 101 => ⟨S_, .i32⟩
  | 102 => ⟨S8448, .i32⟩
  | 103 => ⟨S8448, .i1⟩
  | 104 => ⟨S8448x1, .i1⟩
  | 105 => ⟨S1x32, .f32⟩
  | 106 => ⟨S8448x32, .f32⟩
  | 107 => ⟨S8448x32, .f32⟩
  | 108 => ⟨S_, .f32⟩
  | 109 => ⟨S8448x32, .f32⟩
  | 110 => ⟨S8448x32, .f32⟩
  | 111 => ⟨S8448x32, .f32⟩
  | 112 => ⟨S8448x32, .f32⟩
  | 113 => ⟨S8448x32, .i1⟩
  | 114 => ⟨S8448x32, .f32⟩
  | 115 => ⟨S8448x32, .f32⟩
  | 116 => ⟨S8448x32, .f32⟩
  | 117 => ⟨S8448x32, .f32⟩
  | 118 => ⟨S8448x32, .f32⟩
  | 119 => ⟨S8448x32, .f32⟩
  | 120 => ⟨S8448x32, .f32⟩
  | 121 => ⟨S8448x32, .f32⟩
  | 122 => ⟨S_, .f32⟩
  | 123 => ⟨S_, .f32⟩
  | 124 => ⟨S8448x32, .i1⟩
  | 125 => ⟨S8448x32, .f32⟩
  | 126 => ⟨S8448x32, .f32⟩
  | 127 => ⟨S8448x4x8, .f32⟩
  | _ => ⟨S8208x3072, .f32⟩

abbrev hbmTy0_1 (i : Nat) : BufTy := match i % 128 with
  | 0 => ⟨S32, .f32⟩
  | 1 => ⟨S4x8, .f32⟩
  | 2 => ⟨S4x8, .f32⟩
  | 3 => ⟨S8448, .i32⟩
  | 4 => ⟨S8448x1, .i32⟩
  | 5 => ⟨S8448, .i32⟩
  | 6 => ⟨S1x8448, .i32⟩
  | 7 => ⟨S8448x8448, .i32⟩
  | 8 => ⟨S8448x8448, .i32⟩
  | 9 => ⟨S8448x8448, .i1⟩
  | 10 => ⟨S8448, .i32⟩
  | 11 => ⟨S1x8448, .i32⟩
  | 12 => ⟨S33, .i32⟩
  | 13 => ⟨S33x1, .i32⟩
  | 14 => ⟨S_, .i32⟩
  | 15 => ⟨S33x1, .i32⟩
  | 16 => ⟨S33x1, .i32⟩
  | 17 => ⟨S33x8448, .i32⟩
  | 18 => ⟨S33x8448, .i32⟩
  | 19 => ⟨S33x8448, .i1⟩
  | 20 => ⟨S1x4x8, .f32⟩
  | 21 => ⟨S8448x4x8, .f32⟩
  | 22 => ⟨S8448x4x8, .f32⟩
  | 23 => ⟨S4x8x8448, .f32⟩
  | 24 => ⟨S4x8x1x8448, .f32⟩
  | 25 => ⟨S_, .f32⟩
  | 26 => ⟨S_, .f32⟩
  | 27 => ⟨S4x8x8448x8448, .i1⟩
  | 28 => ⟨S4x8x8448x8448, .f32⟩
  | 29 => ⟨S4x8x8448x8448, .f32⟩
  | 30 => ⟨S4x8x8448x8448, .f32⟩
  | 31 => ⟨S_, .f32⟩
  | 32 => ⟨S4x8x8448, .f32⟩
  | 33 => ⟨S1x4x8, .f32⟩
  | 34 => ⟨S8448x4x8, .f32⟩
  | 35 => ⟨S8448x4x8, .f32⟩
  | 36 => ⟨S4x8x8448, .f32⟩
  | 37 => ⟨S4x8x1x8448, .f32⟩
  | 38 => ⟨S_, .f32⟩
  | 39 => ⟨S_, .f32⟩
  | 40 => ⟨S4x8x33x8448, .i1⟩
  | 41 => ⟨S4x8x33x8448, .f32⟩
  | 42 => ⟨S4x8x33x8448, .f32⟩
  | 43 => ⟨S4x8x33x8448, .f32⟩
  | 44 => ⟨S_, .f32⟩
  | 45 => ⟨S4x8x33, .f32⟩
  | 46 => ⟨S4x8x33x1, .f32⟩
  | 47 => ⟨S4x8x1x8448, .f32⟩
  | 48 => ⟨S4x8x33x8448, .f32⟩
  | 49 => ⟨S4x8x33x8448, .f32⟩
  | 50 => ⟨S4x8x33x8448, .f32⟩
  | 51 => ⟨S_, .f32⟩
  | 52 => ⟨S_, .f32⟩
  | 53 => ⟨S4x8x33x8448, .i1⟩
  | 54 => ⟨S4x8x33x8448, .f32⟩
  | 55 => ⟨S4x8x33x8448, .f32⟩
  | 56 => ⟨S4x8x33x8448, .f32⟩
  | 57 => ⟨S4x8x33x8448x1, .f32⟩
  | 58 => ⟨S8448x4x8x1, .f32⟩
  | 59 => ⟨S8448x4x8x64, .f32⟩
  | 60 => ⟨S8448x4x8x64, .f32⟩
  | 61 => ⟨S4x8x8448x64, .f32⟩
  | 62 => ⟨S4x8x1x8448x64, .f32⟩
  | 63 => ⟨S4x8x33x8448x64, .f32⟩
  | 64 => ⟨S4x8x33x8448x64, .f32⟩
  | 65 => ⟨S4x8x33x8448x64, .f32⟩
  | 66 => ⟨S4x8x33x64x128, .f32⟩
  | 67 => ⟨S33x4x128x8x64, .f32⟩
  | 68 => ⟨S33x4x128x512, .f32⟩
  | 69 => ⟨S1x32, .f32⟩
  | 70 => ⟨S1x32, .f32⟩
  | 71 => ⟨S1x32, .f32⟩
  | 72 => ⟨S3x32, .f32⟩
  | 73 => ⟨S3x4x8, .f32⟩
  | 74 => ⟨S4x3x8, .f32⟩
  | 75 => ⟨S_, .i32⟩
  | 76 => ⟨S_, .f32⟩
  | 77 => ⟨S4x8x8, .f32⟩
  | 78 => ⟨S8448x4x8, .f32⟩
  | 79 => ⟨S4x8448x8, .f32⟩
  | 80 => ⟨S_, .f32⟩
  | 81 => ⟨S240x2048, .f32⟩
  | 82 => ⟨S8448x2048, .f32⟩
  | 83 => ⟨S1x2048, .f32⟩
  | 84 => ⟨S_, .f32⟩
  | 85 => ⟨S240x2048, .f32⟩
  | 86 => ⟨S8448x2048, .f32⟩
  | 87 => ⟨S8448x2048, .bf16⟩
  | 88 => ⟨S8448x2048, .bf16⟩
  | 89 => ⟨S8448x512, .bf16⟩
  | 90 => ⟨S8448x512, .bf16⟩
  | 91 => ⟨S8448x2048, .bf16⟩
  | 92 => ⟨S4x8448x8, .f32⟩
  | 93 => ⟨S4x8x8, .f32⟩
  | 94 => ⟨S4x8x512, .f32⟩
  | _ => ⟨S8208x3072, .f32⟩

abbrev hbmTy (i : Nat) : BufTy := match i / 128 with
  | 0 => hbmTy0_0 i
  | 1 => hbmTy0_1 i
  | _ => ⟨S8208x3072, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S1x256x8, .f32⟩
  | .local _ .vmem, ⟨9, _⟩ => ⟨S1x256x8, .f32⟩
  | .local _ .vmem, ⟨10, _⟩ => ⟨S1x8x8, .f32⟩
  | .local _ .vmem, ⟨11, _⟩ => ⟨S1x8x8, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S1x1x128x512, .f32⟩
  | .local _ .vmem, ⟨17, _⟩ => ⟨S1x1x128x512, .f32⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x512, .bf16⟩
  | .local _ .vmem, ⟨27, _⟩ => ⟨S256x512, .bf16⟩
  | .local _ .vmem, ⟨28, _⟩ => ⟨S1x256x8, .f32⟩
  | .local _ .vmem, ⟨29, _⟩ => ⟨S1x256x8, .f32⟩
  | .local _ .vmem, ⟨30, _⟩ => ⟨S1x8x8, .f32⟩
  | .local _ .vmem, ⟨31, _⟩ => ⟨S1x8x8, .f32⟩
  | .local _ .vmem, ⟨32, _⟩ => ⟨S1x8x512, .f32⟩
  | .local _ .vmem, ⟨33, _⟩ => ⟨S1x8x512, .f32⟩
  | .local _ .vmem, ⟨34, _⟩ => ⟨S128x512, .f32⟩
  | _, _ => ⟨S8208x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v17 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_2 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_v38 : Ref sig .tc := ⟨.hbm, 71, rfl⟩
abbrev main_cst_3 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_4 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_5 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call4_cst : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_v69 : Ref sig .tc := ⟨.hbm, 121, rfl⟩
abbrev main_cst_6 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_c_7 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_8 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_call6_v3 : Ref sig .tc := ⟨.hbm, 157, rfl⟩
abbrev main_v96 : Ref sig .tc := ⟨.hbm, 158, rfl⟩
abbrev main_cst_9 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_cst_10 : Ref sig .tc := ⟨.hbm, 166, rfl⟩
abbrev main_call7_v0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_v103 : Ref sig .tc := ⟨.hbm, 171, rfl⟩
abbrev main_cst_11 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_12 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_c_13 : Ref sig .tc := ⟨.hbm, 203, rfl⟩
abbrev main_call9_v0 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_cst_14 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_15 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139_0 : Ref sig .tc := ⟨.hbm, 216, rfl⟩
abbrev main_v139_1 : Ref sig .tc := ⟨.hbm, 217, rfl⟩
abbrev main_v139_2 : Ref sig .tc := ⟨.hbm, 218, rfl⟩
abbrev main_v139_3 : Ref sig .tc := ⟨.hbm, 219, rfl⟩
abbrev main_v139_4 : Ref sig .tc := ⟨.hbm, 220, rfl⟩
abbrev main_v139_5 : Ref sig .tc := ⟨.hbm, 221, rfl⟩
abbrev main_v139_6 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c20_i32 : BitVec 32 := 20#32
  let v1 : BitVec 32 := Scalar.addi c20_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8208x3072 : Shape := ⟨2, ![8208, 3072]⟩
abbrev S8208x2048 : Shape := ⟨2, ![8208, 2048]⟩
abbrev S8208x32 : Shape := ⟨2, ![8208, 32]⟩
abbrev S32 : Shape := ⟨1, ![32]⟩
abbrev S2048 : Shape := ⟨1, ![2048]⟩
abbrev S_ : Shape := ⟨0, ![]⟩
abbrev S240x3072 : Shape := ⟨2, ![240, 3072]⟩
abbrev S8448x3072 : Shape := ⟨2, ![8448, 3072]⟩
abbrev S8448x2048 : Shape := ⟨2, ![8448, 2048]⟩
abbrev S8448x512 : Shape := ⟨2, ![8448, 512]⟩
abbrev S240x2048 : Shape := ⟨2, ![240, 2048]⟩
abbrev S240x32 : Shape := ⟨2, ![240, 32]⟩
abbrev S8448x32 : Shape := ⟨2, ![8448, 32]⟩
abbrev S8448x4x8x64 : Shape := ⟨4, ![8448, 4, 8, 64]⟩
abbrev S8448x4x128 : Shape := ⟨3, ![8448, 4, 128]⟩
abbrev S8448 : Shape := ⟨1, ![8448]⟩
abbrev S8448x1 : Shape := ⟨2, ![8448, 1]⟩
abbrev S1x32 : Shape := ⟨2, ![1, 32]⟩
abbrev S8448x4x8 : Shape := ⟨3, ![8448, 4, 8]⟩
abbrev S4x8 : Shape := ⟨2, ![4, 8]⟩
abbrev S8448x4x8x1 : Shape := ⟨4, ![8448, 4, 8, 1]⟩
abbrev S1x8448 : Shape := ⟨2, ![1, 8448]⟩
abbrev S8448x8448 : Shape := ⟨2, ![8448, 8448]⟩
abbrev S1x4x8 : Shape := ⟨3, ![1, 4, 8]⟩
abbrev S4x8x8448 : Shape := ⟨3, ![4, 8, 8448]⟩
abbrev S4x8x1x8448 : Shape := ⟨4, ![4, 8, 1, 8448]⟩
abbrev S4x8x8448x8448 : Shape := ⟨4, ![4, 8, 8448, 8448]⟩
abbrev S4x8x8448x1 : Shape := ⟨4, ![4, 8, 8448, 1]⟩
abbrev S4x8448x8448 : Shape := ⟨3, ![4, 8448, 8448]⟩
abbrev S4x1x8448x8448 : Shape := ⟨4, ![4, 1, 8448, 8448]⟩
abbrev S4x8x64x8448 : Shape := ⟨4, ![4, 8, 64, 8448]⟩
abbrev S4x8x1 : Shape := ⟨3, ![4, 8, 1]⟩
abbrev S1x4x8x1 : Shape := ⟨4, ![1, 4, 8, 1]⟩
abbrev S8448x4x512 : Shape := ⟨3, ![8448, 4, 512]⟩
abbrev S8448x4 : Shape := ⟨2, ![8448, 4]⟩
abbrev S8448x4x1 : Shape := ⟨3, ![8448, 4, 1]⟩
abbrev S4x512 : Shape := ⟨2, ![4, 512]⟩
abbrev S1x4x512 : Shape := ⟨3, ![1, 4, 512]⟩
abbrev S4x8448x128 : Shape := ⟨3, ![4, 8448, 128]⟩
abbrev S4x8448x8 : Shape := ⟨3, ![4, 8448, 8]⟩
abbrev S3x32 : Shape := ⟨2, ![3, 32]⟩
abbrev S3x4x8 : Shape := ⟨3, ![3, 4, 8]⟩
abbrev S5x4x8 : Shape := ⟨3, ![5, 4, 8]⟩
abbrev S8x4x8 : Shape := ⟨3, ![8, 4, 8]⟩
abbrev S4x8x8 : Shape := ⟨3, ![4, 8, 8]⟩
abbrev S7x4x512 : Shape := ⟨3, ![7, 4, 512]⟩
abbrev S8x4x512 : Shape := ⟨3, ![8, 4, 512]⟩
abbrev S4x8x512 : Shape := ⟨3, ![4, 8, 512]⟩

abbrev nBuf : Space → Nat
  | .hbm => 322
  | .vmem => 0
  | .smem => 0
  | _ => 0

abbrev hbmTy0_0 (i : Nat) : BufTy := match i % 128 with
  | 0 => ⟨S8208x3072, .f32⟩
  | 1 => ⟨S8208x2048, .f32⟩
  | 2 => ⟨S8208x32, .f32⟩
  | 3 => ⟨S32, .f32⟩
  | 4 => ⟨S32, .f32⟩
  | 5 => ⟨S32, .f32⟩
  | 6 => ⟨S2048, .f32⟩
  | 7 => ⟨S8208x2048, .f32⟩
  | 8 => ⟨S_, .f32⟩
  | 9 => ⟨S240x3072, .f32⟩
  | 10 => ⟨S8448x3072, .f32⟩
  | 11 => ⟨S8448x2048, .f32⟩
  | 12 => ⟨S8448x512, .f32⟩
  | 13 => ⟨S8448x512, .f32⟩
  | 14 => ⟨S_, .f32⟩
  | 15 => ⟨S240x2048, .f32⟩
  | 16 => ⟨S8448x2048, .f32⟩
  | 17 => ⟨S_, .f32⟩
  | 18 => ⟨S240x32, .f32⟩
  | 19 => ⟨S8448x32, .f32⟩
  | 20 => ⟨S8448x4x8x64, .f32⟩
  | 21 => ⟨S8448x4x128, .f32⟩
  | 22 => ⟨S8448x4x128, .f32⟩
  | 23 => ⟨S8448, .i32⟩
  | 24 => ⟨S_, .i32⟩
  | 25 => ⟨S8448, .i32⟩
  | 26 => ⟨S8448, .i1⟩
  | 27 => ⟨S8448x1, .i1⟩
  | 28 => ⟨S1x32, .f32⟩
  | 29 => ⟨S8448x32, .f32⟩
  | 30 => ⟨S8448x32, .f32⟩
  | 31 => ⟨S_, .f32⟩
  | 32 => ⟨S8448x32, .f32⟩
  | 33 => ⟨S8448x32, .f32⟩
  | 34 => ⟨S8448x32, .f32⟩
  | 35 => ⟨S8448x32, .f32⟩
  | 36 => ⟨S8448x32, .i1⟩
  | 37 => ⟨S8448x32, .f32⟩
  | 38 => ⟨S8448x32, .f32⟩
  | 39 => ⟨S8448x32, .f32⟩
  | 40 => ⟨S8448x32, .f32⟩
  | 41 => ⟨S8448x32, .f32⟩
  | 42 => ⟨S8448x32, .f32⟩
  | 43 => ⟨S8448x32, .f32⟩
  | 44 => ⟨S8448x32, .f32⟩
  | 45 => ⟨S_, .f32⟩
  | 46 => ⟨S8448x32, .f32⟩
  | 47 => ⟨S8448x32, .i1⟩
  | 48 => ⟨S_, .f32⟩
  | 49 => ⟨S8448x32, .f32⟩
  | 50 => ⟨S8448x32, .f32⟩
  | 51 => ⟨S_, .f32⟩
  | 52 => ⟨S8448x32, .f32⟩
  | 53 => ⟨S8448x32, .i1⟩
  | 54 => ⟨S_, .f32⟩
  | 55 => ⟨S8448x32, .f32⟩
  | 56 => ⟨S8448x32, .f32⟩
  | 57 => ⟨S8448x32, .f32⟩
  | 58 => ⟨S8448x32, .f32⟩
  | 59 => ⟨S_, .f32⟩
  | 60 => ⟨S_, .f32⟩
  | 61 => ⟨S_, .i1⟩
  | 62 => ⟨S_, .f32⟩
  | 63 => ⟨S_, .f32⟩
  | 64 => ⟨S_, .f32⟩
  | 65 => ⟨S_, .f32⟩
  | 66 => ⟨S8448x32, .f32⟩
  | 67 => ⟨S8448x32, .i1⟩
  | 68 => ⟨S_, .f32⟩
  | 69 => ⟨S8448x32, .f32⟩
  | 70 => ⟨S8448x32, .f32⟩
  | 71 => ⟨S8448x32, .f32⟩
  | 72 => ⟨S8448x32, .f32⟩
  | 73 => ⟨S8448x32, .f32⟩
  | 74 => ⟨S_, .f32⟩
  | 75 => ⟨S8448x32, .f32⟩
  | 76 => ⟨S8448x32, .f32⟩
  | 77 => ⟨S_, .f32⟩
  | 78 => ⟨S_, .f32⟩
  | 79 => ⟨S8448x32, .i1⟩
  | 80 => ⟨S8448x32, .f32⟩
  | 81 => ⟨S8448x32, .f32⟩
  | 82 => ⟨S_, .f32⟩
  | 83 => ⟨S8448x32, .f32⟩
  | 84 => ⟨S8448x4x8, .f32⟩
  | 85 => ⟨S32, .f32⟩
  | 86 => ⟨S4x8, .f32⟩
  | 87 => ⟨S4x8, .f32⟩
  | 88 => ⟨S8448x4x8x1, .f32⟩
  | 89 => ⟨S8448x4x8x64, .f32⟩
  | 90 => ⟨S8448x4x8x64, .f32⟩
  | 91 => ⟨S8448, .i32⟩
  | 92 => ⟨S8448x1, .i32⟩
  | 93 => ⟨S8448, .i32⟩
  | 94 => ⟨S1x8448, .i32⟩
  | 95 => ⟨S8448x8448, .i32⟩
  | 96 => ⟨S8448x8448, .i32⟩
  | 97 => ⟨S8448x8448, .i1⟩
  | 98 => ⟨S1x4x8, .f32⟩
  | 99 => ⟨S8448x4x8, .f32⟩
  | 100 => ⟨S8448x4x8, .f32⟩
  | 101 => ⟨S4x8x8448, .f32⟩
  | 102 => ⟨S4x8x1x8448, .f32⟩
  | 103 => ⟨S_, .f32⟩
  | 104 => ⟨S_, .f32⟩
  | 105 => ⟨S4x8x8448x8448, .i1⟩
  | 106 => ⟨S4x8x8448x8448, .f32⟩
  | 107 => ⟨S4x8x8448x8448, .f32⟩
  | 108 => ⟨S4x8x8448x8448, .f32⟩
  | 109 => ⟨S_, .f32⟩
  | 110 => ⟨S4x8x8448x8448, .f32⟩
  | 111 => ⟨S_, .f32⟩
  | 112 => ⟨S4x8x8448, .f32⟩
  | 113 => ⟨S4x8x8448x1, .f32⟩
  | 114 => ⟨S4x8x1x8448, .f32⟩
  | 115 => ⟨S4x8x8448x8448, .f32⟩
  | 116 => ⟨S4x8x8448x8448, .f32⟩
  | 117 => ⟨S4x8x8448x8448, .f32⟩
  | 118 => ⟨S_, .f32⟩
  | 119 => ⟨S_, .f32⟩
  | 120 => ⟨S4x8x8448x8448, .i1⟩
  | 121 => ⟨S4x8x8448x8448, .f32⟩
  | 122 => ⟨S4x8x8448x8448, .f32⟩
  | 123 => ⟨S_, .f32⟩
  | 124 => ⟨S4x8x8448x8448, .f32⟩
  | 125 => ⟨S4x8x8448x8448, .f32⟩
  | 126 => ⟨S4x8448x8448, .f32⟩
  | 127 => ⟨S4x1x8448x8448, .f32⟩
  | _ => ⟨S8208x3072, .f32⟩

abbrev hbmTy0_1 (i : Nat) : BufTy := match i % 128 with
  | 0 => ⟨S4x8x8448x8448, .f32⟩
  | 1 => ⟨S4x8x8448x8448, .f32⟩
  | 2 => ⟨S4x8x64x8448, .f32⟩
  | 3 => ⟨S8448x4x8x64, .f32⟩
  | 4 => ⟨S4x8, .f32⟩
  | 5 => ⟨S4x8x1, .f32⟩
  | 6 => ⟨S1x4x8x1, .f32⟩
  | 7 => ⟨S8448x4x8x64, .f32⟩
  | 8 => ⟨S8448x4x8x64, .f32⟩
  | 9 => ⟨S8448x4x8x64, .f32⟩
  | 10 => ⟨S8448x2048, .f32⟩
  | 11 => ⟨S8448x2048, .f32⟩
  | 12 => ⟨S8448x2048, .f32⟩
  | 13 => ⟨S_, .f32⟩
  | 14 => ⟨S8448x2048, .f32⟩
  | 15 => ⟨S8448x2048, .f32⟩
  | 16 => ⟨S_, .f32⟩
  | 17 => ⟨S8448x2048, .f32⟩
  | 18 => ⟨S8448x2048, .f32⟩
  | 19 => ⟨S_, .f32⟩
  | 20 => ⟨S8448x2048, .f32⟩
  | 21 => ⟨S8448x2048, .f32⟩
  | 22 => ⟨S8448x2048, .f32⟩
  | 23 => ⟨S8448x2048, .f32⟩
  | 24 => ⟨S8448x2048, .f32⟩
  | 25 => ⟨S8448x4x512, .f32⟩
  | 26 => ⟨S8448x4x512, .f32⟩
  | 27 => ⟨S_, .f32⟩
  | 28 => ⟨S8448x4, .f32⟩
  | 29 => ⟨S8448x4x1, .f32⟩
  | 30 => ⟨S_, .f32⟩
  | 31 => ⟨S8448x4x1, .f32⟩
  | 32 => ⟨S8448x4x1, .f32⟩
  | 33 => ⟨S_, .f32⟩
  | 34 => ⟨S8448x4x1, .f32⟩
  | 35 => ⟨S8448x4x1, .f32⟩
  | 36 => ⟨S8448x4x1, .f32⟩
  | 37 => ⟨S8448x4x1, .f32⟩
  | 38 => ⟨S_, .f32⟩
  | 39 => ⟨S8448x4x1, .f32⟩
  | 40 => ⟨S8448x4x1, .f32⟩
  | 41 => ⟨S8448x4x512, .f32⟩
  | 42 => ⟨S8448x4x512, .f32⟩
  | 43 => ⟨S4x512, .f32⟩
  | 44 => ⟨S1x4x512, .f32⟩
  | 45 => ⟨S8448x4x512, .f32⟩
  | 46 => ⟨S8448x4x512, .f32⟩
  | 47 => ⟨S8448x2048, .f32⟩
  | 48 => ⟨S_, .f32⟩
  | 49 => ⟨S240x2048, .f32⟩
  | 50 => ⟨S8448x2048, .f32⟩
  | 51 => ⟨S8448x4x512, .f32⟩
  | 52 => ⟨S8448x4x512, .f32⟩
  | 53 => ⟨S_, .f32⟩
  | 54 => ⟨S4x512, .f32⟩
  | 55 => ⟨S1x4x512, .f32⟩
  | 56 => ⟨S8448x4x512, .f32⟩
  | 57 => ⟨S8448x4x512, .f32⟩
  | 58 => ⟨S_, .f32⟩
  | 59 => ⟨S4x512, .f32⟩
  | 60 => ⟨S2048, .f32⟩
  | 61 => ⟨S8448x4x512, .f32⟩
  | 62 => ⟨S_, .f32⟩
  | 63 => ⟨S8448x4, .f32⟩
  | 64 => ⟨S8448x4x1, .f32⟩
  | 65 => ⟨S8448x4x512, .f32⟩
  | 66 => ⟨S8448x4x512, .f32⟩
  | 67 => ⟨S8448x4x1, .f32⟩
  | 68 => ⟨S_, .f32⟩
  | 69 => ⟨S8448x4x1, .f32⟩
  | 70 => ⟨S8448x4x1, .f32⟩
  | 71 => ⟨S_, .f32⟩
  | 72 => ⟨S8448x4, .f32⟩
  | 73 => ⟨S8448x4x512, .f32⟩
  | 74 => ⟨S8448x4x512, .f32⟩
  | 75 => ⟨S8448x4x512, .f32⟩
  | 76 => ⟨S8448x4x512, .f32⟩
  | 77 => ⟨S8448x4x512, .f32⟩
  | 78 => ⟨S8448x2048, .f32⟩
  | 79 => ⟨S8448x2048, .f32⟩
  | 80 => ⟨S8448x2048, .f32⟩
  | 81 => ⟨S8448x2048, .f32⟩
  | 82 => ⟨S8448x2048, .f32⟩
  | 83 => ⟨S8448x2048, .f32⟩
  | 84 => ⟨S8448x2048, .f32⟩
  | 85 => ⟨S8448x4x8x64, .f32⟩
  | 86 => ⟨S8448x4x8x64, .f32⟩
  | 87 => ⟨S_, .f32⟩
  | 88 => ⟨S4x8, .f32⟩
  | 89 => ⟨S1x4x8x1, .f32⟩
  | 90 => ⟨S8448x4x8x64, .f32⟩
  | 91 => ⟨S8448x4x8x64, .f32⟩
  | 92 => ⟨S_, .f32⟩
  | 93 => ⟨S4x8, .f32⟩
  | 94 => ⟨S4x8x1, .f32⟩
  | 95 => ⟨S_, .f32⟩
  | 96 => ⟨S4x8, .f32⟩
  | 97 => ⟨S32, .f32⟩
  | 98 => ⟨S4x8x64x8448, .f32⟩
  | 99 => ⟨S4x8x8448x8448, .f32⟩
  | 100 => ⟨S4x8x64x8448, .f32⟩
  | 101 => ⟨S8448x4x8x64, .f32⟩
  | 102 => ⟨S4x8x8448x8448, .f32⟩
  | 103 => ⟨S4x8x8448x8448, .f32⟩
  | 104 => ⟨S4x8x8448x8448, .f32⟩
  | 105 => ⟨S_, .f32⟩
  | 106 => ⟨S4x8448x8448, .f32⟩
  | 107 => ⟨S4x1x8448x8448, .f32⟩
  | 108 => ⟨S_, .f32⟩
  | 109 => ⟨S4x8448x8448, .f32⟩
  | 110 => ⟨S4x8448x128, .f32⟩
  | 111 => ⟨S8448x4x128, .f32⟩
  | 112 => ⟨S4x8448x128, .f32⟩
  | 113 => ⟨S8448x4x128, .f32⟩
  | 114 => ⟨S4x8x8448x8448, .f32⟩
  | 115 => ⟨S_, .f32⟩
  | 116 => ⟨S4x8x8448x8448, .f32⟩
  | 117 => ⟨S4x8x8448x8448, .f32⟩
  | 118 => ⟨S_, .f32⟩
  | 119 => ⟨S4x8x8448, .f32⟩
  | 120 => ⟨S4x8x8448x1, .f32⟩
  | 121 => ⟨S4x8x8448x8448, .f32⟩
  | 122 => ⟨S_, .f32⟩
  | 123 => ⟨S4x8x8448, .f32⟩
  | 124 => ⟨S4x8x1x8448, .f32⟩
  | 125 => ⟨S_, .f32⟩
  | 126 => ⟨S4x8x8448, .f32⟩
  | 127 => ⟨S_, .f32⟩
  | _ => ⟨S8208x3072, .f32⟩

abbrev hbmTy0_2 (i : Nat) : BufTy := match i % 128 with
  | 0 => ⟨S4x8x8448, .f32⟩
  | 1 => ⟨S4x8x8448, .f32⟩
  | 2 => ⟨S4x8x8448x8448, .f32⟩
  | 3 => ⟨S_, .f32⟩
  | 4 => ⟨S4x8x8448x8448, .f32⟩
  | 5 => ⟨S4x8x8448x8448, .f32⟩
  | 6 => ⟨S_, .f32⟩
  | 7 => ⟨S4x8x8448, .f32⟩
  | 8 => ⟨S4x8x1x8448, .f32⟩
  | 9 => ⟨S_, .f32⟩
  | 10 => ⟨S4x8x8448, .f32⟩
  | 11 => ⟨S8448x4x8, .f32⟩
  | 12 => ⟨S8448x4x8, .f32⟩
  | 13 => ⟨S_, .f32⟩
  | 14 => ⟨S4x8, .f32⟩
  | 15 => ⟨S1x4x8, .f32⟩
  | 16 => ⟨S8448x4x8, .f32⟩
  | 17 => ⟨S8448x4x8, .f32⟩
  | 18 => ⟨S_, .f32⟩
  | 19 => ⟨S4x8, .f32⟩
  | 20 => ⟨S8448x4x8x64, .f32⟩
  | 21 => ⟨S_, .f32⟩
  | 22 => ⟨S8448x4x8, .f32⟩
  | 23 => ⟨S8448x4x8x1, .f32⟩
  | 24 => ⟨S8448x4x8x64, .f32⟩
  | 25 => ⟨S8448x4x8x64, .f32⟩
  | 26 => ⟨S8448x4x8x64, .f32⟩
  | 27 => ⟨S_, .f32⟩
  | 28 => ⟨S8448x4x8, .f32⟩
  | 29 => ⟨S8448x4x8, .f32⟩
  | 30 => ⟨S4x8, .f32⟩
  | 31 => ⟨S32, .f32⟩
  | 32 => ⟨S32, .f32⟩
  | 33 => ⟨S8448x32, .f32⟩
  | 34 => ⟨S_, .f32⟩
  | 35 => ⟨S8448x32, .f32⟩
  | 36 => ⟨S8448x32, .f32⟩
  | 37 => ⟨S8448x32, .f32⟩
  | 38 => ⟨S_, .f32⟩
  | 39 => ⟨S32, .f32⟩
  | 40 => ⟨S1x32, .f32⟩
  | 41 => ⟨S_, .f32⟩
  | 42 => ⟨S32, .f32⟩
  | 43 => ⟨S8448x512, .f32⟩
  | 44 => ⟨S8448x512, .f32⟩
  | 45 => ⟨S8448x2048, .f32⟩
  | 46 => ⟨S8448x4x8, .f32⟩
  | 47 => ⟨S4x8448x8, .f32⟩
  | 48 => ⟨S1x32, .f32⟩
  | 49 => ⟨S1x32, .f32⟩
  | 50 => ⟨S1x32, .f32⟩
  | 51 => ⟨S3x32, .f32⟩
  | 52 => ⟨S3x4x8, .f32⟩
  | 53 => ⟨S_, .f32⟩
  | 54 => ⟨S5x4x8, .f32⟩
  | 55 => ⟨S8x4x8, .f32⟩
  | 56 => ⟨S4x8x8, .f32⟩
  | 57 => ⟨S1x4x512, .f32⟩
  | 58 => ⟨S_, .f32⟩
  | 59 => ⟨S7x4x512, .f32⟩
  | 60 => ⟨S8x4x512, .f32⟩
  | 61 => ⟨S4x8x512, .f32⟩
  | 62 => ⟨S8448x2048, .bf16⟩
  | 63 => ⟨S8448x512, .bf16⟩
  | 64 => ⟨S8448x512, .bf16⟩
  | 65 => ⟨S8448x2048, .bf16⟩
  | _ => ⟨S8208x3072, .f32⟩

abbrev hbmTy (i : Nat) : BufTy := match i / 128 with
  | 0 => hbmTy0_0 i
  | 1 => hbmTy0_1 i
  | 2 => hbmTy0_2 i
  | _ => ⟨S8208x3072, .f32⟩

abbrev bufTy : (tb : Table) → Fin (tcTables nBuf tb) → BufTy
  | .hbm, ⟨i, _⟩ => hbmTy i
  | _, _ => ⟨S8208x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v19_0 : Ref sig .tc := ⟨.hbm, 44, rfl⟩
abbrev main_call0_cst_0 : Ref sig .tc := ⟨.hbm, 45, rfl⟩
abbrev main_call0_v13 : Ref sig .tc := ⟨.hbm, 46, rfl⟩
abbrev main_call0_v14 : Ref sig .tc := ⟨.hbm, 47, rfl⟩
abbrev main_call0_cst_1 : Ref sig .tc := ⟨.hbm, 48, rfl⟩
abbrev main_call0_v15 : Ref sig .tc := ⟨.hbm, 49, rfl⟩
abbrev main_call0_v16 : Ref sig .tc := ⟨.hbm, 50, rfl⟩
abbrev main_call0_cst_2 : Ref sig .tc := ⟨.hbm, 51, rfl⟩
abbrev main_call0_v17 : Ref sig .tc := ⟨.hbm, 52, rfl⟩
abbrev main_call0_v18 : Ref sig .tc := ⟨.hbm, 53, rfl⟩
abbrev main_call0_cst_3 : Ref sig .tc := ⟨.hbm, 54, rfl⟩
abbrev main_call0_v19 : Ref sig .tc := ⟨.hbm, 55, rfl⟩
abbrev main_call0_v20 : Ref sig .tc := ⟨.hbm, 56, rfl⟩
abbrev main_call0_v21 : Ref sig .tc := ⟨.hbm, 57, rfl⟩
abbrev main_v19_1 : Ref sig .tc := ⟨.hbm, 58, rfl⟩
abbrev main_call0_cst_4 : Ref sig .tc := ⟨.hbm, 59, rfl⟩
abbrev main_call0_cst_5 : Ref sig .tc := ⟨.hbm, 60, rfl⟩
abbrev main_call0_v23 : Ref sig .tc := ⟨.hbm, 61, rfl⟩
abbrev main_call0_cst_6 : Ref sig .tc := ⟨.hbm, 62, rfl⟩
abbrev main_call0_cst_7 : Ref sig .tc := ⟨.hbm, 63, rfl⟩
abbrev main_call0_v24 : Ref sig .tc := ⟨.hbm, 64, rfl⟩
abbrev main_call0_cst_8 : Ref sig .tc := ⟨.hbm, 65, rfl⟩
abbrev main_call0_v25 : Ref sig .tc := ⟨.hbm, 66, rfl⟩
abbrev main_call0_v26 : Ref sig .tc := ⟨.hbm, 67, rfl⟩
abbrev main_call0_cst_9 : Ref sig .tc := ⟨.hbm, 68, rfl⟩
abbrev main_call0_v27 : Ref sig .tc := ⟨.hbm, 69, rfl⟩
abbrev main_call0_v28 : Ref sig .tc := ⟨.hbm, 70, rfl⟩
abbrev main_call0_v29 : Ref sig .tc := ⟨.hbm, 71, rfl⟩
abbrev main_call0_v30 : Ref sig .tc := ⟨.hbm, 72, rfl⟩
abbrev main_call0_v31 : Ref sig .tc := ⟨.hbm, 73, rfl⟩
abbrev main_call0_cst_10 : Ref sig .tc := ⟨.hbm, 74, rfl⟩
abbrev main_call0_v32 : Ref sig .tc := ⟨.hbm, 75, rfl⟩
abbrev main_v19_2 : Ref sig .tc := ⟨.hbm, 76, rfl⟩
abbrev main_cst_2 : Ref sig .tc := ⟨.hbm, 77, rfl⟩
abbrev main_call1_v0 : Ref sig .tc := ⟨.hbm, 78, rfl⟩
abbrev main_v20_1 : Ref sig .tc := ⟨.hbm, 79, rfl⟩
abbrev main_call1_v2 : Ref sig .tc := ⟨.hbm, 80, rfl⟩
abbrev main_v20_0 : Ref sig .tc := ⟨.hbm, 81, rfl⟩
abbrev main_call1_cst : Ref sig .tc := ⟨.hbm, 82, rfl⟩
abbrev main_v20_2 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_3 : Ref sig .tc := ⟨.hbm, 103, rfl⟩
abbrev main_call2_v0 : Ref sig .tc := ⟨.hbm, 104, rfl⟩
abbrev main_v40_1 : Ref sig .tc := ⟨.hbm, 105, rfl⟩
abbrev main_call2_v2 : Ref sig .tc := ⟨.hbm, 106, rfl⟩
abbrev main_call2_v3 : Ref sig .tc := ⟨.hbm, 107, rfl⟩
abbrev main_v40_0 : Ref sig .tc := ⟨.hbm, 108, rfl⟩
abbrev main_call2_cst : Ref sig .tc := ⟨.hbm, 109, rfl⟩
abbrev main_v40_2 : Ref sig .tc := ⟨.hbm, 110, rfl⟩
abbrev main_cst_4 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst_5 : Ref sig .tc := ⟨.hbm, 118, rfl⟩
abbrev main_call3_v0 : Ref sig .tc := ⟨.hbm, 119, rfl⟩
abbrev main_v47_1 : Ref sig .tc := ⟨.hbm, 120, rfl⟩
abbrev main_call3_v2 : Ref sig .tc := ⟨.hbm, 121, rfl⟩
abbrev main_v47_0 : Ref sig .tc := ⟨.hbm, 122, rfl⟩
abbrev main_call3_cst : Ref sig .tc := ⟨.hbm, 123, rfl⟩
abbrev main_v47_2 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_v62_2 : Ref sig .tc := ⟨.hbm, 146, rfl⟩
abbrev main_call4_cst_1 : Ref sig .tc := ⟨.hbm, 147, rfl⟩
abbrev main_call4_v6 : Ref sig .tc := ⟨.hbm, 148, rfl⟩
abbrev main_call4_v7 : Ref sig .tc := ⟨.hbm, 149, rfl⟩
abbrev main_v62_1 : Ref sig .tc := ⟨.hbm, 150, rfl⟩
abbrev main_v62_0 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_cst_6 : Ref sig .tc := ⟨.hbm, 155, rfl⟩
abbrev main_v66 : Ref sig .tc := ⟨.hbm, 156, rfl⟩
abbrev main_v67 : Ref sig .tc := ⟨.hbm, 157, rfl⟩
abbrev main_cst_7 : Ref sig .tc := ⟨.hbm, 158, rfl⟩
abbrev main_v68 : Ref sig .tc := ⟨.hbm, 159, rfl⟩
abbrev main_v69 : Ref sig .tc := ⟨.hbm, 160, rfl⟩
abbrev main_cst_8 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_cst_9 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_cst_10 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_cst_11 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_cst_12 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_cst_13 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_cst_14 : Ref sig .tc := ⟨.hbm, 196, rfl⟩
abbrev main_v99 : Ref sig .tc := ⟨.hbm, 197, rfl⟩
abbrev main_v100 : Ref sig .tc := ⟨.hbm, 198, rfl⟩
abbrev main_cst_15 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_cst_16 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_cst_17 : Ref sig .tc := ⟨.hbm, 220, rfl⟩
abbrev main_v117 : Ref sig .tc := ⟨.hbm, 221, rfl⟩
abbrev main_v118 : Ref sig .tc := ⟨.hbm, 222, rfl⟩
abbrev main_cst_18 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_cst_19 : Ref sig .tc := ⟨.hbm, 233, rfl⟩
abbrev main_v128 : Ref sig .tc := ⟨.hbm, 234, rfl⟩
abbrev main_v129 : Ref sig .tc := ⟨.hbm, 235, rfl⟩
abbrev main_cst_20 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_call6_cst : Ref sig .tc := ⟨.hbm, 243, rfl⟩
abbrev main_call6_v0 : Ref sig .tc := ⟨.hbm, 244, rfl⟩
abbrev main_v136 : Ref sig .tc := ⟨.hbm, 245, rfl⟩
abbrev main_cst_21 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_cst_22 : Ref sig .tc := ⟨.hbm, 250, rfl⟩
abbrev main_v140 : Ref sig .tc := ⟨.hbm, 251, rfl⟩
abbrev main_v141 : Ref sig .tc := ⟨.hbm, 252, rfl⟩
abbrev main_cst_23 : Ref sig .tc := ⟨.hbm, 253, rfl⟩
abbrev main_v142 : Ref sig .tc := ⟨.hbm, 254, rfl⟩
abbrev main_cst_24 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_call7_cst : Ref sig .tc := ⟨.hbm, 259, rfl⟩
abbrev main_call7_v0 : Ref sig .tc := ⟨.hbm, 260, rfl⟩
abbrev main_call7_v1 : Ref sig .tc := ⟨.hbm, 261, rfl⟩
abbrev main_call7_cst_0 : Ref sig .tc := ⟨.hbm, 262, rfl⟩
abbrev main_call7_v2 : Ref sig .tc := ⟨.hbm, 263, rfl⟩
abbrev main_v146 : Ref sig .tc := ⟨.hbm, 264, rfl⟩
abbrev main_cst_25 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_cst_26 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_cst_27 : Ref sig .tc := ⟨.hbm, 274, rfl⟩
abbrev main_v154 : Ref sig .tc := ⟨.hbm, 275, rfl⟩
abbrev main_v155 : Ref sig .tc := ⟨.hbm, 276, rfl⟩
abbrev main_cst_28 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_cst_29 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_call8_cst : Ref sig .tc := ⟨.hbm, 290, rfl⟩
abbrev main_call8_v0 : Ref sig .tc := ⟨.hbm, 291, rfl⟩
abbrev main_v167 : Ref sig .tc := ⟨.hbm, 292, rfl⟩
abbrev main_v168 : Ref sig .tc := ⟨.hbm, 293, rfl⟩
abbrev main_cst_30 : Ref sig .tc := ⟨.hbm, 294, rfl⟩
abbrev main_v169 : Ref sig .tc := ⟨.hbm, 295, rfl⟩
abbrev main_v170 : Ref sig .tc := ⟨.hbm, 296, rfl⟩
abbrev main_cst_31 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_cst_32 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_cst_33 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_v192 : Ref sig .tc := ⟨.hbm, 321, rfl⟩

abbrev nD : Nat := 1
abbrev τ : Topo := Topo.v7x

variable {F : FTy → Type} [FloatOps F]
-- ==== DwUp.lean ====
abbrev S8208x1024 : Shape := ⟨2, ![8208, 1024]⟩
abbrev S8208x5632 : Shape := ⟨2, ![8208, 5632]⟩
abbrev S_ : Shape := ⟨0, ![]⟩
abbrev S240x1024 : Shape := ⟨2, ![240, 1024]⟩
abbrev S8448x1024 : Shape := ⟨2, ![8448, 1024]⟩
abbrev S240x5632 : Shape := ⟨2, ![240, 5632]⟩
abbrev S8448x5632 : Shape := ⟨2, ![8448, 5632]⟩
abbrev S1024x5632 : Shape := ⟨2, ![1024, 5632]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 11
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S_, .f32⟩
  | .hbm, ⟨3, _⟩ => ⟨S240x1024, .f32⟩
  | .hbm, ⟨4, _⟩ => ⟨S8448x1024, .f32⟩
  | .hbm, ⟨5, _⟩ => ⟨S8448x1024, .bf16⟩
  | .hbm, ⟨6, _⟩ => ⟨S_, .f32⟩
  | .hbm, ⟨7, _⟩ => ⟨S240x5632, .f32⟩
  | .hbm, ⟨8, _⟩ => ⟨S8448x5632, .f32⟩
  | .hbm, ⟨9, _⟩ => ⟨S8448x5632, .bf16⟩
  | .hbm, ⟨10, _⟩ => ⟨S1024x5632, .f32⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8208x1024 : Shape := ⟨2, ![8208, 1024]⟩
abbrev S8208x5632 : Shape := ⟨2, ![8208, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S_, .f32⟩
  | .hbm, ⟨3, _⟩ => ⟨S1024x5632, .f32⟩
  | .hbm, ⟨4, _⟩ => ⟨S8208x5632, .f32⟩
  | .hbm, ⟨5, _⟩ => ⟨S5632x1024, .f32⟩
  | .hbm, ⟨6, _⟩ => ⟨S1024x5632, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwDown.lean ====
abbrev S8208x2816 : Shape := ⟨2, ![8208, 2816]⟩
abbrev S8208x1024 : Shape := ⟨2, ![8208, 1024]⟩
abbrev S_ : Shape := ⟨0, ![]⟩
abbrev S240x2816 : Shape := ⟨2, ![240, 2816]⟩
abbrev S8448x2816 : Shape := ⟨2, ![8448, 2816]⟩
abbrev S240x1024 : Shape := ⟨2, ![240, 1024]⟩
abbrev S8448x1024 : Shape := ⟨2, ![8448, 1024]⟩
abbrev S2816x1024 : Shape := ⟨2, ![2816, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .f32⟩
  | .hbm, ⟨3, _⟩ => ⟨S240x2816, .f32⟩
  | .hbm, ⟨4, _⟩ => ⟨S8448x2816, .f32⟩
  | .hbm, ⟨5, _⟩ => ⟨S8448x2816, .bf16⟩
  | .hbm, ⟨6, _⟩ => ⟨S_, .f32⟩
  | .hbm, ⟨7, _⟩ => ⟨S240x1024, .f32⟩
  | .hbm, ⟨8, _⟩ => ⟨S8448x1024, .f32⟩
  | .hbm, ⟨9, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .f32⟩
  | .local _ .vmem, ⟨3, _⟩ => ⟨S768x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v14 : BitVec 1 := Scalar.cmpi .eq arg2 c10_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8208x2816 : Shape := ⟨2, ![8208, 2816]⟩
abbrev S8208x1024 : Shape := ⟨2, ![8208, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .f32⟩
  | .hbm, ⟨3, _⟩ => ⟨S2816x1024, .f32⟩
  | .hbm, ⟨4, _⟩ => ⟨S8208x1024, .f32⟩
  | .hbm, ⟨5, _⟩ => ⟨S1024x2816, .f32⟩
  | .hbm, ⟨6, _⟩ => ⟨S2816x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S8208x1024 : Shape := ⟨2, ![8208, 1024]⟩
abbrev S8208x5376 : Shape := ⟨2, ![8208, 5376]⟩
abbrev S_ : Shape := ⟨0, ![]⟩
abbrev S240x1024 : Shape := ⟨2, ![240, 1024]⟩
abbrev S8448x1024 : Shape := ⟨2, ![8448, 1024]⟩
abbrev S240x5376 : Shape := ⟨2, ![240, 5376]⟩
abbrev S8448x5376 : Shape := ⟨2, ![8448, 5376]⟩
abbrev S1024x5376 : Shape := ⟨2, ![1024, 5376]⟩
abbrev S768x1024 : Shape := ⟨2, ![768, 1024]⟩
abbrev S768x1792 : Shape := ⟨2, ![768, 1792]⟩
abbrev S1024x1792 : Shape := ⟨2, ![1024, 1792]⟩

abbrev nBuf : Space → Nat
  | .hbm => 11
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x5376, .f32⟩
  | .hbm, ⟨2, _⟩ => ⟨S_, .f32⟩
  | .hbm, ⟨3, _⟩ => ⟨S240x1024, .f32⟩
  | .hbm, ⟨4, _⟩ => ⟨S8448x1024, .f32⟩
  | .hbm, ⟨5, _⟩ => ⟨S8448x1024, .bf16⟩
  | .hbm, ⟨6, _⟩ => ⟨S_, .f32⟩
  | .hbm, ⟨7, _⟩ => ⟨S240x5376, .f32⟩
  | .hbm, ⟨8, _⟩ => ⟨S8448x5376, .f32⟩
  | .hbm, ⟨9, _⟩ => ⟨S8448x5376, .bf16⟩
  | .hbm, ⟨10, _⟩ => ⟨S1024x5376, .f32⟩
  | .local _ .vmem, ⟨0, _⟩ => ⟨S768x1024, .bf16⟩
  | .local _ .vmem, ⟨1, _⟩ => ⟨S768x1024, .bf16⟩
  | .local _ .vmem, ⟨2, _⟩ => ⟨S768x1792, .bf16⟩
  | .local _ .vmem, ⟨3, _⟩ => ⟨S768x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8208x1024 : Shape := ⟨2, ![8208, 1024]⟩
abbrev S8208x5376 : Shape := ⟨2, ![8208, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x5376, .f32⟩
  | .hbm, ⟨2, _⟩ => ⟨S_, .f32⟩
  | .hbm, ⟨3, _⟩ => ⟨S1024x5376, .f32⟩
  | .hbm, ⟨4, _⟩ => ⟨S8208x5376, .f32⟩
  | .hbm, ⟨5, _⟩ => ⟨S5376x1024, .f32⟩
  | .hbm, ⟨6, _⟩ => ⟨S1024x5376, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DAct.lean ====
abbrev S2816x1024 : Shape := ⟨2, ![2816, 1024]⟩
abbrev S8208x1024 : Shape := ⟨2, ![8208, 1024]⟩
abbrev S_ : Shape := ⟨0, ![]⟩
abbrev S240x1024 : Shape := ⟨2, ![240, 1024]⟩
abbrev S8448x1024 : Shape := ⟨2, ![8448, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩
abbrev S768x1 : Shape := ⟨2, ![768, 1]⟩

abbrev nBuf : Space → Nat
  | .hbm => 7
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8208x1024, .f32⟩
  | .hbm, ⟨2, _⟩ => ⟨S_, .f32⟩
  | .hbm, ⟨3, _⟩ => ⟨S240x1024, .f32⟩
  | .hbm, ⟨4, _⟩ => ⟨S8448x1024, .f32⟩
  | .hbm, ⟨5, _⟩ => ⟨S2816x1024, .bf16⟩
  | .hbm, ⟨6, _⟩ => ⟨S8448x2816, .bf16⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .bf16⟩
  | .local _ .vmem, ⟨5, _⟩ => ⟨S768x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DActReferenceIdeal.lean ====
abbrev S2816x1024 : Shape := ⟨2, ![2816, 1024]⟩
abbrev S8208x1024 : Shape := ⟨2, ![8208, 1024]⟩
abbrev S_ : Shape := ⟨0, ![]⟩
abbrev S8208x2816 : Shape := ⟨2, ![8208, 2816]⟩
abbrev S240x2816 : Shape := ⟨2, ![240, 2816]⟩
abbrev S8448x2816 : Shape := ⟨2, ![8448, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8208x1024, .f32⟩
  | .hbm, ⟨2, _⟩ => ⟨S_, .f32⟩
  | .hbm, ⟨3, _⟩ => ⟨S8208x2816, .f32⟩
  | .hbm, ⟨4, _⟩ => ⟨S8208x1024, .f32⟩
  | .hbm, ⟨5, _⟩ => ⟨S8208x2816, .f32⟩
  | .hbm, ⟨6, _⟩ => ⟨S_, .f32⟩
  | .hbm, ⟨7, _⟩ => ⟨S240x2816, .f32⟩
  | .hbm, ⟨8, _⟩ => ⟨S8448x2816, .f32⟩
  | .hbm, ⟨9, _⟩ => ⟨S8448x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnDown.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩
abbrev S240x2816 : Shape := ⟨2, ![240, 2816]⟩
abbrev S8448x2816 : Shape := ⟨2, ![8448, 2816]⟩
abbrev S240x1024 : Shape := ⟨2, ![240, 1024]⟩
abbrev S8448x1024 : Shape := ⟨2, ![8448, 1024]⟩
abbrev S768x2816 : Shape := ⟨2, ![768, 2816]⟩
abbrev S768x1024 : Shape := ⟨2, ![768, 1024]⟩
abbrev S768x1 : Shape := ⟨2, ![768, 1]⟩

abbrev nBuf : Space → Nat
  | .hbm => 12
  | .vmem => 7
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S_, .f32⟩
  | .hbm, ⟨4, _⟩ => ⟨S240x2816, .f32⟩
  | .hbm, ⟨5, _⟩ => ⟨S8448x2816, .f32⟩
  | .hbm, ⟨6, _⟩ => ⟨S8448x2816, .bf16⟩
  | .hbm, ⟨7, _⟩ => ⟨S2816x1024, .bf16⟩
  | .hbm, ⟨8, _⟩ => ⟨S_, .f32⟩
  | .hbm, ⟨9, _⟩ => ⟨S240x1024, .f32⟩
  | .hbm, ⟨10, _⟩ => ⟨S8448x1024, .f32⟩
  | .hbm, ⟨11, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownReferenceIdeal.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩
abbrev S240x1024 : Shape := ⟨2, ![240, 1024]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S8208x1024, .f32⟩
  | .hbm, ⟨4, _⟩ => ⟨S8208x1024, .f32⟩
  | .hbm, ⟨5, _⟩ => ⟨S_, .f32⟩
  | .hbm, ⟨6, _⟩ => ⟨S240x1024, .f32⟩
  | .hbm, ⟨7, _⟩ => ⟨S8448x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnDh.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S240x5632 : Shape := ⟨2, ![240, 5632]⟩
abbrev S8448x5632 : Shape := ⟨2, ![8448, 5632]⟩
abbrev S240x1024 : Shape := ⟨2, ![240, 1024]⟩
abbrev S8448x1024 : Shape := ⟨2, ![8448, 1024]⟩
abbrev S1x1024 : Shape := ⟨2, ![1, 1024]⟩
abbrev S768x1408 : Shape := ⟨2, ![768, 1408]⟩
abbrev S1024x1408 : Shape := ⟨2, ![1024, 1408]⟩
abbrev S768x1024 : Shape := ⟨2, ![768, 1024]⟩
abbrev S768 : Shape := ⟨1, ![768]⟩
abbrev S768x1 : Shape := ⟨2, ![768, 1]⟩

abbrev nBuf : Space → Nat
  | .hbm => 19
  | .vmem => 13
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x5632, .f32⟩
  | .hbm, ⟨4, _⟩ => ⟨S8208x1024, .f32⟩
  | .hbm, ⟨5, _⟩ => ⟨S_, .f32⟩
  | .hbm, ⟨6, _⟩ => ⟨S240x5632, .f32⟩
  | .hbm, ⟨7, _⟩ => ⟨S8448x5632, .f32⟩
  | .hbm, ⟨8, _⟩ => ⟨S8448x5632, .bf16⟩
  | .hbm, ⟨9, _⟩ => ⟨S1024x5632, .bf16⟩
  | .hbm, ⟨10, _⟩ => ⟨S_, .f32⟩
  | .hbm, ⟨11, _⟩ => ⟨S240x1024, .f32⟩
  | .hbm, ⟨12, _⟩ => ⟨S8448x1024, .f32⟩
  | .hbm, ⟨13, _⟩ => ⟨S1x1024, .f32⟩
  | .hbm, ⟨14, _⟩ => ⟨S_, .f32⟩
  | .hbm, ⟨15, _⟩ => ⟨S240x1024, .f32⟩
  | .hbm, ⟨16, _⟩ => ⟨S8448x1024, .f32⟩
  | .hbm, ⟨17, _⟩ => ⟨S8448x1024, .f32⟩
  | .hbm, ⟨18, _⟩ => ⟨S1x1024, .f32⟩
  | .local _ .vmem, ⟨0, _⟩ => ⟨S768x1408, .bf16⟩
  | .local _ .vmem, ⟨1, _⟩ => ⟨S768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![11, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FfnDhReferenceIdeal.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S240x1024 : Shape := ⟨2, ![240, 1024]⟩
abbrev S8448x1024 : Shape := ⟨2, ![8448, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x5632, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x5632, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S_, .f32⟩
  | .hbm, ⟨54, _⟩ => ⟨S240x1024, .f32⟩
  | .hbm, ⟨55, _⟩ => ⟨S8448x1024, .f32⟩
  | .hbm, ⟨56, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== SsdDh.lean ====
abbrev S8208x1024 : Shape := ⟨2, ![8208, 1024]⟩
abbrev S1024 : Shape := ⟨1, ![1024]⟩
abbrev S1024x5376 : Shape := ⟨2, ![1024, 5376]⟩
abbrev S8208x5376 : Shape := ⟨2, ![8208, 5376]⟩
abbrev S_ : Shape := ⟨0, ![]⟩
abbrev S240x5376 : Shape := ⟨2, ![240, 5376]⟩
abbrev S8448x5376 : Shape := ⟨2, ![8448, 5376]⟩
abbrev S240x1024 : Shape := ⟨2, ![240, 1024]⟩
abbrev S8448x1024 : Shape := ⟨2, ![8448, 1024]⟩
abbrev S1x1024 : Shape := ⟨2, ![1, 1024]⟩
abbrev S768x1792 : Shape := ⟨2, ![768, 1792]⟩
abbrev S1024x1792 : Shape := ⟨2, ![1024, 1792]⟩
abbrev S768x1024 : Shape := ⟨2, ![768, 1024]⟩
abbrev S768 : Shape := ⟨1, ![768]⟩
abbrev S768x1 : Shape := ⟨2, ![768, 1]⟩

abbrev nBuf : Space → Nat
  | .hbm => 19
  | .vmem => 13
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5376, .f32⟩
  | .hbm, ⟨3, _⟩ => ⟨S8208x5376, .f32⟩
  | .hbm, ⟨4, _⟩ => ⟨S8208x1024, .f32⟩
  | .hbm, ⟨5, _⟩ => ⟨S_, .f32⟩
  | .hbm, ⟨6, _⟩ => ⟨S240x5376, .f32⟩
  | .hbm, ⟨7, _⟩ => ⟨S8448x5376, .f32⟩
  | .hbm, ⟨8, _⟩ => ⟨S8448x5376, .bf16⟩
  | .hbm, ⟨9, _⟩ => ⟨S1024x5376, .bf16⟩
  | .hbm, ⟨10, _⟩ => ⟨S_, .f32⟩
  | .hbm, ⟨11, _⟩ => ⟨S240x1024, .f32⟩
  | .hbm, ⟨12, _⟩ => ⟨S8448x1024, .f32⟩
  | .hbm, ⟨13, _⟩ => ⟨S1x1024, .f32⟩
  | .hbm, ⟨14, _⟩ => ⟨S_, .f32⟩
  | .hbm, ⟨15, _⟩ => ⟨S240x1024, .f32⟩
  | .hbm, ⟨16, _⟩ => ⟨S8448x1024, .f32⟩
  | .hbm, ⟨17, _⟩ => ⟨S8448x1024, .f32⟩
  | .hbm, ⟨18, _⟩ => ⟨S1x1024, .f32⟩
  | .local _ .vmem, ⟨0, _⟩ => ⟨S768x1792, .bf16⟩
  | .local _ .vmem, ⟨1, _⟩ => ⟨S768x1792, .bf16⟩
  | .local _ .vmem, ⟨2, _⟩ => ⟨S1024x1792, .bf16⟩
  | .local _ .vmem, ⟨3, _⟩ => ⟨S1024x1792, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![11, 3], ![false, false]⟩

def k0_cond3 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== SsdDhReferenceIdeal.lean ====
abbrev S8208x1024 : Shape := ⟨2, ![8208, 1024]⟩
abbrev S1024 : Shape := ⟨1, ![1024]⟩
abbrev S1024x5376 : Shape := ⟨2, ![1024, 5376]⟩
abbrev S8208x5376 : Shape := ⟨2, ![8208, 5376]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S240x1024 : Shape := ⟨2, ![240, 1024]⟩
abbrev S8448x1024 : Shape := ⟨2, ![8448, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5376, .f32⟩
  | .hbm, ⟨3, _⟩ => ⟨S8208x5376, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x5376, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S_, .f32⟩
  | .hbm, ⟨54, _⟩ => ⟨S240x1024, .f32⟩
  | .hbm, ⟨55, _⟩ => ⟨S8448x1024, .f32⟩
  | .hbm, ⟨56, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== FfnUp.lean ====
abbrev S8208x1024 : Shape := ⟨2, ![8208, 1024]⟩
abbrev S1024 : Shape := ⟨1, ![1024]⟩
abbrev S1024x5632 : Shape := ⟨2, ![1024, 5632]⟩
abbrev S_ : Shape := ⟨0, ![]⟩
abbrev S240x1024 : Shape := ⟨2, ![240, 1024]⟩
abbrev S8448x1024 : Shape := ⟨2, ![8448, 1024]⟩
abbrev S1x1024 : Shape := ⟨2, ![1, 1024]⟩
abbrev S8448x5632 : Shape := ⟨2, ![8448, 5632]⟩
abbrev S768x1024 : Shape := ⟨2, ![768, 1024]⟩
abbrev S1024x1408 : Shape := ⟨2, ![1024, 1408]⟩
abbrev S768x1408 : Shape := ⟨2, ![768, 1408]⟩
abbrev S768 : Shape := ⟨1, ![768]⟩
abbrev S768x1 : Shape := ⟨2, ![768, 1]⟩

abbrev nBuf : Space → Nat
  | .hbm => 10
  | .vmem => 9
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S_, .f32⟩
  | .hbm, ⟨4, _⟩ => ⟨S240x1024, .f32⟩
  | .hbm, ⟨5, _⟩ => ⟨S8448x1024, .f32⟩
  | .hbm, ⟨6, _⟩ => ⟨S1x1024, .f32⟩
  | .hbm, ⟨7, _⟩ => ⟨S1024x5632, .bf16⟩
  | .hbm, ⟨8, _⟩ => ⟨S8448x5632, .bf16⟩
  | .hbm, ⟨9, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1024, .bf16⟩
  | .local _ .vmem, ⟨8, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnUpReferenceIdeal.lean ====
abbrev S8208x1024 : Shape := ⟨2, ![8208, 1024]⟩
abbrev S1024 : Shape := ⟨1, ![1024]⟩
abbrev S1024x5632 : Shape := ⟨2, ![1024, 5632]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x5632 : Shape := ⟨2, ![8208, 5632]⟩
abbrev S240x5632 : Shape := ⟨2, ![240, 5632]⟩
abbrev S8448x5632 : Shape := ⟨2, ![8448, 5632]⟩
abbrev S240x1024 : Shape := ⟨2, ![240, 1024]⟩
abbrev S8448x1024 : Shape := ⟨2, ![8448, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S1x1024, .f32⟩
  | .hbm, ⟨17, _⟩ => ⟨S8208x1024, .f32⟩
  | .hbm, ⟨18, _⟩ => ⟨S8208x1024, .f32⟩
  | .hbm, ⟨19, _⟩ => ⟨S8208x5632, .f32⟩
  | .hbm, ⟨20, _⟩ => ⟨S_, .f32⟩
  | .hbm, ⟨21, _⟩ => ⟨S240x5632, .f32⟩
  | .hbm, ⟨22, _⟩ => ⟨S8448x5632, .f32⟩
  | .hbm, ⟨23, _⟩ => ⟨S8448x5632, .bf16⟩
  | .hbm, ⟨24, _⟩ => ⟨S_, .f32⟩
  | .hbm, ⟨25, _⟩ => ⟨S240x1024, .f32⟩
  | .hbm, ⟨26, _⟩ => ⟨S8448x1024, .f32⟩
  | .hbm, ⟨27, _⟩ => ⟨S8448x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== SsdIn.lean ====
abbrev S8208x1024 : Shape := ⟨2, ![8208, 1024]⟩
abbrev S1024 : Shape := ⟨1, ![1024]⟩
abbrev S1024x5376 : Shape := ⟨2, ![1024, 5376]⟩
abbrev S_ : Shape := ⟨0, ![]⟩
abbrev S240x1024 : Shape := ⟨2, ![240, 1024]⟩
abbrev S8448x1024 : Shape := ⟨2, ![8448, 1024]⟩
abbrev S1x1024 : Shape := ⟨2, ![1, 1024]⟩
abbrev S8448x5376 : Shape := ⟨2, ![8448, 5376]⟩
abbrev S768x1024 : Shape := ⟨2, ![768, 1024]⟩
abbrev S1024x1792 : Shape := ⟨2, ![1024, 1792]⟩
abbrev S768x1792 : Shape := ⟨2, ![768, 1792]⟩
abbrev S768 : Shape := ⟨1, ![768]⟩
abbrev S768x1 : Shape := ⟨2, ![768, 1]⟩

abbrev nBuf : Space → Nat
  | .hbm => 10
  | .vmem => 9
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5376, .f32⟩
  | .hbm, ⟨3, _⟩ => ⟨S_, .f32⟩
  | .hbm, ⟨4, _⟩ => ⟨S240x1024, .f32⟩
  | .hbm, ⟨5, _⟩ => ⟨S8448x1024, .f32⟩
  | .hbm, ⟨6, _⟩ => ⟨S1x1024, .f32⟩
  | .hbm, ⟨7, _⟩ => ⟨S1024x5376, .bf16⟩
  | .hbm, ⟨8, _⟩ => ⟨S8448x5376, .f32⟩
  | .hbm, ⟨9, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S768x1792, .f32⟩
  | .local _ .vmem, ⟨6, _⟩ => ⟨S768x1792, .f32⟩
  | .local _ .vmem, ⟨7, _⟩ => ⟨S768x1024, .bf16⟩
  | .local _ .vmem, ⟨8, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== SsdInReferenceIdeal.lean ====
abbrev S8208x1024 : Shape := ⟨2, ![8208, 1024]⟩
abbrev S1024 : Shape := ⟨1, ![1024]⟩
abbrev S1024x5376 : Shape := ⟨2, ![1024, 5376]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x5376 : Shape := ⟨2, ![8208, 5376]⟩
abbrev S240x5376 : Shape := ⟨2, ![240, 5376]⟩
abbrev S8448x5376 : Shape := ⟨2, ![8448, 5376]⟩
abbrev S240x1024 : Shape := ⟨2, ![240, 1024]⟩
abbrev S8448x1024 : Shape := ⟨2, ![8448, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5376, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S1x1024, .f32⟩
  | .hbm, ⟨17, _⟩ => ⟨S8208x1024, .f32⟩
  | .hbm, ⟨18, _⟩ => ⟨S8208x1024, .f32⟩
  | .hbm, ⟨19, _⟩ => ⟨S8208x5376, .f32⟩
  | .hbm, ⟨20, _⟩ => ⟨S_, .f32⟩
  | .hbm, ⟨21, _⟩ => ⟨S240x5376, .f32⟩
  | .hbm, ⟨22, _⟩ => ⟨S8448x5376, .f32⟩
  | .hbm, ⟨23, _⟩ => ⟨S_, .f32⟩
  | .hbm, ⟨24, _⟩ => ⟨S240x1024, .f32⟩
  | .hbm, ⟨25, _⟩ => ⟨S8448x1024, .f32⟩
  | .hbm, ⟨26, _⟩ => ⟨S8448x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Lift.lean ====
module

public import Idealize.ShloMosaic.Lib.Pointwise
public import Idealize.ShloMosaic.Lib.IdealHost
public import Idealize.ShloMosaic.Lib.WordCmp

/-! Lemmas that carry an expression over extended reals, all of whose leaves are real, to the expression over the
    reals. `lift_simps` rewriting goes from the leaves upwards. -/

@[expose] public section

noncomputable section
namespace Lift
open Idealize.ShloMosaic

/-- A finite sum of reals, taken over the extended reals. -/
theorem sum_coe {ι : Type} [Fintype ι] (g : ι → ℝ) : (∑ i, ((g i : ℝ) : EReal)) = ((∑ i, g i : ℝ) : EReal) := by
  induction (Finset.univ : Finset ι) using Finset.cons_induction with
  | empty => simp
  | cons a s h ih => rw [Finset.sum_cons, Finset.sum_cons, ih, EReal.coe_add]

/-- A choice between two reals, taken over the extended reals. -/
theorem ite_coe (p : Prop) [Decidable p] (a b : ℝ) :
    (if p then ((a : ℝ) : EReal) else ((b : ℝ) : EReal)) = ((if p then a else b : ℝ) : EReal) := by
  split <;> rfl

/-- A real divided by a real that is not zero, taken over the extended reals. -/
theorem div_coe' (x y : ℝ) (h : y ≠ 0) : Ideal.div (x : EReal) (y : EReal) = ((x / y : ℝ) : EReal) := by
  rw [Ideal.div_coe h, ← EReal.coe_mul]; congr 1; simp [div_eq_mul_inv]

/-- The maximum of two reals, taken over the extended reals. -/
theorem max_coe (a b : ℝ) : max (a : EReal) (b : EReal) = ((max a b : ℝ) : EReal) := (EReal.coe_strictMono.monotone.map_max).symm
/-- The minimum of two reals, taken over the extended reals. -/
theorem min_coe (a b : ℝ) : min (a : EReal) (b : EReal) = ((min a b : ℝ) : EReal) := (EReal.coe_strictMono.monotone.map_min).symm

/-- Zero is the real zero. -/
theorem zero_coe : (0 : EReal) = ((0 : ℝ) : EReal) := rfl
/-- One is the real one. -/
theorem one_coe : (1 : EReal) = ((1 : ℝ) : EReal) := rfl

/-- The f32 word of one half. -/
theorem bits_half : Ideal.ofBits .f32 0x3F000000#32 = ((1 / 2 : ℝ) : EReal) := by
  simp [Ideal.ofBits, Ideal.ieee, -EReal.coe_mul]; norm_num
/-- The f32 word of minus one half. -/
theorem bits_neg_half : Ideal.ofBits .f32 0xBF000000#32 = ((-(1 / 2) : ℝ) : EReal) := by
  simp [Ideal.ofBits, Ideal.ieee, -EReal.coe_mul, -EReal.coe_neg]; norm_num
/-- The f32 word of 512. -/
theorem bits_512 : Ideal.ofBits .f32 0x44000000#32 = ((512 : ℝ) : EReal) := by
  simp [Ideal.ofBits, Ideal.ieee, -EReal.coe_mul]; norm_num
/-- The f32 word of minus infinity. -/
theorem bits_bot : Ideal.ofBits .f32 0xFF800000#32 = (⊥ : EReal) := by
  simp [Ideal.ofBits, Ideal.ieee]
/-- The real the f32 word nearest to a millionth stands for. -/
def eps : ℝ := 8796093 / 8796093022208
/-- The f32 word nearest to a millionth. -/
theorem bits_eps : Ideal.ofBits .f32 0x358637BD#32 = ((eps : ℝ) : EReal) := by
  simp [Ideal.ofBits, Ideal.ieee, eps, -EReal.coe_mul]; norm_num
theorem eps_pos : 0 < eps := by unfold eps; norm_num

/-- The logarithm of one plus an exponential. -/
theorem log_coe' (x : ℝ) (h : 0 < x) : Ideal.log (x : EReal) = ((Real.log x : ℝ) : EReal) := by
  rw [Ideal.log_coe, if_neg (not_le.mpr h)]

/-- The reciprocal root of a positive real. -/
theorem rsqrt_coe' (x : ℝ) (h : 0 < x) : Ideal.rsqrt (x : EReal) = (((√x)⁻¹ : ℝ) : EReal) := by
  rw [Ideal.rsqrt_coe, if_neg (not_lt.mpr h.le), if_neg h.ne']

/-- The logistic function. -/
def sg (x : ℝ) : ℝ := (1 + Real.exp (-x))⁻¹

theorem tanh_sg (x : ℝ) : 1 / 2 * Real.tanh (1 / 2 * x) + 1 / 2 = sg x := by
  unfold sg
  rw [Real.tanh_eq_sinh_div_cosh, Real.sinh_eq, Real.cosh_eq]
  have h : Real.exp (-x) = Real.exp (-(1/2*x)) * Real.exp (-(1/2*x)) := by rw [← Real.exp_add]; ring_nf
  have hq : Real.exp (1/2*x) * Real.exp (-(1/2*x)) = 1 := by rw [← Real.exp_add]; simp
  have hp : 0 < Real.exp (1/2*x) := Real.exp_pos _
  have hn : 0 < Real.exp (-(1/2*x)) := Real.exp_pos _
  rw [h]
  generalize Real.exp (1/2*x) = p at *
  generalize Real.exp (-(1/2*x)) = n at *
  have : 0 < p + n := by positivity
  field_simp
  nlinarith [hq]

/-- A choice by a test that is a proposition's truth value. -/
theorem select_ite {α : Type} (p : Prop) [Decidable p] (a b : α) :
    Scalar.select (if p then 1#1 else 0#1) a b = if p then a else b := by
  split <;> simp [Scalar.select]

theorem select_ofBool {α : Type} (p : Bool) (a b : α) :
    Scalar.select (BitVec.ofBool p) a b = if p = true then a else b := by
  cases p <;> simp [Scalar.select]

theorem logistic_sg (x : ℝ) : Ideal.logistic (x : EReal) = ((sg x : ℝ) : EReal) := Ideal.logistic_coe x

/-- The logarithm of one plus an exponential, taken over the extended reals. -/
theorem log1p_exp (x : ℝ) : Ideal.log ((1 + Real.exp x : ℝ) : EReal) = ((Real.log (1 + Real.exp x) : ℝ) : EReal) :=
  log_coe' _ (by positivity)

/-- A real divided by 512. -/
theorem div_512 (x : ℝ) : Ideal.div (x : EReal) ((512 : ℝ) : EReal) = ((x / 512 : ℝ) : EReal) :=
  div_coe' x 512 (by norm_num)

/-- A truth value turned into a number. -/
theorem sitofp_bool (p : Bool) : FloatOps.sitofp (F := Ideal) FTy.f32 (BitVec.setWidth 32 (BitVec.ofBool p))
    = ((if p = true then 1 else 0 : ℝ) : EReal) := by
  cases p
  · show ((((BitVec.setWidth 32 (BitVec.ofBool false)).toInt : ℝ)) : EReal) = _
    simp
  · show ((((BitVec.setWidth 32 (BitVec.ofBool true)).toInt : ℝ)) : EReal) = _
    simp

/-- Two truth values joined. -/
theorem andi_bool (p q : Bool) : IntOp.andi (BitVec.ofBool p) (BitVec.ofBool q) = BitVec.ofBool (p && q) := by
  cases p <;> cases q <;> rfl

/-- Products of words of numbers. -/
theorem muli_ofNat (a b : ℕ) : IntOp.muli (BitVec.ofNat 32 a) (BitVec.ofNat 32 b) = BitVec.ofNat 32 (a * b) :=
  (BitVec.ofNat_mul ..).symm
/-- Sums of words of numbers. -/
theorem addi_ofNat (a b : ℕ) : IntOp.addi (BitVec.ofNat 32 a) (BitVec.ofNat 32 b) = BitVec.ofNat 32 (a + b) :=
  (BitVec.ofNat_add ..).symm

/-- What carries sums, products and choices of reals over to the reals: for `simp only`, from the leaves upwards. -/
theorem up : (0 : EReal) = ((0 : ℝ) : EReal) ∧ (1 : EReal) = ((1 : ℝ) : EReal)
    ∧ Ideal.ofBits .f32 0x3F000000#32 = ((1 / 2 : ℝ) : EReal) ∧ Ideal.ofBits .f32 0x44000000#32 = ((512 : ℝ) : EReal)
    ∧ Ideal.ofBits .f32 0x358637BD#32 = ((eps : ℝ) : EReal)
    ∧ (∀ x y : ℝ, (x : EReal) * (y : EReal) = ((x * y : ℝ) : EReal)) ∧ (∀ x y : ℝ, (x : EReal) + (y : EReal) = ((x + y : ℝ) : EReal))
    ∧ (∀ x y : ℝ, (x : EReal) - (y : EReal) = ((x - y : ℝ) : EReal)) ∧ (∀ x : ℝ, -(x : EReal) = ((-x : ℝ) : EReal))
    ∧ (∀ x : ℝ, Ideal.exp (x : EReal) = ((Real.exp x : ℝ) : EReal))
    ∧ (∀ {ι : Type} [Fintype ι] (g : ι → ℝ), (∑ i, ((g i : ℝ) : EReal)) = ((∑ i, g i : ℝ) : EReal))
    ∧ (∀ (p : Prop) [Decidable p] (a b : ℝ), (if p then ((a : ℝ) : EReal) else ((b : ℝ) : EReal)) = ((if p then a else b : ℝ) : EReal))
    ∧ (∀ a b : ℝ, max (a : EReal) (b : EReal) = ((max a b : ℝ) : EReal))
    ∧ (∀ {α : Type} (p : Bool) (a b : α), Scalar.select (BitVec.ofBool p) a b = if p = true then a else b)
    ∧ (∀ (p : Prop) [Decidable p], (decide p = true) = p) ∧ ∀ a : Ideal .f32, FloatOps.absf a = max a (-a) :=
  ⟨zero_coe, one_coe, bits_half, bits_512, bits_eps, fun x y => (EReal.coe_mul x y).symm, fun x y => (EReal.coe_add x y).symm,
    fun x y => (EReal.coe_sub x y).symm, fun x => (EReal.coe_neg x).symm, fun _ => rfl, sum_coe, ite_coe, max_coe, select_ofBool,
    fun _ _ => decide_eq_true_eq, fun _ => rfl⟩

/-- The same for the functions only the body has. -/
theorem body : (∀ x : ℝ, Ideal.tanh (x : EReal) = ((Real.tanh x : ℝ) : EReal))
    ∧ ∀ a b : ℝ, min (a : EReal) (b : EReal) = ((min a b : ℝ) : EReal) := ⟨fun _ => rfl, min_coe⟩

/-- The same for the body's logarithm, quotient and logistic function, and its words. -/
theorem words : (∀ x : ℝ, Ideal.log ((1 + Real.exp x : ℝ) : EReal) = ((Real.log (1 + Real.exp x) : ℝ) : EReal))
    ∧ (∀ x : ℝ, Ideal.div (x : EReal) ((512 : ℝ) : EReal) = ((x / 512 : ℝ) : EReal))
    ∧ (∀ x : ℝ, 1 / 2 * Real.tanh (1 / 2 * x) + 1 / 2 = sg x)
    ∧ (∀ p : Bool, FloatOps.sitofp (F := Ideal) FTy.f32 (BitVec.setWidth 32 (BitVec.ofBool p)) = ((if p = true then 1 else 0 : ℝ) : EReal))
    ∧ (∀ p q : Bool, IntOp.andi (BitVec.ofBool p) (BitVec.ofBool q) = BitVec.ofBool (p && q))
    ∧ (∀ a b : ℕ, IntOp.muli (BitVec.ofNat 32 a) (BitVec.ofNat 32 b) = BitVec.ofNat 32 (a * b))
    ∧ ∀ a b : ℕ, IntOp.addi (BitVec.ofNat 32 a) (BitVec.ofNat 32 b) = BitVec.ofNat 32 (a + b) :=
  ⟨log1p_exp, div_512, tanh_sg, sitofp_bool, andi_bool, muli_ofNat, addi_ofNat⟩

end Lift
-- ==== Proof.HostK.lean ====
/-
  The arrays the host computes before the call, each written as the host's own operation on earlier ones.
-/
module

public import proofs.«01_k».proof.Proof.Lift
public import proofs.«01_k».proof.Proof.Gen.KernelIdeal.Value
public import Idealize.ShloMosaic.Lib.StableHlo.RunRead

@[expose] public section

set_option maxRecDepth 65536
noncomputable section

namespace Cert.KernelIdeal.Host

open Cert.KernelIdeal Cert.KernelIdeal.Gen Idealize.ShloMosaic Idealize.ShloMosaic.TcCoe

/-- The eight arguments. -/
structure Args where
  a0 : FVec Ideal S8208x3072 .f32
  a1 : FVec Ideal S8208x2048 .f32
  a2 : FVec Ideal S8208x32 .f32
  a3 : FVec Ideal S32 .f32
  a4 : FVec Ideal S32 .f32
  a5 : FVec Ideal S32 .f32
  a6 : FVec Ideal S2048 .f32
  a7 : FVec Ideal S8208x2048 .f32

def h_cst (A : Args) : FVec Ideal S_ .f32 :=
  constant S_ .f32 0x00000000#32
def h_v0 (A : Args) : FVec Ideal S240x3072 .f32 :=
  (broadcastInDim S240x3072 ![] bcast_S_S240x3072 : FVec Ideal S_ .f32 → FVec Ideal S240x3072 .f32) (h_cst A)
def h_v1 (A : Args) : FVec Ideal S8448x3072 .f32 :=
  ((fun a b => concatenate S8448x3072 0 [⟨S240x3072, a⟩, ⟨S8208x3072, b⟩] concatenates_S240x3072_S8208x3072_S8448x3072_d0) : FVec Ideal S240x3072 .f32 → FVec Ideal S8208x3072 .f32 → FVec Ideal S8448x3072 .f32) (h_v0 A) (A.a0)
def h_cst_0 (A : Args) : FVec Ideal S_ .f32 :=
  constant S_ .f32 0x00000000#32
def h_v2 (A : Args) : FVec Ideal S240x32 .f32 :=
  (broadcastInDim S240x32 ![] bcast_S_S240x32 : FVec Ideal S_ .f32 → FVec Ideal S240x32 .f32) (h_cst_0 A)
def h_v3 (A : Args) : FVec Ideal S8448x32 .f32 :=
  ((fun a b => concatenate S8448x32 0 [⟨S240x32, a⟩, ⟨S8208x32, b⟩] concatenates_S240x32_S8208x32_S8448x32_d0) : FVec Ideal S240x32 .f32 → FVec Ideal S8208x32 .f32 → FVec Ideal S8448x32 .f32) (h_v2 A) (A.a2)
def h_v4 (A : Args) : FVec Ideal S8448x2048 .f32 :=
  ((extractStridedSlice S8448x2048 ![0, 0] · slices_S8448x3072_S8448x2048_0_0) : FVec Ideal S8448x3072 .f32 → FVec Ideal S8448x2048 .f32) (h_v1 A)
def h_v5 (A : Args) : FVec Ideal S8448x512 .f32 :=
  ((extractStridedSlice S8448x512 ![0, 2048] · slices_S8448x3072_S8448x512_0_2048) : FVec Ideal S8448x3072 .f32 → FVec Ideal S8448x512 .f32) (h_v1 A)
def h_v6 (A : Args) : FVec Ideal S8448x512 .f32 :=
  ((extractStridedSlice S8448x512 ![0, 2560] · slices_S8448x3072_S8448x512_0_2560) : FVec Ideal S8448x3072 .f32 → FVec Ideal S8448x512 .f32) (h_v1 A)
def h_v7 (A : Args) : FVec Ideal S8448x4x8x64 .f32 :=
  shapeCast S8448x4x8x64 (h_v4 A) shapeCasts_S8448x2048_S8448x4x8x64
def h_v8 (A : Args) : FVec Ideal S8448x4x128 .f32 :=
  shapeCast S8448x4x128 (h_v5 A) shapeCasts_S8448x512_S8448x4x128
def h_v9 (A : Args) : FVec Ideal S8448x4x128 .f32 :=
  shapeCast S8448x4x128 (h_v6 A) shapeCasts_S8448x512_S8448x4x128
def h_v10 (A : Args) : IVec S8448 32 :=
  iotaInDim S8448 32 0
def h_c (A : Args) : IVec S_ 32 :=
  constantI S_ 32 240#32
def h_v11 (A : Args) : IVec S8448 32 :=
  (broadcastInDim S8448 ![] bcast_S_S8448 : IVec S_ 32 → IVec S8448 32) (h_c A)
def h_v12 (A : Args) : IVec S8448 1 :=
  (cmpi .sge : IVec S8448 32 → IVec S8448 32 → IVec S8448 1) (h_v10 A) (h_v11 A)
def h_v13 (A : Args) : IVec S8448x1 1 :=
  (broadcastInDim S8448x1 ![0] bcast_S8448_S8448x1_0 : IVec S8448 1 → IVec S8448x1 1) (h_v12 A)
def h_v14 (A : Args) : FVec Ideal S1x32 .f32 :=
  (broadcastInDim S1x32 ![1] bcast_S32_S1x32_1 : FVec Ideal S32 .f32 → FVec Ideal S1x32 .f32) (A.a3)
def h_v15 (A : Args) : FVec Ideal S8448x32 .f32 :=
  (broadcastInDim S8448x32 ![0, 1] bcast_S1x32_S8448x32_0_1 : FVec Ideal S1x32 .f32 → FVec Ideal S8448x32 .f32) (h_v14 A)
def h_v16 (A : Args) : FVec Ideal S8448x32 .f32 :=
  (addf : FVec Ideal S8448x32 .f32 → FVec Ideal S8448x32 .f32 → FVec Ideal S8448x32 .f32) (h_v3 A) (h_v15 A)
def h_call0_cst (A : Args) : FVec Ideal S_ .f32 :=
  constant S_ .f32 0x00000000#32
def h_call0_v0 (A : Args) : FVec Ideal S8448x32 .f32 :=
  (broadcastInDim S8448x32 ![] bcast_S_S8448x32) (h_call0_cst A)
def h_call0_v1 (A : Args) : FVec Ideal S8448x32 .f32 :=
  maximumf (h_v16 A) (h_call0_v0 A)
def h_call0_v2 (A : Args) : FVec Ideal S8448x32 .f32 :=
  (broadcastInDim S8448x32 ![] bcast_S_S8448x32) (h_call0_cst A)
def h_call0_v3 (A : Args) : FVec Ideal S8448x32 .f32 :=
  subf (h_v16 A) (h_call0_v2 A)
def h_call0_v4 (A : Args) : IVec S8448x32 1 :=
  (cmpf .une) (h_call0_v3 A) (h_call0_v3 A)
def h_call0_v5 (A : Args) : FVec Ideal S8448x32 .f32 :=
  (broadcastInDim S8448x32 ![] bcast_S_S8448x32) (h_call0_cst A)
def h_call0_v6 (A : Args) : FVec Ideal S8448x32 .f32 :=
  addf (h_v16 A) (h_call0_v5 A)
def h_call0_v7 (A : Args) : FVec Ideal S8448x32 .f32 :=
  Host.absf (h_call0_v3 A)
def h_call0_v8 (A : Args) : FVec Ideal S8448x32 .f32 :=
  Host.negf (h_call0_v7 A)
def h_call0_v9 (A : Args) : FVec Ideal S8448x32 .f32 :=
  Host.exp (h_call0_v8 A)
def h_call0_v10 (A : Args) : FVec Ideal S8448x32 .f32 :=
  Host.log1p (h_call0_v9 A)
def h_call0_v11 (A : Args) : FVec Ideal S8448x32 .f32 :=
  addf (h_call0_v1 A) (h_call0_v10 A)
def h_v17 (A : Args) : FVec Ideal S8448x32 .f32 :=
  select (h_call0_v4 A) (h_call0_v6 A) (h_call0_v11 A)
def h_cst_1 (A : Args) : FVec Ideal S_ .f32 :=
  constant S_ .f32 0x00000000#32
def h_call1_v0 (A : Args) : FVec Ideal S_ .f32 :=
  id (h_cst_1 A)
def h_call1_v1 (A : Args) : IVec S8448x32 1 :=
  (broadcastInDim S8448x32 ![0, 1] bcast_S8448x1_S8448x32_0_1) (h_v13 A)
def h_call1_v2 (A : Args) : FVec Ideal S8448x32 .f32 :=
  (broadcastInDim S8448x32 ![] bcast_S_S8448x32) (h_call1_v0 A)
def h_v18 (A : Args) : FVec Ideal S8448x32 .f32 :=
  select (h_call1_v1 A) (h_v17 A) (h_call1_v2 A)
def h_v19 (A : Args) : FVec Ideal S8448x4x8 .f32 :=
  shapeCast S8448x4x8 (h_v18 A) shapeCasts_S8448x32_S8448x4x8
def h_v20 (A : Args) : FVec Ideal S32 .f32 :=
  (Host.exp : FVec Ideal S32 .f32 → FVec Ideal S32 .f32) (A.a4)
def h_v21 (A : Args) : FVec Ideal S4x8 .f32 :=
  shapeCast S4x8 (h_v20 A) shapeCasts_S32_S4x8
def h_v22 (A : Args) : FVec Ideal S4x8 .f32 :=
  (Host.negf : FVec Ideal S4x8 .f32 → FVec Ideal S4x8 .f32) (h_v21 A)
def h_v23 (A : Args) : FVec Ideal S8448x4x8x1 .f32 :=
  (broadcastInDim S8448x4x8x1 ![0, 1, 2] bcast_S8448x4x8_S8448x4x8x1_0_1_2 : FVec Ideal S8448x4x8 .f32 → FVec Ideal S8448x4x8x1 .f32) (h_v19 A)
def h_v24 (A : Args) : FVec Ideal S8448x4x8x64 .f32 :=
  (broadcastInDim S8448x4x8x64 ![0, 1, 2, 3] bcast_S8448x4x8x1_S8448x4x8x64_0_1_2_3 : FVec Ideal S8448x4x8x1 .f32 → FVec Ideal S8448x4x8x64 .f32) (h_v23 A)
def h_v25 (A : Args) : FVec Ideal S8448x4x8x64 .f32 :=
  (mulf : FVec Ideal S8448x4x8x64 .f32 → FVec Ideal S8448x4x8x64 .f32 → FVec Ideal S8448x4x8x64 .f32) (h_v7 A) (h_v24 A)
def h_v26 (A : Args) : IVec S8448 32 :=
  iotaInDim S8448 32 0
def h_v27 (A : Args) : IVec S8448x1 32 :=
  (broadcastInDim S8448x1 ![0] bcast_S8448_S8448x1_0 : IVec S8448 32 → IVec S8448x1 32) (h_v26 A)
def h_v28 (A : Args) : IVec S8448 32 :=
  iotaInDim S8448 32 0
def h_v29 (A : Args) : IVec S1x8448 32 :=
  (broadcastInDim S1x8448 ![1] bcast_S8448_S1x8448_1 : IVec S8448 32 → IVec S1x8448 32) (h_v28 A)
def h_v30 (A : Args) : IVec S8448x8448 32 :=
  (broadcastInDim S8448x8448 ![0, 1] bcast_S8448x1_S8448x8448_0_1 : IVec S8448x1 32 → IVec S8448x8448 32) (h_v27 A)
def h_v31 (A : Args) : IVec S8448x8448 32 :=
  (broadcastInDim S8448x8448 ![0, 1] bcast_S1x8448_S8448x8448_0_1 : IVec S1x8448 32 → IVec S8448x8448 32) (h_v29 A)
def h_v32 (A : Args) : IVec S8448x8448 1 :=
  (cmpi .sge : IVec S8448x8448 32 → IVec S8448x8448 32 → IVec S8448x8448 1) (h_v30 A) (h_v31 A)
def h_v33 (A : Args) : FVec Ideal S1x4x8 .f32 :=
  (broadcastInDim S1x4x8 ![1, 2] bcast_S4x8_S1x4x8_1_2 : FVec Ideal S4x8 .f32 → FVec Ideal S1x4x8 .f32) (h_v22 A)
def h_v34 (A : Args) : FVec Ideal S8448x4x8 .f32 :=
  (broadcastInDim S8448x4x8 ![0, 1, 2] bcast_S1x4x8_S8448x4x8_0_1_2 : FVec Ideal S1x4x8 .f32 → FVec Ideal S8448x4x8 .f32) (h_v33 A)
def h_v35 (A : Args) : FVec Ideal S8448x4x8 .f32 :=
  (mulf : FVec Ideal S8448x4x8 .f32 → FVec Ideal S8448x4x8 .f32 → FVec Ideal S8448x4x8 .f32) (h_v19 A) (h_v34 A)
def h_v36 (A : Args) : FVec Ideal S4x8x8448 .f32 :=
  ((transpose S4x8x8448 [1, 2, 0] · transposes_S8448x4x8_S4x8x8448_1_2_0) : FVec Ideal S8448x4x8 .f32 → FVec Ideal S4x8x8448 .f32) (h_v35 A)
def h_v37 (A : Args) : FVec Ideal S4x8x1x8448 .f32 :=
  (broadcastInDim S4x8x1x8448 ![0, 1, 3] bcast_S4x8x8448_S4x8x1x8448_0_1_3 : FVec Ideal S4x8x8448 .f32 → FVec Ideal S4x8x1x8448 .f32) (h_v36 A)
def h_cst_2 (A : Args) : FVec Ideal S_ .f32 :=
  constant S_ .f32 0x00000000#32
def h_call2_v0 (A : Args) : FVec Ideal S_ .f32 :=
  id (h_cst_2 A)
def h_call2_v1 (A : Args) : IVec S4x8x8448x8448 1 :=
  (broadcastInDim S4x8x8448x8448 ![2, 3] bcast_S8448x8448_S4x8x8448x8448_2_3) (h_v32 A)
def h_call2_v2 (A : Args) : FVec Ideal S4x8x8448x8448 .f32 :=
  (broadcastInDim S4x8x8448x8448 ![0, 1, 2, 3] bcast_S4x8x1x8448_S4x8x8448x8448_0_1_2_3) (h_v37 A)
def h_call2_v3 (A : Args) : FVec Ideal S4x8x8448x8448 .f32 :=
  (broadcastInDim S4x8x8448x8448 ![] bcast_S_S4x8x8448x8448) (h_call2_v0 A)
def h_v38 (A : Args) : FVec Ideal S4x8x8448x8448 .f32 :=
  select (h_call2_v1 A) (h_call2_v2 A) (h_call2_v3 A)
def h_cst_3 (A : Args) : FVec Ideal S_ .f32 :=
  constant S_ .f32 0x00000000#32
def h_v39 (A : Args) : FVec Ideal S4x8x8448 .f32 :=
  ((fun x v => Host.reduceAdd x v reducesTo_S4x8x8448x8448_S4x8x8448_d3 h_S_) : FVec Ideal S4x8x8448x8448 .f32 → FVec Ideal S_ .f32 → FVec Ideal S4x8x8448 .f32) (h_v38 A) (h_cst_3 A)
def h_v40 (A : Args) : FVec Ideal S4x8x8448x1 .f32 :=
  (broadcastInDim S4x8x8448x1 ![0, 1, 2] bcast_S4x8x8448_S4x8x8448x1_0_1_2 : FVec Ideal S4x8x8448 .f32 → FVec Ideal S4x8x8448x1 .f32) (h_v39 A)
def h_v41 (A : Args) : FVec Ideal S4x8x1x8448 .f32 :=
  (broadcastInDim S4x8x1x8448 ![0, 1, 3] bcast_S4x8x8448_S4x8x1x8448_0_1_3 : FVec Ideal S4x8x8448 .f32 → FVec Ideal S4x8x1x8448 .f32) (h_v39 A)
def h_v42 (A : Args) : FVec Ideal S4x8x8448x8448 .f32 :=
  (broadcastInDim S4x8x8448x8448 ![0, 1, 2, 3] bcast_S4x8x8448x1_S4x8x8448x8448_0_1_2_3 : FVec Ideal S4x8x8448x1 .f32 → FVec Ideal S4x8x8448x8448 .f32) (h_v40 A)
def h_v43 (A : Args) : FVec Ideal S4x8x8448x8448 .f32 :=
  (broadcastInDim S4x8x8448x8448 ![0, 1, 2, 3] bcast_S4x8x1x8448_S4x8x8448x8448_0_1_2_3 : FVec Ideal S4x8x1x8448 .f32 → FVec Ideal S4x8x8448x8448 .f32) (h_v41 A)
def h_v44 (A : Args) : FVec Ideal S4x8x8448x8448 .f32 :=
  (subf : FVec Ideal S4x8x8448x8448 .f32 → FVec Ideal S4x8x8448x8448 .f32 → FVec Ideal S4x8x8448x8448 .f32) (h_v42 A) (h_v43 A)
def h_cst_4 (A : Args) : FVec Ideal S_ .f32 :=
  constant S_ .f32 0xFF800000#32
def h_call3_v0 (A : Args) : FVec Ideal S_ .f32 :=
  id (h_cst_4 A)
def h_call3_v1 (A : Args) : IVec S4x8x8448x8448 1 :=
  (broadcastInDim S4x8x8448x8448 ![2, 3] bcast_S8448x8448_S4x8x8448x8448_2_3) (h_v32 A)
def h_call3_v2 (A : Args) : FVec Ideal S4x8x8448x8448 .f32 :=
  (broadcastInDim S4x8x8448x8448 ![] bcast_S_S4x8x8448x8448) (h_call3_v0 A)
def h_v45 (A : Args) : FVec Ideal S4x8x8448x8448 .f32 :=
  select (h_call3_v1 A) (h_v44 A) (h_call3_v2 A)
def h_v46 (A : Args) : FVec Ideal S4x8x8448x8448 .f32 :=
  (Host.exp : FVec Ideal S4x8x8448x8448 .f32 → FVec Ideal S4x8x8448x8448 .f32) (h_v45 A)
def h_v47 (A : Args) : FVec Ideal S4x8448x8448 .f32 :=
  ((fun l r => Host.dotGeneral dot_S8448x4x128_S8448x4x128_S4x8448x8448_2_2_0_0_1_1 none l r) : FVec Ideal S8448x4x128 .f32 → FVec Ideal S8448x4x128 .f32 → FVec Ideal S4x8448x8448 .f32) (h_v9 A) (h_v8 A)
def h_v48 (A : Args) : FVec Ideal S4x1x8448x8448 .f32 :=
  (broadcastInDim S4x1x8448x8448 ![0, 2, 3] bcast_S4x8448x8448_S4x1x8448x8448_0_2_3 : FVec Ideal S4x8448x8448 .f32 → FVec Ideal S4x1x8448x8448 .f32) (h_v47 A)
def h_v49 (A : Args) : FVec Ideal S4x8x8448x8448 .f32 :=
  (broadcastInDim S4x8x8448x8448 ![0, 1, 2, 3] bcast_S4x1x8448x8448_S4x8x8448x8448_0_1_2_3 : FVec Ideal S4x1x8448x8448 .f32 → FVec Ideal S4x8x8448x8448 .f32) (h_v48 A)
def h_v50 (A : Args) : FVec Ideal S4x8x8448x8448 .f32 :=
  (mulf : FVec Ideal S4x8x8448x8448 .f32 → FVec Ideal S4x8x8448x8448 .f32 → FVec Ideal S4x8x8448x8448 .f32) (h_v49 A) (h_v46 A)
def h_v51 (A : Args) : FVec Ideal S4x8x64x8448 .f32 :=
  ((fun l r => Host.dotGeneral dot_S8448x4x8x64_S4x8x8448x8448_S4x8x64x8448_0_3_3_2_12_01 none l r) : FVec Ideal S8448x4x8x64 .f32 → FVec Ideal S4x8x8448x8448 .f32 → FVec Ideal S4x8x64x8448 .f32) (h_v25 A) (h_v50 A)
def h_v52 (A : Args) : FVec Ideal S8448x4x8x64 .f32 :=
  ((transpose S8448x4x8x64 [3, 0, 1, 2] · transposes_S4x8x64x8448_S8448x4x8x64_3_0_1_2) : FVec Ideal S4x8x64x8448 .f32 → FVec Ideal S8448x4x8x64 .f32) (h_v51 A)
def h_v53 (A : Args) : FVec Ideal S4x8 .f32 :=
  shapeCast S4x8 (A.a5) shapeCasts_S32_S4x8
def h_v54 (A : Args) : FVec Ideal S4x8x1 .f32 :=
  (broadcastInDim S4x8x1 ![0, 1] bcast_S4x8_S4x8x1_0_1 : FVec Ideal S4x8 .f32 → FVec Ideal S4x8x1 .f32) (h_v53 A)
def h_v55 (A : Args) : FVec Ideal S1x4x8x1 .f32 :=
  (broadcastInDim S1x4x8x1 ![1, 2, 3] bcast_S4x8x1_S1x4x8x1_1_2_3 : FVec Ideal S4x8x1 .f32 → FVec Ideal S1x4x8x1 .f32) (h_v54 A)
def h_v56 (A : Args) : FVec Ideal S8448x4x8x64 .f32 :=
  (broadcastInDim S8448x4x8x64 ![0, 1, 2, 3] bcast_S1x4x8x1_S8448x4x8x64_0_1_2_3 : FVec Ideal S1x4x8x1 .f32 → FVec Ideal S8448x4x8x64 .f32) (h_v55 A)
def h_v57 (A : Args) : FVec Ideal S8448x4x8x64 .f32 :=
  (mulf : FVec Ideal S8448x4x8x64 .f32 → FVec Ideal S8448x4x8x64 .f32 → FVec Ideal S8448x4x8x64 .f32) (h_v7 A) (h_v56 A)
def h_v58 (A : Args) : FVec Ideal S8448x4x8x64 .f32 :=
  (addf : FVec Ideal S8448x4x8x64 .f32 → FVec Ideal S8448x4x8x64 .f32 → FVec Ideal S8448x4x8x64 .f32) (h_v52 A) (h_v57 A)
def h_v59 (A : Args) : FVec Ideal S8448x2048 .f32 :=
  shapeCast S8448x2048 (h_v58 A) shapeCasts_S8448x4x8x64_S8448x2048
def h_v60 (A : Args) : FVec Ideal S8448x4x8x64 .f32 :=
  shapeCast S8448x4x8x64 (h_v4 A) shapeCasts_S8448x2048_S8448x4x8x64
def h_v61 (A : Args) : FVec Ideal S8448x4x128 .f32 :=
  shapeCast S8448x4x128 (h_v5 A) shapeCasts_S8448x512_S8448x4x128
def h_v62 (A : Args) : IVec S8448 32 :=
  iotaInDim S8448 32 0
def h_c_5 (A : Args) : IVec S_ 32 :=
  constantI S_ 32 240#32
def h_v63 (A : Args) : IVec S8448 32 :=
  (broadcastInDim S8448 ![] bcast_S_S8448 : IVec S_ 32 → IVec S8448 32) (h_c_5 A)
def h_v64 (A : Args) : IVec S8448 1 :=
  (cmpi .sge : IVec S8448 32 → IVec S8448 32 → IVec S8448 1) (h_v62 A) (h_v63 A)
def h_v65 (A : Args) : IVec S8448x1 1 :=
  (broadcastInDim S8448x1 ![0] bcast_S8448_S8448x1_0 : IVec S8448 1 → IVec S8448x1 1) (h_v64 A)
def h_v66 (A : Args) : FVec Ideal S1x32 .f32 :=
  (broadcastInDim S1x32 ![1] bcast_S32_S1x32_1 : FVec Ideal S32 .f32 → FVec Ideal S1x32 .f32) (A.a3)
def h_v67 (A : Args) : FVec Ideal S8448x32 .f32 :=
  (broadcastInDim S8448x32 ![0, 1] bcast_S1x32_S8448x32_0_1 : FVec Ideal S1x32 .f32 → FVec Ideal S8448x32 .f32) (h_v66 A)
def h_v68 (A : Args) : FVec Ideal S8448x32 .f32 :=
  (addf : FVec Ideal S8448x32 .f32 → FVec Ideal S8448x32 .f32 → FVec Ideal S8448x32 .f32) (h_v3 A) (h_v67 A)
def h_call4_cst (A : Args) : FVec Ideal S_ .f32 :=
  constant S_ .f32 0x00000000#32
def h_call4_v0 (A : Args) : FVec Ideal S8448x32 .f32 :=
  (broadcastInDim S8448x32 ![] bcast_S_S8448x32) (h_call4_cst A)
def h_call4_v1 (A : Args) : FVec Ideal S8448x32 .f32 :=
  maximumf (h_v68 A) (h_call4_v0 A)
def h_call4_v2 (A : Args) : FVec Ideal S8448x32 .f32 :=
  (broadcastInDim S8448x32 ![] bcast_S_S8448x32) (h_call4_cst A)
def h_call4_v3 (A : Args) : FVec Ideal S8448x32 .f32 :=
  subf (h_v68 A) (h_call4_v2 A)
def h_call4_v4 (A : Args) : IVec S8448x32 1 :=
  (cmpf .une) (h_call4_v3 A) (h_call4_v3 A)
def h_call4_v5 (A : Args) : FVec Ideal S8448x32 .f32 :=
  (broadcastInDim S8448x32 ![] bcast_S_S8448x32) (h_call4_cst A)
def h_call4_v6 (A : Args) : FVec Ideal S8448x32 .f32 :=
  addf (h_v68 A) (h_call4_v5 A)
def h_call4_v7 (A : Args) : FVec Ideal S8448x32 .f32 :=
  Host.absf (h_call4_v3 A)
def h_call4_v8 (A : Args) : FVec Ideal S8448x32 .f32 :=
  Host.negf (h_call4_v7 A)
def h_call4_v9 (A : Args) : FVec Ideal S8448x32 .f32 :=
  Host.exp (h_call4_v8 A)
def h_call4_v10 (A : Args) : FVec Ideal S8448x32 .f32 :=
  Host.log1p (h_call4_v9 A)
def h_call4_v11 (A : Args) : FVec Ideal S8448x32 .f32 :=
  addf (h_call4_v1 A) (h_call4_v10 A)
def h_v69 (A : Args) : FVec Ideal S8448x32 .f32 :=
  select (h_call4_v4 A) (h_call4_v6 A) (h_call4_v11 A)
def h_cst_6 (A : Args) : FVec Ideal S_ .f32 :=
  constant S_ .f32 0x00000000#32
def h_call5_v0 (A : Args) : FVec Ideal S_ .f32 :=
  id (h_cst_6 A)
def h_call5_v1 (A : Args) : IVec S8448x32 1 :=
  (broadcastInDim S8448x32 ![0, 1] bcast_S8448x1_S8448x32_0_1) (h_v65 A)
def h_call5_v2 (A : Args) : FVec Ideal S8448x32 .f32 :=
  (broadcastInDim S8448x32 ![] bcast_S_S8448x32) (h_call5_v0 A)
def h_v70 (A : Args) : FVec Ideal S8448x32 .f32 :=
  select (h_call5_v1 A) (h_v69 A) (h_call5_v2 A)
def h_v71 (A : Args) : FVec Ideal S8448x4x8 .f32 :=
  shapeCast S8448x4x8 (h_v70 A) shapeCasts_S8448x32_S8448x4x8
def h_v72 (A : Args) : FVec Ideal S32 .f32 :=
  (Host.exp : FVec Ideal S32 .f32 → FVec Ideal S32 .f32) (A.a4)
def h_v73 (A : Args) : FVec Ideal S4x8 .f32 :=
  shapeCast S4x8 (h_v72 A) shapeCasts_S32_S4x8
def h_v74 (A : Args) : FVec Ideal S4x8 .f32 :=
  (Host.negf : FVec Ideal S4x8 .f32 → FVec Ideal S4x8 .f32) (h_v73 A)
def h_v75 (A : Args) : IVec S8448 32 :=
  iotaInDim S8448 32 0
def h_v76 (A : Args) : IVec S8448x1 32 :=
  (broadcastInDim S8448x1 ![0] bcast_S8448_S8448x1_0 : IVec S8448 32 → IVec S8448x1 32) (h_v75 A)
def h_v77 (A : Args) : IVec S8448 32 :=
  iotaInDim S8448 32 0
def h_v78 (A : Args) : IVec S1x8448 32 :=
  (broadcastInDim S1x8448 ![1] bcast_S8448_S1x8448_1 : IVec S8448 32 → IVec S1x8448 32) (h_v77 A)
def h_v79 (A : Args) : IVec S8448x8448 32 :=
  (broadcastInDim S8448x8448 ![0, 1] bcast_S8448x1_S8448x8448_0_1 : IVec S8448x1 32 → IVec S8448x8448 32) (h_v76 A)
def h_v80 (A : Args) : IVec S8448x8448 32 :=
  (broadcastInDim S8448x8448 ![0, 1] bcast_S1x8448_S8448x8448_0_1 : IVec S1x8448 32 → IVec S8448x8448 32) (h_v78 A)
def h_v81 (A : Args) : IVec S8448x8448 1 :=
  (cmpi .sge : IVec S8448x8448 32 → IVec S8448x8448 32 → IVec S8448x8448 1) (h_v79 A) (h_v80 A)
def h_v82 (A : Args) : IVec S8448 32 :=
  iotaInDim S8448 32 0
def h_v83 (A : Args) : IVec S1x8448 32 :=
  (broadcastInDim S1x8448 ![1] bcast_S8448_S1x8448_1 : IVec S8448 32 → IVec S1x8448 32) (h_v82 A)
def h_v84 (A : Args) : IVec S33 32 :=
  iotaInDim S33 32 0
def h_v85 (A : Args) : IVec S33x1 32 :=
  (broadcastInDim S33x1 ![0] bcast_S33_S33x1_0 : IVec S33 32 → IVec S33x1 32) (h_v84 A)
def h_c_7 (A : Args) : IVec S_ 32 :=
  constantI S_ 32 256#32
def h_v86 (A : Args) : IVec S33x1 32 :=
  (broadcastInDim S33x1 ![] bcast_S_S33x1 : IVec S_ 32 → IVec S33x1 32) (h_c_7 A)
def h_v87 (A : Args) : IVec S33x1 32 :=
  (muli : IVec S33x1 32 → IVec S33x1 32 → IVec S33x1 32) (h_v86 A) (h_v85 A)
def h_v88 (A : Args) : IVec S33x8448 32 :=
  (broadcastInDim S33x8448 ![0, 1] bcast_S1x8448_S33x8448_0_1 : IVec S1x8448 32 → IVec S33x8448 32) (h_v83 A)
def h_v89 (A : Args) : IVec S33x8448 32 :=
  (broadcastInDim S33x8448 ![0, 1] bcast_S33x1_S33x8448_0_1 : IVec S33x1 32 → IVec S33x8448 32) (h_v87 A)
def h_v90 (A : Args) : IVec S33x8448 1 :=
  (cmpi .slt : IVec S33x8448 32 → IVec S33x8448 32 → IVec S33x8448 1) (h_v88 A) (h_v89 A)
def h_v91 (A : Args) : FVec Ideal S1x4x8 .f32 :=
  (broadcastInDim S1x4x8 ![1, 2] bcast_S4x8_S1x4x8_1_2 : FVec Ideal S4x8 .f32 → FVec Ideal S1x4x8 .f32) (h_v74 A)
def h_v92 (A : Args) : FVec Ideal S8448x4x8 .f32 :=
  (broadcastInDim S8448x4x8 ![0, 1, 2] bcast_S1x4x8_S8448x4x8_0_1_2 : FVec Ideal S1x4x8 .f32 → FVec Ideal S8448x4x8 .f32) (h_v91 A)
def h_v93 (A : Args) : FVec Ideal S8448x4x8 .f32 :=
  (mulf : FVec Ideal S8448x4x8 .f32 → FVec Ideal S8448x4x8 .f32 → FVec Ideal S8448x4x8 .f32) (h_v71 A) (h_v92 A)
def h_v94 (A : Args) : FVec Ideal S4x8x8448 .f32 :=
  ((transpose S4x8x8448 [1, 2, 0] · transposes_S8448x4x8_S4x8x8448_1_2_0) : FVec Ideal S8448x4x8 .f32 → FVec Ideal S4x8x8448 .f32) (h_v93 A)
def h_v95 (A : Args) : FVec Ideal S4x8x1x8448 .f32 :=
  (broadcastInDim S4x8x1x8448 ![0, 1, 3] bcast_S4x8x8448_S4x8x1x8448_0_1_3 : FVec Ideal S4x8x8448 .f32 → FVec Ideal S4x8x1x8448 .f32) (h_v94 A)
def h_cst_8 (A : Args) : FVec Ideal S_ .f32 :=
  constant S_ .f32 0x00000000#32
def h_call6_v0 (A : Args) : FVec Ideal S_ .f32 :=
  id (h_cst_8 A)
def h_call6_v1 (A : Args) : IVec S4x8x8448x8448 1 :=
  (broadcastInDim S4x8x8448x8448 ![2, 3] bcast_S8448x8448_S4x8x8448x8448_2_3) (h_v81 A)
def h_call6_v2 (A : Args) : FVec Ideal S4x8x8448x8448 .f32 :=
  (broadcastInDim S4x8x8448x8448 ![0, 1, 2, 3] bcast_S4x8x1x8448_S4x8x8448x8448_0_1_2_3) (h_v95 A)
def h_call6_v3 (A : Args) : FVec Ideal S4x8x8448x8448 .f32 :=
  (broadcastInDim S4x8x8448x8448 ![] bcast_S_S4x8x8448x8448) (h_call6_v0 A)
def h_v96 (A : Args) : FVec Ideal S4x8x8448x8448 .f32 :=
  select (h_call6_v1 A) (h_call6_v2 A) (h_call6_v3 A)
def h_cst_9 (A : Args) : FVec Ideal S_ .f32 :=
  constant S_ .f32 0x00000000#32
def h_v97 (A : Args) : FVec Ideal S4x8x8448 .f32 :=
  ((fun x v => Host.reduceAdd x v reducesTo_S4x8x8448x8448_S4x8x8448_d3 h_S_) : FVec Ideal S4x8x8448x8448 .f32 → FVec Ideal S_ .f32 → FVec Ideal S4x8x8448 .f32) (h_v96 A) (h_cst_9 A)
def h_v98 (A : Args) : FVec Ideal S1x4x8 .f32 :=
  (broadcastInDim S1x4x8 ![1, 2] bcast_S4x8_S1x4x8_1_2 : FVec Ideal S4x8 .f32 → FVec Ideal S1x4x8 .f32) (h_v74 A)
def h_v99 (A : Args) : FVec Ideal S8448x4x8 .f32 :=
  (broadcastInDim S8448x4x8 ![0, 1, 2] bcast_S1x4x8_S8448x4x8_0_1_2 : FVec Ideal S1x4x8 .f32 → FVec Ideal S8448x4x8 .f32) (h_v98 A)
def h_v100 (A : Args) : FVec Ideal S8448x4x8 .f32 :=
  (mulf : FVec Ideal S8448x4x8 .f32 → FVec Ideal S8448x4x8 .f32 → FVec Ideal S8448x4x8 .f32) (h_v71 A) (h_v99 A)
def h_v101 (A : Args) : FVec Ideal S4x8x8448 .f32 :=
  ((transpose S4x8x8448 [1, 2, 0] · transposes_S8448x4x8_S4x8x8448_1_2_0) : FVec Ideal S8448x4x8 .f32 → FVec Ideal S4x8x8448 .f32) (h_v100 A)
def h_v102 (A : Args) : FVec Ideal S4x8x1x8448 .f32 :=
  (broadcastInDim S4x8x1x8448 ![0, 1, 3] bcast_S4x8x8448_S4x8x1x8448_0_1_3 : FVec Ideal S4x8x8448 .f32 → FVec Ideal S4x8x1x8448 .f32) (h_v101 A)
def h_cst_10 (A : Args) : FVec Ideal S_ .f32 :=
  constant S_ .f32 0x00000000#32
def h_call7_v0 (A : Args) : FVec Ideal S_ .f32 :=
  id (h_cst_10 A)
def h_call7_v1 (A : Args) : IVec S4x8x33x8448 1 :=
  (broadcastInDim S4x8x33x8448 ![2, 3] bcast_S33x8448_S4x8x33x8448_2_3) (h_v90 A)
def h_call7_v2 (A : Args) : FVec Ideal S4x8x33x8448 .f32 :=
  (broadcastInDim S4x8x33x8448 ![0, 1, 2, 3] bcast_S4x8x1x8448_S4x8x33x8448_0_1_2_3) (h_v102 A)
def h_call7_v3 (A : Args) : FVec Ideal S4x8x33x8448 .f32 :=
  (broadcastInDim S4x8x33x8448 ![] bcast_S_S4x8x33x8448) (h_call7_v0 A)
def h_v103 (A : Args) : FVec Ideal S4x8x33x8448 .f32 :=
  select (h_call7_v1 A) (h_call7_v2 A) (h_call7_v3 A)
def h_cst_11 (A : Args) : FVec Ideal S_ .f32 :=
  constant S_ .f32 0x00000000#32
def h_v104 (A : Args) : FVec Ideal S4x8x33 .f32 :=
  ((fun x v => Host.reduceAdd x v reducesTo_S4x8x33x8448_S4x8x33_d3 h_S_) : FVec Ideal S4x8x33x8448 .f32 → FVec Ideal S_ .f32 → FVec Ideal S4x8x33 .f32) (h_v103 A) (h_cst_11 A)
def h_v105 (A : Args) : FVec Ideal S4x8x33x1 .f32 :=
  (broadcastInDim S4x8x33x1 ![0, 1, 2] bcast_S4x8x33_S4x8x33x1_0_1_2 : FVec Ideal S4x8x33 .f32 → FVec Ideal S4x8x33x1 .f32) (h_v104 A)
def h_v106 (A : Args) : FVec Ideal S4x8x1x8448 .f32 :=
  (broadcastInDim S4x8x1x8448 ![0, 1, 3] bcast_S4x8x8448_S4x8x1x8448_0_1_3 : FVec Ideal S4x8x8448 .f32 → FVec Ideal S4x8x1x8448 .f32) (h_v97 A)
def h_v107 (A : Args) : FVec Ideal S4x8x33x8448 .f32 :=
  (broadcastInDim S4x8x33x8448 ![0, 1, 2, 3] bcast_S4x8x33x1_S4x8x33x8448_0_1_2_3 : FVec Ideal S4x8x33x1 .f32 → FVec Ideal S4x8x33x8448 .f32) (h_v105 A)
def h_v108 (A : Args) : FVec Ideal S4x8x33x8448 .f32 :=
  (broadcastInDim S4x8x33x8448 ![0, 1, 2, 3] bcast_S4x8x1x8448_S4x8x33x8448_0_1_2_3 : FVec Ideal S4x8x1x8448 .f32 → FVec Ideal S4x8x33x8448 .f32) (h_v106 A)
def h_v109 (A : Args) : FVec Ideal S4x8x33x8448 .f32 :=
  (subf : FVec Ideal S4x8x33x8448 .f32 → FVec Ideal S4x8x33x8448 .f32 → FVec Ideal S4x8x33x8448 .f32) (h_v107 A) (h_v108 A)
def h_cst_12 (A : Args) : FVec Ideal S_ .f32 :=
  constant S_ .f32 0xFF800000#32
def h_call8_v0 (A : Args) : FVec Ideal S_ .f32 :=
  id (h_cst_12 A)
def h_call8_v1 (A : Args) : IVec S4x8x33x8448 1 :=
  (broadcastInDim S4x8x33x8448 ![2, 3] bcast_S33x8448_S4x8x33x8448_2_3) (h_v90 A)
def h_call8_v2 (A : Args) : FVec Ideal S4x8x33x8448 .f32 :=
  (broadcastInDim S4x8x33x8448 ![] bcast_S_S4x8x33x8448) (h_call8_v0 A)
def h_v110 (A : Args) : FVec Ideal S4x8x33x8448 .f32 :=
  select (h_call8_v1 A) (h_v109 A) (h_call8_v2 A)
def h_v111 (A : Args) : FVec Ideal S4x8x33x8448 .f32 :=
  (Host.exp : FVec Ideal S4x8x33x8448 .f32 → FVec Ideal S4x8x33x8448 .f32) (h_v110 A)
def h_v112 (A : Args) : FVec Ideal S4x8x33x8448x1 .f32 :=
  (broadcastInDim S4x8x33x8448x1 ![0, 1, 2, 3] bcast_S4x8x33x8448_S4x8x33x8448x1_0_1_2_3 : FVec Ideal S4x8x33x8448 .f32 → FVec Ideal S4x8x33x8448x1 .f32) (h_v111 A)
def h_v113 (A : Args) : FVec Ideal S8448x4x8x1 .f32 :=
  (broadcastInDim S8448x4x8x1 ![0, 1, 2] bcast_S8448x4x8_S8448x4x8x1_0_1_2 : FVec Ideal S8448x4x8 .f32 → FVec Ideal S8448x4x8x1 .f32) (h_v71 A)
def h_v114 (A : Args) : FVec Ideal S8448x4x8x64 .f32 :=
  (broadcastInDim S8448x4x8x64 ![0, 1, 2, 3] bcast_S8448x4x8x1_S8448x4x8x64_0_1_2_3 : FVec Ideal S8448x4x8x1 .f32 → FVec Ideal S8448x4x8x64 .f32) (h_v113 A)
def h_v115 (A : Args) : FVec Ideal S8448x4x8x64 .f32 :=
  (mulf : FVec Ideal S8448x4x8x64 .f32 → FVec Ideal S8448x4x8x64 .f32 → FVec Ideal S8448x4x8x64 .f32) (h_v60 A) (h_v114 A)
def h_v116 (A : Args) : FVec Ideal S4x8x8448x64 .f32 :=
  ((transpose S4x8x8448x64 [1, 2, 0, 3] · transposes_S8448x4x8x64_S4x8x8448x64_1_2_0_3) : FVec Ideal S8448x4x8x64 .f32 → FVec Ideal S4x8x8448x64 .f32) (h_v115 A)
def h_v117 (A : Args) : FVec Ideal S4x8x1x8448x64 .f32 :=
  (broadcastInDim S4x8x1x8448x64 ![0, 1, 3, 4] bcast_S4x8x8448x64_S4x8x1x8448x64_0_1_3_4 : FVec Ideal S4x8x8448x64 .f32 → FVec Ideal S4x8x1x8448x64 .f32) (h_v116 A)
def h_v118 (A : Args) : FVec Ideal S4x8x33x8448x64 .f32 :=
  (broadcastInDim S4x8x33x8448x64 ![0, 1, 2, 3, 4] bcast_S4x8x33x8448x1_S4x8x33x8448x64_0_1_2_3_4 : FVec Ideal S4x8x33x8448x1 .f32 → FVec Ideal S4x8x33x8448x64 .f32) (h_v112 A)
def h_v119 (A : Args) : FVec Ideal S4x8x33x8448x64 .f32 :=
  (broadcastInDim S4x8x33x8448x64 ![0, 1, 2, 3, 4] bcast_S4x8x1x8448x64_S4x8x33x8448x64_0_1_2_3_4 : FVec Ideal S4x8x1x8448x64 .f32 → FVec Ideal S4x8x33x8448x64 .f32) (h_v117 A)
def h_v120 (A : Args) : FVec Ideal S4x8x33x8448x64 .f32 :=
  (mulf : FVec Ideal S4x8x33x8448x64 .f32 → FVec Ideal S4x8x33x8448x64 .f32 → FVec Ideal S4x8x33x8448x64 .f32) (h_v118 A) (h_v119 A)
def h_v121 (A : Args) : FVec Ideal S4x8x33x64x128 .f32 :=
  ((fun l r => Host.dotGeneral dot_S4x8x33x8448x64_S8448x4x128_S4x8x33x64x128_3_0_124_2_0_1 none l r) : FVec Ideal S4x8x33x8448x64 .f32 → FVec Ideal S8448x4x128 .f32 → FVec Ideal S4x8x33x64x128 .f32) (h_v120 A) (h_v61 A)
def h_v122 (A : Args) : FVec Ideal S33x4x128x8x64 .f32 :=
  ((transpose S33x4x128x8x64 [2, 0, 4, 1, 3] · transposes_S4x8x33x64x128_S33x4x128x8x64_2_0_4_1_3) : FVec Ideal S4x8x33x64x128 .f32 → FVec Ideal S33x4x128x8x64 .f32) (h_v121 A)
def h_v123 (A : Args) : FVec Ideal S33x4x128x512 .f32 :=
  shapeCast S33x4x128x512 (h_v122 A) shapeCasts_S33x4x128x8x64_S33x4x128x512
def h_v124 (A : Args) : FVec Ideal S1x32 .f32 :=
  (broadcastInDim S1x32 ![1] bcast_S32_S1x32_1 : FVec Ideal S32 .f32 → FVec Ideal S1x32 .f32) (A.a3)
def h_v125 (A : Args) : FVec Ideal S1x32 .f32 :=
  (broadcastInDim S1x32 ![1] bcast_S32_S1x32_1 : FVec Ideal S32 .f32 → FVec Ideal S1x32 .f32) (A.a4)
def h_v126 (A : Args) : FVec Ideal S1x32 .f32 :=
  (broadcastInDim S1x32 ![1] bcast_S32_S1x32_1 : FVec Ideal S32 .f32 → FVec Ideal S1x32 .f32) (A.a5)
def h_v127 (A : Args) : FVec Ideal S3x32 .f32 :=
  concatenate S3x32 0 [⟨S1x32, h_v124 A⟩, ⟨S1x32, h_v125 A⟩, ⟨S1x32, h_v126 A⟩] concatenates_S1x32_S1x32_S1x32_S3x32_d0
def h_v128 (A : Args) : FVec Ideal S3x4x8 .f32 :=
  shapeCast S3x4x8 (h_v127 A) shapeCasts_S3x32_S3x4x8
def h_v129 (A : Args) : FVec Ideal S4x3x8 .f32 :=
  ((transpose S4x3x8 [1, 0, 2] · transposes_S3x4x8_S4x3x8_1_0_2) : FVec Ideal S3x4x8 .f32 → FVec Ideal S4x3x8 .f32) (h_v128 A)
def h_c_13 (A : Args) : IVec S_ 32 :=
  constantI S_ 32 0#32
def h_call9_v0 (A : Args) : FVec Ideal S_ .f32 :=
  (sitofp .f32) (h_c_13 A)
def h_v130 (A : Args) : FVec Ideal S4x8x8 .f32 :=
  (fun x v => pad S4x8x8 ![0, 0, 0] ![0, 5, 0] ![0, 0, 0] x v pads_S4x3x8_S4x8x8_000_050_000 h_S_) (h_v129 A) (h_call9_v0 A)
def h_v131 (A : Args) : FVec Ideal S8448x4x8 .f32 :=
  shapeCast S8448x4x8 (h_v3 A) shapeCasts_S8448x32_S8448x4x8
def h_v132 (A : Args) : FVec Ideal S4x8448x8 .f32 :=
  ((transpose S4x8448x8 [1, 0, 2] · transposes_S8448x4x8_S4x8448x8_1_0_2) : FVec Ideal S8448x4x8 .f32 → FVec Ideal S4x8448x8 .f32) (h_v131 A)
def h_cst_14 (A : Args) : FVec Ideal S_ .f32 :=
  constant S_ .f32 0x00000000#32
def h_v133 (A : Args) : FVec Ideal S240x2048 .f32 :=
  (broadcastInDim S240x2048 ![] bcast_S_S240x2048 : FVec Ideal S_ .f32 → FVec Ideal S240x2048 .f32) (h_cst_14 A)
def h_v134 (A : Args) : FVec Ideal S8448x2048 .f32 :=
  ((fun a b => concatenate S8448x2048 0 [⟨S240x2048, a⟩, ⟨S8208x2048, b⟩] concatenates_S240x2048_S8208x2048_S8448x2048_d0) : FVec Ideal S240x2048 .f32 → FVec Ideal S8208x2048 .f32 → FVec Ideal S8448x2048 .f32) (h_v133 A) (A.a1)
def h_v135 (A : Args) : FVec Ideal S1x2048 .f32 :=
  shapeCast S1x2048 (A.a6) shapeCasts_S2048_S1x2048
def h_cst_15 (A : Args) : FVec Ideal S_ .f32 :=
  constant S_ .f32 0x00000000#32
def h_v136 (A : Args) : FVec Ideal S240x2048 .f32 :=
  (broadcastInDim S240x2048 ![] bcast_S_S240x2048 : FVec Ideal S_ .f32 → FVec Ideal S240x2048 .f32) (h_cst_15 A)
def h_v137 (A : Args) : FVec Ideal S8448x2048 .f32 :=
  ((fun a b => concatenate S8448x2048 0 [⟨S240x2048, a⟩, ⟨S8208x2048, b⟩] concatenates_S240x2048_S8208x2048_S8448x2048_d0) : FVec Ideal S240x2048 .f32 → FVec Ideal S8208x2048 .f32 → FVec Ideal S8448x2048 .f32) (h_v136 A) (A.a7)
def h_v138 (A : Args) : FVec Ideal S8448x2048 .bf16 :=
  ((truncf .bf16 · bitsLt_bf16_f32) : FVec Ideal S8448x2048 .f32 → FVec Ideal S8448x2048 .bf16) (h_v137 A)

end Cert.KernelIdeal.Host
-- ==== Proof.HostRead.lean ====
/-
  What the call's input arrays hold when it is reached: the host's terms of the eight arguments.
-/
module

public import proofs.«01_k».proof.Proof.HostK

@[expose] public section

set_option maxRecDepth 65536
set_option maxHeartbeats 4000000
noncomputable section

namespace Cert.KernelIdeal.Host

open Cert.KernelIdeal Cert.KernelIdeal.Gen Idealize.ShloMosaic Idealize.ShloMosaic.TcCoe

variable (m : (ℓ : Loc nD τ sig) → Buf (Elt Ideal) ℓ) (c : Dev nD)

/-- The arguments as the memory `m` holds them on chip `c`. -/
def argsOf : Args :=
  ⟨m (c, main_arg0), m (c, main_arg1), m (c, main_arg2), m (c, main_arg3), m (c, main_arg4), m (c, main_arg5),
   m (c, main_arg6), m (c, main_arg7)⟩

/-- The padded x, B and C columns. -/
theorem V_v1 : V m c main_v1 = h_v1 (argsOf m c) := by
  unfold V
  after_reads_simp
  rfl

/-- The forward output y. -/
theorem V_v59 : V m c main_v59 = h_v59 (argsOf m c) := by
  unfold V
  after_reads_simp
  rfl

/-- The entry states. -/
theorem V_v123 : V m c main_v123 = h_v123 (argsOf m c) := by
  unfold V
  after_reads_simp
  rfl

/-- The three parameter rows. -/
theorem V_v130 : V m c main_v130 = h_v130 (argsOf m c) := by
  unfold V
  after_reads_simp
  rfl

/-- The padded raw steps. -/
theorem V_v132 : V m c main_v132 = h_v132 (argsOf m c) := by
  unfold V
  after_reads_simp
  rfl

/-- The padded z. -/
theorem V_v134 : V m c main_v134 = h_v134 (argsOf m c) := by
  unfold V
  after_reads_simp
  rfl

/-- The gate row. -/
theorem V_v135 : V m c main_v135 = h_v135 (argsOf m c) := by
  unfold V
  after_reads_simp
  rfl

/-- The padded output gradient. -/
theorem V_v138 : V m c main_v138 = h_v138 (argsOf m c) := by
  unfold V
  after_reads_simp
  rfl

end Cert.KernelIdeal.Host
-- ==== Proof.BlockSpec.lean ====
module

public import proofs.«01_k».proof.Proof.Lift

/-! What one grid step of the kernel computes, over the reals: a block of 256 rows of one group of eight heads. Rows,
    lanes, state coordinates and heads are natural numbers; lane `q` belongs to head `q / 64`. -/

@[expose] public section

noncomputable section
namespace Blk

/-- The arrays a grid step reads: the rows' inputs `x`, `b`, `c`, `z`, `dtr`, the rows of the forward output `y` and of
    the cotangent `ct`; the group's parameters; the state `st` entering the block; the state gradient `ds` coming from
    the later blocks; and the number `row` of the block's first row. -/
structure In where
  x : ℕ → ℕ → ℝ
  b : ℕ → ℕ → ℝ
  c : ℕ → ℕ → ℝ
  z : ℕ → ℕ → ℝ
  dtr : ℕ → ℕ → ℝ
  y : ℕ → ℕ → ℝ
  ct : ℕ → ℕ → ℝ
  bias : ℕ → ℝ
  alog : ℕ → ℝ
  dsk : ℕ → ℝ
  gate : ℕ → ℝ
  st : ℕ → ℕ → ℝ
  ds : ℕ → ℕ → ℝ
  row : ℕ

/-- The softplus in the form both programs compute it. -/
def sp (t : ℝ) : ℝ := max t 0 + Real.log (1 + Real.exp (0 - max t (-t)))

variable (B : In)

/-- The step before the softplus. -/
def pre (r e : ℕ) : ℝ := B.dtr r e + B.bias e
/-- The step. -/
def dt (r e : ℕ) : ℝ := if 240 ≤ B.row + r then sp (pre B r e) else 0
/-- The decay rate. -/
def a (e : ℕ) : ℝ := -Real.exp (B.alog e)
/-- The running sum of the log decays inside the block. -/
def cs (r e : ℕ) : ℝ := ∑ s : Fin 256, if (s : ℕ) ≤ r then dt B s e * a B e else 0
/-- The block's whole log decay. -/
def tot (e : ℕ) : ℝ := ∑ s : Fin 256, dt B s e * a B e
/-- The decay from a row to the block's end. -/
def dte (r e : ℕ) : ℝ := Real.exp (min (tot B e - cs B r e) 0)
/-- The decay from the block's start to a row. -/
def ecs (r e : ℕ) : ℝ := Real.exp (cs B r e)
/-- The decay over the block. -/
def dec (e : ℕ) : ℝ := Real.exp (tot B e)
/-- The inputs scaled by their steps. -/
def xdt (r q : ℕ) : ℝ := B.x r q * dt B r (q / 64)
/-- The products of rows of `c` and `b`. -/
def gm (l s : ℕ) : ℝ := ∑ n : Fin 128, B.c l n * B.b s n
/-- The gate. -/
def silu (r q : ℕ) : ℝ := B.z r q * Lift.sg (B.z r q)
/-- The gated output. -/
def hg (r q : ℕ) : ℝ := B.y r q * silu B r q
/-- The mean square of a row of the group. -/
def var (r : ℕ) : ℝ := (∑ q : Fin 512, hg B r q * hg B r q) / 512 + Lift.eps
/-- Its reciprocal root. -/
def rs (r : ℕ) : ℝ := (√(var B r))⁻¹
/-- The normalised row. -/
def hhat (r q : ℕ) : ℝ := hg B r q * rs B r
/-- The block's share of the norm weight's gradient. -/
def dgg (q : ℕ) : ℝ := ∑ r : Fin 256, B.ct r q * hhat B r q
/-- The gradient of the normalised row. -/
def dhh (r q : ℕ) : ℝ := B.ct r q * B.gate q
/-- The gradient of the gated output. -/
def dhg (r q : ℕ) : ℝ := rs B r * (dhh B r q - hhat B r q * ((∑ k : Fin 512, dhh B r k * hhat B r k) / 512))
/-- The gradient of the forward output. -/
def dy (r q : ℕ) : ℝ := dhg B r q * silu B r q
/-- The gradient of the gate's input. -/
def dz (r q : ℕ) : ℝ :=
  dhg B r q * B.y r q * Lift.sg (B.z r q) * (1 + B.z r q * (1 - Lift.sg (B.z r q)))
/-- The gradient of the forward output, decayed from the block's start. -/
def dye (r q : ℕ) : ℝ := dy B r q * ecs B r (q / 64)
/-- What the later blocks give to the gradient of the scaled inputs. -/
def dxs (s q : ℕ) : ℝ := (∑ n : Fin 128, B.b s n * B.ds n q) * dte B s (q / 64)
/-- The decay between two rows of the block. -/
def decay (l s e : ℕ) : ℝ := if s ≤ l then Real.exp (min (cs B l e - cs B s e) 0) else 0
/-- The gradient of the product of rows of `c` and `b`, one head. -/
def dm (l s e : ℕ) : ℝ := (∑ p : Fin 64, dy B l (64 * e + p) * xdt B s (64 * e + p)) * decay B l s e
/-- The same summed over the first `j` heads. -/
def dg (j l s : ℕ) : ℝ := ∑ e ∈ Finset.range j, dm B l s e
/-- What the block itself gives to the gradient of the scaled inputs. -/
def dxi (s q : ℕ) : ℝ := ∑ l : Fin 256, gm B l s * decay B l s (q / 64) * dy B l q
/-- The gradient of the scaled inputs. -/
def dxdt (s q : ℕ) : ℝ := dxi B s q + dxs B s q
/-- The gradient of `c`. -/
def dc (l n : ℕ) : ℝ := (∑ s : Fin 256, dg B 8 l s * B.b s n) + ∑ q : Fin 512, dye B l q * B.st n q
/-- The gradient of `b`. -/
def db (s n : ℕ) : ℝ :=
  (∑ l : Fin 256, dg B 8 l s * B.c l n) + ∑ q : Fin 512, xdt B s q * dte B s (q / 64) * B.ds n q
/-- The state gradient handed to the earlier block. -/
def ds' (n q : ℕ) : ℝ := B.ds n q * dec B (q / 64) + ∑ l : Fin 256, B.c l n * dye B l q
/-- The pairs inside the block whose decay passes row `l`. -/
def dac (l e : ℕ) : ℝ :=
  ∑ s : Fin 256, if (s : ℕ) < l then (∑ k : Fin 256, (if l ≤ (k : ℕ) then 1 else 0) * (dm B k s e * gm B k s)) else 0
/-- The part of the forward output that the entering state gives. -/
def yoff (l q : ℕ) : ℝ := (∑ n : Fin 128, B.c l n * B.st n q) * ecs B l (q / 64)
/-- Pairs of an earlier block and this one. -/
def da1 (l e : ℕ) : ℝ :=
  ∑ k : Fin 256, (if l ≤ (k : ℕ) then 1 else 0) * ∑ p : Fin 64, dy B k (64 * e + p) * yoff B k (64 * e + p)
/-- Pairs of this block and a later one. -/
def da2 (l e : ℕ) : ℝ :=
  ∑ k : Fin 256, (if (k : ℕ) < l then 1 else 0) * ∑ p : Fin 64, xdt B k (64 * e + p) * dxs B k (64 * e + p)
/-- Pairs of an earlier block and a later one. -/
def da3 (e : ℕ) : ℝ :=
  dec B e * ∑ p : Fin 64, ∑ n : Fin 128, B.ds n (64 * e + p) * B.st n (64 * e + p)
/-- The gradient of the log decay at a row. -/
def da (l e : ℕ) : ℝ := dac B l e + da1 B l e + da2 B l e + da3 B e
/-- The gradient of the step before the softplus. -/
def ddtr (r e : ℕ) : ℝ :=
  if 240 ≤ B.row + r then
    (da B r e * a B e + ∑ p : Fin 64, dxdt B r (64 * e + p) * B.x r (64 * e + p)) * Lift.sg (pre B r e)
  else 0
/-- The gradient of the inputs. -/
def dx (r q : ℕ) : ℝ := dxdt B r q * dt B r (q / 64) + dy B r q * B.dsk (q / 64)
/-- The block's share of the bias's gradient. -/
def dbias (e : ℕ) : ℝ := ∑ r : Fin 256, ddtr B r e
/-- The block's share of the log decay rate's gradient. -/
def dalog (e : ℕ) : ℝ := (∑ r : Fin 256, da B r e * dt B r e) * a B e
/-- The block's share of the skip weight's gradient. -/
def ddsk (e : ℕ) : ℝ := ∑ p : Fin 64, ∑ r : Fin 256, dy B r (64 * e + p) * B.x r (64 * e + p)

/-- A sum over eight heads against the indicator of a lane's head is the head's summand. -/
theorem pick (f : ℕ → ℝ) (q : ℕ) (hq : q < 512) :
    (∑ e : Fin 8, f e * (if q / 64 = (e : ℕ) then 1 else 0)) = f (q / 64) := by
  rw [Finset.sum_eq_single (⟨q / 64, by omega⟩ : Fin 8)]
  · simp
  · intro e _ h
    rw [if_neg (fun h' => h (Fin.ext h'.symm)), mul_zero]
  · simp

/-- A sum over `n` lanes of which those of head `e` count is the sum over the head's lanes. -/
theorem lanes (n : ℕ) (f : ℕ → ℝ) (e : ℕ) (he : 64 * (e + 1) ≤ n) :
    (∑ q : Fin n, if (q : ℕ) / 64 = e then f q else 0) = ∑ p : Fin 64, f (64 * e + p) := by
  rw [Fin.sum_univ_eq_sum_range (fun q => if q / 64 = e then f q else 0), ← Finset.sum_filter,
    Fin.sum_univ_eq_sum_range (fun p => f (64 * e + p))]
  symm
  refine Finset.sum_bij' (fun p _ => 64 * e + p) (fun q _ => q - 64 * e) ?_ ?_ ?_ ?_ ?_
  · intro p hp; simp only [Finset.mem_range, Finset.mem_filter] at *; omega
  · intro p hp; simp only [Finset.mem_range, Finset.mem_filter] at *; omega
  · intro p hp; simp only [Finset.mem_range, Finset.mem_filter] at *; omega
  · intro p hp; simp only [Finset.mem_range, Finset.mem_filter] at *; omega
  · intro p hp; rfl

/-- The same written with a factor that is one or zero. -/
theorem lanes' (f : ℕ → ℝ) (e : ℕ) (he : e < 8) :
    (∑ q : Fin 512, f q * (if (q : ℕ) / 64 = e then 1 else 0)) = ∑ p : Fin 64, f (64 * e + p) := by
  rw [← lanes 512 f e (by omega)]
  refine Finset.sum_congr rfl fun q _ => ?_
  split <;> simp

theorem var_pos (r : ℕ) : 0 < var B r := by
  unfold var
  have : 0 ≤ ∑ q : Fin 512, hg B r q * hg B r q := Finset.sum_nonneg fun q _ => mul_self_nonneg _
  have := Lift.eps_pos
  positivity

end Blk
-- ==== Proof.SeqSpec.lean ====
module

public import proofs.«01_k».proof.Proof.BlockSpec

/-! What the reference computes, over the reals: first one group of eight heads over the whole padded sequence of 8448
    rows, then the four groups of the eight arguments. Lane `q` of a group belongs to head `q / 64`. -/

@[expose] public section

noncomputable section

/-- One group's inputs: the rows of `x`, `b`, `c`, `z`, the raw steps and the output gradient, and the parameters. -/
structure Grp where
  x : ℕ → ℕ → ℝ
  b : ℕ → ℕ → ℝ
  c : ℕ → ℕ → ℝ
  z : ℕ → ℕ → ℝ
  dtr : ℕ → ℕ → ℝ
  ct : ℕ → ℕ → ℝ
  bias : ℕ → ℝ
  alog : ℕ → ℝ
  dsk : ℕ → ℝ
  gate : ℕ → ℝ

namespace Grp

variable (G : Grp)

/-- The step before the softplus. -/
def pre (l e : ℕ) : ℝ := G.dtr l e + G.bias e
/-- The step: zero on the 240 rows of padding. -/
def dt (l e : ℕ) : ℝ := if 240 ≤ l then Blk.sp (pre G l e) else 0
/-- The decay rate. -/
def a (e : ℕ) : ℝ := -Real.exp (G.alog e)
/-- The running sum of the log decays. -/
def acs (l e : ℕ) : ℝ := ∑ s : Fin 8448, if (s : ℕ) ≤ l then dt G s e * a G e else 0
/-- The running sum of the log decays before block `k`. -/
def ent (k e : ℕ) : ℝ := ∑ s : Fin 8448, if (s : ℕ) < 256 * k then dt G s e * a G e else 0
/-- The decay between two rows. -/
def dec (l s e : ℕ) : ℝ := if s ≤ l then Real.exp (acs G l e - acs G s e) else 0
/-- The inputs scaled by their steps. -/
def xdt (l q : ℕ) : ℝ := G.x l q * dt G l (q / 64)
/-- The products of rows of `c` and `b`. -/
def cb (l s : ℕ) : ℝ := ∑ n : Fin 128, G.c l n * G.b s n
/-- The forward output. -/
def y (l q : ℕ) : ℝ :=
  (∑ s : Fin 8448, xdt G s q * (cb G l s * dec G l s (q / 64))) + G.x l q * G.dsk (q / 64)
/-- The decay from a row to the end of the block before block `k`. -/
def wst (k s e : ℕ) : ℝ := if s < 256 * k then Real.exp (ent G k e - acs G s e) else 0
/-- The state entering block `k`. -/
def st (k n q : ℕ) : ℝ := ∑ s : Fin 8448, wst G k s (q / 64) * xdt G s q * G.b s n
/-- The gate. -/
def silu (l q : ℕ) : ℝ := G.z l q * Lift.sg (G.z l q)
/-- The gated output. -/
def hg (l q : ℕ) : ℝ := y G l q * silu G l q
/-- The mean square of a row of the group. -/
def var (l : ℕ) : ℝ := (∑ q : Fin 512, hg G l q * hg G l q) / 512 + Lift.eps
/-- Its reciprocal root. -/
def rs (l : ℕ) : ℝ := (√(var G l))⁻¹
/-- The norm weight's gradient. -/
def dgg (q : ℕ) : ℝ := ∑ l : Fin 8448, G.ct l q * (hg G l q * rs G l)
/-- The gradient of the normalised row. -/
def dhh (l q : ℕ) : ℝ := G.ct l q * G.gate q
/-- Half of what the mean square's gradient gives to the gated output, per unit of it. -/
def cf (l : ℕ) : ℝ := (∑ q : Fin 512, hg G l q * dhh G l q) * (-(1 / 2) * (rs G l / var G l)) / 512
/-- The gradient of the gated output. -/
def dhg (l q : ℕ) : ℝ := dhh G l q * rs G l + hg G l q * cf G l + cf G l * hg G l q
/-- The gradient of the forward output. -/
def dy (l q : ℕ) : ℝ := dhg G l q * silu G l q
/-- The gradient of the gate's input. -/
def dz (l q : ℕ) : ℝ :=
  y G l q * dhg G l q * Lift.sg (G.z l q)
    + G.z l q * (y G l q * dhg G l q) * (Lift.sg (G.z l q) * (1 - Lift.sg (G.z l q)))
/-- The gradient of a product of rows of `c` and `b` times their decay, one head. -/
def dm (l s e : ℕ) : ℝ := ∑ p : Fin 64, dy G l (64 * e + p) * xdt G s (64 * e + p)
/-- The gradient of the scaled inputs. -/
def dxdt (s q : ℕ) : ℝ := ∑ l : Fin 8448, dy G l q * (cb G l s * dec G l s (q / 64))
/-- The gradient of the products of rows of `c` and `b`. -/
def dcb (l s : ℕ) : ℝ := ∑ e : Fin 8, dm G l s e * dec G l s e
/-- The gradient of `b`. -/
def db (s n : ℕ) : ℝ := ∑ l : Fin 8448, dcb G l s * G.c l n
/-- The gradient of `c`. -/
def dc (l n : ℕ) : ℝ := ∑ s : Fin 8448, dcb G l s * G.b s n
/-- The gradient of the inputs. -/
def dx (l q : ℕ) : ℝ := dy G l q * G.dsk (q / 64) + dxdt G l q * dt G l (q / 64)
/-- The gradient of the difference of two rows' running sums. -/
def dd (l s e : ℕ) : ℝ := cb G l s * dm G l s e * dec G l s e
/-- The gradient of the running sum. -/
def dcs (l e : ℕ) : ℝ := -(∑ k : Fin 8448, dd G k l e) + ∑ s : Fin 8448, dd G l s e
/-- The gradient of the log decay at a row. -/
def dda (l e : ℕ) : ℝ := ∑ k : Fin 8448, if l ≤ (k : ℕ) then dcs G k e else 0
/-- The gradient of the step before the softplus. -/
def ddtr (l e : ℕ) : ℝ :=
  if 240 ≤ l then
    (dda G l e * a G e + ∑ p : Fin 64, G.x l (64 * e + p) * dxdt G l (64 * e + p)) * Lift.sg (pre G l e)
  else 0
/-- The gradient of the bias. -/
def dbias (e : ℕ) : ℝ := ∑ l : Fin 8448, ddtr G l e
/-- The gradient of the log decay rate. -/
def dalog (e : ℕ) : ℝ := (∑ l : Fin 8448, dda G l e * dt G l e) * a G e
/-- The gradient of the skip weight. -/
def ddsk (e : ℕ) : ℝ := ∑ l : Fin 8448, ∑ p : Fin 64, G.x l (64 * e + p) * dy G l (64 * e + p)

/-- The state gradient that the blocks after block `k` hand to it. -/
def dst (k n q : ℕ) : ℝ :=
  ∑ l : Fin 8448, if 256 * (k + 1) ≤ (l : ℕ) then
    Real.exp (acs G l (q / 64) - ent G (k + 1) (q / 64)) * G.c l n * dy G l q else 0

/-- What the kernel's step on block `k` of the group reads. -/
def blk (k : ℕ) : Blk.In where
  x r q := G.x (256 * k + r) q
  b r n := G.b (256 * k + r) n
  c r n := G.c (256 * k + r) n
  z r q := G.z (256 * k + r) q
  dtr r e := G.dtr (256 * k + r) e
  y r q := y G (256 * k + r) q
  ct r q := G.ct (256 * k + r) q
  bias := G.bias
  alog := G.alog
  dsk := G.dsk
  gate := G.gate
  st := st G k
  ds := dst G k
  row := 256 * k

end Grp

/-- The eight arguments, as reals. -/
structure Sq where
  xbc : ℕ → ℕ → ℝ
  z : ℕ → ℕ → ℝ
  dtr : ℕ → ℕ → ℝ
  bias : ℕ → ℝ
  alog : ℕ → ℝ
  dsk : ℕ → ℝ
  gate : ℕ → ℝ
  ct : ℕ → ℕ → ℝ

namespace Sq

/-- An argument with 240 rows of zeros in front. -/
def pad (f : ℕ → ℕ → ℝ) (l q : ℕ) : ℝ := if l < 240 then 0 else f (l - 240) q

variable (S : Sq)

/-- Group `g` of the arguments. -/
def grp (g : ℕ) : Grp where
  x l q := pad S.xbc l (512 * g + q)
  b l n := pad S.xbc l (2048 + (g * 128 + n))
  c l n := pad S.xbc l (2560 + (g * 128 + n))
  z l q := pad S.z l (512 * g + q)
  dtr l e := pad S.dtr l (g * 8 + e)
  ct l q := pad S.ct l (512 * g + q)
  bias e := S.bias (g * 8 + e)
  alog e := S.alog (g * 8 + e)
  dsk e := S.dsk (g * 8 + e)
  gate q := S.gate (512 * g + q)

theorem grp_z (g l q : ℕ) : (S.grp g).z l q = pad S.z l (512 * g + q) := rfl
theorem grp_ct (g l q : ℕ) : (S.grp g).ct l q = pad S.ct l (512 * g + q) := rfl
theorem grp_gate (g q : ℕ) : (S.grp g).gate q = S.gate (512 * g + q) := rfl
theorem grp_dtr (g l e : ℕ) : (S.grp g).dtr l e = pad S.dtr l (g * 8 + e) := rfl
theorem grp_bias (g e : ℕ) : (S.grp g).bias e = S.bias (g * 8 + e) := rfl
theorem grp_alog (g e : ℕ) : (S.grp g).alog e = S.alog (g * 8 + e) := rfl

/-- The row of the padded `z` that a lane of the whole width reads. -/
theorem z_lane (l Q : ℕ) : pad S.z l Q = (S.grp (Q / 512)).z l (Q % 512) := by
  rw [grp_z, Nat.div_add_mod]

end Sq
-- ==== Proof.HostLift.lean ====
module

public import proofs.«01_k».proof.Proof.SeqSpec

/-! More lemmas that carry an expression over extended reals to the reals: those the host programs need. -/

@[expose] public section

noncomputable section
namespace HostLift
open Idealize.ShloMosaic Idealize.ShloMosaic.WordCmp

/-- The logarithm of one plus an exponential, taken over the extended reals. -/
theorem log1p_exp (x : ℝ) : Ideal.log1p ((Real.exp x : ℝ) : EReal) = ((Real.log (1 + Real.exp x) : ℝ) : EReal) := by
  unfold Ideal.log1p
  rw [Lift.one_coe, ← EReal.coe_add, Lift.log1p_exp]

/-- The exponential of a masked real, minus infinity off the mask. -/
theorem exp_ite_bot (p : Prop) [Decidable p] (x : ℝ) :
    Ideal.exp (if p then (x : EReal) else ⊥) = ((if p then Real.exp x else 0 : ℝ) : EReal) := by
  split
  · rw [Ideal.exp_coe]
  · rw [Ideal.exp_bot]; rfl

/-- The comparison of two row numbers. -/
theorem sge_row (a b : Fin 8448) : IntOp.cmpi .sge (BitVec.ofNat 32 (a : ℕ)) (BitVec.ofNat 32 (b : ℕ))
    = BitVec.ofBool (decide ((b : ℕ) ≤ (a : ℕ))) := cmpi_sge_ofNat (by omega) (by omega)

/-- The comparison of a row number with the number of rows of padding. -/
theorem sge_pad (a : Fin 8448) : IntOp.cmpi .sge (BitVec.ofNat 32 (a : ℕ)) 240#32
    = BitVec.ofBool (decide (240 ≤ (a : ℕ))) := cmpi_sge_ofNat (b := 240) (by omega) (by omega)

/-- The comparison of a row number with the first row of a block. -/
theorem slt_start (a : Fin 8448) (k : Fin 33) :
    IntOp.cmpi .slt (BitVec.ofNat 32 (a : ℕ)) (IntOp.muli 256#32 (BitVec.ofNat 32 (k : ℕ)))
    = BitVec.ofBool (decide ((a : ℕ) < 256 * (k : ℕ))) := by
  rw [show (256#32 : BitVec 32) = BitVec.ofNat 32 256 from rfl, Lift.muli_ofNat]
  exact cmpi_slt_ofNat (by omega) (by omega)

/-- One over one plus the exponential of the opposite. -/
theorem one_div_sg (x : ℝ) : Ideal.div ((1 : ℝ) : EReal) ((1 + Real.exp (-x) : ℝ) : EReal) = ((Lift.sg x : ℝ) : EReal) := by
  rw [Lift.div_coe' _ _ (by positivity), one_div]; rfl

/-- The mean square of a row is positive. -/
theorem var_pos (G : Grp) (l : ℕ) : 0 < Grp.var G l := by
  unfold Grp.var
  have : 0 ≤ ∑ q : Fin 512, Grp.hg G l q * Grp.hg G l q := Finset.sum_nonneg fun q _ => mul_self_nonneg _
  have := Lift.eps_pos
  positivity

/-- The reciprocal root of a row's mean square. -/
theorem rsqrt_var (G : Grp) (l : ℕ) : Ideal.rsqrt ((Grp.var G l : ℝ) : EReal) = ((Grp.rs G l : ℝ) : EReal) :=
  Lift.rsqrt_coe' _ (var_pos G l)

/-- A real divided by a row's mean square. -/
theorem div_var (G : Grp) (l : ℕ) (x : ℝ) : Ideal.div (x : EReal) ((Grp.var G l : ℝ) : EReal) = ((x / Grp.var G l : ℝ) : EReal) :=
  Lift.div_coe' _ _ (var_pos G l).ne'

/-- The exponential of a number less its softplus is the logistic function. -/
theorem exp_sub_sp (t : ℝ) : Real.exp (t - Blk.sp t) = Lift.sg t := by
  have h1 : (0:ℝ) < 1 + Real.exp (0 - max t (-t)) := by positivity
  unfold Blk.sp Lift.sg
  rw [← sub_sub, Real.exp_sub, Real.exp_log h1]
  rcases le_total 0 t with ht | ht
  · rw [max_eq_left ht, max_eq_left (by linarith : -t ≤ t), sub_self, Real.exp_zero, zero_sub, one_div]
  · rw [max_eq_right ht, max_eq_right (by linarith : t ≤ -t), sub_zero, zero_sub, neg_neg, Real.exp_neg]
    have := Real.exp_pos t
    field_simp
    ring

/-- The f32 word of infinity. -/
theorem bits_top : Ideal.ofBits .f32 0x7F800000#32 = (⊤ : EReal) := by
  simp [Ideal.ofBits, Ideal.ieee]

/-- What carries the host programs' masks and logarithms over to the reals, for `simp only`. -/
theorem up : Ideal.ofBits .f32 0xFF800000#32 = (⊥ : EReal) ∧ Ideal.exp ⊥ = 0
    ∧ (∀ x : ℝ, Ideal.log ((1 + Real.exp x : ℝ) : EReal) = ((Real.log (1 + Real.exp x) : ℝ) : EReal))
    ∧ (∀ x : ℝ, Ideal.log1p ((Real.exp x : ℝ) : EReal) = ((Real.log (1 + Real.exp x) : ℝ) : EReal))
    ∧ (∀ a b : Fin 8448, IntOp.cmpi .sge (BitVec.ofNat 32 (a : ℕ)) (BitVec.ofNat 32 (b : ℕ)) = BitVec.ofBool (decide ((b : ℕ) ≤ (a : ℕ))))
    ∧ (∀ a : Fin 8448, IntOp.cmpi .sge (BitVec.ofNat 32 (a : ℕ)) 240#32 = BitVec.ofBool (decide (240 ≤ (a : ℕ))))
    ∧ (∀ (p : Prop) [Decidable p] (x : ℝ), Ideal.exp (if p then (x : EReal) else ⊥) = ((if p then Real.exp x else 0 : ℝ) : EReal)) :=
  ⟨Lift.bits_bot, rfl, Lift.log1p_exp, log1p_exp, sge_row, sge_pad, exp_ite_bot⟩

/-- The same for the reference's gate and norm. -/
theorem norm : Ideal.ofBits .f32 0xBF000000#32 = ((-(1 / 2) : ℝ) : EReal) ∧ Ideal.ofBits .f32 0x7F800000#32 = (⊤ : EReal)
    ∧ (∀ x : ℝ, Ideal.div (x : EReal) ((512 : ℝ) : EReal) = ((x / 512 : ℝ) : EReal))
    ∧ (∀ x : ℝ, Ideal.div ((1 : ℝ) : EReal) ((1 + Real.exp (-x) : ℝ) : EReal) = ((Lift.sg x : ℝ) : EReal))
    ∧ (∀ (G : Grp) (l : ℕ), Ideal.rsqrt ((Grp.var G l : ℝ) : EReal) = ((Grp.rs G l : ℝ) : EReal))
    ∧ ∀ (G : Grp) (l : ℕ) (x : ℝ), Ideal.div (x : EReal) ((Grp.var G l : ℝ) : EReal) = ((x / Grp.var G l : ℝ) : EReal) :=
  ⟨Lift.bits_neg_half, bits_top, Lift.div_512, one_div_sg, rsqrt_var, div_var⟩

end HostLift
-- ==== Proof.HostVal.lean ====
/-
  The arrays the host computes before the call, read at one place: real when the arguments are, and the real expression
  stated.
-/
module

public import proofs.«01_k».proof.Proof.HostK
public import proofs.«01_k».proof.Proof.SeqSpec
public import proofs.«01_k».proof.Proof.HostLift

@[expose] public section
set_option maxRecDepth 65536
noncomputable section
namespace Cert.KernelIdeal.Host
open Cert.KernelIdeal Cert.KernelIdeal.Gen Idealize.ShloMosaic Idealize.ShloMosaic.WordCmp

/-- The arguments are the reals `S`. -/
structure Reals (S : Sq) (A : Args) : Prop where
  h0 : ∀ (i : Fin 8208) (j : Fin 3072), A.a0 (ix2 i j) = ((S.xbc i j : ℝ) : EReal)
  h1 : ∀ (i : Fin 8208) (j : Fin 2048), A.a1 (ix2 i j) = ((S.z i j : ℝ) : EReal)
  h2 : ∀ (i : Fin 8208) (j : Fin 32), A.a2 (ix2 i j) = ((S.dtr i j : ℝ) : EReal)
  h3 : ∀ j : Fin 32, A.a3 (ix1 j) = ((S.bias j : ℝ) : EReal)
  h4 : ∀ j : Fin 32, A.a4 (ix1 j) = ((S.alog j : ℝ) : EReal)
  h5 : ∀ j : Fin 32, A.a5 (ix1 j) = ((S.dsk j : ℝ) : EReal)
  h6 : ∀ j : Fin 2048, A.a6 (ix1 j) = ((S.gate j : ℝ) : EReal)
  h7 : ∀ (i : Fin 8208) (j : Fin 2048), A.a7 (ix2 i j) = ((S.ct i j : ℝ) : EReal)

variable (S : Sq) (A : Args) (h : Reals S A)
include h

/-- The buffer `v1` at one place. -/
theorem K_v1 (i : Fin 8448) (W : Fin 3072) :
    h_v1 A (ix2 i W) = ((Sq.pad S.xbc (i : ℕ) (W : ℕ) : ℝ) : EReal) := by
  unfold h_v1 h_v0 h_cst
  pointwise
  by_cases hi : (i : ℕ) < 240
  · simp only [hi, dite_true, Sq.pad, if_true, Lift.zero_coe]
  · simp only [hi, dite_false, Sq.pad, if_false, h.h0]

/-- The buffer `v7` at one place. -/
theorem K_v7 (i : Fin 8448) (g : Fin 4) (e : Fin 8) (p : Fin 64) :
    h_v7 A (ix4 i g e p) = (((S.grp (g : ℕ)).x (i : ℕ) (64 * (e : ℕ) + (p : ℕ)) : ℝ) : EReal) := by
  unfold h_v7 h_v4
  pointwise
  simp only [K_v1 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v8` at one place. -/
theorem K_v8 (i : Fin 8448) (g : Fin 4) (n : Fin 128) :
    h_v8 A (ix3 i g n) = (((S.grp (g : ℕ)).b (i : ℕ) (n : ℕ) : ℝ) : EReal) := by
  unfold h_v8 h_v5
  pointwise
  simp only [K_v1 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v9` at one place. -/
theorem K_v9 (i : Fin 8448) (g : Fin 4) (n : Fin 128) :
    h_v9 A (ix3 i g n) = (((S.grp (g : ℕ)).c (i : ℕ) (n : ℕ) : ℝ) : EReal) := by
  unfold h_v9 h_v6
  pointwise
  simp only [K_v1 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v3` at one place. -/
theorem K_v3 (i : Fin 8448) (H : Fin 32) :
    h_v3 A (ix2 i H) = ((Sq.pad S.dtr (i : ℕ) (H : ℕ) : ℝ) : EReal) := by
  unfold h_v3 h_v2 h_cst_0
  pointwise
  by_cases hi : (i : ℕ) < 240
  · simp only [hi, dite_true, Sq.pad, if_true, Lift.zero_coe]
  · simp only [hi, dite_false, Sq.pad, if_false, h.h2]

/-- The buffer `v17` at one place. -/
theorem K_v17 (i : Fin 8448) (H : Fin 32) :
    h_v17 A (ix2 i H) = ((Blk.sp (Sq.pad S.dtr (i : ℕ) (H : ℕ) + S.bias (H : ℕ)) : ℝ) : EReal) := by
  unfold h_v17 h_call0_v11 h_call0_v10 h_call0_v9 h_call0_v8 h_call0_v7 h_call0_v6 h_call0_v5 h_call0_v4 h_call0_v3 h_call0_v2 h_call0_v1 h_call0_v0 h_call0_cst h_v16 h_v15 h_v14
  pointwise
  simp only [K_v3 S A h, h.h3, Lift.up, HostLift.up, HostLift.slt_start, ne_eq, not_true_eq_false, if_false]
  refine congrArg _ ?_
  simp only [Blk.sp]
  rw [zero_sub]

/-- The buffer `v19` at one place. -/
theorem K_v19 (i : Fin 8448) (g : Fin 4) (e : Fin 8) :
    h_v19 A (ix3 i g e) = (((S.grp (g : ℕ)).dt (i : ℕ) (e : ℕ) : ℝ) : EReal) := by
  unfold h_v19 h_v18 h_call1_v2 h_call1_v1 h_call1_v0 h_cst_1 h_v13 h_v12 h_v11 h_c h_v10
  simp only [id_eq]
  pointwise
  simp only [K_v17 S A h, Lift.up, HostLift.up, HostLift.slt_start, ne_eq, not_true_eq_false, if_false]
  refine congrArg _ ?_
  simp only [Grp.dt, Grp.pre, Sq.grp]
  all_goals rfl

/-- The buffer `v22` at one place. -/
theorem K_v22 (g : Fin 4) (e : Fin 8) :
    h_v22 A (ix2 g e) = (((S.grp (g : ℕ)).a (e : ℕ) : ℝ) : EReal) := by
  unfold h_v22 h_v21 h_v20
  pointwise
  simp only [h.h4, Lift.up, HostLift.up, HostLift.slt_start, ne_eq, not_true_eq_false, if_false]
  refine congrArg _ ?_
  simp only [Grp.a, Sq.grp]
  try all_goals first | rfl | (congr 1; omega) | (congr 2; omega) | (congr 3; omega)

/-- The buffer `v25` at one place. -/
theorem K_v25 (i : Fin 8448) (g : Fin 4) (e : Fin 8) (p : Fin 64) :
    h_v25 A (ix4 i g e p) = (((S.grp (g : ℕ)).xdt (i : ℕ) (64 * (e : ℕ) + (p : ℕ)) : ℝ) : EReal) := by
  unfold h_v25 h_v24 h_v23
  pointwise
  simp only [K_v19 S A h, K_v7 S A h, Lift.up, HostLift.up, HostLift.slt_start, ne_eq, not_true_eq_false, if_false]
  refine congrArg _ ?_
  simp only [Grp.xdt]
  rw [show (64 * (e : ℕ) + (p : ℕ)) / 64 = (e : ℕ) by omega]

/-- The buffer `v39` at one place. -/
theorem K_v39 (g : Fin 4) (e : Fin 8) (i : Fin 8448) :
    h_v39 A (ix3 g e i) = (((S.grp (g : ℕ)).acs (i : ℕ) (e : ℕ) : ℝ) : EReal) := by
  unfold h_v39 h_cst_3 h_v38 h_call2_v3 h_call2_v2 h_call2_v1 h_call2_v0 h_cst_2 h_v37 h_v36 h_v35 h_v34 h_v33 h_v32 h_v31 h_v30 h_v29 h_v28 h_v27 h_v26
  simp only [id_eq]
  pointwise
  simp only [K_v22 S A h, K_v19 S A h, Lift.up, HostLift.up, HostLift.slt_start, ne_eq, not_true_eq_false, if_false]
  refine congrArg _ ?_
  simp only [Grp.acs]
  all_goals rfl

/-- The buffer `v46` at one place. -/
theorem K_v46 (g : Fin 4) (e : Fin 8) (i : Fin 8448) (j : Fin 8448) :
    h_v46 A (ix4 g e i j) = (((S.grp (g : ℕ)).dec (i : ℕ) (j : ℕ) (e : ℕ) : ℝ) : EReal) := by
  unfold h_v46 h_v45 h_call3_v2 h_call3_v1 h_call3_v0 h_cst_4 h_v44 h_v43 h_v42 h_v41 h_v40 h_v32 h_v31 h_v30 h_v29 h_v28 h_v27 h_v26
  simp only [id_eq]
  pointwise
  simp only [K_v39 S A h, Lift.up, HostLift.up, HostLift.slt_start, ne_eq, not_true_eq_false, if_false]
  refine congrArg _ ?_
  simp only [Grp.dec]
  all_goals rfl

/-- The buffer `v47` at one place. -/
theorem K_v47 (g : Fin 4) (i : Fin 8448) (j : Fin 8448) :
    h_v47 A (ix3 g i j) = (((S.grp (g : ℕ)).cb (i : ℕ) (j : ℕ) : ℝ) : EReal) := by
  unfold h_v47
  pointwise
  simp only [K_v9 S A h, K_v8 S A h, Lift.up, HostLift.up, HostLift.slt_start, ne_eq, not_true_eq_false, if_false]
  refine congrArg _ ?_
  simp only [Grp.cb]

/-- The buffer `v51` at one place. -/
theorem K_v51 (g : Fin 4) (e : Fin 8) (p : Fin 64) (i : Fin 8448) :
    h_v51 A (ix4 g e p i) = (((∑ s : Fin 8448, (S.grp (g : ℕ)).xdt s (64 * (e : ℕ) + (p : ℕ)) * ((S.grp (g : ℕ)).cb (i : ℕ) s * (S.grp (g : ℕ)).dec (i : ℕ) s (e : ℕ))) : ℝ) : EReal) := by
  unfold h_v51 h_v50 h_v49 h_v48
  pointwise
  simp only [K_v47 S A h, K_v46 S A h, K_v25 S A h, Lift.up, HostLift.up, HostLift.slt_start, ne_eq, not_true_eq_false, if_false]

/-- The buffer `v57` at one place. -/
theorem K_v57 (i : Fin 8448) (g : Fin 4) (e : Fin 8) (p : Fin 64) :
    h_v57 A (ix4 i g e p) = (((S.grp (g : ℕ)).x (i : ℕ) (64 * (e : ℕ) + (p : ℕ)) * (S.grp (g : ℕ)).dsk (e : ℕ) : ℝ) : EReal) := by
  unfold h_v57 h_v56 h_v55 h_v54 h_v53
  pointwise
  simp only [K_v7 S A h, h.h5, Lift.up, HostLift.up, HostLift.slt_start, ne_eq, not_true_eq_false, if_false]
  refine congrArg _ ?_
  simp only [Sq.grp]
  try all_goals first | rfl | (congr 1; omega) | (congr 2; omega) | (congr 3; omega)

/-- The buffer `v59` at one place. -/
theorem K_v59 (i : Fin 8448) (Q : Fin 2048) :
    h_v59 A (ix2 i Q) = (((S.grp ((Q : ℕ) / 512)).y (i : ℕ) ((Q : ℕ) % 512) : ℝ) : EReal) := by
  unfold h_v59 h_v58 h_v52
  pointwise
  simp only [K_v57 S A h, K_v51 S A h, Lift.up, HostLift.up, HostLift.slt_start, ne_eq, not_true_eq_false, if_false]
  refine congrArg _ ?_
  simp only [Grp.y]
  rw [show (64 : ℕ) * ((Q : ℕ) / 64 % 8) + (Q : ℕ) % 64 = (Q : ℕ) % 512 by omega]
  simp only [show (Q : ℕ) / 64 % 8 = (Q : ℕ) % 512 / 64 by omega]

/-- The buffer `v60` at one place. -/
theorem K_v60 (i : Fin 8448) (g : Fin 4) (e : Fin 8) (p : Fin 64) :
    h_v60 A (ix4 i g e p) = (((S.grp (g : ℕ)).x (i : ℕ) (64 * (e : ℕ) + (p : ℕ)) : ℝ) : EReal) := by
  unfold h_v60 h_v4
  pointwise
  simp only [K_v1 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v61` at one place. -/
theorem K_v61 (i : Fin 8448) (g : Fin 4) (n : Fin 128) :
    h_v61 A (ix3 i g n) = (((S.grp (g : ℕ)).b (i : ℕ) (n : ℕ) : ℝ) : EReal) := by
  unfold h_v61 h_v5
  pointwise
  simp only [K_v1 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v69` at one place. -/
theorem K_v69 (i : Fin 8448) (H : Fin 32) :
    h_v69 A (ix2 i H) = ((Blk.sp (Sq.pad S.dtr (i : ℕ) (H : ℕ) + S.bias (H : ℕ)) : ℝ) : EReal) := by
  unfold h_v69 h_call4_v11 h_call4_v10 h_call4_v9 h_call4_v8 h_call4_v7 h_call4_v6 h_call4_v5 h_call4_v4 h_call4_v3 h_call4_v2 h_call4_v1 h_call4_v0 h_call4_cst h_v68 h_v67 h_v66
  pointwise
  simp only [K_v3 S A h, h.h3, Lift.up, HostLift.up, HostLift.slt_start, ne_eq, not_true_eq_false, if_false]
  refine congrArg _ ?_
  simp only [Blk.sp]
  rw [zero_sub]

/-- The buffer `v71` at one place. -/
theorem K_v71 (i : Fin 8448) (g : Fin 4) (e : Fin 8) :
    h_v71 A (ix3 i g e) = (((S.grp (g : ℕ)).dt (i : ℕ) (e : ℕ) : ℝ) : EReal) := by
  unfold h_v71 h_v70 h_call5_v2 h_call5_v1 h_call5_v0 h_cst_6 h_v65 h_v64 h_v63 h_c_5 h_v62
  simp only [id_eq]
  pointwise
  simp only [K_v69 S A h, Lift.up, HostLift.up, HostLift.slt_start, ne_eq, not_true_eq_false, if_false]
  refine congrArg _ ?_
  simp only [Grp.dt, Grp.pre, Sq.grp]
  all_goals rfl

/-- The buffer `v74` at one place. -/
theorem K_v74 (g : Fin 4) (e : Fin 8) :
    h_v74 A (ix2 g e) = (((S.grp (g : ℕ)).a (e : ℕ) : ℝ) : EReal) := by
  unfold h_v74 h_v73 h_v72
  pointwise
  simp only [h.h4, Lift.up, HostLift.up, HostLift.slt_start, ne_eq, not_true_eq_false, if_false]
  refine congrArg _ ?_
  simp only [Grp.a, Sq.grp]
  try all_goals first | rfl | (congr 1; omega) | (congr 2; omega) | (congr 3; omega)

/-- The buffer `v97` at one place. -/
theorem K_v97 (g : Fin 4) (e : Fin 8) (i : Fin 8448) :
    h_v97 A (ix3 g e i) = (((S.grp (g : ℕ)).acs (i : ℕ) (e : ℕ) : ℝ) : EReal) := by
  unfold h_v97 h_cst_9 h_v96 h_call6_v3 h_call6_v2 h_call6_v1 h_call6_v0 h_cst_8 h_v95 h_v94 h_v93 h_v92 h_v91 h_v81 h_v80 h_v79 h_v78 h_v77 h_v76 h_v75
  simp only [id_eq]
  pointwise
  simp only [K_v71 S A h, K_v74 S A h, Lift.up, HostLift.up, HostLift.slt_start, ne_eq, not_true_eq_false, if_false]
  refine congrArg _ ?_
  simp only [Grp.acs]
  all_goals rfl

/-- The buffer `v104` at one place. -/
theorem K_v104 (g : Fin 4) (e : Fin 8) (k : Fin 33) :
    h_v104 A (ix3 g e k) = (((S.grp (g : ℕ)).ent (k : ℕ) (e : ℕ) : ℝ) : EReal) := by
  unfold h_v104 h_cst_11 h_v103 h_call7_v3 h_call7_v2 h_call7_v1 h_call7_v0 h_cst_10 h_v102 h_v101 h_v100 h_v99 h_v98 h_v90 h_v89 h_v88 h_v87 h_v86 h_c_7 h_v85 h_v84 h_v83 h_v82
  simp only [id_eq]
  pointwise
  simp only [K_v71 S A h, K_v74 S A h, Lift.up, HostLift.up, HostLift.slt_start, ne_eq, not_true_eq_false, if_false]
  refine congrArg _ ?_
  simp only [Grp.ent]
  all_goals rfl

/-- The buffer `v111` at one place. -/
theorem K_v111 (g : Fin 4) (e : Fin 8) (k : Fin 33) (i : Fin 8448) :
    h_v111 A (ix4 g e k i) = (((S.grp (g : ℕ)).wst (k : ℕ) (i : ℕ) (e : ℕ) : ℝ) : EReal) := by
  unfold h_v111 h_v110 h_call8_v2 h_call8_v1 h_call8_v0 h_cst_12 h_v109 h_v108 h_v107 h_v106 h_v105 h_v90 h_v89 h_v88 h_v87 h_v86 h_c_7 h_v85 h_v84 h_v83 h_v82
  simp only [id_eq]
  pointwise
  simp only [K_v104 S A h, K_v97 S A h, Lift.up, HostLift.up, HostLift.slt_start, ne_eq, not_true_eq_false, if_false]
  refine congrArg _ ?_
  simp only [Grp.wst]
  all_goals rfl

/-- The buffer `v115` at one place. -/
theorem K_v115 (i : Fin 8448) (g : Fin 4) (e : Fin 8) (p : Fin 64) :
    h_v115 A (ix4 i g e p) = (((S.grp (g : ℕ)).xdt (i : ℕ) (64 * (e : ℕ) + (p : ℕ)) : ℝ) : EReal) := by
  unfold h_v115 h_v114 h_v113
  pointwise
  simp only [K_v71 S A h, K_v60 S A h, Lift.up, HostLift.up, HostLift.slt_start, ne_eq, not_true_eq_false, if_false]
  refine congrArg _ ?_
  simp only [Grp.xdt]
  rw [show (64 * (e : ℕ) + (p : ℕ)) / 64 = (e : ℕ) by omega]

/-- The buffer `v121` at one place. -/
theorem K_v121 (g : Fin 4) (e : Fin 8) (k : Fin 33) (p : Fin 64) (n : Fin 128) :
    h_v121 A (ix5 g e k p n) = (((∑ s : Fin 8448, (S.grp (g : ℕ)).wst (k : ℕ) s (e : ℕ) * (S.grp (g : ℕ)).xdt s (64 * (e : ℕ) + (p : ℕ)) * (S.grp (g : ℕ)).b s (n : ℕ)) : ℝ) : EReal) := by
  unfold h_v121 h_v120 h_v119 h_v118 h_v117 h_v116 h_v112
  pointwise
  simp only [K_v61 S A h, K_v111 S A h, K_v115 S A h, Lift.up, HostLift.up, HostLift.slt_start, ne_eq, not_true_eq_false, if_false]

/-- The buffer `v123` at one place. -/
theorem K_v123 (k : Fin 33) (g : Fin 4) (n : Fin 128) (q : Fin 512) :
    h_v123 A (ix4 k g n q) = (((S.grp (g : ℕ)).st (k : ℕ) (n : ℕ) (q : ℕ) : ℝ) : EReal) := by
  unfold h_v123 h_v122
  pointwise
  simp only [K_v121 S A h, Lift.up, HostLift.up, HostLift.slt_start, ne_eq, not_true_eq_false, if_false]
  refine congrArg _ ?_
  simp only [Grp.st]
  simp only [show 64 * ((q : ℕ) / 64) + (q : ℕ) % 64 = (q : ℕ) by omega]

/-- The buffer `v132` at one place. -/
theorem K_v132 (g : Fin 4) (i : Fin 8448) (e : Fin 8) :
    h_v132 A (ix3 g i e) = (((S.grp (g : ℕ)).dtr (i : ℕ) (e : ℕ) : ℝ) : EReal) := by
  unfold h_v132 h_v131
  pointwise
  simp only [K_v3 S A h, Lift.up, HostLift.up, HostLift.slt_start, ne_eq, not_true_eq_false, if_false]
  refine congrArg _ ?_
  simp only [Sq.grp]
  try all_goals first | rfl | (congr 1; omega) | (congr 2; omega) | (congr 3; omega)

/-- The buffer `v134` at one place. -/
theorem K_v134 (i : Fin 8448) (Q : Fin 2048) :
    h_v134 A (ix2 i Q) = ((Sq.pad S.z (i : ℕ) (Q : ℕ) : ℝ) : EReal) := by
  unfold h_v134 h_v133 h_cst_14
  pointwise
  by_cases hi : (i : ℕ) < 240
  · simp only [hi, dite_true, Sq.pad, if_true, Lift.zero_coe]
  · simp only [hi, dite_false, Sq.pad, if_false, h.h1]

/-- The buffer `v135` at one place. -/
theorem K_v135 (u : Fin 1) (Q : Fin 2048) :
    h_v135 A (ix2 u Q) = ((S.gate (Q : ℕ) : ℝ) : EReal) := by
  unfold h_v135
  pointwise
  simp only [h.h6, Lift.up, HostLift.up, HostLift.slt_start, ne_eq, not_true_eq_false, if_false]

/-- The buffer `v138` at one place. -/
theorem K_v138 (i : Fin 8448) (Q : Fin 2048) :
    h_v138 A (ix2 i Q) = ((Sq.pad S.ct (i : ℕ) (Q : ℕ) : ℝ) : EReal) := by
  unfold h_v138 h_v137 h_v136 h_cst_15
  pointwise
  by_cases hi : (i : ℕ) < 240
  · simp only [hi, dite_true, Sq.pad, if_true, Lift.zero_coe]
  · simp only [hi, dite_false, Sq.pad, if_false, h.h7]

end Cert.KernelIdeal.Host
-- ==== Proof.HostPrm.lean ====
module

public import proofs.«01_k».proof.Proof.HostVal

/-! The parameter block the call is handed: the step's bias, the log decay rate and the skip weight of a group's heads. -/

@[expose] public section
set_option maxRecDepth 65536
noncomputable section

namespace Cert.KernelIdeal.Host

open Cert.KernelIdeal Cert.KernelIdeal.Gen Idealize.ShloMosaic Idealize.ShloMosaic.TcCoe

variable (S : Sq) (A : Args) (h : Reals S A)
include h

theorem K_v130_0 (g : Fin 4) (e : Fin 8) :
    h_v130 A (ix3 g (0 : Fin 8) e) = ((S.bias ((g : ℕ) * 8 + (e : ℕ)) : ℝ) : EReal) := by
  unfold h_v130 h_v129 h_v128 h_v127 h_v126 h_v125 h_v124
  pointwise
  exact h.h3 _

theorem K_v130_1 (g : Fin 4) (e : Fin 8) :
    h_v130 A (ix3 g (1 : Fin 8) e) = ((S.alog ((g : ℕ) * 8 + (e : ℕ)) : ℝ) : EReal) := by
  unfold h_v130 h_v129 h_v128 h_v127 h_v126 h_v125 h_v124
  pointwise
  exact h.h4 _

theorem K_v130_2 (g : Fin 4) (e : Fin 8) :
    h_v130 A (ix3 g (2 : Fin 8) e) = ((S.dsk ((g : ℕ) * 8 + (e : ℕ)) : ℝ) : EReal) := by
  unfold h_v130 h_v129 h_v128 h_v127 h_v126 h_v125 h_v124
  pointwise
  exact h.h5 _

end Cert.KernelIdeal.Host
-- ==== Proof.SeqMath.lean ====
module

public import proofs.«01_k».proof.Proof.HostLift

/-! The kernel's blockwise expressions against the reference's whole sequence, over the reals: with the block's inputs
    cut out of the sequence, and its two states the reference's, each result of the block is the reference's rows. -/

@[expose] public section

noncomputable section

namespace Grp

open Finset

/-- A sum over `N` rows of which those before `n` count. -/
theorem sum_lt (N n : ℕ) (hn : n ≤ N) (f : ℕ → ℝ) :
    (∑ s : Fin N, if (s : ℕ) < n then f s else 0) = ∑ s ∈ range n, f s := by
  rw [Fin.sum_univ_eq_sum_range (fun s => if s < n then f s else 0), ← Finset.sum_filter]
  refine Finset.sum_congr ?_ fun _ _ => rfl
  ext s; simp only [mem_filter, mem_range]; omega

/-- A sum over `N` rows of which those up to `l` count. -/
theorem sum_le (N l : ℕ) (hl : l < N) (f : ℕ → ℝ) :
    (∑ s : Fin N, if (s : ℕ) ≤ l then f s else 0) = ∑ s ∈ range (l + 1), f s := by
  rw [← sum_lt N (l + 1) (by omega) f]
  refine Finset.sum_congr rfl fun s _ => ?_
  simp only [Nat.lt_succ_iff]

/-- A sum over `N` rows of which those from `n` on count. -/
theorem sum_ge (N n : ℕ) (f : ℕ → ℝ) :
    (∑ s : Fin N, if n ≤ (s : ℕ) then f s else 0) = ∑ s ∈ Ico n N, f s := by
  rw [Fin.sum_univ_eq_sum_range (fun s => if n ≤ s then f s else 0), ← Finset.sum_filter]
  refine Finset.sum_congr ?_ fun _ _ => rfl
  ext s; simp only [mem_filter, mem_range, mem_Ico]; omega

/-- A sum over a block's rows. -/
theorem sum_blk (k : ℕ) (f : ℕ → ℝ) : (∑ r : Fin 256, f (256 * k + r)) = ∑ l ∈ Ico (256 * k) (256 * (k + 1)), f l := by
  rw [Fin.sum_univ_eq_sum_range (fun r => f (256 * k + r)), Finset.sum_Ico_eq_sum_range]
  congr 2; omega

/-- A sum over all rows: those before a block, the block's, and those after it. -/
theorem sum_split (k : ℕ) (hk : k < 33) (f : ℕ → ℝ) :
    (∑ l : Fin 8448, f l) = (∑ l ∈ range (256 * k), f l) + (∑ r : Fin 256, f (256 * k + r))
      + ∑ l ∈ Ico (256 * (k + 1)) 8448, f l := by
  rw [Fin.sum_univ_eq_sum_range f, sum_blk, Finset.sum_range_add_sum_Ico _ (by omega), Finset.sum_range_add_sum_Ico _ (by omega)]

/-- A sum over a group's lanes, head by head. -/
theorem sum_heads (f : ℕ → ℝ) : (∑ q : Fin 512, f q) = ∑ e : Fin 8, ∑ p : Fin 64, f (64 * e + p) := by
  have h1 : ∀ q : Fin 512, f q = ∑ e : Fin 8, if (q : ℕ) / 64 = (e : ℕ) then f q else 0 := by
    intro q
    have := Blk.pick (fun _ => f q) q q.isLt
    rw [← this]
    exact Finset.sum_congr rfl fun e _ => by split <;> simp_all
  rw [Finset.sum_congr rfl fun q _ => h1 q, Finset.sum_comm]
  exact Finset.sum_congr rfl fun e _ => Blk.lanes 512 f e (by omega)

variable (G : Grp)

theorem sp_nonneg (t : ℝ) : 0 ≤ Blk.sp t := by
  unfold Blk.sp
  have : 0 ≤ Real.log (1 + Real.exp (0 - max t (-t))) := Real.log_nonneg (by have := Real.exp_pos (0 - max t (-t)); linarith)
  have := le_max_right t 0
  linarith

theorem w_nonpos (s e : ℕ) : dt G s e * a G e ≤ 0 := by
  have h1 : 0 ≤ dt G s e := by unfold dt; split; exact sp_nonneg _; exact le_rfl
  have h2 : a G e ≤ 0 := by unfold a; have := Real.exp_pos (G.alog e); linarith
  exact mul_nonpos_of_nonneg_of_nonpos h1 h2

theorem acs_eq (l e : ℕ) (hl : l < 8448) : acs G l e = ∑ s ∈ range (l + 1), dt G s e * a G e :=
  sum_le 8448 l hl (fun s => dt G s e * a G e)

theorem ent_eq (k e : ℕ) (hk : k ≤ 33) : ent G k e = ∑ s ∈ range (256 * k), dt G s e * a G e :=
  sum_lt 8448 (256 * k) (by omega) (fun s => dt G s e * a G e)

theorem cs_eq (k r e : ℕ) (hr : r < 256) :
    Blk.cs (blk G k) r e = ∑ s ∈ range (r + 1), dt G (256 * k + s) e * a G e :=
  sum_le 256 r hr (fun s => dt G (256 * k + s) e * a G e)

theorem tot_eq (k e : ℕ) : Blk.tot (blk G k) e = ∑ s ∈ range 256, dt G (256 * k + s) e * a G e :=
  Fin.sum_univ_eq_sum_range (fun s => dt G (256 * k + s) e * a G e) 256

theorem st_eq (k n q : ℕ) (hk : k < 33) : st G k n q
    = ∑ s ∈ range (256 * k), Real.exp (ent G k (q / 64) - acs G s (q / 64)) * xdt G s q * G.b s n := by
  unfold st wst
  rw [← sum_lt 8448 (256 * k) (by omega) (fun s => Real.exp (ent G k (q / 64) - acs G s (q / 64)) * xdt G s q * G.b s n)]
  refine Finset.sum_congr rfl fun s _ => ?_
  split <;> simp

theorem dst_eq (k n q : ℕ) : dst G k n q
    = ∑ l ∈ Ico (256 * (k + 1)) 8448, Real.exp (acs G l (q / 64) - ent G (k + 1) (q / 64)) * G.c l n * dy G l q :=
  sum_ge 8448 (256 * (k + 1)) (fun l => Real.exp (acs G l (q / 64) - ent G (k + 1) (q / 64)) * G.c l n * dy G l q)

attribute [local irreducible] acs ent st dst dxdt dc db dda dcs y

/-- The running sum is the sum before the block and the sum inside it. -/
theorem acs_blk (k r e : ℕ) (hk : k < 33) (hr : r < 256) :
    acs G (256 * k + r) e = ent G k e + Blk.cs (blk G k) r e := by
  rw [acs_eq G _ e (by omega), ent_eq G k e (by omega), cs_eq G k r e hr, add_assoc, Finset.sum_range_add]

theorem ent_succ (k e : ℕ) (hk : k < 33) : ent G (k + 1) e = ent G k e + Blk.tot (blk G k) e := by
  rw [ent_eq G _ e (by omega), ent_eq G k e (by omega), tot_eq, Nat.mul_succ, Finset.sum_range_add]

theorem cs_anti (k e : ℕ) {r s : ℕ} (hs : s ≤ r) (hr : r < 256) : Blk.cs (blk G k) r e ≤ Blk.cs (blk G k) s e := by
  rw [cs_eq G k r e hr, cs_eq G k s e (by omega), ← Finset.sum_range_add_sum_Ico _ (show s + 1 ≤ r + 1 by omega)]
  have : ∑ x ∈ Ico (s + 1) (r + 1), dt G (256 * k + x) e * a G e ≤ 0 := Finset.sum_nonpos fun x _ => w_nonpos G _ e
  linarith

theorem tot_le (k e r : ℕ) (hr : r < 256) : Blk.tot (blk G k) e ≤ Blk.cs (blk G k) r e := by
  rw [cs_eq G k r e hr, tot_eq, ← Finset.sum_range_add_sum_Ico _ (show r + 1 ≤ 256 by omega)]
  have : ∑ x ∈ Ico (r + 1) 256, dt G (256 * k + x) e * a G e ≤ 0 := Finset.sum_nonpos fun x _ => w_nonpos G _ e
  linarith

/-- The decay between two rows of a block. -/
theorem decay_blk (k l s e : ℕ) (hk : k < 33) (hl : l < 256) (hs : s < 256) :
    Blk.decay (blk G k) l s e = dec G (256 * k + l) (256 * k + s) e := by
  unfold Blk.decay dec
  by_cases h : s ≤ l
  · rw [if_pos h, if_pos (by omega), min_eq_left (by have := cs_anti G k e h hl; linarith), acs_blk G k l e hk hl,
      acs_blk G k s e hk hs]
    congr 1; ring
  · rw [if_neg h, if_neg (by omega)]

theorem dte_blk (k r e : ℕ) (hk : k < 33) (hr : r < 256) :
    Blk.dte (blk G k) r e = Real.exp (ent G (k + 1) e - acs G (256 * k + r) e) := by
  unfold Blk.dte
  rw [min_eq_left (by have := tot_le G k e r hr; linarith), acs_blk G k r e hk hr, ent_succ G k e hk]
  congr 1; ring

theorem ecs_blk (k r e : ℕ) (hk : k < 33) (hr : r < 256) :
    Blk.ecs (blk G k) r e = Real.exp (acs G (256 * k + r) e - ent G k e) := by
  unfold Blk.ecs
  rw [acs_blk G k r e hk hr]
  congr 1; ring

theorem dec_blk (k e : ℕ) (hk : k < 33) : Blk.dec (blk G k) e = Real.exp (ent G (k + 1) e - ent G k e) := by
  unfold Blk.dec
  rw [ent_succ G k e hk]
  congr 1; ring

/-- No block follows the last. -/
theorem dst_last (n q : ℕ) : dst G 32 n q = 0 := by
  rw [dst_eq, Finset.Ico_eq_empty (by omega), Finset.sum_empty]

theorem dec_of_le {l s : ℕ} (e : ℕ) (h : s ≤ l) (t : ℝ) :
    dec G l s e = Real.exp (acs G l e - t) * Real.exp (t - acs G s e) := by
  unfold dec
  rw [if_pos h, ← Real.exp_add]
  congr 1; ring

theorem dec_of_lt {l s : ℕ} (e : ℕ) (h : l < s) : dec G l s e = 0 := by
  unfold dec
  rw [if_neg (by omega)]

/-- The gradient of the gated output. -/
theorem dhg_blk (k r q : ℕ) : Blk.dhg (blk G k) r q = dhg G (256 * k + r) q := by
  have hv := HostLift.var_pos G (256 * k + r)
  have h1 : Blk.rs (blk G k) r = rs G (256 * k + r) := rfl
  have h2 : ∀ q, Blk.hhat (blk G k) r q = hg G (256 * k + r) q * rs G (256 * k + r) := fun _ => rfl
  have h3 : ∀ q, Blk.dhh (blk G k) r q = dhh G (256 * k + r) q := fun _ => rfl
  have h4 : rs G (256 * k + r) / var G (256 * k + r) = rs G (256 * k + r) * (rs G (256 * k + r) * rs G (256 * k + r)) := by
    rw [div_eq_mul_inv]
    congr 1
    unfold rs
    rw [← mul_inv, Real.mul_self_sqrt hv.le]
  unfold Blk.dhg dhg cf
  simp only [h1, h2, h3, h4]
  have h5 : (∑ x : Fin 512, dhh G (256 * k + r) x * (hg G (256 * k + r) x * rs G (256 * k + r)))
      = (∑ x : Fin 512, hg G (256 * k + r) x * dhh G (256 * k + r) x) * rs G (256 * k + r) := by
    rw [Finset.sum_mul]
    exact Finset.sum_congr rfl fun x _ => by ring
  rw [h5]
  ring

theorem dy_blk (k r q : ℕ) : Blk.dy (blk G k) r q = dy G (256 * k + r) q := by
  unfold Blk.dy dy
  rw [dhg_blk]; rfl

theorem dz_blk (k r q : ℕ) : Blk.dz (blk G k) r q = dz G (256 * k + r) q := by
  unfold Blk.dz dz
  rw [dhg_blk]
  show dhg G (256 * k + r) q * y G (256 * k + r) q * Lift.sg (G.z (256 * k + r) q)
    * (1 + G.z (256 * k + r) q * (1 - Lift.sg (G.z (256 * k + r) q))) = _
  ring

theorem xdt_blk (k r q : ℕ) : Blk.xdt (blk G k) r q = xdt G (256 * k + r) q := rfl
theorem gm_blk (k l s : ℕ) : Blk.gm (blk G k) l s = cb G (256 * k + l) (256 * k + s) := rfl

theorem dm_blk (k l s e : ℕ) (hk : k < 33) (hl : l < 256) (hs : s < 256) :
    Blk.dm (blk G k) l s e = dm G (256 * k + l) (256 * k + s) e * dec G (256 * k + l) (256 * k + s) e := by
  unfold Blk.dm dm
  simp only [dy_blk, xdt_blk, decay_blk G k l s e hk hl hs]

theorem dg_blk (k l s : ℕ) (hk : k < 33) (hl : l < 256) (hs : s < 256) :
    Blk.dg (blk G k) 8 l s = dcb G (256 * k + l) (256 * k + s) := by
  unfold Blk.dg dcb
  rw [Finset.sum_range]
  exact Finset.sum_congr rfl fun e _ => dm_blk G k l s e hk hl hs

/-- What the rows after a block give to the gradient of the block's scaled inputs. -/
theorem dxs_blk (k s q : ℕ) (hk : k < 33) (hs : s < 256) : Blk.dxs (blk G k) s q
    = ∑ l ∈ Ico (256 * (k + 1)) 8448, dy G l q * (cb G l (256 * k + s) * dec G l (256 * k + s) (q / 64)) := by
  unfold Blk.dxs
  rw [dte_blk G k s _ hk hs]
  have h1 : ∀ n : Fin 128, (blk G k).b s n * (blk G k).ds n q = ∑ l ∈ Ico (256 * (k + 1)) 8448,
      G.b (256 * k + s) n * (Real.exp (acs G l (q / 64) - ent G (k + 1) (q / 64)) * G.c l n * dy G l q) := by
    intro n
    rw [← Finset.mul_sum, ← dst_eq]; rfl
  rw [Finset.sum_congr rfl fun n _ => h1 n, Finset.sum_comm, Finset.sum_mul]
  refine Finset.sum_congr rfl fun l hl => ?_
  rw [mem_Ico] at hl
  rw [dec_of_le G (q / 64) (show 256 * k + s ≤ l by omega) (ent G (k + 1) (q / 64))]
  unfold cb
  simp only [Finset.sum_mul, Finset.mul_sum]
  exact Finset.sum_congr rfl fun n _ => by ring

/-- What the rows before a block give to the block's forward output. -/
theorem yoff_blk (k l q : ℕ) (hk : k < 33) (hl : l < 256) : Blk.yoff (blk G k) l q
    = ∑ s ∈ range (256 * k), xdt G s q * (cb G (256 * k + l) s * dec G (256 * k + l) s (q / 64)) := by
  unfold Blk.yoff
  rw [ecs_blk G k l _ hk hl]
  have h1 : ∀ n : Fin 128, (blk G k).c l n * (blk G k).st n q = ∑ s ∈ range (256 * k),
      G.c (256 * k + l) n * (Real.exp (ent G k (q / 64) - acs G s (q / 64)) * xdt G s q * G.b s n) := by
    intro n
    rw [← Finset.mul_sum, ← st_eq G k n q hk]; rfl
  rw [Finset.sum_congr rfl fun n _ => h1 n, Finset.sum_comm, Finset.sum_mul]
  refine Finset.sum_congr rfl fun s hs => ?_
  rw [mem_range] at hs
  rw [dec_of_le G (q / 64) (show s ≤ 256 * k + l by omega) (ent G k (q / 64))]
  unfold cb
  simp only [Finset.sum_mul, Finset.mul_sum]
  exact Finset.sum_congr rfl fun n _ => by ring

theorem dxdt_blk (k s q : ℕ) (hk : k < 33) (hs : s < 256) : Blk.dxdt (blk G k) s q = dxdt G (256 * k + s) q := by
  unfold Blk.dxdt dxdt
  rw [sum_split k hk (fun l => dy G l q * (cb G l (256 * k + s) * dec G l (256 * k + s) (q / 64))), dxs_blk G k s q hk hs]
  refine congrArg (· + _) ?_
  rw [Finset.sum_eq_zero (s := range (256 * k)), zero_add]
  · unfold Blk.dxi
    refine Finset.sum_congr rfl fun l _ => ?_
    rw [gm_blk, decay_blk G k l s _ hk l.isLt hs, dy_blk]
    ring
  · intro l hl
    rw [mem_range] at hl
    rw [dec_of_lt G _ (by omega), mul_zero, mul_zero]

theorem dx_blk (k r q : ℕ) (hk : k < 33) (hr : r < 256) : Blk.dx (blk G k) r q = dx G (256 * k + r) q := by
  unfold Blk.dx dx
  rw [dxdt_blk G k r q hk hr, dy_blk, add_comm]
  rfl

/-- The gradient of `c`. -/
theorem dc_blk (k l n : ℕ) (hk : k < 33) (hl : l < 256) : Blk.dc (blk G k) l n = dc G (256 * k + l) n := by
  unfold Blk.dc dc
  rw [sum_split k hk (fun s => dcb G (256 * k + l) s * G.b s n),
    Finset.sum_eq_zero (s := Ico (256 * (k + 1)) 8448), add_zero, add_comm]
  · refine congrArg₂ (· + ·) ?_ ?_
    · rw [sum_heads (fun q => Blk.dye (blk G k) l q * (blk G k).st n q)]
      have h1 : ∀ q, Blk.dye (blk G k) l q * (blk G k).st n q = ∑ s ∈ range (256 * k),
          dy G (256 * k + l) q * xdt G s q * dec G (256 * k + l) s (q / 64) * G.b s n := by
        intro q
        show Blk.dy (blk G k) l q * Blk.ecs (blk G k) l (q / 64) * st G k n q = _
        rw [dy_blk, ecs_blk G k l _ hk hl, st_eq G k n q hk, Finset.mul_sum]
        refine Finset.sum_congr rfl fun s hs => ?_
        rw [mem_range] at hs
        rw [dec_of_le G (q / 64) (show s ≤ 256 * k + l by omega) (ent G k (q / 64))]
        ring
      simp only [h1]
      rw [Finset.sum_congr rfl fun e _ => Finset.sum_comm, Finset.sum_comm]
      refine Finset.sum_congr rfl fun s _ => ?_
      unfold dcb dm
      simp only [Finset.sum_mul]
      refine Finset.sum_congr rfl fun e _ => Finset.sum_congr rfl fun p _ => ?_
      rw [show (64 * (e : ℕ) + (p : ℕ)) / 64 = (e : ℕ) by omega]
    · refine Finset.sum_congr rfl fun s _ => ?_
      rw [dg_blk G k l s hk hl s.isLt]; rfl
  · intro s hs
    rw [mem_Ico] at hs
    unfold dcb
    rw [Finset.sum_eq_zero, zero_mul]
    intro e _
    rw [dec_of_lt G _ (by omega), mul_zero]

/-- The gradient of `b`. -/
theorem db_blk (k s n : ℕ) (hk : k < 33) (hs : s < 256) : Blk.db (blk G k) s n = db G (256 * k + s) n := by
  unfold Blk.db db
  rw [sum_split k hk (fun l => dcb G l (256 * k + s) * G.c l n), Finset.sum_eq_zero (s := range (256 * k)), zero_add]
  · refine congrArg₂ (· + ·) ?_ ?_
    · refine Finset.sum_congr rfl fun l _ => ?_
      rw [dg_blk G k l s hk l.isLt hs]; rfl
    · rw [sum_heads (fun q => Blk.xdt (blk G k) s q * Blk.dte (blk G k) s (q / 64) * (blk G k).ds n q)]
      have h1 : ∀ q, Blk.xdt (blk G k) s q * Blk.dte (blk G k) s (q / 64) * (blk G k).ds n q
          = ∑ l ∈ Ico (256 * (k + 1)) 8448,
            dy G l q * xdt G (256 * k + s) q * dec G l (256 * k + s) (q / 64) * G.c l n := by
        intro q
        show Blk.xdt (blk G k) s q * Blk.dte (blk G k) s (q / 64) * dst G k n q = _
        rw [xdt_blk, dte_blk G k s _ hk hs, dst_eq, Finset.mul_sum]
        refine Finset.sum_congr rfl fun l hl => ?_
        rw [mem_Ico] at hl
        rw [dec_of_le G (q / 64) (show 256 * k + s ≤ l by omega) (ent G (k + 1) (q / 64))]
        ring
      simp only [h1]
      rw [Finset.sum_congr rfl fun e _ => Finset.sum_comm, Finset.sum_comm]
      refine Finset.sum_congr rfl fun l _ => ?_
      unfold dcb dm
      simp only [Finset.sum_mul]
      refine Finset.sum_congr rfl fun e _ => Finset.sum_congr rfl fun p _ => ?_
      rw [show (64 * (e : ℕ) + (p : ℕ)) / 64 = (e : ℕ) by omega]
  · intro l hl
    rw [mem_range] at hl
    unfold dcb
    rw [Finset.sum_eq_zero, zero_mul]
    intro e _
    rw [dec_of_lt G _ (by omega), mul_zero]

/-- The state gradient a block hands to the block before it. -/
theorem ds_blk (k n q : ℕ) (hk : k + 1 < 33) : Blk.ds' (blk G (k + 1)) n q = dst G k n q := by
  unfold Blk.ds'
  rw [dst_eq G k, ← Finset.sum_Ico_consecutive _ (show 256 * (k + 1) ≤ 256 * (k + 1 + 1) by omega)
    (show 256 * (k + 1 + 1) ≤ 8448 by omega), ← sum_blk, add_comm]
  refine congrArg₂ (· + ·) ?_ ?_
  · refine Finset.sum_congr rfl fun l _ => ?_
    show G.c (256 * (k + 1) + l) n * (Blk.dy (blk G (k + 1)) l q * Blk.ecs (blk G (k + 1)) l (q / 64)) = _
    rw [dy_blk, ecs_blk G (k + 1) l _ hk l.isLt]
    ring
  · show dst G (k + 1) n q * _ = _
    rw [dst_eq, dec_blk G (k + 1) _ hk, Finset.sum_mul]
    refine Finset.sum_congr rfl fun l _ => ?_
    rw [show acs G l (q / 64) - ent G (k + 1) (q / 64) = (acs G l (q / 64) - ent G (k + 1 + 1) (q / 64))
      + (ent G (k + 1 + 1) (q / 64) - ent G (k + 1) (q / 64)) by ring, Real.exp_add]
    ring

theorem dd_of_lt {l s : ℕ} (e : ℕ) (h : l < s) : dd G l s e = 0 := by
  unfold dd
  rw [dec_of_lt G e h, mul_zero]

/-- The gradient of the log decay at a row gathers the pairs of rows it lies between. -/
theorem dda_eq (l e : ℕ) (hl : l < 8448) : dda G l e = ∑ i ∈ Ico l 8448, ∑ s ∈ range l, dd G i s e := by
  unfold dda
  rw [sum_ge 8448 l (fun k => dcs G k e)]
  unfold dcs
  rw [Finset.sum_add_distrib, Finset.sum_neg_distrib]
  have h1 : (∑ m ∈ Ico l 8448, ∑ s : Fin 8448, dd G m s e)
      = (∑ m ∈ Ico l 8448, ∑ s ∈ range l, dd G m s e) + ∑ m ∈ Ico l 8448, ∑ s ∈ Ico l 8448, dd G m s e := by
    rw [← Finset.sum_add_distrib]
    refine Finset.sum_congr rfl fun m _ => ?_
    rw [Fin.sum_univ_eq_sum_range (fun s => dd G m s e), Finset.sum_range_add_sum_Ico _ (by omega)]
  have h2 : (∑ m ∈ Ico l 8448, ∑ k : Fin 8448, dd G k m e) = ∑ m ∈ Ico l 8448, ∑ s ∈ Ico l 8448, dd G m s e := by
    rw [Finset.sum_congr (g := fun m => ∑ k ∈ Ico l 8448, dd G k m e) rfl, Finset.sum_comm]
    intro m hm
    rw [mem_Ico] at hm
    rw [Fin.sum_univ_eq_sum_range (fun k => dd G k m e), ← Finset.sum_range_add_sum_Ico _ hl.le, Finset.sum_eq_zero, zero_add]
    intro k hk
    rw [mem_range] at hk
    exact dd_of_lt G e (by omega)
  rw [h1, h2]
  ring

/-- The product of a row's gradient and what earlier rows give it, over a head's lanes. -/
theorem sum_dd (l s e : ℕ) :
    (∑ p : Fin 64, dy G l (64 * e + p) * (xdt G s (64 * e + p) * (cb G l s * dec G l s ((64 * e + p) / 64)))) = dd G l s e := by
  unfold dd dm
  rw [mul_comm (cb G l s), Finset.sum_mul, Finset.sum_mul]
  refine Finset.sum_congr rfl fun p _ => ?_
  rw [show (64 * e + (p : ℕ)) / 64 = e by omega]
  ring

theorem da1_blk (k l e : ℕ) (hk : k < 33) : Blk.da1 (blk G k) l e
    = ∑ i : Fin 256, if l ≤ (i : ℕ) then ∑ s ∈ range (256 * k), dd G (256 * k + i) s e else 0 := by
  unfold Blk.da1
  refine Finset.sum_congr rfl fun i _ => ?_
  rw [ite_mul, one_mul, zero_mul]
  refine if_congr Iff.rfl ?_ rfl
  simp only [← sum_dd]
  rw [Finset.sum_comm]
  refine Finset.sum_congr rfl fun p _ => ?_
  rw [dy_blk, yoff_blk G k i _ hk i.isLt, Finset.mul_sum]

theorem da2_blk (k l e : ℕ) (hk : k < 33) : Blk.da2 (blk G k) l e
    = ∑ s : Fin 256, if (s : ℕ) < l then ∑ i ∈ Ico (256 * (k + 1)) 8448, dd G i (256 * k + s) e else 0 := by
  unfold Blk.da2
  refine Finset.sum_congr rfl fun s _ => ?_
  rw [ite_mul, one_mul, zero_mul]
  refine if_congr Iff.rfl ?_ rfl
  simp only [← sum_dd]
  rw [Finset.sum_comm]
  refine Finset.sum_congr rfl fun p _ => ?_
  rw [xdt_blk, dxs_blk G k s _ hk s.isLt, Finset.mul_sum]
  exact Finset.sum_congr rfl fun i _ => by ring

theorem da3_blk (k e : ℕ) (hk : k < 33) : Blk.da3 (blk G k) e
    = ∑ i ∈ Ico (256 * (k + 1)) 8448, ∑ s ∈ range (256 * k), dd G i s e := by
  unfold Blk.da3
  simp only [← sum_dd]
  rw [Finset.mul_sum]
  conv_rhs =>
    enter [2, i]
    rw [Finset.sum_comm]
  conv_rhs => rw [Finset.sum_comm]
  refine Finset.sum_congr rfl fun p _ => ?_
  have h1 : ∀ n : Fin 128, (blk G k).ds n (64 * e + p) * (blk G k).st n (64 * e + p) = ∑ i ∈ Ico (256 * (k + 1)) 8448,
      ∑ s ∈ range (256 * k), (Real.exp (acs G i ((64 * e + p) / 64) - ent G (k + 1) ((64 * e + p) / 64)) * G.c i n * dy G i (64 * e + p))
        * (Real.exp (ent G k ((64 * e + p) / 64) - acs G s ((64 * e + p) / 64)) * xdt G s (64 * e + p) * G.b s n) := by
    intro n
    rw [← Finset.sum_mul_sum, ← dst_eq, ← st_eq G k _ _ hk]
    rfl
  rw [Finset.sum_congr rfl fun n _ => h1 n, Finset.sum_comm, Finset.mul_sum]
  refine Finset.sum_congr rfl fun i hi => ?_
  rw [Finset.sum_comm, Finset.mul_sum]
  refine Finset.sum_congr rfl fun s hs => ?_
  rw [mem_range] at hs
  rw [mem_Ico] at hi
  rw [show (64 * e + (p : ℕ)) / 64 = e by omega, dec_of_le G e (show s ≤ i by omega) (ent G k e), dec_blk G k e hk,
    show acs G i e - ent G k e = (acs G i e - ent G (k + 1) e) + (ent G (k + 1) e - ent G k e) by ring, Real.exp_add]
  unfold cb
  simp only [Finset.sum_mul, Finset.mul_sum]
  exact Finset.sum_congr rfl fun n _ => by ring

theorem dac_blk (k l e : ℕ) (hk : k < 33) : Blk.dac (blk G k) l e
    = ∑ i : Fin 256, if l ≤ (i : ℕ) then ∑ s : Fin 256, if (s : ℕ) < l then dd G (256 * k + i) (256 * k + s) e else 0 else 0 := by
  unfold Blk.dac
  have h1 : ∀ s : Fin 256, (if (s : ℕ) < l then (∑ i : Fin 256, (if l ≤ (i : ℕ) then 1 else 0)
        * (Blk.dm (blk G k) i s e * Blk.gm (blk G k) i s)) else 0)
      = ∑ i : Fin 256, if l ≤ (i : ℕ) then if (s : ℕ) < l then dd G (256 * k + i) (256 * k + s) e else 0 else 0 := by
    intro s
    split
    · refine Finset.sum_congr rfl fun i _ => ?_
      rw [ite_mul, one_mul, zero_mul]
      refine if_congr Iff.rfl ?_ rfl
      rw [dm_blk G k i s e hk i.isLt s.isLt, gm_blk]
      unfold dd
      ring
    · simp
  rw [Finset.sum_congr rfl fun s _ => h1 s, Finset.sum_comm]
  refine Finset.sum_congr rfl fun i _ => ?_
  split
  · rfl
  · simp

/-- A sum over the rows before row `l` of a block: those before the block and the block's. -/
theorem sum_before (k l : ℕ) (hl : l < 256) (f : ℕ → ℝ) : (∑ s ∈ range (256 * k + l), f s)
    = (∑ s ∈ range (256 * k), f s) + ∑ s : Fin 256, if (s : ℕ) < l then f (256 * k + s) else 0 := by
  rw [Finset.sum_range_add, sum_lt 256 l hl.le (fun s => f (256 * k + s))]

/-- A sum over the rows from row `l` of a block on: the block's and those after it. -/
theorem sum_after (k l : ℕ) (hk : k < 33) (hl : l < 256) (f : ℕ → ℝ) : (∑ i ∈ Ico (256 * k + l) 8448, f i)
    = (∑ i : Fin 256, if l ≤ (i : ℕ) then f (256 * k + i) else 0) + ∑ i ∈ Ico (256 * (k + 1)) 8448, f i := by
  rw [← Finset.sum_Ico_consecutive _ (show 256 * k + l ≤ 256 * (k + 1) by omega) (show 256 * (k + 1) ≤ 8448 by omega),
    sum_ge 256 l (fun i => f (256 * k + i)), Finset.sum_Ico_add f l 256 (256 * k)]
  congr 3
  · omega
  · omega

theorem da_blk (k l e : ℕ) (hk : k < 33) (hl : l < 256) : Blk.da (blk G k) l e = dda G (256 * k + l) e := by
  unfold Blk.da
  rw [dda_eq G _ e (by omega), dac_blk G k l e hk, da1_blk G k l e hk, da2_blk G k l e hk, da3_blk G k e hk,
    sum_after k l hk hl]
  simp only [sum_before k l hl]
  have h1 : ∀ i : Fin 256, (if l ≤ (i : ℕ) then (∑ s ∈ range (256 * k), dd G (256 * k + i) s e)
      + ∑ s : Fin 256, (if (s : ℕ) < l then dd G (256 * k + i) (256 * k + s) e else 0) else 0)
      = (if l ≤ (i : ℕ) then ∑ s ∈ range (256 * k), dd G (256 * k + i) s e else 0)
      + if l ≤ (i : ℕ) then ∑ s : Fin 256, (if (s : ℕ) < l then dd G (256 * k + i) (256 * k + s) e else 0) else 0 := by
    intro i; split <;> simp
  rw [Finset.sum_congr rfl fun i _ => h1 i, Finset.sum_add_distrib, Finset.sum_add_distrib]
  have h2 : (∑ i ∈ Ico (256 * (k + 1)) 8448, ∑ s : Fin 256, if (s : ℕ) < l then dd G i (256 * k + s) e else 0)
      = ∑ s : Fin 256, if (s : ℕ) < l then ∑ i ∈ Ico (256 * (k + 1)) 8448, dd G i (256 * k + s) e else 0 := by
    rw [Finset.sum_comm]
    refine Finset.sum_congr rfl fun s _ => ?_
    split <;> simp
  rw [h2]
  ring

theorem ddtr_blk (k r e : ℕ) (hk : k < 33) (hr : r < 256) : Blk.ddtr (blk G k) r e = ddtr G (256 * k + r) e := by
  unfold Blk.ddtr ddtr
  show (if 240 ≤ 256 * k + r then _ else _) = _
  refine if_congr Iff.rfl ?_ rfl
  rw [da_blk G k r e hk hr]
  refine congrArg₂ (· * ·) (congrArg₂ (· + ·) rfl ?_) rfl
  refine Finset.sum_congr rfl fun p _ => ?_
  rw [dxdt_blk G k r _ hk hr, mul_comm]; rfl

/-- A sum over all rows, block by block from the last. -/
theorem sum_blocks (f : ℕ → ℝ) (m : ℕ) (hm : m ≤ 33) : (∑ ci ∈ range m, ∑ r : Fin 256, f (256 * (32 - ci) + r))
    = ∑ l ∈ Ico (256 * (33 - m)) 8448, f l := by
  induction m with
  | zero => simp
  | succ m ih =>
    rw [Finset.sum_range_succ, ih (by omega), sum_blk,
      show 256 * (32 - m + 1) = 256 * (33 - m) by omega, add_comm, Finset.sum_Ico_consecutive _ (by omega) (by omega)]
    rw [show 256 * (32 - m) = 256 * (33 - (m + 1)) by omega]

theorem sum_rows (f : ℕ → ℝ) : (∑ ci ∈ range 33, ∑ r : Fin 256, f (256 * (32 - ci) + r)) = ∑ l : Fin 8448, f l := by
  rw [sum_blocks f 33 le_rfl, Fin.sum_univ_eq_sum_range f, Finset.range_eq_Ico]

theorem dbias_blk (e : ℕ) : (∑ ci ∈ range 33, Blk.dbias (blk G (32 - ci)) e) = dbias G e := by
  unfold dbias
  rw [← sum_rows (fun l => ddtr G l e)]
  refine Finset.sum_congr rfl fun ci _ => ?_
  unfold Blk.dbias
  exact Finset.sum_congr rfl fun r _ => ddtr_blk G _ r e (by omega) r.isLt

theorem dalog_blk (e : ℕ) : (∑ ci ∈ range 33, Blk.dalog (blk G (32 - ci)) e) = dalog G e := by
  unfold dalog
  rw [← sum_rows (fun l => dda G l e * dt G l e), Finset.sum_mul]
  refine Finset.sum_congr rfl fun ci _ => ?_
  unfold Blk.dalog
  refine congrArg (· * _) ?_
  refine Finset.sum_congr rfl fun r _ => ?_
  rw [da_blk G _ r e (by omega) r.isLt]; rfl

theorem ddsk_blk (e : ℕ) : (∑ ci ∈ range 33, Blk.ddsk (blk G (32 - ci)) e) = ddsk G e := by
  unfold ddsk
  rw [← sum_rows (fun l => ∑ p : Fin 64, G.x l (64 * e + p) * dy G l (64 * e + p))]
  refine Finset.sum_congr rfl fun ci _ => ?_
  unfold Blk.ddsk
  rw [Finset.sum_comm]
  refine Finset.sum_congr rfl fun r _ => Finset.sum_congr rfl fun p _ => ?_
  rw [dy_blk, mul_comm]; rfl

theorem dgg_blk (q : ℕ) : (∑ ci ∈ range 33, Blk.dgg (blk G (32 - ci)) q) = dgg G q := by
  unfold dgg
  rw [← sum_rows (fun l => G.ct l q * (hg G l q * rs G l))]
  rfl

end Grp
-- ==== Proof.BodyC.lean ====
module

public import proofs.«01_k».proof.Proof.Gen.KernelIdeal.Skeleton
public import proofs.«01_k».proof.Proof.BlockSpec

/-! The steps of the kernel's body read at one place: when the vectors a step takes are real, so is its result, and it is
    the real expression stated. -/

@[expose] public section
set_option maxRecDepth 16384
noncomputable section
namespace Cert.KernelIdeal.Body
open Cert.KernelIdeal Cert.KernelIdeal.Gen Idealize.ShloMosaic Idealize.ShloMosaic.WordCmp Blk

variable (B : In)

theorem pay130 (v242 : FVec Ideal S256x512 .f32) (v314 : FVec Ideal S256x128 .f32) (v405 : FVec Ideal S256x128 .f32) (v496 : FVec Ideal S256x128 .f32) (v587 : FVec Ideal S256x128 .f32)
    (hv242 : ∀ (i : Fin 256) (j : Fin 512), v242 (ix2 i j) = ((dxs B (i : ℕ) (j : ℕ) : ℝ) : EReal))
    (hv314 : ∀ (i : Fin 256) (j : Fin 128), v314 (ix2 i j) = ((dxi B (i : ℕ) (0 + (j : ℕ)) : ℝ) : EReal))
    (hv405 : ∀ (i : Fin 256) (j : Fin 128), v405 (ix2 i j) = ((dxi B (i : ℕ) (128 + (j : ℕ)) : ℝ) : EReal))
    (hv496 : ∀ (i : Fin 256) (j : Fin 128), v496 (ix2 i j) = ((dxi B (i : ℕ) (256 + (j : ℕ)) : ℝ) : EReal))
    (hv587 : ∀ (i : Fin 256) (j : Fin 128), v587 (ix2 i j) = ((dxi B (i : ℕ) (384 + (j : ℕ)) : ℝ) : EReal))
    (i : Fin 256) (j : Fin 512) :
    k0_pay130 v242 v314 v405 v496 v587 (ix2 i j) = ((dxdt B (i : ℕ) (j : ℕ) : ℝ) : EReal) := by
  unfold k0_pay130
  pointwise
  by_cases h1 : (j : ℕ) < 128
  · simp only [h1, dite_true, hv242, hv314, hv405, hv496, hv587, Lift.up, Lift.body]
    refine congrArg _ ?_
    simp only [dxdt, zero_add]
  · by_cases h2 : (j : ℕ) - 128 < 128
    · simp only [h1, h2, dite_true, dite_false, hv242, hv314, hv405, hv496, hv587, Lift.up, Lift.body]
      refine congrArg _ ?_
      unfold dxdt
      congr 2
      omega
    · by_cases h3 : (j : ℕ) - 128 - 128 < 128
      · simp only [h1, h2, h3, dite_true, dite_false, hv242, hv314, hv405, hv496, hv587, Lift.up, Lift.body]
        refine congrArg _ ?_
        unfold dxdt
        congr 2
        omega
      · simp only [h1, h2, h3, dite_true, dite_false, hv242, hv314, hv405, hv496, hv587, Lift.up, Lift.body]
        refine congrArg _ ?_
        unfold dxdt
        congr 2
        omega

theorem pay132 (v6 : FVec Ideal S128x512 .f32) (v237 : FVec Ideal S256x128 .bf16) (v239 : FVec Ideal S256x512 .f32) (v591 : FVec Ideal S256x256 .f32)
    (hv6 : ∀ (i : Fin 128) (j : Fin 512), v6 (ix2 i j) = ((B.st (i : ℕ) (j : ℕ) : ℝ) : EReal))
    (hv237 : ∀ (i : Fin 256) (j : Fin 128), v237 (ix2 i j) = ((B.b (i : ℕ) (j : ℕ) : ℝ) : EReal))
    (hv239 : ∀ (i : Fin 256) (j : Fin 512), v239 (ix2 i j) = ((dye B (i : ℕ) (j : ℕ) : ℝ) : EReal))
    (hv591 : ∀ (i : Fin 256) (j : Fin 256), v591 (ix2 i j) = ((dg B 8 (i : ℕ) (j : ℕ) : ℝ) : EReal))
    (i : Fin 256) (j : Fin 128) :
    k0_pay132 v6 v237 v239 v591 (ix2 i j) = ((dc B (i : ℕ) (j : ℕ) : ℝ) : EReal) := by
  unfold k0_pay132 k0_pay131
  pointwise
  try simp only [hv6, hv237, hv239, hv591, Lift.up, Lift.body, Lift.words]
  try refine congrArg _ ?_
  try simp only [dc, sub_self, zero_mul, mul_zero, Finset.sum_const_zero, add_zero, zero_add, sub_zero, zero_sub, mul_one, one_mul, mul_ite, ite_mul, ite_self]

theorem pay133 (v4 : Vec Ideal S128x512 .f32) (v140 : FVec Ideal S256x512 .f32) (v165 : FVec Ideal S256x512 .f32) (v238 : FVec Ideal S256x128 .bf16) (v591 : FVec Ideal S256x256 .f32)
    (hv4 : ∀ (i : Fin 128) (j : Fin 512), v4 (ix2 i j) = ((B.ds (i : ℕ) (j : ℕ) : ℝ) : EReal))
    (hv140 : ∀ (i : Fin 256) (j : Fin 512), v140 (ix2 i j) = ((dte B (i : ℕ) ((j : ℕ) / 64) : ℝ) : EReal))
    (hv165 : ∀ (i : Fin 256) (j : Fin 512), v165 (ix2 i j) = ((xdt B (i : ℕ) (j : ℕ) : ℝ) : EReal))
    (hv238 : ∀ (i : Fin 256) (j : Fin 128), v238 (ix2 i j) = ((B.c (i : ℕ) (j : ℕ) : ℝ) : EReal))
    (hv591 : ∀ (i : Fin 256) (j : Fin 256), v591 (ix2 i j) = ((dg B 8 (i : ℕ) (j : ℕ) : ℝ) : EReal))
    (i : Fin 256) (j : Fin 128) :
    k0_pay133 v4 v140 v165 v238 v591 (ix2 i j) = ((db B (i : ℕ) (j : ℕ) : ℝ) : EReal) := by
  unfold k0_pay133 k0_pay131
  pointwise
  try simp only [hv4, hv140, hv165, hv238, hv591, Lift.up, Lift.body, Lift.words]
  try refine congrArg _ ?_
  try simp only [db, sub_self, zero_mul, mul_zero, Finset.sum_const_zero, add_zero, zero_add, sub_zero, zero_sub, mul_one, one_mul, mul_ite, ite_mul, ite_self]

theorem pay134 (v4 : Vec Ideal S128x512 .f32) (v152 : FVec Ideal S1x512 .f32) (v238 : FVec Ideal S256x128 .bf16) (v239 : FVec Ideal S256x512 .f32)
    (hv4 : ∀ (i : Fin 128) (j : Fin 512), v4 (ix2 i j) = ((B.ds (i : ℕ) (j : ℕ) : ℝ) : EReal))
    (hv152 : ∀ (i : Fin 1) (j : Fin 512), v152 (ix2 i j) = ((dec B ((j : ℕ) / 64) : ℝ) : EReal))
    (hv238 : ∀ (i : Fin 256) (j : Fin 128), v238 (ix2 i j) = ((B.c (i : ℕ) (j : ℕ) : ℝ) : EReal))
    (hv239 : ∀ (i : Fin 256) (j : Fin 512), v239 (ix2 i j) = ((dye B (i : ℕ) (j : ℕ) : ℝ) : EReal))
    (i : Fin 128) (j : Fin 512) :
    k0_pay134 v4 v152 v238 v239 (ix2 i j) = ((ds' B (i : ℕ) (j : ℕ) : ℝ) : EReal) := by
  unfold k0_pay134
  pointwise
  try simp only [hv4, hv152, hv238, hv239, Lift.up, Lift.body, Lift.words]
  try refine congrArg _ ?_
  try simp only [ds', sub_self, zero_mul, mul_zero, Finset.sum_const_zero, add_zero, zero_add, sub_zero, zero_sub, mul_one, one_mul, mul_ite, ite_mul, ite_self]

theorem pay135 (v243 : IVec S256x256 32) (v244 : IVec S256x256 32)
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (i : Fin 256) (j : Fin 256) :
    k0_pay135 (F := Ideal) v243 v244 (ix2 i j) = ((if (j : ℕ) < (i : ℕ) then 1 else 0 : ℝ) : EReal) := by
  unfold k0_pay135
  pointwise
  try simp only [hv243, hv244, Lift.muli_ofNat, Lift.addi_ofNat]
  rw [cmpi_sgt_ofNat (by omega) (by omega), Lift.sitofp_bool]
  simp only [decide_eq_true_eq]

theorem pay137 (v6 : FVec Ideal S128x512 .f32) (v128 : FVec Ideal S256x512 .f32) (v226 : FVec Ideal S256x512 .f32) (v238 : FVec Ideal S256x128 .bf16)
    (hv6 : ∀ (i : Fin 128) (j : Fin 512), v6 (ix2 i j) = ((B.st (i : ℕ) (j : ℕ) : ℝ) : EReal))
    (hv128 : ∀ (i : Fin 256) (j : Fin 512), v128 (ix2 i j) = ((ecs B (i : ℕ) ((j : ℕ) / 64) : ℝ) : EReal))
    (hv226 : ∀ (i : Fin 256) (j : Fin 512), v226 (ix2 i j) = ((dy B (i : ℕ) (j : ℕ) : ℝ) : EReal))
    (hv238 : ∀ (i : Fin 256) (j : Fin 128), v238 (ix2 i j) = ((B.c (i : ℕ) (j : ℕ) : ℝ) : EReal))
    (i : Fin 256) (j : Fin 512) :
    k0_pay137 v6 v128 v226 v238 (ix2 i j) = ((dy B (i : ℕ) (j : ℕ) * yoff B (i : ℕ) (j : ℕ) : ℝ) : EReal) := by
  unfold k0_pay137 k0_pay136
  pointwise
  try simp only [hv6, hv128, hv226, hv238, Lift.up, Lift.body, Lift.words]
  try refine congrArg _ ?_
  try simp only [yoff, sub_self, zero_mul, mul_zero, Finset.sum_const_zero, add_zero, zero_add, sub_zero, zero_sub, mul_one, one_mul, mul_ite, ite_mul, ite_self]

theorem pay138 (v6 : FVec Ideal S128x512 .f32) (v128 : FVec Ideal S256x512 .f32) (v226 : FVec Ideal S256x512 .f32) (v238 : FVec Ideal S256x128 .bf16)
    (hv6 : ∀ (i : Fin 128) (j : Fin 512), v6 (ix2 i j) = ((B.st (i : ℕ) (j : ℕ) : ℝ) : EReal))
    (hv128 : ∀ (i : Fin 256) (j : Fin 512), v128 (ix2 i j) = ((ecs B (i : ℕ) ((j : ℕ) / 64) : ℝ) : EReal))
    (hv226 : ∀ (i : Fin 256) (j : Fin 512), v226 (ix2 i j) = ((dy B (i : ℕ) (j : ℕ) : ℝ) : EReal))
    (hv238 : ∀ (i : Fin 256) (j : Fin 128), v238 (ix2 i j) = ((B.c (i : ℕ) (j : ℕ) : ℝ) : EReal))
    (i : Fin 256) (j : Fin 512) :
    k0_pay138 v6 v128 v226 v238 (ix2 i j) = ((0 : ℝ) : EReal) := by
  unfold k0_pay138 k0_pay137 k0_pay136
  pointwise
  try simp only [hv6, hv128, hv226, hv238, Lift.up, Lift.body, Lift.words]
  try refine congrArg _ ?_
  try simp only [sub_self, zero_mul, mul_zero, Finset.sum_const_zero, add_zero, zero_add, sub_zero, zero_sub, mul_one, one_mul, mul_ite, ite_mul, ite_self]

theorem pay139 (v6 : FVec Ideal S128x512 .f32) (v128 : FVec Ideal S256x512 .f32) (v226 : FVec Ideal S256x512 .f32) (v238 : FVec Ideal S256x128 .bf16)
    (hv6 : ∀ (i : Fin 128) (j : Fin 512), v6 (ix2 i j) = ((B.st (i : ℕ) (j : ℕ) : ℝ) : EReal))
    (hv128 : ∀ (i : Fin 256) (j : Fin 512), v128 (ix2 i j) = ((ecs B (i : ℕ) ((j : ℕ) / 64) : ℝ) : EReal))
    (hv226 : ∀ (i : Fin 256) (j : Fin 512), v226 (ix2 i j) = ((dy B (i : ℕ) (j : ℕ) : ℝ) : EReal))
    (hv238 : ∀ (i : Fin 256) (j : Fin 128), v238 (ix2 i j) = ((B.c (i : ℕ) (j : ℕ) : ℝ) : EReal))
    (i : Fin 256) (j : Fin 512) :
    k0_pay139 v6 v128 v226 v238 (ix2 i j) = ((0 : ℝ) : EReal) := by
  unfold k0_pay139 k0_pay138 k0_pay137 k0_pay136
  pointwise
  try simp only [hv6, hv128, hv226, hv238, Lift.up, Lift.body, Lift.words]
  try refine congrArg _ ?_
  try simp only [sub_self, zero_mul, mul_zero, Finset.sum_const_zero, add_zero, zero_add, sub_zero, zero_sub, mul_one, one_mul, mul_ite, ite_mul, ite_self]

theorem pay140 (v6 : FVec Ideal S128x512 .f32) (v128 : FVec Ideal S256x512 .f32) (v226 : FVec Ideal S256x512 .f32) (v238 : FVec Ideal S256x128 .bf16)
    (hv6 : ∀ (i : Fin 128) (j : Fin 512), v6 (ix2 i j) = ((B.st (i : ℕ) (j : ℕ) : ℝ) : EReal))
    (hv128 : ∀ (i : Fin 256) (j : Fin 512), v128 (ix2 i j) = ((ecs B (i : ℕ) ((j : ℕ) / 64) : ℝ) : EReal))
    (hv226 : ∀ (i : Fin 256) (j : Fin 512), v226 (ix2 i j) = ((dy B (i : ℕ) (j : ℕ) : ℝ) : EReal))
    (hv238 : ∀ (i : Fin 256) (j : Fin 128), v238 (ix2 i j) = ((B.c (i : ℕ) (j : ℕ) : ℝ) : EReal))
    (i : Fin 256) (j : Fin 512) :
    k0_pay140 v6 v128 v226 v238 (ix2 i j) = ((0 : ℝ) : EReal) := by
  unfold k0_pay140 k0_pay139 k0_pay138 k0_pay137 k0_pay136
  pointwise
  try simp only [hv6, hv128, hv226, hv238, Lift.up, Lift.body, Lift.words]
  try refine congrArg _ ?_
  try simp only [sub_self, zero_mul, mul_zero, Finset.sum_const_zero, add_zero, zero_add, sub_zero, zero_sub, mul_one, one_mul, mul_ite, ite_mul, ite_self]

theorem pay141 (v50 : FVec Ideal S256x256 .bf16) (v165 : FVec Ideal S256x512 .f32) (v182 : FVec Ideal S512x8 .bf16) (v242 : FVec Ideal S256x512 .f32) (v607 : FVec Ideal S256x8 .f32) (v640 : FVec Ideal S256x256 .bf16) (v642 : FVec Ideal S256x512 .bf16) (v644 : FVec Ideal S256x512 .f32) (v645 : FVec Ideal S256x512 .bf16) (v646 : FVec Ideal S256x512 .f32)
    (hv50 : ∀ (i : Fin 256) (j : Fin 256), v50 (ix2 i j) = ((if (i : ℕ) ≤ (j : ℕ) then 1 else 0 : ℝ) : EReal))
    (hv165 : ∀ (i : Fin 256) (j : Fin 512), v165 (ix2 i j) = ((xdt B (i : ℕ) (j : ℕ) : ℝ) : EReal))
    (hv182 : ∀ (i : Fin 512) (j : Fin 8), v182 (ix2 i j) = ((if (i : ℕ) / 64 = (j : ℕ) then 1 else 0 : ℝ) : EReal))
    (hv242 : ∀ (i : Fin 256) (j : Fin 512), v242 (ix2 i j) = ((dxs B (i : ℕ) (j : ℕ) : ℝ) : EReal))
    (hv607 : ∀ (i : Fin 256) (j : Fin 8), v607 (ix2 i j) = ((if (j : ℕ) < 8 then dac B (i : ℕ) (j : ℕ) else 0 : ℝ) : EReal))
    (hv640 : ∀ (i : Fin 256) (j : Fin 256), v640 (ix2 i j) = ((if (j : ℕ) < (i : ℕ) then 1 else 0 : ℝ) : EReal))
    (hv642 : ∀ (i : Fin 256) (j : Fin 512), v642 (ix2 i j) = ((dy B (i : ℕ) (j : ℕ) * yoff B (i : ℕ) (j : ℕ) : ℝ) : EReal))
    (hv644 : ∀ (i : Fin 256) (j : Fin 512), v644 (ix2 i j) = ((0 : ℝ) : EReal))
    (hv645 : ∀ (i : Fin 256) (j : Fin 512), v645 (ix2 i j) = ((0 : ℝ) : EReal))
    (hv646 : ∀ (i : Fin 256) (j : Fin 512), v646 (ix2 i j) = ((0 : ℝ) : EReal))
    (i : Fin 256) (j : Fin 8) :
    k0_pay141 v50 v165 v182 v242 v607 v640 v642 v644 v645 v646 (ix2 i j) = ((dac B (i : ℕ) (j : ℕ) + da1 B (i : ℕ) (j : ℕ) + da2 B (i : ℕ) (j : ℕ) : ℝ) : EReal) := by
  unfold k0_pay141
  pointwise
  try simp only [hv50, hv165, hv182, hv242, hv607, hv640, hv642, hv644, hv645, hv646, Lift.up, Lift.body, Lift.words]
  refine congrArg _ ?_
  have hl0 := fun k : ℕ => lanes 512 (fun q => dy B k q * yoff B k q) j (by omega)
  have hl1 := fun k : ℕ => lanes 512 (fun q => xdt B k q * dxs B k q) j (by omega)
  try simp only [sub_self, zero_mul, mul_zero, Finset.sum_const_zero, add_zero, zero_add, sub_zero, zero_sub, mul_one, one_mul, mul_ite, ite_mul, ite_self] at hl0 hl1
  simp only [da1, da2, show (j : ℕ) < 8 from j.isLt, if_true, sub_self, zero_mul, mul_zero, Finset.sum_const_zero, add_zero, zero_add, sub_zero, zero_sub, mul_one, one_mul, mul_ite, ite_mul, ite_self, hl0, hl1]

theorem pay142 (v4 : Vec Ideal S128x512 .f32) (v6 : FVec Ideal S128x512 .f32)
    (hv4 : ∀ (i : Fin 128) (j : Fin 512), v4 (ix2 i j) = ((B.ds (i : ℕ) (j : ℕ) : ℝ) : EReal))
    (hv6 : ∀ (i : Fin 128) (j : Fin 512), v6 (ix2 i j) = ((B.st (i : ℕ) (j : ℕ) : ℝ) : EReal))
    (i : Fin 128) (j : Fin 512) :
    k0_pay142 v4 v6 (ix2 i j) = ((B.ds (i : ℕ) (j : ℕ) * B.st (i : ℕ) (j : ℕ) : ℝ) : EReal) := by
  unfold k0_pay142
  pointwise
  try simp only [hv4, hv6, Lift.up, Lift.body, Lift.words]
  try rfl

theorem pay143 (v104 : FVec Ideal S1x8 .f32) (v182 : FVec Ideal S512x8 .bf16) (v692 : FVec Ideal S256x8 .f32) (v693 : FVec Ideal S128x512 .f32)
    (hv104 : ∀ (i : Fin 1) (j : Fin 8), v104 (ix2 i j) = ((dec B (j : ℕ) : ℝ) : EReal))
    (hv182 : ∀ (i : Fin 512) (j : Fin 8), v182 (ix2 i j) = ((if (i : ℕ) / 64 = (j : ℕ) then 1 else 0 : ℝ) : EReal))
    (hv692 : ∀ (i : Fin 256) (j : Fin 8), v692 (ix2 i j) = ((dac B (i : ℕ) (j : ℕ) + da1 B (i : ℕ) (j : ℕ) + da2 B (i : ℕ) (j : ℕ) : ℝ) : EReal))
    (hv693 : ∀ (i : Fin 128) (j : Fin 512), v693 (ix2 i j) = ((B.ds (i : ℕ) (j : ℕ) * B.st (i : ℕ) (j : ℕ) : ℝ) : EReal))
    (i : Fin 256) (j : Fin 8) :
    k0_pay143 v104 v182 v692 v693 (ix2 i j) = ((da B (i : ℕ) (j : ℕ) : ℝ) : EReal) := by
  unfold k0_pay143
  pointwise
  try simp only [hv104, hv182, hv692, hv693, Lift.up, Lift.body, Lift.words]
  refine congrArg _ ?_
  have hl0 := lanes 512 (fun q => ∑ n : Fin 128, B.ds n q * B.st n q) j (by omega)
  try simp only [sub_self, zero_mul, mul_zero, Finset.sum_const_zero, add_zero, zero_add, sub_zero, zero_sub, mul_one, one_mul, mul_ite, ite_mul, ite_self] at hl0
  simp only [da, da3, sub_self, zero_mul, mul_zero, Finset.sum_const_zero, add_zero, zero_add, sub_zero, zero_sub, mul_one, one_mul, mul_ite, ite_mul, ite_self, hl0]

theorem pay144 (v8 : FVec Ideal S256x512 .f32) (v18 : IVec S256x1 1) (v52 : FVec Ideal S256x8 .f32) (v69 : FVec Ideal S1x8 .f32) (v104 : FVec Ideal S1x8 .f32) (v182 : FVec Ideal S512x8 .bf16) (v609 : FVec Ideal S256x512 .f32) (v692 : FVec Ideal S256x8 .f32) (v693 : FVec Ideal S128x512 .f32)
    (hv8 : ∀ (i : Fin 256) (j : Fin 512), v8 (ix2 i j) = ((B.x (i : ℕ) (j : ℕ) : ℝ) : EReal))
    (hv18 : ∀ (i : Fin 256) (j : Fin 1), v18 (ix2 i j) = BitVec.ofBool (decide (240 ≤ B.row + (i : ℕ))))
    (hv52 : ∀ (i : Fin 256) (j : Fin 8), v52 (ix2 i j) = ((pre B (i : ℕ) (j : ℕ) : ℝ) : EReal))
    (hv69 : ∀ (i : Fin 1) (j : Fin 8), v69 (ix2 i j) = ((a B (j : ℕ) : ℝ) : EReal))
    (hv104 : ∀ (i : Fin 1) (j : Fin 8), v104 (ix2 i j) = ((dec B (j : ℕ) : ℝ) : EReal))
    (hv182 : ∀ (i : Fin 512) (j : Fin 8), v182 (ix2 i j) = ((if (i : ℕ) / 64 = (j : ℕ) then 1 else 0 : ℝ) : EReal))
    (hv609 : ∀ (i : Fin 256) (j : Fin 512), v609 (ix2 i j) = ((dxdt B (i : ℕ) (j : ℕ) : ℝ) : EReal))
    (hv692 : ∀ (i : Fin 256) (j : Fin 8), v692 (ix2 i j) = ((dac B (i : ℕ) (j : ℕ) + da1 B (i : ℕ) (j : ℕ) + da2 B (i : ℕ) (j : ℕ) : ℝ) : EReal))
    (hv693 : ∀ (i : Fin 128) (j : Fin 512), v693 (ix2 i j) = ((B.ds (i : ℕ) (j : ℕ) * B.st (i : ℕ) (j : ℕ) : ℝ) : EReal))
    (i : Fin 256) (j : Fin 8) :
    k0_pay144 v8 v18 v52 v69 v104 v182 v609 v692 v693 (ix2 i j) = ((ddtr B (i : ℕ) (j : ℕ) : ℝ) : EReal) := by
  unfold k0_pay144 k0_pay143
  pointwise
  try simp only [hv8, hv18, hv52, hv69, hv104, hv182, hv609, hv692, hv693, Lift.up, Lift.body, Lift.words]
  refine congrArg _ ?_
  have hl0 := lanes 512 (fun q => ∑ n : Fin 128, B.ds n q * B.st n q) j (by omega)
  have hl1 := lanes 512 (fun q => dxdt B i q * B.x i q) j (by omega)
  try simp only [sub_self, zero_mul, mul_zero, Finset.sum_const_zero, add_zero, zero_add, sub_zero, zero_sub, mul_one, one_mul, mul_ite, ite_mul, ite_self] at hl0 hl1
  simp only [ddtr, da, da3, sub_self, zero_mul, mul_zero, Finset.sum_const_zero, add_zero, zero_add, sub_zero, zero_sub, mul_one, one_mul, mul_ite, ite_mul, ite_self, hl0, hl1]

theorem pay145 (v738 : FVec Ideal S256x8 .f32)
    (hv738 : ∀ (i : Fin 256) (j : Fin 8), v738 (ix2 i j) = ((ddtr B (i : ℕ) (j : ℕ) : ℝ) : EReal))
    (i : Fin 1) (j : Fin 256) (k : Fin 8) :
    k0_pay145 v738 (ix3 i j k) = ((ddtr B (j : ℕ) (k : ℕ) : ℝ) : EReal) := by
  unfold k0_pay145
  pointwise
  try simp only [hv738, Lift.up, Lift.body, Lift.words]
  try rfl

theorem pay146 (v116 : FVec Ideal S256x512 .f32) (v164 : FVec Ideal S1x512 .f32) (v226 : FVec Ideal S256x512 .f32) (v609 : FVec Ideal S256x512 .f32)
    (hv116 : ∀ (i : Fin 256) (j : Fin 512), v116 (ix2 i j) = ((dt B (i : ℕ) ((j : ℕ) / 64) : ℝ) : EReal))
    (hv164 : ∀ (i : Fin 1) (j : Fin 512), v164 (ix2 i j) = ((B.dsk ((j : ℕ) / 64) : ℝ) : EReal))
    (hv226 : ∀ (i : Fin 256) (j : Fin 512), v226 (ix2 i j) = ((dy B (i : ℕ) (j : ℕ) : ℝ) : EReal))
    (hv609 : ∀ (i : Fin 256) (j : Fin 512), v609 (ix2 i j) = ((dxdt B (i : ℕ) (j : ℕ) : ℝ) : EReal))
    (i : Fin 256) (j : Fin 512) :
    k0_pay146 v116 v164 v226 v609 (ix2 i j) = ((dx B (i : ℕ) (j : ℕ) : ℝ) : EReal) := by
  unfold k0_pay146
  pointwise
  try simp only [hv116, hv164, hv226, hv609, Lift.up, Lift.body, Lift.words]
  try rfl

theorem pay147 (p : ℕ → ℝ) (v738 : FVec Ideal S256x8 .f32) (v752 : Vec Ideal S1x1x8 .f32)
    (hv738 : ∀ (i : Fin 256) (j : Fin 8), v738 (ix2 i j) = ((ddtr B (i : ℕ) (j : ℕ) : ℝ) : EReal))
    (hv752 : ∀ (i : Fin 1) (j : Fin 1) (k : Fin 8), v752 (ix3 i j k) = ((p (k : ℕ) : ℝ) : EReal))
    (i : Fin 1) (j : Fin 1) (k : Fin 8) :
    k0_pay147 v738 v752 (ix3 i j k) = ((p (k : ℕ) + dbias B (k : ℕ) : ℝ) : EReal) := by
  unfold k0_pay147
  pointwise
  try simp only [hv738, hv752, Lift.up, Lift.body, Lift.words]
  try rfl

theorem pay148 (p : ℕ → ℝ) (v66 : FVec Ideal S256x8 .f32) (v69 : FVec Ideal S1x8 .f32) (v710 : FVec Ideal S256x8 .f32) (v760 : Vec Ideal S1x1x8 .f32)
    (hv66 : ∀ (i : Fin 256) (j : Fin 8), v66 (ix2 i j) = ((dt B (i : ℕ) (j : ℕ) : ℝ) : EReal))
    (hv69 : ∀ (i : Fin 1) (j : Fin 8), v69 (ix2 i j) = ((a B (j : ℕ) : ℝ) : EReal))
    (hv710 : ∀ (i : Fin 256) (j : Fin 8), v710 (ix2 i j) = ((da B (i : ℕ) (j : ℕ) : ℝ) : EReal))
    (hv760 : ∀ (i : Fin 1) (j : Fin 1) (k : Fin 8), v760 (ix3 i j k) = ((p (k : ℕ) : ℝ) : EReal))
    (i : Fin 1) (j : Fin 1) (k : Fin 8) :
    k0_pay148 v66 v69 v710 v760 (ix3 i j k) = ((p (k : ℕ) + dalog B (k : ℕ) : ℝ) : EReal) := by
  unfold k0_pay148
  pointwise
  try simp only [hv66, hv69, hv710, hv760, Lift.up, Lift.body, Lift.words]
  try refine congrArg _ ?_
  try simp only [dalog, sub_self, zero_mul, mul_zero, Finset.sum_const_zero, add_zero, zero_add, sub_zero, zero_sub, mul_one, one_mul, mul_ite, ite_mul, ite_self]

theorem pay149 (p : ℕ → ℝ) (v766 : Vec Ideal S1x1x8 .f32)
    (hv766 : ∀ (i : Fin 1) (j : Fin 1) (k : Fin 8), v766 (ix3 i j k) = ((p (k : ℕ) : ℝ) : EReal))
    (i : Fin 1) (j : Fin 8) :
    k0_pay149 v766 (ix2 i j) = ((p (j : ℕ) : ℝ) : EReal) := by
  unfold k0_pay149
  pointwise
  try simp only [hv766, Lift.up, Lift.body, Lift.words]
  try rfl

theorem pay151 (v8 : FVec Ideal S256x512 .f32) (v226 : FVec Ideal S256x512 .f32)
    (hv8 : ∀ (i : Fin 256) (j : Fin 512), v8 (ix2 i j) = ((B.x (i : ℕ) (j : ℕ) : ℝ) : EReal))
    (hv226 : ∀ (i : Fin 256) (j : Fin 512), v226 (ix2 i j) = ((dy B (i : ℕ) (j : ℕ) : ℝ) : EReal))
    (i : Fin 1) (j : Fin 512) :
    k0_pay151 v8 v226 (ix2 i j) = ((∑ r : Fin 256, dy B r (j : ℕ) * B.x r (j : ℕ) : ℝ) : EReal) := by
  unfold k0_pay151 k0_pay150
  pointwise
  try simp only [hv8, hv226, Lift.up, Lift.body, Lift.words]

theorem pay153 (v8 : FVec Ideal S256x512 .f32) (v226 : FVec Ideal S256x512 .f32)
    (hv8 : ∀ (i : Fin 256) (j : Fin 512), v8 (ix2 i j) = ((B.x (i : ℕ) (j : ℕ) : ℝ) : EReal))
    (hv226 : ∀ (i : Fin 256) (j : Fin 512), v226 (ix2 i j) = ((dy B (i : ℕ) (j : ℕ) : ℝ) : EReal))
    (i : Fin 1) (j : Fin 512) :
    k0_pay153 v8 v226 (ix2 i j) = ((0 : ℝ) : EReal) := by
  unfold k0_pay153 k0_pay152 k0_pay151 k0_pay150
  pointwise
  try simp only [hv8, hv226, Lift.up, Lift.body, Lift.words]
  try refine congrArg _ ?_
  try simp only [sub_self, zero_mul, mul_zero, Finset.sum_const_zero, add_zero, zero_add, sub_zero, zero_sub, mul_one, one_mul, mul_ite, ite_mul, ite_self]

theorem pay154 (v8 : FVec Ideal S256x512 .f32) (v226 : FVec Ideal S256x512 .f32)
    (hv8 : ∀ (i : Fin 256) (j : Fin 512), v8 (ix2 i j) = ((B.x (i : ℕ) (j : ℕ) : ℝ) : EReal))
    (hv226 : ∀ (i : Fin 256) (j : Fin 512), v226 (ix2 i j) = ((dy B (i : ℕ) (j : ℕ) : ℝ) : EReal))
    (i : Fin 1) (j : Fin 512) :
    k0_pay154 v8 v226 (ix2 i j) = ((0 : ℝ) : EReal) := by
  unfold k0_pay154 k0_pay153 k0_pay152 k0_pay151 k0_pay150
  pointwise
  try simp only [hv8, hv226, Lift.up, Lift.body, Lift.words]
  try refine congrArg _ ?_
  try simp only [sub_self, zero_mul, mul_zero, Finset.sum_const_zero, add_zero, zero_add, sub_zero, zero_sub, mul_one, one_mul, mul_ite, ite_mul, ite_self]

theorem pay1 (p : ℕ → ℝ) (v182 : FVec Ideal S512x8 .bf16) (v767 : FVec Ideal S1x8 .f32) (v771 : FVec Ideal S1x512 .bf16) (v774 : FVec Ideal S1x512 .bf16) (v776 : FVec Ideal S1x512 .f32)
    (hv182 : ∀ (i : Fin 512) (j : Fin 8), v182 (ix2 i j) = ((if (i : ℕ) / 64 = (j : ℕ) then 1 else 0 : ℝ) : EReal))
    (hv767 : ∀ (i : Fin 1) (j : Fin 8), v767 (ix2 i j) = ((p (j : ℕ) : ℝ) : EReal))
    (hv771 : ∀ (i : Fin 1) (j : Fin 512), v771 (ix2 i j) = ((∑ r : Fin 256, dy B r (j : ℕ) * B.x r (j : ℕ) : ℝ) : EReal))
    (hv774 : ∀ (i : Fin 1) (j : Fin 512), v774 (ix2 i j) = ((0 : ℝ) : EReal))
    (hv776 : ∀ (i : Fin 1) (j : Fin 512), v776 (ix2 i j) = ((0 : ℝ) : EReal))
    (i : Fin 1) (j : Fin 1) (k : Fin 8) :
    k0_pay1 v182 v767 v771 v774 v776 (ix3 i j k) = ((p (k : ℕ) + ddsk B (k : ℕ) : ℝ) : EReal) := by
  unfold k0_pay1
  pointwise
  try simp only [hv182, hv767, hv771, hv774, hv776, Lift.up, Lift.body, Lift.words]
  refine congrArg _ ?_
  have hl := lanes 512 (fun q => ∑ r : Fin 256, dy B r q * B.x r q) k (by omega)
  simp only [ddsk, sub_self, zero_mul, mul_zero, Finset.sum_const_zero, add_zero, zero_add, sub_zero, zero_sub, mul_one, one_mul, mul_ite, ite_mul, ite_self]
  simp only [hl]

theorem pay2 (p : ℕ → ℝ) (v211 : FVec Ideal S1x512 .f32) (v787 : Vec Ideal S1x1x512 .f32)
    (hv211 : ∀ (i : Fin 1) (j : Fin 512), v211 (ix2 i j) = ((dgg B (j : ℕ) : ℝ) : EReal))
    (hv787 : ∀ (i : Fin 1) (j : Fin 1) (k : Fin 512), v787 (ix3 i j k) = ((p (k : ℕ) : ℝ) : EReal))
    (i : Fin 1) (j : Fin 1) (k : Fin 512) :
    k0_pay2 v211 v787 (ix3 i j k) = ((p (k : ℕ) + dgg B (k : ℕ) : ℝ) : EReal) := by
  unfold k0_pay2
  pointwise
  try simp only [hv211, hv787, Lift.up, Lift.body, Lift.words]
  try rfl

end Cert.KernelIdeal.Body
-- ==== Proof.Chain.lean ====
module

public import proofs.«01_k».proof.Proof.Gen.KernelIdeal.Value
public import proofs.«01_k».proof.Proof.BodyC

/-! The intermediate vectors of a grid step, each named by what it is computed from. -/

@[expose] public section
set_option maxRecDepth 65536
noncomputable section
namespace Cert.KernelIdeal.Body
open Cert.KernelIdeal Cert.KernelIdeal.Gen Idealize.ShloMosaic Idealize.ShloMosaic.TcCoe

/-- The vectors a grid step reads, and the step's coordinates: the ten input blocks and the carried state gradient. -/
structure Raw where
  i : grid0.Coords
  x0 : Vec Ideal S256x512 .f32
  x1 : Vec Ideal S256x128 .f32
  x2 : Vec Ideal S256x128 .f32
  x3 : Vec Ideal S256x512 .f32
  x4 : Vec Ideal S1x256x8 .f32
  x5 : Vec Ideal S1x8x8 .f32
  x6 : Vec Ideal S1x512 .f32
  x7 : Vec Ideal S256x512 .f32
  x8 : Vec Ideal S1x1x128x512 .f32
  x9 : Vec Ideal S256x512 .bf16
  s : Vec Ideal S128x512 .f32

variable (X : Raw)

/-- Rows 0, 1 and 2 of the parameter block. -/
def w21 : Vec Ideal S1x1x8 .f32 := View.ld (Val := Elt Ideal) X.x5 (Rect.unit ![0, 0, 0] S1x1x8.size inb_S1x8x8_S1x1x8_0_0_0)
def w23 : Vec Ideal S1x1x8 .f32 := View.ld (Val := Elt Ideal) X.x5 (Rect.unit ![0, 1, 0] S1x1x8.size inb_S1x8x8_S1x1x8_0_1_0)
def w25 : Vec Ideal S1x1x8 .f32 := View.ld (Val := Elt Ideal) X.x5 (Rect.unit ![0, 2, 0] S1x1x8.size inb_S1x8x8_S1x1x8_0_2_0)
def w6 : FVec Ideal S128x512 .f32 := k0_pay6 X.x8
def w8 : FVec Ideal S256x512 .f32 := k0_pay7 X.x0
def w10 : FVec Ideal S256x128 .f32 := k0_pay8 X.x1
def w12 : FVec Ideal S256x128 .f32 := k0_pay9 X.x2
def w18 : IVec S256x1 1 := k0_pay10 X.i
def w20 : FVec Ideal S256x8 .f32 := k0_pay11 X.x4
def w22 : FVec Ideal S1x8 .f32 := k0_pay12 (w21 X)
def w24 : FVec Ideal S1x8 .f32 := k0_pay13 (w23 X)
def w26 : FVec Ideal S1x8 .f32 := k0_pay14 (w25 X)
def w40 : FVec Ideal S8x512 .bf16 := k0_pay15 (F := Ideal) (iota .tc S8x512 32 [1] iota_S8x512_d1_w32)
def w43 : IVec S256x256 1 := k0_pay16
def w46 : FVec Ideal S256x256 .bf16 := k0_pay17 (F := Ideal)
def w50 : FVec Ideal S256x256 .bf16 := k0_pay18 (F := Ideal)
def w52 : FVec Ideal S256x8 .f32 := k0_pay19 (w20 X) (w22 X)
def w66 : FVec Ideal S256x8 .f32 := k0_pay20 (w18 X) (w20 X) (w22 X)
def w69 : FVec Ideal S1x8 .f32 := k0_pay21 (w24 X)
def w71 : FVec Ideal S256x8 .f32 := k0_pay22 (w18 X) (w20 X) (w22 X) (w24 X)
def w72 : FVec Ideal S256x8 .bf16 := k0_pay23 (w18 X) (w20 X) (w22 X) (w24 X)
def w75 : FVec Ideal S256x8 .bf16 := k0_pay25 (w18 X) (w20 X) (w22 X) (w24 X)
def w78 : FVec Ideal S256x8 .bf16 := k0_pay26 (w18 X) (w20 X) (w22 X) (w24 X)
def w83 : FVec Ideal S256x8 .f32 := k0_pay27 w46 (w72 X) (w75 X) (w78 X) (constant S256x8 .f32 0x00000000#32)
def w95 : FVec Ideal S8x256 .f32 := k0_pay28 w50 (w71 X)
def w102 : FVec Ideal S256x8 .f32 := k0_pay30 w46 (w71 X) (w72 X) (w75 X) (w78 X) (constant S256x8 .f32 0x00000000#32)
def w104 : FVec Ideal S1x8 .f32 := k0_pay32 (w71 X)
def w116 : FVec Ideal S256x512 .f32 := k0_pay33 w40 (w66 X)
def w123 : FVec Ideal S256x8 .bf16 := k0_pay37 w46 (w72 X) (w75 X) (w78 X) (constant S256x8 .f32 0x00000000#32)
def w126 : FVec Ideal S256x512 .f32 := k0_pay38 w40 w46 (w72 X) (w75 X) (w78 X) (constant S256x8 .f32 0x00000000#32)
def w128 : FVec Ideal S256x512 .f32 := k0_pay39 w40 (w123 X) (w126 X)
def w140 : FVec Ideal S256x512 .f32 := k0_pay40 w40 (w102 X)
def w152 : FVec Ideal S1x512 .f32 := k0_pay41 w40 (w104 X)
def w164 : FVec Ideal S1x512 .f32 := k0_pay42 (w26 X) w40
def w165 : FVec Ideal S256x512 .f32 := k0_pay43 (w8 X) (w116 X)
def w168 : FVec Ideal S256x256 .f32 := k0_pay44 (w10 X) (w12 X)
def w173 : IVec S512x8 1 := k0_pay45
def w182 : FVec Ideal S512x8 .bf16 := k0_pay46 (F := Ideal) (iota .tc S512x8 32 [0] iota_S512x8_d0_w32) (iota .tc S512x8 32 [1] iota_S512x8_d1_w32) w173 1#32
def w184 : FVec Ideal S256x512 .f32 := k0_pay47 X.x7
def w186 : FVec Ideal S256x512 .f32 := k0_pay48 X.x3
def w193 : FVec Ideal S256x512 .f32 := k0_pay49 X.x3
def w194 : FVec Ideal S256x512 .f32 := k0_pay50 X.x3
def w203 : FVec Ideal S256x1 .f32 := k0_pay52 X.x7 X.x3
def w205 : FVec Ideal S256x512 .f32 := k0_pay53 X.x7 X.x3
def w211 : FVec Ideal S1x512 .f32 := k0_pay55 X.x7 X.x3 X.x9
def w215 : FVec Ideal S256x512 .f32 := k0_pay56 X.x9 X.x6
def w216 : FVec Ideal S256x512 .f32 := k0_pay57 X.x7 X.x3 X.x9 X.x6
def w226 : FVec Ideal S256x512 .f32 := k0_pay59 (w194 X) (w203 X) (w205 X) (w215 X) (w216 X)
def w235 : FVec Ideal S256x512 .bf16 := k0_pay60 (w184 X) (w186 X) (w193 X) (w203 X) (w205 X) (w215 X) (w216 X)
def w237 : FVec Ideal S256x128 .bf16 := k0_pay61 (w10 X)
def w238 : FVec Ideal S256x128 .bf16 := k0_pay62 (w12 X)
def w239 : FVec Ideal S256x512 .f32 := k0_pay63 (w128 X) (w194 X) (w203 X) (w205 X) (w215 X) (w216 X)
def w242 : FVec Ideal S256x512 .f32 := k0_pay64 X.s (w10 X) (w140 X)
def w246 : FVec Ideal S256x128 .f32 := k0_pay65 (w165 X)
def w247 : FVec Ideal S256x128 .f32 := k0_pay66 (w194 X) (w203 X) (w205 X) (w215 X) (w216 X)
def w257 : FVec Ideal S256x256 .f32 := k0_pay67 w43 (w83 X) (w95 X)
def w259 : FVec Ideal S256x256 .bf16 := k0_pay68 w43 (w83 X) (w95 X) (w168 X)
def w265 : IVec S1x128 1 := k0_pay69
def w271 : FVec Ideal S256x128 .f32 := k0_pay71 (w247 X) (w259 X) w265
def w274 : FVec Ideal S256x256 .f32 := k0_pay72 (w246 X) (w247 X) (w257 X) w265
def w289 : FVec Ideal S256x8 .f32 := k0_pay73 w50 (w168 X) (iota .tc S256x256 32 [0] iota_S256x256_d0_w32) (iota .tc S256x256 32 [1] iota_S256x256_d1_w32) (iota .tc S1x8 32 [1] iota_S1x8_d1_w32) (w246 X) (w247 X) (w257 X) w265
def w299 : FVec Ideal S256x256 .f32 := k0_pay74 w43 (w83 X) (w95 X)
def w301 : FVec Ideal S256x256 .bf16 := k0_pay75 w43 (w83 X) (w95 X) (w168 X)
def w312 : FVec Ideal S256x128 .bf16 := k0_pay76 (w247 X)
def w314 : FVec Ideal S256x128 .f32 := k0_pay77 (w271 X) (w301 X) (w312 X) (constant S256x128 .f32 0x00000000#32)
def w318 : FVec Ideal S256x256 .f32 := k0_pay79 (w246 X) (w274 X) (w299 X) (w312 X)
def w334 : FVec Ideal S256x8 .f32 := k0_pay80 w50 (w168 X) (iota .tc S256x256 32 [0] iota_S256x256_d0_w32) (iota .tc S256x256 32 [1] iota_S256x256_d1_w32) (iota .tc S1x8 32 [1] iota_S1x8_d1_w32) (w246 X) (w289 X) (w299 X) (w312 X)
def w335 : FVec Ideal S256x128 .f32 := k0_pay81 (w165 X)
def w336 : FVec Ideal S256x128 .f32 := k0_pay82 (w226 X)
def w346 : FVec Ideal S256x256 .f32 := k0_pay83 w43 (w83 X) (w95 X)
def w359 : FVec Ideal S256x128 .bf16 := k0_pay84 (w226 X)
def w360 : FVec Ideal S256x128 .f32 := k0_pay85 w43 (w83 X) (w95 X) (w168 X) (w226 X)
def w361 : FVec Ideal S256x128 .bf16 := k0_pay86 (w165 X)
def w380 : FVec Ideal S256x8 .f32 := k0_pay88 w50 (w168 X) (iota .tc S256x256 32 [0] iota_S256x256_d0_w32) (iota .tc S256x256 32 [1] iota_S256x256_d1_w32) (iota .tc S1x8 32 [1] iota_S1x8_d1_w32) (w334 X) (w346 X) (w359 X) (w361 X)
def w405 : FVec Ideal S256x128 .f32 := k0_pay91 w43 (w83 X) (w95 X) (w168 X) (w336 X) (w360 X)
def w408 : FVec Ideal S256x256 .f32 := k0_pay92 w43 (w83 X) (w95 X) (w335 X) (w336 X)
def w409 : FVec Ideal S256x256 .f32 := k0_pay93 w43 (w83 X) (w95 X) (w318 X) (w335 X) (w336 X) (w346 X) (w359 X) (w361 X)
def w425 : FVec Ideal S256x8 .f32 := k0_pay94 w50 (w168 X) (iota .tc S256x256 32 [0] iota_S256x256_d0_w32) (iota .tc S256x256 32 [1] iota_S256x256_d1_w32) (iota .tc S1x8 32 [1] iota_S1x8_d1_w32) (w380 X) (w408 X)
def w426 : FVec Ideal S256x128 .f32 := k0_pay95 (w165 X)
def w427 : FVec Ideal S256x128 .f32 := k0_pay96 (w226 X)
def w451 : FVec Ideal S256x128 .f32 := k0_pay99 w43 (w83 X) (w95 X) (w168 X) (w226 X)
def w455 : FVec Ideal S256x256 .f32 := k0_pay101 w43 (w83 X) (w95 X) (w165 X) (w226 X) (w409 X)
def w457 : FVec Ideal S256x256 .bf16 := k0_pay102 w43 (w83 X) (w95 X) (w165 X) (w168 X) (w226 X)
def w471 : FVec Ideal S256x8 .f32 := k0_pay103 w50 (iota .tc S256x256 32 [0] iota_S256x256_d0_w32) (iota .tc S256x256 32 [1] iota_S256x256_d1_w32) (iota .tc S1x8 32 [1] iota_S1x8_d1_w32) (w425 X) (w457 X) (constant S256x256 .f32 0x00000000#32)
def w496 : FVec Ideal S256x128 .f32 := k0_pay106 w43 (w83 X) (w95 X) (w168 X) (w427 X) (w451 X)
def w500 : FVec Ideal S256x256 .f32 := k0_pay108 w43 (w83 X) (w95 X) (w426 X) (w427 X) (w455 X)
def w503 : FVec Ideal S256x256 .f32 := k0_pay109 w43 w50 (w83 X) (w95 X) (w168 X) (w426 X) (w427 X)
def w504 : IVec S256x256 1 := k0_pay110 (iota .tc S256x256 32 [0] iota_S256x256_d0_w32) (iota .tc S256x256 32 [1] iota_S256x256_d1_w32)
def w505 : FVec Ideal S256x256 .f32 := k0_pay111 (F := Ideal)
def w516 : FVec Ideal S256x8 .f32 := k0_pay112 (iota .tc S1x8 32 [1] iota_S1x8_d1_w32) (w471 X) (w503 X) w504 w505
def w517 : FVec Ideal S256x128 .f32 := k0_pay113 (w165 X)
def w518 : FVec Ideal S256x128 .f32 := k0_pay114 (w226 X)
def w542 : FVec Ideal S256x128 .f32 := k0_pay117 w43 (w83 X) (w95 X) (w168 X) (w226 X)
def w546 : FVec Ideal S256x256 .f32 := k0_pay119 w43 (w83 X) (w95 X) (w165 X) (w226 X) (w500 X)
def w553 : FVec Ideal S256 .f32 := k0_pay120 w43 w50 (w83 X) (w95 X) (w165 X) (w168 X) (w226 X) (iota .tc S256x256 32 [0] iota_S256x256_d0_w32) (iota .tc S256x256 32 [1] iota_S256x256_d1_w32)
def w562 : FVec Ideal S256x8 .f32 := k0_pay121 (iota .tc S1x8 32 [1] iota_S1x8_d1_w32) (w516 X) (w553 X)
def w587 : FVec Ideal S256x128 .f32 := k0_pay124 w43 (w83 X) (w95 X) (w168 X) (w518 X) (w542 X)
def w591 : FVec Ideal S256x256 .f32 := k0_pay126 w43 (w83 X) (w95 X) (w517 X) (w518 X) (w546 X)
def w599 : FVec Ideal S256x1 .f32 := k0_pay127 w43 w50 (w83 X) (w95 X) (w168 X) (iota .tc S256x256 32 [0] iota_S256x256_d0_w32) (iota .tc S256x256 32 [1] iota_S256x256_d1_w32) (w517 X) (w518 X)
def w601 : IVec S1x8 1 := k0_pay128 (iota .tc S1x8 32 [1] iota_S1x8_d1_w32)
def w607 : FVec Ideal S256x8 .f32 := k0_pay129 (w562 X) (w599 X) w601
def w609 : FVec Ideal S256x512 .f32 := k0_pay130 (w242 X) (w314 X) (w405 X) (w496 X) (w587 X)
def w616 : FVec Ideal S256x128 .bf16 := k0_pay132 (w6 X) (w237 X) (w239 X) (w591 X)
def w624 : FVec Ideal S256x128 .bf16 := k0_pay133 X.s (w140 X) (w165 X) (w238 X) (w591 X)
def w633 : FVec Ideal S128x512 .f32 := k0_pay134 X.s (w152 X) (w238 X) (w239 X)
def w640 : FVec Ideal S256x256 .bf16 := k0_pay135 (F := Ideal) (iota .tc S256x256 32 [0] iota_S256x256_d0_w32) (iota .tc S256x256 32 [1] iota_S256x256_d1_w32)
def w642 : FVec Ideal S256x512 .bf16 := k0_pay137 (w6 X) (w128 X) (w226 X) (w238 X)
def w644 : FVec Ideal S256x512 .f32 := k0_pay138 (w6 X) (w128 X) (w226 X) (w238 X)
def w645 : FVec Ideal S256x512 .bf16 := k0_pay139 (w6 X) (w128 X) (w226 X) (w238 X)
def w646 : FVec Ideal S256x512 .f32 := k0_pay140 (w6 X) (w128 X) (w226 X) (w238 X)
def w692 : FVec Ideal S256x8 .f32 := k0_pay141 w50 (w165 X) w182 (w242 X) (w607 X) w640 (w642 X) (w644 X) (w645 X) (w646 X)
def w693 : FVec Ideal S128x512 .f32 := k0_pay142 X.s (w6 X)
def w710 : FVec Ideal S256x8 .f32 := k0_pay143 (w104 X) w182 (w692 X) (w693 X)
def w738 : FVec Ideal S256x8 .f32 := k0_pay144 (w8 X) (w18 X) (w52 X) (w69 X) (w104 X) w182 (w609 X) (w692 X) (w693 X)
def w741 : FVec Ideal S1x256x8 .f32 := k0_pay145 (w738 X)
def w746 : FVec Ideal S256x512 .bf16 := k0_pay146 (w116 X) (w164 X) (w226 X) (w609 X)
def w759 (p : Vec Ideal S1x1x8 .f32) : FVec Ideal S1x1x8 .f32 := k0_pay147 (w738 X) p
def w765 (p : Vec Ideal S1x1x8 .f32) : FVec Ideal S1x1x8 .f32 := k0_pay148 (w66 X) (w69 X) (w710 X) p
def w767 (p : Vec Ideal S1x1x8 .f32) : FVec Ideal S1x8 .f32 := k0_pay149 p
def w771 : FVec Ideal S1x512 .bf16 := k0_pay151 (w8 X) (w226 X)
def w774 : FVec Ideal S1x512 .bf16 := k0_pay153 (w8 X) (w226 X)
def w776 : FVec Ideal S1x512 .f32 := k0_pay154 (w8 X) (w226 X)
def w786 (p : Vec Ideal S1x1x8 .f32) : FVec Ideal S1x1x8 .f32 := k0_pay1 w182 (w767 p) (w771 X) (w774 X) (w776 X)
def w792 (p : Vec Ideal S1x1x512 .f32) : FVec Ideal S1x1x512 .f32 := k0_pay2 (w211 X) p

end Cert.KernelIdeal.Body
-- ==== Proof.BodyA.lean ====
module

public import proofs.«01_k».proof.Proof.Gen.KernelIdeal.Skeleton
public import proofs.«01_k».proof.Proof.BlockSpec

/-! The steps of the kernel's body read at one place: when the vectors a step takes are real, so is its result, and it is
    the real expression stated. -/

@[expose] public section
set_option maxRecDepth 16384
noncomputable section
namespace Cert.KernelIdeal.Body
open Cert.KernelIdeal Cert.KernelIdeal.Gen Idealize.ShloMosaic Idealize.ShloMosaic.WordCmp Blk

variable (B : In)

theorem pay6 (v5 : Vec Ideal S1x1x128x512 .f32)
    (hv5 : ∀ (i : Fin 1) (j : Fin 1) (k : Fin 128) (l : Fin 512), v5 (ix4 i j k l) = ((B.st (k : ℕ) (l : ℕ) : ℝ) : EReal))
    (i : Fin 128) (j : Fin 512) :
    k0_pay6 v5 (ix2 i j) = ((B.st (i : ℕ) (j : ℕ) : ℝ) : EReal) := by
  unfold k0_pay6
  pointwise
  try simp only [hv5, Lift.up, Lift.body, Lift.words]
  try rfl

theorem pay7 (v7 : Vec Ideal S256x512 .f32)
    (hv7 : ∀ (i : Fin 256) (j : Fin 512), v7 (ix2 i j) = ((B.x (i : ℕ) (j : ℕ) : ℝ) : EReal))
    (i : Fin 256) (j : Fin 512) :
    k0_pay7 v7 (ix2 i j) = ((B.x (i : ℕ) (j : ℕ) : ℝ) : EReal) := by
  unfold k0_pay7
  pointwise
  try simp only [hv7, Lift.up, Lift.body, Lift.words]
  try rfl

theorem pay8 (v9 : Vec Ideal S256x128 .f32)
    (hv9 : ∀ (i : Fin 256) (j : Fin 128), v9 (ix2 i j) = ((B.b (i : ℕ) (j : ℕ) : ℝ) : EReal))
    (i : Fin 256) (j : Fin 128) :
    k0_pay8 v9 (ix2 i j) = ((B.b (i : ℕ) (j : ℕ) : ℝ) : EReal) := by
  unfold k0_pay8
  pointwise
  try simp only [hv9, Lift.up, Lift.body, Lift.words]
  try rfl

theorem pay9 (v11 : Vec Ideal S256x128 .f32)
    (hv11 : ∀ (i : Fin 256) (j : Fin 128), v11 (ix2 i j) = ((B.c (i : ℕ) (j : ℕ) : ℝ) : EReal))
    (i : Fin 256) (j : Fin 128) :
    k0_pay9 v11 (ix2 i j) = ((B.c (i : ℕ) (j : ℕ) : ℝ) : EReal) := by
  unfold k0_pay9
  pointwise
  try simp only [hv11, Lift.up, Lift.body, Lift.words]
  try rfl

theorem pay10 (i : grid0.Coords) (hB : B.row = 256 * (32 - (i 1).val))
    (r : Fin 256) (j : Fin 1) :
    k0_pay10 i (ix2 r j) = BitVec.ofBool (decide (240 ≤ B.row + (r : ℕ))) := by
  unfold k0_pay10
  pointwise
  have h1 : (i 1).val < 33 := (i 1).isLt
  have hw : IntOp.addi (Scalar.muli (Scalar.subi (32#32) (BitVec.ofNat 32 (i 1).val)) 256#32) (BitVec.ofNat 32 (r : ℕ))
      = BitVec.ofNat 32 (B.row + r) := by
    rw [hB]
    generalize (i 1).val = t at *
    apply BitVec.eq_of_toNat_eq
    simp only [IntOp.addi, Scalar.muli, Scalar.subi, IntOp.muli, IntOp.subi, BitVec.toNat_add, BitVec.toNat_mul,
      BitVec.toNat_sub, BitVec.toNat_ofNat]
    omega
  rw [hw, cmpi_sge_ofNat (by omega) (by omega)]

theorem pay11 (v19 : Vec Ideal S1x256x8 .f32)
    (hv19 : ∀ (i : Fin 1) (j : Fin 256) (k : Fin 8), v19 (ix3 i j k) = ((B.dtr (j : ℕ) (k : ℕ) : ℝ) : EReal))
    (i : Fin 256) (j : Fin 8) :
    k0_pay11 v19 (ix2 i j) = ((B.dtr (i : ℕ) (j : ℕ) : ℝ) : EReal) := by
  unfold k0_pay11
  pointwise
  try simp only [hv19, Lift.up, Lift.body, Lift.words]
  try rfl

theorem pay12 (v21 : Vec Ideal S1x1x8 .f32)
    (hv21 : ∀ (i : Fin 1) (j : Fin 1) (k : Fin 8), v21 (ix3 i j k) = ((B.bias (k : ℕ) : ℝ) : EReal))
    (i : Fin 1) (j : Fin 8) :
    k0_pay12 v21 (ix2 i j) = ((B.bias (j : ℕ) : ℝ) : EReal) := by
  unfold k0_pay12
  pointwise
  try simp only [hv21, Lift.up, Lift.body, Lift.words]
  try rfl

theorem pay13 (v23 : Vec Ideal S1x1x8 .f32)
    (hv23 : ∀ (i : Fin 1) (j : Fin 1) (k : Fin 8), v23 (ix3 i j k) = ((B.alog (k : ℕ) : ℝ) : EReal))
    (i : Fin 1) (j : Fin 8) :
    k0_pay13 v23 (ix2 i j) = ((B.alog (j : ℕ) : ℝ) : EReal) := by
  unfold k0_pay13
  pointwise
  try simp only [hv23, Lift.up, Lift.body, Lift.words]
  try rfl

theorem pay14 (v25 : Vec Ideal S1x1x8 .f32)
    (hv25 : ∀ (i : Fin 1) (j : Fin 1) (k : Fin 8), v25 (ix3 i j k) = ((B.dsk (k : ℕ) : ℝ) : EReal))
    (i : Fin 1) (j : Fin 8) :
    k0_pay14 v25 (ix2 i j) = ((B.dsk (j : ℕ) : ℝ) : EReal) := by
  unfold k0_pay14
  pointwise
  try simp only [hv25, Lift.up, Lift.body, Lift.words]
  try rfl

theorem pay15 (v27 : IVec S8x512 32)
    (hv27 : ∀ (i : Fin 8) (j : Fin 512), v27 (ix2 i j) = BitVec.ofNat 32 (j : ℕ))
    (i : Fin 8) (j : Fin 512) :
    k0_pay15 (F := Ideal) v27 (ix2 i j) = ((if (j : ℕ) / 64 = (i : ℕ) then 1 else 0 : ℝ) : EReal) := by
  unfold k0_pay15
  pointwise
  try simp only [hv27, Lift.muli_ofNat, Lift.addi_ofNat]
  rw [cmpi_sge_ofNat (by omega) (by omega), cmpi_slt_ofNat (by omega) (by omega), Lift.andi_bool, Lift.sitofp_bool]
  refine congrArg _ (if_congr ?_ rfl rfl)
  simp only [Bool.and_eq_true, decide_eq_true_eq]
  omega

theorem pay16
    (i : Fin 256) (j : Fin 256) :
    k0_pay16 (ix2 i j) = BitVec.ofBool (decide ((j : ℕ) ≤ (i : ℕ))) := by
  unfold k0_pay16
  pointwise
  rw [cmpi_sge_ofNat (by omega) (by omega)]

theorem pay17
    (i : Fin 256) (j : Fin 256) :
    k0_pay17 (F := Ideal) (ix2 i j) = ((if (j : ℕ) ≤ (i : ℕ) then 1 else 0 : ℝ) : EReal) := by
  unfold k0_pay17 k0_pay16
  pointwise
  try simp only [Lift.muli_ofNat, Lift.addi_ofNat]
  rw [cmpi_sge_ofNat (by omega) (by omega), Lift.sitofp_bool]
  simp only [decide_eq_true_eq]

theorem pay18
    (i : Fin 256) (j : Fin 256) :
    k0_pay18 (F := Ideal) (ix2 i j) = ((if (i : ℕ) ≤ (j : ℕ) then 1 else 0 : ℝ) : EReal) := by
  unfold k0_pay18
  pointwise
  try simp only [Lift.muli_ofNat, Lift.addi_ofNat]
  rw [cmpi_sle_ofNat (by omega) (by omega), Lift.sitofp_bool]
  simp only [decide_eq_true_eq]

theorem pay19 (v20 : FVec Ideal S256x8 .f32) (v22 : FVec Ideal S1x8 .f32)
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (i : Fin 256) (j : Fin 8) :
    k0_pay19 v20 v22 (ix2 i j) = ((pre B (i : ℕ) (j : ℕ) : ℝ) : EReal) := by
  unfold k0_pay19
  pointwise
  try simp only [hv20, hv22, Lift.up, Lift.body, Lift.words]
  try rfl

theorem pay20 (v18 : IVec S256x1 1) (v20 : FVec Ideal S256x8 .f32) (v22 : FVec Ideal S1x8 .f32)
    (hv18 : ∀ (i : Fin 256) (j : Fin 1), v18 (ix2 i j) = BitVec.ofBool (decide (240 ≤ B.row + (i : ℕ))))
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (i : Fin 256) (j : Fin 8) :
    k0_pay20 v18 v20 v22 (ix2 i j) = ((dt B (i : ℕ) (j : ℕ) : ℝ) : EReal) := by
  unfold k0_pay20 k0_pay19
  pointwise
  try simp only [hv18, hv20, hv22, Lift.up, Lift.body, Lift.words]
  try refine congrArg _ ?_
  try simp only [dt, sp, pre, sub_self, zero_mul, mul_zero, Finset.sum_const_zero, add_zero, zero_add, sub_zero, zero_sub, mul_one, one_mul, mul_ite, ite_mul, ite_self]

theorem pay21 (v24 : FVec Ideal S1x8 .f32)
    (hv24 : ∀ (i : Fin 1) (j : Fin 8), v24 (ix2 i j) = ((B.alog (j : ℕ) : ℝ) : EReal))
    (i : Fin 1) (j : Fin 8) :
    k0_pay21 v24 (ix2 i j) = ((a B (j : ℕ) : ℝ) : EReal) := by
  unfold k0_pay21
  pointwise
  try simp only [hv24, Lift.up, Lift.body, Lift.words]
  try refine congrArg _ ?_
  try simp only [a, sub_self, zero_mul, mul_zero, Finset.sum_const_zero, add_zero, zero_add, sub_zero, zero_sub, mul_one, one_mul, mul_ite, ite_mul, ite_self]

theorem pay22 (v18 : IVec S256x1 1) (v20 : FVec Ideal S256x8 .f32) (v22 : FVec Ideal S1x8 .f32) (v24 : FVec Ideal S1x8 .f32)
    (hv18 : ∀ (i : Fin 256) (j : Fin 1), v18 (ix2 i j) = BitVec.ofBool (decide (240 ≤ B.row + (i : ℕ))))
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (hv24 : ∀ (i : Fin 1) (j : Fin 8), v24 (ix2 i j) = ((B.alog (j : ℕ) : ℝ) : EReal))
    (i : Fin 256) (j : Fin 8) :
    k0_pay22 v18 v20 v22 v24 (ix2 i j) = ((dt B (i : ℕ) (j : ℕ) * a B (j : ℕ) : ℝ) : EReal) := by
  unfold k0_pay22 k0_pay21 k0_pay20 k0_pay19
  pointwise
  try simp only [hv18, hv20, hv22, hv24, Lift.up, Lift.body, Lift.words]
  try refine congrArg _ ?_
  try simp only [a, dt, sp, pre, sub_self, zero_mul, mul_zero, Finset.sum_const_zero, add_zero, zero_add, sub_zero, zero_sub, mul_one, one_mul, mul_ite, ite_mul, ite_self]

theorem pay23 (v18 : IVec S256x1 1) (v20 : FVec Ideal S256x8 .f32) (v22 : FVec Ideal S1x8 .f32) (v24 : FVec Ideal S1x8 .f32)
    (hv18 : ∀ (i : Fin 256) (j : Fin 1), v18 (ix2 i j) = BitVec.ofBool (decide (240 ≤ B.row + (i : ℕ))))
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (hv24 : ∀ (i : Fin 1) (j : Fin 8), v24 (ix2 i j) = ((B.alog (j : ℕ) : ℝ) : EReal))
    (i : Fin 256) (j : Fin 8) :
    k0_pay23 v18 v20 v22 v24 (ix2 i j) = ((dt B (i : ℕ) (j : ℕ) * a B (j : ℕ) : ℝ) : EReal) := by
  unfold k0_pay23 k0_pay22 k0_pay21 k0_pay20 k0_pay19
  pointwise
  try simp only [hv18, hv20, hv22, hv24, Lift.up, Lift.body, Lift.words]
  try refine congrArg _ ?_
  try simp only [a, dt, sp, pre, sub_self, zero_mul, mul_zero, Finset.sum_const_zero, add_zero, zero_add, sub_zero, zero_sub, mul_one, one_mul, mul_ite, ite_mul, ite_self]

theorem pay25 (v18 : IVec S256x1 1) (v20 : FVec Ideal S256x8 .f32) (v22 : FVec Ideal S1x8 .f32) (v24 : FVec Ideal S1x8 .f32)
    (hv18 : ∀ (i : Fin 256) (j : Fin 1), v18 (ix2 i j) = BitVec.ofBool (decide (240 ≤ B.row + (i : ℕ))))
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (hv24 : ∀ (i : Fin 1) (j : Fin 8), v24 (ix2 i j) = ((B.alog (j : ℕ) : ℝ) : EReal))
    (i : Fin 256) (j : Fin 8) :
    k0_pay25 v18 v20 v22 v24 (ix2 i j) = ((0 : ℝ) : EReal) := by
  unfold k0_pay25 k0_pay24 k0_pay23 k0_pay22 k0_pay21 k0_pay20 k0_pay19
  pointwise
  try simp only [hv18, hv20, hv22, hv24, Lift.up, Lift.body, Lift.words]
  try refine congrArg _ ?_
  try simp only [sub_self, zero_mul, mul_zero, Finset.sum_const_zero, add_zero, zero_add, sub_zero, zero_sub, mul_one, one_mul, mul_ite, ite_mul, ite_self]

theorem pay26 (v18 : IVec S256x1 1) (v20 : FVec Ideal S256x8 .f32) (v22 : FVec Ideal S1x8 .f32) (v24 : FVec Ideal S1x8 .f32)
    (hv18 : ∀ (i : Fin 256) (j : Fin 1), v18 (ix2 i j) = BitVec.ofBool (decide (240 ≤ B.row + (i : ℕ))))
    (hv20 : ∀ (i : Fin 256) (j : Fin 8), v20 (ix2 i j) = ((B.dtr (i : ℕ) (j : ℕ) : ℝ) : EReal))
    (hv22 : ∀ (i : Fin 1) (j : Fin 8), v22 (ix2 i j) = ((B.bias (j : ℕ) : ℝ) : EReal))
    (hv24 : ∀ (i : Fin 1) (j : Fin 8), v24 (ix2 i j) = ((B.alog (j : ℕ) : ℝ) : EReal))
    (i : Fin 256) (j : Fin 8) :
    k0_pay26 v18 v20 v22 v24 (ix2 i j) = ((0 : ℝ) : EReal) := by
  unfold k0_pay26 k0_pay25 k0_pay24 k0_pay23 k0_pay22 k0_pay21 k0_pay20 k0_pay19
  pointwise
  try simp only [hv18, hv20, hv22, hv24, Lift.up, Lift.body, Lift.words]
  try refine congrArg _ ?_
  try simp only [sub_self, zero_mul, mul_zero, Finset.sum_const_zero, add_zero, zero_add, sub_zero, zero_sub, mul_one, one_mul, mul_ite, ite_mul, ite_self]

theorem pay27 (v46 : FVec Ideal S256x256 .bf16) (v72 : FVec Ideal S256x8 .bf16) (v75 : FVec Ideal S256x8 .bf16) (v78 : FVec Ideal S256x8 .bf16) (cst_27 : FVec Ideal S256x8 .f32)
    (hv46 : ∀ (i : Fin 256) (j : Fin 256), v46 (ix2 i j) = ((if (j : ℕ) ≤ (i : ℕ) then 1 else 0 : ℝ) : EReal))
    (hv72 : ∀ (i : Fin 256) (j : Fin 8), v72 (ix2 i j) = ((dt B (i : ℕ) (j : ℕ) * a B (j : ℕ) : ℝ) : EReal))
    (hv75 : ∀ (i : Fin 256) (j : Fin 8), v75 (ix2 i j) = ((0 : ℝ) : EReal))
    (hv78 : ∀ (i : Fin 256) (j : Fin 8), v78 (ix2 i j) = ((0 : ℝ) : EReal))
    (hcst_27 : ∀ (i : Fin 256) (j : Fin 8), cst_27 (ix2 i j) = ((0 : ℝ) : EReal))
    (i : Fin 256) (j : Fin 8) :
    k0_pay27 v46 v72 v75 v78 cst_27 (ix2 i j) = ((cs B (i : ℕ) (j : ℕ) : ℝ) : EReal) := by
  unfold k0_pay27
  pointwise
  try simp only [hv46, hv72, hv75, hv78, hcst_27, Lift.up, Lift.body, Lift.words]
  try refine congrArg _ ?_
  try simp only [cs, sub_self, zero_mul, mul_zero, Finset.sum_const_zero, add_zero, zero_add, sub_zero, zero_sub, mul_one, one_mul, mul_ite, ite_mul, ite_self]

theorem pay28 (v50 : FVec Ideal S256x256 .bf16) (v71 : FVec Ideal S256x8 .f32)
    (hv50 : ∀ (i : Fin 256) (j : Fin 256), v50 (ix2 i j) = ((if (i : ℕ) ≤ (j : ℕ) then 1 else 0 : ℝ) : EReal))
    (hv71 : ∀ (i : Fin 256) (j : Fin 8), v71 (ix2 i j) = ((dt B (i : ℕ) (j : ℕ) * a B (j : ℕ) : ℝ) : EReal))
    (i : Fin 8) (j : Fin 256) :
    k0_pay28 v50 v71 (ix2 i j) = ((cs B (j : ℕ) (i : ℕ) : ℝ) : EReal) := by
  unfold k0_pay28
  pointwise
  try simp only [hv50, hv71, Lift.up, Lift.body, Lift.words]
  try refine congrArg _ ?_
  try simp only [cs, sub_self, zero_mul, mul_zero, Finset.sum_const_zero, add_zero, zero_add, sub_zero, zero_sub, mul_one, one_mul, mul_ite, ite_mul, ite_self]

theorem pay30 (v46 : FVec Ideal S256x256 .bf16) (v71 : FVec Ideal S256x8 .f32) (v72 : FVec Ideal S256x8 .bf16) (v75 : FVec Ideal S256x8 .bf16) (v78 : FVec Ideal S256x8 .bf16) (cst_27 : FVec Ideal S256x8 .f32)
    (hv46 : ∀ (i : Fin 256) (j : Fin 256), v46 (ix2 i j) = ((if (j : ℕ) ≤ (i : ℕ) then 1 else 0 : ℝ) : EReal))
    (hv71 : ∀ (i : Fin 256) (j : Fin 8), v71 (ix2 i j) = ((dt B (i : ℕ) (j : ℕ) * a B (j : ℕ) : ℝ) : EReal))
    (hv72 : ∀ (i : Fin 256) (j : Fin 8), v72 (ix2 i j) = ((dt B (i : ℕ) (j : ℕ) * a B (j : ℕ) : ℝ) : EReal))
    (hv75 : ∀ (i : Fin 256) (j : Fin 8), v75 (ix2 i j) = ((0 : ℝ) : EReal))
    (hv78 : ∀ (i : Fin 256) (j : Fin 8), v78 (ix2 i j) = ((0 : ℝ) : EReal))
    (hcst_27 : ∀ (i : Fin 256) (j : Fin 8), cst_27 (ix2 i j) = ((0 : ℝ) : EReal))
    (i : Fin 256) (j : Fin 8) :
    k0_pay30 v46 v71 v72 v75 v78 cst_27 (ix2 i j) = ((dte B (i : ℕ) (j : ℕ) : ℝ) : EReal) := by
  unfold k0_pay30 k0_pay29 k0_pay27
  pointwise
  try simp only [hv46, hv71, hv72, hv75, hv78, hcst_27, Lift.up, Lift.body, Lift.words]
  try refine congrArg _ ?_
  try simp only [dte, tot, cs, sub_self, zero_mul, mul_zero, Finset.sum_const_zero, add_zero, zero_add, sub_zero, zero_sub, mul_one, one_mul, mul_ite, ite_mul, ite_self]

theorem pay32 (v71 : FVec Ideal S256x8 .f32)
    (hv71 : ∀ (i : Fin 256) (j : Fin 8), v71 (ix2 i j) = ((dt B (i : ℕ) (j : ℕ) * a B (j : ℕ) : ℝ) : EReal))
    (i : Fin 1) (j : Fin 8) :
    k0_pay32 v71 (ix2 i j) = ((dec B (j : ℕ) : ℝ) : EReal) := by
  unfold k0_pay32 k0_pay29
  pointwise
  try simp only [hv71, Lift.up, Lift.body, Lift.words]
  try rfl

theorem pay33 (v40 : FVec Ideal S8x512 .bf16) (v66 : FVec Ideal S256x8 .f32)
    (hv40 : ∀ (i : Fin 8) (j : Fin 512), v40 (ix2 i j) = ((if (j : ℕ) / 64 = (i : ℕ) then 1 else 0 : ℝ) : EReal))
    (hv66 : ∀ (i : Fin 256) (j : Fin 8), v66 (ix2 i j) = ((dt B (i : ℕ) (j : ℕ) : ℝ) : EReal))
    (i : Fin 256) (j : Fin 512) :
    k0_pay33 v40 v66 (ix2 i j) = ((dt B (i : ℕ) ((j : ℕ) / 64) : ℝ) : EReal) := by
  unfold k0_pay33
  pointwise
  try simp only [hv40, hv66, Lift.up, Lift.body, Lift.words]
  refine congrArg _ ?_
  have hp := pick (fun e => dt B i e) (j : ℕ) j.isLt
  simp only [sub_self, zero_mul, mul_zero, Finset.sum_const_zero, add_zero, zero_add, sub_zero, zero_sub, mul_one, one_mul, mul_ite, ite_mul, ite_self] at hp ⊢
  exact hp

theorem pay37 (v46 : FVec Ideal S256x256 .bf16) (v72 : FVec Ideal S256x8 .bf16) (v75 : FVec Ideal S256x8 .bf16) (v78 : FVec Ideal S256x8 .bf16) (cst_27 : FVec Ideal S256x8 .f32)
    (hv46 : ∀ (i : Fin 256) (j : Fin 256), v46 (ix2 i j) = ((if (j : ℕ) ≤ (i : ℕ) then 1 else 0 : ℝ) : EReal))
    (hv72 : ∀ (i : Fin 256) (j : Fin 8), v72 (ix2 i j) = ((dt B (i : ℕ) (j : ℕ) * a B (j : ℕ) : ℝ) : EReal))
    (hv75 : ∀ (i : Fin 256) (j : Fin 8), v75 (ix2 i j) = ((0 : ℝ) : EReal))
    (hv78 : ∀ (i : Fin 256) (j : Fin 8), v78 (ix2 i j) = ((0 : ℝ) : EReal))
    (hcst_27 : ∀ (i : Fin 256) (j : Fin 8), cst_27 (ix2 i j) = ((0 : ℝ) : EReal))
    (i : Fin 256) (j : Fin 8) :
    k0_pay37 v46 v72 v75 v78 cst_27 (ix2 i j) = ((0 : ℝ) : EReal) := by
  unfold k0_pay37 k0_pay36 k0_pay35 k0_pay34 k0_pay31 k0_pay27
  pointwise
  try simp only [hv46, hv72, hv75, hv78, hcst_27, Lift.up, Lift.body, Lift.words]
  try refine congrArg _ ?_
  try simp only [sub_self, zero_mul, mul_zero, Finset.sum_const_zero, add_zero, zero_add, sub_zero, zero_sub, mul_one, one_mul, mul_ite, ite_mul, ite_self]

theorem pay38 (v40 : FVec Ideal S8x512 .bf16) (v46 : FVec Ideal S256x256 .bf16) (v72 : FVec Ideal S256x8 .bf16) (v75 : FVec Ideal S256x8 .bf16) (v78 : FVec Ideal S256x8 .bf16) (cst_27 : FVec Ideal S256x8 .f32)
    (hv40 : ∀ (i : Fin 8) (j : Fin 512), v40 (ix2 i j) = ((if (j : ℕ) / 64 = (i : ℕ) then 1 else 0 : ℝ) : EReal))
    (hv46 : ∀ (i : Fin 256) (j : Fin 256), v46 (ix2 i j) = ((if (j : ℕ) ≤ (i : ℕ) then 1 else 0 : ℝ) : EReal))
    (hv72 : ∀ (i : Fin 256) (j : Fin 8), v72 (ix2 i j) = ((dt B (i : ℕ) (j : ℕ) * a B (j : ℕ) : ℝ) : EReal))
    (hv75 : ∀ (i : Fin 256) (j : Fin 8), v75 (ix2 i j) = ((0 : ℝ) : EReal))
    (hv78 : ∀ (i : Fin 256) (j : Fin 8), v78 (ix2 i j) = ((0 : ℝ) : EReal))
    (hcst_27 : ∀ (i : Fin 256) (j : Fin 8), cst_27 (ix2 i j) = ((0 : ℝ) : EReal))
    (i : Fin 256) (j : Fin 512) :
    k0_pay38 v40 v46 v72 v75 v78 cst_27 (ix2 i j) = ((ecs B (i : ℕ) ((j : ℕ) / 64) : ℝ) : EReal) := by
  unfold k0_pay38 k0_pay36 k0_pay35 k0_pay34 k0_pay31 k0_pay27
  pointwise
  try simp only [hv40, hv46, hv72, hv75, hv78, hcst_27, Lift.up, Lift.body, Lift.words]
  refine congrArg _ ?_
  have hp := pick (fun e => ecs B i e) (j : ℕ) j.isLt
  simp only [ecs, cs, sub_self, zero_mul, mul_zero, Finset.sum_const_zero, add_zero, zero_add, sub_zero, zero_sub, mul_one, one_mul, mul_ite, ite_mul, ite_self] at hp ⊢
  exact hp

theorem pay39 (v40 : FVec Ideal S8x512 .bf16) (v123 : FVec Ideal S256x8 .bf16) (v126 : FVec Ideal S256x512 .f32)
    (hv40 : ∀ (i : Fin 8) (j : Fin 512), v40 (ix2 i j) = ((if (j : ℕ) / 64 = (i : ℕ) then 1 else 0 : ℝ) : EReal))
    (hv123 : ∀ (i : Fin 256) (j : Fin 8), v123 (ix2 i j) = ((0 : ℝ) : EReal))
    (hv126 : ∀ (i : Fin 256) (j : Fin 512), v126 (ix2 i j) = ((ecs B (i : ℕ) ((j : ℕ) / 64) : ℝ) : EReal))
    (i : Fin 256) (j : Fin 512) :
    k0_pay39 v40 v123 v126 (ix2 i j) = ((ecs B (i : ℕ) ((j : ℕ) / 64) : ℝ) : EReal) := by
  unfold k0_pay39
  pointwise
  try simp only [hv40, hv123, hv126, Lift.up, Lift.body, Lift.words]
  try refine congrArg _ ?_
  try simp only [sub_self, zero_mul, mul_zero, Finset.sum_const_zero, add_zero, zero_add, sub_zero, zero_sub, mul_one, one_mul, mul_ite, ite_mul, ite_self]

theorem pay40 (v40 : FVec Ideal S8x512 .bf16) (v102 : FVec Ideal S256x8 .f32)
    (hv40 : ∀ (i : Fin 8) (j : Fin 512), v40 (ix2 i j) = ((if (j : ℕ) / 64 = (i : ℕ) then 1 else 0 : ℝ) : EReal))
    (hv102 : ∀ (i : Fin 256) (j : Fin 8), v102 (ix2 i j) = ((dte B (i : ℕ) (j : ℕ) : ℝ) : EReal))
    (i : Fin 256) (j : Fin 512) :
    k0_pay40 v40 v102 (ix2 i j) = ((dte B (i : ℕ) ((j : ℕ) / 64) : ℝ) : EReal) := by
  unfold k0_pay40
  pointwise
  try simp only [hv40, hv102, Lift.up, Lift.body, Lift.words]
  refine congrArg _ ?_
  have hp := pick (fun e => dte B i e) (j : ℕ) j.isLt
  simp only [sub_self, zero_mul, mul_zero, Finset.sum_const_zero, add_zero, zero_add, sub_zero, zero_sub, mul_one, one_mul, mul_ite, ite_mul, ite_self] at hp ⊢
  exact hp

theorem pay41 (v40 : FVec Ideal S8x512 .bf16) (v104 : FVec Ideal S1x8 .f32)
    (hv40 : ∀ (i : Fin 8) (j : Fin 512), v40 (ix2 i j) = ((if (j : ℕ) / 64 = (i : ℕ) then 1 else 0 : ℝ) : EReal))
    (hv104 : ∀ (i : Fin 1) (j : Fin 8), v104 (ix2 i j) = ((dec B (j : ℕ) : ℝ) : EReal))
    (i : Fin 1) (j : Fin 512) :
    k0_pay41 v40 v104 (ix2 i j) = ((dec B ((j : ℕ) / 64) : ℝ) : EReal) := by
  unfold k0_pay41
  pointwise
  try simp only [hv40, hv104, Lift.up, Lift.body, Lift.words]
  refine congrArg _ ?_
  have hp := pick (fun e => dec B e) (j : ℕ) j.isLt
  simp only [sub_self, zero_mul, mul_zero, Finset.sum_const_zero, add_zero, zero_add, sub_zero, zero_sub, mul_one, one_mul, mul_ite, ite_mul, ite_self] at hp ⊢
  exact hp

theorem pay42 (v26 : FVec Ideal S1x8 .f32) (v40 : FVec Ideal S8x512 .bf16)
    (hv26 : ∀ (i : Fin 1) (j : Fin 8), v26 (ix2 i j) = ((B.dsk (j : ℕ) : ℝ) : EReal))
    (hv40 : ∀ (i : Fin 8) (j : Fin 512), v40 (ix2 i j) = ((if (j : ℕ) / 64 = (i : ℕ) then 1 else 0 : ℝ) : EReal))
    (i : Fin 1) (j : Fin 512) :
    k0_pay42 v26 v40 (ix2 i j) = ((B.dsk ((j : ℕ) / 64) : ℝ) : EReal) := by
  unfold k0_pay42
  pointwise
  try simp only [hv26, hv40, Lift.up, Lift.body, Lift.words]
  refine congrArg _ ?_
  have hp := pick (fun e => B.dsk e) (j : ℕ) j.isLt
  simp only [sub_self, zero_mul, mul_zero, Finset.sum_const_zero, add_zero, zero_add, sub_zero, zero_sub, mul_one, one_mul, mul_ite, ite_mul, ite_self] at hp ⊢
  exact hp

theorem pay43 (v8 : FVec Ideal S256x512 .f32) (v116 : FVec Ideal S256x512 .f32)
    (hv8 : ∀ (i : Fin 256) (j : Fin 512), v8 (ix2 i j) = ((B.x (i : ℕ) (j : ℕ) : ℝ) : EReal))
    (hv116 : ∀ (i : Fin 256) (j : Fin 512), v116 (ix2 i j) = ((dt B (i : ℕ) ((j : ℕ) / 64) : ℝ) : EReal))
    (i : Fin 256) (j : Fin 512) :
    k0_pay43 v8 v116 (ix2 i j) = ((xdt B (i : ℕ) (j : ℕ) : ℝ) : EReal) := by
  unfold k0_pay43
  pointwise
  try simp only [hv8, hv116, Lift.up, Lift.body, Lift.words]
  try rfl

theorem pay44 (v10 : FVec Ideal S256x128 .f32) (v12 : FVec Ideal S256x128 .f32)
    (hv10 : ∀ (i : Fin 256) (j : Fin 128), v10 (ix2 i j) = ((B.b (i : ℕ) (j : ℕ) : ℝ) : EReal))
    (hv12 : ∀ (i : Fin 256) (j : Fin 128), v12 (ix2 i j) = ((B.c (i : ℕ) (j : ℕ) : ℝ) : EReal))
    (i : Fin 256) (j : Fin 256) :
    k0_pay44 v10 v12 (ix2 i j) = ((gm B (i : ℕ) (j : ℕ) : ℝ) : EReal) := by
  unfold k0_pay44
  pointwise
  try simp only [hv10, hv12, Lift.up, Lift.body, Lift.words]
  try rfl

theorem pay45
    (i : Fin 512) (j : Fin 8) :
    k0_pay45 (ix2 i j) = BitVec.ofBool (decide (64 * (j : ℕ) ≤ (i : ℕ))) := by
  unfold k0_pay45
  pointwise
  simp only [Lift.muli_ofNat, Lift.addi_ofNat]
  rw [cmpi_sge_ofNat (by omega) (by omega)]
  refine congrArg _ (decide_eq_decide.mpr ?_)
  omega

theorem pay46 (v169 : IVec S512x8 32) (v170 : IVec S512x8 32) (v173 : IVec S512x8 1) (c1_i32_52 : BitVec 32) (hc1_i32_52 : c1_i32_52 = 1#32)
    (hv169 : ∀ (i : Fin 512) (j : Fin 8), v169 (ix2 i j) = BitVec.ofNat 32 (i : ℕ))
    (hv170 : ∀ (i : Fin 512) (j : Fin 8), v170 (ix2 i j) = BitVec.ofNat 32 (j : ℕ))
    (hv173 : ∀ (i : Fin 512) (j : Fin 8), v173 (ix2 i j) = BitVec.ofBool (decide (64 * (j : ℕ) ≤ (i : ℕ))))
    (i : Fin 512) (j : Fin 8) :
    k0_pay46 (F := Ideal) v169 v170 v173 c1_i32_52 (ix2 i j) = ((if (i : ℕ) / 64 = (j : ℕ) then 1 else 0 : ℝ) : EReal) := by
  unfold k0_pay46
  subst hc1_i32_52
  pointwise
  try simp only [hv169, hv170, hv173, Lift.muli_ofNat, Lift.addi_ofNat]
  rw [cmpi_slt_ofNat (by omega) (by omega), Lift.andi_bool, Lift.sitofp_bool]
  refine congrArg _ (if_congr ?_ rfl rfl)
  simp only [Bool.and_eq_true, decide_eq_true_eq]
  omega

theorem pay47 (v183 : Vec Ideal S256x512 .f32)
    (hv183 : ∀ (i : Fin 256) (j : Fin 512), v183 (ix2 i j) = ((B.y (i : ℕ) (j : ℕ) : ℝ) : EReal))
    (i : Fin 256) (j : Fin 512) :
    k0_pay47 v183 (ix2 i j) = ((B.y (i : ℕ) (j : ℕ) : ℝ) : EReal) := by
  unfold k0_pay47
  pointwise
  try simp only [hv183, Lift.up, Lift.body, Lift.words]
  try rfl

theorem pay48 (v185 : Vec Ideal S256x512 .f32)
    (hv185 : ∀ (i : Fin 256) (j : Fin 512), v185 (ix2 i j) = ((B.z (i : ℕ) (j : ℕ) : ℝ) : EReal))
    (i : Fin 256) (j : Fin 512) :
    k0_pay48 v185 (ix2 i j) = ((B.z (i : ℕ) (j : ℕ) : ℝ) : EReal) := by
  unfold k0_pay48
  pointwise
  try simp only [hv185, Lift.up, Lift.body, Lift.words]
  try rfl

theorem pay49 (v185 : Vec Ideal S256x512 .f32)
    (hv185 : ∀ (i : Fin 256) (j : Fin 512), v185 (ix2 i j) = ((B.z (i : ℕ) (j : ℕ) : ℝ) : EReal))
    (i : Fin 256) (j : Fin 512) :
    k0_pay49 v185 (ix2 i j) = ((Lift.sg (B.z (i : ℕ) (j : ℕ)) : ℝ) : EReal) := by
  unfold k0_pay49 k0_pay48
  pointwise
  try simp only [hv185, Lift.up, Lift.body, Lift.words]

theorem pay50 (v185 : Vec Ideal S256x512 .f32)
    (hv185 : ∀ (i : Fin 256) (j : Fin 512), v185 (ix2 i j) = ((B.z (i : ℕ) (j : ℕ) : ℝ) : EReal))
    (i : Fin 256) (j : Fin 512) :
    k0_pay50 v185 (ix2 i j) = ((silu B (i : ℕ) (j : ℕ) : ℝ) : EReal) := by
  unfold k0_pay50 k0_pay49 k0_pay48
  pointwise
  try simp only [hv185, Lift.up, Lift.body, Lift.words]
  try rfl

theorem pay52 (v183 : Vec Ideal S256x512 .f32) (v185 : Vec Ideal S256x512 .f32)
    (hv183 : ∀ (i : Fin 256) (j : Fin 512), v183 (ix2 i j) = ((B.y (i : ℕ) (j : ℕ) : ℝ) : EReal))
    (hv185 : ∀ (i : Fin 256) (j : Fin 512), v185 (ix2 i j) = ((B.z (i : ℕ) (j : ℕ) : ℝ) : EReal))
    (i : Fin 256) (j : Fin 1) :
    k0_pay52 v183 v185 (ix2 i j) = ((rs B (i : ℕ) : ℝ) : EReal) := by
  unfold k0_pay52 k0_pay51 k0_pay50 k0_pay49 k0_pay48 k0_pay47
  pointwise
  try simp only [hv183, hv185, Lift.up, Lift.body, Lift.words]
  exact Lift.rsqrt_coe' _ (var_pos B i)

theorem pay53 (v183 : Vec Ideal S256x512 .f32) (v185 : Vec Ideal S256x512 .f32)
    (hv183 : ∀ (i : Fin 256) (j : Fin 512), v183 (ix2 i j) = ((B.y (i : ℕ) (j : ℕ) : ℝ) : EReal))
    (hv185 : ∀ (i : Fin 256) (j : Fin 512), v185 (ix2 i j) = ((B.z (i : ℕ) (j : ℕ) : ℝ) : EReal))
    (i : Fin 256) (j : Fin 512) :
    k0_pay53 v183 v185 (ix2 i j) = ((hhat B (i : ℕ) (j : ℕ) : ℝ) : EReal) := by
  unfold k0_pay53 k0_pay51 k0_pay50 k0_pay49 k0_pay48 k0_pay47
  pointwise
  try simp only [hv183, hv185, pay52 B v183 v185 hv183 hv185, Lift.up, Lift.body, Lift.words]
  try rfl

theorem pay55 (v183 : Vec Ideal S256x512 .f32) (v185 : Vec Ideal S256x512 .f32) (v206 : Vec Ideal S256x512 .bf16)
    (hv183 : ∀ (i : Fin 256) (j : Fin 512), v183 (ix2 i j) = ((B.y (i : ℕ) (j : ℕ) : ℝ) : EReal))
    (hv185 : ∀ (i : Fin 256) (j : Fin 512), v185 (ix2 i j) = ((B.z (i : ℕ) (j : ℕ) : ℝ) : EReal))
    (hv206 : ∀ (i : Fin 256) (j : Fin 512), v206 (ix2 i j) = ((B.ct (i : ℕ) (j : ℕ) : ℝ) : EReal))
    (i : Fin 1) (j : Fin 512) :
    k0_pay55 v183 v185 v206 (ix2 i j) = ((dgg B (j : ℕ) : ℝ) : EReal) := by
  unfold k0_pay55 k0_pay54 k0_pay53 k0_pay51 k0_pay50 k0_pay49 k0_pay48 k0_pay47
  pointwise
  try simp only [hv183, hv185, hv206, pay52 B v183 v185 hv183 hv185, Lift.up, Lift.body, Lift.words]
  try rfl

theorem pay56 (v206 : Vec Ideal S256x512 .bf16) (v212 : Vec Ideal S1x512 .f32)
    (hv206 : ∀ (i : Fin 256) (j : Fin 512), v206 (ix2 i j) = ((B.ct (i : ℕ) (j : ℕ) : ℝ) : EReal))
    (hv212 : ∀ (i : Fin 1) (j : Fin 512), v212 (ix2 i j) = ((B.gate (j : ℕ) : ℝ) : EReal))
    (i : Fin 256) (j : Fin 512) :
    k0_pay56 v206 v212 (ix2 i j) = ((dhh B (i : ℕ) (j : ℕ) : ℝ) : EReal) := by
  unfold k0_pay56 k0_pay54
  pointwise
  try simp only [hv206, hv212, Lift.up, Lift.body, Lift.words]
  try rfl

theorem pay57 (v183 : Vec Ideal S256x512 .f32) (v185 : Vec Ideal S256x512 .f32) (v206 : Vec Ideal S256x512 .bf16) (v212 : Vec Ideal S1x512 .f32)
    (hv183 : ∀ (i : Fin 256) (j : Fin 512), v183 (ix2 i j) = ((B.y (i : ℕ) (j : ℕ) : ℝ) : EReal))
    (hv185 : ∀ (i : Fin 256) (j : Fin 512), v185 (ix2 i j) = ((B.z (i : ℕ) (j : ℕ) : ℝ) : EReal))
    (hv206 : ∀ (i : Fin 256) (j : Fin 512), v206 (ix2 i j) = ((B.ct (i : ℕ) (j : ℕ) : ℝ) : EReal))
    (hv212 : ∀ (i : Fin 1) (j : Fin 512), v212 (ix2 i j) = ((B.gate (j : ℕ) : ℝ) : EReal))
    (i : Fin 256) (j : Fin 512) :
    k0_pay57 v183 v185 v206 v212 (ix2 i j) = ((dhh B (i : ℕ) (j : ℕ) * hhat B (i : ℕ) (j : ℕ) : ℝ) : EReal) := by
  unfold k0_pay57 k0_pay56 k0_pay54 k0_pay53 k0_pay51 k0_pay50 k0_pay49 k0_pay48 k0_pay47
  pointwise
  try simp only [hv183, hv185, hv206, hv212, pay52 B v183 v185 hv183 hv185, Lift.up, Lift.body, Lift.words]
  try rfl

theorem pay59 (v194 : FVec Ideal S256x512 .f32) (v203 : FVec Ideal S256x1 .f32) (v205 : FVec Ideal S256x512 .f32) (v215 : FVec Ideal S256x512 .f32) (v216 : FVec Ideal S256x512 .f32)
    (hv194 : ∀ (i : Fin 256) (j : Fin 512), v194 (ix2 i j) = ((silu B (i : ℕ) (j : ℕ) : ℝ) : EReal))
    (hv203 : ∀ (i : Fin 256) (j : Fin 1), v203 (ix2 i j) = ((rs B (i : ℕ) : ℝ) : EReal))
    (hv205 : ∀ (i : Fin 256) (j : Fin 512), v205 (ix2 i j) = ((hhat B (i : ℕ) (j : ℕ) : ℝ) : EReal))
    (hv215 : ∀ (i : Fin 256) (j : Fin 512), v215 (ix2 i j) = ((dhh B (i : ℕ) (j : ℕ) : ℝ) : EReal))
    (hv216 : ∀ (i : Fin 256) (j : Fin 512), v216 (ix2 i j) = ((dhh B (i : ℕ) (j : ℕ) * hhat B (i : ℕ) (j : ℕ) : ℝ) : EReal))
    (i : Fin 256) (j : Fin 512) :
    k0_pay59 v194 v203 v205 v215 v216 (ix2 i j) = ((dy B (i : ℕ) (j : ℕ) : ℝ) : EReal) := by
  unfold k0_pay59 k0_pay58
  pointwise
  try simp only [hv194, hv203, hv205, hv215, hv216, Lift.up, Lift.body, Lift.words]
  try rfl

theorem pay60 (v184 : FVec Ideal S256x512 .f32) (v186 : FVec Ideal S256x512 .f32) (v193 : FVec Ideal S256x512 .f32) (v203 : FVec Ideal S256x1 .f32) (v205 : FVec Ideal S256x512 .f32) (v215 : FVec Ideal S256x512 .f32) (v216 : FVec Ideal S256x512 .f32)
    (hv184 : ∀ (i : Fin 256) (j : Fin 512), v184 (ix2 i j) = ((B.y (i : ℕ) (j : ℕ) : ℝ) : EReal))
    (hv186 : ∀ (i : Fin 256) (j : Fin 512), v186 (ix2 i j) = ((B.z (i : ℕ) (j : ℕ) : ℝ) : EReal))
    (hv193 : ∀ (i : Fin 256) (j : Fin 512), v193 (ix2 i j) = ((Lift.sg (B.z (i : ℕ) (j : ℕ)) : ℝ) : EReal))
    (hv203 : ∀ (i : Fin 256) (j : Fin 1), v203 (ix2 i j) = ((rs B (i : ℕ) : ℝ) : EReal))
    (hv205 : ∀ (i : Fin 256) (j : Fin 512), v205 (ix2 i j) = ((hhat B (i : ℕ) (j : ℕ) : ℝ) : EReal))
    (hv215 : ∀ (i : Fin 256) (j : Fin 512), v215 (ix2 i j) = ((dhh B (i : ℕ) (j : ℕ) : ℝ) : EReal))
    (hv216 : ∀ (i : Fin 256) (j : Fin 512), v216 (ix2 i j) = ((dhh B (i : ℕ) (j : ℕ) * hhat B (i : ℕ) (j : ℕ) : ℝ) : EReal))
    (i : Fin 256) (j : Fin 512) :
    k0_pay60 v184 v186 v193 v203 v205 v215 v216 (ix2 i j) = ((dz B (i : ℕ) (j : ℕ) : ℝ) : EReal) := by
  unfold k0_pay60 k0_pay58
  pointwise
  try simp only [hv184, hv186, hv193, hv203, hv205, hv215, hv216, Lift.up, Lift.body, Lift.words]
  try rfl

theorem pay61 (v10 : FVec Ideal S256x128 .f32)
    (hv10 : ∀ (i : Fin 256) (j : Fin 128), v10 (ix2 i j) = ((B.b (i : ℕ) (j : ℕ) : ℝ) : EReal))
    (i : Fin 256) (j : Fin 128) :
    k0_pay61 v10 (ix2 i j) = ((B.b (i : ℕ) (j : ℕ) : ℝ) : EReal) := by
  unfold k0_pay61
  pointwise
  try simp only [hv10, Lift.up, Lift.body, Lift.words]
  try rfl

theorem pay62 (v12 : FVec Ideal S256x128 .f32)
    (hv12 : ∀ (i : Fin 256) (j : Fin 128), v12 (ix2 i j) = ((B.c (i : ℕ) (j : ℕ) : ℝ) : EReal))
    (i : Fin 256) (j : Fin 128) :
    k0_pay62 v12 (ix2 i j) = ((B.c (i : ℕ) (j : ℕ) : ℝ) : EReal) := by
  unfold k0_pay62
  pointwise
  try simp only [hv12, Lift.up, Lift.body, Lift.words]
  try rfl

theorem pay63 (v128 : FVec Ideal S256x512 .f32) (v194 : FVec Ideal S256x512 .f32) (v203 : FVec Ideal S256x1 .f32) (v205 : FVec Ideal S256x512 .f32) (v215 : FVec Ideal S256x512 .f32) (v216 : FVec Ideal S256x512 .f32)
    (hv128 : ∀ (i : Fin 256) (j : Fin 512), v128 (ix2 i j) = ((ecs B (i : ℕ) ((j : ℕ) / 64) : ℝ) : EReal))
    (hv194 : ∀ (i : Fin 256) (j : Fin 512), v194 (ix2 i j) = ((silu B (i : ℕ) (j : ℕ) : ℝ) : EReal))
    (hv203 : ∀ (i : Fin 256) (j : Fin 1), v203 (ix2 i j) = ((rs B (i : ℕ) : ℝ) : EReal))
    (hv205 : ∀ (i : Fin 256) (j : Fin 512), v205 (ix2 i j) = ((hhat B (i : ℕ) (j : ℕ) : ℝ) : EReal))
    (hv215 : ∀ (i : Fin 256) (j : Fin 512), v215 (ix2 i j) = ((dhh B (i : ℕ) (j : ℕ) : ℝ) : EReal))
    (hv216 : ∀ (i : Fin 256) (j : Fin 512), v216 (ix2 i j) = ((dhh B (i : ℕ) (j : ℕ) * hhat B (i : ℕ) (j : ℕ) : ℝ) : EReal))
    (i : Fin 256) (j : Fin 512) :
    k0_pay63 v128 v194 v203 v205 v215 v216 (ix2 i j) = ((dye B (i : ℕ) (j : ℕ) : ℝ) : EReal) := by
  unfold k0_pay63 k0_pay59 k0_pay58
  pointwise
  try simp only [hv128, hv194, hv203, hv205, hv215, hv216, Lift.up, Lift.body, Lift.words]
  try rfl

theorem pay64 (v4 : Vec Ideal S128x512 .f32) (v10 : FVec Ideal S256x128 .f32) (v140 : FVec Ideal S256x512 .f32)
    (hv4 : ∀ (i : Fin 128) (j : Fin 512), v4 (ix2 i j) = ((B.ds (i : ℕ) (j : ℕ) : ℝ) : EReal))
    (hv10 : ∀ (i : Fin 256) (j : Fin 128), v10 (ix2 i j) = ((B.b (i : ℕ) (j : ℕ) : ℝ) : EReal))
    (hv140 : ∀ (i : Fin 256) (j : Fin 512), v140 (ix2 i j) = ((dte B (i : ℕ) ((j : ℕ) / 64) : ℝ) : EReal))
    (i : Fin 256) (j : Fin 512) :
    k0_pay64 v4 v10 v140 (ix2 i j) = ((dxs B (i : ℕ) (j : ℕ) : ℝ) : EReal) := by
  unfold k0_pay64 k0_pay61
  pointwise
  try simp only [hv4, hv10, hv140, Lift.up, Lift.body, Lift.words]
  try rfl

theorem pay65 (v165 : FVec Ideal S256x512 .f32)
    (hv165 : ∀ (i : Fin 256) (j : Fin 512), v165 (ix2 i j) = ((xdt B (i : ℕ) (j : ℕ) : ℝ) : EReal))
    (i : Fin 256) (j : Fin 128) :
    k0_pay65 v165 (ix2 i j) = ((xdt B (i : ℕ) (0 + (j : ℕ)) : ℝ) : EReal) := by
  unfold k0_pay65
  pointwise
  try simp only [hv165, Lift.up, Lift.body, Lift.words]
  try rfl

theorem pay66 (v194 : FVec Ideal S256x512 .f32) (v203 : FVec Ideal S256x1 .f32) (v205 : FVec Ideal S256x512 .f32) (v215 : FVec Ideal S256x512 .f32) (v216 : FVec Ideal S256x512 .f32)
    (hv194 : ∀ (i : Fin 256) (j : Fin 512), v194 (ix2 i j) = ((silu B (i : ℕ) (j : ℕ) : ℝ) : EReal))
    (hv203 : ∀ (i : Fin 256) (j : Fin 1), v203 (ix2 i j) = ((rs B (i : ℕ) : ℝ) : EReal))
    (hv205 : ∀ (i : Fin 256) (j : Fin 512), v205 (ix2 i j) = ((hhat B (i : ℕ) (j : ℕ) : ℝ) : EReal))
    (hv215 : ∀ (i : Fin 256) (j : Fin 512), v215 (ix2 i j) = ((dhh B (i : ℕ) (j : ℕ) : ℝ) : EReal))
    (hv216 : ∀ (i : Fin 256) (j : Fin 512), v216 (ix2 i j) = ((dhh B (i : ℕ) (j : ℕ) * hhat B (i : ℕ) (j : ℕ) : ℝ) : EReal))
    (i : Fin 256) (j : Fin 128) :
    k0_pay66 v194 v203 v205 v215 v216 (ix2 i j) = ((dy B (i : ℕ) (0 + (j : ℕ)) : ℝ) : EReal) := by
  unfold k0_pay66 k0_pay59 k0_pay58
  pointwise
  try simp only [hv194, hv203, hv205, hv215, hv216, Lift.up, Lift.body, Lift.words]
  try rfl

theorem pay67 (v43 : IVec S256x256 1) (v83 : FVec Ideal S256x8 .f32) (v95 : FVec Ideal S8x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (i : Fin 256) (j : Fin 256) :
    k0_pay67 v43 v83 v95 (ix2 i j) = ((decay B (i : ℕ) (j : ℕ) 0 : ℝ) : EReal) := by
  unfold k0_pay67
  pointwise
  try simp only [hv43, hv83, hv95, Lift.up, Lift.body, Lift.words]
  try rfl

theorem pay68 (v43 : IVec S256x256 1) (v83 : FVec Ideal S256x8 .f32) (v95 : FVec Ideal S8x256 .f32) (v168 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (i : Fin 256) (j : Fin 256) :
    k0_pay68 v43 v83 v95 v168 (ix2 i j) = ((gm B (i : ℕ) (j : ℕ) * decay B (i : ℕ) (j : ℕ) 0 : ℝ) : EReal) := by
  unfold k0_pay68 k0_pay67
  pointwise
  try simp only [hv43, hv83, hv95, hv168, Lift.up, Lift.body, Lift.words]
  try refine congrArg _ ?_
  try simp only [decay, sub_self, zero_mul, mul_zero, Finset.sum_const_zero, add_zero, zero_add, sub_zero, zero_sub, mul_one, one_mul, mul_ite, ite_mul, ite_self]
  all_goals rfl

end Cert.KernelIdeal.Body
-- ==== Proof.BodyB.lean ====
module

public import proofs.«01_k».proof.Proof.Gen.KernelIdeal.Skeleton
public import proofs.«01_k».proof.Proof.BlockSpec

/-! The steps of the kernel's body read at one place: when the vectors a step takes are real, so is its result, and it is
    the real expression stated. -/

@[expose] public section
set_option maxRecDepth 16384
noncomputable section
namespace Cert.KernelIdeal.Body
open Cert.KernelIdeal Cert.KernelIdeal.Gen Idealize.ShloMosaic Idealize.ShloMosaic.WordCmp Blk

variable (B : In)

theorem pay69
    (i : Fin 1) (j : Fin 128) :
    k0_pay69 (ix2 i j) = BitVec.ofBool (decide ((j : ℕ) / 64 = 0)) := by
  unfold k0_pay69
  pointwise
  rw [cmpi_sge_ofNat (by omega) (by omega), cmpi_slt_ofNat (by omega) (by omega), Lift.andi_bool]
  refine congrArg _ ?_
  rw [← Bool.decide_and]
  refine decide_eq_decide.mpr ?_
  omega

theorem pay71 (v247 : FVec Ideal S256x128 .f32) (v259 : FVec Ideal S256x256 .bf16) (v265 : IVec S1x128 1)
    (hv247 : ∀ (i : Fin 256) (j : Fin 128), v247 (ix2 i j) = ((dy B (i : ℕ) (0 + (j : ℕ)) : ℝ) : EReal))
    (hv259 : ∀ (i : Fin 256) (j : Fin 256), v259 (ix2 i j) = ((gm B (i : ℕ) (j : ℕ) * decay B (i : ℕ) (j : ℕ) 0 : ℝ) : EReal))
    (hv265 : ∀ (i : Fin 1) (j : Fin 128), v265 (ix2 i j) = BitVec.ofBool (decide ((j : ℕ) / 64 = 0)))
    (i : Fin 256) (j : Fin 128) :
    k0_pay71 v247 v259 v265 (ix2 i j) = ((if (j : ℕ) / 64 = 0 then dxi B (i : ℕ) (0 + (j : ℕ)) else 0 : ℝ) : EReal) := by
  unfold k0_pay71 k0_pay70
  pointwise
  try simp only [hv247, hv259, hv265, Lift.up, Lift.body, Lift.words]
  refine congrArg _ ?_
  by_cases h : (j : ℕ) / 64 = 0
  · have h2 : (0 + (j : ℕ)) / 64 = 0 := by omega
    simp only [h, h2, dxi, decay, if_true, sub_self, zero_mul, mul_zero, Finset.sum_const_zero, add_zero, zero_add, sub_zero, zero_sub, mul_one, one_mul, mul_ite, ite_mul, ite_self]
    all_goals rfl
  · simp only [h, if_false, sub_self, zero_mul, mul_zero, Finset.sum_const_zero, add_zero, zero_add, sub_zero, zero_sub, mul_one, one_mul, mul_ite, ite_mul, ite_self]
  all_goals rfl

theorem pay72 (v246 : FVec Ideal S256x128 .f32) (v247 : FVec Ideal S256x128 .f32) (v257 : FVec Ideal S256x256 .f32) (v265 : IVec S1x128 1)
    (hv246 : ∀ (i : Fin 256) (j : Fin 128), v246 (ix2 i j) = ((xdt B (i : ℕ) (0 + (j : ℕ)) : ℝ) : EReal))
    (hv247 : ∀ (i : Fin 256) (j : Fin 128), v247 (ix2 i j) = ((dy B (i : ℕ) (0 + (j : ℕ)) : ℝ) : EReal))
    (hv257 : ∀ (i : Fin 256) (j : Fin 256), v257 (ix2 i j) = ((decay B (i : ℕ) (j : ℕ) 0 : ℝ) : EReal))
    (hv265 : ∀ (i : Fin 1) (j : Fin 128), v265 (ix2 i j) = BitVec.ofBool (decide ((j : ℕ) / 64 = 0)))
    (i : Fin 256) (j : Fin 256) :
    k0_pay72 v246 v247 v257 v265 (ix2 i j) = ((dm B (i : ℕ) (j : ℕ) 0 : ℝ) : EReal) := by
  unfold k0_pay72 k0_pay70
  pointwise
  try simp only [hv246, hv247, hv257, hv265, Lift.up, Lift.body, Lift.words]
  refine congrArg _ ?_
  have hl := lanes 128 (fun q => dy B i (0 + q) * xdt B j (0 + q)) 0 (by norm_num)
  have hq : ∀ p : ℕ, 0 + (64 * 0 + p) = 64 * 0 + p := by intro p; omega
  simp only [hq] at hl
  simp only [ite_mul, zero_mul, hl]
  simp only [dm, decay, mul_ite, mul_zero]
  all_goals rfl

theorem pay73 (v50 : FVec Ideal S256x256 .bf16) (v168 : FVec Ideal S256x256 .f32) (v243 : IVec S256x256 32) (v244 : IVec S256x256 32) (v245 : IVec S1x8 32) (v246 : FVec Ideal S256x128 .f32) (v247 : FVec Ideal S256x128 .f32) (v257 : FVec Ideal S256x256 .f32) (v265 : IVec S1x128 1)
    (hv50 : ∀ (i : Fin 256) (j : Fin 256), v50 (ix2 i j) = ((if (i : ℕ) ≤ (j : ℕ) then 1 else 0 : ℝ) : EReal))
    (hv168 : ∀ (i : Fin 256) (j : Fin 256), v168 (ix2 i j) = ((gm B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv245 : ∀ (i : Fin 1) (j : Fin 8), v245 (ix2 i j) = BitVec.ofNat 32 (j : ℕ))
    (hv246 : ∀ (i : Fin 256) (j : Fin 128), v246 (ix2 i j) = ((xdt B (i : ℕ) (0 + (j : ℕ)) : ℝ) : EReal))
    (hv247 : ∀ (i : Fin 256) (j : Fin 128), v247 (ix2 i j) = ((dy B (i : ℕ) (0 + (j : ℕ)) : ℝ) : EReal))
    (hv257 : ∀ (i : Fin 256) (j : Fin 256), v257 (ix2 i j) = ((decay B (i : ℕ) (j : ℕ) 0 : ℝ) : EReal))
    (hv265 : ∀ (i : Fin 1) (j : Fin 128), v265 (ix2 i j) = BitVec.ofBool (decide ((j : ℕ) / 64 = 0)))
    (i : Fin 256) (j : Fin 8) :
    k0_pay73 v50 v168 v243 v244 v245 v246 v247 v257 v265 (ix2 i j) = ((if (j : ℕ) < 1 then dac B (i : ℕ) (j : ℕ) else 0 : ℝ) : EReal) := by
  unfold k0_pay73
  pointwise
  have he : ∀ q : Fin 8, IntOp.cmpi CmpIPredicate.eq (BitVec.ofNat 32 (q : ℕ)) 0#32
      = BitVec.ofBool (decide ((q : ℕ) = 0)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv50, hv168, hv243, hv244, hv245, hv246, hv247, hv257, hv265, pay72 B v246 v247 v257 v265 hv246 hv247 hv257 hv265, he, hs, Lift.up, Lift.body, Lift.words]
  refine congrArg _ ?_
  by_cases h1 : (j : ℕ) = 0
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 0 with h3 | h3
    · exfalso; omega
    · simp only [h1, show ¬ (j : ℕ) < 0 by omega, show ¬ (j : ℕ) < 1 by omega, if_false, mul_zero, add_zero]

theorem pay74 (v43 : IVec S256x256 1) (v83 : FVec Ideal S256x8 .f32) (v95 : FVec Ideal S8x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (i : Fin 256) (j : Fin 256) :
    k0_pay74 v43 v83 v95 (ix2 i j) = ((decay B (i : ℕ) (j : ℕ) 1 : ℝ) : EReal) := by
  unfold k0_pay74
  pointwise
  try simp only [hv43, hv83, hv95, Lift.up, Lift.body, Lift.words]
  try rfl

theorem pay75 (v43 : IVec S256x256 1) (v83 : FVec Ideal S256x8 .f32) (v95 : FVec Ideal S8x256 .f32) (v168 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (i : Fin 256) (j : Fin 256) :
    k0_pay75 v43 v83 v95 v168 (ix2 i j) = ((gm B (i : ℕ) (j : ℕ) * decay B (i : ℕ) (j : ℕ) 1 : ℝ) : EReal) := by
  unfold k0_pay75 k0_pay74
  pointwise
  try simp only [hv43, hv83, hv95, hv168, Lift.up, Lift.body, Lift.words]
  try refine congrArg _ ?_
  try simp only [decay, sub_self, zero_mul, mul_zero, Finset.sum_const_zero, add_zero, zero_add, sub_zero, zero_sub, mul_one, one_mul, mul_ite, ite_mul, ite_self]
  all_goals rfl

theorem pay76 (v247 : FVec Ideal S256x128 .f32)
    (hv247 : ∀ (i : Fin 256) (j : Fin 128), v247 (ix2 i j) = ((dy B (i : ℕ) (0 + (j : ℕ)) : ℝ) : EReal))
    (i : Fin 256) (j : Fin 128) :
    k0_pay76 v247 (ix2 i j) = ((if (j : ℕ) / 64 = 1 then dy B (i : ℕ) (0 + (j : ℕ)) else 0 : ℝ) : EReal) := by
  unfold k0_pay76
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv247, hm, Lift.up, Lift.body]
  simp only [zero_add]

theorem pay77 (v271 : FVec Ideal S256x128 .f32) (v301 : FVec Ideal S256x256 .bf16) (v312 : FVec Ideal S256x128 .bf16) (cst_91 : FVec Ideal S256x128 .f32)
    (hv271 : ∀ (i : Fin 256) (j : Fin 128), v271 (ix2 i j) = ((if (j : ℕ) / 64 = 0 then dxi B (i : ℕ) (0 + (j : ℕ)) else 0 : ℝ) : EReal))
    (hv301 : ∀ (i : Fin 256) (j : Fin 256), v301 (ix2 i j) = ((gm B (i : ℕ) (j : ℕ) * decay B (i : ℕ) (j : ℕ) 1 : ℝ) : EReal))
    (hv312 : ∀ (i : Fin 256) (j : Fin 128), v312 (ix2 i j) = ((if (j : ℕ) / 64 = 1 then dy B (i : ℕ) (0 + (j : ℕ)) else 0 : ℝ) : EReal))
    (hcst_91 : ∀ (i : Fin 256) (j : Fin 128), cst_91 (ix2 i j) = ((0 : ℝ) : EReal))
    (i : Fin 256) (j : Fin 128) :
    k0_pay77 v271 v301 v312 cst_91 (ix2 i j) = ((dxi B (i : ℕ) (0 + (j : ℕ)) : ℝ) : EReal) := by
  unfold k0_pay77
  pointwise
  try simp only [hv271, hv301, hv312, hcst_91, Lift.up, Lift.body, Lift.words]
  refine congrArg _ ?_
  by_cases h : (j : ℕ) / 64 = 0
  · simp only [h, if_true, if_false, zero_ne_one, sub_self, zero_mul, mul_zero, Finset.sum_const_zero, add_zero, zero_add, sub_zero, zero_sub, mul_one, one_mul, mul_ite, ite_mul, ite_self]
  · have h1 : (j : ℕ) / 64 = 1 := by omega
    have h2 : (0 + (j : ℕ)) / 64 = 1 := by omega
    simp only [h1, h2, dxi, decay, one_ne_zero, if_true, if_false, sub_self, zero_mul, mul_zero, Finset.sum_const_zero, add_zero, zero_add, sub_zero, zero_sub, mul_one, one_mul, mul_ite, ite_mul, ite_self]
    all_goals rfl
  all_goals rfl

theorem pay78 (v246 : FVec Ideal S256x128 .f32) (v299 : FVec Ideal S256x256 .f32) (v312 : FVec Ideal S256x128 .bf16)
    (hv246 : ∀ (i : Fin 256) (j : Fin 128), v246 (ix2 i j) = ((xdt B (i : ℕ) (0 + (j : ℕ)) : ℝ) : EReal))
    (hv299 : ∀ (i : Fin 256) (j : Fin 256), v299 (ix2 i j) = ((decay B (i : ℕ) (j : ℕ) 1 : ℝ) : EReal))
    (hv312 : ∀ (i : Fin 256) (j : Fin 128), v312 (ix2 i j) = ((if (j : ℕ) / 64 = 1 then dy B (i : ℕ) (0 + (j : ℕ)) else 0 : ℝ) : EReal))
    (i : Fin 256) (j : Fin 256) :
    k0_pay78 v246 v299 v312 (ix2 i j) = ((dm B (i : ℕ) (j : ℕ) 1 : ℝ) : EReal) := by
  unfold k0_pay78
  pointwise
  try simp only [hv246, hv299, hv312, Lift.up, Lift.body, Lift.words]
  refine congrArg _ ?_
  have hl := lanes 128 (fun q => dy B i (0 + q) * xdt B j (0 + q)) 1 (by norm_num)
  have hq : ∀ p : ℕ, 0 + (64 * 1 + p) = 64 * 1 + p := by intro p; omega
  simp only [hq] at hl
  simp only [ite_mul, zero_mul, hl]
  simp only [dm, decay, mul_ite, mul_zero]
  all_goals rfl

theorem pay79 (v246 : FVec Ideal S256x128 .f32) (v274 : FVec Ideal S256x256 .f32) (v299 : FVec Ideal S256x256 .f32) (v312 : FVec Ideal S256x128 .bf16)
    (hv246 : ∀ (i : Fin 256) (j : Fin 128), v246 (ix2 i j) = ((xdt B (i : ℕ) (0 + (j : ℕ)) : ℝ) : EReal))
    (hv274 : ∀ (i : Fin 256) (j : Fin 256), v274 (ix2 i j) = ((dm B (i : ℕ) (j : ℕ) 0 : ℝ) : EReal))
    (hv299 : ∀ (i : Fin 256) (j : Fin 256), v299 (ix2 i j) = ((decay B (i : ℕ) (j : ℕ) 1 : ℝ) : EReal))
    (hv312 : ∀ (i : Fin 256) (j : Fin 128), v312 (ix2 i j) = ((if (j : ℕ) / 64 = 1 then dy B (i : ℕ) (0 + (j : ℕ)) else 0 : ℝ) : EReal))
    (i : Fin 256) (j : Fin 256) :
    k0_pay79 v246 v274 v299 v312 (ix2 i j) = ((dg B 2 (i : ℕ) (j : ℕ) : ℝ) : EReal) := by
  unfold k0_pay79
  pointwise
  try simp only [hv246, hv274, hv299, hv312, pay78 B v246 v299 v312 hv246 hv299 hv312, Lift.up, Lift.body, Lift.words]
  refine congrArg _ ?_
  simp only [dg, Finset.sum_range_succ, Finset.sum_range_zero, zero_add]

theorem pay80 (v50 : FVec Ideal S256x256 .bf16) (v168 : FVec Ideal S256x256 .f32) (v243 : IVec S256x256 32) (v244 : IVec S256x256 32) (v245 : IVec S1x8 32) (v246 : FVec Ideal S256x128 .f32) (v289 : FVec Ideal S256x8 .f32) (v299 : FVec Ideal S256x256 .f32) (v312 : FVec Ideal S256x128 .bf16)
    (hv50 : ∀ (i : Fin 256) (j : Fin 256), v50 (ix2 i j) = ((if (i : ℕ) ≤ (j : ℕ) then 1 else 0 : ℝ) : EReal))
    (hv168 : ∀ (i : Fin 256) (j : Fin 256), v168 (ix2 i j) = ((gm B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv245 : ∀ (i : Fin 1) (j : Fin 8), v245 (ix2 i j) = BitVec.ofNat 32 (j : ℕ))
    (hv246 : ∀ (i : Fin 256) (j : Fin 128), v246 (ix2 i j) = ((xdt B (i : ℕ) (0 + (j : ℕ)) : ℝ) : EReal))
    (hv289 : ∀ (i : Fin 256) (j : Fin 8), v289 (ix2 i j) = ((if (j : ℕ) < 1 then dac B (i : ℕ) (j : ℕ) else 0 : ℝ) : EReal))
    (hv299 : ∀ (i : Fin 256) (j : Fin 256), v299 (ix2 i j) = ((decay B (i : ℕ) (j : ℕ) 1 : ℝ) : EReal))
    (hv312 : ∀ (i : Fin 256) (j : Fin 128), v312 (ix2 i j) = ((if (j : ℕ) / 64 = 1 then dy B (i : ℕ) (0 + (j : ℕ)) else 0 : ℝ) : EReal))
    (i : Fin 256) (j : Fin 8) :
    k0_pay80 v50 v168 v243 v244 v245 v246 v289 v299 v312 (ix2 i j) = ((if (j : ℕ) < 2 then dac B (i : ℕ) (j : ℕ) else 0 : ℝ) : EReal) := by
  unfold k0_pay80
  pointwise
  have he : ∀ q : Fin 8, IntOp.cmpi CmpIPredicate.eq (BitVec.ofNat 32 (q : ℕ)) 1#32
      = BitVec.ofBool (decide ((q : ℕ) = 1)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv50, hv168, hv243, hv244, hv245, hv246, hv289, hv299, hv312, pay78 B v246 v299 v312 hv246 hv299 hv312, he, hs, Lift.up, Lift.body, Lift.words]
  refine congrArg _ ?_
  by_cases h1 : (j : ℕ) = 1
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 1 with h3 | h3
    · simp only [h1, h3, show (j : ℕ) < 2 by omega, if_true, if_false, mul_zero, add_zero]
    · simp only [h1, show ¬ (j : ℕ) < 1 by omega, show ¬ (j : ℕ) < 2 by omega, if_false, mul_zero, add_zero]

theorem pay81 (v165 : FVec Ideal S256x512 .f32)
    (hv165 : ∀ (i : Fin 256) (j : Fin 512), v165 (ix2 i j) = ((xdt B (i : ℕ) (j : ℕ) : ℝ) : EReal))
    (i : Fin 256) (j : Fin 128) :
    k0_pay81 v165 (ix2 i j) = ((xdt B (i : ℕ) (128 + (j : ℕ)) : ℝ) : EReal) := by
  unfold k0_pay81
  pointwise
  try simp only [hv165, Lift.up, Lift.body, Lift.words]
  try rfl

theorem pay82 (v226 : FVec Ideal S256x512 .f32)
    (hv226 : ∀ (i : Fin 256) (j : Fin 512), v226 (ix2 i j) = ((dy B (i : ℕ) (j : ℕ) : ℝ) : EReal))
    (i : Fin 256) (j : Fin 128) :
    k0_pay82 v226 (ix2 i j) = ((dy B (i : ℕ) (128 + (j : ℕ)) : ℝ) : EReal) := by
  unfold k0_pay82
  pointwise
  try simp only [hv226, Lift.up, Lift.body, Lift.words]
  try rfl

theorem pay83 (v43 : IVec S256x256 1) (v83 : FVec Ideal S256x8 .f32) (v95 : FVec Ideal S8x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (i : Fin 256) (j : Fin 256) :
    k0_pay83 v43 v83 v95 (ix2 i j) = ((decay B (i : ℕ) (j : ℕ) 2 : ℝ) : EReal) := by
  unfold k0_pay83
  pointwise
  try simp only [hv43, hv83, hv95, Lift.up, Lift.body, Lift.words]
  try rfl

theorem pay84 (v226 : FVec Ideal S256x512 .f32)
    (hv226 : ∀ (i : Fin 256) (j : Fin 512), v226 (ix2 i j) = ((dy B (i : ℕ) (j : ℕ) : ℝ) : EReal))
    (i : Fin 256) (j : Fin 128) :
    k0_pay84 v226 (ix2 i j) = ((if (j : ℕ) / 64 = 0 then dy B (i : ℕ) (128 + (j : ℕ)) else 0 : ℝ) : EReal) := by
  unfold k0_pay84 k0_pay82
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv226, hm, Lift.up, Lift.body]

theorem pay85 (v43 : IVec S256x256 1) (v83 : FVec Ideal S256x8 .f32) (v95 : FVec Ideal S8x256 .f32) (v168 : FVec Ideal S256x256 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv226 : ∀ (i : Fin 256) (j : Fin 512), v226 (ix2 i j) = ((dy B (i : ℕ) (j : ℕ) : ℝ) : EReal))
    (i : Fin 256) (j : Fin 128) :
    k0_pay85 v43 v83 v95 v168 v226 (ix2 i j) = ((if (j : ℕ) / 64 = 0 then dxi B (i : ℕ) (128 + (j : ℕ)) else 0 : ℝ) : EReal) := by
  unfold k0_pay85 k0_pay84 k0_pay83 k0_pay82
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv226, hm, Lift.up, Lift.body]
  refine congrArg _ ?_
  by_cases h : (j : ℕ) / 64 = 0
  · have h2 : (128 + (j : ℕ)) / 64 = 2 := by omega
    simp only [h, h2, dxi, decay, if_true, sub_self, zero_mul, mul_zero, Finset.sum_const_zero, add_zero, zero_add, sub_zero, zero_sub, mul_one, one_mul, mul_ite, ite_mul, ite_self]
    all_goals rfl
  · simp only [h, if_false, sub_self, zero_mul, mul_zero, Finset.sum_const_zero, add_zero, zero_add, sub_zero, zero_sub, mul_one, one_mul, mul_ite, ite_mul, ite_self]
  all_goals rfl

theorem pay86 (v165 : FVec Ideal S256x512 .f32)
    (hv165 : ∀ (i : Fin 256) (j : Fin 512), v165 (ix2 i j) = ((xdt B (i : ℕ) (j : ℕ) : ℝ) : EReal))
    (i : Fin 256) (j : Fin 128) :
    k0_pay86 v165 (ix2 i j) = ((xdt B (i : ℕ) (128 + (j : ℕ)) : ℝ) : EReal) := by
  unfold k0_pay86 k0_pay81
  pointwise
  try simp only [hv165, Lift.up, Lift.body, Lift.words]
  try rfl

theorem pay87 (v346 : FVec Ideal S256x256 .f32) (v359 : FVec Ideal S256x128 .bf16) (v361 : FVec Ideal S256x128 .bf16)
    (hv346 : ∀ (i : Fin 256) (j : Fin 256), v346 (ix2 i j) = ((decay B (i : ℕ) (j : ℕ) 2 : ℝ) : EReal))
    (hv359 : ∀ (i : Fin 256) (j : Fin 128), v359 (ix2 i j) = ((if (j : ℕ) / 64 = 0 then dy B (i : ℕ) (128 + (j : ℕ)) else 0 : ℝ) : EReal))
    (hv361 : ∀ (i : Fin 256) (j : Fin 128), v361 (ix2 i j) = ((xdt B (i : ℕ) (128 + (j : ℕ)) : ℝ) : EReal))
    (i : Fin 256) (j : Fin 256) :
    k0_pay87 v346 v359 v361 (ix2 i j) = ((dm B (i : ℕ) (j : ℕ) 2 : ℝ) : EReal) := by
  unfold k0_pay87
  pointwise
  try simp only [hv346, hv359, hv361, Lift.up, Lift.body, Lift.words]
  refine congrArg _ ?_
  have hl := lanes 128 (fun q => dy B i (128 + q) * xdt B j (128 + q)) 0 (by norm_num)
  have hq : ∀ p : ℕ, 128 + (64 * 0 + p) = 64 * 2 + p := by intro p; omega
  simp only [hq] at hl
  simp only [ite_mul, zero_mul, hl]
  simp only [dm, decay, mul_ite, mul_zero]
  all_goals rfl

theorem pay88 (v50 : FVec Ideal S256x256 .bf16) (v168 : FVec Ideal S256x256 .f32) (v243 : IVec S256x256 32) (v244 : IVec S256x256 32) (v245 : IVec S1x8 32) (v334 : FVec Ideal S256x8 .f32) (v346 : FVec Ideal S256x256 .f32) (v359 : FVec Ideal S256x128 .bf16) (v361 : FVec Ideal S256x128 .bf16)
    (hv50 : ∀ (i : Fin 256) (j : Fin 256), v50 (ix2 i j) = ((if (i : ℕ) ≤ (j : ℕ) then 1 else 0 : ℝ) : EReal))
    (hv168 : ∀ (i : Fin 256) (j : Fin 256), v168 (ix2 i j) = ((gm B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv245 : ∀ (i : Fin 1) (j : Fin 8), v245 (ix2 i j) = BitVec.ofNat 32 (j : ℕ))
    (hv334 : ∀ (i : Fin 256) (j : Fin 8), v334 (ix2 i j) = ((if (j : ℕ) < 2 then dac B (i : ℕ) (j : ℕ) else 0 : ℝ) : EReal))
    (hv346 : ∀ (i : Fin 256) (j : Fin 256), v346 (ix2 i j) = ((decay B (i : ℕ) (j : ℕ) 2 : ℝ) : EReal))
    (hv359 : ∀ (i : Fin 256) (j : Fin 128), v359 (ix2 i j) = ((if (j : ℕ) / 64 = 0 then dy B (i : ℕ) (128 + (j : ℕ)) else 0 : ℝ) : EReal))
    (hv361 : ∀ (i : Fin 256) (j : Fin 128), v361 (ix2 i j) = ((xdt B (i : ℕ) (128 + (j : ℕ)) : ℝ) : EReal))
    (i : Fin 256) (j : Fin 8) :
    k0_pay88 v50 v168 v243 v244 v245 v334 v346 v359 v361 (ix2 i j) = ((if (j : ℕ) < 3 then dac B (i : ℕ) (j : ℕ) else 0 : ℝ) : EReal) := by
  unfold k0_pay88
  pointwise
  have he : ∀ q : Fin 8, IntOp.cmpi CmpIPredicate.eq (BitVec.ofNat 32 (q : ℕ)) 2#32
      = BitVec.ofBool (decide ((q : ℕ) = 2)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv50, hv168, hv243, hv244, hv245, hv334, hv346, hv359, hv361, pay87 B v346 v359 v361 hv346 hv359 hv361, he, hs, Lift.up, Lift.body, Lift.words]
  refine congrArg _ ?_
  by_cases h1 : (j : ℕ) = 2
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 2 with h3 | h3
    · simp only [h1, h3, show (j : ℕ) < 3 by omega, if_true, if_false, mul_zero, add_zero]
    · simp only [h1, show ¬ (j : ℕ) < 2 by omega, show ¬ (j : ℕ) < 3 by omega, if_false, mul_zero, add_zero]

theorem pay91 (v43 : IVec S256x256 1) (v83 : FVec Ideal S256x8 .f32) (v95 : FVec Ideal S8x256 .f32) (v168 : FVec Ideal S256x256 .f32) (v336 : FVec Ideal S256x128 .f32) (v360 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv336 : ∀ (i : Fin 256) (j : Fin 128), v336 (ix2 i j) = ((dy B (i : ℕ) (128 + (j : ℕ)) : ℝ) : EReal))
    (hv360 : ∀ (i : Fin 256) (j : Fin 128), v360 (ix2 i j) = ((if (j : ℕ) / 64 = 0 then dxi B (i : ℕ) (128 + (j : ℕ)) else 0 : ℝ) : EReal))
    (i : Fin 256) (j : Fin 128) :
    k0_pay91 v43 v83 v95 v168 v336 v360 (ix2 i j) = ((dxi B (i : ℕ) (128 + (j : ℕ)) : ℝ) : EReal) := by
  unfold k0_pay91 k0_pay90 k0_pay89
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv336, hv360, hm, Lift.up, Lift.body]
  refine congrArg _ ?_
  by_cases h : (j : ℕ) / 64 = 0
  · simp only [h, if_true, if_false, zero_ne_one, sub_self, zero_mul, mul_zero, Finset.sum_const_zero, add_zero, zero_add, sub_zero, zero_sub, mul_one, one_mul, mul_ite, ite_mul, ite_self]
  · have h1 : (j : ℕ) / 64 = 1 := by omega
    have h2 : (128 + (j : ℕ)) / 64 = 3 := by omega
    simp only [h1, h2, dxi, decay, one_ne_zero, if_true, if_false, sub_self, zero_mul, mul_zero, Finset.sum_const_zero, add_zero, zero_add, sub_zero, zero_sub, mul_one, one_mul, mul_ite, ite_mul, ite_self]
    all_goals rfl
  all_goals rfl

theorem pay92 (v43 : IVec S256x256 1) (v83 : FVec Ideal S256x8 .f32) (v95 : FVec Ideal S8x256 .f32) (v335 : FVec Ideal S256x128 .f32) (v336 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv335 : ∀ (i : Fin 256) (j : Fin 128), v335 (ix2 i j) = ((xdt B (i : ℕ) (128 + (j : ℕ)) : ℝ) : EReal))
    (hv336 : ∀ (i : Fin 256) (j : Fin 128), v336 (ix2 i j) = ((dy B (i : ℕ) (128 + (j : ℕ)) : ℝ) : EReal))
    (i : Fin 256) (j : Fin 256) :
    k0_pay92 v43 v83 v95 v335 v336 (ix2 i j) = ((dm B (i : ℕ) (j : ℕ) 3 : ℝ) : EReal) := by
  unfold k0_pay92 k0_pay90 k0_pay89
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv335, hv336, hm, Lift.up, Lift.body]
  refine congrArg _ ?_
  have hl := lanes 128 (fun q => dy B i (128 + q) * xdt B j (128 + q)) 1 (by norm_num)
  have hq : ∀ p : ℕ, 128 + (64 * 1 + p) = 64 * 3 + p := by intro p; omega
  simp only [hq] at hl
  simp only [ite_mul, zero_mul, hl]
  simp only [dm, decay, mul_ite, mul_zero]
  all_goals rfl

theorem pay93 (v43 : IVec S256x256 1) (v83 : FVec Ideal S256x8 .f32) (v95 : FVec Ideal S8x256 .f32) (v318 : FVec Ideal S256x256 .f32) (v335 : FVec Ideal S256x128 .f32) (v336 : FVec Ideal S256x128 .f32) (v346 : FVec Ideal S256x256 .f32) (v359 : FVec Ideal S256x128 .bf16) (v361 : FVec Ideal S256x128 .bf16)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv318 : ∀ (i : Fin 256) (j : Fin 256), v318 (ix2 i j) = ((dg B 2 (i : ℕ) (j : ℕ) : ℝ) : EReal))
    (hv335 : ∀ (i : Fin 256) (j : Fin 128), v335 (ix2 i j) = ((xdt B (i : ℕ) (128 + (j : ℕ)) : ℝ) : EReal))
    (hv336 : ∀ (i : Fin 256) (j : Fin 128), v336 (ix2 i j) = ((dy B (i : ℕ) (128 + (j : ℕ)) : ℝ) : EReal))
    (hv346 : ∀ (i : Fin 256) (j : Fin 256), v346 (ix2 i j) = ((decay B (i : ℕ) (j : ℕ) 2 : ℝ) : EReal))
    (hv359 : ∀ (i : Fin 256) (j : Fin 128), v359 (ix2 i j) = ((if (j : ℕ) / 64 = 0 then dy B (i : ℕ) (128 + (j : ℕ)) else 0 : ℝ) : EReal))
    (hv361 : ∀ (i : Fin 256) (j : Fin 128), v361 (ix2 i j) = ((xdt B (i : ℕ) (128 + (j : ℕ)) : ℝ) : EReal))
    (i : Fin 256) (j : Fin 256) :
    k0_pay93 v43 v83 v95 v318 v335 v336 v346 v359 v361 (ix2 i j) = ((dg B 4 (i : ℕ) (j : ℕ) : ℝ) : EReal) := by
  unfold k0_pay93
  pointwise
  try simp only [hv43, hv83, hv95, hv318, hv335, hv336, hv346, hv359, hv361, pay87 B v346 v359 v361 hv346 hv359 hv361, pay92 B v43 v83 v95 v335 v336 hv43 hv83 hv95 hv335 hv336, Lift.up, Lift.body, Lift.words]
  refine congrArg _ ?_
  simp only [dg, Finset.sum_range_succ, Finset.sum_range_zero, zero_add]

theorem pay94 (v50 : FVec Ideal S256x256 .bf16) (v168 : FVec Ideal S256x256 .f32) (v243 : IVec S256x256 32) (v244 : IVec S256x256 32) (v245 : IVec S1x8 32) (v380 : FVec Ideal S256x8 .f32) (v408 : FVec Ideal S256x256 .f32)
    (hv50 : ∀ (i : Fin 256) (j : Fin 256), v50 (ix2 i j) = ((if (i : ℕ) ≤ (j : ℕ) then 1 else 0 : ℝ) : EReal))
    (hv168 : ∀ (i : Fin 256) (j : Fin 256), v168 (ix2 i j) = ((gm B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv245 : ∀ (i : Fin 1) (j : Fin 8), v245 (ix2 i j) = BitVec.ofNat 32 (j : ℕ))
    (hv380 : ∀ (i : Fin 256) (j : Fin 8), v380 (ix2 i j) = ((if (j : ℕ) < 3 then dac B (i : ℕ) (j : ℕ) else 0 : ℝ) : EReal))
    (hv408 : ∀ (i : Fin 256) (j : Fin 256), v408 (ix2 i j) = ((dm B (i : ℕ) (j : ℕ) 3 : ℝ) : EReal))
    (i : Fin 256) (j : Fin 8) :
    k0_pay94 v50 v168 v243 v244 v245 v380 v408 (ix2 i j) = ((if (j : ℕ) < 4 then dac B (i : ℕ) (j : ℕ) else 0 : ℝ) : EReal) := by
  unfold k0_pay94
  pointwise
  have he : ∀ q : Fin 8, IntOp.cmpi CmpIPredicate.eq (BitVec.ofNat 32 (q : ℕ)) 3#32
      = BitVec.ofBool (decide ((q : ℕ) = 3)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv50, hv168, hv243, hv244, hv245, hv380, hv408, he, hs, Lift.up, Lift.body, Lift.words]
  refine congrArg _ ?_
  by_cases h1 : (j : ℕ) = 3
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 3 with h3 | h3
    · simp only [h1, h3, show (j : ℕ) < 4 by omega, if_true, if_false, mul_zero, add_zero]
    · simp only [h1, show ¬ (j : ℕ) < 3 by omega, show ¬ (j : ℕ) < 4 by omega, if_false, mul_zero, add_zero]

theorem pay95 (v165 : FVec Ideal S256x512 .f32)
    (hv165 : ∀ (i : Fin 256) (j : Fin 512), v165 (ix2 i j) = ((xdt B (i : ℕ) (j : ℕ) : ℝ) : EReal))
    (i : Fin 256) (j : Fin 128) :
    k0_pay95 v165 (ix2 i j) = ((xdt B (i : ℕ) (256 + (j : ℕ)) : ℝ) : EReal) := by
  unfold k0_pay95
  pointwise
  try simp only [hv165, Lift.up, Lift.body, Lift.words]
  try rfl

theorem pay96 (v226 : FVec Ideal S256x512 .f32)
    (hv226 : ∀ (i : Fin 256) (j : Fin 512), v226 (ix2 i j) = ((dy B (i : ℕ) (j : ℕ) : ℝ) : EReal))
    (i : Fin 256) (j : Fin 128) :
    k0_pay96 v226 (ix2 i j) = ((dy B (i : ℕ) (256 + (j : ℕ)) : ℝ) : EReal) := by
  unfold k0_pay96
  pointwise
  try simp only [hv226, Lift.up, Lift.body, Lift.words]
  try rfl

theorem pay99 (v43 : IVec S256x256 1) (v83 : FVec Ideal S256x8 .f32) (v95 : FVec Ideal S8x256 .f32) (v168 : FVec Ideal S256x256 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv226 : ∀ (i : Fin 256) (j : Fin 512), v226 (ix2 i j) = ((dy B (i : ℕ) (j : ℕ) : ℝ) : EReal))
    (i : Fin 256) (j : Fin 128) :
    k0_pay99 v43 v83 v95 v168 v226 (ix2 i j) = ((if (j : ℕ) / 64 = 0 then dxi B (i : ℕ) (256 + (j : ℕ)) else 0 : ℝ) : EReal) := by
  unfold k0_pay99 k0_pay98 k0_pay97 k0_pay96
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv226, hm, Lift.up, Lift.body]
  refine congrArg _ ?_
  by_cases h : (j : ℕ) / 64 = 0
  · have h2 : (256 + (j : ℕ)) / 64 = 4 := by omega
    simp only [h, h2, dxi, decay, if_true, sub_self, zero_mul, mul_zero, Finset.sum_const_zero, add_zero, zero_add, sub_zero, zero_sub, mul_one, one_mul, mul_ite, ite_mul, ite_self]
    all_goals rfl
  · simp only [h, if_false, sub_self, zero_mul, mul_zero, Finset.sum_const_zero, add_zero, zero_add, sub_zero, zero_sub, mul_one, one_mul, mul_ite, ite_mul, ite_self]
  all_goals rfl

theorem pay100 (v43 : IVec S256x256 1) (v83 : FVec Ideal S256x8 .f32) (v95 : FVec Ideal S8x256 .f32) (v165 : FVec Ideal S256x512 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv226 : ∀ (i : Fin 256) (j : Fin 512), v226 (ix2 i j) = ((dy B (i : ℕ) (j : ℕ) : ℝ) : EReal))
    (i : Fin 256) (j : Fin 256) :
    k0_pay100 v43 v83 v95 v165 v226 (ix2 i j) = ((dm B (i : ℕ) (j : ℕ) 4 : ℝ) : EReal) := by
  unfold k0_pay100 k0_pay98 k0_pay97 k0_pay96 k0_pay95
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv165, hv226, hm, Lift.up, Lift.body]
  refine congrArg _ ?_
  have hl := lanes 128 (fun q => dy B i (256 + q) * xdt B j (256 + q)) 0 (by norm_num)
  have hq : ∀ p : ℕ, 256 + (64 * 0 + p) = 64 * 4 + p := by intro p; omega
  simp only [hq] at hl
  simp only [ite_mul, zero_mul, hl]
  simp only [dm, decay, mul_ite, mul_zero]
  all_goals rfl

theorem pay101 (v43 : IVec S256x256 1) (v83 : FVec Ideal S256x8 .f32) (v95 : FVec Ideal S8x256 .f32) (v165 : FVec Ideal S256x512 .f32) (v226 : FVec Ideal S256x512 .f32) (v409 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv226 : ∀ (i : Fin 256) (j : Fin 512), v226 (ix2 i j) = ((dy B (i : ℕ) (j : ℕ) : ℝ) : EReal))
    (hv409 : ∀ (i : Fin 256) (j : Fin 256), v409 (ix2 i j) = ((dg B 4 (i : ℕ) (j : ℕ) : ℝ) : EReal))
    (i : Fin 256) (j : Fin 256) :
    k0_pay101 v43 v83 v95 v165 v226 v409 (ix2 i j) = ((dg B 5 (i : ℕ) (j : ℕ) : ℝ) : EReal) := by
  unfold k0_pay101
  pointwise
  try simp only [hv43, hv83, hv95, hv165, hv226, hv409, pay100 B v43 v83 v95 v165 v226 hv43 hv83 hv95 hv165 hv226, Lift.up, Lift.body, Lift.words]
  refine congrArg _ ?_
  simp only [dg, Finset.sum_range_succ, Finset.sum_range_zero, zero_add]

theorem pay102 (v43 : IVec S256x256 1) (v83 : FVec Ideal S256x8 .f32) (v95 : FVec Ideal S8x256 .f32) (v165 : FVec Ideal S256x512 .f32) (v168 : FVec Ideal S256x256 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv168 : ∀ (i : Fin 256) (j : Fin 256), v168 (ix2 i j) = ((gm B (i : ℕ) (j : ℕ) : ℝ) : EReal))
    (hv226 : ∀ (i : Fin 256) (j : Fin 512), v226 (ix2 i j) = ((dy B (i : ℕ) (j : ℕ) : ℝ) : EReal))
    (i : Fin 256) (j : Fin 256) :
    k0_pay102 v43 v83 v95 v165 v168 v226 (ix2 i j) = ((dm B (i : ℕ) (j : ℕ) 4 * gm B (i : ℕ) (j : ℕ) : ℝ) : EReal) := by
  unfold k0_pay102
  pointwise
  try simp only [hv43, hv83, hv95, hv165, hv168, hv226, pay100 B v43 v83 v95 v165 v226 hv43 hv83 hv95 hv165 hv226, Lift.up, Lift.body, Lift.words]

theorem pay103 (v50 : FVec Ideal S256x256 .bf16) (v243 : IVec S256x256 32) (v244 : IVec S256x256 32) (v245 : IVec S1x8 32) (v425 : FVec Ideal S256x8 .f32) (v457 : FVec Ideal S256x256 .bf16) (cst_124 : FVec Ideal S256x256 .f32)
    (hv50 : ∀ (i : Fin 256) (j : Fin 256), v50 (ix2 i j) = ((if (i : ℕ) ≤ (j : ℕ) then 1 else 0 : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv245 : ∀ (i : Fin 1) (j : Fin 8), v245 (ix2 i j) = BitVec.ofNat 32 (j : ℕ))
    (hv425 : ∀ (i : Fin 256) (j : Fin 8), v425 (ix2 i j) = ((if (j : ℕ) < 4 then dac B (i : ℕ) (j : ℕ) else 0 : ℝ) : EReal))
    (hv457 : ∀ (i : Fin 256) (j : Fin 256), v457 (ix2 i j) = ((dm B (i : ℕ) (j : ℕ) 4 * gm B (i : ℕ) (j : ℕ) : ℝ) : EReal))
    (hcst_124 : ∀ (i : Fin 256) (j : Fin 256), cst_124 (ix2 i j) = ((0 : ℝ) : EReal))
    (i : Fin 256) (j : Fin 8) :
    k0_pay103 v50 v243 v244 v245 v425 v457 cst_124 (ix2 i j) = ((if (j : ℕ) < 5 then dac B (i : ℕ) (j : ℕ) else 0 : ℝ) : EReal) := by
  unfold k0_pay103
  pointwise
  have he : ∀ q : Fin 8, IntOp.cmpi CmpIPredicate.eq (BitVec.ofNat 32 (q : ℕ)) 4#32
      = BitVec.ofBool (decide ((q : ℕ) = 4)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv50, hv243, hv244, hv245, hv425, hv457, hcst_124, he, hs, Lift.up, Lift.body, Lift.words]
  refine congrArg _ ?_
  by_cases h1 : (j : ℕ) = 4
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 4 with h3 | h3
    · simp only [h1, h3, show (j : ℕ) < 5 by omega, if_true, if_false, mul_zero, add_zero]
    · simp only [h1, show ¬ (j : ℕ) < 4 by omega, show ¬ (j : ℕ) < 5 by omega, if_false, mul_zero, add_zero]

theorem pay106 (v43 : IVec S256x256 1) (v83 : FVec Ideal S256x8 .f32) (v95 : FVec Ideal S8x256 .f32) (v168 : FVec Ideal S256x256 .f32) (v427 : FVec Ideal S256x128 .f32) (v451 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv427 : ∀ (i : Fin 256) (j : Fin 128), v427 (ix2 i j) = ((dy B (i : ℕ) (256 + (j : ℕ)) : ℝ) : EReal))
    (hv451 : ∀ (i : Fin 256) (j : Fin 128), v451 (ix2 i j) = ((if (j : ℕ) / 64 = 0 then dxi B (i : ℕ) (256 + (j : ℕ)) else 0 : ℝ) : EReal))
    (i : Fin 256) (j : Fin 128) :
    k0_pay106 v43 v83 v95 v168 v427 v451 (ix2 i j) = ((dxi B (i : ℕ) (256 + (j : ℕ)) : ℝ) : EReal) := by
  unfold k0_pay106 k0_pay105 k0_pay104
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv427, hv451, hm, Lift.up, Lift.body]
  refine congrArg _ ?_
  by_cases h : (j : ℕ) / 64 = 0
  · simp only [h, if_true, if_false, zero_ne_one, sub_self, zero_mul, mul_zero, Finset.sum_const_zero, add_zero, zero_add, sub_zero, zero_sub, mul_one, one_mul, mul_ite, ite_mul, ite_self]
  · have h1 : (j : ℕ) / 64 = 1 := by omega
    have h2 : (256 + (j : ℕ)) / 64 = 5 := by omega
    simp only [h1, h2, dxi, decay, one_ne_zero, if_true, if_false, sub_self, zero_mul, mul_zero, Finset.sum_const_zero, add_zero, zero_add, sub_zero, zero_sub, mul_one, one_mul, mul_ite, ite_mul, ite_self]
    all_goals rfl
  all_goals rfl

theorem pay107 (v43 : IVec S256x256 1) (v83 : FVec Ideal S256x8 .f32) (v95 : FVec Ideal S8x256 .f32) (v426 : FVec Ideal S256x128 .f32) (v427 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv426 : ∀ (i : Fin 256) (j : Fin 128), v426 (ix2 i j) = ((xdt B (i : ℕ) (256 + (j : ℕ)) : ℝ) : EReal))
    (hv427 : ∀ (i : Fin 256) (j : Fin 128), v427 (ix2 i j) = ((dy B (i : ℕ) (256 + (j : ℕ)) : ℝ) : EReal))
    (i : Fin 256) (j : Fin 256) :
    k0_pay107 v43 v83 v95 v426 v427 (ix2 i j) = ((dm B (i : ℕ) (j : ℕ) 5 : ℝ) : EReal) := by
  unfold k0_pay107 k0_pay105 k0_pay104
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv426, hv427, hm, Lift.up, Lift.body]
  refine congrArg _ ?_
  have hl := lanes 128 (fun q => dy B i (256 + q) * xdt B j (256 + q)) 1 (by norm_num)
  have hq : ∀ p : ℕ, 256 + (64 * 1 + p) = 64 * 5 + p := by intro p; omega
  simp only [hq] at hl
  simp only [ite_mul, zero_mul, hl]
  simp only [dm, decay, mul_ite, mul_zero]
  all_goals rfl

theorem pay108 (v43 : IVec S256x256 1) (v83 : FVec Ideal S256x8 .f32) (v95 : FVec Ideal S8x256 .f32) (v426 : FVec Ideal S256x128 .f32) (v427 : FVec Ideal S256x128 .f32) (v455 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv426 : ∀ (i : Fin 256) (j : Fin 128), v426 (ix2 i j) = ((xdt B (i : ℕ) (256 + (j : ℕ)) : ℝ) : EReal))
    (hv427 : ∀ (i : Fin 256) (j : Fin 128), v427 (ix2 i j) = ((dy B (i : ℕ) (256 + (j : ℕ)) : ℝ) : EReal))
    (hv455 : ∀ (i : Fin 256) (j : Fin 256), v455 (ix2 i j) = ((dg B 5 (i : ℕ) (j : ℕ) : ℝ) : EReal))
    (i : Fin 256) (j : Fin 256) :
    k0_pay108 v43 v83 v95 v426 v427 v455 (ix2 i j) = ((dg B 6 (i : ℕ) (j : ℕ) : ℝ) : EReal) := by
  unfold k0_pay108
  pointwise
  try simp only [hv43, hv83, hv95, hv426, hv427, hv455, pay107 B v43 v83 v95 v426 v427 hv43 hv83 hv95 hv426 hv427, Lift.up, Lift.body, Lift.words]
  refine congrArg _ ?_
  simp only [dg, Finset.sum_range_succ, Finset.sum_range_zero, zero_add]

theorem pay109 (v43 : IVec S256x256 1) (v50 : FVec Ideal S256x256 .bf16) (v83 : FVec Ideal S256x8 .f32) (v95 : FVec Ideal S8x256 .f32) (v168 : FVec Ideal S256x256 .f32) (v426 : FVec Ideal S256x128 .f32) (v427 : FVec Ideal S256x128 .f32)
    (hv43 : ∀ (i : Fin 256) (j : Fin 256), v43 (ix2 i j) = BitVec.ofBool (decide ((j : ℕ) ≤ (i : ℕ))))
    (hv50 : ∀ (i : Fin 256) (j : Fin 256), v50 (ix2 i j) = ((if (i : ℕ) ≤ (j : ℕ) then 1 else 0 : ℝ) : EReal))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv426 : ∀ (i : Fin 256) (j : Fin 128), v426 (ix2 i j) = ((xdt B (i : ℕ) (256 + (j : ℕ)) : ℝ) : EReal))
    (hv427 : ∀ (i : Fin 256) (j : Fin 128), v427 (ix2 i j) = ((dy B (i : ℕ) (256 + (j : ℕ)) : ℝ) : EReal))
    (i : Fin 256) (j : Fin 256) :
    k0_pay109 v43 v50 v83 v95 v168 v426 v427 (ix2 i j) = ((∑ k : Fin 256, (if (i : ℕ) ≤ (k : ℕ) then 1 else 0) * (dm B k (j : ℕ) 5 * gm B k (j : ℕ)) : ℝ) : EReal) := by
  unfold k0_pay109
  pointwise
  try simp only [hv43, hv50, hv83, hv95, hv168, hv426, hv427, pay107 B v43 v83 v95 v426 v427 hv43 hv83 hv95 hv426 hv427, Lift.up, Lift.body, Lift.words]
  try refine congrArg _ ?_
  try simp only [sub_self, zero_mul, mul_zero, Finset.sum_const_zero, add_zero, zero_add, sub_zero, zero_sub, mul_one, one_mul, mul_ite, ite_mul, ite_self]

theorem pay110 (v243 : IVec S256x256 32) (v244 : IVec S256x256 32)
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (i : Fin 256) (j : Fin 256) :
    k0_pay110 v243 v244 (ix2 i j) = BitVec.ofBool (decide ((j : ℕ) < (i : ℕ))) := by
  unfold k0_pay110
  pointwise
  simp only [hv243, hv244, Lift.muli_ofNat]
  exact cmpi_slt_ofNat (by omega) (by omega)

theorem pay111
    (i : Fin 256) (j : Fin 256) :
    k0_pay111 (F := Ideal) (ix2 i j) = ((0 : ℝ) : EReal) := by
  unfold k0_pay111
  pointwise
  try simp only [Lift.up, Lift.body, Lift.words]

theorem pay112 (v245 : IVec S1x8 32) (v471 : FVec Ideal S256x8 .f32) (v503 : FVec Ideal S256x256 .f32) (v504 : IVec S256x256 1) (v505 : FVec Ideal S256x256 .f32)
    (hv245 : ∀ (i : Fin 1) (j : Fin 8), v245 (ix2 i j) = BitVec.ofNat 32 (j : ℕ))
    (hv471 : ∀ (i : Fin 256) (j : Fin 8), v471 (ix2 i j) = ((if (j : ℕ) < 5 then dac B (i : ℕ) (j : ℕ) else 0 : ℝ) : EReal))
    (hv503 : ∀ (i : Fin 256) (j : Fin 256), v503 (ix2 i j) = ((∑ k : Fin 256, (if (i : ℕ) ≤ (k : ℕ) then 1 else 0) * (dm B k (j : ℕ) 5 * gm B k (j : ℕ)) : ℝ) : EReal))
    (hv504 : ∀ (i : Fin 256) (j : Fin 256), v504 (ix2 i j) = BitVec.ofBool (decide ((j : ℕ) < (i : ℕ))))
    (hv505 : ∀ (i : Fin 256) (j : Fin 256), v505 (ix2 i j) = ((0 : ℝ) : EReal))
    (i : Fin 256) (j : Fin 8) :
    k0_pay112 v245 v471 v503 v504 v505 (ix2 i j) = ((if (j : ℕ) < 6 then dac B (i : ℕ) (j : ℕ) else 0 : ℝ) : EReal) := by
  unfold k0_pay112
  pointwise
  have he : ∀ q : Fin 8, IntOp.cmpi CmpIPredicate.eq (BitVec.ofNat 32 (q : ℕ)) 5#32
      = BitVec.ofBool (decide ((q : ℕ) = 5)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv245, hv471, hv503, hv504, hv505, he, hs, Lift.up, Lift.body, Lift.words]
  refine congrArg _ ?_
  by_cases h1 : (j : ℕ) = 5
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 5 with h3 | h3
    · simp only [h1, h3, show (j : ℕ) < 6 by omega, if_true, if_false, mul_zero, add_zero]
    · simp only [h1, show ¬ (j : ℕ) < 5 by omega, show ¬ (j : ℕ) < 6 by omega, if_false, mul_zero, add_zero]

theorem pay113 (v165 : FVec Ideal S256x512 .f32)
    (hv165 : ∀ (i : Fin 256) (j : Fin 512), v165 (ix2 i j) = ((xdt B (i : ℕ) (j : ℕ) : ℝ) : EReal))
    (i : Fin 256) (j : Fin 128) :
    k0_pay113 v165 (ix2 i j) = ((xdt B (i : ℕ) (384 + (j : ℕ)) : ℝ) : EReal) := by
  unfold k0_pay113
  pointwise
  try simp only [hv165, Lift.up, Lift.body, Lift.words]
  try rfl

theorem pay114 (v226 : FVec Ideal S256x512 .f32)
    (hv226 : ∀ (i : Fin 256) (j : Fin 512), v226 (ix2 i j) = ((dy B (i : ℕ) (j : ℕ) : ℝ) : EReal))
    (i : Fin 256) (j : Fin 128) :
    k0_pay114 v226 (ix2 i j) = ((dy B (i : ℕ) (384 + (j : ℕ)) : ℝ) : EReal) := by
  unfold k0_pay114
  pointwise
  try simp only [hv226, Lift.up, Lift.body, Lift.words]
  try rfl

theorem pay117 (v43 : IVec S256x256 1) (v83 : FVec Ideal S256x8 .f32) (v95 : FVec Ideal S8x256 .f32) (v168 : FVec Ideal S256x256 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv226 : ∀ (i : Fin 256) (j : Fin 512), v226 (ix2 i j) = ((dy B (i : ℕ) (j : ℕ) : ℝ) : EReal))
    (i : Fin 256) (j : Fin 128) :
    k0_pay117 v43 v83 v95 v168 v226 (ix2 i j) = ((if (j : ℕ) / 64 = 0 then dxi B (i : ℕ) (384 + (j : ℕ)) else 0 : ℝ) : EReal) := by
  unfold k0_pay117 k0_pay116 k0_pay115 k0_pay114
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv226, hm, Lift.up, Lift.body]
  refine congrArg _ ?_
  by_cases h : (j : ℕ) / 64 = 0
  · have h2 : (384 + (j : ℕ)) / 64 = 6 := by omega
    simp only [h, h2, dxi, decay, if_true, sub_self, zero_mul, mul_zero, Finset.sum_const_zero, add_zero, zero_add, sub_zero, zero_sub, mul_one, one_mul, mul_ite, ite_mul, ite_self]
    all_goals rfl
  · simp only [h, if_false, sub_self, zero_mul, mul_zero, Finset.sum_const_zero, add_zero, zero_add, sub_zero, zero_sub, mul_one, one_mul, mul_ite, ite_mul, ite_self]
  all_goals rfl

theorem pay118 (v43 : IVec S256x256 1) (v83 : FVec Ideal S256x8 .f32) (v95 : FVec Ideal S8x256 .f32) (v165 : FVec Ideal S256x512 .f32) (v226 : FVec Ideal S256x512 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv226 : ∀ (i : Fin 256) (j : Fin 512), v226 (ix2 i j) = ((dy B (i : ℕ) (j : ℕ) : ℝ) : EReal))
    (i : Fin 256) (j : Fin 256) :
    k0_pay118 v43 v83 v95 v165 v226 (ix2 i j) = ((dm B (i : ℕ) (j : ℕ) 6 : ℝ) : EReal) := by
  unfold k0_pay118 k0_pay116 k0_pay115 k0_pay114 k0_pay113
  pointwise
  have hm : ∀ q : Fin 128, IntOp.andi (IntOp.cmpi CmpIPredicate.sge (BitVec.ofNat 32 (q : ℕ)) 0#32)
      (IntOp.cmpi CmpIPredicate.slt (BitVec.ofNat 32 (q : ℕ)) 64#32) = BitVec.ofBool (decide ((q : ℕ) / 64 = 0)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv165, hv226, hm, Lift.up, Lift.body]
  refine congrArg _ ?_
  have hl := lanes 128 (fun q => dy B i (384 + q) * xdt B j (384 + q)) 0 (by norm_num)
  have hq : ∀ p : ℕ, 384 + (64 * 0 + p) = 64 * 6 + p := by intro p; omega
  simp only [hq] at hl
  simp only [ite_mul, zero_mul, hl]
  simp only [dm, decay, mul_ite, mul_zero]
  all_goals rfl

theorem pay119 (v43 : IVec S256x256 1) (v83 : FVec Ideal S256x8 .f32) (v95 : FVec Ideal S8x256 .f32) (v165 : FVec Ideal S256x512 .f32) (v226 : FVec Ideal S256x512 .f32) (v500 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv226 : ∀ (i : Fin 256) (j : Fin 512), v226 (ix2 i j) = ((dy B (i : ℕ) (j : ℕ) : ℝ) : EReal))
    (hv500 : ∀ (i : Fin 256) (j : Fin 256), v500 (ix2 i j) = ((dg B 6 (i : ℕ) (j : ℕ) : ℝ) : EReal))
    (i : Fin 256) (j : Fin 256) :
    k0_pay119 v43 v83 v95 v165 v226 v500 (ix2 i j) = ((dg B 7 (i : ℕ) (j : ℕ) : ℝ) : EReal) := by
  unfold k0_pay119
  pointwise
  try simp only [hv43, hv83, hv95, hv165, hv226, hv500, pay118 B v43 v83 v95 v165 v226 hv43 hv83 hv95 hv165 hv226, Lift.up, Lift.body, Lift.words]
  refine congrArg _ ?_
  simp only [dg, Finset.sum_range_succ, Finset.sum_range_zero, zero_add]

theorem pay120 (v43 : IVec S256x256 1) (v50 : FVec Ideal S256x256 .bf16) (v83 : FVec Ideal S256x8 .f32) (v95 : FVec Ideal S8x256 .f32) (v165 : FVec Ideal S256x512 .f32) (v168 : FVec Ideal S256x256 .f32) (v226 : FVec Ideal S256x512 .f32) (v243 : IVec S256x256 32) (v244 : IVec S256x256 32)
    (hv43 : ∀ (i : Fin 256) (j : Fin 256), v43 (ix2 i j) = BitVec.ofBool (decide ((j : ℕ) ≤ (i : ℕ))))
    (hv50 : ∀ (i : Fin 256) (j : Fin 256), v50 (ix2 i j) = ((if (i : ℕ) ≤ (j : ℕ) then 1 else 0 : ℝ) : EReal))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv165 : ∀ (i : Fin 256) (j : Fin 512), v165 (ix2 i j) = ((xdt B (i : ℕ) (j : ℕ) : ℝ) : EReal))
    (hv168 : ∀ (i : Fin 256) (j : Fin 256), v168 (ix2 i j) = ((gm B (i : ℕ) (j : ℕ) : ℝ) : EReal))
    (hv226 : ∀ (i : Fin 256) (j : Fin 512), v226 (ix2 i j) = ((dy B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (i : Fin 256) :
    k0_pay120 v43 v50 v83 v95 v165 v168 v226 v243 v244 (ix1 i) = ((dac B (i : ℕ) 6 : ℝ) : EReal) := by
  unfold k0_pay120
  pointwise
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv43, hv50, hv83, hv95, hv165, hv168, hv226, hv243, hv244, pay118 B v43 v83 v95 v165 v226 hv43 hv83 hv95 hv165 hv226, hs, Lift.up, Lift.body, Lift.words]
  refine congrArg _ ?_
  simp only [dac, sub_self, zero_mul, mul_zero, Finset.sum_const_zero, add_zero, zero_add, sub_zero, zero_sub, mul_one, one_mul, mul_ite, ite_mul, ite_self]

theorem pay121 (v245 : IVec S1x8 32) (v516 : FVec Ideal S256x8 .f32) (v553 : FVec Ideal S256 .f32)
    (hv245 : ∀ (i : Fin 1) (j : Fin 8), v245 (ix2 i j) = BitVec.ofNat 32 (j : ℕ))
    (hv516 : ∀ (i : Fin 256) (j : Fin 8), v516 (ix2 i j) = ((if (j : ℕ) < 6 then dac B (i : ℕ) (j : ℕ) else 0 : ℝ) : EReal))
    (hv553 : ∀ (i : Fin 256), v553 (ix1 i) = ((dac B (i : ℕ) 6 : ℝ) : EReal))
    (i : Fin 256) (j : Fin 8) :
    k0_pay121 v245 v516 v553 (ix2 i j) = ((if (j : ℕ) < 7 then dac B (i : ℕ) (j : ℕ) else 0 : ℝ) : EReal) := by
  unfold k0_pay121
  pointwise
  have he : ∀ q : Fin 8, IntOp.cmpi CmpIPredicate.eq (BitVec.ofNat 32 (q : ℕ)) 6#32
      = BitVec.ofBool (decide ((q : ℕ) = 6)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv245, hv516, hv553, he, hs, Lift.up, Lift.body, Lift.words]
  refine congrArg _ ?_
  by_cases h1 : (j : ℕ) = 6
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 6 with h3 | h3
    · simp only [h1, h3, show (j : ℕ) < 7 by omega, if_true, if_false, mul_zero, add_zero]
    · simp only [h1, show ¬ (j : ℕ) < 6 by omega, show ¬ (j : ℕ) < 7 by omega, if_false, mul_zero, add_zero]

theorem pay124 (v43 : IVec S256x256 1) (v83 : FVec Ideal S256x8 .f32) (v95 : FVec Ideal S8x256 .f32) (v168 : FVec Ideal S256x256 .f32) (v518 : FVec Ideal S256x128 .f32) (v542 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv518 : ∀ (i : Fin 256) (j : Fin 128), v518 (ix2 i j) = ((dy B (i : ℕ) (384 + (j : ℕ)) : ℝ) : EReal))
    (hv542 : ∀ (i : Fin 256) (j : Fin 128), v542 (ix2 i j) = ((if (j : ℕ) / 64 = 0 then dxi B (i : ℕ) (384 + (j : ℕ)) else 0 : ℝ) : EReal))
    (i : Fin 256) (j : Fin 128) :
    k0_pay124 v43 v83 v95 v168 v518 v542 (ix2 i j) = ((dxi B (i : ℕ) (384 + (j : ℕ)) : ℝ) : EReal) := by
  unfold k0_pay124 k0_pay123 k0_pay122
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv168, hv518, hv542, hm, Lift.up, Lift.body]
  refine congrArg _ ?_
  by_cases h : (j : ℕ) / 64 = 0
  · simp only [h, if_true, if_false, zero_ne_one, sub_self, zero_mul, mul_zero, Finset.sum_const_zero, add_zero, zero_add, sub_zero, zero_sub, mul_one, one_mul, mul_ite, ite_mul, ite_self]
  · have h1 : (j : ℕ) / 64 = 1 := by omega
    have h2 : (384 + (j : ℕ)) / 64 = 7 := by omega
    simp only [h1, h2, dxi, decay, one_ne_zero, if_true, if_false, sub_self, zero_mul, mul_zero, Finset.sum_const_zero, add_zero, zero_add, sub_zero, zero_sub, mul_one, one_mul, mul_ite, ite_mul, ite_self]
    all_goals rfl
  all_goals rfl

theorem pay125 (v43 : IVec S256x256 1) (v83 : FVec Ideal S256x8 .f32) (v95 : FVec Ideal S8x256 .f32) (v517 : FVec Ideal S256x128 .f32) (v518 : FVec Ideal S256x128 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv517 : ∀ (i : Fin 256) (j : Fin 128), v517 (ix2 i j) = ((xdt B (i : ℕ) (384 + (j : ℕ)) : ℝ) : EReal))
    (hv518 : ∀ (i : Fin 256) (j : Fin 128), v518 (ix2 i j) = ((dy B (i : ℕ) (384 + (j : ℕ)) : ℝ) : EReal))
    (i : Fin 256) (j : Fin 256) :
    k0_pay125 v43 v83 v95 v517 v518 (ix2 i j) = ((dm B (i : ℕ) (j : ℕ) 7 : ℝ) : EReal) := by
  unfold k0_pay125 k0_pay123 k0_pay122
  pointwise
  have hm : ∀ q : Fin 128, IntOp.andi (IntOp.cmpi CmpIPredicate.sge (BitVec.ofNat 32 (q : ℕ)) 64#32)
      (IntOp.cmpi CmpIPredicate.slt (BitVec.ofNat 32 (q : ℕ)) 128#32) = BitVec.ofBool (decide ((q : ℕ) / 64 = 1)) := by
    intro q
    rw [cmpi_sge_ofNat (by omega) (by omega), cmpi_slt_ofNat (by omega) (by omega), Lift.andi_bool, ← Bool.decide_and]
    refine congrArg _ (decide_eq_decide.mpr ?_)
    omega
  simp only [hv43, hv83, hv95, hv517, hv518, hm, Lift.up, Lift.body]
  refine congrArg _ ?_
  have hl := lanes 128 (fun q => dy B i (384 + q) * xdt B j (384 + q)) 1 (by norm_num)
  have hq : ∀ p : ℕ, 384 + (64 * 1 + p) = 64 * 7 + p := by intro p; omega
  simp only [hq] at hl
  simp only [ite_mul, zero_mul, hl]
  simp only [dm, decay, mul_ite, mul_zero]
  all_goals rfl

theorem pay126 (v43 : IVec S256x256 1) (v83 : FVec Ideal S256x8 .f32) (v95 : FVec Ideal S8x256 .f32) (v517 : FVec Ideal S256x128 .f32) (v518 : FVec Ideal S256x128 .f32) (v546 : FVec Ideal S256x256 .f32)
    (hv43 : ∀ (i : Fin 256) (j : Fin 256), v43 (ix2 i j) = BitVec.ofBool (decide ((j : ℕ) ≤ (i : ℕ))))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv517 : ∀ (i : Fin 256) (j : Fin 128), v517 (ix2 i j) = ((xdt B (i : ℕ) (384 + (j : ℕ)) : ℝ) : EReal))
    (hv518 : ∀ (i : Fin 256) (j : Fin 128), v518 (ix2 i j) = ((dy B (i : ℕ) (384 + (j : ℕ)) : ℝ) : EReal))
    (hv546 : ∀ (i : Fin 256) (j : Fin 256), v546 (ix2 i j) = ((dg B 7 (i : ℕ) (j : ℕ) : ℝ) : EReal))
    (i : Fin 256) (j : Fin 256) :
    k0_pay126 v43 v83 v95 v517 v518 v546 (ix2 i j) = ((dg B 8 (i : ℕ) (j : ℕ) : ℝ) : EReal) := by
  unfold k0_pay126
  pointwise
  try simp only [hv43, hv83, hv95, hv517, hv518, hv546, pay125 B v43 v83 v95 v517 v518 hv43 hv83 hv95 hv517 hv518, Lift.up, Lift.body, Lift.words]
  refine congrArg _ ?_
  simp only [dg, Finset.sum_range_succ, Finset.sum_range_zero, zero_add]

theorem pay127 (v43 : IVec S256x256 1) (v50 : FVec Ideal S256x256 .bf16) (v83 : FVec Ideal S256x8 .f32) (v95 : FVec Ideal S8x256 .f32) (v168 : FVec Ideal S256x256 .f32) (v243 : IVec S256x256 32) (v244 : IVec S256x256 32) (v517 : FVec Ideal S256x128 .f32) (v518 : FVec Ideal S256x128 .f32)
    (hv43 : ∀ (i : Fin 256) (j : Fin 256), v43 (ix2 i j) = BitVec.ofBool (decide ((j : ℕ) ≤ (i : ℕ))))
    (hv50 : ∀ (i : Fin 256) (j : Fin 256), v50 (ix2 i j) = ((if (i : ℕ) ≤ (j : ℕ) then 1 else 0 : ℝ) : EReal))
    (hv83 : ∀ (i : Fin 256) (j : Fin 8), v83 (ix2 i j) = ((cs B (i : ℕ) (j : ℕ) : ℝ) : EReal))
    (hv95 : ∀ (i : Fin 8) (j : Fin 256), v95 (ix2 i j) = ((cs B (j : ℕ) (i : ℕ) : ℝ) : EReal))
    (hv168 : ∀ (i : Fin 256) (j : Fin 256), v168 (ix2 i j) = ((gm B (i : ℕ) (j : ℕ) : ℝ) : EReal))
    (hv243 : ∀ (i : Fin 256) (j : Fin 256), v243 (ix2 i j) = BitVec.ofNat 32 (i : ℕ))
    (hv244 : ∀ (i : Fin 256) (j : Fin 256), v244 (ix2 i j) = BitVec.ofNat 32 (j : ℕ))
    (hv517 : ∀ (i : Fin 256) (j : Fin 128), v517 (ix2 i j) = ((xdt B (i : ℕ) (384 + (j : ℕ)) : ℝ) : EReal))
    (hv518 : ∀ (i : Fin 256) (j : Fin 128), v518 (ix2 i j) = ((dy B (i : ℕ) (384 + (j : ℕ)) : ℝ) : EReal))
    (i : Fin 256) (j : Fin 1) :
    k0_pay127 v43 v50 v83 v95 v168 v243 v244 v517 v518 (ix2 i j) = ((dac B (i : ℕ) 7 : ℝ) : EReal) := by
  unfold k0_pay127
  pointwise
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv43, hv50, hv83, hv95, hv168, hv243, hv244, hv517, hv518, pay125 B v43 v83 v95 v517 v518 hv43 hv83 hv95 hv517 hv518, hs, Lift.up, Lift.body, Lift.words]
  refine congrArg _ ?_
  simp only [dac, sub_self, zero_mul, mul_zero, Finset.sum_const_zero, add_zero, zero_add, sub_zero, zero_sub, mul_one, one_mul, mul_ite, ite_mul, ite_self]

theorem pay128 (v245 : IVec S1x8 32)
    (hv245 : ∀ (i : Fin 1) (j : Fin 8), v245 (ix2 i j) = BitVec.ofNat 32 (j : ℕ))
    (i : Fin 1) (j : Fin 8) :
    k0_pay128 v245 (ix2 i j) = BitVec.ofBool (decide ((j : ℕ) = 7)) := by
  unfold k0_pay128
  pointwise
  simp only [hv245, Lift.muli_ofNat]
  exact cmpi_eq_ofNat (by omega) (by omega)

theorem pay129 (v562 : FVec Ideal S256x8 .f32) (v599 : FVec Ideal S256x1 .f32) (v601 : IVec S1x8 1)
    (hv562 : ∀ (i : Fin 256) (j : Fin 8), v562 (ix2 i j) = ((if (j : ℕ) < 7 then dac B (i : ℕ) (j : ℕ) else 0 : ℝ) : EReal))
    (hv599 : ∀ (i : Fin 256) (j : Fin 1), v599 (ix2 i j) = ((dac B (i : ℕ) 7 : ℝ) : EReal))
    (hv601 : ∀ (i : Fin 1) (j : Fin 8), v601 (ix2 i j) = BitVec.ofBool (decide ((j : ℕ) = 7)))
    (i : Fin 256) (j : Fin 8) :
    k0_pay129 v562 v599 v601 (ix2 i j) = ((if (j : ℕ) < 8 then dac B (i : ℕ) (j : ℕ) else 0 : ℝ) : EReal) := by
  unfold k0_pay129
  pointwise
  have he : ∀ q : Fin 8, IntOp.cmpi CmpIPredicate.eq (BitVec.ofNat 32 (q : ℕ)) 7#32
      = BitVec.ofBool (decide ((q : ℕ) = 7)) := fun q => cmpi_eq_ofNat (by omega) (by omega)
  have hs : ∀ q r : Fin 256, IntOp.cmpi CmpIPredicate.slt (BitVec.ofNat 32 (q : ℕ)) (BitVec.ofNat 32 (r : ℕ))
      = BitVec.ofBool (decide ((q : ℕ) < r)) := fun q r => cmpi_slt_ofNat (by omega) (by omega)
  simp only [hv562, hv599, hv601, he, hs, Lift.up, Lift.body, Lift.words]
  refine congrArg _ ?_
  by_cases h1 : (j : ℕ) = 7
  · simp only [h1, dac, if_true, sub_self, zero_mul, mul_zero, Finset.sum_const_zero, add_zero, zero_add, sub_zero, zero_sub, mul_one, one_mul, mul_ite, ite_mul, ite_self]
    try simp only [lt_irrefl, if_false, zero_add, Nat.lt_succ_self, if_true, Nat.reduceLT]
  · rcases Nat.lt_or_ge (j : ℕ) 7 with h3 | h3
    · simp only [h1, h3, show (j : ℕ) < 8 by omega, if_true, if_false, mul_zero, add_zero]
    · exfalso; omega

end Cert.KernelIdeal.Body
-- ==== Proof.ChainVal.lean ====
module

public import proofs.«01_k».proof.Proof.Chain
public import proofs.«01_k».proof.Proof.BodyA
public import proofs.«01_k».proof.Proof.BodyB

/-! The intermediate vectors of a grid step over the reals. -/

@[expose] public section
set_option maxRecDepth 65536
noncomputable section
namespace Cert.KernelIdeal.Body
open Cert.KernelIdeal Cert.KernelIdeal.Gen Idealize.ShloMosaic Idealize.ShloMosaic.TcCoe Blk

/-- The vectors a grid step reads are the real arrays `B`. -/
structure Reads (B : In) (X : Raw) : Prop where
  hrow : B.row = 256 * (32 - (X.i 1).val)
  hx0 : ∀ (i : Fin 256) (j : Fin 512), X.x0 (ix2 i j) = ((B.x (i : ℕ) (j : ℕ) : ℝ) : EReal)
  hx1 : ∀ (i : Fin 256) (j : Fin 128), X.x1 (ix2 i j) = ((B.b (i : ℕ) (j : ℕ) : ℝ) : EReal)
  hx2 : ∀ (i : Fin 256) (j : Fin 128), X.x2 (ix2 i j) = ((B.c (i : ℕ) (j : ℕ) : ℝ) : EReal)
  hx3 : ∀ (i : Fin 256) (j : Fin 512), X.x3 (ix2 i j) = ((B.z (i : ℕ) (j : ℕ) : ℝ) : EReal)
  hx7 : ∀ (i : Fin 256) (j : Fin 512), X.x7 (ix2 i j) = ((B.y (i : ℕ) (j : ℕ) : ℝ) : EReal)
  hx9 : ∀ (i : Fin 256) (j : Fin 512), X.x9 (ix2 i j) = ((B.ct (i : ℕ) (j : ℕ) : ℝ) : EReal)
  hs : ∀ (i : Fin 128) (j : Fin 512), X.s (ix2 i j) = ((B.ds (i : ℕ) (j : ℕ) : ℝ) : EReal)
  hx4 : ∀ (i : Fin 1) (j : Fin 256) (k : Fin 8), X.x4 (ix3 i j k) = ((B.dtr (j : ℕ) (k : ℕ) : ℝ) : EReal)
  hx5 : ∀ (i : Fin 1) (k : Fin 8), X.x5 (ix3 i (0 : Fin 8) k) = ((B.bias (k : ℕ) : ℝ) : EReal) ∧
    X.x5 (ix3 i (1 : Fin 8) k) = ((B.alog (k : ℕ) : ℝ) : EReal) ∧ X.x5 (ix3 i (2 : Fin 8) k) = ((B.dsk (k : ℕ) : ℝ) : EReal)
  hx6 : ∀ (i : Fin 1) (j : Fin 512), X.x6 (ix2 i j) = ((B.gate (j : ℕ) : ℝ) : EReal)
  hx8 : ∀ (i : Fin 1) (j : Fin 1) (k : Fin 128) (l : Fin 512), X.x8 (ix4 i j k l) = ((B.st (k : ℕ) (l : ℕ) : ℝ) : EReal)

variable (B : In) (X : Raw) (h : Reads B X)
include h

theorem r21 : ∀ (i : Fin 1) (j : Fin 1) (k : Fin 8), w21 X (ix3 i j k) = ((B.bias (k : ℕ) : ℝ) : EReal) := by
  intro i j k
  have e : w21 X (ix3 i j k) = X.x5 (ix3 i (0 : Fin 8) k) := by
    unfold w21
    refine congrArg X.x5 (funext fun a => Fin.ext ?_)
    fin_cases i; fin_cases j
    fin_cases a <;> simp [Rect.unit, LoadRect.idx]
  rw [e]
  exact (h.hx5 i k).1
theorem r23 : ∀ (i : Fin 1) (j : Fin 1) (k : Fin 8), w23 X (ix3 i j k) = ((B.alog (k : ℕ) : ℝ) : EReal) := by
  intro i j k
  have e : w23 X (ix3 i j k) = X.x5 (ix3 i (1 : Fin 8) k) := by
    unfold w23
    refine congrArg X.x5 (funext fun a => Fin.ext ?_)
    fin_cases i; fin_cases j
    fin_cases a <;> simp [Rect.unit, LoadRect.idx]
  rw [e]
  exact (h.hx5 i k).2.1
theorem r25 : ∀ (i : Fin 1) (j : Fin 1) (k : Fin 8), w25 X (ix3 i j k) = ((B.dsk (k : ℕ) : ℝ) : EReal) := by
  intro i j k
  have e : w25 X (ix3 i j k) = X.x5 (ix3 i (2 : Fin 8) k) := by
    unfold w25
    refine congrArg X.x5 (funext fun a => Fin.ext ?_)
    fin_cases i; fin_cases j
    fin_cases a <;> simp [Rect.unit, LoadRect.idx]
  rw [e]
  exact (h.hx5 i k).2.2
omit h in
theorem r27 : ∀ (i : Fin 8) (j : Fin 512), (iota .tc S8x512 32 [1] iota_S8x512_d1_w32) (ix2 i j) = BitVec.ofNat 32 (j : ℕ) := by
  intro i j
  pointwise
omit h in
theorem r169 : ∀ (i : Fin 512) (j : Fin 8), (iota .tc S512x8 32 [0] iota_S512x8_d0_w32) (ix2 i j) = BitVec.ofNat 32 (i : ℕ) := by
  intro i j
  pointwise
omit h in
theorem r170 : ∀ (i : Fin 512) (j : Fin 8), (iota .tc S512x8 32 [1] iota_S512x8_d1_w32) (ix2 i j) = BitVec.ofNat 32 (j : ℕ) := by
  intro i j
  pointwise
omit h in
theorem r243 : ∀ (i : Fin 256) (j : Fin 256), (iota .tc S256x256 32 [0] iota_S256x256_d0_w32) (ix2 i j) = BitVec.ofNat 32 (i : ℕ) := by
  intro i j
  pointwise
omit h in
theorem r244 : ∀ (i : Fin 256) (j : Fin 256), (iota .tc S256x256 32 [1] iota_S256x256_d1_w32) (ix2 i j) = BitVec.ofNat 32 (j : ℕ) := by
  intro i j
  pointwise
omit h in
theorem r245 : ∀ (i : Fin 1) (j : Fin 8), (iota .tc S1x8 32 [1] iota_S1x8_d1_w32) (ix2 i j) = BitVec.ofNat 32 (j : ℕ) := by
  intro i j
  pointwise
omit h in
theorem r_cst_27 : ∀ (i : Fin 256) (j : Fin 8), (constant S256x8 .f32 0x00000000#32 : FVec Ideal S256x8 .f32) (ix2 i j) = ((0 : ℝ) : EReal) := by
  intro i j
  pointwise
  rfl
omit h in
theorem r_cst_91 : ∀ (i : Fin 256) (j : Fin 128), (constant S256x128 .f32 0x00000000#32 : FVec Ideal S256x128 .f32) (ix2 i j) = ((0 : ℝ) : EReal) := by
  intro i j
  pointwise
  rfl
omit h in
theorem r_cst_124 : ∀ (i : Fin 256) (j : Fin 256), (constant S256x256 .f32 0x00000000#32 : FVec Ideal S256x256 .f32) (ix2 i j) = ((0 : ℝ) : EReal) := by
  intro i j
  pointwise
  rfl
theorem r6 : ∀ (i : Fin 128) (j : Fin 512), w6 X (ix2 i j) = ((B.st (i : ℕ) (j : ℕ) : ℝ) : EReal) :=
  pay6 B _ h.hx8
theorem r8 : ∀ (i : Fin 256) (j : Fin 512), w8 X (ix2 i j) = ((B.x (i : ℕ) (j : ℕ) : ℝ) : EReal) :=
  pay7 B _ h.hx0
theorem r10 : ∀ (i : Fin 256) (j : Fin 128), w10 X (ix2 i j) = ((B.b (i : ℕ) (j : ℕ) : ℝ) : EReal) :=
  pay8 B _ h.hx1
theorem r12 : ∀ (i : Fin 256) (j : Fin 128), w12 X (ix2 i j) = ((B.c (i : ℕ) (j : ℕ) : ℝ) : EReal) :=
  pay9 B _ h.hx2
theorem r18 : ∀ (r : Fin 256) (j : Fin 1), w18 X (ix2 r j) = BitVec.ofBool (decide (240 ≤ B.row + (r : ℕ))) :=
  pay10 B _ h.hrow
theorem r20 : ∀ (i : Fin 256) (j : Fin 8), w20 X (ix2 i j) = ((B.dtr (i : ℕ) (j : ℕ) : ℝ) : EReal) :=
  pay11 B _ h.hx4
theorem r22 : ∀ (i : Fin 1) (j : Fin 8), w22 X (ix2 i j) = ((B.bias (j : ℕ) : ℝ) : EReal) :=
  pay12 B _ (r21 B X h)
theorem r24 : ∀ (i : Fin 1) (j : Fin 8), w24 X (ix2 i j) = ((B.alog (j : ℕ) : ℝ) : EReal) :=
  pay13 B _ (r23 B X h)
theorem r26 : ∀ (i : Fin 1) (j : Fin 8), w26 X (ix2 i j) = ((B.dsk (j : ℕ) : ℝ) : EReal) :=
  pay14 B _ (r25 B X h)
theorem r40 : ∀ (i : Fin 8) (j : Fin 512), w40 (ix2 i j) = ((if (j : ℕ) / 64 = (i : ℕ) then 1 else 0 : ℝ) : EReal) :=
  pay15 _ r27
theorem r43 : ∀ (i : Fin 256) (j : Fin 256), w43 (ix2 i j) = BitVec.ofBool (decide ((j : ℕ) ≤ (i : ℕ))) :=
  pay16
theorem r46 : ∀ (i : Fin 256) (j : Fin 256), w46 (ix2 i j) = ((if (j : ℕ) ≤ (i : ℕ) then 1 else 0 : ℝ) : EReal) :=
  pay17
theorem r50 : ∀ (i : Fin 256) (j : Fin 256), w50 (ix2 i j) = ((if (i : ℕ) ≤ (j : ℕ) then 1 else 0 : ℝ) : EReal) :=
  pay18
theorem r52 : ∀ (i : Fin 256) (j : Fin 8), w52 X (ix2 i j) = ((pre B (i : ℕ) (j : ℕ) : ℝ) : EReal) :=
  pay19 B _ _ (r20 B X h) (r22 B X h)
theorem r66 : ∀ (i : Fin 256) (j : Fin 8), w66 X (ix2 i j) = ((dt B (i : ℕ) (j : ℕ) : ℝ) : EReal) :=
  pay20 B _ _ _ (r18 B X h) (r20 B X h) (r22 B X h)
theorem r69 : ∀ (i : Fin 1) (j : Fin 8), w69 X (ix2 i j) = ((a B (j : ℕ) : ℝ) : EReal) :=
  pay21 B _ (r24 B X h)
theorem r71 : ∀ (i : Fin 256) (j : Fin 8), w71 X (ix2 i j) = ((dt B (i : ℕ) (j : ℕ) * a B (j : ℕ) : ℝ) : EReal) :=
  pay22 B _ _ _ _ (r18 B X h) (r20 B X h) (r22 B X h) (r24 B X h)
theorem r72 : ∀ (i : Fin 256) (j : Fin 8), w72 X (ix2 i j) = ((dt B (i : ℕ) (j : ℕ) * a B (j : ℕ) : ℝ) : EReal) :=
  pay23 B _ _ _ _ (r18 B X h) (r20 B X h) (r22 B X h) (r24 B X h)
theorem r75 : ∀ (i : Fin 256) (j : Fin 8), w75 X (ix2 i j) = ((0 : ℝ) : EReal) :=
  pay25 B _ _ _ _ (r18 B X h) (r20 B X h) (r22 B X h) (r24 B X h)
theorem r78 : ∀ (i : Fin 256) (j : Fin 8), w78 X (ix2 i j) = ((0 : ℝ) : EReal) :=
  pay26 B _ _ _ _ (r18 B X h) (r20 B X h) (r22 B X h) (r24 B X h)
theorem r83 : ∀ (i : Fin 256) (j : Fin 8), w83 X (ix2 i j) = ((cs B (i : ℕ) (j : ℕ) : ℝ) : EReal) :=
  pay27 B _ _ _ _ _ (r46 B X h) (r72 B X h) (r75 B X h) (r78 B X h) r_cst_27
theorem r95 : ∀ (i : Fin 8) (j : Fin 256), w95 X (ix2 i j) = ((cs B (j : ℕ) (i : ℕ) : ℝ) : EReal) :=
  pay28 B _ _ (r50 B X h) (r71 B X h)
theorem r102 : ∀ (i : Fin 256) (j : Fin 8), w102 X (ix2 i j) = ((dte B (i : ℕ) (j : ℕ) : ℝ) : EReal) :=
  pay30 B _ _ _ _ _ _ (r46 B X h) (r71 B X h) (r72 B X h) (r75 B X h) (r78 B X h) r_cst_27
theorem r104 : ∀ (i : Fin 1) (j : Fin 8), w104 X (ix2 i j) = ((dec B (j : ℕ) : ℝ) : EReal) :=
  pay32 B _ (r71 B X h)
theorem r116 : ∀ (i : Fin 256) (j : Fin 512), w116 X (ix2 i j) = ((dt B (i : ℕ) ((j : ℕ) / 64) : ℝ) : EReal) :=
  pay33 B _ _ (r40 B X h) (r66 B X h)
theorem r123 : ∀ (i : Fin 256) (j : Fin 8), w123 X (ix2 i j) = ((0 : ℝ) : EReal) :=
  pay37 B _ _ _ _ _ (r46 B X h) (r72 B X h) (r75 B X h) (r78 B X h) r_cst_27
theorem r126 : ∀ (i : Fin 256) (j : Fin 512), w126 X (ix2 i j) = ((ecs B (i : ℕ) ((j : ℕ) / 64) : ℝ) : EReal) :=
  pay38 B _ _ _ _ _ _ (r40 B X h) (r46 B X h) (r72 B X h) (r75 B X h) (r78 B X h) r_cst_27
theorem r128 : ∀ (i : Fin 256) (j : Fin 512), w128 X (ix2 i j) = ((ecs B (i : ℕ) ((j : ℕ) / 64) : ℝ) : EReal) :=
  pay39 B _ _ _ (r40 B X h) (r123 B X h) (r126 B X h)
theorem r140 : ∀ (i : Fin 256) (j : Fin 512), w140 X (ix2 i j) = ((dte B (i : ℕ) ((j : ℕ) / 64) : ℝ) : EReal) :=
  pay40 B _ _ (r40 B X h) (r102 B X h)
theorem r152 : ∀ (i : Fin 1) (j : Fin 512), w152 X (ix2 i j) = ((dec B ((j : ℕ) / 64) : ℝ) : EReal) :=
  pay41 B _ _ (r40 B X h) (r104 B X h)
theorem r164 : ∀ (i : Fin 1) (j : Fin 512), w164 X (ix2 i j) = ((B.dsk ((j : ℕ) / 64) : ℝ) : EReal) :=
  pay42 B _ _ (r26 B X h) (r40 B X h)
theorem r165 : ∀ (i : Fin 256) (j : Fin 512), w165 X (ix2 i j) = ((xdt B (i : ℕ) (j : ℕ) : ℝ) : EReal) :=
  pay43 B _ _ (r8 B X h) (r116 B X h)
theorem r168 : ∀ (i : Fin 256) (j : Fin 256), w168 X (ix2 i j) = ((gm B (i : ℕ) (j : ℕ) : ℝ) : EReal) :=
  pay44 B _ _ (r10 B X h) (r12 B X h)
theorem r173 : ∀ (i : Fin 512) (j : Fin 8), w173 (ix2 i j) = BitVec.ofBool (decide (64 * (j : ℕ) ≤ (i : ℕ))) :=
  pay45
theorem r182 : ∀ (i : Fin 512) (j : Fin 8), w182 (ix2 i j) = ((if (i : ℕ) / 64 = (j : ℕ) then 1 else 0 : ℝ) : EReal) :=
  pay46 _ _ _ _ rfl r169 r170 (r173 B X h)
theorem r184 : ∀ (i : Fin 256) (j : Fin 512), w184 X (ix2 i j) = ((B.y (i : ℕ) (j : ℕ) : ℝ) : EReal) :=
  pay47 B _ h.hx7
theorem r186 : ∀ (i : Fin 256) (j : Fin 512), w186 X (ix2 i j) = ((B.z (i : ℕ) (j : ℕ) : ℝ) : EReal) :=
  pay48 B _ h.hx3
theorem r193 : ∀ (i : Fin 256) (j : Fin 512), w193 X (ix2 i j) = ((Lift.sg (B.z (i : ℕ) (j : ℕ)) : ℝ) : EReal) :=
  pay49 B _ h.hx3
theorem r194 : ∀ (i : Fin 256) (j : Fin 512), w194 X (ix2 i j) = ((silu B (i : ℕ) (j : ℕ) : ℝ) : EReal) :=
  pay50 B _ h.hx3
theorem r203 : ∀ (i : Fin 256) (j : Fin 1), w203 X (ix2 i j) = ((rs B (i : ℕ) : ℝ) : EReal) :=
  pay52 B _ _ h.hx7 h.hx3
theorem r205 : ∀ (i : Fin 256) (j : Fin 512), w205 X (ix2 i j) = ((hhat B (i : ℕ) (j : ℕ) : ℝ) : EReal) :=
  pay53 B _ _ h.hx7 h.hx3
theorem r211 : ∀ (i : Fin 1) (j : Fin 512), w211 X (ix2 i j) = ((dgg B (j : ℕ) : ℝ) : EReal) :=
  pay55 B _ _ _ h.hx7 h.hx3 h.hx9
theorem r215 : ∀ (i : Fin 256) (j : Fin 512), w215 X (ix2 i j) = ((dhh B (i : ℕ) (j : ℕ) : ℝ) : EReal) :=
  pay56 B _ _ h.hx9 h.hx6
theorem r216 : ∀ (i : Fin 256) (j : Fin 512), w216 X (ix2 i j) = ((dhh B (i : ℕ) (j : ℕ) * hhat B (i : ℕ) (j : ℕ) : ℝ) : EReal) :=
  pay57 B _ _ _ _ h.hx7 h.hx3 h.hx9 h.hx6
theorem r226 : ∀ (i : Fin 256) (j : Fin 512), w226 X (ix2 i j) = ((dy B (i : ℕ) (j : ℕ) : ℝ) : EReal) :=
  pay59 B _ _ _ _ _ (r194 B X h) (r203 B X h) (r205 B X h) (r215 B X h) (r216 B X h)
theorem r235 : ∀ (i : Fin 256) (j : Fin 512), w235 X (ix2 i j) = ((dz B (i : ℕ) (j : ℕ) : ℝ) : EReal) :=
  pay60 B _ _ _ _ _ _ _ (r184 B X h) (r186 B X h) (r193 B X h) (r203 B X h) (r205 B X h) (r215 B X h) (r216 B X h)
theorem r237 : ∀ (i : Fin 256) (j : Fin 128), w237 X (ix2 i j) = ((B.b (i : ℕ) (j : ℕ) : ℝ) : EReal) :=
  pay61 B _ (r10 B X h)
theorem r238 : ∀ (i : Fin 256) (j : Fin 128), w238 X (ix2 i j) = ((B.c (i : ℕ) (j : ℕ) : ℝ) : EReal) :=
  pay62 B _ (r12 B X h)
theorem r239 : ∀ (i : Fin 256) (j : Fin 512), w239 X (ix2 i j) = ((dye B (i : ℕ) (j : ℕ) : ℝ) : EReal) :=
  pay63 B _ _ _ _ _ _ (r128 B X h) (r194 B X h) (r203 B X h) (r205 B X h) (r215 B X h) (r216 B X h)
theorem r242 : ∀ (i : Fin 256) (j : Fin 512), w242 X (ix2 i j) = ((dxs B (i : ℕ) (j : ℕ) : ℝ) : EReal) :=
  pay64 B _ _ _ h.hs (r10 B X h) (r140 B X h)
theorem r246 : ∀ (i : Fin 256) (j : Fin 128), w246 X (ix2 i j) = ((xdt B (i : ℕ) (0 + (j : ℕ)) : ℝ) : EReal) :=
  pay65 B _ (r165 B X h)
theorem r247 : ∀ (i : Fin 256) (j : Fin 128), w247 X (ix2 i j) = ((dy B (i : ℕ) (0 + (j : ℕ)) : ℝ) : EReal) :=
  pay66 B _ _ _ _ _ (r194 B X h) (r203 B X h) (r205 B X h) (r215 B X h) (r216 B X h)
theorem r257 : ∀ (i : Fin 256) (j : Fin 256), w257 X (ix2 i j) = ((decay B (i : ℕ) (j : ℕ) 0 : ℝ) : EReal) :=
  pay67 B _ _ _ (r43 B X h) (r83 B X h) (r95 B X h)
theorem r259 : ∀ (i : Fin 256) (j : Fin 256), w259 X (ix2 i j) = ((gm B (i : ℕ) (j : ℕ) * decay B (i : ℕ) (j : ℕ) 0 : ℝ) : EReal) :=
  pay68 B _ _ _ _ (r43 B X h) (r83 B X h) (r95 B X h) (r168 B X h)
theorem r265 : ∀ (i : Fin 1) (j : Fin 128), w265 (ix2 i j) = BitVec.ofBool (decide ((j : ℕ) / 64 = 0)) :=
  pay69
theorem r271 : ∀ (i : Fin 256) (j : Fin 128), w271 X (ix2 i j) = ((if (j : ℕ) / 64 = 0 then dxi B (i : ℕ) (0 + (j : ℕ)) else 0 : ℝ) : EReal) :=
  pay71 B _ _ _ (r247 B X h) (r259 B X h) (r265 B X h)
theorem r274 : ∀ (i : Fin 256) (j : Fin 256), w274 X (ix2 i j) = ((dm B (i : ℕ) (j : ℕ) 0 : ℝ) : EReal) :=
  pay72 B _ _ _ _ (r246 B X h) (r247 B X h) (r257 B X h) (r265 B X h)
theorem r289 : ∀ (i : Fin 256) (j : Fin 8), w289 X (ix2 i j) = ((if (j : ℕ) < 1 then dac B (i : ℕ) (j : ℕ) else 0 : ℝ) : EReal) :=
  pay73 B _ _ _ _ _ _ _ _ _ (r50 B X h) (r168 B X h) r243 r244 r245 (r246 B X h) (r247 B X h) (r257 B X h) (r265 B X h)
theorem r299 : ∀ (i : Fin 256) (j : Fin 256), w299 X (ix2 i j) = ((decay B (i : ℕ) (j : ℕ) 1 : ℝ) : EReal) :=
  pay74 B _ _ _ (r43 B X h) (r83 B X h) (r95 B X h)
theorem r301 : ∀ (i : Fin 256) (j : Fin 256), w301 X (ix2 i j) = ((gm B (i : ℕ) (j : ℕ) * decay B (i : ℕ) (j : ℕ) 1 : ℝ) : EReal) :=
  pay75 B _ _ _ _ (r43 B X h) (r83 B X h) (r95 B X h) (r168 B X h)
theorem r312 : ∀ (i : Fin 256) (j : Fin 128), w312 X (ix2 i j) = ((if (j : ℕ) / 64 = 1 then dy B (i : ℕ) (0 + (j : ℕ)) else 0 : ℝ) : EReal) :=
  pay76 B _ (r247 B X h)
theorem r314 : ∀ (i : Fin 256) (j : Fin 128), w314 X (ix2 i j) = ((dxi B (i : ℕ) (0 + (j : ℕ)) : ℝ) : EReal) :=
  pay77 B _ _ _ _ (r271 B X h) (r301 B X h) (r312 B X h) r_cst_91
theorem r318 : ∀ (i : Fin 256) (j : Fin 256), w318 X (ix2 i j) = ((dg B 2 (i : ℕ) (j : ℕ) : ℝ) : EReal) :=
  pay79 B _ _ _ _ (r246 B X h) (r274 B X h) (r299 B X h) (r312 B X h)
theorem r334 : ∀ (i : Fin 256) (j : Fin 8), w334 X (ix2 i j) = ((if (j : ℕ) < 2 then dac B (i : ℕ) (j : ℕ) else 0 : ℝ) : EReal) :=
  pay80 B _ _ _ _ _ _ _ _ _ (r50 B X h) (r168 B X h) r243 r244 r245 (r246 B X h) (r289 B X h) (r299 B X h) (r312 B X h)
theorem r335 : ∀ (i : Fin 256) (j : Fin 128), w335 X (ix2 i j) = ((xdt B (i : ℕ) (128 + (j : ℕ)) : ℝ) : EReal) :=
  pay81 B _ (r165 B X h)
theorem r336 : ∀ (i : Fin 256) (j : Fin 128), w336 X (ix2 i j) = ((dy B (i : ℕ) (128 + (j : ℕ)) : ℝ) : EReal) :=
  pay82 B _ (r226 B X h)
theorem r346 : ∀ (i : Fin 256) (j : Fin 256), w346 X (ix2 i j) = ((decay B (i : ℕ) (j : ℕ) 2 : ℝ) : EReal) :=
  pay83 B _ _ _ (r43 B X h) (r83 B X h) (r95 B X h)
theorem r359 : ∀ (i : Fin 256) (j : Fin 128), w359 X (ix2 i j) = ((if (j : ℕ) / 64 = 0 then dy B (i : ℕ) (128 + (j : ℕ)) else 0 : ℝ) : EReal) :=
  pay84 B _ (r226 B X h)
theorem r360 : ∀ (i : Fin 256) (j : Fin 128), w360 X (ix2 i j) = ((if (j : ℕ) / 64 = 0 then dxi B (i : ℕ) (128 + (j : ℕ)) else 0 : ℝ) : EReal) :=
  pay85 B _ _ _ _ _ (r43 B X h) (r83 B X h) (r95 B X h) (r168 B X h) (r226 B X h)
theorem r361 : ∀ (i : Fin 256) (j : Fin 128), w361 X (ix2 i j) = ((xdt B (i : ℕ) (128 + (j : ℕ)) : ℝ) : EReal) :=
  pay86 B _ (r165 B X h)
theorem r380 : ∀ (i : Fin 256) (j : Fin 8), w380 X (ix2 i j) = ((if (j : ℕ) < 3 then dac B (i : ℕ) (j : ℕ) else 0 : ℝ) : EReal) :=
  pay88 B _ _ _ _ _ _ _ _ _ (r50 B X h) (r168 B X h) r243 r244 r245 (r334 B X h) (r346 B X h) (r359 B X h) (r361 B X h)
theorem r405 : ∀ (i : Fin 256) (j : Fin 128), w405 X (ix2 i j) = ((dxi B (i : ℕ) (128 + (j : ℕ)) : ℝ) : EReal) :=
  pay91 B _ _ _ _ _ _ (r43 B X h) (r83 B X h) (r95 B X h) (r168 B X h) (r336 B X h) (r360 B X h)
theorem r408 : ∀ (i : Fin 256) (j : Fin 256), w408 X (ix2 i j) = ((dm B (i : ℕ) (j : ℕ) 3 : ℝ) : EReal) :=
  pay92 B _ _ _ _ _ (r43 B X h) (r83 B X h) (r95 B X h) (r335 B X h) (r336 B X h)
theorem r409 : ∀ (i : Fin 256) (j : Fin 256), w409 X (ix2 i j) = ((dg B 4 (i : ℕ) (j : ℕ) : ℝ) : EReal) :=
  pay93 B _ _ _ _ _ _ _ _ _ (r43 B X h) (r83 B X h) (r95 B X h) (r318 B X h) (r335 B X h) (r336 B X h) (r346 B X h) (r359 B X h) (r361 B X h)
theorem r425 : ∀ (i : Fin 256) (j : Fin 8), w425 X (ix2 i j) = ((if (j : ℕ) < 4 then dac B (i : ℕ) (j : ℕ) else 0 : ℝ) : EReal) :=
  pay94 B _ _ _ _ _ _ _ (r50 B X h) (r168 B X h) r243 r244 r245 (r380 B X h) (r408 B X h)
theorem r426 : ∀ (i : Fin 256) (j : Fin 128), w426 X (ix2 i j) = ((xdt B (i : ℕ) (256 + (j : ℕ)) : ℝ) : EReal) :=
  pay95 B _ (r165 B X h)
theorem r427 : ∀ (i : Fin 256) (j : Fin 128), w427 X (ix2 i j) = ((dy B (i : ℕ) (256 + (j : ℕ)) : ℝ) : EReal) :=
  pay96 B _ (r226 B X h)
theorem r451 : ∀ (i : Fin 256) (j : Fin 128), w451 X (ix2 i j) = ((if (j : ℕ) / 64 = 0 then dxi B (i : ℕ) (256 + (j : ℕ)) else 0 : ℝ) : EReal) :=
  pay99 B _ _ _ _ _ (r43 B X h) (r83 B X h) (r95 B X h) (r168 B X h) (r226 B X h)
theorem r455 : ∀ (i : Fin 256) (j : Fin 256), w455 X (ix2 i j) = ((dg B 5 (i : ℕ) (j : ℕ) : ℝ) : EReal) :=
  pay101 B _ _ _ _ _ _ (r43 B X h) (r83 B X h) (r95 B X h) (r165 B X h) (r226 B X h) (r409 B X h)
theorem r457 : ∀ (i : Fin 256) (j : Fin 256), w457 X (ix2 i j) = ((dm B (i : ℕ) (j : ℕ) 4 * gm B (i : ℕ) (j : ℕ) : ℝ) : EReal) :=
  pay102 B _ _ _ _ _ _ (r43 B X h) (r83 B X h) (r95 B X h) (r165 B X h) (r168 B X h) (r226 B X h)
theorem r471 : ∀ (i : Fin 256) (j : Fin 8), w471 X (ix2 i j) = ((if (j : ℕ) < 5 then dac B (i : ℕ) (j : ℕ) else 0 : ℝ) : EReal) :=
  pay103 B _ _ _ _ _ _ _ (r50 B X h) r243 r244 r245 (r425 B X h) (r457 B X h) r_cst_124
theorem r496 : ∀ (i : Fin 256) (j : Fin 128), w496 X (ix2 i j) = ((dxi B (i : ℕ) (256 + (j : ℕ)) : ℝ) : EReal) :=
  pay106 B _ _ _ _ _ _ (r43 B X h) (r83 B X h) (r95 B X h) (r168 B X h) (r427 B X h) (r451 B X h)
theorem r500 : ∀ (i : Fin 256) (j : Fin 256), w500 X (ix2 i j) = ((dg B 6 (i : ℕ) (j : ℕ) : ℝ) : EReal) :=
  pay108 B _ _ _ _ _ _ (r43 B X h) (r83 B X h) (r95 B X h) (r426 B X h) (r427 B X h) (r455 B X h)
theorem r503 : ∀ (i : Fin 256) (j : Fin 256), w503 X (ix2 i j) = ((∑ k : Fin 256, (if (i : ℕ) ≤ (k : ℕ) then 1 else 0) * (dm B k (j : ℕ) 5 * gm B k (j : ℕ)) : ℝ) : EReal) :=
  pay109 B _ _ _ _ _ _ _ (r43 B X h) (r50 B X h) (r83 B X h) (r95 B X h) (r168 B X h) (r426 B X h) (r427 B X h)
theorem r504 : ∀ (i : Fin 256) (j : Fin 256), w504 (ix2 i j) = BitVec.ofBool (decide ((j : ℕ) < (i : ℕ))) :=
  pay110 _ _ r243 r244
theorem r505 : ∀ (i : Fin 256) (j : Fin 256), w505 (ix2 i j) = ((0 : ℝ) : EReal) :=
  pay111
theorem r516 : ∀ (i : Fin 256) (j : Fin 8), w516 X (ix2 i j) = ((if (j : ℕ) < 6 then dac B (i : ℕ) (j : ℕ) else 0 : ℝ) : EReal) :=
  pay112 B _ _ _ _ _ r245 (r471 B X h) (r503 B X h) (r504 B X h) (r505 B X h)
theorem r517 : ∀ (i : Fin 256) (j : Fin 128), w517 X (ix2 i j) = ((xdt B (i : ℕ) (384 + (j : ℕ)) : ℝ) : EReal) :=
  pay113 B _ (r165 B X h)
theorem r518 : ∀ (i : Fin 256) (j : Fin 128), w518 X (ix2 i j) = ((dy B (i : ℕ) (384 + (j : ℕ)) : ℝ) : EReal) :=
  pay114 B _ (r226 B X h)
theorem r542 : ∀ (i : Fin 256) (j : Fin 128), w542 X (ix2 i j) = ((if (j : ℕ) / 64 = 0 then dxi B (i : ℕ) (384 + (j : ℕ)) else 0 : ℝ) : EReal) :=
  pay117 B _ _ _ _ _ (r43 B X h) (r83 B X h) (r95 B X h) (r168 B X h) (r226 B X h)
theorem r546 : ∀ (i : Fin 256) (j : Fin 256), w546 X (ix2 i j) = ((dg B 7 (i : ℕ) (j : ℕ) : ℝ) : EReal) :=
  pay119 B _ _ _ _ _ _ (r43 B X h) (r83 B X h) (r95 B X h) (r165 B X h) (r226 B X h) (r500 B X h)
theorem r553 : ∀ (i : Fin 256), w553 X (ix1 i) = ((dac B (i : ℕ) 6 : ℝ) : EReal) :=
  pay120 B _ _ _ _ _ _ _ _ _ (r43 B X h) (r50 B X h) (r83 B X h) (r95 B X h) (r165 B X h) (r168 B X h) (r226 B X h) r243 r244
theorem r562 : ∀ (i : Fin 256) (j : Fin 8), w562 X (ix2 i j) = ((if (j : ℕ) < 7 then dac B (i : ℕ) (j : ℕ) else 0 : ℝ) : EReal) :=
  pay121 B _ _ _ r245 (r516 B X h) (r553 B X h)
theorem r587 : ∀ (i : Fin 256) (j : Fin 128), w587 X (ix2 i j) = ((dxi B (i : ℕ) (384 + (j : ℕ)) : ℝ) : EReal) :=
  pay124 B _ _ _ _ _ _ (r43 B X h) (r83 B X h) (r95 B X h) (r168 B X h) (r518 B X h) (r542 B X h)
theorem r591 : ∀ (i : Fin 256) (j : Fin 256), w591 X (ix2 i j) = ((dg B 8 (i : ℕ) (j : ℕ) : ℝ) : EReal) :=
  pay126 B _ _ _ _ _ _ (r43 B X h) (r83 B X h) (r95 B X h) (r517 B X h) (r518 B X h) (r546 B X h)
theorem r599 : ∀ (i : Fin 256) (j : Fin 1), w599 X (ix2 i j) = ((dac B (i : ℕ) 7 : ℝ) : EReal) :=
  pay127 B _ _ _ _ _ _ _ _ _ (r43 B X h) (r50 B X h) (r83 B X h) (r95 B X h) (r168 B X h) r243 r244 (r517 B X h) (r518 B X h)
theorem r601 : ∀ (i : Fin 1) (j : Fin 8), w601 (ix2 i j) = BitVec.ofBool (decide ((j : ℕ) = 7)) :=
  pay128 _ r245
theorem r607 : ∀ (i : Fin 256) (j : Fin 8), w607 X (ix2 i j) = ((if (j : ℕ) < 8 then dac B (i : ℕ) (j : ℕ) else 0 : ℝ) : EReal) :=
  pay129 B _ _ _ (r562 B X h) (r599 B X h) (r601 B X h)
theorem r609 : ∀ (i : Fin 256) (j : Fin 512), w609 X (ix2 i j) = ((dxdt B (i : ℕ) (j : ℕ) : ℝ) : EReal) :=
  pay130 B _ _ _ _ _ (r242 B X h) (r314 B X h) (r405 B X h) (r496 B X h) (r587 B X h)
theorem r616 : ∀ (i : Fin 256) (j : Fin 128), w616 X (ix2 i j) = ((dc B (i : ℕ) (j : ℕ) : ℝ) : EReal) :=
  pay132 B _ _ _ _ (r6 B X h) (r237 B X h) (r239 B X h) (r591 B X h)
theorem r624 : ∀ (i : Fin 256) (j : Fin 128), w624 X (ix2 i j) = ((db B (i : ℕ) (j : ℕ) : ℝ) : EReal) :=
  pay133 B _ _ _ _ _ h.hs (r140 B X h) (r165 B X h) (r238 B X h) (r591 B X h)
theorem r633 : ∀ (i : Fin 128) (j : Fin 512), w633 X (ix2 i j) = ((ds' B (i : ℕ) (j : ℕ) : ℝ) : EReal) :=
  pay134 B _ _ _ _ h.hs (r152 B X h) (r238 B X h) (r239 B X h)
theorem r640 : ∀ (i : Fin 256) (j : Fin 256), w640 (ix2 i j) = ((if (j : ℕ) < (i : ℕ) then 1 else 0 : ℝ) : EReal) :=
  pay135 _ _ r243 r244
theorem r642 : ∀ (i : Fin 256) (j : Fin 512), w642 X (ix2 i j) = ((dy B (i : ℕ) (j : ℕ) * yoff B (i : ℕ) (j : ℕ) : ℝ) : EReal) :=
  pay137 B _ _ _ _ (r6 B X h) (r128 B X h) (r226 B X h) (r238 B X h)
theorem r644 : ∀ (i : Fin 256) (j : Fin 512), w644 X (ix2 i j) = ((0 : ℝ) : EReal) :=
  pay138 B _ _ _ _ (r6 B X h) (r128 B X h) (r226 B X h) (r238 B X h)
theorem r645 : ∀ (i : Fin 256) (j : Fin 512), w645 X (ix2 i j) = ((0 : ℝ) : EReal) :=
  pay139 B _ _ _ _ (r6 B X h) (r128 B X h) (r226 B X h) (r238 B X h)
theorem r646 : ∀ (i : Fin 256) (j : Fin 512), w646 X (ix2 i j) = ((0 : ℝ) : EReal) :=
  pay140 B _ _ _ _ (r6 B X h) (r128 B X h) (r226 B X h) (r238 B X h)
theorem r692 : ∀ (i : Fin 256) (j : Fin 8), w692 X (ix2 i j) = ((dac B (i : ℕ) (j : ℕ) + da1 B (i : ℕ) (j : ℕ) + da2 B (i : ℕ) (j : ℕ) : ℝ) : EReal) :=
  pay141 B _ _ _ _ _ _ _ _ _ _ (r50 B X h) (r165 B X h) (r182 B X h) (r242 B X h) (r607 B X h) (r640 B X h) (r642 B X h) (r644 B X h) (r645 B X h) (r646 B X h)
theorem r693 : ∀ (i : Fin 128) (j : Fin 512), w693 X (ix2 i j) = ((B.ds (i : ℕ) (j : ℕ) * B.st (i : ℕ) (j : ℕ) : ℝ) : EReal) :=
  pay142 B _ _ h.hs (r6 B X h)
theorem r710 : ∀ (i : Fin 256) (j : Fin 8), w710 X (ix2 i j) = ((da B (i : ℕ) (j : ℕ) : ℝ) : EReal) :=
  pay143 B _ _ _ _ (r104 B X h) (r182 B X h) (r692 B X h) (r693 B X h)
theorem r738 : ∀ (i : Fin 256) (j : Fin 8), w738 X (ix2 i j) = ((ddtr B (i : ℕ) (j : ℕ) : ℝ) : EReal) :=
  pay144 B _ _ _ _ _ _ _ _ _ (r8 B X h) (r18 B X h) (r52 B X h) (r69 B X h) (r104 B X h) (r182 B X h) (r609 B X h) (r692 B X h) (r693 B X h)
theorem r741 : ∀ (i : Fin 1) (j : Fin 256) (k : Fin 8), w741 X (ix3 i j k) = ((ddtr B (j : ℕ) (k : ℕ) : ℝ) : EReal) :=
  pay145 B _ (r738 B X h)
theorem r746 : ∀ (i : Fin 256) (j : Fin 512), w746 X (ix2 i j) = ((dx B (i : ℕ) (j : ℕ) : ℝ) : EReal) :=
  pay146 B _ _ _ _ (r116 B X h) (r164 B X h) (r226 B X h) (r609 B X h)
theorem r771 : ∀ (i : Fin 1) (j : Fin 512), w771 X (ix2 i j) = ((∑ r : Fin 256, dy B r (j : ℕ) * B.x r (j : ℕ) : ℝ) : EReal) :=
  pay151 B _ _ (r8 B X h) (r226 B X h)
theorem r774 : ∀ (i : Fin 1) (j : Fin 512), w774 X (ix2 i j) = ((0 : ℝ) : EReal) :=
  pay153 B _ _ (r8 B X h) (r226 B X h)
theorem r776 : ∀ (i : Fin 1) (j : Fin 512), w776 X (ix2 i j) = ((0 : ℝ) : EReal) :=
  pay154 B _ _ (r8 B X h) (r226 B X h)
theorem r759 (p : ℕ → ℝ) (P : Vec Ideal S1x1x8 .f32)
    (hP : ∀ (i : Fin 1) (j : Fin 1) (k : Fin 8), P (ix3 i j k) = ((p (k : ℕ) : ℝ) : EReal)) :
    ∀ (i : Fin 1) (j : Fin 1) (k : Fin 8), w759 X P (ix3 i j k) = ((p (k : ℕ) + dbias B (k : ℕ) : ℝ) : EReal) :=
  pay147 B p _ _ (r738 B X h) hP
theorem r765 (p : ℕ → ℝ) (P : Vec Ideal S1x1x8 .f32)
    (hP : ∀ (i : Fin 1) (j : Fin 1) (k : Fin 8), P (ix3 i j k) = ((p (k : ℕ) : ℝ) : EReal)) :
    ∀ (i : Fin 1) (j : Fin 1) (k : Fin 8), w765 X P (ix3 i j k) = ((p (k : ℕ) + dalog B (k : ℕ) : ℝ) : EReal) :=
  pay148 B p _ _ _ _ (r66 B X h) (r69 B X h) (r710 B X h) hP
theorem r786 (p : ℕ → ℝ) (P : Vec Ideal S1x1x8 .f32)
    (hP : ∀ (i : Fin 1) (j : Fin 1) (k : Fin 8), P (ix3 i j k) = ((p (k : ℕ) : ℝ) : EReal)) :
    ∀ (i : Fin 1) (j : Fin 1) (k : Fin 8), w786 X P (ix3 i j k) = ((p (k : ℕ) + ddsk B (k : ℕ) : ℝ) : EReal) :=
  pay1 B p _ _ _ _ _ (r182 B X h) (pay149 p _ hP) (r771 B X h) (r774 B X h) (r776 B X h)
theorem r792 (p : ℕ → ℝ) (P : Vec Ideal S1x1x512 .f32)
    (hP : ∀ (i : Fin 1) (j : Fin 1) (k : Fin 512), P (ix3 i j k) = ((p (k : ℕ) : ℝ) : EReal)) :
    ∀ (i : Fin 1) (j : Fin 1) (k : Fin 512), w792 X P (ix3 i j k) = ((p (k : ℕ) + dgg B (k : ℕ) : ℝ) : EReal) :=
  pay2 B p _ _ (r211 B X h) hP

end Cert.KernelIdeal.Body
-- ==== Proof.GridRead.lean ====
module

public import proofs.«01_k».proof.Proof.HostRead
public import proofs.«01_k».proof.Proof.HostPrm
public import proofs.«01_k».proof.Proof.SeqMath
public import proofs.«01_k».proof.Proof.ChainVal
public import Idealize.ShloMosaic.Lib.Pipeline.ValueKit

/-! What the call's step at a grid point reads: the blocks of the arrays at the point's group and block of rows. -/

@[expose] public section
set_option maxRecDepth 65536
noncomputable section

namespace Cert.KernelIdeal.Grid

open Cert.KernelIdeal Cert.KernelIdeal.Body Cert.KernelIdeal.Gen Idealize.ShloMosaic Idealize.ShloMosaic.TcCoe

theorem coords0 : ∀ t : Fin cfg0.N, (grid0.coords t 0).val = t.val / 33 :=
  (by decide +kernel : ∀ t : Fin grid0.N, (grid0.coords t 0).val = t.val / 33)
theorem coords1 : ∀ t : Fin cfg0.N, (grid0.coords t 1).val = t.val % 33 :=
  (by decide +kernel : ∀ t : Fin grid0.N, (grid0.coords t 1).val = t.val % 33)

theorem at0 : ∀ t : Fin cfg0.N, win0_0.index t = ![32 - t.val % 33, t.val / 33] :=
  (by decide +kernel : ∀ t : Fin grid0.N, win0_0.index t = ![32 - t.val % 33, t.val / 33])
theorem at1 : ∀ t : Fin cfg0.N, win0_1.index t = ![32 - t.val % 33, 16 + t.val / 33] :=
  (by decide +kernel : ∀ t : Fin grid0.N, win0_1.index t = ![32 - t.val % 33, 16 + t.val / 33])
theorem at2 : ∀ t : Fin cfg0.N, win0_2.index t = ![32 - t.val % 33, 20 + t.val / 33] :=
  (by decide +kernel : ∀ t : Fin grid0.N, win0_2.index t = ![32 - t.val % 33, 20 + t.val / 33])
theorem at3 : ∀ t : Fin cfg0.N, win0_3.index t = ![32 - t.val % 33, t.val / 33] :=
  (by decide +kernel : ∀ t : Fin grid0.N, win0_3.index t = ![32 - t.val % 33, t.val / 33])
theorem at4 : ∀ t : Fin cfg0.N, win0_4.index t = ![t.val / 33, 32 - t.val % 33, 0] :=
  (by decide +kernel : ∀ t : Fin grid0.N, win0_4.index t = ![t.val / 33, 32 - t.val % 33, 0])
theorem at5 : ∀ t : Fin cfg0.N, win0_5.index t = ![t.val / 33, 0, 0] :=
  (by decide +kernel : ∀ t : Fin grid0.N, win0_5.index t = ![t.val / 33, 0, 0])
theorem at6 : ∀ t : Fin cfg0.N, win0_6.index t = ![0, t.val / 33] :=
  (by decide +kernel : ∀ t : Fin grid0.N, win0_6.index t = ![0, t.val / 33])
theorem at7 : ∀ t : Fin cfg0.N, win0_7.index t = ![32 - t.val % 33, t.val / 33] :=
  (by decide +kernel : ∀ t : Fin grid0.N, win0_7.index t = ![32 - t.val % 33, t.val / 33])
theorem at8 : ∀ t : Fin cfg0.N, win0_8.index t = ![32 - t.val % 33, t.val / 33, 0, 0] :=
  (by decide +kernel : ∀ t : Fin grid0.N, win0_8.index t = ![32 - t.val % 33, t.val / 33, 0, 0])
theorem at9 : ∀ t : Fin cfg0.N, win0_9.index t = ![32 - t.val % 33, t.val / 33] :=
  (by decide +kernel : ∀ t : Fin grid0.N, win0_9.index t = ![32 - t.val % 33, t.val / 33])

theorem lt132 (t : Fin cfg0.N) : t.val < 132 := lt_of_lt_of_eq t.isLt (show cfg0.N = 132 from N_0)
theorem group_lt (t : Fin cfg0.N) : t.val / 33 < 4 := by have := lt132 t; omega

/-- The group and the block of rows of a grid point. -/
abbrev grpAt (t : Fin cfg0.N) : ℕ := t.val / 33
abbrev blkAt (t : Fin cfg0.N) : ℕ := 32 - t.val % 33

variable (m : (ℓ : Loc nD τ sig) → Buf (Elt Ideal) ℓ) (c : Dev nD)
variable (S : Sq) (h : Host.Reals S (Host.argsOf m c))
include h

theorem blk0 (t : Fin cfg0.N) (i : Fin 256) (j : Fin 512) :
    iblk m c 0 t (ix2 i j) = (((Grp.blk (S.grp (grpAt t)) (blkAt t)).x i j : ℝ) : EReal) := by
  have hg := group_lt t
  have hi := i.isLt
  have hj := j.isLt
  have e : (win0_0.blk t).view.emb (ix2 i j) = ix2 ⟨256 * (32 - t.val % 33) + (i : ℕ), by omega⟩ ⟨512 * (t.val / 33) + (j : ℕ), by omega⟩ := by
    funext a
    apply Fin.ext
    fin_cases a
    all_goals (blk_simp [at0]; try simp; try omega)
  blk_simp [iblk]
  rw [Host.V_v1, e]
  refine (Host.K_v1 S (Host.argsOf m c) h _ _).trans (congrArg _ ?_)
  rfl

theorem blk1 (t : Fin cfg0.N) (i : Fin 256) (j : Fin 128) :
    iblk m c 1 t (ix2 i j) = (((Grp.blk (S.grp (grpAt t)) (blkAt t)).b i j : ℝ) : EReal) := by
  have hg := group_lt t
  have hi := i.isLt
  have hj := j.isLt
  have e : (win0_1.blk t).view.emb (ix2 i j) = ix2 ⟨256 * (32 - t.val % 33) + (i : ℕ), by omega⟩ ⟨128 * (16 + t.val / 33) + (j : ℕ), by omega⟩ := by
    funext a
    apply Fin.ext
    fin_cases a
    all_goals (blk_simp [at1]; try simp; try omega)
  blk_simp [iblk]
  rw [Host.V_v1, e]
  refine (Host.K_v1 S (Host.argsOf m c) h _ _).trans (congrArg _ ?_)
  show Sq.pad S.xbc _ (128 * (16 + t.val / 33) + (j : ℕ)) = Sq.pad S.xbc _ (2048 + (t.val / 33 * 128 + (j : ℕ)))
  congr 1; omega

theorem blk2 (t : Fin cfg0.N) (i : Fin 256) (j : Fin 128) :
    iblk m c 2 t (ix2 i j) = (((Grp.blk (S.grp (grpAt t)) (blkAt t)).c i j : ℝ) : EReal) := by
  have hg := group_lt t
  have hi := i.isLt
  have hj := j.isLt
  have e : (win0_2.blk t).view.emb (ix2 i j) = ix2 ⟨256 * (32 - t.val % 33) + (i : ℕ), by omega⟩ ⟨128 * (20 + t.val / 33) + (j : ℕ), by omega⟩ := by
    funext a
    apply Fin.ext
    fin_cases a
    all_goals (blk_simp [at2]; try simp; try omega)
  blk_simp [iblk]
  rw [Host.V_v1, e]
  refine (Host.K_v1 S (Host.argsOf m c) h _ _).trans (congrArg _ ?_)
  show Sq.pad S.xbc _ (128 * (20 + t.val / 33) + (j : ℕ)) = Sq.pad S.xbc _ (2560 + (t.val / 33 * 128 + (j : ℕ)))
  congr 1; omega

theorem blk3 (t : Fin cfg0.N) (i : Fin 256) (j : Fin 512) :
    iblk m c 3 t (ix2 i j) = (((Grp.blk (S.grp (grpAt t)) (blkAt t)).z i j : ℝ) : EReal) := by
  have hg := group_lt t
  have hi := i.isLt
  have hj := j.isLt
  have e : (win0_3.blk t).view.emb (ix2 i j) = ix2 ⟨256 * (32 - t.val % 33) + (i : ℕ), by omega⟩ ⟨512 * (t.val / 33) + (j : ℕ), by omega⟩ := by
    funext a
    apply Fin.ext
    fin_cases a
    all_goals (blk_simp [at3]; try simp; try omega)
  blk_simp [iblk]
  rw [Host.V_v134, e]
  refine (Host.K_v134 S (Host.argsOf m c) h _ _).trans (congrArg _ ?_)
  rfl

theorem blk7 (t : Fin cfg0.N) (i : Fin 256) (j : Fin 512) :
    iblk m c 7 t (ix2 i j) = (((Grp.blk (S.grp (grpAt t)) (blkAt t)).y i j : ℝ) : EReal) := by
  have hg := group_lt t
  have hi := i.isLt
  have hj := j.isLt
  have e : (win0_7.blk t).view.emb (ix2 i j) = ix2 ⟨256 * (32 - t.val % 33) + (i : ℕ), by omega⟩ ⟨512 * (t.val / 33) + (j : ℕ), by omega⟩ := by
    funext a
    apply Fin.ext
    fin_cases a
    all_goals (blk_simp [at7]; try simp; try omega)
  blk_simp [iblk]
  rw [Host.V_v59, e]
  refine (Host.K_v59 S (Host.argsOf m c) h _ _).trans (congrArg _ ?_)
  show (S.grp ((512 * (t.val / 33) + (j : ℕ)) / 512)).y (256 * (32 - t.val % 33) + (i : ℕ)) ((512 * (t.val / 33) + (j : ℕ)) % 512) = (S.grp (t.val / 33)).y (256 * (32 - t.val % 33) + (i : ℕ)) j
  rw [show (512 * (t.val / 33) + (j : ℕ)) / 512 = t.val / 33 by omega, show (512 * (t.val / 33) + (j : ℕ)) % 512 = j by omega]

theorem blk9 (t : Fin cfg0.N) (i : Fin 256) (j : Fin 512) :
    iblk m c 9 t (ix2 i j) = (((Grp.blk (S.grp (grpAt t)) (blkAt t)).ct i j : ℝ) : EReal) := by
  have hg := group_lt t
  have hi := i.isLt
  have hj := j.isLt
  have e : (win0_9.blk t).view.emb (ix2 i j) = ix2 ⟨256 * (32 - t.val % 33) + (i : ℕ), by omega⟩ ⟨512 * (t.val / 33) + (j : ℕ), by omega⟩ := by
    funext a
    apply Fin.ext
    fin_cases a
    all_goals (blk_simp [at9]; try simp; try omega)
  blk_simp [iblk]
  rw [Host.V_v138, e]
  refine (Host.K_v138 S (Host.argsOf m c) h _ _).trans (congrArg _ ?_)
  rfl

theorem blk6 (t : Fin cfg0.N) (i : Fin 1) (j : Fin 512) :
    iblk m c 6 t (ix2 i j) = (((Grp.blk (S.grp (grpAt t)) (blkAt t)).gate j : ℝ) : EReal) := by
  have hg := group_lt t
  have hi := i.isLt
  have hj := j.isLt
  have e : (win0_6.blk t).view.emb (ix2 i j) = ix2 (0 : Fin 1) ⟨512 * (t.val / 33) + (j : ℕ), by omega⟩ := by
    funext a
    apply Fin.ext
    fin_cases a
    all_goals (blk_simp [at6]; try simp; try omega)
  blk_simp [iblk]
  rw [Host.V_v135, e]
  exact Host.K_v135 S (Host.argsOf m c) h _ _

theorem blk4 (t : Fin cfg0.N) (i : Fin 1) (j : Fin 256) (k : Fin 8) :
    iblk m c 4 t (ix3 i j k) = (((Grp.blk (S.grp (grpAt t)) (blkAt t)).dtr j k : ℝ) : EReal) := by
  have hg := group_lt t
  have hi := i.isLt
  have hj := j.isLt
  have hk := k.isLt
  have e : (win0_4.blk t).view.emb (ix3 i j k)
      = ix3 ⟨t.val / 33, hg⟩ ⟨256 * (32 - t.val % 33) + (j : ℕ), by omega⟩ k := by
    funext a
    apply Fin.ext
    fin_cases a
    all_goals (blk_simp [at4]; try simp; try omega)
  blk_simp [iblk]
  rw [Host.V_v132, e]
  exact Host.K_v132 S (Host.argsOf m c) h _ _ _

theorem blk8 (t : Fin cfg0.N) (i : Fin 1) (j : Fin 1) (k : Fin 128) (l : Fin 512) :
    iblk m c 8 t (ix4 i j k l) = (((Grp.blk (S.grp (grpAt t)) (blkAt t)).st k l : ℝ) : EReal) := by
  have hg := group_lt t
  have hi := i.isLt
  have hj := j.isLt
  have hk := k.isLt
  have e : (win0_8.blk t).view.emb (ix4 i j k l)
      = ix4 ⟨32 - t.val % 33, by omega⟩ ⟨t.val / 33, hg⟩ k l := by
    funext a
    apply Fin.ext
    fin_cases a
    all_goals (blk_simp [at8]; try simp; try omega)
  blk_simp [iblk]
  rw [Host.V_v123, e]
  exact Host.K_v123 S (Host.argsOf m c) h _ _ _ _

omit h in
theorem emb5 (t : Fin cfg0.N) (i : Fin 1) (r : Fin 8) (k : Fin 8) :
    (win0_5.blk t).view.emb (ix3 i r k) = ix3 ⟨t.val / 33, group_lt t⟩ r k := by
  have hg := group_lt t
  have hi := i.isLt
  funext a
  apply Fin.ext
  fin_cases a
  all_goals (blk_simp [at5]; try simp; try omega)

theorem blk5_0 (t : Fin cfg0.N) (i : Fin 1) (k : Fin 8) :
    iblk m c 5 t (ix3 i (0 : Fin 8) k) = (((Grp.blk (S.grp (grpAt t)) (blkAt t)).bias k : ℝ) : EReal) := by
  blk_simp [iblk]
  rw [Host.V_v130, emb5]
  exact Host.K_v130_0 S (Host.argsOf m c) h _ _

theorem blk5_1 (t : Fin cfg0.N) (i : Fin 1) (k : Fin 8) :
    iblk m c 5 t (ix3 i (1 : Fin 8) k) = (((Grp.blk (S.grp (grpAt t)) (blkAt t)).alog k : ℝ) : EReal) := by
  blk_simp [iblk]
  rw [Host.V_v130, emb5]
  exact Host.K_v130_1 S (Host.argsOf m c) h _ _

theorem blk5_2 (t : Fin cfg0.N) (i : Fin 1) (k : Fin 8) :
    iblk m c 5 t (ix3 i (2 : Fin 8) k) = (((Grp.blk (S.grp (grpAt t)) (blkAt t)).dsk k : ℝ) : EReal) := by
  blk_simp [iblk]
  rw [Host.V_v130, emb5]
  exact Host.K_v130_2 S (Host.argsOf m c) h _ _

/-- The arrays a grid point's step reads, with the state gradient `s` the point before left. -/
def rawAt (s : Vec Ideal S128x512 .f32) (t : Fin cfg0.N) : Raw :=
  ⟨grid0.coords t, iblk m c 0 t, iblk m c 1 t, iblk m c 2 t, iblk m c 3 t, iblk m c 4 t, iblk m c 5 t, iblk m c 6 t,
   iblk m c 7 t, iblk m c 8 t, iblk m c 9 t, s⟩

set_option maxHeartbeats 4000000 in
/-- They are the group's block of the sequence. -/
theorem reads (s : Vec Ideal S128x512 .f32) (t : Fin cfg0.N)
    (hs : ∀ (i : Fin 128) (j : Fin 512), s (ix2 i j) = (((S.grp (grpAt t)).dst (blkAt t) i j : ℝ) : EReal)) :
    Reads (Grp.blk (S.grp (grpAt t)) (blkAt t)) (rawAt m c s t) where
  hrow := by
    show 256 * (32 - t.val % 33) = 256 * (32 - (grid0.coords t 1).val)
    rw [coords1]
  hx0 := blk0 m c S h t
  hx1 := blk1 m c S h t
  hx2 := blk2 m c S h t
  hx3 := blk3 m c S h t
  hx7 := blk7 m c S h t
  hx9 := blk9 m c S h t
  hs := hs
  hx4 := blk4 m c S h t
  hx5 := fun i k => ⟨blk5_0 m c S h t i k, blk5_1 m c S h t i k, blk5_2 m c S h t i k⟩
  hx6 := blk6 m c S h t
  hx8 := blk8 m c S h t

end Cert.KernelIdeal.Grid
-- ==== Proof.Open.lean ====
module

public import proofs.«01_k».proof.Proof.Chain

/-! What a grid step leaves in each output's buffer and in the carried state gradient, as the named vectors. -/

@[expose] public section
set_option maxRecDepth 65536
noncomputable section
namespace Cert.KernelIdeal.Body
open Cert.KernelIdeal Cert.KernelIdeal.Gen Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

variable (c : Dev nD) (i : grid0.Coords)
  (arg2 : Memref sig .tc .vmem S256x512 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S256x512 .f32) (harg5 : arg5.IsWhole)
  (arg6 : Memref sig .tc .vmem S1x256x8 .f32) (harg6 : arg6.IsWhole)
  (arg7 : Memref sig .tc .vmem S1x8x8 .f32) (harg7 : arg7.IsWhole)
  (arg8 : Memref sig .tc .vmem S1x512 .f32) (harg8 : arg8.IsWhole)
  (arg9 : Memref sig .tc .vmem S256x512 .f32) (harg9 : arg9.IsWhole)
  (arg10 : Memref sig .tc .vmem S1x1x128x512 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x128 .bf16) (harg13 : arg13.IsWhole)
  (arg14 : Memref sig .tc .vmem S256x128 .bf16) (harg14 : arg14.IsWhole)
  (arg15 : Memref sig .tc .vmem S256x512 .bf16) (harg15 : arg15.IsWhole)
  (arg16 : Memref sig .tc .vmem S1x256x8 .f32) (harg16 : arg16.IsWhole)
  (arg17 : Memref sig .tc .vmem S1x8x8 .f32) (harg17 : arg17.IsWhole)
  (arg18 : Memref sig .tc .vmem S1x8x512 .f32) (harg18 : arg18.IsWhole)
  (arg19 : Memref sig .tc .vmem S128x512 .f32) (harg19 : arg19.IsWhole)

section A
variable (hc0 : cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16)

theorem o_A_10 :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w746 ⟨i, x0, x1, x2, x3, x4, x5, x6, x7, x8, x9, k0_pay3 (F := Ideal)⟩ := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_unit_zero (S := S256x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

theorem o_A_11 :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w624 ⟨i, x0, x1, x2, x3, x4, x5, x6, x7, x8, x9, k0_pay3 (F := Ideal)⟩ := by
  unfold out0_A_11
  rw [View.read_writes_eq_canon _ _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_unit_zero (S := S256x128) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

theorem o_A_12 :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w616 ⟨i, x0, x1, x2, x3, x4, x5, x6, x7, x8, x9, k0_pay3 (F := Ideal)⟩ := by
  unfold out0_A_12
  rw [View.read_writes_eq_canon _ _ _ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_unit_zero (S := S256x128) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

theorem o_A_13 :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w235 ⟨i, x0, x1, x2, x3, x4, x5, x6, x7, x8, x9, k0_pay3 (F := Ideal)⟩ := by
  unfold out0_A_13
  rw [View.read_writes_eq_canon _ _ _ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_unit_zero (S := S256x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

theorem o_A_14 :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w741 ⟨i, x0, x1, x2, x3, x4, x5, x6, x7, x8, x9, k0_pay3 (F := Ideal)⟩ := by
  unfold out0_A_14
  rw [View.read_writes_eq_canon _ _ _ (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_unit_zero (S := S1x256x8) z3]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

theorem so_A_0 :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 =
      w633 ⟨i, x0, x1, x2, x3, x4, x5, x6, x7, x8, x9, k0_pay3 (F := Ideal)⟩ := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_cons_unit_zero (S := S128x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  try simp only [View.readCov_unit_zero (S := S128x512) _ z2]
  rfl

end A

section B
variable (hc0 : ¬cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16) (xo15 : Vec Ideal S1x8x8 .f32) (xo16 : Vec Ideal S1x8x512 .f32) (xs0 : Vec Ideal S128x512 .f32)

theorem o_B_10 :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w746 ⟨i, x0, x1, x2, x3, x4, x5, x6, x7, x8, x9, xs0⟩ := by
  unfold out0_B_10
  rw [View.read_writes_eq_canon _ _ _ (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S256x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

theorem o_B_11 :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w624 ⟨i, x0, x1, x2, x3, x4, x5, x6, x7, x8, x9, xs0⟩ := by
  unfold out0_B_11
  rw [View.read_writes_eq_canon _ _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S256x128) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

theorem o_B_12 :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w616 ⟨i, x0, x1, x2, x3, x4, x5, x6, x7, x8, x9, xs0⟩ := by
  unfold out0_B_12
  rw [View.read_writes_eq_canon _ _ _ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S256x128) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

theorem o_B_13 :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w235 ⟨i, x0, x1, x2, x3, x4, x5, x6, x7, x8, x9, xs0⟩ := by
  unfold out0_B_13
  rw [View.read_writes_eq_canon _ _ _ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S256x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

theorem o_B_14 :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w741 ⟨i, x0, x1, x2, x3, x4, x5, x6, x7, x8, x9, xs0⟩ := by
  unfold out0_B_14
  rw [View.read_writes_eq_canon _ _ _ (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S1x256x8) z3]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

theorem so_B_0 :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 =
      w633 ⟨i, x0, x1, x2, x3, x4, x5, x6, x7, x8, x9, xs0⟩ := by
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0)]
  unfold kernelRun0_B
  dsimp only
  sl_unfold_words
  rw [View.canon_unit_zero (S := S128x512) z2]
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rfl

end B

end Cert.KernelIdeal.Body
-- ==== Proof.OpenAcc.lean ====
module

public import proofs.«01_k».proof.Proof.Open
public import Idealize.ShloMosaic.Lib.WritesUnit
public import Idealize.ShloMosaic.Lib.Pipeline.ReadBack

/-! What a grid step leaves in the two accumulated buffers, as the named vectors. -/

@[expose] public section
set_option maxRecDepth 65536
noncomputable section
namespace Cert.KernelIdeal.Body
open Cert.KernelIdeal Cert.KernelIdeal.Gen Idealize.ShloMosaic Idealize.ShloMosaic.TcCoe

variable (c : Dev nD) (i : grid0.Coords)
  (arg2 : Memref sig .tc .vmem S256x512 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S256x512 .f32) (harg5 : arg5.IsWhole)
  (arg6 : Memref sig .tc .vmem S1x256x8 .f32) (harg6 : arg6.IsWhole)
  (arg7 : Memref sig .tc .vmem S1x8x8 .f32) (harg7 : arg7.IsWhole)
  (arg8 : Memref sig .tc .vmem S1x512 .f32) (harg8 : arg8.IsWhole)
  (arg9 : Memref sig .tc .vmem S256x512 .f32) (harg9 : arg9.IsWhole)
  (arg10 : Memref sig .tc .vmem S1x1x128x512 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x128 .bf16) (harg13 : arg13.IsWhole)
  (arg14 : Memref sig .tc .vmem S256x128 .bf16) (harg14 : arg14.IsWhole)
  (arg15 : Memref sig .tc .vmem S256x512 .bf16) (harg15 : arg15.IsWhole)
  (arg16 : Memref sig .tc .vmem S1x256x8 .f32) (harg16 : arg16.IsWhole)
  (arg17 : Memref sig .tc .vmem S1x8x8 .f32) (harg17 : arg17.IsWhole)
  (arg18 : Memref sig .tc .vmem S1x8x512 .f32) (harg18 : arg18.IsWhole)
  (arg19 : Memref sig .tc .vmem S128x512 .f32) (harg19 : arg19.IsWhole)

section B
variable (hc0 : ¬cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16) (xo15 : Vec Ideal S1x8x8 .f32) (xo16 : Vec Ideal S1x8x512 .f32) (xs0 : Vec Ideal S128x512 .f32)

theorem o_B_15_0 (k : Fin 8) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 0 k) =
      w759 ⟨i, x0, x1, x2, x3, x4, x5, x6, x7, x8, x9, xs0⟩ (View.ld (Val := Elt Ideal) (S := S1x8x8) (e' := .f32) xo15 (Rect.unit ![0, 0, 0] S1x1x8.size inb_S1x8x8_S1x1x8_0_0_0)) (ix3 0 0 k) := by
  unfold out0_B_15
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_not_mem _ _ _ _ _ _ rfl 1 (by simp)]
  rw [View.read_writes_cons_unit_of_not_mem _ _ _ _ _ _ rfl 1 (by simp)]
  rw [View.read_writes_cons_unit_of_mem _ _ _ _ _ _ (ix3 0 0 k) rfl (by intro a; fin_cases a <;> simp)]

  rfl

theorem o_B_15_1 (k : Fin 8) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 1 k) =
      w765 ⟨i, x0, x1, x2, x3, x4, x5, x6, x7, x8, x9, xs0⟩ (View.ld (Val := Elt Ideal) (S := S1x8x8) (e' := .f32) xo15 (Rect.unit ![0, 1, 0] S1x1x8.size inb_S1x8x8_S1x1x8_0_1_0)) (ix3 0 0 k) := by
  unfold out0_B_15
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_not_mem _ _ _ _ _ _ rfl 1 (by simp)]
  rw [View.read_writes_cons_unit_of_mem _ _ _ _ _ _ (ix3 0 0 k) rfl (by intro a; fin_cases a <;> simp)]

  rfl

theorem o_B_15_2 (k : Fin 8) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 2 k) =
      w786 ⟨i, x0, x1, x2, x3, x4, x5, x6, x7, x8, x9, xs0⟩ (View.ld (Val := Elt Ideal) (S := S1x8x8) (e' := .f32) xo15 (Rect.unit ![0, 2, 0] S1x1x8.size inb_S1x8x8_S1x1x8_0_2_0)) (ix3 0 0 k) := by
  unfold out0_B_15
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_mem _ _ _ _ _ _ (ix3 0 0 k) rfl (by intro a; fin_cases a <;> simp)]

  rfl

theorem o_B_16_0 (k : Fin 512) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 0 k) =
      w792 ⟨i, x0, x1, x2, x3, x4, x5, x6, x7, x8, x9, xs0⟩ (View.ld (Val := Elt Ideal) (S := S1x8x512) (e' := .f32) xo16 (Rect.unit ![0, 0, 0] S1x1x512.size inb_S1x8x512_S1x1x512_0_0_0)) (ix3 0 0 k) := by
  unfold out0_B_16
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_mem _ _ _ _ _ _ (ix3 0 0 k) rfl (by intro a; fin_cases a <;> simp)]

  rfl

end B

section A
variable (hc0 : cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16)

theorem o_A_15_0 (k : Fin 8) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 0 k) =
      w759 ⟨i, x0, x1, x2, x3, x4, x5, x6, x7, x8, x9, k0_pay3 (F := Ideal)⟩ (View.ld (Val := Elt Ideal) (S := S1x8x8) (e' := .f32) (k0_pay4 (F := Ideal)) (Rect.unit ![0, 0, 0] S1x1x8.size inb_S1x8x8_S1x1x8_0_0_0)) (ix3 0 0 k) := by
  unfold out0_A_15
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_not_mem _ _ _ _ _ _ rfl 1 (by simp)]
  rw [View.read_writes_cons_unit_of_not_mem _ _ _ _ _ _ rfl 1 (by simp)]
  rw [View.read_writes_cons_unit_of_mem _ _ _ _ _ _ (ix3 0 0 k) rfl (by intro a; fin_cases a <;> simp)]
  rw [View.readCov_fill _ _ _ _ _ (fun a => by fin_cases a <;> rfl)]
  rfl

theorem o_A_15_1 (k : Fin 8) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 1 k) =
      w765 ⟨i, x0, x1, x2, x3, x4, x5, x6, x7, x8, x9, k0_pay3 (F := Ideal)⟩ (View.ld (Val := Elt Ideal) (S := S1x8x8) (e' := .f32) (k0_pay4 (F := Ideal)) (Rect.unit ![0, 1, 0] S1x1x8.size inb_S1x8x8_S1x1x8_0_1_0)) (ix3 0 0 k) := by
  unfold out0_A_15
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_not_mem _ _ _ _ _ _ rfl 1 (by simp)]
  rw [View.read_writes_cons_unit_of_mem _ _ _ _ _ _ (ix3 0 0 k) rfl (by intro a; fin_cases a <;> simp)]
  rw [View.readCov_skip _ _ _ _ _ rfl, View.readCov_fill _ _ _ _ _ (fun a => by fin_cases a <;> rfl)]
  rfl

theorem o_A_15_2 (k : Fin 8) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 2 k) =
      w786 ⟨i, x0, x1, x2, x3, x4, x5, x6, x7, x8, x9, k0_pay3 (F := Ideal)⟩ (View.ld (Val := Elt Ideal) (S := S1x8x8) (e' := .f32) (k0_pay4 (F := Ideal)) (Rect.unit ![0, 2, 0] S1x1x8.size inb_S1x8x8_S1x1x8_0_2_0)) (ix3 0 0 k) := by
  unfold out0_A_15
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_mem _ _ _ _ _ _ (ix3 0 0 k) rfl (by intro a; fin_cases a <;> simp)]
  rw [View.readCov_skip _ _ _ _ _ rfl, View.readCov_skip _ _ _ _ _ rfl, View.readCov_fill _ _ _ _ _ (fun a => by fin_cases a <;> rfl)]
  rfl

theorem o_A_16_0 (k : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 0 k) =
      w792 ⟨i, x0, x1, x2, x3, x4, x5, x6, x7, x8, x9, k0_pay3 (F := Ideal)⟩ (View.ld (Val := Elt Ideal) (S := S1x8x512) (e' := .f32) (k0_pay5 (F := Ideal)) (Rect.unit ![0, 0, 0] S1x1x512.size inb_S1x8x512_S1x1x512_0_0_0)) (ix3 0 0 k) := by
  unfold out0_A_16
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_mem _ _ _ _ _ _ (ix3 0 0 k) rfl (by intro a; fin_cases a <;> simp)]
  rw [View.readCov_fill _ _ _ _ _ (fun a => by fin_cases a <;> rfl)]
  rfl

end A

end Cert.KernelIdeal.Body
-- ==== Proof.OpenRest.lean ====
module

public import proofs.«01_k».proof.Proof.OpenAcc
public import Idealize.ShloMosaic.Lib.WritesUnit
public import Idealize.ShloMosaic.Lib.Pipeline.ReadBack

/-! What a grid step leaves in the accumulated buffers' rows that it does not write: what was there. -/

@[expose] public section
set_option maxRecDepth 65536
noncomputable section
namespace Cert.KernelIdeal.Body
open Cert.KernelIdeal Cert.KernelIdeal.Gen Idealize.ShloMosaic Idealize.ShloMosaic.TcCoe

variable (c : Dev nD) (i : grid0.Coords)
  (arg2 : Memref sig .tc .vmem S256x512 .f32) (harg2 : arg2.IsWhole)
  (arg3 : Memref sig .tc .vmem S256x128 .f32) (harg3 : arg3.IsWhole)
  (arg4 : Memref sig .tc .vmem S256x128 .f32) (harg4 : arg4.IsWhole)
  (arg5 : Memref sig .tc .vmem S256x512 .f32) (harg5 : arg5.IsWhole)
  (arg6 : Memref sig .tc .vmem S1x256x8 .f32) (harg6 : arg6.IsWhole)
  (arg7 : Memref sig .tc .vmem S1x8x8 .f32) (harg7 : arg7.IsWhole)
  (arg8 : Memref sig .tc .vmem S1x512 .f32) (harg8 : arg8.IsWhole)
  (arg9 : Memref sig .tc .vmem S256x512 .f32) (harg9 : arg9.IsWhole)
  (arg10 : Memref sig .tc .vmem S1x1x128x512 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x128 .bf16) (harg13 : arg13.IsWhole)
  (arg14 : Memref sig .tc .vmem S256x128 .bf16) (harg14 : arg14.IsWhole)
  (arg15 : Memref sig .tc .vmem S256x512 .bf16) (harg15 : arg15.IsWhole)
  (arg16 : Memref sig .tc .vmem S1x256x8 .f32) (harg16 : arg16.IsWhole)
  (arg17 : Memref sig .tc .vmem S1x8x8 .f32) (harg17 : arg17.IsWhole)
  (arg18 : Memref sig .tc .vmem S1x8x512 .f32) (harg18 : arg18.IsWhole)
  (arg19 : Memref sig .tc .vmem S128x512 .f32) (harg19 : arg19.IsWhole)

section B
variable (hc0 : ¬cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16) (xo15 : Vec Ideal S1x8x8 .f32) (xo16 : Vec Ideal S1x8x512 .f32) (xs0 : Vec Ideal S128x512 .f32)

theorem o_B_15_rest (r : Fin 8) (hr : 3 ≤ (r : ℕ)) (k : Fin 8) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 r k) = xo15 (ix3 0 r k) := by
  unfold out0_B_15
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_not_mem _ _ _ _ _ _ rfl 1 (by simp; omega)]
  rw [View.read_writes_cons_unit_of_not_mem _ _ _ _ _ _ rfl 1 (by simp; omega)]
  rw [View.read_writes_cons_unit_of_not_mem _ _ _ _ _ _ rfl 1 (by simp; omega)]
  rw [View.writes_nil, harg17.read_unread]

theorem o_B_16_rest (r : Fin 8) (hr : 1 ≤ (r : ℕ)) (k : Fin 512) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo15 xo16 xs0 (ix3 0 r k) = xo16 (ix3 0 r k) := by
  unfold out0_B_16
  unfold kernelRun0_B
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]
  rw [View.read_writes_cons_unit_of_not_mem _ _ _ _ _ _ rfl 1 (by simp; omega)]
  rw [View.writes_nil, harg18.read_unread]

end B

section A
variable (hc0 : cond0_0 i)
  (x0 : Vec Ideal S256x512 .f32) (x1 : Vec Ideal S256x128 .f32) (x2 : Vec Ideal S256x128 .f32) (x3 : Vec Ideal S256x512 .f32) (x4 : Vec Ideal S1x256x8 .f32) (x5 : Vec Ideal S1x8x8 .f32) (x6 : Vec Ideal S1x512 .f32) (x7 : Vec Ideal S256x512 .f32) (x8 : Vec Ideal S1x1x128x512 .f32) (x9 : Vec Ideal S256x512 .bf16)

theorem o_A_15_rest (r : Fin 8) (hr : 3 ≤ (r : ℕ)) (k : Fin 8) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 r k) = k0_pay4 (F := Ideal) (ix3 0 r k) := by
  unfold out0_A_15
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_not_mem _ _ _ _ _ _ rfl 1 (by simp; omega)]
  rw [View.read_writes_cons_unit_of_not_mem _ _ _ _ _ _ rfl 1 (by simp; omega)]
  rw [View.read_writes_cons_unit_of_not_mem _ _ _ _ _ _ rfl 1 (by simp; omega)]
  rw [View.read_writes_cons_unit_of_mem _ _ _ _ _ _ (ix3 0 r k) rfl (by intro a; fin_cases a <;> simp)]

theorem o_A_16_rest (r : Fin 8) (hr : 1 ≤ (r : ℕ)) (k : Fin 512) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix3 0 r k) = k0_pay5 (F := Ideal) (ix3 0 r k) := by
  unfold out0_A_16
  unfold kernelRun0_A
  dsimp only
  sl_unfold_words
  simp only [View.readAt_eq_ld, Memref.IsWhole.read_unread,
    View.ld_unit_zero (S := S256x512) z2, View.ld_unit_zero (S := S256x128) z2, View.ld_unit_zero (S := S1x512) z2, View.ld_unit_zero (S := S128x512) z2, View.ld_unit_zero (S := S1x256x8) z3, View.ld_unit_zero (S := S1x1x128x512) z4]

  try simp only [View.readCov_unit_zero (S := S128x512) _ z2]
  rw [View.read_writes_cons_unit_of_not_mem _ _ _ _ _ _ rfl 1 (by simp; omega)]
  rw [View.read_writes_cons_unit_of_mem _ _ _ _ _ _ (ix3 0 r k) rfl (by intro a; fin_cases a <;> simp)]

end A

end Cert.KernelIdeal.Body
-- ==== Proof.GridStep.lean ====
module

public import proofs.«01_k».proof.Proof.GridRead
public import proofs.«01_k».proof.Proof.OpenRest

/-! What the call's step at a grid point leaves in its buffers, from what the point before left: at the first block of a
    group over zeros, at the others over the point before's. -/

@[expose] public section
set_option maxRecDepth 65536
set_option maxHeartbeats 1000000
noncomputable section

namespace Cert.KernelIdeal.Grid

open Cert.KernelIdeal Cert.KernelIdeal.Body Cert.KernelIdeal.Gen Idealize.ShloMosaic Idealize.ShloMosaic.TcCoe

variable (m : (ℓ : Loc nD τ sig) → Buf (Elt Ideal) ℓ) (c : Dev nD)

attribute [local irreducible] out0_A_10 out0_A_11 out0_A_12 out0_A_13 out0_A_14 out0_A_15 out0_A_16 sout0_A_0
  out0_B_10 out0_B_11 out0_B_12 out0_B_13 out0_B_14 out0_B_15 out0_B_16 sout0_B_0 outsAt0 iblk

/-- What the state gradient's buffer and the two accumulated buffers hold before a point's step. -/
def dsIn (t : Fin cfg0.N) : Vec Ideal S128x512 .f32 :=
  if t.val % 33 = 0 then k0_pay3 (F := Ideal) else (outsAt0 m c (t.val - 1) (lt_of_le_of_lt (Nat.sub_le _ _) t.isLt)).2.2.2.2.2.2.2
def prmIn (t : Fin cfg0.N) : Vec Ideal S1x8x8 .f32 :=
  if t.val % 33 = 0 then k0_pay4 (F := Ideal) else (outsAt0 m c (t.val - 1) (lt_of_le_of_lt (Nat.sub_le _ _) t.isLt)).2.2.2.2.2.1
def ggIn (t : Fin cfg0.N) : Vec Ideal S1x8x512 .f32 :=
  if t.val % 33 = 0 then k0_pay5 (F := Ideal) else (outsAt0 m c (t.val - 1) (lt_of_le_of_lt (Nat.sub_le _ _) t.isLt)).2.2.2.2.2.2.1

theorem step_10 (t : Fin cfg0.N) :
    (outsAt0 m c t.val t.isLt).1 = w746 (rawAt m c (dsIn m c t) t) := by
  unfold dsIn rawAt
  by_cases h0 : t.val % 33 = 0
  · rw [outsAt0_A m c t h0, if_pos h0]
    exact o_A_10 ..
  · rw [outsAt0_B m c t h0, if_neg h0]
    exact o_B_10 ..

theorem step_11 (t : Fin cfg0.N) :
    (outsAt0 m c t.val t.isLt).2.1 = w624 (rawAt m c (dsIn m c t) t) := by
  unfold dsIn rawAt
  by_cases h0 : t.val % 33 = 0
  · rw [outsAt0_A m c t h0, if_pos h0]
    exact o_A_11 ..
  · rw [outsAt0_B m c t h0, if_neg h0]
    exact o_B_11 ..

theorem step_12 (t : Fin cfg0.N) :
    (outsAt0 m c t.val t.isLt).2.2.1 = w616 (rawAt m c (dsIn m c t) t) := by
  unfold dsIn rawAt
  by_cases h0 : t.val % 33 = 0
  · rw [outsAt0_A m c t h0, if_pos h0]
    exact o_A_12 ..
  · rw [outsAt0_B m c t h0, if_neg h0]
    exact o_B_12 ..

theorem step_13 (t : Fin cfg0.N) :
    (outsAt0 m c t.val t.isLt).2.2.2.1 = w235 (rawAt m c (dsIn m c t) t) := by
  unfold dsIn rawAt
  by_cases h0 : t.val % 33 = 0
  · rw [outsAt0_A m c t h0, if_pos h0]
    exact o_A_13 ..
  · rw [outsAt0_B m c t h0, if_neg h0]
    exact o_B_13 ..

theorem step_14 (t : Fin cfg0.N) :
    (outsAt0 m c t.val t.isLt).2.2.2.2.1 = w741 (rawAt m c (dsIn m c t) t) := by
  unfold dsIn rawAt
  by_cases h0 : t.val % 33 = 0
  · rw [outsAt0_A m c t h0, if_pos h0]
    exact o_A_14 ..
  · rw [outsAt0_B m c t h0, if_neg h0]
    exact o_B_14 ..

theorem step_s (t : Fin cfg0.N) :
    (outsAt0 m c t.val t.isLt).2.2.2.2.2.2.2 = w633 (rawAt m c (dsIn m c t) t) := by
  unfold dsIn rawAt
  by_cases h0 : t.val % 33 = 0
  · rw [outsAt0_A m c t h0, if_pos h0]
    exact so_A_0 ..
  · rw [outsAt0_B m c t h0, if_neg h0]
    exact so_B_0 ..

theorem step_15_0 (t : Fin cfg0.N) (k : Fin 8) :
    (outsAt0 m c t.val t.isLt).2.2.2.2.2.1 (ix3 0 0 k) = w759 (rawAt m c (dsIn m c t) t)
      (View.ld (Val := Elt Ideal) (S := S1x8x8) (e' := .f32) (prmIn m c t) (Rect.unit ![0, 0, 0] S1x1x8.size inb_S1x8x8_S1x1x8_0_0_0)) (ix3 0 0 k) := by
  unfold dsIn rawAt prmIn
  by_cases h0 : t.val % 33 = 0
  · rw [outsAt0_A m c t h0, if_pos h0, if_pos h0]
    exact o_A_15_0 ..
  · rw [outsAt0_B m c t h0, if_neg h0, if_neg h0]
    exact o_B_15_0 ..

theorem step_15_1 (t : Fin cfg0.N) (k : Fin 8) :
    (outsAt0 m c t.val t.isLt).2.2.2.2.2.1 (ix3 0 1 k) = w765 (rawAt m c (dsIn m c t) t)
      (View.ld (Val := Elt Ideal) (S := S1x8x8) (e' := .f32) (prmIn m c t) (Rect.unit ![0, 1, 0] S1x1x8.size inb_S1x8x8_S1x1x8_0_1_0)) (ix3 0 0 k) := by
  unfold dsIn rawAt prmIn
  by_cases h0 : t.val % 33 = 0
  · rw [outsAt0_A m c t h0, if_pos h0, if_pos h0]
    exact o_A_15_1 ..
  · rw [outsAt0_B m c t h0, if_neg h0, if_neg h0]
    exact o_B_15_1 ..

theorem step_15_2 (t : Fin cfg0.N) (k : Fin 8) :
    (outsAt0 m c t.val t.isLt).2.2.2.2.2.1 (ix3 0 2 k) = w786 (rawAt m c (dsIn m c t) t)
      (View.ld (Val := Elt Ideal) (S := S1x8x8) (e' := .f32) (prmIn m c t) (Rect.unit ![0, 2, 0] S1x1x8.size inb_S1x8x8_S1x1x8_0_2_0)) (ix3 0 0 k) := by
  unfold dsIn rawAt prmIn
  by_cases h0 : t.val % 33 = 0
  · rw [outsAt0_A m c t h0, if_pos h0, if_pos h0]
    exact o_A_15_2 ..
  · rw [outsAt0_B m c t h0, if_neg h0, if_neg h0]
    exact o_B_15_2 ..

theorem step_16_0 (t : Fin cfg0.N) (k : Fin 512) :
    (outsAt0 m c t.val t.isLt).2.2.2.2.2.2.1 (ix3 0 0 k) = w792 (rawAt m c (dsIn m c t) t)
      (View.ld (Val := Elt Ideal) (S := S1x8x512) (e' := .f32) (ggIn m c t) (Rect.unit ![0, 0, 0] S1x1x512.size inb_S1x8x512_S1x1x512_0_0_0)) (ix3 0 0 k) := by
  unfold dsIn rawAt ggIn
  by_cases h0 : t.val % 33 = 0
  · rw [outsAt0_A m c t h0, if_pos h0, if_pos h0]
    exact o_A_16_0 ..
  · rw [outsAt0_B m c t h0, if_neg h0, if_neg h0]
    exact o_B_16_0 ..

theorem step_15_rest (t : Fin cfg0.N) (r : Fin 8) (hr : 3 ≤ (r : ℕ)) (k : Fin 8) :
    (outsAt0 m c t.val t.isLt).2.2.2.2.2.1 (ix3 0 r k) = prmIn m c t (ix3 0 r k) := by
  unfold prmIn
  by_cases h0 : t.val % 33 = 0
  · rw [outsAt0_A m c t h0, if_pos h0]
    exact o_A_15_rest (hr := hr) ..
  · rw [outsAt0_B m c t h0, if_neg h0]
    exact o_B_15_rest (hr := hr) ..

theorem step_16_rest (t : Fin cfg0.N) (r : Fin 8) (hr : 1 ≤ (r : ℕ)) (k : Fin 512) :
    (outsAt0 m c t.val t.isLt).2.2.2.2.2.2.1 (ix3 0 r k) = ggIn m c t (ix3 0 r k) := by
  unfold ggIn
  by_cases h0 : t.val % 33 = 0
  · rw [outsAt0_A m c t h0, if_pos h0]
    exact o_A_16_rest (hr := hr) ..
  · rw [outsAt0_B m c t h0, if_neg h0]
    exact o_B_16_rest (hr := hr) ..

theorem zero3 (i : Fin 128) (j : Fin 512) : k0_pay3 (F := Ideal) (ix2 i j) = ((0 : ℝ) : EReal) := by
  unfold k0_pay3
  pointwise
  exact Lift.zero_coe

theorem zero4 (i : Fin 1) (r : Fin 8) (k : Fin 8) : k0_pay4 (F := Ideal) (ix3 i r k) = ((0 : ℝ) : EReal) := by
  unfold k0_pay4
  pointwise
  exact Lift.zero_coe

theorem zero5 (i : Fin 1) (r : Fin 8) (k : Fin 512) : k0_pay5 (F := Ideal) (ix3 i r k) = ((0 : ℝ) : EReal) := by
  unfold k0_pay5
  pointwise
  exact Lift.zero_coe

theorem ld_S1x1x8_0 (P : Vec Ideal S1x8x8 .f32) (i j : Fin 1) (k : Fin 8) :
    View.ld (Val := Elt Ideal) (S := S1x8x8) (e' := .f32) P (Rect.unit ![0, 0, 0] S1x1x8.size inb_S1x8x8_S1x1x8_0_0_0) (ix3 i j k) = P (ix3 0 0 k) := by
  refine congrArg P (funext fun a => Fin.ext ?_)
  fin_cases i; fin_cases j
  fin_cases a <;> simp [Rect.unit, LoadRect.idx]

theorem ld_S1x1x8_1 (P : Vec Ideal S1x8x8 .f32) (i j : Fin 1) (k : Fin 8) :
    View.ld (Val := Elt Ideal) (S := S1x8x8) (e' := .f32) P (Rect.unit ![0, 1, 0] S1x1x8.size inb_S1x8x8_S1x1x8_0_1_0) (ix3 i j k) = P (ix3 0 1 k) := by
  refine congrArg P (funext fun a => Fin.ext ?_)
  fin_cases i; fin_cases j
  fin_cases a <;> simp [Rect.unit, LoadRect.idx]

theorem ld_S1x1x8_2 (P : Vec Ideal S1x8x8 .f32) (i j : Fin 1) (k : Fin 8) :
    View.ld (Val := Elt Ideal) (S := S1x8x8) (e' := .f32) P (Rect.unit ![0, 2, 0] S1x1x8.size inb_S1x8x8_S1x1x8_0_2_0) (ix3 i j k) = P (ix3 0 2 k) := by
  refine congrArg P (funext fun a => Fin.ext ?_)
  fin_cases i; fin_cases j
  fin_cases a <;> simp [Rect.unit, LoadRect.idx]

theorem ld_S1x1x512_0 (P : Vec Ideal S1x8x512 .f32) (i j : Fin 1) (k : Fin 512) :
    View.ld (Val := Elt Ideal) (S := S1x8x512) (e' := .f32) P (Rect.unit ![0, 0, 0] S1x1x512.size inb_S1x8x512_S1x1x512_0_0_0) (ix3 i j k) = P (ix3 0 0 k) := by
  refine congrArg P (funext fun a => Fin.ext ?_)
  fin_cases i; fin_cases j
  fin_cases a <;> simp [Rect.unit, LoadRect.idx]

end Cert.KernelIdeal.Grid
-- ==== Proof.GridInv.lean ====
module

public import proofs.«01_k».proof.Proof.GridStep

/-! What the call's buffers hold after each grid point: the block's results, the state gradient handed on, and the
    sums of the parameters' gradients over the blocks done so far. -/

@[expose] public section
set_option maxRecDepth 65536
set_option maxHeartbeats 1000000
noncomputable section

namespace Cert.KernelIdeal.Grid

open Cert.KernelIdeal Cert.KernelIdeal.Body Cert.KernelIdeal.Gen Idealize.ShloMosaic Idealize.ShloMosaic.TcCoe

attribute [local irreducible] outsAt0 iblk rawAt w746 w624 w616 w235 w741 w633 w759 w765 w786 w792

variable (m : (ℓ : Loc nD τ sig) → Buf (Elt Ideal) ℓ) (c : Dev nD)
variable (S : Sq) (h : Host.Reals S (Host.argsOf m c))
include h

/-- The state gradient after a point is the block's. -/
theorem ds_after (n : ℕ) : ∀ (hn : n < cfg0.N) (i : Fin 128) (j : Fin 512),
    (outsAt0 m c n hn).2.2.2.2.2.2.2 (ix2 i j) = ((Blk.ds' (Grp.blk (S.grp (n / 33)) (32 - n % 33)) i j : ℝ) : EReal) := by
  induction n using Nat.strong_induction_on with
  | _ n ih =>
    intro hn i j
    have hs : ∀ (i : Fin 128) (j : Fin 512), dsIn m c ⟨n, hn⟩ (ix2 i j)
        = (((S.grp (n / 33)).dst (32 - n % 33) i j : ℝ) : EReal) := by
      intro i j
      unfold dsIn
      by_cases h0 : n % 33 = 0
      · rw [if_pos h0, zero3, h0]
        exact congrArg _ (Grp.dst_last _ _ _).symm
      · rw [if_neg h0]
        refine (ih (n - 1) (by omega) _ i j).trans (congrArg _ ?_)
        rw [show (n - 1) / 33 = n / 33 by omega, show 32 - (n - 1) % 33 = 32 - n % 33 + 1 by omega]
        exact Grp.ds_blk _ _ _ _ (by omega)
    have e := step_s m c ⟨n, hn⟩
    dsimp only at e
    rw [e]
    exact r633 _ _ (reads m c S h _ ⟨n, hn⟩ hs) i j

/-- The state gradient before a point's step. -/
theorem dsIn_val (t : Fin cfg0.N) (i : Fin 128) (j : Fin 512) :
    dsIn m c t (ix2 i j) = (((S.grp (grpAt t)).dst (blkAt t) i j : ℝ) : EReal) := by
  unfold dsIn grpAt blkAt
  by_cases h0 : t.val % 33 = 0
  · rw [if_pos h0, zero3, h0]
    exact congrArg _ (Grp.dst_last _ _ _).symm
  · rw [if_neg h0]
    refine (ds_after m c S h (t.val - 1) _ i j).trans (congrArg _ ?_)
    rw [show (t.val - 1) / 33 = t.val / 33 by omega, show 32 - (t.val - 1) % 33 = 32 - t.val % 33 + 1 by omega]
    exact Grp.ds_blk _ _ _ _ (by omega)

theorem readsAt (t : Fin cfg0.N) : Reads (Grp.blk (S.grp (grpAt t)) (blkAt t)) (rawAt m c (dsIn m c t) t) :=
  reads m c S h _ t (dsIn_val m c S h t)

theorem after_10 (t : Fin cfg0.N) (i : Fin 256) (j : Fin 512) : (outsAt0 m c t.val t.isLt).1 (ix2 i j)
    = (((S.grp (grpAt t)).dx (256 * blkAt t + i) j : ℝ) : EReal) := by
  rw [step_10]
  exact (r746 _ _ (readsAt m c S h t) i j).trans (congrArg _ (Grp.dx_blk _ _ _ _ (by unfold blkAt; omega) i.isLt))

theorem after_11 (t : Fin cfg0.N) (i : Fin 256) (j : Fin 128) : (outsAt0 m c t.val t.isLt).2.1 (ix2 i j)
    = (((S.grp (grpAt t)).db (256 * blkAt t + i) j : ℝ) : EReal) := by
  rw [step_11]
  exact (r624 _ _ (readsAt m c S h t) i j).trans (congrArg _ (Grp.db_blk _ _ _ _ (by unfold blkAt; omega) i.isLt))

theorem after_12 (t : Fin cfg0.N) (i : Fin 256) (j : Fin 128) : (outsAt0 m c t.val t.isLt).2.2.1 (ix2 i j)
    = (((S.grp (grpAt t)).dc (256 * blkAt t + i) j : ℝ) : EReal) := by
  rw [step_12]
  exact (r616 _ _ (readsAt m c S h t) i j).trans (congrArg _ (Grp.dc_blk _ _ _ _ (by unfold blkAt; omega) i.isLt))

theorem after_13 (t : Fin cfg0.N) (i : Fin 256) (j : Fin 512) : (outsAt0 m c t.val t.isLt).2.2.2.1 (ix2 i j)
    = (((S.grp (grpAt t)).dz (256 * blkAt t + i) j : ℝ) : EReal) := by
  rw [step_13]
  exact (r235 _ _ (readsAt m c S h t) i j).trans (congrArg _ (Grp.dz_blk _ _ _ _))

theorem after_14 (t : Fin cfg0.N) (i : Fin 1) (j : Fin 256) (k : Fin 8) : (outsAt0 m c t.val t.isLt).2.2.2.2.1 (ix3 i j k)
    = (((S.grp (grpAt t)).ddtr (256 * blkAt t + j) k : ℝ) : EReal) := by
  rw [step_14]
  exact (r741 _ _ (readsAt m c S h t) i j k).trans (congrArg _ (Grp.ddtr_blk _ _ _ _ (by unfold blkAt; omega) j.isLt))

theorem after_15_0 (n : ℕ) : ∀ (hn : n < cfg0.N) (k : Fin 8), (outsAt0 m c n hn).2.2.2.2.2.1 (ix3 0 0 k)
    = ((∑ ci ∈ Finset.range (n % 33 + 1), Blk.dbias (Grp.blk (S.grp (n / 33)) (32 - ci)) k : ℝ) : EReal) := by
  induction n using Nat.strong_induction_on with
  | _ n ih =>
    intro hn k
    have hp : ∀ k : Fin 8, prmIn m c ⟨n, hn⟩ (ix3 0 0 k)
        = ((∑ ci ∈ Finset.range (n % 33), Blk.dbias (Grp.blk (S.grp (n / 33)) (32 - ci)) k : ℝ) : EReal) := by
      intro k
      unfold prmIn
      by_cases h0 : n % 33 = 0
      · rw [if_pos h0, zero4, h0, Finset.range_zero, Finset.sum_empty]
      · rw [if_neg h0]
        refine (ih (n - 1) (by omega) _ k).trans (congrArg _ ?_)
        rw [show (n - 1) / 33 = n / 33 by omega, show (n - 1) % 33 + 1 = n % 33 by omega]
    have e := step_15_0 m c ⟨n, hn⟩ k
    dsimp only at e
    rw [e]
    refine (r759 _ _ (readsAt m c S h ⟨n, hn⟩)
      (fun k => ∑ ci ∈ Finset.range (n % 33), Blk.dbias (Grp.blk (S.grp (n / 33)) (32 - ci)) k) _
      (fun i j k => (ld_S1x1x8_0 _ i j k).trans (hp k)) 0 0 k).trans (congrArg _ ?_)
    rw [Finset.sum_range_succ]

theorem after_15_1 (n : ℕ) : ∀ (hn : n < cfg0.N) (k : Fin 8), (outsAt0 m c n hn).2.2.2.2.2.1 (ix3 0 1 k)
    = ((∑ ci ∈ Finset.range (n % 33 + 1), Blk.dalog (Grp.blk (S.grp (n / 33)) (32 - ci)) k : ℝ) : EReal) := by
  induction n using Nat.strong_induction_on with
  | _ n ih =>
    intro hn k
    have hp : ∀ k : Fin 8, prmIn m c ⟨n, hn⟩ (ix3 0 1 k)
        = ((∑ ci ∈ Finset.range (n % 33), Blk.dalog (Grp.blk (S.grp (n / 33)) (32 - ci)) k : ℝ) : EReal) := by
      intro k
      unfold prmIn
      by_cases h0 : n % 33 = 0
      · rw [if_pos h0, zero4, h0, Finset.range_zero, Finset.sum_empty]
      · rw [if_neg h0]
        refine (ih (n - 1) (by omega) _ k).trans (congrArg _ ?_)
        rw [show (n - 1) / 33 = n / 33 by omega, show (n - 1) % 33 + 1 = n % 33 by omega]
    have e := step_15_1 m c ⟨n, hn⟩ k
    dsimp only at e
    rw [e]
    refine (r765 _ _ (readsAt m c S h ⟨n, hn⟩)
      (fun k => ∑ ci ∈ Finset.range (n % 33), Blk.dalog (Grp.blk (S.grp (n / 33)) (32 - ci)) k) _
      (fun i j k => (ld_S1x1x8_1 _ i j k).trans (hp k)) 0 0 k).trans (congrArg _ ?_)
    rw [Finset.sum_range_succ]

theorem after_15_2 (n : ℕ) : ∀ (hn : n < cfg0.N) (k : Fin 8), (outsAt0 m c n hn).2.2.2.2.2.1 (ix3 0 2 k)
    = ((∑ ci ∈ Finset.range (n % 33 + 1), Blk.ddsk (Grp.blk (S.grp (n / 33)) (32 - ci)) k : ℝ) : EReal) := by
  induction n using Nat.strong_induction_on with
  | _ n ih =>
    intro hn k
    have hp : ∀ k : Fin 8, prmIn m c ⟨n, hn⟩ (ix3 0 2 k)
        = ((∑ ci ∈ Finset.range (n % 33), Blk.ddsk (Grp.blk (S.grp (n / 33)) (32 - ci)) k : ℝ) : EReal) := by
      intro k
      unfold prmIn
      by_cases h0 : n % 33 = 0
      · rw [if_pos h0, zero4, h0, Finset.range_zero, Finset.sum_empty]
      · rw [if_neg h0]
        refine (ih (n - 1) (by omega) _ k).trans (congrArg _ ?_)
        rw [show (n - 1) / 33 = n / 33 by omega, show (n - 1) % 33 + 1 = n % 33 by omega]
    have e := step_15_2 m c ⟨n, hn⟩ k
    dsimp only at e
    rw [e]
    refine (r786 _ _ (readsAt m c S h ⟨n, hn⟩)
      (fun k => ∑ ci ∈ Finset.range (n % 33), Blk.ddsk (Grp.blk (S.grp (n / 33)) (32 - ci)) k) _
      (fun i j k => (ld_S1x1x8_2 _ i j k).trans (hp k)) 0 0 k).trans (congrArg _ ?_)
    rw [Finset.sum_range_succ]

theorem after_16_0 (n : ℕ) : ∀ (hn : n < cfg0.N) (k : Fin 512), (outsAt0 m c n hn).2.2.2.2.2.2.1 (ix3 0 0 k)
    = ((∑ ci ∈ Finset.range (n % 33 + 1), Blk.dgg (Grp.blk (S.grp (n / 33)) (32 - ci)) k : ℝ) : EReal) := by
  induction n using Nat.strong_induction_on with
  | _ n ih =>
    intro hn k
    have hp : ∀ k : Fin 512, ggIn m c ⟨n, hn⟩ (ix3 0 0 k)
        = ((∑ ci ∈ Finset.range (n % 33), Blk.dgg (Grp.blk (S.grp (n / 33)) (32 - ci)) k : ℝ) : EReal) := by
      intro k
      unfold ggIn
      by_cases h0 : n % 33 = 0
      · rw [if_pos h0, zero5, h0, Finset.range_zero, Finset.sum_empty]
      · rw [if_neg h0]
        refine (ih (n - 1) (by omega) _ k).trans (congrArg _ ?_)
        rw [show (n - 1) / 33 = n / 33 by omega, show (n - 1) % 33 + 1 = n % 33 by omega]
    have e := step_16_0 m c ⟨n, hn⟩ k
    dsimp only at e
    rw [e]
    refine (r792 _ _ (readsAt m c S h ⟨n, hn⟩)
      (fun k => ∑ ci ∈ Finset.range (n % 33), Blk.dgg (Grp.blk (S.grp (n / 33)) (32 - ci)) k) _
      (fun i j k => (ld_S1x1x512_0 _ i j k).trans (hp k)) 0 0 k).trans (congrArg _ ?_)
    rw [Finset.sum_range_succ]

omit h in
theorem after_15_rest (n : ℕ) : ∀ (hn : n < cfg0.N) (r : Fin 8) (hr : 3 ≤ (r : ℕ)) (k : Fin 8),
    (outsAt0 m c n hn).2.2.2.2.2.1 (ix3 0 r k) = ((0 : ℝ) : EReal) := by
  induction n using Nat.strong_induction_on with
  | _ n ih =>
    intro hn r hr k
    have e := step_15_rest m c ⟨n, hn⟩ r hr k
    dsimp only at e
    rw [e]
    unfold prmIn
    by_cases h0 : n % 33 = 0
    · rw [if_pos h0, zero4]
    · rw [if_neg h0]
      exact ih (n - 1) (by omega) _ r hr k

omit h in
theorem after_16_rest (n : ℕ) : ∀ (hn : n < cfg0.N) (r : Fin 8) (hr : 1 ≤ (r : ℕ)) (k : Fin 512),
    (outsAt0 m c n hn).2.2.2.2.2.2.1 (ix3 0 r k) = ((0 : ℝ) : EReal) := by
  induction n using Nat.strong_induction_on with
  | _ n ih =>
    intro hn r hr k
    have e := step_16_rest m c ⟨n, hn⟩ r hr k
    dsimp only at e
    rw [e]
    unfold ggIn
    by_cases h0 : n % 33 = 0
    · rw [if_pos h0, zero5]
    · rw [if_neg h0]
      exact ih (n - 1) (by omega) _ r hr k

end Cert.KernelIdeal.Grid
-- ==== Proof.GridOut.lean ====
module

public import proofs.«01_k».proof.Proof.GridInv
public import proofs.«01_k».proof.Proof.Gen.KernelIdeal.Value

/-! The call's result arrays. -/

@[expose] public section
set_option maxRecDepth 65536
set_option maxHeartbeats 1000000
noncomputable section

namespace Cert.KernelIdeal.Grid

open Cert.KernelIdeal Cert.KernelIdeal.Body Cert.KernelIdeal.Gen Idealize.ShloMosaic Idealize.ShloMosaic.TcCoe

attribute [local irreducible] outsAt0 iblk

theorem at10 : ∀ t : Fin cfg0.N, win0_10.index t = ![32 - t.val % 33, t.val / 33] :=
  (by decide +kernel : ∀ t : Fin grid0.N, win0_10.index t = ![32 - t.val % 33, t.val / 33])
theorem at11 : ∀ t : Fin cfg0.N, win0_11.index t = ![32 - t.val % 33, t.val / 33] :=
  (by decide +kernel : ∀ t : Fin grid0.N, win0_11.index t = ![32 - t.val % 33, t.val / 33])
theorem at12 : ∀ t : Fin cfg0.N, win0_12.index t = ![32 - t.val % 33, t.val / 33] :=
  (by decide +kernel : ∀ t : Fin grid0.N, win0_12.index t = ![32 - t.val % 33, t.val / 33])
theorem at13 : ∀ t : Fin cfg0.N, win0_13.index t = ![32 - t.val % 33, t.val / 33] :=
  (by decide +kernel : ∀ t : Fin grid0.N, win0_13.index t = ![32 - t.val % 33, t.val / 33])
theorem at14 : ∀ t : Fin cfg0.N, win0_14.index t = ![t.val / 33, 32 - t.val % 33, 0] :=
  (by decide +kernel : ∀ t : Fin grid0.N, win0_14.index t = ![t.val / 33, 32 - t.val % 33, 0])
theorem at15 : ∀ t : Fin cfg0.N, win0_15.index t = ![t.val / 33, 0, 0] :=
  (by decide +kernel : ∀ t : Fin grid0.N, win0_15.index t = ![t.val / 33, 0, 0])
theorem at16 : ∀ t : Fin cfg0.N, win0_16.index t = ![t.val / 33, 0, 0] :=
  (by decide +kernel : ∀ t : Fin grid0.N, win0_16.index t = ![t.val / 33, 0, 0])

variable (m : (ℓ : Loc nD τ sig) → Buf (Elt Ideal) ℓ) (c : Dev nD)
variable (S : Sq) (h : Host.Reals S (Host.argsOf m c))
include h

theorem arr_10 : (dats m 0 c).arrAt 10 cfg0.N = fun i : S8448x2048.Idx =>
    (((S.grp ((i 1 : ℕ) / 512)).dx (i 0) ((i 1 : ℕ) % 512) : ℝ) : EReal) := by
  refine (dats m 0 c).arrAt_eq_of_covers 10 _ (by decide +kernel) fun t hf y => ?_
  blk_simp [at10]
  rw [after0_10]
  obtain ⟨i, j, rfl⟩ : ∃ (i : Fin 256) (j : Fin 512), y = ix2 i j := ⟨y 0, y 1, (by ext a; fin_cases a <;> rfl)⟩
  refine (after_10 m c S h t i j).trans (congrArg _ ?_)
  show (S.grp (t.val / 33)).dx (256 * (32 - t.val % 33) + i) j
    = (S.grp ((t.val / 33 * 512 + (j : ℕ)) / 512)).dx ((32 - t.val % 33) * 256 + (i : ℕ)) ((t.val / 33 * 512 + (j : ℕ)) % 512)
  have hj := j.isLt
  rw [show (t.val / 33 * 512 + (j : ℕ)) / 512 = t.val / 33 by omega, show (t.val / 33 * 512 + (j : ℕ)) % 512 = j by omega,
    Nat.mul_comm 256]

theorem arr_11 : (dats m 0 c).arrAt 11 cfg0.N = fun i : S8448x512.Idx =>
    (((S.grp ((i 1 : ℕ) / 128)).db (i 0) ((i 1 : ℕ) % 128) : ℝ) : EReal) := by
  refine (dats m 0 c).arrAt_eq_of_covers 11 _ (by decide +kernel) fun t hf y => ?_
  blk_simp [at11]
  rw [after0_11]
  obtain ⟨i, j, rfl⟩ : ∃ (i : Fin 256) (j : Fin 128), y = ix2 i j := ⟨y 0, y 1, (by ext a; fin_cases a <;> rfl)⟩
  refine (after_11 m c S h t i j).trans (congrArg _ ?_)
  show (S.grp (t.val / 33)).db (256 * (32 - t.val % 33) + i) j
    = (S.grp ((t.val / 33 * 128 + (j : ℕ)) / 128)).db ((32 - t.val % 33) * 256 + (i : ℕ)) ((t.val / 33 * 128 + (j : ℕ)) % 128)
  have hj := j.isLt
  rw [show (t.val / 33 * 128 + (j : ℕ)) / 128 = t.val / 33 by omega, show (t.val / 33 * 128 + (j : ℕ)) % 128 = j by omega,
    Nat.mul_comm 256]

theorem arr_12 : (dats m 0 c).arrAt 12 cfg0.N = fun i : S8448x512.Idx =>
    (((S.grp ((i 1 : ℕ) / 128)).dc (i 0) ((i 1 : ℕ) % 128) : ℝ) : EReal) := by
  refine (dats m 0 c).arrAt_eq_of_covers 12 _ (by decide +kernel) fun t hf y => ?_
  blk_simp [at12]
  rw [after0_12]
  obtain ⟨i, j, rfl⟩ : ∃ (i : Fin 256) (j : Fin 128), y = ix2 i j := ⟨y 0, y 1, (by ext a; fin_cases a <;> rfl)⟩
  refine (after_12 m c S h t i j).trans (congrArg _ ?_)
  show (S.grp (t.val / 33)).dc (256 * (32 - t.val % 33) + i) j
    = (S.grp ((t.val / 33 * 128 + (j : ℕ)) / 128)).dc ((32 - t.val % 33) * 256 + (i : ℕ)) ((t.val / 33 * 128 + (j : ℕ)) % 128)
  have hj := j.isLt
  rw [show (t.val / 33 * 128 + (j : ℕ)) / 128 = t.val / 33 by omega, show (t.val / 33 * 128 + (j : ℕ)) % 128 = j by omega,
    Nat.mul_comm 256]

theorem arr_13 : (dats m 0 c).arrAt 13 cfg0.N = fun i : S8448x2048.Idx =>
    (((S.grp ((i 1 : ℕ) / 512)).dz (i 0) ((i 1 : ℕ) % 512) : ℝ) : EReal) := by
  refine (dats m 0 c).arrAt_eq_of_covers 13 _ (by decide +kernel) fun t hf y => ?_
  blk_simp [at13]
  rw [after0_13]
  obtain ⟨i, j, rfl⟩ : ∃ (i : Fin 256) (j : Fin 512), y = ix2 i j := ⟨y 0, y 1, (by ext a; fin_cases a <;> rfl)⟩
  refine (after_13 m c S h t i j).trans (congrArg _ ?_)
  show (S.grp (t.val / 33)).dz (256 * (32 - t.val % 33) + i) j
    = (S.grp ((t.val / 33 * 512 + (j : ℕ)) / 512)).dz ((32 - t.val % 33) * 256 + (i : ℕ)) ((t.val / 33 * 512 + (j : ℕ)) % 512)
  have hj := j.isLt
  rw [show (t.val / 33 * 512 + (j : ℕ)) / 512 = t.val / 33 by omega, show (t.val / 33 * 512 + (j : ℕ)) % 512 = j by omega,
    Nat.mul_comm 256]

theorem arr_14 : (dats m 0 c).arrAt 14 cfg0.N = fun i : S4x8448x8.Idx =>
    (((S.grp (i 0)).ddtr (i 1) (i 2) : ℝ) : EReal) := by
  refine (dats m 0 c).arrAt_eq_of_covers 14 _ (by decide +kernel) fun t hf y => ?_
  blk_simp [at14]
  rw [after0_14]
  obtain ⟨i, j, k, rfl⟩ : ∃ (i : Fin 1) (j : Fin 256) (k : Fin 8), y = ix3 i j k := ⟨y 0, y 1, y 2, (by ext a; fin_cases a <;> rfl)⟩
  refine (after_14 m c S h t i j k).trans (congrArg _ ?_)
  show (S.grp (t.val / 33)).ddtr (256 * (32 - t.val % 33) + j) k
    = (S.grp (t.val / 33)).ddtr ((32 - t.val % 33) * 256 + (j : ℕ)) k
  rw [Nat.mul_comm 256]

theorem arr_15 : (dats m 0 c).arrAt 15 cfg0.N = fun i : S4x8x8.Idx =>
    ((if (i 1 : ℕ) < 3 then if (i 1 : ℕ) < 1 then (S.grp (i 0)).dbias (i 2) else if (i 1 : ℕ) - 1 < 1 then (S.grp (i 0)).dalog (i 2)
      else (S.grp (i 0)).ddsk (i 2) else 0 : ℝ) : EReal) := by
  refine (dats m 0 c).arrAt_eq_of_covers 15 _ (by decide +kernel) fun t hf y => ?_
  have ht := (flush0_15 t).mp hf
  blk_simp [at15]
  rw [after0_15]
  obtain ⟨i, r, k, rfl⟩ : ∃ (i : Fin 1) (r : Fin 8) (k : Fin 8), y = ix3 i r k := ⟨y 0, y 1, y 2, (by ext a; fin_cases a <;> rfl)⟩
  obtain rfl : i = 0 := Subsingleton.elim _ _
  show _ = ((if (r : ℕ) < 3 then if (r : ℕ) < 1 then (S.grp (t.val / 33)).dbias k
    else if (r : ℕ) - 1 < 1 then (S.grp (t.val / 33)).dalog k else (S.grp (t.val / 33)).ddsk k else 0 : ℝ) : EReal)
  by_cases h3 : (r : ℕ) < 3
  · rw [if_pos h3]
    by_cases h1 : (r : ℕ) < 1
    · obtain rfl : r = 0 := Fin.ext (by show (r : ℕ) = 0; omega)
      rw [if_pos h1]
      refine (after_15_0 m c S h t.val t.isLt k).trans (congrArg _ ?_)
      rw [ht]; exact Grp.dbias_blk _ _
    · rw [if_neg h1]
      by_cases h2 : (r : ℕ) - 1 < 1
      · obtain rfl : r = 1 := Fin.ext (by show (r : ℕ) = 1; omega)
        rw [if_pos h2]
        refine (after_15_1 m c S h t.val t.isLt k).trans (congrArg _ ?_)
        rw [ht]; exact Grp.dalog_blk _ _
      · obtain rfl : r = 2 := Fin.ext (by show (r : ℕ) = 2; omega)
        rw [if_neg h2]
        refine (after_15_2 m c S h t.val t.isLt k).trans (congrArg _ ?_)
        rw [ht]; exact Grp.ddsk_blk _ _
  · rw [if_neg h3]
    exact after_15_rest m c t.val t.isLt r (by omega) k

theorem arr_16 : (dats m 0 c).arrAt 16 cfg0.N = fun i : S4x8x512.Idx =>
    ((if (i 1 : ℕ) < 1 then (S.grp (i 0)).dgg (i 2) else 0 : ℝ) : EReal) := by
  refine (dats m 0 c).arrAt_eq_of_covers 16 _ (by decide +kernel) fun t hf y => ?_
  have ht := (flush0_16 t).mp hf
  blk_simp [at16]
  rw [after0_16]
  obtain ⟨i, r, k, rfl⟩ : ∃ (i : Fin 1) (r : Fin 8) (k : Fin 512), y = ix3 i r k := ⟨y 0, y 1, y 2, (by ext a; fin_cases a <;> rfl)⟩
  obtain rfl : i = 0 := Subsingleton.elim _ _
  show _ = ((if (r : ℕ) < 1 then (S.grp (t.val / 33)).dgg k else 0 : ℝ) : EReal)
  by_cases h1 : (r : ℕ) < 1
  · obtain rfl : r = 0 := Fin.ext (by show (r : ℕ) = 0; omega)
    rw [if_pos h1]
    refine (after_16_0 m c S h t.val t.isLt k).trans (congrArg _ ?_)
    rw [ht]; exact Grp.dgg_blk _ _
  · rw [if_neg h1]
    exact after_16_rest m c t.val t.isLt r (by omega) k

end Cert.KernelIdeal.Grid
-- ==== Proof.RefVal.lean ====
/-
  The reference's intermediate arrays and results, read at one place: real when the arguments are, and the real expression
  stated.
-/
module

public import proofs.«01_k».proof.Proof.Gen.ReferenceIdeal.Run
public import proofs.«01_k».proof.Proof.SeqSpec
public import proofs.«01_k».proof.Proof.HostLift
public import Idealize.ShloMosaic.Lib.Tactic.CleanTypes

@[expose] public section
set_option maxRecDepth 65536
set_option maxHeartbeats 1000000
noncomputable section
namespace Cert.ReferenceIdeal.Value
open Cert.ReferenceIdeal Cert.ReferenceIdeal.Gen Idealize.ShloMosaic Idealize.ShloMosaic.TcCoe Idealize.ShloMosaic.StableHlo

/-- The arguments are the reals `S`. -/
structure Reals (S : Sq) (V0 : Valuation τ sig (Elt Ideal)) : Prop where
  h0 : ∀ (i : Fin 8208) (j : Fin 3072), (V0 (Proc.devRef .tc main_arg0) : FVec Ideal S8208x3072 .f32) (ix2 i j) = ((S.xbc i j : ℝ) : EReal)
  h1 : ∀ (i : Fin 8208) (j : Fin 2048), (V0 (Proc.devRef .tc main_arg1) : FVec Ideal S8208x2048 .f32) (ix2 i j) = ((S.z i j : ℝ) : EReal)
  h2 : ∀ (i : Fin 8208) (j : Fin 32), (V0 (Proc.devRef .tc main_arg2) : FVec Ideal S8208x32 .f32) (ix2 i j) = ((S.dtr i j : ℝ) : EReal)
  h3 : ∀ j : Fin 32, (V0 (Proc.devRef .tc main_arg3) : FVec Ideal S32 .f32) (ix1 j) = ((S.bias j : ℝ) : EReal)
  h4 : ∀ j : Fin 32, (V0 (Proc.devRef .tc main_arg4) : FVec Ideal S32 .f32) (ix1 j) = ((S.alog j : ℝ) : EReal)
  h5 : ∀ j : Fin 32, (V0 (Proc.devRef .tc main_arg5) : FVec Ideal S32 .f32) (ix1 j) = ((S.dsk j : ℝ) : EReal)
  h6 : ∀ j : Fin 2048, (V0 (Proc.devRef .tc main_arg6) : FVec Ideal S2048 .f32) (ix1 j) = ((S.gate j : ℝ) : EReal)
  h7 : ∀ (i : Fin 8208) (j : Fin 2048), (V0 (Proc.devRef .tc main_arg7) : FVec Ideal S8208x2048 .f32) (ix2 i j) = ((S.ct i j : ℝ) : EReal)

/-- The result `main_v189`, a term of the arguments. -/
def o189 (V0 : Valuation τ sig (Elt Ideal)) : FVec Ideal S8448x2048 .bf16 :=
  truncf .bf16 (shapeCast _ (addf (mulf (res_main_v111 V0) (broadcastInDim S8448x4x8x64 ![0, 1, 2, 3] bcast_S1x4x8x1_S8448x4x8x64_0_1_2_3 (res_main_v57 V0))) (mulf (res_main_v124 V0) (broadcastInDim S8448x4x8x64 ![0, 1, 2, 3] bcast_S8448x4x8x1_S8448x4x8x64_0_1_2_3 (res_main_v25 V0)))) shapeCasts_S8448x4x8x64_S8448x2048) bitsLt_bf16_f32
/-- The result `main_v190`, a term of the arguments. -/
def o190 (V0 : Valuation τ sig (Elt Ideal)) : FVec Ideal S8448x512 .bf16 :=
  truncf .bf16 (shapeCast _ (transpose S8448x4x128 [1, 0, 2] (Host.dotGeneral (φ₁ := .f32) (φ₂ := .f32) dot_S4x8448x8448_S8448x4x128_S4x8448x128_1_0_2_2_0_1 none (res_main_v130 V0) (res_main_v11 V0)) transposes_S4x8448x128_S8448x4x128_1_0_2) shapeCasts_S8448x4x128_S8448x512) bitsLt_bf16_f32
/-- The result `main_v191`, a term of the arguments. -/
def o191 (V0 : Valuation τ sig (Elt Ideal)) : FVec Ideal S8448x512 .bf16 :=
  truncf .bf16 (shapeCast _ (transpose S8448x4x128 [1, 0, 2] (Host.dotGeneral (φ₁ := .f32) (φ₂ := .f32) dot_S4x8448x8448_S8448x4x128_S4x8448x128_2_0_1_2_0_1 none (res_main_v130 V0) (res_main_v10 V0)) transposes_S4x8448x128_S8448x4x128_1_0_2) shapeCasts_S8448x4x128_S8448x512) bitsLt_bf16_f32
/-- The result `main_v192`, a term of the arguments. -/
def o192 (V0 : Valuation τ sig (Elt Ideal)) : FVec Ideal S8448x2048 .bf16 :=
  truncf .bf16 (addf (mulf (res_main_v108 V0) (res_main_v62_2 V0)) (mulf (mulf (res_main_v6 V0) (res_main_v108 V0)) (mulf (res_main_v62_2 V0) (subf (broadcastInDim S8448x2048 ![] bcast_S_S8448x2048 (constant S_ .f32 0x3F800000#32)) (res_main_v62_2 V0))))) bitsLt_bf16_f32
/-- The result `main_v176`, a term of the arguments. -/
def o176 (V0 : Valuation τ sig (Elt Ideal)) : FVec Ideal S4x8448x8 .f32 :=
  transpose S4x8448x8 [1, 0, 2] (shapeCast _ (res_main_v168 V0) shapeCasts_S8448x32_S8448x4x8) transposes_S8448x4x8_S4x8448x8_1_0_2
/-- The result `main_v184`, a term of the arguments. -/
def o184 (V0 : Valuation τ sig (Elt Ideal)) : FVec Ideal S4x8x8 .f32 :=
  transpose S4x8x8 [1, 0, 2] (concatenate S8x4x8 0 [⟨S3x4x8, (shapeCast _ ((concatenate S3x32 0 [⟨S1x32, ((broadcastInDim S1x32 ![1] bcast_S32_S1x32_1 (Host.reduceAdd (shapeCast _ (Host.reduceAdd (res_main_v168 V0) (constant S_ .f32 0x00000000#32) reducesTo_S8448x32_S32_d0 h_S_) shapeCasts_S32_S1x32) (constant S_ .f32 0x00000000#32) reducesTo_S1x32_S32_d0 h_S_)) : (⟨S1x32, .f32⟩ : BufTy).Contents (Elt Ideal))⟩, ⟨S1x32, ((broadcastInDim S1x32 ![1] bcast_S32_S1x32_1 (mulf (shapeCast _ (Host.negf (Host.reduceAdd (shapeCast _ (Host.reduceAdd (mulf (res_main_v21 V0) (res_main_v148 V0)) (constant S_ .f32 0x00000000#32) reducesTo_S8448x4x8_S4x8_d0 h_S_) shapeCasts_S4x8_S1x4x8) (constant S_ .f32 0x00000000#32) reducesTo_S1x4x8_S4x8_d0 h_S_)) shapeCasts_S4x8_S32) (res_main_v22 V0))) : (⟨S1x32, .f32⟩ : BufTy).Contents (Elt Ideal))⟩, ⟨S1x32, ((broadcastInDim S1x32 ![1] bcast_S32_S1x32_1 (shapeCast _ (Host.reduceAdd (broadcastInDim S4x8x1 ![0, 1] bcast_S4x8_S4x8x1_0_1 (Host.reduceAdd (shapeCast _ (Host.reduceAdd (mulf (res_main_v9 V0) (res_main_v111 V0)) (constant S_ .f32 0x00000000#32) reducesTo_S8448x4x8x64_S4x8_d0_3 h_S_) shapeCasts_S4x8_S1x4x8x1) (constant S_ .f32 0x00000000#32) reducesTo_S1x4x8x1_S4x8_d0_3 h_S_)) (constant S_ .f32 0x00000000#32) reducesTo_S4x8x1_S4x8_d2 h_S_) shapeCasts_S4x8_S32)) : (⟨S1x32, .f32⟩ : BufTy).Contents (Elt Ideal))⟩] concatenates_S1x32_S1x32_S1x32_S3x32_d0 : (⟨S3x32, .f32⟩ : BufTy).Contents (Elt Ideal))) shapeCasts_S3x32_S3x4x8)⟩, ⟨S5x4x8, (broadcastInDim S5x4x8 ![] bcast_S_S5x4x8 (constant S_ .f32 0x00000000#32))⟩] concatenates_S3x4x8_S5x4x8_S8x4x8_d0) transposes_S8x4x8_S4x8x8_1_0_2
/-- The result `main_v188`, a term of the arguments. -/
def o188 (V0 : Valuation τ sig (Elt Ideal)) : FVec Ideal S4x8x512 .f32 :=
  transpose S4x8x512 [1, 0, 2] (concatenate S8x4x512 0 [⟨S1x4x512, (shapeCast _ (shapeCast _ (Host.reduceAdd (shapeCast _ (Host.reduceAdd (mulf (res_main_v77 V0) (res_main_v85 V0)) (constant S_ .f32 0x00000000#32) reducesTo_S8448x4x512_S4x512_d0 h_S_) shapeCasts_S4x512_S1x4x512) (constant S_ .f32 0x00000000#32) reducesTo_S1x4x512_S4x512_d0 h_S_) shapeCasts_S4x512_S2048) shapeCasts_S2048_S1x4x512)⟩, ⟨S7x4x512, (broadcastInDim S7x4x512 ![] bcast_S_S7x4x512 (constant S_ .f32 0x00000000#32))⟩] concatenates_S1x4x512_S7x4x512_S8x4x512_d0) transposes_S8x4x512_S4x8x512_1_0_2

variable (S : Sq) (V0 : Valuation τ sig (Elt Ideal)) (h : Reals S V0)
include h

/-- The value `v1` at one place. -/
theorem R_v1 (i : Fin 8448) (W : Fin 3072) :
    res_main_v1 V0 (ix2 i W) = ((Sq.pad S.xbc (i : ℕ) (W : ℕ) : ℝ) : EReal) := by
  unfold res_main_v1
  clean_types
  pointwise
  by_cases hi : (i : ℕ) < 240
  · simp only [hi, dite_true, Sq.pad, if_true, h.h0, Lift.zero_coe, ← EReal.coe_add]
  · simp only [hi, dite_false, Sq.pad, if_false, h.h0,  ← EReal.coe_add]

/-- The value `v6` at one place. -/
theorem R_v6 (i : Fin 8448) (Q : Fin 2048) :
    res_main_v6 V0 (ix2 i Q) = (((S.grp ((Q : ℕ) / 512)).z (i : ℕ) ((Q : ℕ) % 512) : ℝ) : EReal) := by
  rw [← Sq.z_lane]
  unfold res_main_v6
  clean_types
  pointwise
  by_cases hi : (i : ℕ) < 240
  · simp only [hi, dite_true, Sq.pad, if_true, h.h1, Lift.zero_coe, ← EReal.coe_add]
  · simp only [hi, dite_false, Sq.pad, if_false, h.h1,  ← EReal.coe_add]

/-- The value `v9` at one place. -/
theorem R_v9 (i : Fin 8448) (g : Fin 4) (e : Fin 8) (p : Fin 64) :
    res_main_v9 V0 (ix4 i g e p) = (((S.grp (g : ℕ)).x (i : ℕ) (64 * (e : ℕ) + (p : ℕ)) : ℝ) : EReal) := by
  unfold res_main_v9
  clean_types
  pointwise
  simp only [R_v1 S V0 h, Lift.up, HostLift.up, HostLift.norm, ne_eq, not_true_eq_false, if_false, EReal.coe_ne_top]
  refine congrArg _ ?_
  simp only [Sq.grp]
  all_goals first | rfl | (congr 1; omega) | (congr 2; omega) | (congr 3; omega)

/-- The value `v10` at one place. -/
theorem R_v10 (i : Fin 8448) (g : Fin 4) (n : Fin 128) :
    res_main_v10 V0 (ix3 i g n) = (((S.grp (g : ℕ)).b (i : ℕ) (n : ℕ) : ℝ) : EReal) := by
  unfold res_main_v10
  clean_types
  pointwise
  simp only [R_v1 S V0 h, Lift.up, HostLift.up, HostLift.norm, ne_eq, not_true_eq_false, if_false, EReal.coe_ne_top]
  refine congrArg _ ?_
  simp only [Sq.grp]
  all_goals first | rfl | (congr 1; omega) | (congr 2; omega) | (congr 3; omega)

/-- The value `v11` at one place. -/
theorem R_v11 (i : Fin 8448) (g : Fin 4) (n : Fin 128) :
    res_main_v11 V0 (ix3 i g n) = (((S.grp (g : ℕ)).c (i : ℕ) (n : ℕ) : ℝ) : EReal) := by
  unfold res_main_v11
  clean_types
  pointwise
  simp only [R_v1 S V0 h, Lift.up, HostLift.up, HostLift.norm, ne_eq, not_true_eq_false, if_false, EReal.coe_ne_top]
  refine congrArg _ ?_
  simp only [Sq.grp]
  all_goals first | rfl | (congr 1; omega) | (congr 2; omega) | (congr 3; omega)

/-- The value `v18` at one place. -/
theorem R_v18 (i : Fin 8448) (H : Fin 32) :
    res_main_v18 V0 (ix2 i H) = ((Sq.pad S.dtr (i : ℕ) (H : ℕ) + S.bias (H : ℕ) : ℝ) : EReal) := by
  unfold res_main_v18
  clean_types
  pointwise
  by_cases hi : (i : ℕ) < 240
  · simp only [hi, dite_true, Sq.pad, if_true, h.h2, h.h3, Lift.zero_coe, ← EReal.coe_add]
  · simp only [hi, dite_false, Sq.pad, if_false, h.h2, h.h3,  ← EReal.coe_add]

/-- The value `v19_0` at one place. -/
theorem R_v19_0 (i : Fin 8448) (H : Fin 32) :
    res_main_v19_0 V0 (ix2 i H) = ((Blk.sp (Sq.pad S.dtr (i : ℕ) (H : ℕ) + S.bias (H : ℕ)) : ℝ) : EReal) := by
  unfold res_main_v19_0 res_main_call0_v3 res_main_call0_cst
  clean_types
  pointwise
  simp only [R_v18 S V0 h, Lift.up, HostLift.up, HostLift.norm, ne_eq, not_true_eq_false, if_false, EReal.coe_ne_top]
  refine congrArg _ ?_
  simp only [Blk.sp]
  rw [zero_sub]

/-- The value `v21` at one place. -/
theorem R_v21 (i : Fin 8448) (g : Fin 4) (e : Fin 8) :
    res_main_v21 V0 (ix3 i g e) = (((S.grp (g : ℕ)).dt (i : ℕ) (e : ℕ) : ℝ) : EReal) := by
  unfold res_main_v21 res_main_v20_1
  simp only [id_eq]
  clean_types
  pointwise
  simp only [R_v19_0 S V0 h, Lift.up, HostLift.up, HostLift.norm, ne_eq, not_true_eq_false, if_false, EReal.coe_ne_top]
  refine congrArg _ ?_
  simp only [Grp.dt, Grp.pre, Sq.grp]
  all_goals rfl

/-- The value `v22` at one place. -/
theorem R_v22 (H : Fin 32) :
    res_main_v22 V0 (ix1 H) = ((Real.exp (S.alog (H : ℕ)) : ℝ) : EReal) := by
  unfold res_main_v22
  clean_types
  pointwise
  simp only [h.h4, Lift.up, HostLift.up, HostLift.norm, ne_eq, not_true_eq_false, if_false, EReal.coe_ne_top]

/-- The value `v27` at one place. -/
theorem R_v27 (i : Fin 8448) (g : Fin 4) (e : Fin 8) (p : Fin 64) :
    res_main_v27 V0 (ix4 i g e p) = (((S.grp (g : ℕ)).xdt (i : ℕ) (64 * (e : ℕ) + (p : ℕ)) : ℝ) : EReal) := by
  unfold res_main_v27 res_main_v25
  clean_types
  pointwise
  simp only [R_v21 S V0 h, R_v9 S V0 h, Lift.up, HostLift.up, HostLift.norm, ne_eq, not_true_eq_false, if_false, EReal.coe_ne_top]
  refine congrArg _ ?_
  simp only [Grp.xdt]
  rw [show (64 * (e : ℕ) + (p : ℕ)) / 64 = (e : ℕ) by omega]

/-- The value `v35` at one place. -/
theorem R_v35 (u : Fin 1) (g : Fin 4) (e : Fin 8) :
    res_main_v35 V0 (ix3 u g e) = (((S.grp (g : ℕ)).a (e : ℕ) : ℝ) : EReal) := by
  unfold res_main_v35
  clean_types
  pointwise
  simp only [R_v22 S V0 h, Lift.up, HostLift.up, HostLift.norm, ne_eq, not_true_eq_false, if_false, EReal.coe_ne_top]
  refine congrArg _ ?_
  simp only [Grp.a, Sq.grp]
  all_goals first | rfl | (congr 1; omega) | (congr 2; omega) | (congr 3; omega)

/-- The value `v41` at one place. -/
theorem R_v41 (g : Fin 4) (e : Fin 8) (i : Fin 8448) :
    res_main_v41 V0 (ix3 g e i) = (((S.grp (g : ℕ)).acs (i : ℕ) (e : ℕ) : ℝ) : EReal) := by
  unfold res_main_v41 res_main_v40_1 res_main_v34
  simp only [id_eq]
  clean_types
  pointwise
  simp only [R_v21 S V0 h, R_v35 S V0 h, Lift.up, HostLift.up, HostLift.norm, ne_eq, not_true_eq_false, if_false, EReal.coe_ne_top]
  refine congrArg _ ?_
  simp only [Grp.acs]
  all_goals rfl

/-- The value `v48` at one place. -/
theorem R_v48 (g : Fin 4) (e : Fin 8) (i : Fin 8448) (j : Fin 8448) :
    res_main_v48 V0 (ix4 g e i j) = (((S.grp (g : ℕ)).dec (i : ℕ) (j : ℕ) (e : ℕ) : ℝ) : EReal) := by
  unfold res_main_v48 res_main_v47_1 res_main_v34
  simp only [id_eq]
  clean_types
  pointwise
  simp only [R_v41 S V0 h, Lift.up, HostLift.up, HostLift.norm, ne_eq, not_true_eq_false, if_false, EReal.coe_ne_top]
  refine congrArg _ ?_
  simp only [Grp.dec]
  all_goals rfl

/-- The value `v50` at one place. -/
theorem R_v50 (g : Fin 4) (u : Fin 1) (i : Fin 8448) (j : Fin 8448) :
    res_main_v50 V0 (ix4 g u i j) = (((S.grp (g : ℕ)).cb (i : ℕ) (j : ℕ) : ℝ) : EReal) := by
  unfold res_main_v50
  clean_types
  pointwise
  simp only [R_v10 S V0 h, R_v11 S V0 h, Lift.up, HostLift.up, HostLift.norm, ne_eq, not_true_eq_false, if_false, EReal.coe_ne_top]
  refine congrArg _ ?_
  simp only [Grp.cb]

/-- The value `v52` at one place. -/
theorem R_v52 (g : Fin 4) (e : Fin 8) (i : Fin 8448) (j : Fin 8448) :
    res_main_v52 V0 (ix4 g e i j) = (((S.grp (g : ℕ)).cb (i : ℕ) (j : ℕ) * (S.grp (g : ℕ)).dec (i : ℕ) (j : ℕ) (e : ℕ) : ℝ) : EReal) := by
  unfold res_main_v52
  clean_types
  pointwise
  simp only [R_v48 S V0 h, R_v50 S V0 h, Lift.up, HostLift.up, HostLift.norm, ne_eq, not_true_eq_false, if_false, EReal.coe_ne_top]

/-- The value `v57` at one place. -/
theorem R_v57 (u : Fin 1) (g : Fin 4) (e : Fin 8) (w : Fin 1) :
    res_main_v57 V0 (ix4 u g e w) = (((S.grp (g : ℕ)).dsk (e : ℕ) : ℝ) : EReal) := by
  unfold res_main_v57
  clean_types
  pointwise
  simp only [h.h5, Lift.up, HostLift.up, HostLift.norm, ne_eq, not_true_eq_false, if_false, EReal.coe_ne_top]
  refine congrArg _ ?_
  simp only [Sq.grp]
  all_goals first | rfl | (congr 1; omega) | (congr 2; omega) | (congr 3; omega)

/-- The value `v61` at one place. -/
theorem R_v61 (i : Fin 8448) (Q : Fin 2048) :
    res_main_v61 V0 (ix2 i Q) = (((S.grp ((Q : ℕ) / 512)).y (i : ℕ) ((Q : ℕ) % 512) : ℝ) : EReal) := by
  unfold res_main_v61
  clean_types
  pointwise
  simp only [R_v27 S V0 h, R_v52 S V0 h, R_v57 S V0 h, R_v9 S V0 h, Lift.up, HostLift.up, HostLift.norm, ne_eq, not_true_eq_false, if_false, EReal.coe_ne_top]
  refine congrArg _ ?_
  simp only [Grp.y]
  rw [show (64 : ℕ) * ((Q : ℕ) / 64 % 8) + (Q : ℕ) % 64 = (Q : ℕ) % 512 by omega]
  simp only [show (Q : ℕ) / 64 % 8 = (Q : ℕ) % 512 / 64 by omega]

/-- The value `v62_2` at one place. -/
theorem R_v62_2 (i : Fin 8448) (Q : Fin 2048) :
    res_main_v62_2 V0 (ix2 i Q) = ((Lift.sg ((S.grp ((Q : ℕ) / 512)).z (i : ℕ) ((Q : ℕ) % 512)) : ℝ) : EReal) := by
  unfold res_main_v62_2
  clean_types
  pointwise
  simp only [R_v6 S V0 h, Lift.up, HostLift.up, HostLift.norm, ne_eq, not_true_eq_false, if_false, EReal.coe_ne_top]

/-- The value `v62_0` at one place. -/
theorem R_v62_0 (i : Fin 8448) (Q : Fin 2048) :
    res_main_v62_0 V0 (ix2 i Q) = (((S.grp ((Q : ℕ) / 512)).z (i : ℕ) ((Q : ℕ) % 512) * Lift.sg ((S.grp ((Q : ℕ) / 512)).z (i : ℕ) ((Q : ℕ) % 512)) : ℝ) : EReal) := by
  unfold res_main_v62_0
  clean_types
  pointwise
  simp only [R_v6 S V0 h, R_v62_2 S V0 h, Lift.up, HostLift.up, HostLift.norm, ne_eq, not_true_eq_false, if_false, EReal.coe_ne_top]

/-- The value `v64` at one place. -/
theorem R_v64 (i : Fin 8448) (g : Fin 4) (q : Fin 512) :
    res_main_v64 V0 (ix3 i g q) = (((S.grp (g : ℕ)).hg (i : ℕ) (q : ℕ) : ℝ) : EReal) := by
  unfold res_main_v64
  clean_types
  pointwise
  simp only [R_v61 S V0 h, R_v62_0 S V0 h, Lift.up, HostLift.up, HostLift.norm, ne_eq, not_true_eq_false, if_false, EReal.coe_ne_top]
  refine congrArg _ ?_
  simp only [Grp.hg, Grp.silu]
  simp only [show ((g : ℕ) * 512 + (q : ℕ)) / 512 = (g : ℕ) by omega, show ((g : ℕ) * 512 + (q : ℕ)) % 512 = (q : ℕ) by omega]

/-- The value `v71` at one place. -/
theorem R_v71 (i : Fin 8448) (g : Fin 4) (u : Fin 1) :
    res_main_v71 V0 (ix3 i g u) = (((S.grp (g : ℕ)).var (i : ℕ) : ℝ) : EReal) := by
  unfold res_main_v71
  clean_types
  pointwise
  simp only [R_v64 S V0 h, Lift.up, HostLift.up, HostLift.norm, ne_eq, not_true_eq_false, if_false, EReal.coe_ne_top]
  refine congrArg _ ?_
  simp only [Grp.var]

/-- The value `v72` at one place. -/
theorem R_v72 (i : Fin 8448) (g : Fin 4) (u : Fin 1) :
    res_main_v72 V0 (ix3 i g u) = (((S.grp (g : ℕ)).rs (i : ℕ) : ℝ) : EReal) := by
  unfold res_main_v72
  clean_types
  pointwise
  simp only [R_v71 S V0 h, Lift.up, HostLift.up, HostLift.norm, ne_eq, not_true_eq_false, if_false, EReal.coe_ne_top]

/-- The value `v77` at one place. -/
theorem R_v77 (i : Fin 8448) (g : Fin 4) (q : Fin 512) :
    res_main_v77 V0 (ix3 i g q) = (((S.grp (g : ℕ)).hg (i : ℕ) (q : ℕ) * (S.grp (g : ℕ)).rs (i : ℕ) : ℝ) : EReal) := by
  unfold res_main_v77
  clean_types
  pointwise
  simp only [R_v64 S V0 h, R_v72 S V0 h, Lift.up, HostLift.up, HostLift.norm, ne_eq, not_true_eq_false, if_false, EReal.coe_ne_top]

/-- The value `v85` at one place. -/
theorem R_v85 (i : Fin 8448) (g : Fin 4) (q : Fin 512) :
    res_main_v85 V0 (ix3 i g q) = (((S.grp (g : ℕ)).ct (i : ℕ) (q : ℕ) : ℝ) : EReal) := by
  unfold res_main_v85
  clean_types
  pointwise
  by_cases hi : (i : ℕ) < 240
  · simp only [hi, dite_true, Sq.pad, Sq.grp, if_true, Lift.zero_coe]
  · simp only [hi, dite_false, Sq.pad, Sq.grp, if_false, h.h7]
    congr 2; omega

/-- The value `v90` at one place. -/
theorem R_v90 (i : Fin 8448) (g : Fin 4) (q : Fin 512) :
    res_main_v90 V0 (ix3 i g q) = (((S.grp (g : ℕ)).dhh (i : ℕ) (q : ℕ) : ℝ) : EReal) := by
  unfold res_main_v90 res_main_v79
  clean_types
  pointwise
  simp only [R_v85 S V0 h, h.h6, Lift.up, HostLift.up, HostLift.norm, ne_eq, not_true_eq_false, if_false, EReal.coe_ne_top]
  refine congrArg _ ?_
  simp only [Grp.dhh, Sq.grp_gate]
  all_goals first | rfl | (congr 1; omega) | (congr 2; omega) | (congr 3; omega)

/-- The value `v102` at one place. -/
theorem R_v102 (i : Fin 8448) (g : Fin 4) (q : Fin 512) :
    res_main_v102 V0 (ix3 i g q) = (((S.grp (g : ℕ)).cf (i : ℕ) : ℝ) : EReal) := by
  unfold res_main_v102
  clean_types
  pointwise
  simp only [R_v64 S V0 h, R_v71 S V0 h, R_v72 S V0 h, R_v90 S V0 h, Lift.up, HostLift.up, HostLift.norm, ne_eq, not_true_eq_false, if_false, EReal.coe_ne_top]
  refine congrArg _ ?_
  simp only [Grp.cf]
  simp only [Finset.univ_unique, Finset.sum_singleton]

/-- The value `v107` at one place. -/
theorem R_v107 (i : Fin 8448) (Q : Fin 2048) :
    res_main_v107 V0 (ix2 i Q) = (((S.grp ((Q : ℕ) / 512)).dhg (i : ℕ) ((Q : ℕ) % 512) : ℝ) : EReal) := by
  unfold res_main_v107
  clean_types
  pointwise
  simp only [R_v102 S V0 h, R_v64 S V0 h, R_v72 S V0 h, R_v90 S V0 h, Lift.up, HostLift.up, HostLift.norm, ne_eq, not_true_eq_false, if_false, EReal.coe_ne_top]
  refine congrArg _ ?_
  simp only [Grp.dhg]

/-- The value `v108` at one place. -/
theorem R_v108 (i : Fin 8448) (Q : Fin 2048) :
    res_main_v108 V0 (ix2 i Q) = (((S.grp ((Q : ℕ) / 512)).y (i : ℕ) ((Q : ℕ) % 512) * (S.grp ((Q : ℕ) / 512)).dhg (i : ℕ) ((Q : ℕ) % 512) : ℝ) : EReal) := by
  unfold res_main_v108
  clean_types
  pointwise
  simp only [R_v107 S V0 h, R_v61 S V0 h, Lift.up, HostLift.up, HostLift.norm, ne_eq, not_true_eq_false, if_false, EReal.coe_ne_top]

/-- The value `v111` at one place. -/
theorem R_v111 (i : Fin 8448) (g : Fin 4) (e : Fin 8) (p : Fin 64) :
    res_main_v111 V0 (ix4 i g e p) = (((S.grp (g : ℕ)).dy (i : ℕ) (64 * (e : ℕ) + (p : ℕ)) : ℝ) : EReal) := by
  unfold res_main_v111
  clean_types
  pointwise
  simp only [R_v107 S V0 h, R_v62_0 S V0 h, Lift.up, HostLift.up, HostLift.norm, ne_eq, not_true_eq_false, if_false, EReal.coe_ne_top]
  refine congrArg _ ?_
  simp only [Grp.dy, Grp.silu]
  simp only [show ((g : ℕ) * 512 + (e : ℕ) * 64 + (p : ℕ)) / 512 = (g : ℕ) by omega,
    show ((g : ℕ) * 512 + (e : ℕ) * 64 + (p : ℕ)) % 512 = 64 * (e : ℕ) + (p : ℕ) by omega]

/-- The value `v121` at one place. -/
theorem R_v121 (g : Fin 4) (e : Fin 8) (p : Fin 64) (i : Fin 8448) :
    res_main_v121 V0 (ix4 g e p i) = (((S.grp (g : ℕ)).dy (i : ℕ) (64 * (e : ℕ) + (p : ℕ)) : ℝ) : EReal) := by
  unfold res_main_v121
  clean_types
  pointwise
  simp only [R_v111 S V0 h, Lift.up, HostLift.up, HostLift.norm, ne_eq, not_true_eq_false, if_false, EReal.coe_ne_top]

/-- The value `v122` at one place. -/
theorem R_v122 (g : Fin 4) (e : Fin 8) (i : Fin 8448) (j : Fin 8448) :
    res_main_v122 V0 (ix4 g e i j) = (((S.grp (g : ℕ)).dm (i : ℕ) (j : ℕ) (e : ℕ) : ℝ) : EReal) := by
  unfold res_main_v122
  clean_types
  pointwise
  simp only [R_v121 S V0 h, R_v27 S V0 h, Lift.up, HostLift.up, HostLift.norm, ne_eq, not_true_eq_false, if_false, EReal.coe_ne_top]
  refine congrArg _ ?_
  simp only [Grp.dm]

/-- The value `v124` at one place. -/
theorem R_v124 (i : Fin 8448) (g : Fin 4) (e : Fin 8) (p : Fin 64) :
    res_main_v124 V0 (ix4 i g e p) = (((S.grp (g : ℕ)).dxdt (i : ℕ) (64 * (e : ℕ) + (p : ℕ)) : ℝ) : EReal) := by
  unfold res_main_v124
  clean_types
  pointwise
  simp only [R_v121 S V0 h, R_v52 S V0 h, Lift.up, HostLift.up, HostLift.norm, ne_eq, not_true_eq_false, if_false, EReal.coe_ne_top]
  refine congrArg _ ?_
  simp only [Grp.dxdt]
  rw [show (64 * (e : ℕ) + (p : ℕ)) / 64 = (e : ℕ) by omega]

/-- The value `v130` at one place. -/
theorem R_v130 (g : Fin 4) (i : Fin 8448) (j : Fin 8448) :
    res_main_v130 V0 (ix3 g i j) = (((S.grp (g : ℕ)).dcb (i : ℕ) (j : ℕ) : ℝ) : EReal) := by
  unfold res_main_v130
  clean_types
  pointwise
  simp only [R_v122 S V0 h, R_v48 S V0 h, Lift.up, HostLift.up, HostLift.norm, ne_eq, not_true_eq_false, if_false, EReal.coe_ne_top]
  refine congrArg _ ?_
  simp only [Grp.dcb]
  simp only [Finset.univ_unique, Finset.sum_singleton]

/-- The value `v136` at one place. -/
theorem R_v136 (g : Fin 4) (e : Fin 8) (i : Fin 8448) (j : Fin 8448) :
    res_main_v136 V0 (ix4 g e i j) = (((S.grp (g : ℕ)).dd (i : ℕ) (j : ℕ) (e : ℕ) : ℝ) : EReal) := by
  unfold res_main_v136 res_main_v47_1 res_main_v34
  clean_types
  pointwise
  simp only [R_v122 S V0 h, R_v48 S V0 h, R_v50 S V0 h, Lift.up, HostLift.up, HostLift.norm, ne_eq, not_true_eq_false, if_false, EReal.coe_ne_top]
  refine congrArg _ ?_
  simp only [Grp.dd]
  split
  · rfl
  · rename_i hh
    simp only [Grp.dec, if_neg hh, mul_zero]

/-- The value `v148` at one place. -/
theorem R_v148 (i : Fin 8448) (g : Fin 4) (e : Fin 8) :
    res_main_v148 V0 (ix3 i g e) = (((S.grp (g : ℕ)).dda (i : ℕ) (e : ℕ) : ℝ) : EReal) := by
  unfold res_main_v148 res_main_v40_1 res_main_v34
  clean_types
  pointwise
  simp only [R_v136 S V0 h, Lift.up, HostLift.up, HostLift.norm, ne_eq, not_true_eq_false, if_false, EReal.coe_ne_top]
  refine congrArg _ ?_
  simp only [Grp.dda, Grp.dcs]
  simp only [Finset.univ_unique, Finset.sum_singleton, Finset.sum_neg_distrib]

/-- The value `v168` at one place. -/
theorem R_v168 (i : Fin 8448) (H : Fin 32) :
    res_main_v168 V0 (ix2 i H) = (((S.grp ((H : ℕ) / 8)).ddtr (i : ℕ) ((H : ℕ) % 8) : ℝ) : EReal) := by
  unfold res_main_v168 res_main_v20_1
  clean_types
  pointwise
  simp only [R_v124 S V0 h, R_v148 S V0 h, R_v18 S V0 h, R_v19_0 S V0 h, R_v35 S V0 h, R_v9 S V0 h, Lift.up, HostLift.up, HostLift.norm, ne_eq, not_true_eq_false, if_false, EReal.coe_ne_top]
  refine congrArg _ ?_
  simp only [Grp.ddtr, Grp.pre]
  simp only [Sq.grp_dtr, Sq.grp_bias, Nat.div_add_mod']
  rw [HostLift.exp_sub_sp]
  split <;> simp

/-- The value `o189` at one place. -/
theorem R_o189 (i : Fin 8448) (Q : Fin 2048) :
    o189 V0 (ix2 i Q) = (((S.grp ((Q : ℕ) / 512)).dx (i : ℕ) ((Q : ℕ) % 512) : ℝ) : EReal) := by
  unfold o189 res_main_v25
  clean_types
  pointwise
  simp only [R_v111 S V0 h, R_v124 S V0 h, R_v21 S V0 h, R_v57 S V0 h, Lift.up, HostLift.up, HostLift.norm, ne_eq, not_true_eq_false, if_false, EReal.coe_ne_top]
  refine congrArg _ ?_
  simp only [Grp.dx]
  rw [show (64 : ℕ) * ((Q : ℕ) / 64 % 8) + (Q : ℕ) % 64 = (Q : ℕ) % 512 by omega]
  simp only [show (Q : ℕ) / 64 % 8 = (Q : ℕ) % 512 / 64 by omega]

/-- The value `o190` at one place. -/
theorem R_o190 (i : Fin 8448) (B : Fin 512) :
    o190 V0 (ix2 i B) = (((S.grp ((B : ℕ) / 128)).db (i : ℕ) ((B : ℕ) % 128) : ℝ) : EReal) := by
  unfold o190
  clean_types
  pointwise
  simp only [R_v11 S V0 h, R_v130 S V0 h, Lift.up, HostLift.up, HostLift.norm, ne_eq, not_true_eq_false, if_false, EReal.coe_ne_top]
  refine congrArg _ ?_
  simp only [Grp.db]

/-- The value `o191` at one place. -/
theorem R_o191 (i : Fin 8448) (B : Fin 512) :
    o191 V0 (ix2 i B) = (((S.grp ((B : ℕ) / 128)).dc (i : ℕ) ((B : ℕ) % 128) : ℝ) : EReal) := by
  unfold o191
  clean_types
  pointwise
  simp only [R_v10 S V0 h, R_v130 S V0 h, Lift.up, HostLift.up, HostLift.norm, ne_eq, not_true_eq_false, if_false, EReal.coe_ne_top]
  refine congrArg _ ?_
  simp only [Grp.dc]

/-- The value `o192` at one place. -/
theorem R_o192 (i : Fin 8448) (Q : Fin 2048) :
    o192 V0 (ix2 i Q) = (((S.grp ((Q : ℕ) / 512)).dz (i : ℕ) ((Q : ℕ) % 512) : ℝ) : EReal) := by
  unfold o192
  clean_types
  pointwise
  simp only [R_v108 S V0 h, R_v6 S V0 h, R_v62_2 S V0 h, Lift.up, HostLift.up, HostLift.norm, ne_eq, not_true_eq_false, if_false, EReal.coe_ne_top]
  refine congrArg _ ?_
  simp only [Grp.dz]

/-- The value `o176` at one place. -/
theorem R_o176 (g : Fin 4) (i : Fin 8448) (e : Fin 8) :
    o176 V0 (ix3 g i e) = (((S.grp (g : ℕ)).ddtr (i : ℕ) (e : ℕ) : ℝ) : EReal) := by
  unfold o176
  clean_types
  pointwise
  simp only [R_v168 S V0 h, Lift.up, HostLift.up, HostLift.norm, ne_eq, not_true_eq_false, if_false, EReal.coe_ne_top]
  refine congrArg _ ?_
  rw [show ((g : ℕ) * 8 + (e : ℕ)) / 8 = (g : ℕ) by omega, show ((g : ℕ) * 8 + (e : ℕ)) % 8 = (e : ℕ) by omega]

end Cert.ReferenceIdeal.Value
-- ==== Proof.RefAcc.lean ====
module

public import proofs.«01_k».proof.Proof.RefVal

/-! The reference's parameter gradients, read at one place. -/

@[expose] public section
set_option maxRecDepth 65536
set_option maxHeartbeats 1000000
noncomputable section
namespace Cert.ReferenceIdeal.Value
open Cert.ReferenceIdeal Cert.ReferenceIdeal.Gen Idealize.ShloMosaic Idealize.ShloMosaic.TcCoe Idealize.ShloMosaic.StableHlo

section
variable {n0 n1 n2 n3 : ℕ}

/-- The places of a rank 4 array that the sum over its first and last axes gathers at `(g, e)`. -/
theorem fiber03 (h : (⟨4, ![n0, n1, n2, n3]⟩ : Shape).ReducesTo [0, 3] ⟨2, ![n1, n2]⟩) (g : Fin n1) (e : Fin n2)
    (i : (⟨4, ![n0, n1, n2, n3]⟩ : Shape).Idx) :
    h.drop i = ix2 g e ↔ ∃ k : Fin n0 × Fin n3, ix4 k.1 g e k.2 = i := by
  constructor
  · intro hd
    refine ⟨(i 0, i 3), ?_⟩
    funext a; apply Fin.ext
    match a with
    | ⟨0, _⟩ => rfl
    | ⟨1, _⟩ => exact (congrArg Fin.val (congrFun hd 0)).symm
    | ⟨2, _⟩ => exact (congrArg Fin.val (congrFun hd 1)).symm
    | ⟨3, _⟩ => rfl
  · rintro ⟨k, rfl⟩
    funext b
    apply Fin.ext
    match b with
    | ⟨0, _⟩ => rfl
    | ⟨1, _⟩ => rfl

/-- The host's sum over the first and last axes of a rank 4 array. -/
theorem sum03 (h : (⟨4, ![n0, n1, n2, n3]⟩ : Shape).ReducesTo [0, 3] ⟨2, ![n1, n2]⟩)
    (v : (⟨4, ![n0, n1, n2, n3]⟩ : Shape).Idx → EReal) (init : EReal) (g : Fin n1) (e : Fin n2) :
    Ideal.hostReduceAdd h v init (ix2 g e) = init + ∑ k0 : Fin n0, ∑ k1 : Fin n3, v (ix4 k0 g e k1) := by
  refine congrArg (init + ·) ?_
  refine (Finset.sum_filter_eq_sum_of_fiber _ (fun k : Fin n0 × Fin n3 => ix4 k.1 g e k.2)
    (fun _ _ e => Prod.ext (congrFun e 0) (congrFun e 3)) (fiber03 h g e) v).trans ?_
  simp only [Fintype.sum_prod_type]
end

variable (S : Sq) (V0 : Valuation τ sig (Elt Ideal)) (h : Reals S V0)
include h

/-- The norm weight's gradient and seven rows of zeros. -/
theorem R_o188 (g : Fin 4) (r : Fin 8) (q : Fin 512) :
    o188 V0 (ix3 g r q) = ((if (r : ℕ) < 1 then (S.grp (g : ℕ)).dgg (q : ℕ) else 0 : ℝ) : EReal) := by
  unfold o188
  clean_types
  pointwise
  simp only [R_v77 S V0 h, R_v85 S V0 h, ← EReal.coe_mul, Lift.sum_coe, Finset.univ_unique, Finset.sum_singleton]
  split
  · refine congrArg _ ?_
    unfold Grp.dgg
    exact Finset.sum_congr rfl fun l _ => mul_comm _ _
  · rfl

/-- The gradients of the bias, of the log decay rate and of the skip weight, and five rows of zeros. -/
theorem R_o184 (g : Fin 4) (r : Fin 8) (e : Fin 8) :
    o184 V0 (ix3 g r e) = ((if (r : ℕ) < 3 then if (r : ℕ) < 1 then (S.grp (g : ℕ)).dbias (e : ℕ)
      else if (r : ℕ) - 1 < 1 then (S.grp (g : ℕ)).dalog (e : ℕ) else (S.grp (g : ℕ)).ddsk (e : ℕ) else 0 : ℝ) : EReal) := by
  unfold o184
  clean_types
  pointwise
  simp only [R_v168 S V0 h, R_v21 S V0 h, R_v148 S V0 h, R_v22 S V0 h,
    show ((g : ℕ) * 8 + (e : ℕ)) / 8 = (g : ℕ) by omega, show ((g : ℕ) * 8 + (e : ℕ)) % 8 = (e : ℕ) by omega]
  split
  · split
    · simp only [Lift.sum_coe, Finset.univ_unique, Finset.sum_singleton]
      rfl
    · split
      · simp only [← EReal.coe_mul, Lift.sum_coe, Finset.univ_unique, Finset.sum_singleton, ← EReal.coe_neg]
        refine congrArg _ ?_
        unfold Grp.dalog Grp.a
        simp only [Sq.grp_alog]
        rw [neg_mul, mul_neg]
        congr 2
        exact Finset.sum_congr rfl fun l _ => mul_comm _ _
      · have e1 := fun (x : Fin 1) => sum03 reducesTo_S1x4x8x1_S4x8_d0_3
              (shapeCast S1x4x8x1
                (Host.reduceAdd (F := Ideal) (mulf (F := Ideal) (s := S8448x4x8x64) (φ := .f32) (res_main_v9 V0) (res_main_v111 V0)) (constant S_ FTy.f32 0#32)
                  reducesTo_S8448x4x8x64_S4x8_d0_3 h_S_)
                shapeCasts_S4x8_S1x4x8x1) 0 g e
        simp only [Finset.univ_unique, Finset.sum_singleton]
        refine (e1 0).trans ?_
        pointwise
        rw [sum03 reducesTo_S8448x4x8x64_S4x8_d0_3]
        pointwise
        simp only [R_v9 S V0 h, R_v111 S V0 h, ← EReal.coe_mul, Lift.sum_coe, Finset.univ_unique, Finset.sum_singleton]
        rfl
  · rfl

end Cert.ReferenceIdeal.Value
-- ==== Proof.RefEnd.lean ====
/-
  The two programs' result arrays as one set of whole-array functions of the reals the arguments are.
-/
module

public import proofs.«01_k».proof.Proof.RefVal
public import proofs.«01_k».proof.Proof.RefAcc

@[expose] public section
set_option maxRecDepth 65536
noncomputable section
namespace Cert.End
open Idealize.ShloMosaic Idealize.ShloMosaic.TcCoe Idealize.ShloMosaic.StableHlo

/-- The gradient of x. -/
def G0 (S : Sq) : (⟨2, ![8448, 2048]⟩ : Shape).Idx → EReal := fun i =>
  (((S.grp ((i 1 : ℕ) / 512)).dx (i 0) ((i 1 : ℕ) % 512) : ℝ) : EReal)
/-- The gradient of B. -/
def G1 (S : Sq) : (⟨2, ![8448, 512]⟩ : Shape).Idx → EReal := fun i =>
  (((S.grp ((i 1 : ℕ) / 128)).db (i 0) ((i 1 : ℕ) % 128) : ℝ) : EReal)
/-- The gradient of C. -/
def G2 (S : Sq) : (⟨2, ![8448, 512]⟩ : Shape).Idx → EReal := fun i =>
  (((S.grp ((i 1 : ℕ) / 128)).dc (i 0) ((i 1 : ℕ) % 128) : ℝ) : EReal)
/-- The gradient of z. -/
def G3 (S : Sq) : (⟨2, ![8448, 2048]⟩ : Shape).Idx → EReal := fun i =>
  (((S.grp ((i 1 : ℕ) / 512)).dz (i 0) ((i 1 : ℕ) % 512) : ℝ) : EReal)
/-- The gradient of the raw step sizes. -/
def G4 (S : Sq) : (⟨3, ![4, 8448, 8]⟩ : Shape).Idx → EReal := fun i =>
  (((S.grp (i 0)).ddtr (i 1) (i 2) : ℝ) : EReal)
/-- The gradients of the step bias, the log decay and the skip. -/
def G5 (S : Sq) : (⟨3, ![4, 8, 8]⟩ : Shape).Idx → EReal := fun i =>
  ((if (i 1 : ℕ) < 3 then if (i 1 : ℕ) < 1 then (S.grp (i 0)).dbias (i 2) else if (i 1 : ℕ) - 1 < 1 then (S.grp (i 0)).dalog (i 2)
      else (S.grp (i 0)).ddsk (i 2) else 0 : ℝ) : EReal)
/-- The gradient of the gate gain. -/
def G6 (S : Sq) : (⟨3, ![4, 8, 512]⟩ : Shape).Idx → EReal := fun i =>
  ((if (i 1 : ℕ) < 1 then (S.grp (i 0)).dgg (i 2) else 0 : ℝ) : EReal)

open Cert.ReferenceIdeal Cert.ReferenceIdeal.Gen Cert.ReferenceIdeal.Value

section
variable (S : Sq) (V0 : Valuation τ sig (Elt Ideal)) (h : Cert.ReferenceIdeal.Value.Reals S V0)
include h

theorem e0 : o189 V0 = G0 S := by
  funext y
  obtain ⟨i, j, rfl⟩ : ∃ (i : Fin 8448) (j : Fin 2048), y = ix2 i j := ⟨y 0, y 1, (by ext a; fin_cases a <;> rfl)⟩
  exact R_o189 S V0 h i j
theorem e1 : o190 V0 = G1 S := by
  funext y
  obtain ⟨i, j, rfl⟩ : ∃ (i : Fin 8448) (j : Fin 512), y = ix2 i j := ⟨y 0, y 1, (by ext a; fin_cases a <;> rfl)⟩
  exact R_o190 S V0 h i j
theorem e2 : o191 V0 = G2 S := by
  funext y
  obtain ⟨i, j, rfl⟩ : ∃ (i : Fin 8448) (j : Fin 512), y = ix2 i j := ⟨y 0, y 1, (by ext a; fin_cases a <;> rfl)⟩
  exact R_o191 S V0 h i j
theorem e3 : o192 V0 = G3 S := by
  funext y
  obtain ⟨i, j, rfl⟩ : ∃ (i : Fin 8448) (j : Fin 2048), y = ix2 i j := ⟨y 0, y 1, (by ext a; fin_cases a <;> rfl)⟩
  exact R_o192 S V0 h i j
theorem e4 : o176 V0 = G4 S := by
  funext y
  obtain ⟨i, j, k, rfl⟩ : ∃ (i : Fin 4) (j : Fin 8448) (k : Fin 8), y = ix3 i j k := ⟨y 0, y 1, y 2, (by ext a; fin_cases a <;> rfl)⟩
  exact R_o176 S V0 h i j k
theorem e5 : o184 V0 = G5 S := by
  funext y
  obtain ⟨i, j, k, rfl⟩ : ∃ (i : Fin 4) (j : Fin 8) (k : Fin 8), y = ix3 i j k := ⟨y 0, y 1, y 2, (by ext a; fin_cases a <;> rfl)⟩
  exact R_o184 S V0 h i j k
theorem e6 : o188 V0 = G6 S := by
  funext y
  obtain ⟨i, j, k, rfl⟩ : ∃ (i : Fin 4) (j : Fin 8) (k : Fin 512), y = ix3 i j k := ⟨y 0, y 1, y 2, (by ext a; fin_cases a <;> rfl)⟩
  exact R_o188 S V0 h i j k
end

/-- The reference's run: its results are the functions of the reals. -/
theorem run_ref (m : (ℓ : Loc nD τ sig) → Buf (Elt Ideal) ℓ) (ρ : Dev nD → PrngReg) (S : Dev nD → Sq)
    (h : ∀ c, Cert.ReferenceIdeal.Value.Reals (S c) (launchContents m c)) :
    θ_run (defs (F := Ideal)) (onTc (τ := τ) (main (F := Ideal))) ⟨m, fun _ => 0, ρ⟩ fun r => ∀ c : Dev nD,
      r.2.mem ((c.tc : Thread nD τ).loc main_v189) = G0 (S c)
      ∧ r.2.mem ((c.tc : Thread nD τ).loc main_v190) = G1 (S c)
      ∧ r.2.mem ((c.tc : Thread nD τ).loc main_v191) = G2 (S c)
      ∧ r.2.mem ((c.tc : Thread nD τ).loc main_v192) = G3 (S c)
      ∧ r.2.mem ((c.tc : Thread nD τ).loc main_v176) = G4 (S c)
      ∧ r.2.mem ((c.tc : Thread nD τ).loc main_v184) = G5 (S c)
      ∧ r.2.mem ((c.tc : Thread nD τ).loc main_v188) = G6 (S c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ hr c => ?_) (Cert.ReferenceIdeal.Value.run (F := Ideal) m ρ)
  obtain ⟨r0, r1, r2, r3, r4, r5, r6, ra⟩ := hr c
  exact ⟨r0.trans (e0 (S c) (launchContents m c) (h c)), r1.trans (e1 (S c) (launchContents m c) (h c)),
    r2.trans (e2 (S c) (launchContents m c) (h c)), r3.trans (e3 (S c) (launchContents m c) (h c)),
    r4.trans (e4 (S c) (launchContents m c) (h c)), r5.trans (e5 (S c) (launchContents m c) (h c)),
    r6.trans (e6 (S c) (launchContents m c) (h c)), ra⟩

end Cert.End
end
-- ==== Proof.Finite.lean ====
/-
  The precondition read: every entry of the arguments is a real number.
-/
module

public import proofs.«01_k».proof.Defs
public import proofs.«01_k».proof.Proof.HostVal
public import proofs.«01_k».proof.Proof.HostRead
public import proofs.«01_k».proof.Proof.RefVal

@[expose] public section
set_option maxRecDepth 65536
noncomputable section
namespace Cert.Finite
open Idealize.ShloMosaic

/-- The side conditions of the predicate's operations. -/
theorem facts : Cert.Pre_finite.Facts where
  bcast_S_S8208x3072 := by decide
  bcast_S_S8208x2048 := by decide
  bcast_S_S8208x32 := by decide
  bcast_S_S32 := by decide
  bcast_S_S2048 := by decide

/-- A value below infinity in absolute value is a real. -/
theorem real_of (x : Ideal .f32)
    (h : FloatOps.cmpf .olt (FloatOps.hostAbsf x) (FloatOps.ofBits (F := Ideal) .f32 0x7F800000#32) = 1#1) :
    (x : EReal) = ((EReal.toReal x : ℝ) : EReal) := by
  have h' : Ideal.cmp .olt (max (x : EReal) (-(x : EReal))) (Ideal.ofBits .f32 0x7F800000#32) = 1#1 := h
  rw [HostLift.bits_top] at h'
  unfold Ideal.cmp at h'
  have hn : (x : EReal) ≠ ⊤ ∧ (x : EReal) ≠ ⊥ := by
    constructor <;> intro e <;> rw [e] at h' <;> simp at h'
  exact (EReal.coe_toReal hn.1 hn.2).symm

/-- The reals the arguments are. -/
def sqOf (A : Cert.KernelIdeal.Host.Args) : Sq where
  xbc i j := if h : i < 8208 ∧ j < 3072 then EReal.toReal (A.a0 (ix2 ⟨i, h.1⟩ ⟨j, h.2⟩)) else 0
  z i j := if h : i < 8208 ∧ j < 2048 then EReal.toReal (A.a1 (ix2 ⟨i, h.1⟩ ⟨j, h.2⟩)) else 0
  dtr i j := if h : i < 8208 ∧ j < 32 then EReal.toReal (A.a2 (ix2 ⟨i, h.1⟩ ⟨j, h.2⟩)) else 0
  bias j := if h : j < 32 then EReal.toReal (A.a3 (ix1 ⟨j, h⟩)) else 0
  alog j := if h : j < 32 then EReal.toReal (A.a4 (ix1 ⟨j, h⟩)) else 0
  dsk j := if h : j < 32 then EReal.toReal (A.a5 (ix1 ⟨j, h⟩)) else 0
  gate j := if h : j < 2048 then EReal.toReal (A.a6 (ix1 ⟨j, h⟩)) else 0
  ct i j := if h : i < 8208 ∧ j < 2048 then EReal.toReal (A.a7 (ix2 ⟨i, h.1⟩ ⟨j, h.2⟩)) else 0

attribute [local instance] facts

/-- Under the precondition the kernel's arguments are the reals `sqOf`. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Host.Reals (sqOf (Cert.KernelIdeal.Host.argsOf m c)) (Cert.KernelIdeal.Host.argsOf m c) := by
  obtain ⟨e0, e1, e2, e3, e4, e5, e6, e7⟩ := h c
  exact {
    h0 := fun i j => (real_of _ (congrFun e0 (ix2 i j))).trans (by simp [sqOf, i.isLt, j.isLt]; rfl)
    h1 := fun i j => (real_of _ (congrFun e1 (ix2 i j))).trans (by simp [sqOf, i.isLt, j.isLt]; rfl)
    h2 := fun i j => (real_of _ (congrFun e2 (ix2 i j))).trans (by simp [sqOf, i.isLt, j.isLt]; rfl)
    h3 := fun j => (real_of _ (congrFun e3 (ix1 j))).trans (by simp [sqOf, j.isLt]; rfl)
    h4 := fun j => (real_of _ (congrFun e4 (ix1 j))).trans (by simp [sqOf, j.isLt]; rfl)
    h5 := fun j => (real_of _ (congrFun e5 (ix1 j))).trans (by simp [sqOf, j.isLt]; rfl)
    h6 := fun j => (real_of _ (congrFun e6 (ix1 j))).trans (by simp [sqOf, j.isLt]; rfl)
    h7 := fun i j => (real_of _ (congrFun e7 (ix2 i j))).trans (by simp [sqOf, i.isLt, j.isLt]; rfl) }

/-- The reference's arguments are the same reals when they are the kernel's. -/
theorem reals_ref (S : Sq) (A : Cert.KernelIdeal.Host.Args) (h : Cert.KernelIdeal.Host.Reals S A)
    (V0 : Valuation Cert.ReferenceIdeal.τ Cert.ReferenceIdeal.sig (Elt Ideal))
    (e0 : V0 (Proc.devRef .tc Cert.ReferenceIdeal.main_arg0) = A.a0) (e1 : V0 (Proc.devRef .tc Cert.ReferenceIdeal.main_arg1) = A.a1)
    (e2 : V0 (Proc.devRef .tc Cert.ReferenceIdeal.main_arg2) = A.a2) (e3 : V0 (Proc.devRef .tc Cert.ReferenceIdeal.main_arg3) = A.a3)
    (e4 : V0 (Proc.devRef .tc Cert.ReferenceIdeal.main_arg4) = A.a4) (e5 : V0 (Proc.devRef .tc Cert.ReferenceIdeal.main_arg5) = A.a5)
    (e6 : V0 (Proc.devRef .tc Cert.ReferenceIdeal.main_arg6) = A.a6) (e7 : V0 (Proc.devRef .tc Cert.ReferenceIdeal.main_arg7) = A.a7) :
    Cert.ReferenceIdeal.Value.Reals S V0 where
  h0 i j := (congrFun e0 (ix2 i j)).trans (h.h0 i j)
  h1 i j := (congrFun e1 (ix2 i j)).trans (h.h1 i j)
  h2 i j := (congrFun e2 (ix2 i j)).trans (h.h2 i j)
  h3 j := (congrFun e3 (ix1 j)).trans (h.h3 j)
  h4 j := (congrFun e4 (ix1 j)).trans (h.h4 j)
  h5 j := (congrFun e5 (ix1 j)).trans (h.h5 j)
  h6 j := (congrFun e6 (ix1 j)).trans (h.h6 j)
  h7 i j := (congrFun e7 (ix2 i j)).trans (h.h7 i j)

end Cert.Finite
end
-- ==== Proof.RowSum.lean ====
module

public import Idealize.ShloMosaic.Lib.Pipeline.ValueKit

/-! Sums over rows, taken block of rows by block of rows. -/

@[expose] public section
noncomputable section

namespace Cert.RowSum

open Idealize.ShloMosaic

theorem z2 : (![0, 0] : Fin 2 → Nat) = fun _ => 0 := funext fun a => by fin_cases a <;> rfl

/-- The rows before row `n`, and no row from the array's end on, of a function of a row. -/
def upTo {L : ℕ} (g : Fin L → EReal) (n : ℕ) : EReal := ∑ r ∈ Finset.range n, if h : r < L then g ⟨r, h⟩ else 0

theorem upTo_zero {L : ℕ} (g : Fin L → EReal) : upTo g 0 = 0 := by simp [upTo]

theorem upTo_all {L : ℕ} (g : Fin L → EReal) : upTo g L = ∑ r : Fin L, g r := by
  unfold upTo
  rw [Finset.sum_range]
  exact Finset.sum_congr rfl fun r _ => dif_pos r.isLt

/-- One block of rows more. -/
theorem upTo_block {L : ℕ} (g : Fin L → EReal) (n b : ℕ) (f : Fin b → EReal)
    (hf : ∀ r : Fin b, ∃ h : n + (r : ℕ) < L, f r = g ⟨n + r, h⟩) :
    upTo g (n + b) = upTo g n + ∑ r : Fin b, f r := by
  unfold upTo
  rw [Finset.sum_range_add, Finset.sum_range (n := b)]
  congr 1
  refine Finset.sum_congr rfl fun r _ => ?_
  obtain ⟨h, e⟩ := hf r
  rw [dif_pos h, e]

/-- A sum over rows of which the first 240 add nothing is the sum over the rows after them. -/
theorem sum_pad (f : Fin 8448 → EReal) (g : Fin 8208 → EReal) (h0 : ∀ r : Fin 8448, (r : ℕ) < 240 → f r = 0)
    (h1 : ∀ r : Fin 8208, f ⟨240 + (r : ℕ), by omega⟩ = g r) : ∑ r, f r = ∑ r, g r := by
  rw [← upTo_all f, upTo_block f 240 8208 g fun r => ⟨by omega, (h1 r).symm⟩]
  rw [show upTo f 240 = 0 from ?_, zero_add]
  unfold upTo
  refine Finset.sum_eq_zero fun r hr => ?_
  have hr := Finset.mem_range.mp hr
  rw [dif_pos (by omega), h0 _ hr]

end Cert.RowSum

end
-- ==== Proof.DwUp.lean ====
module

public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpReferenceIdeal
public import proofs.«01_k».proof.Proof.Gen.DwUpReferenceIdeal.Run
public import proofs.«01_k».proof.Proof.RowSum
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The weight-gradient product `DwUp`: the blocks' products added in the order of the row blocks are the product over
    all rows, which is what its reference computes. -/

@[expose] public section
set_option maxRecDepth 65536
noncomputable section

namespace Cert.DwUpIdeal.Val

open Cert.DwUpIdeal Cert.DwUpIdeal.Gen Idealize.ShloMosaic Idealize.ShloMosaic.TcCoe Cert.RowSum

section

variable (c : Dev nD) (i : grid0.Coords) (arg3 : Memref sig .tc .vmem S768x1024 .bf16) (harg3 : arg3.IsWhole) (arg4 : Memref sig .tc .vmem S768x1408 .bf16) (harg4 : arg4.IsWhole) (arg5 : Memref sig .tc .vmem S1024x1408 .f32) (harg5 : arg5.IsWhole) (arg6 : Memref sig .tc .vmem S1024x1408 .f32) (harg6 : arg6.IsWhole)
  (x0 : Vec Ideal S768x1024 .bf16) (x1 : Vec Ideal S768x1408 .bf16) (xs0 : Vec Ideal S1024x1408 .f32)

theorem s_A (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  first
    | rw [View.canon_unit_zero (S := S1024x1408) z2]
    | rw [View.canon_cons_unit_zero (S := S1024x1408) z2]
  simp only [View.readAt_eq_ld, harg3.read_unread, harg4.read_unread, harg5.read_unread, harg6.read_unread, View.ld_unit_zero (S := S768x1024) z2, View.ld_unit_zero (S := S768x1408) z2, View.ld_unit_zero (S := S1024x1408) z2]
  try simp only [View.readCov_unit_zero (S := S1024x1408) _ z2]
  try rfl

theorem s_B (hc0 : ¬cond0_0 i) (hc1 : ¬cond0_1 i) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  first
    | rw [View.canon_unit_zero (S := S1024x1408) z2]
    | rw [View.canon_cons_unit_zero (S := S1024x1408) z2]
  simp only [View.readAt_eq_ld, harg3.read_unread, harg4.read_unread, harg5.read_unread, harg6.read_unread, View.ld_unit_zero (S := S768x1024) z2, View.ld_unit_zero (S := S768x1408) z2, View.ld_unit_zero (S := S1024x1408) z2]
  try simp only [View.readCov_unit_zero (S := S1024x1408) _ z2]
  try rfl

theorem s_C (hc0 : ¬cond0_0 i) (hc1 : cond0_1 i) :
    sout0_C_0 (F := Ideal) c i arg3 harg3 arg4 harg4 arg5 harg5 arg6 harg6 hc0 hc1 x0 x1 xs0 = k0_pay2 xs0 x0 x1 := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  first
    | rw [View.canon_unit_zero (S := S1024x1408) z2]
    | rw [View.canon_cons_unit_zero (S := S1024x1408) z2]
  simp only [View.readAt_eq_ld, harg3.read_unread, harg4.read_unread, harg5.read_unread, harg6.read_unread, View.ld_unit_zero (S := S768x1024) z2, View.ld_unit_zero (S := S768x1408) z2, View.ld_unit_zero (S := S1024x1408) z2]
  try simp only [View.readCov_unit_zero (S := S1024x1408) _ z2]
  try rfl

theorem o_C (hc0 : ¬cond0_0 i) (hc1 : cond0_1 i) :
    out0_C_2 (F := Ideal) c i arg3 harg3 arg4 harg4 arg5 harg5 arg6 harg6 hc0 hc1 x0 x1 xs0 = k0_pay2 xs0 x0 x1 := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  first
    | rw [View.canon_unit_zero (S := S1024x1408) z2]
    | rw [View.canon_cons_unit_zero (S := S1024x1408) z2]
  simp only [View.readAt_eq_ld, harg3.read_unread, harg4.read_unread, harg5.read_unread, harg6.read_unread, View.ld_unit_zero (S := S768x1024) z2, View.ld_unit_zero (S := S768x1408) z2, View.ld_unit_zero (S := S1024x1408) z2]
  try simp only [View.readCov_unit_zero (S := S1024x1408) _ z2]
  try rfl

end

theorem pay1 (i : Fin 1024) (j : Fin 1408) : k0_pay1 (F := Ideal) (ix2 i j) = 0 := by
  unfold k0_pay1
  pointwise

theorem pay2 (a : Vec Ideal S1024x1408 .f32) (x : Vec Ideal S768x1024 .bf16) (y : Vec Ideal S768x1408 .bf16) (i : Fin 1024) (j : Fin 1408) :
    k0_pay2 a x y (ix2 i j) = a (ix2 i j) + ∑ r : Fin 768, x (ix2 r i) * y (ix2 r j) := by
  unfold k0_pay2
  pointwise

/-! ## The blocks a grid point reads and writes -/

theorem at0 : ∀ t : Fin cfg0.N, win0_0.index t = ![t.val % 11, t.val / 44] :=
  (by decide +kernel : ∀ t : Fin grid0.N, win0_0.index t = ![t.val % 11, t.val / 44])
theorem at1 : ∀ t : Fin cfg0.N, win0_1.index t = ![t.val % 11, t.val / 11 % 4] :=
  (by decide +kernel : ∀ t : Fin grid0.N, win0_1.index t = ![t.val % 11, t.val / 11 % 4])
theorem at2 : ∀ t : Fin cfg0.N, win0_2.index t = ![t.val / 44, t.val / 11 % 4] :=
  (by decide +kernel : ∀ t : Fin grid0.N, win0_2.index t = ![t.val / 44, t.val / 11 % 4])

theorem ltN (t : Fin cfg0.N) : t.val < 44 := lt_of_lt_of_eq t.isLt (show cfg0.N = 44 from N_0)

/-- The product at row `r` of two arrays' columns `p` and `q`. -/
def pr (X : (⟨2, ![8448, 1024]⟩ : Shape).Idx → EReal) (Y : (⟨2, ![8448, 5632]⟩ : Shape).Idx → EReal) (p q : ℕ) (r : Fin 8448) : EReal :=
  X (ix2 r ⟨p % 1024, Nat.mod_lt _ (by decide)⟩) * Y (ix2 r ⟨q % 5632, Nat.mod_lt _ (by decide)⟩)

variable (m : (ℓ : Loc nD τ sig) → Buf (Elt Ideal) ℓ) (c : Dev nD)

abbrev X0 : (⟨2, ![8448, 1024]⟩ : Shape).Idx → EReal := V m c main_v2
abbrev Y0 : (⟨2, ![8448, 5632]⟩ : Shape).Idx → EReal := V m c main_v5

abbrev A0 : (⟨2, ![8208, 1024]⟩ : Shape).Idx → EReal := m ((c : Thread nD τ).loc main_arg0)
abbrev B0 : (⟨2, ![8208, 5632]⟩ : Shape).Idx → EReal := m ((c : Thread nD τ).loc main_arg1)

/-- The call's first operand: the argument after 240 rows of zeros. -/
theorem X0_at (r : Fin 8448) (p : Fin 1024) : X0 m c (ix2 r p)
    = if h : (r : ℕ) < 240 then 0 else A0 m c (ix2 ⟨(r : ℕ) - 240, by omega⟩ p) := by
  refine Eq.trans (congrFun (show V m c main_v2 = truncf (F := Ideal) .bf16 (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0) bitsLt_bf16_f32 from ?_) _) (by pointwise)
  unfold V
  after_reads_simp
  rfl

/-- The second: the other argument likewise. -/
theorem Y0_at (r : Fin 8448) (p : Fin 5632) : Y0 m c (ix2 r p)
    = if h : (r : ℕ) < 240 then 0 else B0 m c (ix2 ⟨(r : ℕ) - 240, by omega⟩ p) := by
  refine Eq.trans (congrFun (show V m c main_v5 = truncf (F := Ideal) .bf16 (concatenate S8448x5632 0 [⟨S240x5632, broadcastInDim S240x5632 ![] bcast_S_S240x5632 (constant S_ .f32 0x00000000#32)⟩, ⟨S8208x5632, m ((c : Thread nD τ).loc main_arg1)⟩] concatenates_S240x5632_S8208x5632_S8448x5632_d0) bitsLt_bf16_f32 from ?_) _) (by pointwise)
  unfold V
  after_reads_simp
  rfl

theorem blk0 (t : Fin cfg0.N) (r : Fin 768) (i : Fin 1024) (h0 : 768 * (t.val % 11) + (r : ℕ) < 8448) (h1 : 1024 * (t.val / 44) + (i : ℕ) < 1024) :
    iblk m c 0 t (ix2 r i) = X0 m c (ix2 ⟨768 * (t.val % 11) + (r : ℕ), h0⟩ ⟨1024 * (t.val / 44) + (i : ℕ), h1⟩) := by
  have e : (win0_0.blk t).view.emb (ix2 r i) = ix2 ⟨768 * (t.val % 11) + (r : ℕ), h0⟩ ⟨1024 * (t.val / 44) + (i : ℕ), h1⟩ := by
    funext a
    apply Fin.ext
    fin_cases a
    all_goals (blk_simp [at0]; try simp; try omega)
  blk_simp [iblk]
  rw [e]

theorem blk1 (t : Fin cfg0.N) (r : Fin 768) (j : Fin 1408) (h0 : 768 * (t.val % 11) + (r : ℕ) < 8448) (h1 : 1408 * (t.val / 11 % 4) + (j : ℕ) < 5632) :
    iblk m c 1 t (ix2 r j) = Y0 m c (ix2 ⟨768 * (t.val % 11) + (r : ℕ), h0⟩ ⟨1408 * (t.val / 11 % 4) + (j : ℕ), h1⟩) := by
  have e : (win0_1.blk t).view.emb (ix2 r j) = ix2 ⟨768 * (t.val % 11) + (r : ℕ), h0⟩ ⟨1408 * (t.val / 11 % 4) + (j : ℕ), h1⟩ := by
    funext a
    apply Fin.ext
    fin_cases a
    all_goals (blk_simp [at1]; try simp; try omega)
  blk_simp [iblk]
  rw [e]

/-- One grid point's step of the sum. -/
theorem step (t : Fin cfg0.N) (a : Vec Ideal S1024x1408 .f32) (i : Fin 1024) (j : Fin 1408)
    (ha : a (ix2 i j) = upTo (pr (X0 m c) (Y0 m c) (1024 * (t.val / 44) + i) (1408 * (t.val / 11 % 4) + j)) (768 * (t.val % 11))) :
    k0_pay2 a (iblk m c 0 t) (iblk m c 1 t) (ix2 i j)
      = upTo (pr (X0 m c) (Y0 m c) (1024 * (t.val / 44) + i) (1408 * (t.val / 11 % 4) + j)) (768 * (t.val % 11 + 1)) := by
  have ht := ltN t
  have hi := i.isLt
  have hj := j.isLt
  have h1 : 1024 * (t.val / 44) + (i : ℕ) < 1024 := by omega
  have h2 : 1408 * (t.val / 11 % 4) + (j : ℕ) < 5632 := by omega
  rw [pay2, ha, Nat.mul_succ]
  refine (upTo_block _ _ _ _ fun r => ?_).symm
  have hr := r.isLt
  have h0 : 768 * (t.val % 11) + (r : ℕ) < 8448 := by omega
  refine ⟨h0, ?_⟩
  rw [blk0 m c t r i h0 h1, blk1 m c t r j h0 h2]
  unfold pr
  simp only [Nat.mod_eq_of_lt h1, Nat.mod_eq_of_lt h2]

attribute [local irreducible] outsAt0 iblk k0_pay1 k0_pay2 upTo

/-- What the accumulator holds after a grid point: the products of the rows up to the point's row block. -/
theorem acc_after (n : ℕ) : ∀ (hn : n < cfg0.N) (i : Fin 1024) (j : Fin 1408),
    (outsAt0 m c n hn).2 (ix2 i j)
      = upTo (pr (X0 m c) (Y0 m c) (1024 * (n / 44) + i) (1408 * (n / 11 % 4) + j)) (768 * (n % 11 + 1)) := by
  induction n using Nat.strong_induction_on with
  | _ n ih =>
    intro hn i j
    by_cases h0 : n % 11 = 0
    · have e := outsAt0_A m c ⟨n, hn⟩ h0 (by dsimp only; omega)
      dsimp only at e
      rw [e]
      dsimp only
      rw [s_A]
      refine step m c ⟨n, hn⟩ _ i j ?_
      rw [pay1]
      dsimp only
      rw [h0, Nat.mul_zero, upTo_zero]
    · have hp := ih (n - 1) (by omega) (by omega) i j
      rw [show (n - 1) / 44 = n / 44 by omega, show (n - 1) / 11 = n / 11 by omega, show (n - 1) % 11 + 1 = n % 11 by omega] at hp
      by_cases h1 : n % 11 = 10
      · have e := outsAt0_C m c ⟨n, hn⟩ h0 h1
        dsimp only at e
        rw [e]
        dsimp only
        rw [s_C]
        exact step m c ⟨n, hn⟩ _ i j hp
      · have e := outsAt0_B m c ⟨n, hn⟩ h0 h1
        dsimp only at e
        rw [e]
        dsimp only
        rw [s_B]
        exact step m c ⟨n, hn⟩ _ i j hp

/-- The last row block's point writes what the accumulator then holds. -/
theorem out_last (t : Fin cfg0.N) (h1 : t.val % 11 = 10) : (outsAt0 m c t.val t.isLt).1 = (outsAt0 m c t.val t.isLt).2 := by
  rw [outsAt0_C m c t (by omega) h1]
  dsimp only
  rw [o_C, s_C]

/-- The result: the product of the columns over all rows. -/
def G (X : (⟨2, ![8448, 1024]⟩ : Shape).Idx → EReal) (Y : (⟨2, ![8448, 5632]⟩ : Shape).Idx → EReal) : (⟨2, ![1024, 5632]⟩ : Shape).Idx → EReal :=
  fun y => ∑ r : Fin 8448, pr X Y (y 0) (y 1) r

theorem arr : (dats m 0 c).arrAt 2 cfg0.N = G (X0 m c) (Y0 m c) := by
  refine (dats m 0 c).arrAt_eq_of_covers 2 _ (by decide +kernel) fun t hf y => ?_
  have hl : t.val % 11 = 10 := (flush0_2 t).mp hf
  have ht := ltN t
  blk_simp [at2]
  rw [after0_2, out_last m c t hl]
  obtain ⟨i, j, rfl⟩ : ∃ (i : Fin 1024) (j : Fin 1408), y = ix2 i j := ⟨y 0, y 1, (by ext a; fin_cases a <;> rfl)⟩
  refine (acc_after m c t.val t.isLt i j).trans ?_
  have hi := i.isLt
  have hj := j.isLt
  have h0 : 1024 * (t.val / 44) + (i : ℕ) < 1024 := by omega
  have h1 : 1408 * (t.val / 11 % 4) + (j : ℕ) < 5632 := by omega
  have e : (win0_2.blk t).view.emb (ix2 i j) = ix2 ⟨1024 * (t.val / 44) + (i : ℕ), h0⟩ ⟨1408 * (t.val / 11 % 4) + (j : ℕ), h1⟩ := by
    funext a
    apply Fin.ext
    fin_cases a
    all_goals (blk_simp [at2]; try simp; try omega)
  rw [e, hl]
  unfold G
  rw [← upTo_all]
  rfl

end Cert.DwUpIdeal.Val

namespace Cert.DwUpReferenceIdeal.Val

open Cert.DwUpReferenceIdeal Cert.DwUpReferenceIdeal.Gen Idealize.ShloMosaic Idealize.ShloMosaic.TcCoe

theorem ref (A : FVec Ideal S8208x1024 .f32) (B : FVec Ideal S8208x5632 .f32)
    (X : (⟨2, ![8448, 1024]⟩ : Shape).Idx → EReal) (Y : (⟨2, ![8448, 5632]⟩ : Shape).Idx → EReal)
    (hX : ∀ r p, X (ix2 r p) = if h : (r : ℕ) < 240 then 0 else A (ix2 ⟨(r : ℕ) - 240, by omega⟩ p))
    (hY : ∀ r p, Y (ix2 r p) = if h : (r : ℕ) < 240 then 0 else B (ix2 ⟨(r : ℕ) - 240, by omega⟩ p)) :
    transpose S1024x5632 [1, 0] (Host.dotGeneral dot_S8208x5632_S8208x1024_S5632x1024_0_0_1_1_n_n none B A) transposes_S5632x1024_S1024x5632_1_0
      = Cert.DwUpIdeal.Val.G X Y := by
  funext y
  obtain ⟨i, j, rfl⟩ : ∃ (i : Fin 1024) (j : Fin 5632), y = ix2 i j := ⟨y 0, y 1, (by ext a; fin_cases a <;> rfl)⟩
  refine Eq.trans (b := ∑ r : Fin 8208, B (ix2 r j) * A (ix2 r i)) (by pointwise) (Eq.symm ?_)
  unfold Cert.DwUpIdeal.Val.G Cert.DwUpIdeal.Val.pr
  refine Cert.RowSum.sum_pad _ _ (fun r hr => ?_) fun r => ?_
  · rw [hX, dif_pos hr, zero_mul]
  · show X (ix2 ⟨240 + (r : ℕ), _⟩ ⟨(i : ℕ) % 1024, _⟩) * Y (ix2 ⟨240 + (r : ℕ), _⟩ ⟨(j : ℕ) % 5632, _⟩) = _
    rw [hX, hY, dif_neg (by dsimp only; omega), dif_neg (by dsimp only; omega), mul_comm]
    simp only [Nat.mod_eq_of_lt i.isLt, Nat.mod_eq_of_lt j.isLt, Nat.add_sub_cancel_left, Fin.eta]

end Cert.DwUpReferenceIdeal.Val

namespace Cert.DwUpEnd

open Idealize.ShloMosaic Idealize.SL.Sem Idealize.ShloMosaic.TcCoe

attribute [local instance] Cert.DwUp.Gen.facts Cert.DwUpIdeal.Gen.facts Cert.DwUpReferenceIdeal.Gen.facts

theorem frame_kernel : Cert.quiescent_DwUp := fun m ρ _ => Cert.DwUp.Gen.frame m ρ

theorem frame_ideal : Cert.quiescent_DwUpIdeal := fun m ρ _ => Cert.DwUpIdeal.Gen.frame m ρ

theorem frame_ref : Cert.quiescent_DwUpReferenceIdeal := by
  intro m ρ _
  refine (θ_run Cert.DwUpReferenceIdeal.defs _ _).mono (fun r h => ⟨fun c => ?_, sem_eq_zero_of_no_sems (by decide) r.2⟩)
    (Cert.DwUpReferenceIdeal.Value.run (F := Ideal) m ρ)
  exact (h c).2

/-- Kernel and reference both end with the product over all rows. -/
theorem results : Cert.algebraic_DwUpIdeal_DwUpReferenceIdeal := by
  intro m g m' g' _ hagree
  refine ⟨fun c => Cert.DwUpIdeal.Val.G (Cert.DwUpIdeal.Val.X0 m c) (Cert.DwUpIdeal.Val.Y0 m c), ?_, ?_⟩
  · refine (θ_run Cert.DwUpIdeal.defs _ _).mono (fun _ hr c => ?_) (Cert.DwUpIdeal.Value.run_blocks m g)
    exact ⟨(hr c).1.trans (Cert.DwUpIdeal.Val.arr m c), (hr c).2⟩
  · refine (θ_run Cert.DwUpReferenceIdeal.defs _ _).mono (fun _ hr c => ?_) (Cert.DwUpReferenceIdeal.Value.run (F := Ideal) m' g')
    refine ⟨(hr c).1.trans ?_, (hr c).2⟩
    rw [(hagree c).1, (hagree c).2]
    exact Cert.DwUpReferenceIdeal.Val.ref _ _ _ _ (Cert.DwUpIdeal.Val.X0_at m c) (Cert.DwUpIdeal.Val.Y0_at m c)

end Cert.DwUpEnd

end
-- ==== Proof.DwDown.lean ====
module

public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownReferenceIdeal
public import proofs.«01_k».proof.Proof.Gen.DwDownReferenceIdeal.Run
public import proofs.«01_k».proof.Proof.RowSum
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The weight-gradient product `DwDown`: the blocks' products added in the order of the row blocks are the product over
    all rows, which is what its reference computes. -/

@[expose] public section
set_option maxRecDepth 65536
noncomputable section

namespace Cert.DwDownIdeal.Val

open Cert.DwDownIdeal Cert.DwDownIdeal.Gen Idealize.ShloMosaic Idealize.ShloMosaic.TcCoe Cert.RowSum

section

variable (c : Dev nD) (i : grid0.Coords) (arg3 : Memref sig .tc .vmem S768x1408 .bf16) (harg3 : arg3.IsWhole) (arg4 : Memref sig .tc .vmem S768x1024 .f32) (harg4 : arg4.IsWhole) (arg5 : Memref sig .tc .vmem S1408x1024 .f32) (harg5 : arg5.IsWhole) (arg6 : Memref sig .tc .vmem S1408x1024 .f32) (harg6 : arg6.IsWhole)
  (x0 : Vec Ideal S768x1408 .bf16) (x1 : Vec Ideal S768x1024 .f32) (xs0 : Vec Ideal S1408x1024 .f32)

theorem s_A (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  first
    | rw [View.canon_unit_zero (S := S1408x1024) z2]
    | rw [View.canon_cons_unit_zero (S := S1408x1024) z2]
  simp only [View.readAt_eq_ld, harg3.read_unread, harg4.read_unread, harg5.read_unread, harg6.read_unread, View.ld_unit_zero (S := S768x1408) z2, View.ld_unit_zero (S := S768x1024) z2, View.ld_unit_zero (S := S1408x1024) z2]
  try simp only [View.readCov_unit_zero (S := S1408x1024) _ z2]
  try rfl

theorem s_B (hc0 : ¬cond0_0 i) (hc1 : ¬cond0_1 i) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  first
    | rw [View.canon_unit_zero (S := S1408x1024) z2]
    | rw [View.canon_cons_unit_zero (S := S1408x1024) z2]
  simp only [View.readAt_eq_ld, harg3.read_unread, harg4.read_unread, harg5.read_unread, harg6.read_unread, View.ld_unit_zero (S := S768x1408) z2, View.ld_unit_zero (S := S768x1024) z2, View.ld_unit_zero (S := S1408x1024) z2]
  try simp only [View.readCov_unit_zero (S := S1408x1024) _ z2]
  try rfl

theorem s_C (hc0 : ¬cond0_0 i) (hc1 : cond0_1 i) :
    sout0_C_0 (F := Ideal) c i arg3 harg3 arg4 harg4 arg5 harg5 arg6 harg6 hc0 hc1 x0 x1 xs0 = k0_pay2 xs0 x0 x1 := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  first
    | rw [View.canon_unit_zero (S := S1408x1024) z2]
    | rw [View.canon_cons_unit_zero (S := S1408x1024) z2]
  simp only [View.readAt_eq_ld, harg3.read_unread, harg4.read_unread, harg5.read_unread, harg6.read_unread, View.ld_unit_zero (S := S768x1408) z2, View.ld_unit_zero (S := S768x1024) z2, View.ld_unit_zero (S := S1408x1024) z2]
  try simp only [View.readCov_unit_zero (S := S1408x1024) _ z2]
  try rfl

theorem o_C (hc0 : ¬cond0_0 i) (hc1 : cond0_1 i) :
    out0_C_2 (F := Ideal) c i arg3 harg3 arg4 harg4 arg5 harg5 arg6 harg6 hc0 hc1 x0 x1 xs0 = k0_pay2 xs0 x0 x1 := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  first
    | rw [View.canon_unit_zero (S := S1408x1024) z2]
    | rw [View.canon_cons_unit_zero (S := S1408x1024) z2]
  simp only [View.readAt_eq_ld, harg3.read_unread, harg4.read_unread, harg5.read_unread, harg6.read_unread, View.ld_unit_zero (S := S768x1408) z2, View.ld_unit_zero (S := S768x1024) z2, View.ld_unit_zero (S := S1408x1024) z2]
  try simp only [View.readCov_unit_zero (S := S1408x1024) _ z2]
  try rfl

end

theorem pay1 (i : Fin 1408) (j : Fin 1024) : k0_pay1 (F := Ideal) (ix2 i j) = 0 := by
  unfold k0_pay1
  pointwise

theorem pay2 (a : Vec Ideal S1408x1024 .f32) (x : Vec Ideal S768x1408 .bf16) (y : Vec Ideal S768x1024 .f32) (i : Fin 1408) (j : Fin 1024) :
    k0_pay2 a x y (ix2 i j) = a (ix2 i j) + ∑ r : Fin 768, x (ix2 r i) * y (ix2 r j) := by
  unfold k0_pay2
  pointwise

/-! ## The blocks a grid point reads and writes -/

theorem at0 : ∀ t : Fin cfg0.N, win0_0.index t = ![t.val % 11, t.val / 11] :=
  (by decide +kernel : ∀ t : Fin grid0.N, win0_0.index t = ![t.val % 11, t.val / 11])
theorem at1 : ∀ t : Fin cfg0.N, win0_1.index t = ![t.val % 11, t.val / 11 % 1] :=
  (by decide +kernel : ∀ t : Fin grid0.N, win0_1.index t = ![t.val % 11, t.val / 11 % 1])
theorem at2 : ∀ t : Fin cfg0.N, win0_2.index t = ![t.val / 11, t.val / 11 % 1] :=
  (by decide +kernel : ∀ t : Fin grid0.N, win0_2.index t = ![t.val / 11, t.val / 11 % 1])

theorem ltN (t : Fin cfg0.N) : t.val < 22 := lt_of_lt_of_eq t.isLt (show cfg0.N = 22 from N_0)

/-- The product at row `r` of two arrays' columns `p` and `q`. -/
def pr (X : (⟨2, ![8448, 2816]⟩ : Shape).Idx → EReal) (Y : (⟨2, ![8448, 1024]⟩ : Shape).Idx → EReal) (p q : ℕ) (r : Fin 8448) : EReal :=
  X (ix2 r ⟨p % 2816, Nat.mod_lt _ (by decide)⟩) * Y (ix2 r ⟨q % 1024, Nat.mod_lt _ (by decide)⟩)

variable (m : (ℓ : Loc nD τ sig) → Buf (Elt Ideal) ℓ) (c : Dev nD)

abbrev X0 : (⟨2, ![8448, 2816]⟩ : Shape).Idx → EReal := V m c main_v2
abbrev Y0 : (⟨2, ![8448, 1024]⟩ : Shape).Idx → EReal := V m c main_v4

abbrev A0 : (⟨2, ![8208, 2816]⟩ : Shape).Idx → EReal := m ((c : Thread nD τ).loc main_arg0)
abbrev B0 : (⟨2, ![8208, 1024]⟩ : Shape).Idx → EReal := m ((c : Thread nD τ).loc main_arg1)

/-- The call's first operand: the argument after 240 rows of zeros. -/
theorem X0_at (r : Fin 8448) (p : Fin 2816) : X0 m c (ix2 r p)
    = if h : (r : ℕ) < 240 then 0 else A0 m c (ix2 ⟨(r : ℕ) - 240, by omega⟩ p) := by
  refine Eq.trans (congrFun (show V m c main_v2 = truncf (F := Ideal) .bf16 (concatenate S8448x2816 0 [⟨S240x2816, broadcastInDim S240x2816 ![] bcast_S_S240x2816 (constant S_ .f32 0x00000000#32)⟩, ⟨S8208x2816, m ((c : Thread nD τ).loc main_arg0)⟩] concatenates_S240x2816_S8208x2816_S8448x2816_d0) bitsLt_bf16_f32 from ?_) _) (by pointwise)
  unfold V
  after_reads_simp
  rfl

/-- The second: the other argument likewise. -/
theorem Y0_at (r : Fin 8448) (p : Fin 1024) : Y0 m c (ix2 r p)
    = if h : (r : ℕ) < 240 then 0 else B0 m c (ix2 ⟨(r : ℕ) - 240, by omega⟩ p) := by
  refine Eq.trans (congrFun (show V m c main_v4 = (concatenate S8448x1024 0 [⟨S240x1024, broadcastInDim S240x1024 ![] bcast_S_S240x1024 (constant S_ .f32 0x00000000#32)⟩, ⟨S8208x1024, m ((c : Thread nD τ).loc main_arg1)⟩] concatenates_S240x1024_S8208x1024_S8448x1024_d0 : FVec Ideal S8448x1024 .f32) from ?_) _) (by pointwise)
  unfold V
  after_reads_simp
  rfl

theorem blk0 (t : Fin cfg0.N) (r : Fin 768) (i : Fin 1408) (h0 : 768 * (t.val % 11) + (r : ℕ) < 8448) (h1 : 1408 * (t.val / 11) + (i : ℕ) < 2816) :
    iblk m c 0 t (ix2 r i) = X0 m c (ix2 ⟨768 * (t.val % 11) + (r : ℕ), h0⟩ ⟨1408 * (t.val / 11) + (i : ℕ), h1⟩) := by
  have e : (win0_0.blk t).view.emb (ix2 r i) = ix2 ⟨768 * (t.val % 11) + (r : ℕ), h0⟩ ⟨1408 * (t.val / 11) + (i : ℕ), h1⟩ := by
    funext a
    apply Fin.ext
    fin_cases a
    all_goals (blk_simp [at0]; try simp; try omega)
  blk_simp [iblk]
  rw [e]

theorem blk1 (t : Fin cfg0.N) (r : Fin 768) (j : Fin 1024) (h0 : 768 * (t.val % 11) + (r : ℕ) < 8448) (h1 : 1024 * (t.val / 11 % 1) + (j : ℕ) < 1024) :
    iblk m c 1 t (ix2 r j) = Y0 m c (ix2 ⟨768 * (t.val % 11) + (r : ℕ), h0⟩ ⟨1024 * (t.val / 11 % 1) + (j : ℕ), h1⟩) := by
  have e : (win0_1.blk t).view.emb (ix2 r j) = ix2 ⟨768 * (t.val % 11) + (r : ℕ), h0⟩ ⟨1024 * (t.val / 11 % 1) + (j : ℕ), h1⟩ := by
    funext a
    apply Fin.ext
    fin_cases a
    all_goals (blk_simp [at1]; try simp; try omega)
  blk_simp [iblk]
  rw [e]

/-- One grid point's step of the sum. -/
theorem step (t : Fin cfg0.N) (a : Vec Ideal S1408x1024 .f32) (i : Fin 1408) (j : Fin 1024)
    (ha : a (ix2 i j) = upTo (pr (X0 m c) (Y0 m c) (1408 * (t.val / 11) + i) (1024 * (t.val / 11 % 1) + j)) (768 * (t.val % 11))) :
    k0_pay2 a (iblk m c 0 t) (iblk m c 1 t) (ix2 i j)
      = upTo (pr (X0 m c) (Y0 m c) (1408 * (t.val / 11) + i) (1024 * (t.val / 11 % 1) + j)) (768 * (t.val % 11 + 1)) := by
  have ht := ltN t
  have hi := i.isLt
  have hj := j.isLt
  have h1 : 1408 * (t.val / 11) + (i : ℕ) < 2816 := by omega
  have h2 : 1024 * (t.val / 11 % 1) + (j : ℕ) < 1024 := by omega
  rw [pay2, ha, Nat.mul_succ]
  refine (upTo_block _ _ _ _ fun r => ?_).symm
  have hr := r.isLt
  have h0 : 768 * (t.val % 11) + (r : ℕ) < 8448 := by omega
  refine ⟨h0, ?_⟩
  rw [blk0 m c t r i h0 h1, blk1 m c t r j h0 h2]
  unfold pr
  simp only [Nat.mod_eq_of_lt h1, Nat.mod_eq_of_lt h2]

attribute [local irreducible] outsAt0 iblk k0_pay1 k0_pay2 upTo

/-- What the accumulator holds after a grid point: the products of the rows up to the point's row block. -/
theorem acc_after (n : ℕ) : ∀ (hn : n < cfg0.N) (i : Fin 1408) (j : Fin 1024),
    (outsAt0 m c n hn).2 (ix2 i j)
      = upTo (pr (X0 m c) (Y0 m c) (1408 * (n / 11) + i) (1024 * (n / 11 % 1) + j)) (768 * (n % 11 + 1)) := by
  induction n using Nat.strong_induction_on with
  | _ n ih =>
    intro hn i j
    by_cases h0 : n % 11 = 0
    · have e := outsAt0_A m c ⟨n, hn⟩ h0 (by dsimp only; omega)
      dsimp only at e
      rw [e]
      dsimp only
      rw [s_A]
      refine step m c ⟨n, hn⟩ _ i j ?_
      rw [pay1]
      dsimp only
      rw [h0, Nat.mul_zero, upTo_zero]
    · have hp := ih (n - 1) (by omega) (by omega) i j
      rw [show (n - 1) / 11 = n / 11 by omega, show (n - 1) % 11 + 1 = n % 11 by omega] at hp
      by_cases h1 : n % 11 = 10
      · have e := outsAt0_C m c ⟨n, hn⟩ h0 h1
        dsimp only at e
        rw [e]
        dsimp only
        rw [s_C]
        exact step m c ⟨n, hn⟩ _ i j hp
      · have e := outsAt0_B m c ⟨n, hn⟩ h0 h1
        dsimp only at e
        rw [e]
        dsimp only
        rw [s_B]
        exact step m c ⟨n, hn⟩ _ i j hp

/-- The last row block's point writes what the accumulator then holds. -/
theorem out_last (t : Fin cfg0.N) (h1 : t.val % 11 = 10) : (outsAt0 m c t.val t.isLt).1 = (outsAt0 m c t.val t.isLt).2 := by
  rw [outsAt0_C m c t (by omega) h1]
  dsimp only
  rw [o_C, s_C]

/-- The result: the product of the columns over all rows. -/
def G (X : (⟨2, ![8448, 2816]⟩ : Shape).Idx → EReal) (Y : (⟨2, ![8448, 1024]⟩ : Shape).Idx → EReal) : (⟨2, ![2816, 1024]⟩ : Shape).Idx → EReal :=
  fun y => ∑ r : Fin 8448, pr X Y (y 0) (y 1) r

theorem arr : (dats m 0 c).arrAt 2 cfg0.N = G (X0 m c) (Y0 m c) := by
  refine (dats m 0 c).arrAt_eq_of_covers 2 _ (by decide +kernel) fun t hf y => ?_
  have hl : t.val % 11 = 10 := (flush0_2 t).mp hf
  have ht := ltN t
  blk_simp [at2]
  rw [after0_2, out_last m c t hl]
  obtain ⟨i, j, rfl⟩ : ∃ (i : Fin 1408) (j : Fin 1024), y = ix2 i j := ⟨y 0, y 1, (by ext a; fin_cases a <;> rfl)⟩
  refine (acc_after m c t.val t.isLt i j).trans ?_
  have hi := i.isLt
  have hj := j.isLt
  have h0 : 1408 * (t.val / 11) + (i : ℕ) < 2816 := by omega
  have h1 : 1024 * (t.val / 11 % 1) + (j : ℕ) < 1024 := by omega
  have e : (win0_2.blk t).view.emb (ix2 i j) = ix2 ⟨1408 * (t.val / 11) + (i : ℕ), h0⟩ ⟨1024 * (t.val / 11 % 1) + (j : ℕ), h1⟩ := by
    funext a
    apply Fin.ext
    fin_cases a
    all_goals (blk_simp [at2]; try simp; try omega)
  rw [e, hl]
  unfold G
  rw [← upTo_all]
  rfl

end Cert.DwDownIdeal.Val

namespace Cert.DwDownReferenceIdeal.Val

open Cert.DwDownReferenceIdeal Cert.DwDownReferenceIdeal.Gen Idealize.ShloMosaic Idealize.ShloMosaic.TcCoe

theorem ref (A : FVec Ideal S8208x2816 .f32) (B : FVec Ideal S8208x1024 .f32)
    (X : (⟨2, ![8448, 2816]⟩ : Shape).Idx → EReal) (Y : (⟨2, ![8448, 1024]⟩ : Shape).Idx → EReal)
    (hX : ∀ r p, X (ix2 r p) = if h : (r : ℕ) < 240 then 0 else A (ix2 ⟨(r : ℕ) - 240, by omega⟩ p))
    (hY : ∀ r p, Y (ix2 r p) = if h : (r : ℕ) < 240 then 0 else B (ix2 ⟨(r : ℕ) - 240, by omega⟩ p)) :
    transpose S2816x1024 [1, 0] (Host.dotGeneral dot_S8208x1024_S8208x2816_S1024x2816_0_0_1_1_n_n none B A) transposes_S1024x2816_S2816x1024_1_0
      = Cert.DwDownIdeal.Val.G X Y := by
  funext y
  obtain ⟨i, j, rfl⟩ : ∃ (i : Fin 2816) (j : Fin 1024), y = ix2 i j := ⟨y 0, y 1, (by ext a; fin_cases a <;> rfl)⟩
  refine Eq.trans (b := ∑ r : Fin 8208, B (ix2 r j) * A (ix2 r i)) (by pointwise) (Eq.symm ?_)
  unfold Cert.DwDownIdeal.Val.G Cert.DwDownIdeal.Val.pr
  refine Cert.RowSum.sum_pad _ _ (fun r hr => ?_) fun r => ?_
  · rw [hX, dif_pos hr, zero_mul]
  · show X (ix2 ⟨240 + (r : ℕ), _⟩ ⟨(i : ℕ) % 2816, _⟩) * Y (ix2 ⟨240 + (r : ℕ), _⟩ ⟨(j : ℕ) % 1024, _⟩) = _
    rw [hX, hY, dif_neg (by dsimp only; omega), dif_neg (by dsimp only; omega), mul_comm]
    simp only [Nat.mod_eq_of_lt i.isLt, Nat.mod_eq_of_lt j.isLt, Nat.add_sub_cancel_left, Fin.eta]

end Cert.DwDownReferenceIdeal.Val

namespace Cert.DwDownEnd

open Idealize.ShloMosaic Idealize.SL.Sem Idealize.ShloMosaic.TcCoe

attribute [local instance] Cert.DwDown.Gen.facts Cert.DwDownIdeal.Gen.facts Cert.DwDownReferenceIdeal.Gen.facts

theorem frame_kernel : Cert.quiescent_DwDown := fun m ρ _ => Cert.DwDown.Gen.frame m ρ

theorem frame_ideal : Cert.quiescent_DwDownIdeal := fun m ρ _ => Cert.DwDownIdeal.Gen.frame m ρ

theorem frame_ref : Cert.quiescent_DwDownReferenceIdeal := by
  intro m ρ _
  refine (θ_run Cert.DwDownReferenceIdeal.defs _ _).mono (fun r h => ⟨fun c => ?_, sem_eq_zero_of_no_sems (by decide) r.2⟩)
    (Cert.DwDownReferenceIdeal.Value.run (F := Ideal) m ρ)
  exact (h c).2

/-- Kernel and reference both end with the product over all rows. -/
theorem results : Cert.algebraic_DwDownIdeal_DwDownReferenceIdeal := by
  intro m g m' g' _ hagree
  refine ⟨fun c => Cert.DwDownIdeal.Val.G (Cert.DwDownIdeal.Val.X0 m c) (Cert.DwDownIdeal.Val.Y0 m c), ?_, ?_⟩
  · refine (θ_run Cert.DwDownIdeal.defs _ _).mono (fun _ hr c => ?_) (Cert.DwDownIdeal.Value.run_blocks m g)
    exact ⟨(hr c).1.trans (Cert.DwDownIdeal.Val.arr m c), (hr c).2⟩
  · refine (θ_run Cert.DwDownReferenceIdeal.defs _ _).mono (fun _ hr c => ?_) (Cert.DwDownReferenceIdeal.Value.run (F := Ideal) m' g')
    refine ⟨(hr c).1.trans ?_, (hr c).2⟩
    rw [(hagree c).1, (hagree c).2]
    exact Cert.DwDownReferenceIdeal.Val.ref _ _ _ _ (Cert.DwDownIdeal.Val.X0_at m c) (Cert.DwDownIdeal.Val.Y0_at m c)

end Cert.DwDownEnd

end
-- ==== Proof.DwIn.lean ====
module

public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInReferenceIdeal
public import proofs.«01_k».proof.Proof.Gen.DwInReferenceIdeal.Run
public import proofs.«01_k».proof.Proof.RowSum
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The weight-gradient product `DwIn`: the blocks' products added in the order of the row blocks are the product over
    all rows, which is what its reference computes. -/

@[expose] public section
set_option maxRecDepth 65536
noncomputable section

namespace Cert.DwInIdeal.Val

open Cert.DwInIdeal Cert.DwInIdeal.Gen Idealize.ShloMosaic Idealize.ShloMosaic.TcCoe Cert.RowSum

section

variable (c : Dev nD) (i : grid0.Coords) (arg3 : Memref sig .tc .vmem S768x1024 .bf16) (harg3 : arg3.IsWhole) (arg4 : Memref sig .tc .vmem S768x1792 .bf16) (harg4 : arg4.IsWhole) (arg5 : Memref sig .tc .vmem S1024x1792 .f32) (harg5 : arg5.IsWhole) (arg6 : Memref sig .tc .vmem S1024x1792 .f32) (harg6 : arg6.IsWhole)
  (x0 : Vec Ideal S768x1024 .bf16) (x1 : Vec Ideal S768x1792 .bf16) (xs0 : Vec Ideal S1024x1792 .f32)

theorem s_A (hc0 : cond0_0 i) (hc1 : ¬cond0_1 i) :
    sout0_A_0 (F := Ideal) c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 (F := Ideal) c i arg3 harg3 arg4 harg4 arg5 harg5 arg6 harg6 hc0 hc1 x0 x1)]
  unfold kernelRun0_A
  dsimp only
  sl_unfold_words
  first
    | rw [View.canon_unit_zero (S := S1024x1792) z2]
    | rw [View.canon_cons_unit_zero (S := S1024x1792) z2]
  simp only [View.readAt_eq_ld, harg3.read_unread, harg4.read_unread, harg5.read_unread, harg6.read_unread, View.ld_unit_zero (S := S768x1024) z2, View.ld_unit_zero (S := S768x1792) z2, View.ld_unit_zero (S := S1024x1792) z2]
  try simp only [View.readCov_unit_zero (S := S1024x1792) _ z2]
  try rfl

theorem s_B (hc0 : ¬cond0_0 i) (hc1 : ¬cond0_1 i) :
    sout0_B_0 (F := Ideal) c i arg3 harg3 arg4 harg4 arg5 harg5 arg6 harg6 hc0 hc1 x0 x1 xs0 = k0_pay2 xs0 x0 x1 := by
  unfold sout0_B_0
  rw [View.read_writes_eq_canon _ _ _ (scover0_B_0 (F := Ideal) c i arg3 harg3 arg4 harg4 arg5 harg5 arg6 harg6 hc0 hc1 x0 x1 xs0)]
  unfold kernelRun0_B
  dsimp only
  sl_unfold_words
  first
    | rw [View.canon_unit_zero (S := S1024x1792) z2]
    | rw [View.canon_cons_unit_zero (S := S1024x1792) z2]
  simp only [View.readAt_eq_ld, harg3.read_unread, harg4.read_unread, harg5.read_unread, harg6.read_unread, View.ld_unit_zero (S := S768x1024) z2, View.ld_unit_zero (S := S768x1792) z2, View.ld_unit_zero (S := S1024x1792) z2]
  try simp only [View.readCov_unit_zero (S := S1024x1792) _ z2]
  try rfl

theorem s_C (hc0 : ¬cond0_0 i) (hc1 : cond0_1 i) :
    sout0_C_0 (F := Ideal) c i arg3 harg3 arg4 harg4 arg5 harg5 arg6 harg6 hc0 hc1 x0 x1 xs0 = k0_pay2 xs0 x0 x1 := by
  unfold sout0_C_0
  rw [View.read_writes_eq_canon _ _ _ (scover0_C_0 (F := Ideal) c i arg3 harg3 arg4 harg4 arg5 harg5 arg6 harg6 hc0 hc1 x0 x1 xs0)]
  unfold kernelRun0_C
  dsimp only
  sl_unfold_words
  first
    | rw [View.canon_unit_zero (S := S1024x1792) z2]
    | rw [View.canon_cons_unit_zero (S := S1024x1792) z2]
  simp only [View.readAt_eq_ld, harg3.read_unread, harg4.read_unread, harg5.read_unread, harg6.read_unread, View.ld_unit_zero (S := S768x1024) z2, View.ld_unit_zero (S := S768x1792) z2, View.ld_unit_zero (S := S1024x1792) z2]
  try simp only [View.readCov_unit_zero (S := S1024x1792) _ z2]
  try rfl

theorem o_C (hc0 : ¬cond0_0 i) (hc1 : cond0_1 i) :
    out0_C_2 (F := Ideal) c i arg3 harg3 arg4 harg4 arg5 harg5 arg6 harg6 hc0 hc1 x0 x1 xs0 = k0_pay2 xs0 x0 x1 := by
  unfold out0_C_2
  rw [View.read_writes_eq_canon _ _ _ (cover0_C_2 (F := Ideal) c i arg3 harg3 arg4 harg4 arg5 harg5 arg6 harg6 hc0 hc1 x0 x1 xs0)]
  unfold kernelRun0_C
  dsimp only
  sl_unfold_words
  first
    | rw [View.canon_unit_zero (S := S1024x1792) z2]
    | rw [View.canon_cons_unit_zero (S := S1024x1792) z2]
  simp only [View.readAt_eq_ld, harg3.read_unread, harg4.read_unread, harg5.read_unread, harg6.read_unread, View.ld_unit_zero (S := S768x1024) z2, View.ld_unit_zero (S := S768x1792) z2, View.ld_unit_zero (S := S1024x1792) z2]
  try simp only [View.readCov_unit_zero (S := S1024x1792) _ z2]
  try rfl

end

theorem pay1 (i : Fin 1024) (j : Fin 1792) : k0_pay1 (F := Ideal) (ix2 i j) = 0 := by
  unfold k0_pay1
  pointwise

theorem pay2 (a : Vec Ideal S1024x1792 .f32) (x : Vec Ideal S768x1024 .bf16) (y : Vec Ideal S768x1792 .bf16) (i : Fin 1024) (j : Fin 1792) :
    k0_pay2 a x y (ix2 i j) = a (ix2 i j) + ∑ r : Fin 768, x (ix2 r i) * y (ix2 r j) := by
  unfold k0_pay2
  pointwise

/-! ## The blocks a grid point reads and writes -/

theorem at0 : ∀ t : Fin cfg0.N, win0_0.index t = ![t.val % 11, t.val / 33] :=
  (by decide +kernel : ∀ t : Fin grid0.N, win0_0.index t = ![t.val % 11, t.val / 33])
theorem at1 : ∀ t : Fin cfg0.N, win0_1.index t = ![t.val % 11, t.val / 11 % 3] :=
  (by decide +kernel : ∀ t : Fin grid0.N, win0_1.index t = ![t.val % 11, t.val / 11 % 3])
theorem at2 : ∀ t : Fin cfg0.N, win0_2.index t = ![t.val / 33, t.val / 11 % 3] :=
  (by decide +kernel : ∀ t : Fin grid0.N, win0_2.index t = ![t.val / 33, t.val / 11 % 3])

theorem ltN (t : Fin cfg0.N) : t.val < 33 := lt_of_lt_of_eq t.isLt (show cfg0.N = 33 from N_0)

/-- The product at row `r` of two arrays' columns `p` and `q`. -/
def pr (X : (⟨2, ![8448, 1024]⟩ : Shape).Idx → EReal) (Y : (⟨2, ![8448, 5376]⟩ : Shape).Idx → EReal) (p q : ℕ) (r : Fin 8448) : EReal :=
  X (ix2 r ⟨p % 1024, Nat.mod_lt _ (by decide)⟩) * Y (ix2 r ⟨q % 5376, Nat.mod_lt _ (by decide)⟩)

variable (m : (ℓ : Loc nD τ sig) → Buf (Elt Ideal) ℓ) (c : Dev nD)

abbrev X0 : (⟨2, ![8448, 1024]⟩ : Shape).Idx → EReal := V m c main_v2
abbrev Y0 : (⟨2, ![8448, 5376]⟩ : Shape).Idx → EReal := V m c main_v5

abbrev A0 : (⟨2, ![8208, 1024]⟩ : Shape).Idx → EReal := m ((c : Thread nD τ).loc main_arg0)
abbrev B0 : (⟨2, ![8208, 5376]⟩ : Shape).Idx → EReal := m ((c : Thread nD τ).loc main_arg1)

/-- The call's first operand: the argument after 240 rows of zeros. -/
theorem X0_at (r : Fin 8448) (p : Fin 1024) : X0 m c (ix2 r p)
    = if h : (r : ℕ) < 240 then 0 else A0 m c (ix2 ⟨(r : ℕ) - 240, by omega⟩ p) := by
  refine Eq.trans (congrFun (show V m c main_v2 = truncf (F := Ideal) .bf16 (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0) bitsLt_bf16_f32 from ?_) _) (by pointwise)
  unfold V
  after_reads_simp
  rfl

/-- The second: the other argument likewise. -/
theorem Y0_at (r : Fin 8448) (p : Fin 5376) : Y0 m c (ix2 r p)
    = if h : (r : ℕ) < 240 then 0 else B0 m c (ix2 ⟨(r : ℕ) - 240, by omega⟩ p) := by
  refine Eq.trans (congrFun (show V m c main_v5 = truncf (F := Ideal) .bf16 (concatenate S8448x5376 0 [⟨S240x5376, broadcastInDim S240x5376 ![] bcast_S_S240x5376 (constant S_ .f32 0x00000000#32)⟩, ⟨S8208x5376, m ((c : Thread nD τ).loc main_arg1)⟩] concatenates_S240x5376_S8208x5376_S8448x5376_d0) bitsLt_bf16_f32 from ?_) _) (by pointwise)
  unfold V
  after_reads_simp
  rfl

theorem blk0 (t : Fin cfg0.N) (r : Fin 768) (i : Fin 1024) (h0 : 768 * (t.val % 11) + (r : ℕ) < 8448) (h1 : 1024 * (t.val / 33) + (i : ℕ) < 1024) :
    iblk m c 0 t (ix2 r i) = X0 m c (ix2 ⟨768 * (t.val % 11) + (r : ℕ), h0⟩ ⟨1024 * (t.val / 33) + (i : ℕ), h1⟩) := by
  have e : (win0_0.blk t).view.emb (ix2 r i) = ix2 ⟨768 * (t.val % 11) + (r : ℕ), h0⟩ ⟨1024 * (t.val / 33) + (i : ℕ), h1⟩ := by
    funext a
    apply Fin.ext
    fin_cases a
    all_goals (blk_simp [at0]; try simp; try omega)
  blk_simp [iblk]
  rw [e]

theorem blk1 (t : Fin cfg0.N) (r : Fin 768) (j : Fin 1792) (h0 : 768 * (t.val % 11) + (r : ℕ) < 8448) (h1 : 1792 * (t.val / 11 % 3) + (j : ℕ) < 5376) :
    iblk m c 1 t (ix2 r j) = Y0 m c (ix2 ⟨768 * (t.val % 11) + (r : ℕ), h0⟩ ⟨1792 * (t.val / 11 % 3) + (j : ℕ), h1⟩) := by
  have e : (win0_1.blk t).view.emb (ix2 r j) = ix2 ⟨768 * (t.val % 11) + (r : ℕ), h0⟩ ⟨1792 * (t.val / 11 % 3) + (j : ℕ), h1⟩ := by
    funext a
    apply Fin.ext
    fin_cases a
    all_goals (blk_simp [at1]; try simp; try omega)
  blk_simp [iblk]
  rw [e]

/-- One grid point's step of the sum. -/
theorem step (t : Fin cfg0.N) (a : Vec Ideal S1024x1792 .f32) (i : Fin 1024) (j : Fin 1792)
    (ha : a (ix2 i j) = upTo (pr (X0 m c) (Y0 m c) (1024 * (t.val / 33) + i) (1792 * (t.val / 11 % 3) + j)) (768 * (t.val % 11))) :
    k0_pay2 a (iblk m c 0 t) (iblk m c 1 t) (ix2 i j)
      = upTo (pr (X0 m c) (Y0 m c) (1024 * (t.val / 33) + i) (1792 * (t.val / 11 % 3) + j)) (768 * (t.val % 11 + 1)) := by
  have ht := ltN t
  have hi := i.isLt
  have hj := j.isLt
  have h1 : 1024 * (t.val / 33) + (i : ℕ) < 1024 := by omega
  have h2 : 1792 * (t.val / 11 % 3) + (j : ℕ) < 5376 := by omega
  rw [pay2, ha, Nat.mul_succ]
  refine (upTo_block _ _ _ _ fun r => ?_).symm
  have hr := r.isLt
  have h0 : 768 * (t.val % 11) + (r : ℕ) < 8448 := by omega
  refine ⟨h0, ?_⟩
  rw [blk0 m c t r i h0 h1, blk1 m c t r j h0 h2]
  unfold pr
  simp only [Nat.mod_eq_of_lt h1, Nat.mod_eq_of_lt h2]

attribute [local irreducible] outsAt0 iblk k0_pay1 k0_pay2 upTo

/-- What the accumulator holds after a grid point: the products of the rows up to the point's row block. -/
theorem acc_after (n : ℕ) : ∀ (hn : n < cfg0.N) (i : Fin 1024) (j : Fin 1792),
    (outsAt0 m c n hn).2 (ix2 i j)
      = upTo (pr (X0 m c) (Y0 m c) (1024 * (n / 33) + i) (1792 * (n / 11 % 3) + j)) (768 * (n % 11 + 1)) := by
  induction n using Nat.strong_induction_on with
  | _ n ih =>
    intro hn i j
    by_cases h0 : n % 11 = 0
    · have e := outsAt0_A m c ⟨n, hn⟩ h0 (by dsimp only; omega)
      dsimp only at e
      rw [e]
      dsimp only
      rw [s_A]
      refine step m c ⟨n, hn⟩ _ i j ?_
      rw [pay1]
      dsimp only
      rw [h0, Nat.mul_zero, upTo_zero]
    · have hp := ih (n - 1) (by omega) (by omega) i j
      rw [show (n - 1) / 33 = n / 33 by omega, show (n - 1) / 11 = n / 11 by omega, show (n - 1) % 11 + 1 = n % 11 by omega] at hp
      by_cases h1 : n % 11 = 10
      · have e := outsAt0_C m c ⟨n, hn⟩ h0 h1
        dsimp only at e
        rw [e]
        dsimp only
        rw [s_C]
        exact step m c ⟨n, hn⟩ _ i j hp
      · have e := outsAt0_B m c ⟨n, hn⟩ h0 h1
        dsimp only at e
        rw [e]
        dsimp only
        rw [s_B]
        exact step m c ⟨n, hn⟩ _ i j hp

/-- The last row block's point writes what the accumulator then holds. -/
theorem out_last (t : Fin cfg0.N) (h1 : t.val % 11 = 10) : (outsAt0 m c t.val t.isLt).1 = (outsAt0 m c t.val t.isLt).2 := by
  rw [outsAt0_C m c t (by omega) h1]
  dsimp only
  rw [o_C, s_C]

/-- The result: the product of the columns over all rows. -/
def G (X : (⟨2, ![8448, 1024]⟩ : Shape).Idx → EReal) (Y : (⟨2, ![8448, 5376]⟩ : Shape).Idx → EReal) : (⟨2, ![1024, 5376]⟩ : Shape).Idx → EReal :=
  fun y => ∑ r : Fin 8448, pr X Y (y 0) (y 1) r

theorem arr : (dats m 0 c).arrAt 2 cfg0.N = G (X0 m c) (Y0 m c) := by
  refine (dats m 0 c).arrAt_eq_of_covers 2 _ (by decide +kernel) fun t hf y => ?_
  have hl : t.val % 11 = 10 := (flush0_2 t).mp hf
  have ht := ltN t
  blk_simp [at2]
  rw [after0_2, out_last m c t hl]
  obtain ⟨i, j, rfl⟩ : ∃ (i : Fin 1024) (j : Fin 1792), y = ix2 i j := ⟨y 0, y 1, (by ext a; fin_cases a <;> rfl)⟩
  refine (acc_after m c t.val t.isLt i j).trans ?_
  have hi := i.isLt
  have hj := j.isLt
  have h0 : 1024 * (t.val / 33) + (i : ℕ) < 1024 := by omega
  have h1 : 1792 * (t.val / 11 % 3) + (j : ℕ) < 5376 := by omega
  have e : (win0_2.blk t).view.emb (ix2 i j) = ix2 ⟨1024 * (t.val / 33) + (i : ℕ), h0⟩ ⟨1792 * (t.val / 11 % 3) + (j : ℕ), h1⟩ := by
    funext a
    apply Fin.ext
    fin_cases a
    all_goals (blk_simp [at2]; try simp; try omega)
  rw [e, hl]
  unfold G
  rw [← upTo_all]
  rfl

end Cert.DwInIdeal.Val

namespace Cert.DwInReferenceIdeal.Val

open Cert.DwInReferenceIdeal Cert.DwInReferenceIdeal.Gen Idealize.ShloMosaic Idealize.ShloMosaic.TcCoe

theorem ref (A : FVec Ideal S8208x1024 .f32) (B : FVec Ideal S8208x5376 .f32)
    (X : (⟨2, ![8448, 1024]⟩ : Shape).Idx → EReal) (Y : (⟨2, ![8448, 5376]⟩ : Shape).Idx → EReal)
    (hX : ∀ r p, X (ix2 r p) = if h : (r : ℕ) < 240 then 0 else A (ix2 ⟨(r : ℕ) - 240, by omega⟩ p))
    (hY : ∀ r p, Y (ix2 r p) = if h : (r : ℕ) < 240 then 0 else B (ix2 ⟨(r : ℕ) - 240, by omega⟩ p)) :
    transpose S1024x5376 [1, 0] (Host.dotGeneral dot_S8208x5376_S8208x1024_S5376x1024_0_0_1_1_n_n none B A) transposes_S5376x1024_S1024x5376_1_0
      = Cert.DwInIdeal.Val.G X Y := by
  funext y
  obtain ⟨i, j, rfl⟩ : ∃ (i : Fin 1024) (j : Fin 5376), y = ix2 i j := ⟨y 0, y 1, (by ext a; fin_cases a <;> rfl)⟩
  refine Eq.trans (b := ∑ r : Fin 8208, B (ix2 r j) * A (ix2 r i)) (by pointwise) (Eq.symm ?_)
  unfold Cert.DwInIdeal.Val.G Cert.DwInIdeal.Val.pr
  refine Cert.RowSum.sum_pad _ _ (fun r hr => ?_) fun r => ?_
  · rw [hX, dif_pos hr, zero_mul]
  · show X (ix2 ⟨240 + (r : ℕ), _⟩ ⟨(i : ℕ) % 1024, _⟩) * Y (ix2 ⟨240 + (r : ℕ), _⟩ ⟨(j : ℕ) % 5376, _⟩) = _
    rw [hX, hY, dif_neg (by dsimp only; omega), dif_neg (by dsimp only; omega), mul_comm]
    simp only [Nat.mod_eq_of_lt i.isLt, Nat.mod_eq_of_lt j.isLt, Nat.add_sub_cancel_left, Fin.eta]

end Cert.DwInReferenceIdeal.Val

namespace Cert.DwInEnd

open Idealize.ShloMosaic Idealize.SL.Sem Idealize.ShloMosaic.TcCoe

attribute [local instance] Cert.DwIn.Gen.facts Cert.DwInIdeal.Gen.facts Cert.DwInReferenceIdeal.Gen.facts

theorem frame_kernel : Cert.quiescent_DwIn := fun m ρ _ => Cert.DwIn.Gen.frame m ρ

theorem frame_ideal : Cert.quiescent_DwInIdeal := fun m ρ _ => Cert.DwInIdeal.Gen.frame m ρ

theorem frame_ref : Cert.quiescent_DwInReferenceIdeal := by
  intro m ρ _
  refine (θ_run Cert.DwInReferenceIdeal.defs _ _).mono (fun r h => ⟨fun c => ?_, sem_eq_zero_of_no_sems (by decide) r.2⟩)
    (Cert.DwInReferenceIdeal.Value.run (F := Ideal) m ρ)
  exact (h c).2

/-- Kernel and reference both end with the product over all rows. -/
theorem results : Cert.algebraic_DwInIdeal_DwInReferenceIdeal := by
  intro m g m' g' _ hagree
  refine ⟨fun c => Cert.DwInIdeal.Val.G (Cert.DwInIdeal.Val.X0 m c) (Cert.DwInIdeal.Val.Y0 m c), ?_, ?_⟩
  · refine (θ_run Cert.DwInIdeal.defs _ _).mono (fun _ hr c => ?_) (Cert.DwInIdeal.Value.run_blocks m g)
    exact ⟨(hr c).1.trans (Cert.DwInIdeal.Val.arr m c), (hr c).2⟩
  · refine (θ_run Cert.DwInReferenceIdeal.defs _ _).mono (fun _ hr c => ?_) (Cert.DwInReferenceIdeal.Value.run (F := Ideal) m' g')
    refine ⟨(hr c).1.trans ?_, (hr c).2⟩
    rw [(hagree c).1, (hagree c).2]
    exact Cert.DwInReferenceIdeal.Val.ref _ _ _ _ (Cert.DwInIdeal.Val.X0_at m c) (Cert.DwInIdeal.Val.Y0_at m c)

end Cert.DwInEnd

end
-- ==== Proof.PadRows.lean ====
module

public import proofs.«01_k».proof.Proof.SeqSpec
public import proofs.«01_k».proof.Proof.RowSum

/-! The kernels' choice between a row's value and zero, by the row's number. -/

@[expose] public section
noncomputable section

namespace Cert.PadRows

open Idealize.ShloMosaic Idealize.ShloMosaic.WordCmp

/-- The comparison of a row's number with the first row that is not padding, and the choice it makes. -/
theorem sel_row {α : Type} (b a : ℕ) (hb : b < 11) (ha : a < 768) (x y : α) :
    Scalar.select (IntOp.cmpi .sge (IntOp.addi (Scalar.muli (BitVec.ofNat 32 b) 768#32) (BitVec.ofNat 32 a)) 240#32) x y
      = if 240 ≤ 768 * b + a then x else y := by
  have e : IntOp.addi (Scalar.muli (BitVec.ofNat 32 b) 768#32) (BitVec.ofNat 32 a) = BitVec.ofNat 32 (768 * b + a) := by
    apply BitVec.eq_of_toNat_eq
    simp only [IntOp.addi, Scalar.muli, IntOp.muli, BitVec.toNat_add, BitVec.toNat_mul, BitVec.toNat_ofNat]
    omega
  rw [e, cmpi_sge_ofNat (b := 240) (by omega) (by omega)]
  by_cases h : 240 ≤ 768 * b + a <;> simp [Scalar.select, h]

end Cert.PadRows

end
-- ==== Proof.DAct.lean ====
module

public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActIdeal.Value
public import proofs.«01_k».proof.Proof.Gen.DActReferenceIdeal
public import proofs.«01_k».proof.Proof.Gen.DActReferenceIdeal.Run
public import proofs.«01_k».proof.Proof.PadRows
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The product `DAct` of a cotangent with a weight's transpose, zero on the rows of padding. -/

@[expose] public section
set_option maxRecDepth 65536
noncomputable section

namespace Cert.DActIdeal.Val

open Cert.DActIdeal Cert.DActIdeal.Gen Idealize.ShloMosaic Idealize.ShloMosaic.TcCoe Cert.RowSum

theorem at0 : ∀ t : Fin cfg0.N, win0_0.index t = ![t.val / 2, 0] :=
  (by decide +kernel : ∀ t : Fin grid0.N, win0_0.index t = ![t.val / 2, 0])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, t.val % 2] :=
  (by decide +kernel : ∀ t : Fin grid0.N, win0_2.index t = ![t.val / 2, t.val % 2])
theorem coord : ∀ t : Fin cfg0.N, (grid0.coords t 0).val = t.val / 2 :=
  (by decide +kernel : ∀ t : Fin grid0.N, (grid0.coords t 0).val = t.val / 2)
theorem ltN (t : Fin cfg0.N) : t.val < 22 := lt_of_lt_of_eq t.isLt (show cfg0.N = 22 from N_0)

theorem pay (i : grid0.Coords) (x : Vec Ideal S768x1024 .f32) (w : Vec Ideal S1408x1024 .bf16) (a : Fin 768) (b : Fin 1408) :
    k0_pay1 i x w (ix2 a b) = if 240 ≤ 768 * (i 0).val + (a : ℕ) then ∑ p : Fin 1024, x (ix2 a p) * w (ix2 b p) else 0 := by
  refine Eq.trans ?_ (Cert.PadRows.sel_row (i 0).val a (i 0).isLt a.isLt _ _)
  unfold k0_pay1
  pointwise

/-- The body's one store fills its block. -/
theorem out_eq (i : grid0.Coords) (x : Vec Ideal S768x1024 .f32) (w : Vec Ideal S1408x1024 .bf16) :
    out0_2 i x w = k0_pay1 i x w := by
  unfold out0_2
  rw [View.canon_unit_zero (S := S768x1408) z2]
  simp only [View.ld_unit_zero (S := S768x1024) z2, View.ld_unit_zero (S := S1408x1024) z2]

variable (m : (ℓ : Loc nD τ sig) → Buf (Elt Ideal) ℓ) (c : Dev nD)

abbrev A0 : (⟨2, ![2816, 1024]⟩ : Shape).Idx → EReal := m ((c : Thread nD τ).loc main_arg0)
abbrev A1 : (⟨2, ![8208, 1024]⟩ : Shape).Idx → EReal := m ((c : Thread nD τ).loc main_arg1)

theorem V_1 (r : Fin 8448) (p : Fin 1024) : (V m c main_v1 : (⟨2, ![8448, 1024]⟩ : Shape).Idx → EReal) (ix2 r p)
    = if h : (r : ℕ) < 240 then 0 else A1 m c (ix2 ⟨(r : ℕ) - 240, by omega⟩ p) := by
  refine Eq.trans (congrFun (show V m c main_v1 = (concatenate S8448x1024 0 [⟨S240x1024, broadcastInDim S240x1024 ![] bcast_S_S240x1024 (constant S_ .f32 0x00000000#32)⟩, ⟨S8208x1024, m ((c : Thread nD τ).loc main_arg1)⟩] concatenates_S240x1024_S8208x1024_S8448x1024_d0 : FVec Ideal S8448x1024 .f32) from ?_) _) (by pointwise)
  unfold V
  after_reads_simp
  rfl

theorem V_2 (r : Fin 2816) (p : Fin 1024) : (V m c main_v2 : (⟨2, ![2816, 1024]⟩ : Shape).Idx → EReal) (ix2 r p) = A0 m c (ix2 r p) := by
  refine Eq.trans (congrFun (show V m c main_v2 = truncf (F := Ideal) .bf16 (m ((c : Thread nD τ).loc main_arg0)) bitsLt_bf16_f32 from ?_) _) (by pointwise)
  unfold V
  after_reads_simp

theorem blk0 (t : Fin cfg0.N) (a : Fin 768) (b : Fin 1024) (h0 : 768 * (t.val / 2) + (a : ℕ) < 8448) (h1 : (b : ℕ) < 1024) :
    iblk m c 0 t (ix2 a b) = (V m c main_v1 : (⟨2, ![8448, 1024]⟩ : Shape).Idx → EReal) (ix2 ⟨768 * (t.val / 2) + (a : ℕ), h0⟩ ⟨(b : ℕ), h1⟩) := by
  have e : (win0_0.blk t).view.emb (ix2 a b) = ix2 ⟨768 * (t.val / 2) + (a : ℕ), h0⟩ ⟨(b : ℕ), h1⟩ := by
    funext x
    apply Fin.ext
    fin_cases x
    all_goals (blk_simp [at0]; try simp; try omega)
  blk_simp [iblk]
  rw [e]

theorem blk1 (t : Fin cfg0.N) (a : Fin 1408) (b : Fin 1024) (h0 : 1408 * (t.val % 2) + (a : ℕ) < 2816) (h1 : (b : ℕ) < 1024) :
    iblk m c 1 t (ix2 a b) = (V m c main_v2 : (⟨2, ![2816, 1024]⟩ : Shape).Idx → EReal) (ix2 ⟨1408 * (t.val % 2) + (a : ℕ), h0⟩ ⟨(b : ℕ), h1⟩) := by
  have e : (win0_1.blk t).view.emb (ix2 a b) = ix2 ⟨1408 * (t.val % 2) + (a : ℕ), h0⟩ ⟨(b : ℕ), h1⟩ := by
    funext x
    apply Fin.ext
    fin_cases x
    all_goals (blk_simp [at1]; try simp; try omega)
  blk_simp [iblk]
  rw [e]

/-- The result: zero on the padding, then each row's product with the weight's rows. -/
def G (A : (⟨2, ![2816, 1024]⟩ : Shape).Idx → EReal) (B : (⟨2, ![8208, 1024]⟩ : Shape).Idx → EReal) (r q : ℕ) : EReal :=
  if h : r < 240 ∨ 8448 ≤ r then 0 else ∑ p : Fin 1024, B (ix2 ⟨r - 240, by omega⟩ p) * A (ix2 ⟨q % 2816, Nat.mod_lt _ (by decide)⟩ p)

def res : (⟨2, ![8448, 2816]⟩ : Shape).Idx → EReal := fun y => G (A0 m c) (A1 m c) (y 0) (y 1)

attribute [local irreducible] iblk k0_pay1

theorem arr : (dats m 0 c).arrAt 2 cfg0.N = res m c := by
  refine (dats m 0 c).arrAt_eq_of_covers 2 _ (by decide +kernel) fun t hf y => ?_
  have ht := ltN t
  blk_simp [at2]
  rw [after0_2, out_eq]
  obtain ⟨a, b, rfl⟩ : ∃ (a : Fin 768) (b : Fin 1408), y = ix2 a b := ⟨y 0, y 1, (by ext x; fin_cases x <;> rfl)⟩
  have ha := a.isLt
  have hb := b.isLt
  have h0 : 768 * (t.val / 2) + (a : ℕ) < 8448 := by omega
  have h1 : 1408 * (t.val % 2) + (b : ℕ) < 2816 := by omega
  have e : (win0_2.blk t).view.emb (ix2 a b) = ix2 ⟨768 * (t.val / 2) + (a : ℕ), h0⟩ ⟨1408 * (t.val % 2) + (b : ℕ), h1⟩ := by
    funext x
    apply Fin.ext
    fin_cases x
    all_goals (blk_simp [at2]; try simp; try omega)
  rw [e]
  refine (pay _ _ _ a b).trans ?_
  show _ = G (A0 m c) (A1 m c) (768 * (t.val / 2) + (a : ℕ)) (1408 * (t.val % 2) + (b : ℕ))
  rw [coord]
  unfold G
  by_cases hp : 240 ≤ 768 * (t.val / 2) + (a : ℕ)
  · rw [if_pos hp, dif_neg (by omega)]
    refine Finset.sum_congr rfl fun p _ => ?_
    rw [blk0 m c t a p h0 (by omega), blk1 m c t b p h1 (by omega), V_1, V_2, dif_neg (by dsimp only; omega)]
    simp only [Nat.mod_eq_of_lt h1]
  · rw [if_neg hp, dif_pos (by omega)]

end Cert.DActIdeal.Val

namespace Cert.DActReferenceIdeal.Val

open Cert.DActReferenceIdeal Cert.DActReferenceIdeal.Gen Idealize.ShloMosaic Idealize.ShloMosaic.TcCoe

theorem ref (A : FVec Ideal S2816x1024 .f32) (B : FVec Ideal S8208x1024 .f32) :
    truncf .bf16 (concatenate S8448x2816 0 [⟨S240x2816, (broadcastInDim S240x2816 ![] bcast_S_S240x2816 (constant S_ .f32 0x00000000#32))⟩, ⟨S8208x2816, (Host.dotGeneral dot_S8208x1024_S2816x1024_S8208x2816_1_1_0_0_n_n none B A)⟩] concatenates_S240x2816_S8208x2816_S8448x2816_d0) bitsLt_bf16_f32
      = fun y => Cert.DActIdeal.Val.G A B (y 0) (y 1) := by
  funext y
  obtain ⟨i, j, rfl⟩ : ∃ (i : Fin 8448) (j : Fin 2816), y = ix2 i j := ⟨y 0, y 1, (by ext a; fin_cases a <;> rfl)⟩
  show _ = Cert.DActIdeal.Val.G A B (i : ℕ) (j : ℕ)
  have hi := i.isLt
  refine Eq.trans (b := if h : (i : ℕ) < 240 then 0 else ∑ p : Fin 1024, B (ix2 ⟨(i : ℕ) - 240, by omega⟩ p) * A (ix2 j p)) (by pointwise) ?_
  unfold Cert.DActIdeal.Val.G
  by_cases h : (i : ℕ) < 240
  · rw [dif_pos h, dif_pos (by omega)]
  · rw [dif_neg h, dif_neg (by omega)]
    simp only [Nat.mod_eq_of_lt j.isLt]

end Cert.DActReferenceIdeal.Val

namespace Cert.DActEnd

open Idealize.ShloMosaic Idealize.SL.Sem Idealize.ShloMosaic.TcCoe

attribute [local instance] Cert.DAct.Gen.facts Cert.DActIdeal.Gen.facts Cert.DActReferenceIdeal.Gen.facts

theorem frame_kernel : Cert.quiescent_DAct := fun m ρ _ => Cert.DAct.Gen.frame m ρ

theorem frame_ideal : Cert.quiescent_DActIdeal := fun m ρ _ => Cert.DActIdeal.Gen.frame m ρ

theorem frame_ref : Cert.quiescent_DActReferenceIdeal := by
  intro m ρ _
  refine (θ_run Cert.DActReferenceIdeal.defs _ _).mono (fun r h => ⟨fun c => ?_, sem_eq_zero_of_no_sems (by decide) r.2⟩)
    (Cert.DActReferenceIdeal.Value.run (F := Ideal) m ρ)
  exact (h c).2

/-- Kernel and reference both end with the same array. -/
theorem results : Cert.algebraic_DActIdeal_DActReferenceIdeal := by
  intro m g m' g' _ hagree
  refine ⟨fun c => Cert.DActIdeal.Val.res m c, ?_, ?_⟩
  · refine (θ_run Cert.DActIdeal.defs _ _).mono (fun _ hr c => ?_) (Cert.DActIdeal.Value.run_blocks m g)
    exact ⟨(hr c).1.trans (Cert.DActIdeal.Val.arr m c), (hr c).2⟩
  · refine (θ_run Cert.DActReferenceIdeal.defs _ _).mono (fun _ hr c => ?_) (Cert.DActReferenceIdeal.Value.run (F := Ideal) m' g')
    refine ⟨(hr c).1.trans ?_, (hr c).2⟩
    rw [(hagree c).1, (hagree c).2]
    exact Cert.DActReferenceIdeal.Val.ref _ _

end Cert.DActEnd

end
-- ==== Proof.FfnDown.lean ====
module

public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.PadRows
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The product `FfnDown` with a weight, added to a residual, zero on the rows of padding. -/

@[expose] public section
set_option maxRecDepth 65536
noncomputable section

namespace Cert.FfnDownIdeal.Val

open Cert.FfnDownIdeal Cert.FfnDownIdeal.Gen Idealize.ShloMosaic Idealize.ShloMosaic.TcCoe Cert.RowSum

theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])
theorem coord : ∀ t : Fin cfg0.N, (grid0.coords t 0).val = t.val :=
  (by decide +kernel : ∀ t : Fin grid0.N, (grid0.coords t 0).val = t.val)
theorem ltN (t : Fin cfg0.N) : t.val < 11 := lt_of_lt_of_eq t.isLt (show cfg0.N = 11 from N_0)

theorem pay (i : grid0.Coords) (x : Vec Ideal S768x2816 .bf16) (w : Vec Ideal S2816x1024 .bf16) (h : Vec Ideal S768x1024 .f32) (a : Fin 768) (b : Fin 1024) :
    k0_pay1 i x w h (ix2 a b) = h (ix2 a b) + if 240 ≤ 768 * (i 0).val + (a : ℕ) then ∑ p : Fin 2816, x (ix2 a p) * w (ix2 p b) else 0 := by
  refine Eq.trans ?_ (congrArg (h (ix2 a b) + ·) (Cert.PadRows.sel_row (i 0).val a (i 0).isLt a.isLt _ _))
  unfold k0_pay1
  pointwise

/-- The body's one store fills its block. -/
theorem out_eq (i : grid0.Coords) (x : Vec Ideal S768x2816 .bf16) (w : Vec Ideal S2816x1024 .bf16) (h : Vec Ideal S768x1024 .f32) :
    out0_3 i x w h = k0_pay1 i x w h := by
  unfold out0_3
  rw [View.canon_unit_zero (S := S768x1024) z2]
  simp only [View.ld_unit_zero (S := S768x2816) z2, View.ld_unit_zero (S := S2816x1024) z2, View.ld_unit_zero (S := S768x1024) z2]

variable (m : (ℓ : Loc nD τ sig) → Buf (Elt Ideal) ℓ) (c : Dev nD)

abbrev A0 : (⟨2, ![8208, 2816]⟩ : Shape).Idx → EReal := m ((c : Thread nD τ).loc main_arg0)
abbrev A1 : (⟨2, ![2816, 1024]⟩ : Shape).Idx → EReal := m ((c : Thread nD τ).loc main_arg1)
abbrev A2 : (⟨2, ![8208, 1024]⟩ : Shape).Idx → EReal := m ((c : Thread nD τ).loc main_arg2)

theorem V_2 (r : Fin 8448) (p : Fin 2816) : (V m c main_v2 : (⟨2, ![8448, 2816]⟩ : Shape).Idx → EReal) (ix2 r p)
    = if h : (r : ℕ) < 240 then 0 else A0 m c (ix2 ⟨(r : ℕ) - 240, by omega⟩ p) := by
  refine Eq.trans (congrFun (show V m c main_v2 = truncf (F := Ideal) .bf16 (concatenate S8448x2816 0 [⟨S240x2816, broadcastInDim S240x2816 ![] bcast_S_S240x2816 (constant S_ .f32 0x00000000#32)⟩, ⟨S8208x2816, m ((c : Thread nD τ).loc main_arg0)⟩] concatenates_S240x2816_S8208x2816_S8448x2816_d0) bitsLt_bf16_f32 from ?_) _) (by pointwise)
  unfold V
  after_reads_simp
  rfl

theorem V_5 (r : Fin 8448) (p : Fin 1024) : (V m c main_v5 : (⟨2, ![8448, 1024]⟩ : Shape).Idx → EReal) (ix2 r p)
    = if h : (r : ℕ) < 240 then 0 else A2 m c (ix2 ⟨(r : ℕ) - 240, by omega⟩ p) := by
  refine Eq.trans (congrFun (show V m c main_v5 = (concatenate S8448x1024 0 [⟨S240x1024, broadcastInDim S240x1024 ![] bcast_S_S240x1024 (constant S_ .f32 0x00000000#32)⟩, ⟨S8208x1024, m ((c : Thread nD τ).loc main_arg2)⟩] concatenates_S240x1024_S8208x1024_S8448x1024_d0 : FVec Ideal S8448x1024 .f32) from ?_) _) (by pointwise)
  unfold V
  after_reads_simp
  rfl

theorem V_3 (r : Fin 2816) (p : Fin 1024) : (V m c main_v3 : (⟨2, ![2816, 1024]⟩ : Shape).Idx → EReal) (ix2 r p) = A1 m c (ix2 r p) := by
  refine Eq.trans (congrFun (show V m c main_v3 = truncf (F := Ideal) .bf16 (m ((c : Thread nD τ).loc main_arg1)) bitsLt_bf16_f32 from ?_) _) (by pointwise)
  unfold V
  after_reads_simp

theorem blk0 (t : Fin cfg0.N) (a : Fin 768) (b : Fin 2816) (h0 : 768 * t.val + (a : ℕ) < 8448) (h1 : (b : ℕ) < 2816) :
    iblk m c 0 t (ix2 a b) = (V m c main_v2 : (⟨2, ![8448, 2816]⟩ : Shape).Idx → EReal) (ix2 ⟨768 * t.val + (a : ℕ), h0⟩ ⟨(b : ℕ), h1⟩) := by
  have e : (win0_0.blk t).view.emb (ix2 a b) = ix2 ⟨768 * t.val + (a : ℕ), h0⟩ ⟨(b : ℕ), h1⟩ := by
    funext x
    apply Fin.ext
    fin_cases x
    all_goals (blk_simp [at0]; try simp; try omega)
  blk_simp [iblk]
  rw [e]

theorem blk1 (t : Fin cfg0.N) (a : Fin 2816) (b : Fin 1024) (h0 : (a : ℕ) < 2816) (h1 : (b : ℕ) < 1024) :
    iblk m c 1 t (ix2 a b) = (V m c main_v3 : (⟨2, ![2816, 1024]⟩ : Shape).Idx → EReal) (ix2 ⟨(a : ℕ), h0⟩ ⟨(b : ℕ), h1⟩) := by
  have e : (win0_1.blk t).view.emb (ix2 a b) = ix2 ⟨(a : ℕ), h0⟩ ⟨(b : ℕ), h1⟩ := by
    funext x
    apply Fin.ext
    fin_cases x
    all_goals (blk_simp [at1]; try simp; try omega)
  blk_simp [iblk]
  rw [e]

theorem blk2 (t : Fin cfg0.N) (a : Fin 768) (b : Fin 1024) (h0 : 768 * t.val + (a : ℕ) < 8448) (h1 : (b : ℕ) < 1024) :
    iblk m c 2 t (ix2 a b) = (V m c main_v5 : (⟨2, ![8448, 1024]⟩ : Shape).Idx → EReal) (ix2 ⟨768 * t.val + (a : ℕ), h0⟩ ⟨(b : ℕ), h1⟩) := by
  have e : (win0_2.blk t).view.emb (ix2 a b) = ix2 ⟨768 * t.val + (a : ℕ), h0⟩ ⟨(b : ℕ), h1⟩ := by
    funext x
    apply Fin.ext
    fin_cases x
    all_goals (blk_simp [at2]; try simp; try omega)
  blk_simp [iblk]
  rw [e]

/-- The result: zero on the padding, then each row's product with the weight, added to the residual. -/
def G (A : (⟨2, ![8208, 2816]⟩ : Shape).Idx → EReal) (B : (⟨2, ![2816, 1024]⟩ : Shape).Idx → EReal) (C : (⟨2, ![8208, 1024]⟩ : Shape).Idx → EReal)
    (r : ℕ) (q : Fin 1024) : EReal :=
  if h : r < 240 ∨ 8448 ≤ r then 0 else C (ix2 ⟨r - 240, by omega⟩ q) + ∑ p : Fin 2816, A (ix2 ⟨r - 240, by omega⟩ p) * B (ix2 p q)

def res : (⟨2, ![8448, 1024]⟩ : Shape).Idx → EReal := fun y => G (A0 m c) (A1 m c) (A2 m c) (y 0) (y 1)

attribute [local irreducible] iblk k0_pay1

theorem arr : (dats m 0 c).arrAt 3 cfg0.N = res m c := by
  refine (dats m 0 c).arrAt_eq_of_covers 3 _ (by decide +kernel) fun t hf y => ?_
  have ht := ltN t
  blk_simp [at3]
  rw [after0_3, out_eq]
  obtain ⟨a, b, rfl⟩ : ∃ (a : Fin 768) (b : Fin 1024), y = ix2 a b := ⟨y 0, y 1, (by ext x; fin_cases x <;> rfl)⟩
  have ha := a.isLt
  have h0 : 768 * t.val + (a : ℕ) < 8448 := by omega
  have e : (win0_3.blk t).view.emb (ix2 a b) = ix2 ⟨768 * t.val + (a : ℕ), h0⟩ b := by
    funext x
    apply Fin.ext
    fin_cases x
    all_goals (blk_simp [at3]; try simp; try omega)
  rw [e]
  refine (pay _ _ _ _ a b).trans ?_
  show _ = G (A0 m c) (A1 m c) (A2 m c) (768 * t.val + (a : ℕ)) b
  rw [coord, blk2 m c t a b h0 b.isLt, V_5]
  unfold G
  by_cases hp : 240 ≤ 768 * t.val + (a : ℕ)
  · rw [if_pos hp, dif_neg (by dsimp only; omega), dif_neg (by omega)]
    refine congrArg _ (Finset.sum_congr rfl fun p _ => ?_)
    rw [blk0 m c t a p h0 p.isLt, blk1 m c t p b p.isLt b.isLt, V_2, V_3, dif_neg (by dsimp only; omega)]
  · rw [if_neg hp, dif_pos (by dsimp only; omega), dif_pos (by omega), add_zero]

end Cert.FfnDownIdeal.Val

namespace Cert.FfnDownReferenceIdeal.Val

open Cert.FfnDownReferenceIdeal Cert.FfnDownReferenceIdeal.Gen Idealize.ShloMosaic Idealize.ShloMosaic.TcCoe

theorem ref (A : FVec Ideal S8208x2816 .f32) (B : FVec Ideal S2816x1024 .f32) (C : FVec Ideal S8208x1024 .f32) :
    concatenate S8448x1024 0 [⟨S240x1024, (broadcastInDim S240x1024 ![] bcast_S_S240x1024 (constant S_ .f32 0x00000000#32))⟩, ⟨S8208x1024, (addf C (Host.dotGeneral dot_S8208x2816_S2816x1024_S8208x1024_1_0_0_1_n_n none A B))⟩] concatenates_S240x1024_S8208x1024_S8448x1024_d0
      = fun y => Cert.FfnDownIdeal.Val.G A B C (y 0) (y 1) := by
  funext y
  obtain ⟨i, j, rfl⟩ : ∃ (i : Fin 8448) (j : Fin 1024), y = ix2 i j := ⟨y 0, y 1, (by ext a; fin_cases a <;> rfl)⟩
  show _ = Cert.FfnDownIdeal.Val.G A B C (i : ℕ) j
  have hi := i.isLt
  refine Eq.trans (b := if h : (i : ℕ) < 240 then 0 else C (ix2 ⟨(i : ℕ) - 240, by omega⟩ j) + ∑ p : Fin 2816, A (ix2 ⟨(i : ℕ) - 240, by omega⟩ p) * B (ix2 p j)) (by pointwise) ?_
  unfold Cert.FfnDownIdeal.Val.G
  by_cases h : (i : ℕ) < 240
  · rw [dif_pos h, dif_pos (by omega)]
  · rw [dif_neg h, dif_neg (by omega)]

end Cert.FfnDownReferenceIdeal.Val

namespace Cert.FfnDownEnd

open Idealize.ShloMosaic Idealize.SL.Sem Idealize.ShloMosaic.TcCoe

attribute [local instance] Cert.FfnDown.Gen.facts Cert.FfnDownIdeal.Gen.facts Cert.FfnDownReferenceIdeal.Gen.facts

theorem frame_kernel : Cert.quiescent_FfnDown := fun m ρ _ => Cert.FfnDown.Gen.frame m ρ

theorem frame_ideal : Cert.quiescent_FfnDownIdeal := fun m ρ _ => Cert.FfnDownIdeal.Gen.frame m ρ

theorem frame_ref : Cert.quiescent_FfnDownReferenceIdeal := by
  intro m ρ _
  refine (θ_run Cert.FfnDownReferenceIdeal.defs _ _).mono (fun r h => ⟨fun c => ?_, sem_eq_zero_of_no_sems (by decide) r.2⟩)
    (Cert.FfnDownReferenceIdeal.Value.run (F := Ideal) m ρ)
  exact (h c).2

/-- Kernel and reference both end with the same array. -/
theorem results : Cert.algebraic_FfnDownIdeal_FfnDownReferenceIdeal := by
  intro m g m' g' _ hagree
  refine ⟨fun c => Cert.FfnDownIdeal.Val.res m c, ?_, ?_⟩
  · refine (θ_run Cert.FfnDownIdeal.defs _ _).mono (fun _ hr c => ?_) (Cert.FfnDownIdeal.Value.run_blocks m g)
    exact ⟨(hr c).1.trans (Cert.FfnDownIdeal.Val.arr m c), (hr c).2⟩
  · refine (θ_run Cert.FfnDownReferenceIdeal.defs _ _).mono (fun _ hr c => ?_) (Cert.FfnDownReferenceIdeal.Value.run (F := Ideal) m' g')
    refine ⟨(hr c).1.trans ?_, (hr c).2⟩
    rw [(hagree c).1, (hagree c).2.1, (hagree c).2.2]
    exact Cert.FfnDownReferenceIdeal.Val.ref _ _ _

end Cert.FfnDownEnd

end
-- ==== Proof.NormMath.lean ====
module

public import Idealize.ShloMosaic.Lib.Pipeline.ValueKit
public import proofs.«01_k».proof.Proof.RowSum
public import proofs.«01_k».proof.Proof.PadRows
public import proofs.«01_k».proof.Proof.Lift

/-! The derivative of a row's normalization, over the extended reals: a closed form, and what
differentiating the normalization step by step gives. No entry has to be finite. -/

@[expose] public section
noncomputable section

namespace Cert.NormMath

open Idealize.ShloMosaic

/-- The f32 word of 1024. -/
theorem bits_1024 : Ideal.ofBits .f32 0x44800000#32 = ((1024 : ℝ) : EReal) := by
  simp [Ideal.ofBits, Ideal.ieee, -EReal.coe_mul]; norm_num

/-- The row's mean square, with the small constant added. -/
def ms (x : Fin 1024 → EReal) : EReal :=
  Ideal.div (∑ p, x p * x p) (Ideal.ofBits .f32 0x44800000#32) + Ideal.ofBits .f32 0x358637BD#32

/-- The row's reciprocal root mean square. -/
def rs (x : Fin 1024 → EReal) : EReal := Ideal.rsqrt (ms x)

/-- The closed form of the derivative at column `k`, for a row `x` and a cotangent `D` of the normalized row. -/
def dn (x D : Fin 1024 → EReal) (k : Fin 1024) : EReal :=
  rs x * (D k - x k * rs x * Ideal.div (∑ j, D j * (x j * rs x)) (Ideal.ofBits .f32 0x44800000#32))

/-- What the mean square's cotangent adds, before it meets the entry it belongs to. -/
def tn (x D : Fin 1024 → EReal) : EReal :=
  Ideal.div ((∑ j, x j * D j) * (Ideal.ofBits .f32 0xBF000000#32 * Ideal.div (rs x) (ms x))) (Ideal.ofBits .f32 0x44800000#32)

/-- A nonnegative real multiplies through a sum of extended reals. -/
theorem coe_mul_sum {ι : Type} (s : Finset ι) (a : ℝ) (ha : 0 ≤ a) (f : ι → EReal) : (a : EReal) * ∑ i ∈ s, f i = ∑ i ∈ s, (a : EReal) * f i := by
  classical
  induction s using Finset.cons_induction with
  | empty => simp
  | cons i s h ih =>
    rw [Finset.sum_cons, Finset.sum_cons, EReal.left_distrib_of_nonneg_of_ne_top (EReal.coe_nonneg.mpr ha) (EReal.coe_ne_top a), ih]

/-- A square is not negative. -/
theorem sq_nonneg' (a : EReal) : 0 ≤ a * a := by
  induction a with
  | bot => simp
  | top => simp
  | coe r => rw [← EReal.coe_mul]; exact EReal.coe_nonneg.mpr (mul_self_nonneg r)

theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_mul, ← EReal.coe_add, two_mul]

/-- Either the mean square is infinite and the reciprocal root is zero, or both are positive reals. -/
theorem ms_cases (x : Fin 1024 → EReal) : (ms x = ⊤ ∧ rs x = 0) ∨ ∃ v : ℝ, 0 < v ∧ ms x = (v : EReal) ∧ rs x = (((√v)⁻¹ : ℝ) : EReal) := by
  have h : 0 ≤ ∑ p, x p * x p := Finset.sum_nonneg fun p _ => sq_nonneg' (x p)
  unfold rs ms
  rw [bits_1024, Lift.bits_eps]
  generalize (∑ p, x p * x p) = s at h
  induction s with
  | bot => simp at h
  | top =>
    left
    have e : Ideal.div ⊤ ((1024 : ℝ) : EReal) = ⊤ := by
      rw [Ideal.div_coe (by norm_num)]
      exact EReal.top_mul_coe_of_pos (by norm_num)
    rw [e, EReal.top_add_coe]
    exact ⟨rfl, rfl⟩
  | coe s =>
    right
    have hs : 0 ≤ s := EReal.coe_nonneg.mp h
    have hv : 0 < s / 1024 + Lift.eps := add_pos_of_nonneg_of_pos (by positivity) Lift.eps_pos
    rw [Lift.div_coe' _ _ (by norm_num), ← EReal.coe_add]
    exact ⟨_, hv, rfl, Lift.rsqrt_coe' _ hv⟩

/-- The closed form agrees with the steps. -/
theorem dn_eq (x D : Fin 1024 → EReal) (k : Fin 1024) (d : EReal) :
    d + dn x D k = d + D k * rs x + x k * tn x D + tn x D * x k := by
  have e : d + D k * rs x + x k * tn x D + tn x D * x k = d + (D k * rs x + ((2 : ℝ) : EReal) * (x k * tn x D)) := by
    rw [← add_self, mul_comm (tn x D), add_assoc, add_assoc]
  rw [e]
  refine congrArg (d + ·) ?_
  unfold dn tn
  rcases ms_cases x with ⟨hv, hr⟩ | ⟨v, h0, hv, hr⟩
  · have e0 : Ideal.div 0 (⊤ : EReal) = 0 := by simp [Ideal.div]
    have e1 : Ideal.div 0 ((1024 : ℝ) : EReal) = 0 := by rw [Ideal.div_coe (by norm_num)]; simp
    rw [hv, hr, e0, bits_1024]
    simp only [mul_zero, zero_mul, e1, add_zero]
  · have hr0 : (0 : ℝ) ≤ (√v)⁻¹ := by positivity
    have e2 : (∑ j, D j * (x j * rs x)) = (((√v)⁻¹ : ℝ) : EReal) * ∑ j, x j * D j := by
      rw [coe_mul_sum _ _ hr0]
      refine Finset.sum_congr rfl fun j _ => ?_
      rw [hr, mul_comm (x j), mul_left_comm, mul_comm (D j)]
    rw [e2, hv, hr, bits_1024, Lift.bits_neg_half, Lift.div_coe' _ _ h0.ne', ← EReal.coe_mul, Ideal.div_coe (by norm_num), Ideal.div_coe (by norm_num)]
    generalize (∑ j, x j * D j) = s
    rw [EReal.mul_sub_of_nonneg_of_ne_top (EReal.coe_nonneg.mpr hr0) (EReal.coe_ne_top _), sub_eq_add_neg, mul_comm (D k)]
    congr 1
    rw [show ((√v)⁻¹ : ℝ).toEReal * (x k * ((√v)⁻¹ : ℝ).toEReal * (((√v)⁻¹ : ℝ).toEReal * s * ((1 / 1024 : ℝ) : EReal)))
      = (((√v)⁻¹ * (√v)⁻¹ * (√v)⁻¹ * (1 / 1024) : ℝ) : EReal) * (x k * s) from by
        simp only [EReal.coe_mul]; ac_rfl]
    rw [show ((2 : ℝ) : EReal) * (x k * (s * ((-(1 / 2) * ((√v)⁻¹ / v) : ℝ) : EReal) * ((1 / 1024 : ℝ) : EReal)))
      = ((2 * (-(1 / 2) * ((√v)⁻¹ / v)) * (1 / 1024) : ℝ) : EReal) * (x k * s) from by
        simp only [EReal.coe_mul 2, EReal.coe_mul _ (1 / 1024 : ℝ)]; ac_rfl]
    rw [← EReal.neg_mul, ← EReal.coe_neg]
    congr 2
    have hq : √v * √v = v := Real.mul_self_sqrt h0.le
    have hq0 : √v ≠ 0 := (Real.sqrt_pos.mpr h0).ne'
    rw [show (√v)⁻¹ / v = (√v)⁻¹ * ((√v)⁻¹ * (√v)⁻¹) from by rw [← mul_inv, hq, div_eq_mul_inv]]
    ring

/-- An entry of the product of a cotangent's row with a weight's row. -/
def pf {n : ℕ} (W : (⟨2, ![1024, n]⟩ : Shape).Idx → EReal) (C : (⟨2, ![8208, n]⟩ : Shape).Idx → EReal) (r : Fin 8208) (k : Fin 1024) : EReal :=
  ∑ p : Fin n, C (ix2 r p) * W (ix2 k p)

/-- The residual's cotangent: zero on the padding, then the incoming one with the derivative of the normalized product added. -/
def dhF {n : ℕ} (h : (⟨2, ![8208, 1024]⟩ : Shape).Idx → EReal) (g : (⟨1, ![1024]⟩ : Shape).Idx → EReal) (W : (⟨2, ![1024, n]⟩ : Shape).Idx → EReal)
    (C : (⟨2, ![8208, n]⟩ : Shape).Idx → EReal) (dh : (⟨2, ![8208, 1024]⟩ : Shape).Idx → EReal) (r : ℕ) (k : Fin 1024) : EReal :=
  if q : r < 240 ∨ 8448 ≤ r then 0 else dh (ix2 ⟨r - 240, by omega⟩ k)
    + dn (fun j => h (ix2 ⟨r - 240, by omega⟩ j)) (fun j => pf W C ⟨r - 240, by omega⟩ j * g (ix1 j)) k

/-- The normalization weight's gradient. -/
def dgF {n : ℕ} (h : (⟨2, ![8208, 1024]⟩ : Shape).Idx → EReal) (W : (⟨2, ![1024, n]⟩ : Shape).Idx → EReal)
    (C : (⟨2, ![8208, n]⟩ : Shape).Idx → EReal) (k : Fin 1024) : EReal :=
  ∑ r : Fin 8208, pf W C r k * (h (ix2 r k) * rs fun j => h (ix2 r j))

end Cert.NormMath

end
-- ==== Proof.FfnDh.lean ====
module

public import proofs.«01_k».proof.Proof.Gen.FfnDh
public import proofs.«01_k».proof.Proof.Gen.FfnDh.Frame
public import proofs.«01_k».proof.Proof.Gen.FfnDhIdeal
public import proofs.«01_k».proof.Proof.Gen.FfnDhIdeal.Frame
public import proofs.«01_k».proof.Proof.Gen.FfnDhIdeal.Value
public import proofs.«01_k».proof.Proof.Gen.FfnDhReferenceIdeal
public import proofs.«01_k».proof.Proof.Gen.FfnDhReferenceIdeal.Run
public import proofs.«01_k».proof.Proof.PadRows
public import proofs.«01_k».proof.Proof.NormMath
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The product `FfnDh` of a cotangent with a weight's transpose, taken back through the row normalization and added to a residual cotangent; and the normalization weight's gradient. -/

@[expose] public section
set_option maxRecDepth 65536
noncomputable section

namespace Cert.FfnDhIdeal.Val

open Cert.FfnDhIdeal Cert.FfnDhIdeal.Gen Idealize.ShloMosaic Idealize.ShloMosaic.TcCoe Cert.RowSum Cert.NormMath

variable (c : Dev nD) (i : grid0.Coords)
  (arg2 : Memref sig .tc .vmem S768x1408 .bf16) (harg2 : arg2.IsWhole)
  (arg3 : Memref sig .tc .vmem S1024x1408 .bf16) (harg3 : arg3.IsWhole)
  (arg4 : Memref sig .tc .vmem S768x1024 .f32) (harg4 : arg4.IsWhole)
  (arg5 : Memref sig .tc .vmem S1x1024 .f32) (harg5 : arg5.IsWhole)
  (arg6 : Memref sig .tc .vmem S768x1024 .f32) (harg6 : arg6.IsWhole)
  (arg7 : Memref sig .tc .vmem S768x1024 .f32) (harg7 : arg7.IsWhole)
  (arg8 : Memref sig .tc .vmem S1x1024 .f32) (harg8 : arg8.IsWhole)
  (arg9 : Memref sig .tc .vmem S768x1024 .f32) (harg9 : arg9.IsWhole)
  (x0 : Vec Ideal S768x1408 .bf16) (x1 : Vec Ideal S1024x1408 .bf16) (x2 : Vec Ideal S768x1024 .f32) (x3 : Vec Ideal S1x1024 .f32) (x4 : Vec Ideal S768x1024 .f32) (xo6 : Vec Ideal S1x1024 .f32) (xs0 : Vec Ideal S768x1024 .f32)

theorem s_A (hc0 : cond0_0 i) (hc1 : cond0_1 i) (hc2 : ¬cond0_2 i) :
    sout0_A_0 (F := Ideal) c i arg2 harg2 arg3 harg3 arg4 harg4 arg5 harg5 arg6 harg6 arg7 harg7 arg8 harg8 arg9 harg9 hc0 hc1 hc2 x0 x1 x2 x3 x4 = k0_pay3 (k0_pay1 (F := Ideal)) x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem s_B (hc0 : ¬cond0_0 i) (hc1 : ¬cond0_1 i) (hc2 : ¬cond0_2 i) :
    sout0_B_0 (F := Ideal) c i arg2 harg2 arg3 harg3 arg4 harg4 arg5 harg5 arg6 harg6 arg7 harg7 arg8 harg8 arg9 harg9 hc0 hc1 hc2 x0 x1 x2 x3 x4 xs0 = k0_pay3 xs0 x0 x1 := by
  unfold sout0_B_0
  rw [View.read_writes_eq_canon _ _ _ (scover0_B_0 (F := Ideal) c i arg2 harg2 arg3 harg3 arg4 harg4 arg5 harg5 arg6 harg6 arg7 harg7 arg8 harg8 arg9 harg9 hc0 hc1 hc2 x0 x1 x2 x3 x4 xs0)]
  unfold kernelRun0_B
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem s_C (hc0 : ¬cond0_0 i) (hc1 : ¬cond0_1 i) (hc2 : cond0_2 i) :
    sout0_C_0 (F := Ideal) c i arg2 harg2 arg3 harg3 arg4 harg4 arg5 harg5 arg6 harg6 arg7 harg7 arg8 harg8 arg9 harg9 hc0 hc1 hc2 x0 x1 x2 x3 x4 xo6 xs0 = k0_pay3 xs0 x0 x1 := by
  unfold sout0_C_0
  rw [View.read_writes_eq_canon _ _ _ (scover0_C_0 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem s_D (hc0 : cond0_0 i) (hc1 : ¬cond0_1 i) (hc2 : ¬cond0_2 i) :
    sout0_D_0 (F := Ideal) c i arg2 harg2 arg3 harg3 arg4 harg4 arg5 harg5 arg6 harg6 arg7 harg7 arg8 harg8 arg9 harg9 hc0 hc1 hc2 x0 x1 x2 x3 x4 = k0_pay3 (k0_pay1 (F := Ideal)) x0 x1 := by
  unfold sout0_D_0
  rw [View.read_writes_eq_canon _ _ _ (scover0_D_0 (F := Ideal) c i arg2 harg2 arg3 harg3 arg4 harg4 arg5 harg5 arg6 harg6 arg7 harg7 arg8 harg8 arg9 harg9 hc0 hc1 hc2 x0 x1 x2 x3 x4)]
  unfold kernelRun0_D
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem o_A6 (hc0 : cond0_0 i) (hc1 : cond0_1 i) (hc2 : ¬cond0_2 i) :
    out0_A_6 (F := Ideal) c i arg2 harg2 arg3 harg3 arg4 harg4 arg5 harg5 arg6 harg6 arg7 harg7 arg8 harg8 arg9 harg9 hc0 hc1 hc2 x0 x1 x2 x3 x4 = k0_pay2 (F := Ideal) := by
  unfold out0_A_6
  rw [View.read_writes_eq_canon _ _ _ (cover0_A_6 (F := Ideal) c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  first
    | rw [View.canon_unit_zero (S := S1x1024) z2]
    | rw [View.canon_cons_unit_zero (S := S1x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem o_C5 (hc0 : ¬cond0_0 i) (hc1 : ¬cond0_1 i) (hc2 : cond0_2 i) :
    out0_C_5 (F := Ideal) c i arg2 harg2 arg3 harg3 arg4 harg4 arg5 harg5 arg6 harg6 arg7 harg7 arg8 harg8 arg9 harg9 hc0 hc1 hc2 x0 x1 x2 x3 x4 xo6 xs0 = k0_pay4 (k0_pay9 (k0_pay3 xs0 x0 x1) x2 x3) (k0_pay10 (BitVec.ofNat 32 (i 0).val)) x4 := by
  unfold out0_C_5
  rw [View.read_writes_eq_canon _ _ _ (cover0_C_5 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem o_C6 (hc0 : ¬cond0_0 i) (hc1 : ¬cond0_1 i) (hc2 : cond0_2 i) :
    out0_C_6 (F := Ideal) c i arg2 harg2 arg3 harg3 arg4 harg4 arg5 harg5 arg6 harg6 arg7 harg7 arg8 harg8 arg9 harg9 hc0 hc1 hc2 x0 x1 x2 x3 x4 xo6 xs0 = k0_pay8 (k0_pay3 xs0 x0 x1) x2 xo6 := by
  unfold out0_C_6
  rw [View.read_writes_eq_canon _ _ _ (cover0_C_6 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S1x1024) z2]
    | rw [View.canon_cons_unit_zero (S := S1x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1408) z2, View.ld_unit_zero (S := S1024x1408) z2]
  try simp only [View.readCov_unit_zero (S := S768x1024) _ z2]
  try rfl

theorem pay1 (a : Fin 768) (k : Fin 1024) : k0_pay1 (F := Ideal) (ix2 a k) = 0 := by
  unfold k0_pay1
  pointwise

theorem pay2 (k : Fin 1024) : k0_pay2 (F := Ideal) (ix2 0 k) = 0 := by
  unfold k0_pay2
  pointwise

theorem pay3 (a : Fin 768) (k : Fin 1024) : k0_pay3 xs0 x0 x1 (ix2 a k) = xs0 (ix2 a k) + ∑ p : Fin 1408, x0 (ix2 a p) * x1 (ix2 k p) := by
  unfold k0_pay3
  pointwise

/-- The body's reciprocal root is the row's. -/
theorem pay6 (a : Fin 768) (q : Fin 1) : k0_pay6 x2 (ix2 a q) = rs fun j => x2 (ix2 a j) := by
  unfold k0_pay6 k0_pay5 rs ms
  pointwise

theorem pay7 (a : Fin 768) (k : Fin 1024) : k0_pay7 x2 (ix2 a k) = x2 (ix2 a k) * rs fun j => x2 (ix2 a j) := by
  refine Eq.trans ?_ (congrArg (x2 (ix2 a k) * ·) (pay6 x2 a 0))
  unfold k0_pay7 k0_pay5
  generalize k0_pay6 x2 = y
  pointwise

theorem pay8 (k : Fin 1024) : k0_pay8 xs0 x2 xo6 (ix2 0 k) = xo6 (ix2 0 k) + ∑ a : Fin 768, xs0 (ix2 a k) * (x2 (ix2 a k) * rs fun j => x2 (ix2 a j)) := by
  refine Eq.trans ?_ (congrArg (xo6 (ix2 0 k) + ·) (Finset.sum_congr rfl fun a _ => congrArg (xs0 (ix2 a k) * ·) (pay7 x2 a k)))
  unfold k0_pay8
  generalize k0_pay7 x2 = y
  pointwise

theorem pay9 (a : Fin 768) (k : Fin 1024) : k0_pay9 xs0 x2 x3 (ix2 a k) = dn (fun j => x2 (ix2 a j)) (fun j => xs0 (ix2 a j) * x3 (ix2 0 j)) k := by
  refine Eq.trans (b := k0_pay6 x2 (ix2 a 0) * (xs0 (ix2 a k) * x3 (ix2 0 k) - k0_pay7 x2 (ix2 a k)
    * Ideal.div (∑ j : Fin 1024, xs0 (ix2 a j) * x3 (ix2 0 j) * k0_pay7 x2 (ix2 a j)) (Ideal.ofBits .f32 0x44800000#32))) ?_ ?_
  · unfold k0_pay9
    generalize k0_pay7 x2 = y
    generalize k0_pay6 x2 = z
    pointwise
  · simp only [pay7, pay6]
    rfl

theorem pay4 (u : FVec Ideal S768x1024 .f32) (b : ℕ) (hb : b < 11) (a : Fin 768) (k : Fin 1024) :
    k0_pay4 u (k0_pay10 (BitVec.ofNat 32 b)) x4 (ix2 a k) = if 240 ≤ 768 * b + (a : ℕ) then x4 (ix2 a k) + u (ix2 a k) else 0 := by
  refine Eq.trans ?_ (Cert.PadRows.sel_row b a hb a.isLt _ _)
  unfold k0_pay4 k0_pay10
  pointwise

theorem at0 : ∀ t : Fin cfg0.N, win0_0.index t = ![t.val / 4, t.val % 4] :=
  (by decide +kernel : ∀ t : Fin grid0.N, win0_0.index t = ![t.val / 4, t.val % 4])
theorem at1 : ∀ t : Fin cfg0.N, win0_1.index t = ![0, t.val % 4] :=
  (by decide +kernel : ∀ t : Fin grid0.N, win0_1.index t = ![0, t.val % 4])
theorem at2 : ∀ t : Fin cfg0.N, win0_2.index t = ![t.val / 4, 0] :=
  (by decide +kernel : ∀ t : Fin grid0.N, win0_2.index t = ![t.val / 4, 0])
theorem at3 : ∀ t : Fin cfg0.N, win0_3.index t = ![0, 0] :=
  (by decide +kernel : ∀ t : Fin grid0.N, win0_3.index t = ![0, 0])
theorem at4 : ∀ t : Fin cfg0.N, win0_4.index t = ![t.val / 4, 0] :=
  (by decide +kernel : ∀ t : Fin grid0.N, win0_4.index t = ![t.val / 4, 0])
theorem at5 : ∀ t : Fin cfg0.N, win0_5.index t = ![t.val / 4, 0] :=
  (by decide +kernel : ∀ t : Fin grid0.N, win0_5.index t = ![t.val / 4, 0])
theorem at6 : ∀ t : Fin cfg0.N, win0_6.index t = ![0, 0] :=
  (by decide +kernel : ∀ t : Fin grid0.N, win0_6.index t = ![0, 0])
theorem coord : ∀ t : Fin cfg0.N, (grid0.coords t 0).val = t.val / 4 :=
  (by decide +kernel : ∀ t : Fin grid0.N, (grid0.coords t 0).val = t.val / 4)
theorem ltN (t : Fin cfg0.N) : t.val < 44 := lt_of_lt_of_eq t.isLt (show cfg0.N = 44 from N_0)

end Cert.FfnDhIdeal.Val

namespace Cert.FfnDhIdeal.Val

open Cert.FfnDhIdeal Cert.FfnDhIdeal.Gen Idealize.ShloMosaic Idealize.ShloMosaic.TcCoe Cert.RowSum Cert.NormMath

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5632]⟩ : Shape).Idx → EReal := m ((c : Thread nD τ).loc main_arg2)
abbrev A3 : (⟨2, ![8208, 5632]⟩ : Shape).Idx → EReal := m ((c : Thread nD τ).loc main_arg3)
abbrev A4 : (⟨2, ![8208, 1024]⟩ : Shape).Idx → EReal := m ((c : Thread nD τ).loc main_arg4)
def CT : (⟨2, ![8448, 5632]⟩ : Shape).Idx → EReal := V m c main_v2
def WT : (⟨2, ![1024, 5632]⟩ : Shape).Idx → EReal := V m c main_v3
def H : (⟨2, ![8448, 1024]⟩ : Shape).Idx → EReal := V m c main_v5
def GN : (⟨2, ![1, 1024]⟩ : Shape).Idx → EReal := V m c main_v6
def DH : (⟨2, ![8448, 1024]⟩ : Shape).Idx → EReal := V m c main_v8

theorem V_2 (r : Fin 8448) (p : Fin 5632) : CT m c (ix2 r p)
    = if h : (r : ℕ) < 240 then 0 else A3 m c (ix2 ⟨(r : ℕ) - 240, by omega⟩ p) := by
  refine Eq.trans (congrFun (show V m c main_v2 = truncf (F := Ideal) .bf16 (concatenate S8448x5632 0 [⟨S240x5632, broadcastInDim S240x5632 ![] bcast_S_S240x5632 (constant S_ .f32 0x00000000#32)⟩, ⟨S8208x5632, m ((c : Thread nD τ).loc main_arg3)⟩] concatenates_S240x5632_S8208x5632_S8448x5632_d0) bitsLt_bf16_f32 from ?_) _) (by pointwise)
  unfold V
  after_reads_simp
  rfl

theorem V_5 (r : Fin 8448) (p : Fin 1024) : H m c (ix2 r p)
    = if h : (r : ℕ) < 240 then 0 else A0 m c (ix2 ⟨(r : ℕ) - 240, by omega⟩ p) := by
  refine Eq.trans (congrFun (show V m c main_v5 = (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0 : FVec Ideal S8448x1024 .f32) from ?_) _) (by pointwise)
  unfold V
  after_reads_simp
  rfl

theorem V_8 (r : Fin 8448) (p : Fin 1024) : DH m c (ix2 r p)
    = if h : (r : ℕ) < 240 then 0 else A4 m c (ix2 ⟨(r : ℕ) - 240, by omega⟩ p) := by
  refine Eq.trans (congrFun (show V m c main_v8 = (concatenate S8448x1024 0 [⟨S240x1024, broadcastInDim S240x1024 ![] bcast_S_S240x1024 (constant S_ .f32 0x00000000#32)⟩, ⟨S8208x1024, m ((c : Thread nD τ).loc main_arg4)⟩] concatenates_S240x1024_S8208x1024_S8448x1024_d0 : FVec Ideal S8448x1024 .f32) from ?_) _) (by pointwise)
  unfold V
  after_reads_simp
  rfl

theorem V_3 (r : Fin 1024) (p : Fin 5632) : WT m c (ix2 r p) = A2 m c (ix2 r p) := by
  refine Eq.trans (congrFun (show V m c main_v3 = truncf (F := Ideal) .bf16 (m ((c : Thread nD τ).loc main_arg2)) bitsLt_bf16_f32 from ?_) _) (by pointwise)
  unfold V
  after_reads_simp

theorem V_6 (k : Fin 1024) : GN m c (ix2 0 k) = A1 m c (ix1 k) := by
  refine Eq.trans (congrFun (show V m c main_v6 = (shapeCast S1x1024 (m ((c : Thread nD τ).loc main_arg1)) shapeCasts_S1024_S1x1024 : FVec Ideal S1x1024 .f32) from ?_) _) (by pointwise)
  unfold V
  after_reads_simp
  rfl

theorem blk0 (t : Fin cfg0.N) (a : Fin 768) (b : Fin 1408) (h0 : 768 * (t.val / 4) + (a : ℕ) < 8448) (h1 : 1408 * (t.val % 4) + (b : ℕ) < 5632) :
    iblk m c 0 t (ix2 a b) = (V m c main_v2 : (⟨2, ![8448, 5632]⟩ : Shape).Idx → EReal) (ix2 ⟨768 * (t.val / 4) + (a : ℕ), h0⟩ ⟨1408 * (t.val % 4) + (b : ℕ), h1⟩) := by
  have e : (win0_0.blk t).view.emb (ix2 a b) = ix2 ⟨768 * (t.val / 4) + (a : ℕ), h0⟩ ⟨1408 * (t.val % 4) + (b : ℕ), h1⟩ := by
    funext x
    apply Fin.ext
    fin_cases x
    all_goals (blk_simp [at0]; try simp; try omega)
  blk_simp [iblk]
  rw [e]

theorem blk1 (t : Fin cfg0.N) (a : Fin 1024) (b : Fin 1408) (h0 : (a : ℕ) < 1024) (h1 : 1408 * (t.val % 4) + (b : ℕ) < 5632) :
    iblk m c 1 t (ix2 a b) = (V m c main_v3 : (⟨2, ![1024, 5632]⟩ : Shape).Idx → EReal) (ix2 ⟨(a : ℕ), h0⟩ ⟨1408 * (t.val % 4) + (b : ℕ), h1⟩) := by
  have e : (win0_1.blk t).view.emb (ix2 a b) = ix2 ⟨(a : ℕ), h0⟩ ⟨1408 * (t.val % 4) + (b : ℕ), h1⟩ := by
    funext x
    apply Fin.ext
    fin_cases x
    all_goals (blk_simp [at1]; try simp; try omega)
  blk_simp [iblk]
  rw [e]

theorem blk2 (t : Fin cfg0.N) (a : Fin 768) (b : Fin 1024) (h0 : 768 * (t.val / 4) + (a : ℕ) < 8448) (h1 : (b : ℕ) < 1024) :
    iblk m c 2 t (ix2 a b) = (V m c main_v5 : (⟨2, ![8448, 1024]⟩ : Shape).Idx → EReal) (ix2 ⟨768 * (t.val / 4) + (a : ℕ), h0⟩ ⟨(b : ℕ), h1⟩) := by
  have e : (win0_2.blk t).view.emb (ix2 a b) = ix2 ⟨768 * (t.val / 4) + (a : ℕ), h0⟩ ⟨(b : ℕ), h1⟩ := by
    funext x
    apply Fin.ext
    fin_cases x
    all_goals (blk_simp [at2]; try simp; try omega)
  blk_simp [iblk]
  rw [e]

theorem blk3 (t : Fin cfg0.N) (a : Fin 1) (b : Fin 1024) (h0 : (a : ℕ) < 1) (h1 : (b : ℕ) < 1024) :
    iblk m c 3 t (ix2 a b) = (V m c main_v6 : (⟨2, ![1, 1024]⟩ : Shape).Idx → EReal) (ix2 ⟨(a : ℕ), h0⟩ ⟨(b : ℕ), h1⟩) := by
  have e : (win0_3.blk t).view.emb (ix2 a b) = ix2 ⟨(a : ℕ), h0⟩ ⟨(b : ℕ), h1⟩ := by
    funext x
    apply Fin.ext
    fin_cases x
    all_goals (blk_simp [at3]; try simp; try omega)
  blk_simp [iblk]
  rw [e]
  exact congrArg (fun z => V m c main_v6 (ix2 z ⟨(b : ℕ), h1⟩)) (Subsingleton.elim _ _)

theorem blk4 (t : Fin cfg0.N) (a : Fin 768) (b : Fin 1024) (h0 : 768 * (t.val / 4) + (a : ℕ) < 8448) (h1 : (b : ℕ) < 1024) :
    iblk m c 4 t (ix2 a b) = (V m c main_v8 : (⟨2, ![8448, 1024]⟩ : Shape).Idx → EReal) (ix2 ⟨768 * (t.val / 4) + (a : ℕ), h0⟩ ⟨(b : ℕ), h1⟩) := by
  have e : (win0_4.blk t).view.emb (ix2 a b) = ix2 ⟨768 * (t.val / 4) + (a : ℕ), h0⟩ ⟨(b : ℕ), h1⟩ := by
    funext x
    apply Fin.ext
    fin_cases x
    all_goals (blk_simp [at4]; try simp; try omega)
  blk_simp [iblk]
  rw [e]

/-- The products a row's and a column's entry of the product adds up. -/
def pr (r : ℕ) (k : Fin 1024) (p : Fin 5632) : EReal := if h : r < 8448 then CT m c (ix2 ⟨r, h⟩ p) * WT m c (ix2 k p) else 0

/-- The product's entry. -/
def du (r : Fin 8448) (k : Fin 1024) : EReal := ∑ p : Fin 5632, pr m c r k p

/-- What a row adds to the normalization weight's gradient. -/
def tm (k : Fin 1024) (r : Fin 8448) : EReal := du m c r k * (H m c (ix2 r k) * rs fun j => H m c (ix2 r j))

/-- One block of columns more. -/
theorem step (t : Fin cfg0.N) (x : Vec Ideal S768x1024 .f32) (a : Fin 768) (k : Fin 1024)
    (h : x (ix2 a k) = upTo (pr m c (768 * (t.val / 4) + (a : ℕ)) k) (1408 * (t.val % 4))) :
    k0_pay3 x (iblk m c 0 t) (iblk m c 1 t) (ix2 a k) = upTo (pr m c (768 * (t.val / 4) + (a : ℕ)) k) (1408 * (t.val % 4 + 1)) := by
  have ht := ltN t
  have ha := a.isLt
  have h0 : 768 * (t.val / 4) + (a : ℕ) < 8448 := by omega
  rw [pay3, h, Nat.mul_succ]
  refine (upTo_block _ _ _ _ fun p => ?_).symm
  have hp := p.isLt
  have h1 : 1408 * (t.val % 4) + (p : ℕ) < 5632 := by omega
  refine ⟨h1, ?_⟩
  rw [blk0 m c t a p h0 h1, blk1 m c t k p k.isLt h1]
  unfold pr CT WT
  rw [dif_pos h0]

attribute [local irreducible] outsAt0 iblk k0_pay1 k0_pay2 k0_pay3 k0_pay4 k0_pay8 k0_pay9 k0_pay10 upTo

/-- What the accumulator holds after a grid point: the products of the columns up to the point's block. -/
theorem acc_after (n : ℕ) : ∀ (hn : n < cfg0.N) (a : Fin 768) (k : Fin 1024),
    (outsAt0 m c n hn).2.2 (ix2 a k) = upTo (pr m c (768 * (n / 4) + (a : ℕ)) k) (1408 * (n % 4 + 1)) := by
  induction n using Nat.strong_induction_on with
  | _ n ih =>
    intro hn a k
    have hN : n < 44 := lt_of_lt_of_eq hn (show cfg0.N = 44 from N_0)
    by_cases h0 : n % 4 = 0
    · have hz : k0_pay1 (F := Ideal) (ix2 a k) = upTo (pr m c (768 * (n / 4) + (a : ℕ)) k) (1408 * (n % 4)) := by
        rw [pay1, h0, Nat.mul_zero, upTo_zero]
      by_cases h1 : n % 44 = 0
      · have e := outsAt0_A m c ⟨n, hn⟩ h0 h1 (by dsimp only; omega)
        dsimp only at e
        rw [e]
        dsimp only
        rw [s_A]
        exact step m c ⟨n, hn⟩ _ a k hz
      · have e := outsAt0_D m c ⟨n, hn⟩ h0 h1 (by dsimp only; omega)
        dsimp only at e
        rw [e]
        dsimp only
        rw [s_D]
        exact step m c ⟨n, hn⟩ _ a k hz
    · have hp := ih (n - 1) (by omega) (by omega) a k
      rw [show (n - 1) / 4 = n / 4 by omega, show (n - 1) % 4 + 1 = n % 4 by omega] at hp
      by_cases h2 : n % 4 = 3
      · have e := outsAt0_C m c ⟨n, hn⟩ h0 (by dsimp only; omega) h2
        dsimp only at e
        rw [e]
        dsimp only
        rw [s_C]
        exact step m c ⟨n, hn⟩ _ a k hp
      · have e := outsAt0_B m c ⟨n, hn⟩ h0 (by dsimp only; omega) h2
        dsimp only at e
        rw [e]
        dsimp only
        rw [s_B]
        exact step m c ⟨n, hn⟩ _ a k hp

/-- At a row block's last point the body's new sum is the whole product. -/
theorem acc_last (t : Fin cfg0.N) (h2 : t.val % 4 = 3) (a : Fin 768) (h : 768 * (t.val / 4) + (a : ℕ) < 8448) (k : Fin 1024) :
    k0_pay3 (outsAt0 m c (t.val - 1) (Nat.lt_of_le_of_lt (Nat.sub_le _ _) t.isLt)).2.2 (iblk m c 0 t) (iblk m c 1 t) (ix2 a k) = du m c ⟨768 * (t.val / 4) + (a : ℕ), h⟩ k := by
  have hp := acc_after m c (t.val - 1) (Nat.lt_of_le_of_lt (Nat.sub_le _ _) t.isLt) a k
  rw [show (t.val - 1) / 4 = t.val / 4 by omega, show (t.val - 1) % 4 + 1 = t.val % 4 by omega] at hp
  refine (step m c t _ a k hp).trans ?_
  rw [h2]
  exact upTo_all _

/-- The normalization weight's gradient after a grid point: the rows of the row blocks that are complete. -/
theorem dg_after (n : ℕ) : ∀ (hn : n < cfg0.N) (k : Fin 1024),
    (outsAt0 m c n hn).2.1 (ix2 0 k) = upTo (tm m c k) (768 * ((n + 1) / 4)) := by
  induction n using Nat.strong_induction_on with
  | _ n ih =>
    intro hn k
    have hN : n < 44 := lt_of_lt_of_eq hn (show cfg0.N = 44 from N_0)
    by_cases h1 : n % 44 = 0
    · have e := outsAt0_A m c ⟨n, hn⟩ (by dsimp only; omega) h1 (by dsimp only; omega)
      dsimp only at e
      rw [e]
      dsimp only
      rw [o_A6, pay2, show (n + 1) / 4 = 0 by omega, Nat.mul_zero, upTo_zero]
    · have hp := ih (n - 1) (by omega) (by omega) k
      rw [show n - 1 + 1 = n by omega] at hp
      by_cases h2 : n % 4 = 3
      · have e := outsAt0_C m c ⟨n, hn⟩ (by dsimp only; omega) h1 h2
        dsimp only at e
        rw [e]
        dsimp only
        rw [o_C6, pay8, hp, show (n + 1) / 4 = n / 4 + 1 by omega, Nat.mul_succ]
        refine (upTo_block _ _ _ _ fun a => ?_).symm
        have ha := a.isLt
        have h0 : 768 * (n / 4) + (a : ℕ) < 8448 := by omega
        refine ⟨h0, ?_⟩
        rw [acc_last m c ⟨n, hn⟩ h2 a h0 k]
        simp only [blk2 m c ⟨n, hn⟩ a _ h0 (Fin.isLt _)]
        rfl
      · rw [show (n + 1) / 4 = n / 4 by omega]
        by_cases h0 : n % 4 = 0
        · have e := outsAt0_D m c ⟨n, hn⟩ h0 h1 h2
          dsimp only at e
          rw [e]
          exact hp
        · have e := outsAt0_B m c ⟨n, hn⟩ h0 h1 h2
          dsimp only at e
          rw [e]
          exact hp

/-- A row block's last point writes the residual's rows with the closed form of the derivative added, zero on the padding. -/
theorem out_last (t : Fin cfg0.N) (h2 : t.val % 4 = 3) (a : Fin 768) (h : 768 * (t.val / 4) + (a : ℕ) < 8448) (k : Fin 1024) :
    (outsAt0 m c t.val t.isLt).1 (ix2 a k) = if 240 ≤ 768 * (t.val / 4) + (a : ℕ) then
      DH m c (ix2 ⟨768 * (t.val / 4) + (a : ℕ), h⟩ k) + dn (fun j => H m c (ix2 ⟨768 * (t.val / 4) + (a : ℕ), h⟩ j))
        (fun j => du m c ⟨768 * (t.val / 4) + (a : ℕ), h⟩ j * GN m c (ix2 0 j)) k else 0 := by
  have ht := ltN t
  rw [outsAt0_C m c t (by omega) (by omega) h2]
  dsimp only
  rw [o_C5, coord, pay4 _ _ _ (by omega), pay9]
  simp only [acc_last m c t h2 a h, blk2 m c t a _ h (Fin.isLt _), blk4 m c t a _ h (Fin.isLt _), blk3 m c t 0 _ (Fin.isLt _) (Fin.isLt _)]
  rfl

/-- The product on the rows past the padding. -/
theorem du_row (r : Fin 8448) (h : ¬(r : ℕ) < 240) (k : Fin 1024) : du m c r k = pf (A2 m c) (A3 m c) ⟨(r : ℕ) - 240, by omega⟩ k := by
  unfold du pf
  refine Finset.sum_congr rfl fun p _ => ?_
  unfold pr
  rw [dif_pos r.isLt]
  show CT m c (ix2 r p) * WT m c (ix2 k p) = _
  rw [V_2, V_3, dif_neg h]

def res5 : (⟨2, ![8448, 1024]⟩ : Shape).Idx → EReal := fun y => dhF (A0 m c) (A1 m c) (A2 m c) (A3 m c) (A4 m c) (y 0) (y 1)
def res6 : (⟨2, ![1, 1024]⟩ : Shape).Idx → EReal := fun y => dgF (A0 m c) (A2 m c) (A3 m c) (y 1)

theorem arr5 : (dats m 0 c).arrAt 5 cfg0.N = res5 m c := by
  refine (dats m 0 c).arrAt_eq_of_covers 5 _ (by decide +kernel) fun t hf y => ?_
  have hl : t.val % 4 = 3 := (flush0_5 t).mp hf
  have ht := ltN t
  blk_simp [at5]
  rw [after0_5]
  obtain ⟨a, k, rfl⟩ : ∃ (a : Fin 768) (k : Fin 1024), y = ix2 a k := ⟨y 0, y 1, (by ext x; fin_cases x <;> rfl)⟩
  have ha := a.isLt
  have h0 : 768 * (t.val / 4) + (a : ℕ) < 8448 := by omega
  have e : (win0_5.blk t).view.emb (ix2 a k) = ix2 ⟨768 * (t.val / 4) + (a : ℕ), h0⟩ k := by
    funext x
    apply Fin.ext
    fin_cases x
    all_goals (blk_simp [at5]; try simp; try omega)
  rw [e]
  refine (out_last m c t hl a h0 k).trans ?_
  show _ = dhF (A0 m c) (A1 m c) (A2 m c) (A3 m c) (A4 m c) (768 * (t.val / 4) + (a : ℕ)) k
  unfold dhF
  by_cases hp : 240 ≤ 768 * (t.val / 4) + (a : ℕ)
  · have hn : ¬(768 * (t.val / 4) + (a : ℕ)) < 240 := by omega
    rw [if_pos hp, dif_neg (by omega)]
    simp only [V_5, V_6, V_8, du_row m c ⟨_, h0⟩ hn, dif_neg hn]
  · rw [if_neg hp, dif_pos (by omega)]

theorem arr6 : (dats m 0 c).arrAt 6 cfg0.N = res6 m c := by
  refine (dats m 0 c).arrAt_eq_of_covers 6 _ (by decide +kernel) fun t hf y => ?_
  have hl : t.val % 44 = 43 := (flush0_6 t).mp hf
  have ht := ltN t
  blk_simp [at6]
  rw [after0_6]
  obtain ⟨a, k, rfl⟩ : ∃ (a : Fin 1) (k : Fin 1024), y = ix2 a k := ⟨y 0, y 1, (by ext x; fin_cases x <;> rfl)⟩
  obtain rfl : a = 0 := Subsingleton.elim _ _
  have e : (win0_6.blk t).view.emb (ix2 0 k) = ix2 0 k := by
    funext x
    apply Fin.ext
    fin_cases x
    all_goals (blk_simp [at6]; try simp; try omega)
  rw [e]
  refine (dg_after m c t.val t.isLt k).trans ?_
  rw [show (t.val + 1) / 4 = 11 by omega]
  refine (upTo_all (tm m c k)).trans ?_
  show _ = dgF (A0 m c) (A2 m c) (A3 m c) k
  unfold dgF
  refine sum_pad _ _ (fun r hr => ?_) fun r => ?_
  · unfold tm
    rw [V_5, dif_pos hr, zero_mul, mul_zero]
  · have hn : ¬(240 + (r : ℕ)) < 240 := by omega
    unfold tm
    have hb : 240 + (r : ℕ) < 8448 := by omega
    simp only [du_row m c ⟨240 + (r : ℕ), hb⟩ hn, V_5, dif_neg hn, Nat.add_sub_cancel_left]

end Cert.FfnDhIdeal.Val

namespace Cert.FfnDhReferenceIdeal.Val

open Cert.FfnDhReferenceIdeal Cert.FfnDhReferenceIdeal.Gen Idealize.ShloMosaic Idealize.ShloMosaic.TcCoe Cert.NormMath

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5632]⟩ : Shape).Idx → EReal := m ((c : Thread nD τ).loc main_arg2)
abbrev A3 : (⟨2, ![8208, 5632]⟩ : Shape).Idx → EReal := m ((c : Thread nD τ).loc main_arg3)
abbrev A4 : (⟨2, ![8208, 1024]⟩ : Shape).Idx → EReal := m ((c : Thread nD τ).loc main_arg4)

/-- An entry of the reference's first result. -/
theorem entry5 (i : Fin 8448) (j : Fin 1024) : (Value.res_main_v40 m c : (⟨2, ![8448, 1024]⟩ : Shape).Idx → EReal) (ix2 i j)
    = if h : (i : ℕ) < 240 then 0 else
      A4 m c (ix2 ⟨(i : ℕ) - 240, by omega⟩ j)
        + pf (A2 m c) (A3 m c) ⟨(i : ℕ) - 240, by omega⟩ j * A1 m c (ix1 j) * rs (fun k => A0 m c (ix2 ⟨(i : ℕ) - 240, by omega⟩ k))
        + A0 m c (ix2 ⟨(i : ℕ) - 240, by omega⟩ j) * tn (fun k => A0 m c (ix2 ⟨(i : ℕ) - 240, by omega⟩ k)) (fun k => pf (A2 m c) (A3 m c) ⟨(i : ℕ) - 240, by omega⟩ k * A1 m c (ix1 k))
        + tn (fun k => A0 m c (ix2 ⟨(i : ℕ) - 240, by omega⟩ k)) (fun k => pf (A2 m c) (A3 m c) ⟨(i : ℕ) - 240, by omega⟩ k * A1 m c (ix1 k)) * A0 m c (ix2 ⟨(i : ℕ) - 240, by omega⟩ j) := by
  unfold Value.res_main_v40 tn rs ms pf
  pointwise
  simp only [Finset.univ_unique, Finset.sum_singleton]

theorem ref5 : Value.res_main_v40 m c = fun y => dhF (A0 m c) (A1 m c) (A2 m c) (A3 m c) (A4 m c) (y 0) (y 1) := by
  funext y
  obtain ⟨i, j, rfl⟩ : ∃ (i : Fin 8448) (j : Fin 1024), y = ix2 i j := ⟨y 0, y 1, (by ext a; fin_cases a <;> rfl)⟩
  refine (entry5 m c i j).trans ?_
  show _ = dhF (A0 m c) (A1 m c) (A2 m c) (A3 m c) (A4 m c) (i : ℕ) j
  have hi := i.isLt
  unfold dhF
  by_cases h : (i : ℕ) < 240
  · rw [dif_pos h, dif_pos (by omega)]
  · rw [dif_neg h, dif_neg (by omega)]
    exact (dn_eq (fun k => A0 m c (ix2 ⟨(i : ℕ) - 240, by omega⟩ k)) (fun k => pf (A2 m c) (A3 m c) ⟨(i : ℕ) - 240, by omega⟩ k * A1 m c (ix1 k)) j _).symm

theorem ref6 : (shapeCast _ (Host.reduceAdd (shapeCast _ (Host.reduceAdd (mulf (mulf (m ((c.tc : Thread nD τ).loc main_arg0)) (broadcastInDim S8208x1024 ![0, 1] bcast_S8208x1_S8208x1024_0_1 (Host.rsqrt (addf (Host.divf (broadcastInDim S8208x1 ![0] bcast_S8208_S8208x1_0 (Host.reduceAdd (mulf (m ((c.tc : Thread nD τ).loc main_arg0)) (m ((c.tc : Thread nD τ).loc main_arg0))) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (Host.dotGeneral (φ₁ := .f32) (φ₂ := .f32) dot_S8208x5632_S1024x5632_S8208x1024_1_1_0_0_n_n none (m ((c.tc : Thread nD τ).loc main_arg3)) (m ((c.tc : Thread nD τ).loc main_arg2)))) (constant S_ .f32 0x00000000#32) reducesTo_S8208x1024_S1024_d0 h_S_) shapeCasts_S1024_S1x1024) (constant S_ .f32 0x00000000#32) reducesTo_S1x1024_S1024_d0 h_S_) shapeCasts_S1024_S1x1024 : FVec Ideal S1x1024 .f32)
    = fun y => dgF (A0 m c) (A2 m c) (A3 m c) (y 1) := by
  funext y
  obtain ⟨i, j, rfl⟩ : ∃ (i : Fin 1) (j : Fin 1024), y = ix2 i j := ⟨y 0, y 1, (by ext a; fin_cases a <;> rfl)⟩
  refine Eq.trans (b := ∑ r : Fin 8208, A0 m c (ix2 r j) * rs (fun k => A0 m c (ix2 r k)) * pf (A2 m c) (A3 m c) r j) ?_ ?_
  · unfold rs ms pf
    pointwise
    try simp only [Finset.univ_unique, Finset.sum_singleton]
  · show _ = dgF (A0 m c) (A2 m c) (A3 m c) j
    unfold dgF
    exact Finset.sum_congr rfl fun r _ => mul_comm _ _

end Cert.FfnDhReferenceIdeal.Val

namespace Cert.FfnDhEnd

open Idealize.ShloMosaic Idealize.SL.Sem Idealize.ShloMosaic.TcCoe

attribute [local instance] Cert.FfnDh.Gen.facts Cert.FfnDhIdeal.Gen.facts Cert.FfnDhReferenceIdeal.Gen.facts

theorem frame_kernel : Cert.quiescent_FfnDh := fun m ρ _ => Cert.FfnDh.Gen.frame m ρ

theorem frame_ideal : Cert.quiescent_FfnDhIdeal := fun m ρ _ => Cert.FfnDhIdeal.Gen.frame m ρ

theorem frame_ref : Cert.quiescent_FfnDhReferenceIdeal := by
  intro m ρ _
  refine (θ_run Cert.FfnDhReferenceIdeal.defs _ _).mono (fun r h => ⟨fun c => ?_, sem_eq_zero_of_no_sems (by decide) r.2⟩)
    (Cert.FfnDhReferenceIdeal.Value.run (F := Ideal) m ρ)
  exact (h c).2.2

/-- Kernel and reference both end with the same two arrays. -/
theorem results : Cert.algebraic_FfnDhIdeal_FfnDhReferenceIdeal := by
  intro m g m' g' _ hagree
  refine ⟨fun c => Cert.FfnDhIdeal.Val.res5 m c, fun c => Cert.FfnDhIdeal.Val.res6 m c, ?_, ?_⟩
  · refine (θ_run Cert.FfnDhIdeal.defs _ _).mono (fun _ hr c => ?_) (Cert.FfnDhIdeal.Value.run_blocks m g)
    exact ⟨(hr c).1.trans (Cert.FfnDhIdeal.Val.arr5 m c), (hr c).2.1.trans (Cert.FfnDhIdeal.Val.arr6 m c), (hr c).2.2⟩
  · refine (θ_run Cert.FfnDhReferenceIdeal.defs _ _).mono (fun _ hr c => ?_) (Cert.FfnDhReferenceIdeal.Value.run (F := Ideal) m' g')
    refine ⟨(hr c).1.trans ((Cert.FfnDhReferenceIdeal.Val.ref5 m' c).trans ?_), (hr c).2.1.trans ((Cert.FfnDhReferenceIdeal.Val.ref6 m' c).trans ?_), (hr c).2.2⟩
    · unfold Cert.FfnDhReferenceIdeal.Val.A0 Cert.FfnDhReferenceIdeal.Val.A1 Cert.FfnDhReferenceIdeal.Val.A2 Cert.FfnDhReferenceIdeal.Val.A3 Cert.FfnDhReferenceIdeal.Val.A4
      rw [(hagree c).1, (hagree c).2.1, (hagree c).2.2.1, (hagree c).2.2.2.1, (hagree c).2.2.2.2]
      all_goals rfl
    · unfold Cert.FfnDhReferenceIdeal.Val.A0 Cert.FfnDhReferenceIdeal.Val.A2 Cert.FfnDhReferenceIdeal.Val.A3
      rw [(hagree c).1, (hagree c).2.2.1, (hagree c).2.2.2.1]
      all_goals rfl

end Cert.FfnDhEnd

end
-- ==== Proof.SsdDh.lean ====
module

public import proofs.«01_k».proof.Proof.Gen.SsdDh
public import proofs.«01_k».proof.Proof.Gen.SsdDh.Frame
public import proofs.«01_k».proof.Proof.Gen.SsdDhIdeal
public import proofs.«01_k».proof.Proof.Gen.SsdDhIdeal.Frame
public import proofs.«01_k».proof.Proof.Gen.SsdDhIdeal.Value
public import proofs.«01_k».proof.Proof.Gen.SsdDhReferenceIdeal
public import proofs.«01_k».proof.Proof.Gen.SsdDhReferenceIdeal.Run
public import proofs.«01_k».proof.Proof.PadRows
public import proofs.«01_k».proof.Proof.NormMath
public import proofs.«01_k».proof.Defs
public import Idealize.ShloMosaic.Adequacy
public import Idealize.ShloMosaic.Init
public import Idealize.ShloMosaic.Lib.Pipeline.ValueKit
public import Idealize.ShloMosaic.Lib.Pointwise
public import Idealize.ShloMosaic.Lib.StableHlo.RunRead

/-! The product `SsdDh` of a cotangent with a weight's transpose, taken back through the row normalization and added to a residual cotangent; and the normalization weight's gradient. -/

@[expose] public section
set_option maxRecDepth 65536
noncomputable section

namespace Cert.SsdDhIdeal.Val

open Cert.SsdDhIdeal Cert.SsdDhIdeal.Gen Idealize.ShloMosaic Idealize.ShloMosaic.TcCoe Cert.RowSum Cert.NormMath

variable (c : Dev nD) (i : grid0.Coords)
  (arg2 : Memref sig .tc .vmem S768x1792 .bf16) (harg2 : arg2.IsWhole)
  (arg3 : Memref sig .tc .vmem S1024x1792 .bf16) (harg3 : arg3.IsWhole)
  (arg4 : Memref sig .tc .vmem S768x1024 .f32) (harg4 : arg4.IsWhole)
  (arg5 : Memref sig .tc .vmem S1x1024 .f32) (harg5 : arg5.IsWhole)
  (arg6 : Memref sig .tc .vmem S768x1024 .f32) (harg6 : arg6.IsWhole)
  (arg7 : Memref sig .tc .vmem S768x1024 .f32) (harg7 : arg7.IsWhole)
  (arg8 : Memref sig .tc .vmem S1x1024 .f32) (harg8 : arg8.IsWhole)
  (arg9 : Memref sig .tc .vmem S768x1024 .f32) (harg9 : arg9.IsWhole)
  (x0 : Vec Ideal S768x1792 .bf16) (x1 : Vec Ideal S1024x1792 .bf16) (x2 : Vec Ideal S768x1024 .f32) (x3 : Vec Ideal S1x1024 .f32) (x4 : Vec Ideal S768x1024 .f32) (xo6 : Vec Ideal S1x1024 .f32) (xs0 : Vec Ideal S768x1024 .f32)

theorem s_A (hc0 : cond0_0 i) (hc1 : cond0_1 i) (hc2 : ¬cond0_2 i) :
    sout0_A_0 (F := Ideal) c i arg2 harg2 arg3 harg3 arg4 harg4 arg5 harg5 arg6 harg6 arg7 harg7 arg8 harg8 arg9 harg9 hc0 hc1 hc2 x0 x1 x2 x3 x4 = k0_pay3 (k0_pay1 (F := Ideal)) x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem s_B (hc0 : ¬cond0_0 i) (hc1 : ¬cond0_1 i) (hc2 : ¬cond0_2 i) :
    sout0_B_0 (F := Ideal) c i arg2 harg2 arg3 harg3 arg4 harg4 arg5 harg5 arg6 harg6 arg7 harg7 arg8 harg8 arg9 harg9 hc0 hc1 hc2 x0 x1 x2 x3 x4 xs0 = k0_pay3 xs0 x0 x1 := by
  unfold sout0_B_0
  rw [View.read_writes_eq_canon _ _ _ (scover0_B_0 (F := Ideal) c i arg2 harg2 arg3 harg3 arg4 harg4 arg5 harg5 arg6 harg6 arg7 harg7 arg8 harg8 arg9 harg9 hc0 hc1 hc2 x0 x1 x2 x3 x4 xs0)]
  unfold kernelRun0_B
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem s_C (hc0 : ¬cond0_0 i) (hc1 : ¬cond0_1 i) (hc2 : cond0_2 i) :
    sout0_C_0 (F := Ideal) c i arg2 harg2 arg3 harg3 arg4 harg4 arg5 harg5 arg6 harg6 arg7 harg7 arg8 harg8 arg9 harg9 hc0 hc1 hc2 x0 x1 x2 x3 x4 xo6 xs0 = k0_pay3 xs0 x0 x1 := by
  unfold sout0_C_0
  rw [View.read_writes_eq_canon _ _ _ (scover0_C_0 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem s_D (hc0 : cond0_0 i) (hc1 : ¬cond0_1 i) (hc2 : ¬cond0_2 i) :
    sout0_D_0 (F := Ideal) c i arg2 harg2 arg3 harg3 arg4 harg4 arg5 harg5 arg6 harg6 arg7 harg7 arg8 harg8 arg9 harg9 hc0 hc1 hc2 x0 x1 x2 x3 x4 = k0_pay3 (k0_pay1 (F := Ideal)) x0 x1 := by
  unfold sout0_D_0
  rw [View.read_writes_eq_canon _ _ _ (scover0_D_0 (F := Ideal) c i arg2 harg2 arg3 harg3 arg4 harg4 arg5 harg5 arg6 harg6 arg7 harg7 arg8 harg8 arg9 harg9 hc0 hc1 hc2 x0 x1 x2 x3 x4)]
  unfold kernelRun0_D
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem o_A6 (hc0 : cond0_0 i) (hc1 : cond0_1 i) (hc2 : ¬cond0_2 i) :
    out0_A_6 (F := Ideal) c i arg2 harg2 arg3 harg3 arg4 harg4 arg5 harg5 arg6 harg6 arg7 harg7 arg8 harg8 arg9 harg9 hc0 hc1 hc2 x0 x1 x2 x3 x4 = k0_pay2 (F := Ideal) := by
  unfold out0_A_6
  rw [View.read_writes_eq_canon _ _ _ (cover0_A_6 (F := Ideal) c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  first
    | rw [View.canon_unit_zero (S := S1x1024) z2]
    | rw [View.canon_cons_unit_zero (S := S1x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem o_C5 (hc0 : ¬cond0_0 i) (hc1 : ¬cond0_1 i) (hc2 : cond0_2 i) :
    out0_C_5 (F := Ideal) c i arg2 harg2 arg3 harg3 arg4 harg4 arg5 harg5 arg6 harg6 arg7 harg7 arg8 harg8 arg9 harg9 hc0 hc1 hc2 x0 x1 x2 x3 x4 xo6 xs0 = k0_pay4 (k0_pay9 (k0_pay3 xs0 x0 x1) x2 x3) (k0_pay10 (BitVec.ofNat 32 (i 0).val)) x4 := by
  unfold out0_C_5
  rw [View.read_writes_eq_canon _ _ _ (cover0_C_5 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S768x1024) z2]
    | rw [View.canon_cons_unit_zero (S := S768x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem o_C6 (hc0 : ¬cond0_0 i) (hc1 : ¬cond0_1 i) (hc2 : cond0_2 i) :
    out0_C_6 (F := Ideal) c i arg2 harg2 arg3 harg3 arg4 harg4 arg5 harg5 arg6 harg6 arg7 harg7 arg8 harg8 arg9 harg9 hc0 hc1 hc2 x0 x1 x2 x3 x4 xo6 xs0 = k0_pay8 (k0_pay3 xs0 x0 x1) x2 xo6 := by
  unfold out0_C_6
  rw [View.read_writes_eq_canon _ _ _ (cover0_C_6 (F := Ideal) c i arg2 harg2 arg3 harg3 arg4 harg4 arg5 harg5 arg6 harg6 arg7 harg7 arg8 harg8 arg9 harg9 hc0 hc1 hc2 x0 x1 x2 x3 x4 xo6 xs0)]
  unfold kernelRun0_C
  dsimp only
  sl_unfold_words
  first
    | rw [View.canon_unit_zero (S := S1x1024) z2]
    | rw [View.canon_cons_unit_zero (S := S1x1024) z2]
  try simp only [View.readAt_eq_ld, harg2.read_unread, harg3.read_unread, harg4.read_unread, harg5.read_unread, harg6.read_unread, harg7.read_unread, harg8.read_unread, harg9.read_unread, View.ld_unit_zero (S := S768x1024) z2, View.ld_unit_zero (S := S1x1024) z2, View.ld_unit_zero (S := S768x1792) z2, View.ld_unit_zero (S := S1024x1792) z2]
  try simp only [View.readCov_unit_zero (S := S768x1024) _ z2]
  try rfl

theorem pay1 (a : Fin 768) (k : Fin 1024) : k0_pay1 (F := Ideal) (ix2 a k) = 0 := by
  unfold k0_pay1
  pointwise

theorem pay2 (k : Fin 1024) : k0_pay2 (F := Ideal) (ix2 0 k) = 0 := by
  unfold k0_pay2
  pointwise

theorem pay3 (a : Fin 768) (k : Fin 1024) : k0_pay3 xs0 x0 x1 (ix2 a k) = xs0 (ix2 a k) + ∑ p : Fin 1792, x0 (ix2 a p) * x1 (ix2 k p) := by
  unfold k0_pay3
  pointwise

/-- The body's reciprocal root is the row's. -/
theorem pay6 (a : Fin 768) (q : Fin 1) : k0_pay6 x2 (ix2 a q) = rs fun j => x2 (ix2 a j) := by
  unfold k0_pay6 k0_pay5 rs ms
  pointwise

theorem pay7 (a : Fin 768) (k : Fin 1024) : k0_pay7 x2 (ix2 a k) = x2 (ix2 a k) * rs fun j => x2 (ix2 a j) := by
  refine Eq.trans ?_ (congrArg (x2 (ix2 a k) * ·) (pay6 x2 a 0))
  unfold k0_pay7 k0_pay5
  generalize k0_pay6 x2 = y
  pointwise

theorem pay8 (k : Fin 1024) : k0_pay8 xs0 x2 xo6 (ix2 0 k) = xo6 (ix2 0 k) + ∑ a : Fin 768, xs0 (ix2 a k) * (x2 (ix2 a k) * rs fun j => x2 (ix2 a j)) := by
  refine Eq.trans ?_ (congrArg (xo6 (ix2 0 k) + ·) (Finset.sum_congr rfl fun a _ => congrArg (xs0 (ix2 a k) * ·) (pay7 x2 a k)))
  unfold k0_pay8
  generalize k0_pay7 x2 = y
  pointwise

theorem pay9 (a : Fin 768) (k : Fin 1024) : k0_pay9 xs0 x2 x3 (ix2 a k) = dn (fun j => x2 (ix2 a j)) (fun j => xs0 (ix2 a j) * x3 (ix2 0 j)) k := by
  refine Eq.trans (b := k0_pay6 x2 (ix2 a 0) * (xs0 (ix2 a k) * x3 (ix2 0 k) - k0_pay7 x2 (ix2 a k)
    * Ideal.div (∑ j : Fin 1024, xs0 (ix2 a j) * x3 (ix2 0 j) * k0_pay7 x2 (ix2 a j)) (Ideal.ofBits .f32 0x44800000#32))) ?_ ?_
  · unfold k0_pay9
    generalize k0_pay7 x2 = y
    generalize k0_pay6 x2 = z
    pointwise
  · simp only [pay7, pay6]
    rfl

theorem pay4 (u : FVec Ideal S768x1024 .f32) (b : ℕ) (hb : b < 11) (a : Fin 768) (k : Fin 1024) :
    k0_pay4 u (k0_pay10 (BitVec.ofNat 32 b)) x4 (ix2 a k) = if 240 ≤ 768 * b + (a : ℕ) then x4 (ix2 a k) + u (ix2 a k) else 0 := by
  refine Eq.trans ?_ (Cert.PadRows.sel_row b a hb a.isLt _ _)
  unfold k0_pay4 k0_pay10
  pointwise

theorem at0 : ∀ t : Fin cfg0.N, win0_0.index t = ![t.val / 3, t.val % 3] :=
  (by decide +kernel : ∀ t : Fin grid0.N, win0_0.index t = ![t.val / 3, t.val % 3])
theorem at1 : ∀ t : Fin cfg0.N, win0_1.index t = ![0, t.val % 3] :=
  (by decide +kernel : ∀ t : Fin grid0.N, win0_1.index t = ![0, t.val % 3])
theorem at2 : ∀ t : Fin cfg0.N, win0_2.index t = ![t.val / 3, 0] :=
  (by decide +kernel : ∀ t : Fin grid0.N, win0_2.index t = ![t.val / 3, 0])
theorem at3 : ∀ t : Fin cfg0.N, win0_3.index t = ![0, 0] :=
  (by decide +kernel : ∀ t : Fin grid0.N, win0_3.index t = ![0, 0])
theorem at4 : ∀ t : Fin cfg0.N, win0_4.index t = ![t.val / 3, 0] :=
  (by decide +kernel : ∀ t : Fin grid0.N, win0_4.index t = ![t.val / 3, 0])
theorem at5 : ∀ t : Fin cfg0.N, win0_5.index t = ![t.val / 3, 0] :=
  (by decide +kernel : ∀ t : Fin grid0.N, win0_5.index t = ![t.val / 3, 0])
theorem at6 : ∀ t : Fin cfg0.N, win0_6.index t = ![0, 0] :=
  (by decide +kernel : ∀ t : Fin grid0.N, win0_6.index t = ![0, 0])
theorem coord : ∀ t : Fin cfg0.N, (grid0.coords t 0).val = t.val / 3 :=
  (by decide +kernel : ∀ t : Fin grid0.N, (grid0.coords t 0).val = t.val / 3)
theorem ltN (t : Fin cfg0.N) : t.val < 33 := lt_of_lt_of_eq t.isLt (show cfg0.N = 33 from N_0)

end Cert.SsdDhIdeal.Val

namespace Cert.SsdDhIdeal.Val

open Cert.SsdDhIdeal Cert.SsdDhIdeal.Gen Idealize.ShloMosaic Idealize.ShloMosaic.TcCoe Cert.RowSum Cert.NormMath

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5376]⟩ : Shape).Idx → EReal := m ((c : Thread nD τ).loc main_arg2)
abbrev A3 : (⟨2, ![8208, 5376]⟩ : Shape).Idx → EReal := m ((c : Thread nD τ).loc main_arg3)
abbrev A4 : (⟨2, ![8208, 1024]⟩ : Shape).Idx → EReal := m ((c : Thread nD τ).loc main_arg4)
def CT : (⟨2, ![8448, 5376]⟩ : Shape).Idx → EReal := V m c main_v2
def WT : (⟨2, ![1024, 5376]⟩ : Shape).Idx → EReal := V m c main_v3
def H : (⟨2, ![8448, 1024]⟩ : Shape).Idx → EReal := V m c main_v5
def GN : (⟨2, ![1, 1024]⟩ : Shape).Idx → EReal := V m c main_v6
def DH : (⟨2, ![8448, 1024]⟩ : Shape).Idx → EReal := V m c main_v8

theorem V_2 (r : Fin 8448) (p : Fin 5376) : CT m c (ix2 r p)
    = if h : (r : ℕ) < 240 then 0 else A3 m c (ix2 ⟨(r : ℕ) - 240, by omega⟩ p) := by
  refine Eq.trans (congrFun (show V m c main_v2 = truncf (F := Ideal) .bf16 (concatenate S8448x5376 0 [⟨S240x5376, broadcastInDim S240x5376 ![] bcast_S_S240x5376 (constant S_ .f32 0x00000000#32)⟩, ⟨S8208x5376, m ((c : Thread nD τ).loc main_arg3)⟩] concatenates_S240x5376_S8208x5376_S8448x5376_d0) bitsLt_bf16_f32 from ?_) _) (by pointwise)
  unfold V
  after_reads_simp
  rfl

theorem V_5 (r : Fin 8448) (p : Fin 1024) : H m c (ix2 r p)
    = if h : (r : ℕ) < 240 then 0 else A0 m c (ix2 ⟨(r : ℕ) - 240, by omega⟩ p) := by
  refine Eq.trans (congrFun (show V m c main_v5 = (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0 : FVec Ideal S8448x1024 .f32) from ?_) _) (by pointwise)
  unfold V
  after_reads_simp
  rfl

theorem V_8 (r : Fin 8448) (p : Fin 1024) : DH m c (ix2 r p)
    = if h : (r : ℕ) < 240 then 0 else A4 m c (ix2 ⟨(r : ℕ) - 240, by omega⟩ p) := by
  refine Eq.trans (congrFun (show V m c main_v8 = (concatenate S8448x1024 0 [⟨S240x1024, broadcastInDim S240x1024 ![] bcast_S_S240x1024 (constant S_ .f32 0x00000000#32)⟩, ⟨S8208x1024, m ((c : Thread nD τ).loc main_arg4)⟩] concatenates_S240x1024_S8208x1024_S8448x1024_d0 : FVec Ideal S8448x1024 .f32) from ?_) _) (by pointwise)
  unfold V
  after_reads_simp
  rfl

theorem V_3 (r : Fin 1024) (p : Fin 5376) : WT m c (ix2 r p) = A2 m c (ix2 r p) := by
  refine Eq.trans (congrFun (show V m c main_v3 = truncf (F := Ideal) .bf16 (m ((c : Thread nD τ).loc main_arg2)) bitsLt_bf16_f32 from ?_) _) (by pointwise)
  unfold V
  after_reads_simp

theorem V_6 (k : Fin 1024) : GN m c (ix2 0 k) = A1 m c (ix1 k) := by
  refine Eq.trans (congrFun (show V m c main_v6 = (shapeCast S1x1024 (m ((c : Thread nD τ).loc main_arg1)) shapeCasts_S1024_S1x1024 : FVec Ideal S1x1024 .f32) from ?_) _) (by pointwise)
  unfold V
  after_reads_simp
  rfl

theorem blk0 (t : Fin cfg0.N) (a : Fin 768) (b : Fin 1792) (h0 : 768 * (t.val / 3) + (a : ℕ) < 8448) (h1 : 1792 * (t.val % 3) + (b : ℕ) < 5376) :
    iblk m c 0 t (ix2 a b) = (V m c main_v2 : (⟨2, ![8448, 5376]⟩ : Shape).Idx → EReal) (ix2 ⟨768 * (t.val / 3) + (a : ℕ), h0⟩ ⟨1792 * (t.val % 3) + (b : ℕ), h1⟩) := by
  have e : (win0_0.blk t).view.emb (ix2 a b) = ix2 ⟨768 * (t.val / 3) + (a : ℕ), h0⟩ ⟨1792 * (t.val % 3) + (b : ℕ), h1⟩ := by
    funext x
    apply Fin.ext
    fin_cases x
    all_goals (blk_simp [at0]; try simp; try omega)
  blk_simp [iblk]
  rw [e]

theorem blk1 (t : Fin cfg0.N) (a : Fin 1024) (b : Fin 1792) (h0 : (a : ℕ) < 1024) (h1 : 1792 * (t.val % 3) + (b : ℕ) < 5376) :
    iblk m c 1 t (ix2 a b) = (V m c main_v3 : (⟨2, ![1024, 5376]⟩ : Shape).Idx → EReal) (ix2 ⟨(a : ℕ), h0⟩ ⟨1792 * (t.val % 3) + (b : ℕ), h1⟩) := by
  have e : (win0_1.blk t).view.emb (ix2 a b) = ix2 ⟨(a : ℕ), h0⟩ ⟨1792 * (t.val % 3) + (b : ℕ), h1⟩ := by
    funext x
    apply Fin.ext
    fin_cases x
    all_goals (blk_simp [at1]; try simp; try omega)
  blk_simp [iblk]
  rw [e]

theorem blk2 (t : Fin cfg0.N) (a : Fin 768) (b : Fin 1024) (h0 : 768 * (t.val / 3) + (a : ℕ) < 8448) (h1 : (b : ℕ) < 1024) :
    iblk m c 2 t (ix2 a b) = (V m c main_v5 : (⟨2, ![8448, 1024]⟩ : Shape).Idx → EReal) (ix2 ⟨768 * (t.val / 3) + (a : ℕ), h0⟩ ⟨(b : ℕ), h1⟩) := by
  have e : (win0_2.blk t).view.emb (ix2 a b) = ix2 ⟨768 * (t.val / 3) + (a : ℕ), h0⟩ ⟨(b : ℕ), h1⟩ := by
    funext x
    apply Fin.ext
    fin_cases x
    all_goals (blk_simp [at2]; try simp; try omega)
  blk_simp [iblk]
  rw [e]

theorem blk3 (t : Fin cfg0.N) (a : Fin 1) (b : Fin 1024) (h0 : (a : ℕ) < 1) (h1 : (b : ℕ) < 1024) :
    iblk m c 3 t (ix2 a b) = (V m c main_v6 : (⟨2, ![1, 1024]⟩ : Shape).Idx → EReal) (ix2 ⟨(a : ℕ), h0⟩ ⟨(b : ℕ), h1⟩) := by
  have e : (win0_3.blk t).view.emb (ix2 a b) = ix2 ⟨(a : ℕ), h0⟩ ⟨(b : ℕ), h1⟩ := by
    funext x
    apply Fin.ext
    fin_cases x
    all_goals (blk_simp [at3]; try simp; try omega)
  blk_simp [iblk]
  rw [e]
  exact congrArg (fun z => V m c main_v6 (ix2 z ⟨(b : ℕ), h1⟩)) (Subsingleton.elim _ _)

theorem blk4 (t : Fin cfg0.N) (a : Fin 768) (b : Fin 1024) (h0 : 768 * (t.val / 3) + (a : ℕ) < 8448) (h1 : (b : ℕ) < 1024) :
    iblk m c 4 t (ix2 a b) = (V m c main_v8 : (⟨2, ![8448, 1024]⟩ : Shape).Idx → EReal) (ix2 ⟨768 * (t.val / 3) + (a : ℕ), h0⟩ ⟨(b : ℕ), h1⟩) := by
  have e : (win0_4.blk t).view.emb (ix2 a b) = ix2 ⟨768 * (t.val / 3) + (a : ℕ), h0⟩ ⟨(b : ℕ), h1⟩ := by
    funext x
    apply Fin.ext
    fin_cases x
    all_goals (blk_simp [at4]; try simp; try omega)
  blk_simp [iblk]
  rw [e]

/-- The products a row's and a column's entry of the product adds up. -/
def pr (r : ℕ) (k : Fin 1024) (p : Fin 5376) : EReal := if h : r < 8448 then CT m c (ix2 ⟨r, h⟩ p) * WT m c (ix2 k p) else 0

/-- The product's entry. -/
def du (r : Fin 8448) (k : Fin 1024) : EReal := ∑ p : Fin 5376, pr m c r k p

/-- What a row adds to the normalization weight's gradient. -/
def tm (k : Fin 1024) (r : Fin 8448) : EReal := du m c r k * (H m c (ix2 r k) * rs fun j => H m c (ix2 r j))

/-- One block of columns more. -/
theorem step (t : Fin cfg0.N) (x : Vec Ideal S768x1024 .f32) (a : Fin 768) (k : Fin 1024)
    (h : x (ix2 a k) = upTo (pr m c (768 * (t.val / 3) + (a : ℕ)) k) (1792 * (t.val % 3))) :
    k0_pay3 x (iblk m c 0 t) (iblk m c 1 t) (ix2 a k) = upTo (pr m c (768 * (t.val / 3) + (a : ℕ)) k) (1792 * (t.val % 3 + 1)) := by
  have ht := ltN t
  have ha := a.isLt
  have h0 : 768 * (t.val / 3) + (a : ℕ) < 8448 := by omega
  rw [pay3, h, Nat.mul_succ]
  refine (upTo_block _ _ _ _ fun p => ?_).symm
  have hp := p.isLt
  have h1 : 1792 * (t.val % 3) + (p : ℕ) < 5376 := by omega
  refine ⟨h1, ?_⟩
  rw [blk0 m c t a p h0 h1, blk1 m c t k p k.isLt h1]
  unfold pr CT WT
  rw [dif_pos h0]

attribute [local irreducible] outsAt0 iblk k0_pay1 k0_pay2 k0_pay3 k0_pay4 k0_pay8 k0_pay9 k0_pay10 upTo

/-- What the accumulator holds after a grid point: the products of the columns up to the point's block. -/
theorem acc_after (n : ℕ) : ∀ (hn : n < cfg0.N) (a : Fin 768) (k : Fin 1024),
    (outsAt0 m c n hn).2.2 (ix2 a k) = upTo (pr m c (768 * (n / 3) + (a : ℕ)) k) (1792 * (n % 3 + 1)) := by
  induction n using Nat.strong_induction_on with
  | _ n ih =>
    intro hn a k
    have hN : n < 33 := lt_of_lt_of_eq hn (show cfg0.N = 33 from N_0)
    by_cases h0 : n % 3 = 0
    · have hz : k0_pay1 (F := Ideal) (ix2 a k) = upTo (pr m c (768 * (n / 3) + (a : ℕ)) k) (1792 * (n % 3)) := by
        rw [pay1, h0, Nat.mul_zero, upTo_zero]
      by_cases h1 : n % 33 = 0
      · have e := outsAt0_A m c ⟨n, hn⟩ h0 h1 (by dsimp only; omega)
        dsimp only at e
        rw [e]
        dsimp only
        rw [s_A]
        exact step m c ⟨n, hn⟩ _ a k hz
      · have e := outsAt0_D m c ⟨n, hn⟩ h0 h1 (by dsimp only; omega)
        dsimp only at e
        rw [e]
        dsimp only
        rw [s_D]
        exact step m c ⟨n, hn⟩ _ a k hz
    · have hp := ih (n - 1) (by omega) (by omega) a k
      rw [show (n - 1) / 3 = n / 3 by omega, show (n - 1) % 3 + 1 = n % 3 by omega] at hp
      by_cases h2 : n % 3 = 2
      · have e := outsAt0_C m c ⟨n, hn⟩ h0 (by dsimp only; omega) h2
        dsimp only at e
        rw [e]
        dsimp only
        rw [s_C]
        exact step m c ⟨n, hn⟩ _ a k hp
      · have e := outsAt0_B m c ⟨n, hn⟩ h0 (by dsimp only; omega) h2
        dsimp only at e
        rw [e]
        dsimp only
        rw [s_B]
        exact step m c ⟨n, hn⟩ _ a k hp

/-- At a row block's last point the body's new sum is the whole product. -/
theorem acc_last (t : Fin cfg0.N) (h2 : t.val % 3 = 2) (a : Fin 768) (h : 768 * (t.val / 3) + (a : ℕ) < 8448) (k : Fin 1024) :
    k0_pay3 (outsAt0 m c (t.val - 1) (Nat.lt_of_le_of_lt (Nat.sub_le _ _) t.isLt)).2.2 (iblk m c 0 t) (iblk m c 1 t) (ix2 a k) = du m c ⟨768 * (t.val / 3) + (a : ℕ), h⟩ k := by
  have hp := acc_after m c (t.val - 1) (Nat.lt_of_le_of_lt (Nat.sub_le _ _) t.isLt) a k
  rw [show (t.val - 1) / 3 = t.val / 3 by omega, show (t.val - 1) % 3 + 1 = t.val % 3 by omega] at hp
  refine (step m c t _ a k hp).trans ?_
  rw [h2]
  exact upTo_all _

/-- The normalization weight's gradient after a grid point: the rows of the row blocks that are complete. -/
theorem dg_after (n : ℕ) : ∀ (hn : n < cfg0.N) (k : Fin 1024),
    (outsAt0 m c n hn).2.1 (ix2 0 k) = upTo (tm m c k) (768 * ((n + 1) / 3)) := by
  induction n using Nat.strong_induction_on with
  | _ n ih =>
    intro hn k
    have hN : n < 33 := lt_of_lt_of_eq hn (show cfg0.N = 33 from N_0)
    by_cases h1 : n % 33 = 0
    · have e := outsAt0_A m c ⟨n, hn⟩ (by dsimp only; omega) h1 (by dsimp only; omega)
      dsimp only at e
      rw [e]
      dsimp only
      rw [o_A6, pay2, show (n + 1) / 3 = 0 by omega, Nat.mul_zero, upTo_zero]
    · have hp := ih (n - 1) (by omega) (by omega) k
      rw [show n - 1 + 1 = n by omega] at hp
      by_cases h2 : n % 3 = 2
      · have e := outsAt0_C m c ⟨n, hn⟩ (by dsimp only; omega) h1 h2
        dsimp only at e
        rw [e]
        dsimp only
        rw [o_C6, pay8, hp, show (n + 1) / 3 = n / 3 + 1 by omega, Nat.mul_succ]
        refine (upTo_block _ _ _ _ fun a => ?_).symm
        have ha := a.isLt
        have h0 : 768 * (n / 3) + (a : ℕ) < 8448 := by omega
        refine ⟨h0, ?_⟩
        rw [acc_last m c ⟨n, hn⟩ h2 a h0 k]
        simp only [blk2 m c ⟨n, hn⟩ a _ h0 (Fin.isLt _)]
        rfl
      · rw [show (n + 1) / 3 = n / 3 by omega]
        by_cases h0 : n % 3 = 0
        · have e := outsAt0_D m c ⟨n, hn⟩ h0 h1 h2
          dsimp only at e
          rw [e]
          exact hp
        · have e := outsAt0_B m c ⟨n, hn⟩ h0 h1 h2
          dsimp only at e
          rw [e]
          exact hp

/-- A row block's last point writes the residual's rows with the closed form of the derivative added, zero on the padding. -/
theorem out_last (t : Fin cfg0.N) (h2 : t.val % 3 = 2) (a : Fin 768) (h : 768 * (t.val / 3) + (a : ℕ) < 8448) (k : Fin 1024) :
    (outsAt0 m c t.val t.isLt).1 (ix2 a k) = if 240 ≤ 768 * (t.val / 3) + (a : ℕ) then
      DH m c (ix2 ⟨768 * (t.val / 3) + (a : ℕ), h⟩ k) + dn (fun j => H m c (ix2 ⟨768 * (t.val / 3) + (a : ℕ), h⟩ j))
        (fun j => du m c ⟨768 * (t.val / 3) + (a : ℕ), h⟩ j * GN m c (ix2 0 j)) k else 0 := by
  have ht := ltN t
  rw [outsAt0_C m c t (by omega) (by omega) h2]
  dsimp only
  rw [o_C5, coord, pay4 _ _ _ (by omega), pay9]
  simp only [acc_last m c t h2 a h, blk2 m c t a _ h (Fin.isLt _), blk4 m c t a _ h (Fin.isLt _), blk3 m c t 0 _ (Fin.isLt _) (Fin.isLt _)]
  rfl

/-- The product on the rows past the padding. -/
theorem du_row (r : Fin 8448) (h : ¬(r : ℕ) < 240) (k : Fin 1024) : du m c r k = pf (A2 m c) (A3 m c) ⟨(r : ℕ) - 240, by omega⟩ k := by
  unfold du pf
  refine Finset.sum_congr rfl fun p _ => ?_
  unfold pr
  rw [dif_pos r.isLt]
  show CT m c (ix2 r p) * WT m c (ix2 k p) = _
  rw [V_2, V_3, dif_neg h]

def res5 : (⟨2, ![8448, 1024]⟩ : Shape).Idx → EReal := fun y => dhF (A0 m c) (A1 m c) (A2 m c) (A3 m c) (A4 m c) (y 0) (y 1)
def res6 : (⟨2, ![1, 1024]⟩ : Shape).Idx → EReal := fun y => dgF (A0 m c) (A2 m c) (A3 m c) (y 1)

theorem arr5 : (dats m 0 c).arrAt 5 cfg0.N = res5 m c := by
  refine (dats m 0 c).arrAt_eq_of_covers 5 _ (by decide +kernel) fun t hf y => ?_
  have hl : t.val % 3 = 2 := (flush0_5 t).mp hf
  have ht := ltN t
  blk_simp [at5]
  rw [after0_5]
  obtain ⟨a, k, rfl⟩ : ∃ (a : Fin 768) (k : Fin 1024), y = ix2 a k := ⟨y 0, y 1, (by ext x; fin_cases x <;> rfl)⟩
  have ha := a.isLt
  have h0 : 768 * (t.val / 3) + (a : ℕ) < 8448 := by omega
  have e : (win0_5.blk t).view.emb (ix2 a k) = ix2 ⟨768 * (t.val / 3) + (a : ℕ), h0⟩ k := by
    funext x
    apply Fin.ext
    fin_cases x
    all_goals (blk_simp [at5]; try simp; try omega)
  rw [e]
  refine (out_last m c t hl a h0 k).trans ?_
  show _ = dhF (A0 m c) (A1 m c) (A2 m c) (A3 m c) (A4 m c) (768 * (t.val / 3) + (a : ℕ)) k
  unfold dhF
  by_cases hp : 240 ≤ 768 * (t.val / 3) + (a : ℕ)
  · have hn : ¬(768 * (t.val / 3) + (a : ℕ)) < 240 := by omega
    rw [if_pos hp, dif_neg (by omega)]
    simp only [V_5, V_6, V_8, du_row m c ⟨_, h0⟩ hn, dif_neg hn]
  · rw [if_neg hp, dif_pos (by omega)]

theorem arr6 : (dats m 0 c).arrAt 6 cfg0.N = res6 m c := by
  refine (dats m 0 c).arrAt_eq_of_covers 6 _ (by decide +kernel) fun t hf y => ?_
  have hl : t.val % 33 = 32 := (flush0_6 t).mp hf
  have ht := ltN t
  blk_simp [at6]
  rw [after0_6]
  obtain ⟨a, k, rfl⟩ : ∃ (a : Fin 1) (k : Fin 1024), y = ix2 a k := ⟨y 0, y 1, (by ext x; fin_cases x <;> rfl)⟩
  obtain rfl : a = 0 := Subsingleton.elim _ _
  have e : (win0_6.blk t).view.emb (ix2 0 k) = ix2 0 k := by
    funext x
    apply Fin.ext
    fin_cases x
    all_goals (blk_simp [at6]; try simp; try omega)
  rw [e]
  refine (dg_after m c t.val t.isLt k).trans ?_
  rw [show (t.val + 1) / 3 = 11 by omega]
  refine (upTo_all (tm m c k)).trans ?_
  show _ = dgF (A0 m c) (A2 m c) (A3 m c) k
  unfold dgF
  refine sum_pad _ _ (fun r hr => ?_) fun r => ?_
  · unfold tm
    rw [V_5, dif_pos hr, zero_mul, mul_zero]
  · have hn : ¬(240 + (r : ℕ)) < 240 := by omega
    unfold tm
    have hb : 240 + (r : ℕ) < 8448 := by omega
    simp only [du_row m c ⟨240 + (r : ℕ), hb⟩ hn, V_5, dif_neg hn, Nat.add_sub_cancel_left]

end Cert.SsdDhIdeal.Val

namespace Cert.SsdDhReferenceIdeal.Val

open Cert.SsdDhReferenceIdeal Cert.SsdDhReferenceIdeal.Gen Idealize.ShloMosaic Idealize.ShloMosaic.TcCoe Cert.NormMath

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5376]⟩ : Shape).Idx → EReal := m ((c : Thread nD τ).loc main_arg2)
abbrev A3 : (⟨2, ![8208, 5376]⟩ : Shape).Idx → EReal := m ((c : Thread nD τ).loc main_arg3)
abbrev A4 : (⟨2, ![8208, 1024]⟩ : Shape).Idx → EReal := m ((c : Thread nD τ).loc main_arg4)

/-- An entry of the reference's first result. -/
theorem entry5 (i : Fin 8448) (j : Fin 1024) : (Value.res_main_v40 m c : (⟨2, ![8448, 1024]⟩ : Shape).Idx → EReal) (ix2 i j)
    = if h : (i : ℕ) < 240 then 0 else
      A4 m c (ix2 ⟨(i : ℕ) - 240, by omega⟩ j)
        + pf (A2 m c) (A3 m c) ⟨(i : ℕ) - 240, by omega⟩ j * A1 m c (ix1 j) * rs (fun k => A0 m c (ix2 ⟨(i : ℕ) - 240, by omega⟩ k))
        + A0 m c (ix2 ⟨(i : ℕ) - 240, by omega⟩ j) * tn (fun k => A0 m c (ix2 ⟨(i : ℕ) - 240, by omega⟩ k)) (fun k => pf (A2 m c) (A3 m c) ⟨(i : ℕ) - 240, by omega⟩ k * A1 m c (ix1 k))
        + tn (fun k => A0 m c (ix2 ⟨(i : ℕ) - 240, by omega⟩ k)) (fun k => pf (A2 m c) (A3 m c) ⟨(i : ℕ) - 240, by omega⟩ k * A1 m c (ix1 k)) * A0 m c (ix2 ⟨(i : ℕ) - 240, by omega⟩ j) := by
  unfold Value.res_main_v40 tn rs ms pf
  pointwise
  simp only [Finset.univ_unique, Finset.sum_singleton]

theorem ref5 : Value.res_main_v40 m c = fun y => dhF (A0 m c) (A1 m c) (A2 m c) (A3 m c) (A4 m c) (y 0) (y 1) := by
  funext y
  obtain ⟨i, j, rfl⟩ : ∃ (i : Fin 8448) (j : Fin 1024), y = ix2 i j := ⟨y 0, y 1, (by ext a; fin_cases a <;> rfl)⟩
  refine (entry5 m c i j).trans ?_
  show _ = dhF (A0 m c) (A1 m c) (A2 m c) (A3 m c) (A4 m c) (i : ℕ) j
  have hi := i.isLt
  unfold dhF
  by_cases h : (i : ℕ) < 240
  · rw [dif_pos h, dif_pos (by omega)]
  · rw [dif_neg h, dif_neg (by omega)]
    exact (dn_eq (fun k => A0 m c (ix2 ⟨(i : ℕ) - 240, by omega⟩ k)) (fun k => pf (A2 m c) (A3 m c) ⟨(i : ℕ) - 240, by omega⟩ k * A1 m c (ix1 k)) j _).symm

theorem ref6 : (shapeCast _ (Host.reduceAdd (shapeCast _ (Host.reduceAdd (mulf (mulf (m ((c.tc : Thread nD τ).loc main_arg0)) (broadcastInDim S8208x1024 ![0, 1] bcast_S8208x1_S8208x1024_0_1 (Host.rsqrt (addf (Host.divf (broadcastInDim S8208x1 ![0] bcast_S8208_S8208x1_0 (Host.reduceAdd (mulf (m ((c.tc : Thread nD τ).loc main_arg0)) (m ((c.tc : Thread nD τ).loc main_arg0))) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (Host.dotGeneral (φ₁ := .f32) (φ₂ := .f32) dot_S8208x5376_S1024x5376_S8208x1024_1_1_0_0_n_n none (m ((c.tc : Thread nD τ).loc main_arg3)) (m ((c.tc : Thread nD τ).loc main_arg2)))) (constant S_ .f32 0x00000000#32) reducesTo_S8208x1024_S1024_d0 h_S_) shapeCasts_S1024_S1x1024) (constant S_ .f32 0x00000000#32) reducesTo_S1x1024_S1024_d0 h_S_) shapeCasts_S1024_S1x1024 : FVec Ideal S1x1024 .f32)
    = fun y => dgF (A0 m c) (A2 m c) (A3 m c) (y 1) := by
  funext y
  obtain ⟨i, j, rfl⟩ : ∃ (i : Fin 1) (j : Fin 1024), y = ix2 i j := ⟨y 0, y 1, (by ext a; fin_cases a <;> rfl)⟩
  refine Eq.trans (b := ∑ r : Fin 8208, A0 m c (ix2 r j) * rs (fun k => A0 m c (ix2 r k)) * pf (A2 m c) (A3 m c) r j) ?_ ?_
  · unfold rs ms pf
    pointwise
    try simp only [Finset.univ_unique, Finset.sum_singleton]
  · show _ = dgF (A0 m c) (A2 m c) (A3 m c) j
    unfold dgF
    exact Finset.sum_congr rfl fun r _ => mul_comm _ _

end Cert.SsdDhReferenceIdeal.Val

namespace Cert.SsdDhEnd

open Idealize.ShloMosaic Idealize.SL.Sem Idealize.ShloMosaic.TcCoe

attribute [local instance] Cert.SsdDh.Gen.facts Cert.SsdDhIdeal.Gen.facts Cert.SsdDhReferenceIdeal.Gen.facts

theorem frame_kernel : Cert.quiescent_SsdDh := fun m ρ _ => Cert.SsdDh.Gen.frame m ρ

theorem frame_ideal : Cert.quiescent_SsdDhIdeal := fun m ρ _ => Cert.SsdDhIdeal.Gen.frame m ρ

theorem frame_ref : Cert.quiescent_SsdDhReferenceIdeal := by
  intro m ρ _
  refine (θ_run Cert.SsdDhReferenceIdeal.defs _ _).mono (fun r h => ⟨fun c => ?_, sem_eq_zero_of_no_sems (by decide) r.2⟩)
    (Cert.SsdDhReferenceIdeal.Value.run (F := Ideal) m ρ)
  exact (h c).2.2

/-- Kernel and reference both end with the same two arrays. -/
theorem results : Cert.algebraic_SsdDhIdeal_SsdDhReferenceIdeal := by
  intro m g m' g' _ hagree
  refine ⟨fun c => Cert.SsdDhIdeal.Val.res5 m c, fun c => Cert.SsdDhIdeal.Val.res6 m c, ?_, ?_⟩
  · refine (θ_run Cert.SsdDhIdeal.defs _ _).mono (fun _ hr c => ?_) (Cert.SsdDhIdeal.Value.run_blocks m g)
    exact ⟨(hr c).1.trans (Cert.SsdDhIdeal.Val.arr5 m c), (hr c).2.1.trans (Cert.SsdDhIdeal.Val.arr6 m c), (hr c).2.2⟩
  · refine (θ_run Cert.SsdDhReferenceIdeal.defs _ _).mono (fun _ hr c => ?_) (Cert.SsdDhReferenceIdeal.Value.run (F := Ideal) m' g')
    refine ⟨(hr c).1.trans ((Cert.SsdDhReferenceIdeal.Val.ref5 m' c).trans ?_), (hr c).2.1.trans ((Cert.SsdDhReferenceIdeal.Val.ref6 m' c).trans ?_), (hr c).2.2⟩
    · unfold Cert.SsdDhReferenceIdeal.Val.A0 Cert.SsdDhReferenceIdeal.Val.A1 Cert.SsdDhReferenceIdeal.Val.A2 Cert.SsdDhReferenceIdeal.Val.A3 Cert.SsdDhReferenceIdeal.Val.A4
      rw [(hagree c).1, (hagree c).2.1, (hagree c).2.2.1, (hagree c).2.2.2.1, (hagree c).2.2.2.2]
      all_goals rfl
    · unfold Cert.SsdDhReferenceIdeal.Val.A0 Cert.SsdDhReferenceIdeal.Val.A2 Cert.SsdDhReferenceIdeal.Val.A3
      rw [(hagree c).1, (hagree c).2.2.1, (hagree c).2.2.2.1]
      all_goals rfl

end Cert.SsdDhEnd

end
-- ==== Proof.FfnUpRun.lean ====
module

public import proofs.«01_k».proof.Proof.Gen.FfnUpIdeal
public import proofs.«01_k».proof.Proof.Gen.FfnUpIdeal.Skeleton
public import proofs.«01_k».proof.Proof.Gen.FfnUpIdeal.Frame
public import Idealize.ShloMosaic.Adequacy
public import Idealize.ShloMosaic.Init
public import Idealize.ShloMosaic.Lib.Pipeline.Value
public import Idealize.ShloMosaic.Lib.Pipeline.ValueKit
public import Idealize.ShloMosaic.Lib.Pipeline.TableIdle

/-! The run of `FfnUp`: the normalized rows are written at a row block's first column block and stay in their output block while the other column blocks use them. -/

@[expose] public section
set_option maxRecDepth 16384
noncomputable section

namespace Cert.FfnUpIdeal.Hand

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2 : (![0, 0] : Fin 2 → ℕ) = fun _ => 0 := by funext a; fin_cases a <;> rfl

/-- At the first column block of a row block the body writes the normalized rows. -/
def cond (i : grid0.Coords) : Prop := k0_cond1 i = 1#1

theorem hcond : ∀ t : Fin cfg0.N, cond (grid0.coords t) ↔ t.val % 4 = 0 :=
  (fun t => by
    have ht : t.val < 44 := Nat.lt_of_lt_of_eq t.isLt N_0
    have e0 : (grid0.coords t 0).val = t.val / 4 % 11 := Pipeline.Grid.coords_val t 0 (by decide) rfl
    have e1 : (grid0.coords t 1).val = t.val / 1 % 4 := Pipeline.Grid.coords_val t 1 (by decide) rfl
    simp only [cond, k0_cond1, e0, e1]
    word_cmp
    : ∀ t : Fin grid0.N, cond (grid0.coords t) ↔ t.val % 4 = 0)

theorem idle_iff (t : Fin cfg0.N) : cfg0.idle 4 (grid0.coords t) = !decide (t.val % 4 = 0) := by
  have h := hcond t
  show (!(k0_cond1 (grid0.coords t) == 1#1)) = _
  by_cases h0 : t.val % 4 = 0
  · rw [show k0_cond1 (grid0.coords t) = 1#1 from h.mpr h0]; simp [h0]
  · have : k0_cond1 (grid0.coords t) ≠ 1#1 := fun e => h0 (h.mp e)
    simp [h0, this]

section Runs
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S768x1408 .bf16) (harg5 : arg5.IsWhole) (arg6 : Memref sig .tc .vmem S768x1024 .bf16) (harg6 : arg6.IsWhole)
  (x0 : Vec F S768x1024 .f32) (x1 : Vec F S1x1024 .f32) (x2 : Vec F S1024x1408 .bf16) (u : Vec F S768x1024 .bf16)

set_option maxHeartbeats 1000000 in
/-- At a first column block: the normalized rows and their product are written. -/
theorem run_A (hc0 : cond i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (fun y => View.cover_of_tiledL _ S768x1408.size (by sl_kernel_rfl) y)]
    sl_unfold_words
    rw [View.canon_unit_zero (S := S768x1408) off2]
    simp only [View.readCov_unit_zero (S := S768x1024) _ off2, View.readAt_eq_ld, harg2.read_unread, harg3.read_unread, harg4.read_unread, View.ld_unit_zero (S := S768x1024) off2, View.ld_unit_zero (S := S1x1024) off2, View.ld_unit_zero (S := S1024x1408) off2]
  iexists _; isplitr; swap; · iexact H4
  ipureintro
  rw [View.read_writes_eq_canon _ _ _ (fun y => View.cover_of_tiledL _ S768x1024.size (by sl_kernel_rfl) y)]
  sl_unfold_words
  rw [View.canon_unit_zero (S := S768x1024) off2]
  simp only [View.readAt_eq_ld, harg2.read_unread, harg3.read_unread, View.ld_unit_zero (S := S768x1024) off2, View.ld_unit_zero (S := S1x1024) off2]

set_option maxHeartbeats 1000000 in
/-- At the other column blocks: the normalized rows are read from their output block, and the product is written. -/
theorem run_B (hc0 : ¬cond i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare u
        ∗ (iprop(owns (c : Thread nD τ) arg2 fullShare x0 ∗ owns (c : Thread nD τ) arg3 fullShare x1 ∗ owns (c : Thread nD τ) arg4 fullShare x2 ∗ owns (c : Thread nD τ) arg5 fullShare (k0_pay2 u x2) ∗ owns (c : Thread nD τ) arg6 fullShare u) -∗ K ⟨⟩))
      ⊢ wp frame (wpE (defs₀ (F := F)) Variants.none c none) E (cc0_ffn_up i arg2 harg2 arg3 harg3 arg4 harg4 arg5 harg5 arg6 harg6) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (fun y => View.cover_of_tiledL _ S768x1408.size (by sl_kernel_rfl) y)]
    sl_unfold_words
    rw [View.canon_unit_zero (S := S768x1408) off2]
    simp only [View.readAt_eq_ld, harg6.read_unread, harg4.read_unread, View.ld_unit_zero (S := S768x1024) off2, View.ld_unit_zero (S := S1024x1408) off2]
  iexists _; isplitr; · ipureintro; exact harg6.read_unread _
  iexact H4
end Runs

/-- The first point of a row block. -/
def row (t : Fin cfg0.N) : Fin cfg0.N := ⟨4 * (t.val / 4), by have := t.isLt; omega⟩

theorem row_self (t : Fin cfg0.N) (h : t.val % 4 = 0) : row t = t := Fin.ext (by show 4 * (t.val / 4) = t.val; omega)
theorem row_pred (t : Fin cfg0.N) (h : ¬t.val % 4 = 0) : row t = row ⟨t.val - 1, by omega⟩ := Fin.ext (by show 4 * (t.val / 4) = 4 * ((t.val - 1) / 4); omega)

/-- The normalized rows of a row block. -/
def U (c : Dev nD) (t : Fin cfg0.N) : Vec F S768x1024 .bf16 := k0_pay1 (iblk m c 0 (row t)) (iblk m c 1 (row t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (U m c t) (iblk m c 2 t)
    | ⟨4, _⟩ => U m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (U m c t) (iblk m c 2 t) := by dsimp only [dats]
theorem after0_4 (c : Dev nD) (t : Fin cfg0.N) : (dats m 0 c).after 4 t = U m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [idle_iff] at hi
  have h : ¬t.val % 4 = 0 := by simpa using hi
  rw [after0_4, after0_4]
  unfold U
  rw [row_pred t h]

theorem not_fresh : ∀ t : Fin cfg0.N, ¬t.val % 4 = 0 → cfg0.fresh 4 t.val = false := by decide +kernel

/-- Past a row block's first column block, its output block holds the normalized rows. -/
theorem before0_4 (c : Dev nD) (t : Fin cfg0.N) (h : ¬t.val % 4 = 0) (d) : (dats m 0 c).before 4 t d = U m c t := by
  rw [Dat.before_out_traj _ 4 rfl (fun _ _ => rfl) (carry m c) t.val t rfl d, if_neg (by rw [not_fresh t h]; exact Bool.false_ne_true), after0_4]
  unfold U
  rw [row_pred t h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 4 = 0
  · rw [show (dats m 0 c).leavesExact 4 t = owns (c : Thread nD τ) (st0_4 t) fullShare ((dats m 0 c).after 4 t) from by
      unfold Dat.leavesExact; rw [show cfg0.idle 4 (cfg0.grid.coords t) = false from (idle_iff t).trans (by simp [h0])], after0_4]
    unfold U
    rw [row_self t h0]
    iintro ⟨HΦ, Ho, ⟨%d0, H0⟩, ⟨%d1, H1⟩, ⟨%d2, H2⟩, ⟨%d3, H3⟩, ⟨%d4, H4⟩⟩
    iapply (run_A c (grid0.coords t) _ _ _ _ _ _ _ _ _ _ (iblk m c 0 t) (iblk m c 1 t) (iblk m c 2 t) ((hcond t).mpr h0) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hi : cfg0.idle 4 (cfg0.grid.coords t) = true := (idle_iff t).trans (by simp [h0])
    simp only [before0_4 m c t h0]
    iintro ⟨HΦ, Ho, ⟨%d0, H0⟩, ⟨%d1, H1⟩, ⟨%d2, H2⟩, ⟨%d3, H3⟩, ⟨%d4, H4⟩⟩
    iapply (run_B c (grid0.coords t) _ _ _ _ _ _ _ _ _ _ (iblk m c 0 t) (iblk m c 1 t) (iblk m c 2 t) (U m c t) (fun h => h0 ((hcond t).mp h)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    by_cases hf : t.val % 4 = 3
    · rw [show (dats m 0 c).leavesExact 4 t = owns (c : Thread nD τ) (st0_4 t) fullShare ((dats m 0 c).after 4 t) from by
        unfold Dat.leavesExact; rw [hi, (flush0_4 t).mpr hf], after0_4]
      iexact H4
    · rw [Dat.leavesExact_idle (dats m 0 c) 4 t hi (by rw [← Bool.not_eq_true]; exact fun h => hf ((flush0_4 t).mp h))]
      iexists d4
      rw [before0_4 m c t h0]
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with the arrays the data above give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two result arrays, and the arguments as they were. -/
theorem run_blocks : θ_run defs (onTc (τ := τ) (main (F := F))) ⟨m, fun _ => 0, ρ⟩ (fun r => ∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3, (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.FfnUpIdeal.Hand

end
-- ==== Proof.FfnUp.lean ====
module

public import proofs.«01_k».proof.Proof.FfnUpRun
public import proofs.«01_k».proof.Proof.Gen.FfnUp
public import proofs.«01_k».proof.Proof.Gen.FfnUpReferenceIdeal
public import proofs.«01_k».proof.Proof.Gen.FfnUpReferenceIdeal.Run
public import proofs.«01_k».proof.Proof.NormMath
public import proofs.«01_k».proof.Defs
public import Idealize.ShloMosaic.Lib.Pointwise
public import Idealize.ShloMosaic.Lib.StableHlo.RunRead

/-! The row normalization and the product `FfnUp` of the normalized rows with a weight. -/

@[expose] public section
set_option maxRecDepth 65536
noncomputable section

namespace Cert.FfnUpIdeal.Val

open Cert.FfnUpIdeal Cert.FfnUpIdeal.Gen Cert.FfnUpIdeal.Hand Idealize.ShloMosaic Idealize.ShloMosaic.TcCoe Cert.RowSum Cert.NormMath

theorem at0 : ∀ t : Fin cfg0.N, win0_0.index t = ![t.val / 4, 0] :=
  (by decide +kernel : ∀ t : Fin grid0.N, win0_0.index t = ![t.val / 4, 0])
theorem at1 : ∀ t : Fin cfg0.N, win0_1.index t = ![0, 0] :=
  (by decide +kernel : ∀ t : Fin grid0.N, win0_1.index t = ![0, 0])
theorem at2 : ∀ t : Fin cfg0.N, win0_2.index t = ![0, t.val % 4] :=
  (by decide +kernel : ∀ t : Fin grid0.N, win0_2.index t = ![0, t.val % 4])
theorem at3 : ∀ t : Fin cfg0.N, win0_3.index t = ![t.val / 4, t.val % 4] :=
  (by decide +kernel : ∀ t : Fin grid0.N, win0_3.index t = ![t.val / 4, t.val % 4])
theorem at4 : ∀ t : Fin cfg0.N, win0_4.index t = ![t.val / 4, 0] :=
  (by decide +kernel : ∀ t : Fin grid0.N, win0_4.index t = ![t.val / 4, 0])
theorem ltN (t : Fin cfg0.N) : t.val < 44 := lt_of_lt_of_eq t.isLt (show cfg0.N = 44 from N_0)

theorem pay1 (x : Vec Ideal S768x1024 .f32) (g : Vec Ideal S1x1024 .f32) (a : Fin 768) (k : Fin 1024) :
    k0_pay1 x g (ix2 a k) = x (ix2 a k) * rs (fun j => x (ix2 a j)) * g (ix2 0 k) := by
  unfold k0_pay1 rs ms
  pointwise

theorem pay2 (u : Vec Ideal S768x1024 .bf16) (w : Vec Ideal S1024x1408 .bf16) (a : Fin 768) (b : Fin 1408) :
    k0_pay2 u w (ix2 a b) = ∑ p : Fin 1024, u (ix2 a p) * w (ix2 p b) := by
  unfold k0_pay2
  pointwise

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5632]⟩ : Shape).Idx → EReal := m ((c : Thread nD τ).loc main_arg2)

/-- The rows under the padding. -/
def hp (A : (⟨2, ![8208, 1024]⟩ : Shape).Idx → EReal) (r : ℕ) (k : Fin 1024) : EReal :=
  if h : r < 240 ∨ 8448 ≤ r then 0 else A (ix2 ⟨r - 240, by omega⟩ k)

/-- The normalized rows. -/
def uF (A : (⟨2, ![8208, 1024]⟩ : Shape).Idx → EReal) (g : (⟨1, ![1024]⟩ : Shape).Idx → EReal) (r : ℕ) (k : Fin 1024) : EReal :=
  hp A r k * rs (hp A r) * g (ix1 k)

/-- Their product with the weight. -/
def yF (A : (⟨2, ![8208, 1024]⟩ : Shape).Idx → EReal) (g : (⟨1, ![1024]⟩ : Shape).Idx → EReal) (W : (⟨2, ![1024, 5632]⟩ : Shape).Idx → EReal) (r q : ℕ) : EReal :=
  ∑ p : Fin 1024, uF A g r p * W (ix2 p ⟨q % 5632, Nat.mod_lt _ (by decide)⟩)

theorem V_1 (r : Fin 8448) (p : Fin 1024) : (V m c main_v1 : (⟨2, ![8448, 1024]⟩ : Shape).Idx → EReal) (ix2 r p)
    = if h : (r : ℕ) < 240 then 0 else A0 m c (ix2 ⟨(r : ℕ) - 240, by omega⟩ p) := by
  refine Eq.trans (congrFun (show V m c main_v1 = (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0 : FVec Ideal S8448x1024 .f32) from ?_) _) (by pointwise)
  unfold V
  after_reads_simp
  rfl

theorem V_2 (k : Fin 1024) : (V m c main_v2 : (⟨2, ![1, 1024]⟩ : Shape).Idx → EReal) (ix2 0 k) = A1 m c (ix1 k) := by
  refine Eq.trans (congrFun (show V m c main_v2 = (shapeCast S1x1024 (m ((c : Thread nD τ).loc main_arg1)) shapeCasts_S1024_S1x1024 : FVec Ideal S1x1024 .f32) from ?_) _) (by pointwise)
  unfold V
  after_reads_simp
  rfl

theorem V_3 (r : Fin 1024) (p : Fin 5632) : (V m c main_v3 : (⟨2, ![1024, 5632]⟩ : Shape).Idx → EReal) (ix2 r p) = A2 m c (ix2 r p) := by
  refine Eq.trans (congrFun (show V m c main_v3 = truncf (F := Ideal) .bf16 (m ((c : Thread nD τ).loc main_arg2)) bitsLt_bf16_f32 from ?_) _) (by pointwise)
  unfold V
  after_reads_simp

theorem blk0 (t : Fin cfg0.N) (a : Fin 768) (b : Fin 1024) : iblk m c 0 t (ix2 a b) = hp (A0 m c) (768 * (t.val / 4) + (a : ℕ)) b := by
  have ht := ltN t
  have ha := a.isLt
  have h0 : 768 * (t.val / 4) + (a : ℕ) < 8448 := by omega
  have e : (win0_0.blk t).view.emb (ix2 a b) = ix2 ⟨768 * (t.val / 4) + (a : ℕ), h0⟩ b := by
    funext x
    apply Fin.ext
    fin_cases x
    all_goals (blk_simp [at0]; try simp; try omega)
  refine Eq.trans (b := (V m c main_v1 : (⟨2, ![8448, 1024]⟩ : Shape).Idx → EReal) (ix2 ⟨768 * (t.val / 4) + (a : ℕ), h0⟩ b)) ?_ ?_
  · blk_simp [iblk]
    rw [e]
  · rw [V_1]
    unfold hp
    by_cases h : 768 * (t.val / 4) + (a : ℕ) < 240
    · rw [dif_pos h, dif_pos (.inl h)]
    · rw [dif_neg h, dif_neg (by omega)]

theorem blk1 (t : Fin cfg0.N) (k : Fin 1024) : iblk m c 1 t (ix2 0 k) = A1 m c (ix1 k) := by
  have e : (win0_1.blk t).view.emb (ix2 0 k) = ix2 0 k := by
    funext x
    apply Fin.ext
    fin_cases x
    all_goals (blk_simp [at1]; try simp; try omega)
  refine Eq.trans (b := (V m c main_v2 : (⟨2, ![1, 1024]⟩ : Shape).Idx → EReal) (ix2 0 k)) ?_ (V_2 m c k)
  blk_simp [iblk]
  rw [e]

theorem blk2 (t : Fin cfg0.N) (a : Fin 1024) (b : Fin 1408) (h1 : 1408 * (t.val % 4) + (b : ℕ) < 5632) :
    iblk m c 2 t (ix2 a b) = A2 m c (ix2 a ⟨1408 * (t.val % 4) + (b : ℕ), h1⟩) := by
  have e : (win0_2.blk t).view.emb (ix2 a b) = ix2 a ⟨1408 * (t.val % 4) + (b : ℕ), h1⟩ := by
    funext x
    apply Fin.ext
    fin_cases x
    all_goals (blk_simp [at2]; try simp; try omega)
  refine Eq.trans (b := (V m c main_v3 : (⟨2, ![1024, 5632]⟩ : Shape).Idx → EReal) (ix2 a ⟨1408 * (t.val % 4) + (b : ℕ), h1⟩)) ?_ (V_3 m c _ _)
  blk_simp [iblk]
  rw [e]

theorem U_eq (t : Fin cfg0.N) (a : Fin 768) (k : Fin 1024) : U m c t (ix2 a k) = uF (A0 m c) (A1 m c) (768 * (t.val / 4) + (a : ℕ)) k := by
  unfold U
  refine (pay1 _ _ a k).trans ?_
  have e : (row t).val / 4 = t.val / 4 := by show 4 * (t.val / 4) / 4 = _; omega
  rw [show (fun j => iblk m c 0 (row t) (ix2 a j)) = hp (A0 m c) (768 * ((row t).val / 4) + (a : ℕ)) from funext fun j => blk0 m c (row t) a j,
    blk0 m c (row t) a k, blk1 m c (row t) k, e]
  rfl

def res3 : (⟨2, ![8448, 5632]⟩ : Shape).Idx → EReal := fun y => yF (A0 m c) (A1 m c) (A2 m c) (y 0) (y 1)
def res4 : (⟨2, ![8448, 1024]⟩ : Shape).Idx → EReal := fun y => uF (A0 m c) (A1 m c) (y 0) (y 1)

attribute [local irreducible] iblk k0_pay1 k0_pay2 U

theorem arr3 : (dats m 0 c).arrAt 3 cfg0.N = res3 m c := by
  refine (dats m 0 c).arrAt_eq_of_covers 3 _ (by decide +kernel) fun t hf y => ?_
  have ht := ltN t
  blk_simp [at3]
  rw [after0_3]
  obtain ⟨a, b, rfl⟩ : ∃ (a : Fin 768) (b : Fin 1408), y = ix2 a b := ⟨y 0, y 1, (by ext x; fin_cases x <;> rfl)⟩
  have ha := a.isLt
  have hb := b.isLt
  have h0 : 768 * (t.val / 4) + (a : ℕ) < 8448 := by omega
  have h1 : 1408 * (t.val % 4) + (b : ℕ) < 5632 := by omega
  have e : (win0_3.blk t).view.emb (ix2 a b) = ix2 ⟨768 * (t.val / 4) + (a : ℕ), h0⟩ ⟨1408 * (t.val % 4) + (b : ℕ), h1⟩ := by
    funext x
    apply Fin.ext
    fin_cases x
    all_goals (blk_simp [at3]; try simp; try omega)
  rw [e]
  refine (pay2 _ _ a b).trans ?_
  show _ = yF (A0 m c) (A1 m c) (A2 m c) (768 * (t.val / 4) + (a : ℕ)) (1408 * (t.val % 4) + (b : ℕ))
  unfold yF
  refine Finset.sum_congr rfl fun p _ => ?_
  rw [U_eq, blk2 m c t p b h1]
  simp only [Nat.mod_eq_of_lt h1]

theorem arr4 : (dats m 0 c).arrAt 4 cfg0.N = res4 m c := by
  refine (dats m 0 c).arrAt_eq_of_covers 4 _ (by decide +kernel) fun t hf y => ?_
  have ht := ltN t
  blk_simp [at4]
  rw [after0_4]
  obtain ⟨a, b, rfl⟩ : ∃ (a : Fin 768) (b : Fin 1024), y = ix2 a b := ⟨y 0, y 1, (by ext x; fin_cases x <;> rfl)⟩
  have ha := a.isLt
  have h0 : 768 * (t.val / 4) + (a : ℕ) < 8448 := by omega
  have e : (win0_4.blk t).view.emb (ix2 a b) = ix2 ⟨768 * (t.val / 4) + (a : ℕ), h0⟩ b := by
    funext x
    apply Fin.ext
    fin_cases x
    all_goals (blk_simp [at4]; try simp; try omega)
  rw [e]
  exact U_eq m c t a b

end Cert.FfnUpIdeal.Val

namespace Cert.FfnUpReferenceIdeal.Val

open Cert.FfnUpReferenceIdeal Cert.FfnUpReferenceIdeal.Gen Idealize.ShloMosaic Idealize.ShloMosaic.TcCoe Cert.NormMath

variable (A : FVec Ideal S8208x1024 .f32) (g : FVec Ideal S1024 .f32) (W : FVec Ideal S1024x5632 .f32)

open Cert.FfnUpIdeal.Val (hp uF yF)

theorem uF_eq (i : Fin 8448) (k : Fin 1024) : uF A g (i : ℕ) k
    = if h : (i : ℕ) < 240 then 0 else A (ix2 ⟨(i : ℕ) - 240, by omega⟩ k) * rs (fun j => A (ix2 ⟨(i : ℕ) - 240, by omega⟩ j)) * g (ix1 k) := by
  have hi := i.isLt
  by_cases h : (i : ℕ) < 240
  · rw [dif_pos h]
    unfold uF
    rw [show hp A (i : ℕ) k = 0 from dif_pos (.inl h), zero_mul, zero_mul]
  · rw [dif_neg h]
    have e : hp A (i : ℕ) = fun j => A (ix2 ⟨(i : ℕ) - 240, by omega⟩ j) := funext fun j => dif_neg (by omega)
    unfold uF
    rw [e]

theorem ref3 : (truncf .bf16 (concatenate S8448x5632 0 [⟨S240x5632, (broadcastInDim S240x5632 ![] bcast_S_S240x5632 (constant S_ .f32 0x00000000#32))⟩, ⟨S8208x5632, (Host.dotGeneral (φ₁ := .f32) (φ₂ := .f32) dot_S8208x1024_S1024x5632_S8208x5632_1_0_0_1_n_n none (mulf (mulf A (broadcastInDim S8208x1024 ![0, 1] bcast_S8208x1_S8208x1024_0_1 (Host.rsqrt (addf (Host.divf (broadcastInDim S8208x1 ![0] bcast_S8208_S8208x1_0 (Host.reduceAdd (mulf A A) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (broadcastInDim S8208x1024 ![0, 1] bcast_S1x1024_S8208x1024_0_1 (broadcastInDim S1x1024 ![1] bcast_S1024_S1x1024_1 g))) W)⟩] concatenates_S240x5632_S8208x5632_S8448x5632_d0) bitsLt_bf16_f32 : FVec Ideal S8448x5632 .bf16)
    = fun y => yF A g W (y 0) (y 1) := by
  funext y
  obtain ⟨i, j, rfl⟩ : ∃ (i : Fin 8448) (j : Fin 5632), y = ix2 i j := ⟨y 0, y 1, (by ext a; fin_cases a <;> rfl)⟩
  refine Eq.trans (b := if h : (i : ℕ) < 240 then 0 else ∑ p : Fin 1024, A (ix2 ⟨(i : ℕ) - 240, by omega⟩ p) * rs (fun j => A (ix2 ⟨(i : ℕ) - 240, by omega⟩ j)) * g (ix1 p) * W (ix2 p j)) ?_ ?_
  · unfold rs ms
    pointwise
    try simp only [Finset.univ_unique, Finset.sum_singleton]
  · show _ = yF A g W (i : ℕ) (j : ℕ)
    unfold yF
    simp only [uF_eq A g i, Nat.mod_eq_of_lt j.isLt]
    by_cases h : (i : ℕ) < 240
    · simp only [dif_pos h, zero_mul, Finset.sum_const_zero]
    · simp only [dif_neg h]

theorem ref4 : (truncf .bf16 (concatenate S8448x1024 0 [⟨S240x1024, (broadcastInDim S240x1024 ![] bcast_S_S240x1024 (constant S_ .f32 0x00000000#32))⟩, ⟨S8208x1024, (mulf (mulf A (broadcastInDim S8208x1024 ![0, 1] bcast_S8208x1_S8208x1024_0_1 (Host.rsqrt (addf (Host.divf (broadcastInDim S8208x1 ![0] bcast_S8208_S8208x1_0 (Host.reduceAdd (mulf A A) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (broadcastInDim S8208x1024 ![0, 1] bcast_S1x1024_S8208x1024_0_1 (broadcastInDim S1x1024 ![1] bcast_S1024_S1x1024_1 g)))⟩] concatenates_S240x1024_S8208x1024_S8448x1024_d0) bitsLt_bf16_f32 : FVec Ideal S8448x1024 .bf16)
    = fun y => uF A g (y 0) (y 1) := by
  funext y
  obtain ⟨i, j, rfl⟩ : ∃ (i : Fin 8448) (j : Fin 1024), y = ix2 i j := ⟨y 0, y 1, (by ext a; fin_cases a <;> rfl)⟩
  refine Eq.trans ?_ (uF_eq A g i j).symm
  unfold rs ms
  pointwise
  try simp only [Finset.univ_unique, Finset.sum_singleton]

end Cert.FfnUpReferenceIdeal.Val

namespace Cert.FfnUpEnd

open Idealize.ShloMosaic Idealize.SL.Sem Idealize.ShloMosaic.TcCoe

attribute [local instance] Cert.FfnUp.Gen.facts Cert.FfnUpIdeal.Gen.facts Cert.FfnUpReferenceIdeal.Gen.facts

/-- The two programs have the same body, -/
theorem body_same : @Cert.FfnUp.cc0_ffn_up Bits _ _ = @Cert.FfnUpIdeal.cc0_ffn_up Bits _ _ := by
  unfold Cert.FfnUp.cc0_ffn_up Cert.FfnUpIdeal.cc0_ffn_up
  rfl

/-- and so the same definitions. -/
theorem defs_same : @Cert.FfnUp.defs Bits _ _ = @Cert.FfnUpIdeal.defs Bits _ _ := by
  have e : @Cert.FfnUp.defs₀ Bits _ _ = @Cert.FfnUpIdeal.defs₀ Bits _ _ := by
    unfold Cert.FfnUp.defs₀ Cert.FfnUpIdeal.defs₀
    refine congrArg Defs.onTc ?_
    funext l a
    match l, a with
    | 0, (t, s) => rw [body_same]; rfl
  unfold Cert.FfnUp.defs Cert.FfnUpIdeal.defs
  rw [e]
  rfl

theorem frame_kernel : Cert.quiescent_FfnUp := by
  intro m ρ _
  rw [defs_same]
  exact Cert.FfnUpIdeal.Hand.frame (F := Bits) m ρ

theorem frame_ideal : Cert.quiescent_FfnUpIdeal := fun m ρ _ => Cert.FfnUpIdeal.Hand.frame m ρ

theorem frame_ref : Cert.quiescent_FfnUpReferenceIdeal := by
  intro m ρ _
  refine (θ_run Cert.FfnUpReferenceIdeal.defs _ _).mono (fun r h => ⟨fun c => ?_, sem_eq_zero_of_no_sems (by decide) r.2⟩)
    (Cert.FfnUpReferenceIdeal.Value.run (F := Ideal) m ρ)
  exact (h c).2.2

/-- Kernel and reference both end with the same two arrays. -/
theorem results : Cert.algebraic_FfnUpIdeal_FfnUpReferenceIdeal := by
  intro m g m' g' _ hagree
  refine ⟨fun c => Cert.FfnUpIdeal.Val.res3 m c, fun c => Cert.FfnUpIdeal.Val.res4 m c, ?_, ?_⟩
  · refine (θ_run Cert.FfnUpIdeal.defs _ _).mono (fun _ hr c => ?_) (Cert.FfnUpIdeal.Hand.run_blocks m g)
    exact ⟨(hr c).1.trans (Cert.FfnUpIdeal.Val.arr3 m c), (hr c).2.1.trans (Cert.FfnUpIdeal.Val.arr4 m c), (hr c).2.2⟩
  · refine (θ_run Cert.FfnUpReferenceIdeal.defs _ _).mono (fun _ hr c => ?_) (Cert.FfnUpReferenceIdeal.Value.run (F := Ideal) m' g')
    refine ⟨(hr c).1.trans ?_, (hr c).2.1.trans ?_, (hr c).2.2⟩
    · rw [(hagree c).1, (hagree c).2.1, (hagree c).2.2]
      exact Cert.FfnUpReferenceIdeal.Val.ref3 _ _ _
    · rw [(hagree c).1, (hagree c).2.1]
      exact Cert.FfnUpReferenceIdeal.Val.ref4 _ _

end Cert.FfnUpEnd

end
-- ==== Proof.SsdInRun.lean ====
module

public import proofs.«01_k».proof.Proof.Gen.SsdInIdeal
public import proofs.«01_k».proof.Proof.Gen.SsdInIdeal.Skeleton
public import proofs.«01_k».proof.Proof.Gen.SsdInIdeal.Frame
public import Idealize.ShloMosaic.Adequacy
public import Idealize.ShloMosaic.Init
public import Idealize.ShloMosaic.Lib.Pipeline.Value
public import Idealize.ShloMosaic.Lib.Pipeline.ValueKit
public import Idealize.ShloMosaic.Lib.Pipeline.TableIdle

/-! The run of `SsdIn`: the normalized rows are written at a row block's first column block and stay in their output block while the other column blocks use them. -/

@[expose] public section
set_option maxRecDepth 16384
noncomputable section

namespace Cert.SsdInIdeal.Hand

open Cert.SsdInIdeal Cert.SsdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2 : (![0, 0] : Fin 2 → ℕ) = fun _ => 0 := by funext a; fin_cases a <;> rfl

/-- At the first column block of a row block the body writes the normalized rows. -/
def cond (i : grid0.Coords) : Prop := k0_cond1 i = 1#1

theorem hcond : ∀ t : Fin cfg0.N, cond (grid0.coords t) ↔ t.val % 3 = 0 :=
  (fun t => by
    have ht : t.val < 33 := Nat.lt_of_lt_of_eq t.isLt N_0
    have e0 : (grid0.coords t 0).val = t.val / 3 % 11 := Pipeline.Grid.coords_val t 0 (by decide) rfl
    have e1 : (grid0.coords t 1).val = t.val / 1 % 3 := Pipeline.Grid.coords_val t 1 (by decide) rfl
    simp only [cond, k0_cond1, e0, e1]
    word_cmp
    : ∀ t : Fin grid0.N, cond (grid0.coords t) ↔ t.val % 3 = 0)

theorem idle_iff (t : Fin cfg0.N) : cfg0.idle 4 (grid0.coords t) = !decide (t.val % 3 = 0) := by
  have h := hcond t
  show (!(k0_cond1 (grid0.coords t) == 1#1)) = _
  by_cases h0 : t.val % 3 = 0
  · rw [show k0_cond1 (grid0.coords t) = 1#1 from h.mpr h0]; simp [h0]
  · have : k0_cond1 (grid0.coords t) ≠ 1#1 := fun e => h0 (h.mp e)
    simp [h0, this]

section Runs
variable (c : Dev nD) (i : grid0.Coords) (arg2 : Memref sig .tc .vmem S768x1024 .f32) (harg2 : arg2.IsWhole) (arg3 : Memref sig .tc .vmem S1x1024 .f32) (harg3 : arg3.IsWhole) (arg4 : Memref sig .tc .vmem S1024x1792 .bf16) (harg4 : arg4.IsWhole) (arg5 : Memref sig .tc .vmem S768x1792 .f32) (harg5 : arg5.IsWhole) (arg6 : Memref sig .tc .vmem S768x1024 .bf16) (harg6 : arg6.IsWhole)
  (x0 : Vec F S768x1024 .f32) (x1 : Vec F S1x1024 .f32) (x2 : Vec F S1024x1792 .bf16) (u : Vec F S768x1024 .bf16)

set_option maxHeartbeats 1000000 in
/-- At a first column block: the normalized rows and their product are written. -/
theorem run_A (hc0 : cond i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_ssd_in i arg2 harg2 arg3 harg3 arg4 harg4 arg5 harg5 arg6 harg6) K := by
  simp only [cc0_ssd_in_eq_skeleton]; unfold cc0_ssd_in_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (fun y => View.cover_of_tiledL _ S768x1792.size (by sl_kernel_rfl) y)]
    sl_unfold_words
    rw [View.canon_unit_zero (S := S768x1792) off2]
    simp only [View.readCov_unit_zero (S := S768x1024) _ off2, View.readAt_eq_ld, harg2.read_unread, harg3.read_unread, harg4.read_unread, View.ld_unit_zero (S := S768x1024) off2, View.ld_unit_zero (S := S1x1024) off2, View.ld_unit_zero (S := S1024x1792) off2]
  iexists _; isplitr; swap; · iexact H4
  ipureintro
  rw [View.read_writes_eq_canon _ _ _ (fun y => View.cover_of_tiledL _ S768x1024.size (by sl_kernel_rfl) y)]
  sl_unfold_words
  rw [View.canon_unit_zero (S := S768x1024) off2]
  simp only [View.readAt_eq_ld, harg2.read_unread, harg3.read_unread, View.ld_unit_zero (S := S768x1024) off2, View.ld_unit_zero (S := S1x1024) off2]

set_option maxHeartbeats 1000000 in
/-- At the other column blocks: the normalized rows are read from their output block, and the product is written. -/
theorem run_B (hc0 : ¬cond i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare u
        ∗ (iprop(owns (c : Thread nD τ) arg2 fullShare x0 ∗ owns (c : Thread nD τ) arg3 fullShare x1 ∗ owns (c : Thread nD τ) arg4 fullShare x2 ∗ owns (c : Thread nD τ) arg5 fullShare (k0_pay2 u x2) ∗ owns (c : Thread nD τ) arg6 fullShare u) -∗ K ⟨⟩))
      ⊢ wp frame (wpE (defs₀ (F := F)) Variants.none c none) E (cc0_ssd_in i arg2 harg2 arg3 harg3 arg4 harg4 arg5 harg5 arg6 harg6) K := by
  simp only [cc0_ssd_in_eq_skeleton]; unfold cc0_ssd_in_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_eq_canon _ _ _ (fun y => View.cover_of_tiledL _ S768x1792.size (by sl_kernel_rfl) y)]
    sl_unfold_words
    rw [View.canon_unit_zero (S := S768x1792) off2]
    simp only [View.readAt_eq_ld, harg6.read_unread, harg4.read_unread, View.ld_unit_zero (S := S768x1024) off2, View.ld_unit_zero (S := S1024x1792) off2]
  iexists _; isplitr; · ipureintro; exact harg6.read_unread _
  iexact H4
end Runs

/-- The first point of a row block. -/
def row (t : Fin cfg0.N) : Fin cfg0.N := ⟨3 * (t.val / 3), by have := t.isLt; omega⟩

theorem row_self (t : Fin cfg0.N) (h : t.val % 3 = 0) : row t = t := Fin.ext (by show 3 * (t.val / 3) = t.val; omega)
theorem row_pred (t : Fin cfg0.N) (h : ¬t.val % 3 = 0) : row t = row ⟨t.val - 1, by omega⟩ := Fin.ext (by show 3 * (t.val / 3) = 3 * ((t.val - 1) / 3); omega)

/-- The normalized rows of a row block. -/
def U (c : Dev nD) (t : Fin cfg0.N) : Vec F S768x1024 .bf16 := k0_pay1 (iblk m c 0 (row t)) (iblk m c 1 (row t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (U m c t) (iblk m c 2 t)
    | ⟨4, _⟩ => U m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (U m c t) (iblk m c 2 t) := by dsimp only [dats]
theorem after0_4 (c : Dev nD) (t : Fin cfg0.N) : (dats m 0 c).after 4 t = U m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [idle_iff] at hi
  have h : ¬t.val % 3 = 0 := by simpa using hi
  rw [after0_4, after0_4]
  unfold U
  rw [row_pred t h]

theorem not_fresh : ∀ t : Fin cfg0.N, ¬t.val % 3 = 0 → cfg0.fresh 4 t.val = false := by decide +kernel

/-- Past a row block's first column block, its output block holds the normalized rows. -/
theorem before0_4 (c : Dev nD) (t : Fin cfg0.N) (h : ¬t.val % 3 = 0) (d) : (dats m 0 c).before 4 t d = U m c t := by
  rw [Dat.before_out_traj _ 4 rfl (fun _ _ => rfl) (carry m c) t.val t rfl d, if_neg (by rw [not_fresh t h]; exact Bool.false_ne_true), after0_4]
  unfold U
  rw [row_pred t h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 3 = 0
  · rw [show (dats m 0 c).leavesExact 4 t = owns (c : Thread nD τ) (st0_4 t) fullShare ((dats m 0 c).after 4 t) from by
      unfold Dat.leavesExact; rw [show cfg0.idle 4 (cfg0.grid.coords t) = false from (idle_iff t).trans (by simp [h0])], after0_4]
    unfold U
    rw [row_self t h0]
    iintro ⟨HΦ, Ho, ⟨%d0, H0⟩, ⟨%d1, H1⟩, ⟨%d2, H2⟩, ⟨%d3, H3⟩, ⟨%d4, H4⟩⟩
    iapply (run_A c (grid0.coords t) _ _ _ _ _ _ _ _ _ _ (iblk m c 0 t) (iblk m c 1 t) (iblk m c 2 t) ((hcond t).mpr h0) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hi : cfg0.idle 4 (cfg0.grid.coords t) = true := (idle_iff t).trans (by simp [h0])
    simp only [before0_4 m c t h0]
    iintro ⟨HΦ, Ho, ⟨%d0, H0⟩, ⟨%d1, H1⟩, ⟨%d2, H2⟩, ⟨%d3, H3⟩, ⟨%d4, H4⟩⟩
    iapply (run_B c (grid0.coords t) _ _ _ _ _ _ _ _ _ _ (iblk m c 0 t) (iblk m c 1 t) (iblk m c 2 t) (U m c t) (fun h => h0 ((hcond t).mp h)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    by_cases hf : t.val % 3 = 2
    · rw [show (dats m 0 c).leavesExact 4 t = owns (c : Thread nD τ) (st0_4 t) fullShare ((dats m 0 c).after 4 t) from by
        unfold Dat.leavesExact; rw [hi, (flush0_4 t).mpr hf], after0_4]
      iexact H4
    · rw [Dat.leavesExact_idle (dats m 0 c) 4 t hi (by rw [← Bool.not_eq_true]; exact fun h => hf ((flush0_4 t).mp h))]
      iexists d4
      rw [before0_4 m c t h0]
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution ends, with the arrays the data above give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two result arrays, and the arguments as they were. -/
theorem run_blocks : θ_run defs (onTc (τ := τ) (main (F := F))) ⟨m, fun _ => 0, ρ⟩ (fun r => ∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3, (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.SsdInIdeal.Hand

end
-- ==== Proof.SsdIn.lean ====
module

public import proofs.«01_k».proof.Proof.SsdInRun
public import proofs.«01_k».proof.Proof.Gen.SsdIn
public import proofs.«01_k».proof.Proof.Gen.SsdInReferenceIdeal
public import proofs.«01_k».proof.Proof.Gen.SsdInReferenceIdeal.Run
public import proofs.«01_k».proof.Proof.NormMath
public import proofs.«01_k».proof.Defs
public import Idealize.ShloMosaic.Lib.Pointwise
public import Idealize.ShloMosaic.Lib.StableHlo.RunRead

/-! The row normalization and the product `SsdIn` of the normalized rows with a weight. -/

@[expose] public section
set_option maxRecDepth 65536
noncomputable section

namespace Cert.SsdInIdeal.Val

open Cert.SsdInIdeal Cert.SsdInIdeal.Gen Cert.SsdInIdeal.Hand Idealize.ShloMosaic Idealize.ShloMosaic.TcCoe Cert.RowSum Cert.NormMath

theorem at0 : ∀ t : Fin cfg0.N, win0_0.index t = ![t.val / 3, 0] :=
  (by decide +kernel : ∀ t : Fin grid0.N, win0_0.index t = ![t.val / 3, 0])
theorem at1 : ∀ t : Fin cfg0.N, win0_1.index t = ![0, 0] :=
  (by decide +kernel : ∀ t : Fin grid0.N, win0_1.index t = ![0, 0])
theorem at2 : ∀ t : Fin cfg0.N, win0_2.index t = ![0, t.val % 3] :=
  (by decide +kernel : ∀ t : Fin grid0.N, win0_2.index t = ![0, t.val % 3])
theorem at3 : ∀ t : Fin cfg0.N, win0_3.index t = ![t.val / 3, t.val % 3] :=
  (by decide +kernel : ∀ t : Fin grid0.N, win0_3.index t = ![t.val / 3, t.val % 3])
theorem at4 : ∀ t : Fin cfg0.N, win0_4.index t = ![t.val / 3, 0] :=
  (by decide +kernel : ∀ t : Fin grid0.N, win0_4.index t = ![t.val / 3, 0])
theorem ltN (t : Fin cfg0.N) : t.val < 33 := lt_of_lt_of_eq t.isLt (show cfg0.N = 33 from N_0)

theorem pay1 (x : Vec Ideal S768x1024 .f32) (g : Vec Ideal S1x1024 .f32) (a : Fin 768) (k : Fin 1024) :
    k0_pay1 x g (ix2 a k) = x (ix2 a k) * rs (fun j => x (ix2 a j)) * g (ix2 0 k) := by
  unfold k0_pay1 rs ms
  pointwise

theorem pay2 (u : Vec Ideal S768x1024 .bf16) (w : Vec Ideal S1024x1792 .bf16) (a : Fin 768) (b : Fin 1792) :
    k0_pay2 u w (ix2 a b) = ∑ p : Fin 1024, u (ix2 a p) * w (ix2 p b) := by
  unfold k0_pay2
  pointwise

variable (m : (ℓ : Loc nD τ sig) → Buf (Elt Ideal) ℓ) (c : Dev nD)

abbrev A0 : (⟨2, ![8208, 1024]⟩ : Shape).Idx → EReal := m ((c : Thread nD τ).loc main_arg0)
abbrev A1 : (⟨1, ![1024]⟩ : Shape).Idx → EReal := m ((c : Thread nD τ).loc main_arg1)
abbrev A2 : (⟨2, ![1024, 5376]⟩ : Shape).Idx → EReal := m ((c : Thread nD τ).loc main_arg2)

/-- The rows under the padding. -/
def hp (A : (⟨2, ![8208, 1024]⟩ : Shape).Idx → EReal) (r : ℕ) (k : Fin 1024) : EReal :=
  if h : r < 240 ∨ 8448 ≤ r then 0 else A (ix2 ⟨r - 240, by omega⟩ k)

/-- The normalized rows. -/
def uF (A : (⟨2, ![8208, 1024]⟩ : Shape).Idx → EReal) (g : (⟨1, ![1024]⟩ : Shape).Idx → EReal) (r : ℕ) (k : Fin 1024) : EReal :=
  hp A r k * rs (hp A r) * g (ix1 k)

/-- Their product with the weight. -/
def yF (A : (⟨2, ![8208, 1024]⟩ : Shape).Idx → EReal) (g : (⟨1, ![1024]⟩ : Shape).Idx → EReal) (W : (⟨2, ![1024, 5376]⟩ : Shape).Idx → EReal) (r q : ℕ) : EReal :=
  ∑ p : Fin 1024, uF A g r p * W (ix2 p ⟨q % 5376, Nat.mod_lt _ (by decide)⟩)

theorem V_1 (r : Fin 8448) (p : Fin 1024) : (V m c main_v1 : (⟨2, ![8448, 1024]⟩ : Shape).Idx → EReal) (ix2 r p)
    = if h : (r : ℕ) < 240 then 0 else A0 m c (ix2 ⟨(r : ℕ) - 240, by omega⟩ p) := by
  refine Eq.trans (congrFun (show V m c main_v1 = (concatenate S8448x1024 0 [⟨S240x1024, broadcastInDim S240x1024 ![] bcast_S_S240x1024 (constant S_ .f32 0x00000000#32)⟩, ⟨S8208x1024, m ((c : Thread nD τ).loc main_arg0)⟩] concatenates_S240x1024_S8208x1024_S8448x1024_d0 : FVec Ideal S8448x1024 .f32) from ?_) _) (by pointwise)
  unfold V
  after_reads_simp
  rfl

theorem V_2 (k : Fin 1024) : (V m c main_v2 : (⟨2, ![1, 1024]⟩ : Shape).Idx → EReal) (ix2 0 k) = A1 m c (ix1 k) := by
  refine Eq.trans (congrFun (show V m c main_v2 = (shapeCast S1x1024 (m ((c : Thread nD τ).loc main_arg1)) shapeCasts_S1024_S1x1024 : FVec Ideal S1x1024 .f32) from ?_) _) (by pointwise)
  unfold V
  after_reads_simp
  rfl

theorem V_3 (r : Fin 1024) (p : Fin 5376) : (V m c main_v3 : (⟨2, ![1024, 5376]⟩ : Shape).Idx → EReal) (ix2 r p) = A2 m c (ix2 r p) := by
  refine Eq.trans (congrFun (show V m c main_v3 = truncf (F := Ideal) .bf16 (m ((c : Thread nD τ).loc main_arg2)) bitsLt_bf16_f32 from ?_) _) (by pointwise)
  unfold V
  after_reads_simp

theorem blk0 (t : Fin cfg0.N) (a : Fin 768) (b : Fin 1024) : iblk m c 0 t (ix2 a b) = hp (A0 m c) (768 * (t.val / 3) + (a : ℕ)) b := by
  have ht := ltN t
  have ha := a.isLt
  have h0 : 768 * (t.val / 3) + (a : ℕ) < 8448 := by omega
  have e : (win0_0.blk t).view.emb (ix2 a b) = ix2 ⟨768 * (t.val / 3) + (a : ℕ), h0⟩ b := by
    funext x
    apply Fin.ext
    fin_cases x
    all_goals (blk_simp [at0]; try simp; try omega)
  refine Eq.trans (b := (V m c main_v1 : (⟨2, ![8448, 1024]⟩ : Shape).Idx → EReal) (ix2 ⟨768 * (t.val / 3) + (a : ℕ), h0⟩ b)) ?_ ?_
  · blk_simp [iblk]
    rw [e]
  · rw [V_1]
    unfold hp
    by_cases h : 768 * (t.val / 3) + (a : ℕ) < 240
    · rw [dif_pos h, dif_pos (.inl h)]
    · rw [dif_neg h, dif_neg (by omega)]

theorem blk1 (t : Fin cfg0.N) (k : Fin 1024) : iblk m c 1 t (ix2 0 k) = A1 m c (ix1 k) := by
  have e : (win0_1.blk t).view.emb (ix2 0 k) = ix2 0 k := by
    funext x
    apply Fin.ext
    fin_cases x
    all_goals (blk_simp [at1]; try simp; try omega)
  refine Eq.trans (b := (V m c main_v2 : (⟨2, ![1, 1024]⟩ : Shape).Idx → EReal) (ix2 0 k)) ?_ (V_2 m c k)
  blk_simp [iblk]
  rw [e]

theorem blk2 (t : Fin cfg0.N) (a : Fin 1024) (b : Fin 1792) (h1 : 1792 * (t.val % 3) + (b : ℕ) < 5376) :
    iblk m c 2 t (ix2 a b) = A2 m c (ix2 a ⟨1792 * (t.val % 3) + (b : ℕ), h1⟩) := by
  have e : (win0_2.blk t).view.emb (ix2 a b) = ix2 a ⟨1792 * (t.val % 3) + (b : ℕ), h1⟩ := by
    funext x
    apply Fin.ext
    fin_cases x
    all_goals (blk_simp [at2]; try simp; try omega)
  refine Eq.trans (b := (V m c main_v3 : (⟨2, ![1024, 5376]⟩ : Shape).Idx → EReal) (ix2 a ⟨1792 * (t.val % 3) + (b : ℕ), h1⟩)) ?_ (V_3 m c _ _)
  blk_simp [iblk]
  rw [e]

theorem U_eq (t : Fin cfg0.N) (a : Fin 768) (k : Fin 1024) : U m c t (ix2 a k) = uF (A0 m c) (A1 m c) (768 * (t.val / 3) + (a : ℕ)) k := by
  unfold U
  refine (pay1 _ _ a k).trans ?_
  have e : (row t).val / 3 = t.val / 3 := by show 3 * (t.val / 3) / 3 = _; omega
  rw [show (fun j => iblk m c 0 (row t) (ix2 a j)) = hp (A0 m c) (768 * ((row t).val / 3) + (a : ℕ)) from funext fun j => blk0 m c (row t) a j,
    blk0 m c (row t) a k, blk1 m c (row t) k, e]
  rfl

def res3 : (⟨2, ![8448, 5376]⟩ : Shape).Idx → EReal := fun y => yF (A0 m c) (A1 m c) (A2 m c) (y 0) (y 1)
def res4 : (⟨2, ![8448, 1024]⟩ : Shape).Idx → EReal := fun y => uF (A0 m c) (A1 m c) (y 0) (y 1)

attribute [local irreducible] iblk k0_pay1 k0_pay2 U

theorem arr3 : (dats m 0 c).arrAt 3 cfg0.N = res3 m c := by
  refine (dats m 0 c).arrAt_eq_of_covers 3 _ (by decide +kernel) fun t hf y => ?_
  have ht := ltN t
  blk_simp [at3]
  rw [after0_3]
  obtain ⟨a, b, rfl⟩ : ∃ (a : Fin 768) (b : Fin 1792), y = ix2 a b := ⟨y 0, y 1, (by ext x; fin_cases x <;> rfl)⟩
  have ha := a.isLt
  have hb := b.isLt
  have h0 : 768 * (t.val / 3) + (a : ℕ) < 8448 := by omega
  have h1 : 1792 * (t.val % 3) + (b : ℕ) < 5376 := by omega
  have e : (win0_3.blk t).view.emb (ix2 a b) = ix2 ⟨768 * (t.val / 3) + (a : ℕ), h0⟩ ⟨1792 * (t.val % 3) + (b : ℕ), h1⟩ := by
    funext x
    apply Fin.ext
    fin_cases x
    all_goals (blk_simp [at3]; try simp; try omega)
  rw [e]
  refine (pay2 _ _ a b).trans ?_
  show _ = yF (A0 m c) (A1 m c) (A2 m c) (768 * (t.val / 3) + (a : ℕ)) (1792 * (t.val % 3) + (b : ℕ))
  unfold yF
  refine Finset.sum_congr rfl fun p _ => ?_
  rw [U_eq, blk2 m c t p b h1]
  simp only [Nat.mod_eq_of_lt h1]

theorem arr4 : (dats m 0 c).arrAt 4 cfg0.N = res4 m c := by
  refine (dats m 0 c).arrAt_eq_of_covers 4 _ (by decide +kernel) fun t hf y => ?_
  have ht := ltN t
  blk_simp [at4]
  rw [after0_4]
  obtain ⟨a, b, rfl⟩ : ∃ (a : Fin 768) (b : Fin 1024), y = ix2 a b := ⟨y 0, y 1, (by ext x; fin_cases x <;> rfl)⟩
  have ha := a.isLt
  have h0 : 768 * (t.val / 3) + (a : ℕ) < 8448 := by omega
  have e : (win0_4.blk t).view.emb (ix2 a b) = ix2 ⟨768 * (t.val / 3) + (a : ℕ), h0⟩ b := by
    funext x
    apply Fin.ext
    fin_cases x
    all_goals (blk_simp [at4]; try simp; try omega)
  rw [e]
  exact U_eq m c t a b

end Cert.SsdInIdeal.Val

namespace Cert.SsdInReferenceIdeal.Val

open Cert.SsdInReferenceIdeal Cert.SsdInReferenceIdeal.Gen Idealize.ShloMosaic Idealize.ShloMosaic.TcCoe Cert.NormMath

variable (A : FVec Ideal S8208x1024 .f32) (g : FVec Ideal S1024 .f32) (W : FVec Ideal S1024x5376 .f32)

open Cert.SsdInIdeal.Val (hp uF yF)

theorem uF_eq (i : Fin 8448) (k : Fin 1024) : uF A g (i : ℕ) k
    = if h : (i : ℕ) < 240 then 0 else A (ix2 ⟨(i : ℕ) - 240, by omega⟩ k) * rs (fun j => A (ix2 ⟨(i : ℕ) - 240, by omega⟩ j)) * g (ix1 k) := by
  have hi := i.isLt
  by_cases h : (i : ℕ) < 240
  · rw [dif_pos h]
    unfold uF
    rw [show hp A (i : ℕ) k = 0 from dif_pos (.inl h), zero_mul, zero_mul]
  · rw [dif_neg h]
    have e : hp A (i : ℕ) = fun j => A (ix2 ⟨(i : ℕ) - 240, by omega⟩ j) := funext fun j => dif_neg (by omega)
    unfold uF
    rw [e]

theorem ref3 : (concatenate S8448x5376 0 [⟨S240x5376, (broadcastInDim S240x5376 ![] bcast_S_S240x5376 (constant S_ .f32 0x00000000#32))⟩, ⟨S8208x5376, (Host.dotGeneral (φ₁ := .f32) (φ₂ := .f32) dot_S8208x1024_S1024x5376_S8208x5376_1_0_0_1_n_n none (mulf (mulf A (broadcastInDim S8208x1024 ![0, 1] bcast_S8208x1_S8208x1024_0_1 (Host.rsqrt (addf (Host.divf (broadcastInDim S8208x1 ![0] bcast_S8208_S8208x1_0 (Host.reduceAdd (mulf A A) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (broadcastInDim S8208x1024 ![0, 1] bcast_S1x1024_S8208x1024_0_1 (broadcastInDim S1x1024 ![1] bcast_S1024_S1x1024_1 g))) W)⟩] concatenates_S240x5376_S8208x5376_S8448x5376_d0 : FVec Ideal S8448x5376 .f32)
    = fun y => yF A g W (y 0) (y 1) := by
  funext y
  obtain ⟨i, j, rfl⟩ : ∃ (i : Fin 8448) (j : Fin 5376), y = ix2 i j := ⟨y 0, y 1, (by ext a; fin_cases a <;> rfl)⟩
  refine Eq.trans (b := if h : (i : ℕ) < 240 then 0 else ∑ p : Fin 1024, A (ix2 ⟨(i : ℕ) - 240, by omega⟩ p) * rs (fun j => A (ix2 ⟨(i : ℕ) - 240, by omega⟩ j)) * g (ix1 p) * W (ix2 p j)) ?_ ?_
  · unfold rs ms
    pointwise
    try simp only [Finset.univ_unique, Finset.sum_singleton]
  · show _ = yF A g W (i : ℕ) (j : ℕ)
    unfold yF
    simp only [uF_eq A g i, Nat.mod_eq_of_lt j.isLt]
    by_cases h : (i : ℕ) < 240
    · simp only [dif_pos h, zero_mul, Finset.sum_const_zero]
    · simp only [dif_neg h]

theorem ref4 : (truncf .bf16 (concatenate S8448x1024 0 [⟨S240x1024, (broadcastInDim S240x1024 ![] bcast_S_S240x1024 (constant S_ .f32 0x00000000#32))⟩, ⟨S8208x1024, (mulf (mulf A (broadcastInDim S8208x1024 ![0, 1] bcast_S8208x1_S8208x1024_0_1 (Host.rsqrt (addf (Host.divf (broadcastInDim S8208x1 ![0] bcast_S8208_S8208x1_0 (Host.reduceAdd (mulf A A) (constant S_ .f32 0x00000000#32) reducesTo_S8208x1024_S8208_d1 h_S_)) (broadcastInDim S8208x1 ![] bcast_S_S8208x1 (constant S_ .f32 0x44800000#32))) (broadcastInDim S8208x1 ![] bcast_S_S8208x1 (constant S_ .f32 0x358637BD#32)))))) (broadcastInDim S8208x1024 ![0, 1] bcast_S1x1024_S8208x1024_0_1 (broadcastInDim S1x1024 ![1] bcast_S1024_S1x1024_1 g)))⟩] concatenates_S240x1024_S8208x1024_S8448x1024_d0) bitsLt_bf16_f32 : FVec Ideal S8448x1024 .bf16)
    = fun y => uF A g (y 0) (y 1) := by
  funext y
  obtain ⟨i, j, rfl⟩ : ∃ (i : Fin 8448) (j : Fin 1024), y = ix2 i j := ⟨y 0, y 1, (by ext a; fin_cases a <;> rfl)⟩
  refine Eq.trans ?_ (uF_eq A g i j).symm
  unfold rs ms
  pointwise
  try simp only [Finset.univ_unique, Finset.sum_singleton]

end Cert.SsdInReferenceIdeal.Val

namespace Cert.SsdInEnd

open Idealize.ShloMosaic Idealize.SL.Sem Idealize.ShloMosaic.TcCoe

attribute [local instance] Cert.SsdIn.Gen.facts Cert.SsdInIdeal.Gen.facts Cert.SsdInReferenceIdeal.Gen.facts

/-- The two programs have the same body, -/
theorem body_same : @Cert.SsdIn.cc0_ssd_in Bits _ _ = @Cert.SsdInIdeal.cc0_ssd_in Bits _ _ := by
  unfold Cert.SsdIn.cc0_ssd_in Cert.SsdInIdeal.cc0_ssd_in
  rfl

/-- and so the same definitions. -/
theorem defs_same : @Cert.SsdIn.defs Bits _ _ = @Cert.SsdInIdeal.defs Bits _ _ := by
  have e : @Cert.SsdIn.defs₀ Bits _ _ = @Cert.SsdInIdeal.defs₀ Bits _ _ := by
    unfold Cert.SsdIn.defs₀ Cert.SsdInIdeal.defs₀
    refine congrArg Defs.onTc ?_
    funext l a
    match l, a with
    | 0, (t, s) => rw [body_same]; rfl
  unfold Cert.SsdIn.defs Cert.SsdInIdeal.defs
  rw [e]
  rfl

theorem frame_kernel : Cert.quiescent_SsdIn := by
  intro m ρ _
  rw [defs_same]
  exact Cert.SsdInIdeal.Hand.frame (F := Bits) m ρ

theorem frame_ideal : Cert.quiescent_SsdInIdeal := fun m ρ _ => Cert.SsdInIdeal.Hand.frame m ρ

theorem frame_ref : Cert.quiescent_SsdInReferenceIdeal := by
  intro m ρ _
  refine (θ_run Cert.SsdInReferenceIdeal.defs _ _).mono (fun r h => ⟨fun c => ?_, sem_eq_zero_of_no_sems (by decide) r.2⟩)
    (Cert.SsdInReferenceIdeal.Value.run (F := Ideal) m ρ)
  exact (h c).2.2

/-- Kernel and reference both end with the same two arrays. -/
theorem results : Cert.algebraic_SsdInIdeal_SsdInReferenceIdeal := by
  intro m g m' g' _ hagree
  refine ⟨fun c => Cert.SsdInIdeal.Val.res3 m c, fun c => Cert.SsdInIdeal.Val.res4 m c, ?_, ?_⟩
  · refine (θ_run Cert.SsdInIdeal.defs _ _).mono (fun _ hr c => ?_) (Cert.SsdInIdeal.Hand.run_blocks m g)
    exact ⟨(hr c).1.trans (Cert.SsdInIdeal.Val.arr3 m c), (hr c).2.1.trans (Cert.SsdInIdeal.Val.arr4 m c), (hr c).2.2⟩
  · refine (θ_run Cert.SsdInReferenceIdeal.defs _ _).mono (fun _ hr c => ?_) (Cert.SsdInReferenceIdeal.Value.run (F := Ideal) m' g')
    refine ⟨(hr c).1.trans ?_, (hr c).2.1.trans ?_, (hr c).2.2⟩
    · rw [(hagree c).1, (hagree c).2.1, (hagree c).2.2]
      exact Cert.SsdInReferenceIdeal.Val.ref3 _ _ _
    · rw [(hagree c).1, (hagree c).2.1]
      exact Cert.SsdInReferenceIdeal.Val.ref4 _ _

end Cert.SsdInEnd

end
-- ==== Proof.lean ====
/-
  The proof of `Cert.Claim`: the kernel runs, its idealization runs and the reference runs, each leaving its arguments
  unchanged; the idealization is the kernel's own text; and from finite arguments the idealization's seven gradient
  arrays are the reference's. The same of five products of the step, of which the arguments need not be finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.GridOut
public import proofs.«01_k».proof.Proof.RefEnd
public import proofs.«01_k».proof.Proof.Finite
public import proofs.«01_k».proof.Proof.DwUp
public import proofs.«01_k».proof.Proof.DwDown
public import proofs.«01_k».proof.Proof.DwIn
public import proofs.«01_k».proof.Proof.DAct
public import proofs.«01_k».proof.Proof.FfnDown
public import proofs.«01_k».proof.Proof.FfnDh
public import proofs.«01_k».proof.Proof.SsdDh
public import proofs.«01_k».proof.Proof.FfnUp
public import proofs.«01_k».proof.Proof.SsdIn
public import Idealize.ShloMosaic.Adequacy
public import Idealize.ShloMosaic.Init

@[expose] public section

noncomputable section

namespace Cert.Proof

open Idealize.ShloMosaic Idealize.SL.Sem Idealize.ShloMosaic.TcCoe Cert.End

attribute [local instance] Cert.Finite.facts

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_ref : Cert.quiescent_ReferenceIdeal := by
  intro m ρ _
  refine (θ_run Cert.ReferenceIdeal.defs _ _).mono (fun r h => ⟨fun c => ?_, sem_eq_zero_of_no_sems (by decide) r.2⟩)
    (Cert.ReferenceIdeal.Value.run (F := Ideal) m ρ)
  obtain ⟨_, _, _, _, _, _, _, ha⟩ := h c
  exact ha

theorem frame_ref_finite : Cert.quiescent_ReferenceIdeal_pre_finite := fun m ρ _ => frame_ref m ρ trivial

/-- The results agree: both are the same functions of the reals the arguments are. -/
theorem results : Cert.algebraic_KernelIdeal_ReferenceIdeal_pre_finite := by
  intro m g m' g' hp hagree
  have hk := fun c => Cert.Finite.reals m hp c
  refine ⟨fun c => G0 (Cert.Finite.sqOf (Cert.KernelIdeal.Host.argsOf m c)), fun c => G1 (Cert.Finite.sqOf (Cert.KernelIdeal.Host.argsOf m c)),
    fun c => G2 (Cert.Finite.sqOf (Cert.KernelIdeal.Host.argsOf m c)), fun c => G3 (Cert.Finite.sqOf (Cert.KernelIdeal.Host.argsOf m c)),
    fun c => G4 (Cert.Finite.sqOf (Cert.KernelIdeal.Host.argsOf m c)), fun c => G5 (Cert.Finite.sqOf (Cert.KernelIdeal.Host.argsOf m c)),
    fun c => G6 (Cert.Finite.sqOf (Cert.KernelIdeal.Host.argsOf m c)), ?_, ?_⟩
  · refine (θ_run Cert.KernelIdeal.defs _ _).mono (fun _ hr c => ?_) (Cert.KernelIdeal.Value.run_blocks m g)
    obtain ⟨r0, r1, r2, r3, r4, r5, r6, ra⟩ := hr c
    exact ⟨r0.trans (Cert.KernelIdeal.Grid.arr_10 m c _ (hk c)), r1.trans (Cert.KernelIdeal.Grid.arr_11 m c _ (hk c)),
      r2.trans (Cert.KernelIdeal.Grid.arr_12 m c _ (hk c)), r3.trans (Cert.KernelIdeal.Grid.arr_13 m c _ (hk c)),
      r4.trans (Cert.KernelIdeal.Grid.arr_14 m c _ (hk c)), r5.trans (Cert.KernelIdeal.Grid.arr_15 m c _ (hk c)),
      r6.trans (Cert.KernelIdeal.Grid.arr_16 m c _ (hk c)), ra⟩
  · refine run_ref m' g' (fun c => Cert.Finite.sqOf (Cert.KernelIdeal.Host.argsOf m c)) (fun c => ?_)
    obtain ⟨a0, a1, a2, a3, a4, a5, a6, a7⟩ := hagree c
    exact Cert.Finite.reals_ref _ _ (hk c) _ a0 a1 a2 a3 a4 a5 a6 a7

theorem claim : Cert.Claim :=
  ⟨Cert.Kernel.Gen.facts, Cert.KernelIdeal.Gen.facts, Cert.ReferenceIdeal.Gen.facts,
    Cert.DwUp.Gen.facts, Cert.DwUpIdeal.Gen.facts, Cert.DwUpReferenceIdeal.Gen.facts,
    Cert.DwDown.Gen.facts, Cert.DwDownIdeal.Gen.facts, Cert.DwDownReferenceIdeal.Gen.facts,
    Cert.DwIn.Gen.facts, Cert.DwInIdeal.Gen.facts, Cert.DwInReferenceIdeal.Gen.facts,
    Cert.DAct.Gen.facts, Cert.DActIdeal.Gen.facts, Cert.DActReferenceIdeal.Gen.facts,
    Cert.FfnDown.Gen.facts, Cert.FfnDownIdeal.Gen.facts, Cert.FfnDownReferenceIdeal.Gen.facts,
    Cert.FfnDh.Gen.facts, Cert.FfnDhIdeal.Gen.facts, Cert.FfnDhReferenceIdeal.Gen.facts,
    Cert.SsdDh.Gen.facts, Cert.SsdDhIdeal.Gen.facts, Cert.SsdDhReferenceIdeal.Gen.facts,
    Cert.FfnUp.Gen.facts, Cert.FfnUpIdeal.Gen.facts, Cert.FfnUpReferenceIdeal.Gen.facts,
    Cert.SsdIn.Gen.facts, Cert.SsdInIdeal.Gen.facts, Cert.SsdInReferenceIdeal.Gen.facts,
    Cert.Finite.facts,
    frame_kernel, frame_ideal, frame_ideal_finite, frame_ref, frame_ref_finite,
    Cert.DwUpEnd.frame_kernel, Cert.DwUpEnd.frame_ideal, Cert.DwUpEnd.frame_ref,
    Cert.DwDownEnd.frame_kernel, Cert.DwDownEnd.frame_ideal, Cert.DwDownEnd.frame_ref,
    Cert.DwInEnd.frame_kernel, Cert.DwInEnd.frame_ideal, Cert.DwInEnd.frame_ref,
    Cert.DActEnd.frame_kernel, Cert.DActEnd.frame_ideal, Cert.DActEnd.frame_ref,
    Cert.FfnDownEnd.frame_kernel, Cert.FfnDownEnd.frame_ideal, Cert.FfnDownEnd.frame_ref,
    Cert.FfnDhEnd.frame_kernel, Cert.FfnDhEnd.frame_ideal, Cert.FfnDhEnd.frame_ref,
    Cert.SsdDhEnd.frame_kernel, Cert.SsdDhEnd.frame_ideal, Cert.SsdDhEnd.frame_ref,
    Cert.FfnUpEnd.frame_kernel, Cert.FfnUpEnd.frame_ideal, Cert.FfnUpEnd.frame_ref,
    Cert.SsdInEnd.frame_kernel, Cert.SsdInEnd.frame_ideal, Cert.SsdInEnd.frame_ref,
    trivial, results, trivial, Cert.DwUpEnd.results, trivial, Cert.DwDownEnd.results, trivial, Cert.DwInEnd.results, trivial, Cert.DActEnd.results, trivial, Cert.FfnDownEnd.results,
    trivial, Cert.FfnDhEnd.results, trivial, Cert.SsdDhEnd.results, trivial, Cert.FfnUpEnd.results, trivial, Cert.SsdInEnd.results⟩

end Cert.Proof

end
